-- ==== Defs.lean ====
def Pre_KNorm (m : (ℓ : Loc Cert.KNorm.nD Cert.KNorm.τ Cert.KNorm.sig) → Buf (Elt Bits) ℓ) : Prop :=
  True

def Pre_KNormIdeal (m : (ℓ : Loc Cert.KNormIdeal.nD Cert.KNormIdeal.τ Cert.KNormIdeal.sig) → Buf (Elt Ideal) ℓ) : Prop :=
  True

def Pre_KNormIdeal_norm_finite [hPre_norm_finite : Cert.Pre_norm_finite.Facts] (m : (ℓ : Loc Cert.KNormIdeal.nD Cert.KNormIdeal.τ Cert.KNormIdeal.sig) → Buf (Elt Ideal) ℓ) : Prop :=
  ∀ c : Dev Cert.KNormIdeal.nD,
    (Cert.Pre_norm_finite.fn (F := Ideal) (m ((c.tc : Thread Cert.KNormIdeal.nD Cert.KNormIdeal.τ).loc Cert.KNormIdeal.main_arg0)) (m ((c.tc : Thread Cert.KNormIdeal.nD Cert.KNormIdeal.τ).loc Cert.KNormIdeal.main_arg1)) (m ((c.tc : Thread Cert.KNormIdeal.nD Cert.KNormIdeal.τ).loc Cert.KNormIdeal.main_arg2))).1 = (fun _ => 1#1)
    ∧ (Cert.Pre_norm_finite.fn (F := Ideal) (m ((c.tc : Thread Cert.KNormIdeal.nD Cert.KNormIdeal.τ).loc Cert.KNormIdeal.main_arg0)) (m ((c.tc : Thread Cert.KNormIdeal.nD Cert.KNormIdeal.τ).loc Cert.KNormIdeal.main_arg1)) (m ((c.tc : Thread Cert.KNormIdeal.nD Cert.KNormIdeal.τ).loc Cert.KNormIdeal.main_arg2))).2 = (fun _ => 1#1)

def Pre_RNormIdeal (m : (ℓ : Loc Cert.RNormIdeal.nD Cert.RNormIdeal.τ Cert.RNormIdeal.sig) → Buf (Elt Ideal) ℓ) : Prop :=
  True

def Pre_RNormIdeal_norm_finite [hPre_norm_finite : Cert.Pre_norm_finite.Facts] (m : (ℓ : Loc Cert.RNormIdeal.nD Cert.RNormIdeal.τ Cert.RNormIdeal.sig) → Buf (Elt Ideal) ℓ) : Prop :=
  ∀ c : Dev Cert.RNormIdeal.nD,
    (Cert.Pre_norm_finite.fn (F := Ideal) (m ((c.tc : Thread Cert.RNormIdeal.nD Cert.RNormIdeal.τ).loc Cert.RNormIdeal.main_arg0)) (m ((c.tc : Thread Cert.RNormIdeal.nD Cert.RNormIdeal.τ).loc Cert.RNormIdeal.main_arg1)) (m ((c.tc : Thread Cert.RNormIdeal.nD Cert.RNormIdeal.τ).loc Cert.RNormIdeal.main_arg2))).1 = (fun _ => 1#1)
    ∧ (Cert.Pre_norm_finite.fn (F := Ideal) (m ((c.tc : Thread Cert.RNormIdeal.nD Cert.RNormIdeal.τ).loc Cert.RNormIdeal.main_arg0)) (m ((c.tc : Thread Cert.RNormIdeal.nD Cert.RNormIdeal.τ).loc Cert.RNormIdeal.main_arg1)) (m ((c.tc : Thread Cert.RNormIdeal.nD Cert.RNormIdeal.τ).loc Cert.RNormIdeal.main_arg2))).2 = (fun _ => 1#1)

def Pre_KQk (m : (ℓ : Loc Cert.KQk.nD Cert.KQk.τ Cert.KQk.sig) → Buf (Elt Bits) ℓ) : Prop :=
  True

def Pre_KQkIdeal (m : (ℓ : Loc Cert.KQkIdeal.nD Cert.KQkIdeal.τ Cert.KQkIdeal.sig) → Buf (Elt Ideal) ℓ) : Prop :=
  True

def Pre_KQkIdeal_weights_finite [hPre_weights_finite : Cert.Pre_weights_finite.Facts] (m : (ℓ : Loc Cert.KQkIdeal.nD Cert.KQkIdeal.τ Cert.KQkIdeal.sig) → Buf (Elt Ideal) ℓ) : Prop :=
  ∀ c : Dev Cert.KQkIdeal.nD,
    (Cert.Pre_weights_finite.fn (F := Ideal) (m ((c.tc : Thread Cert.KQkIdeal.nD Cert.KQkIdeal.τ).loc Cert.KQkIdeal.main_arg0)) (m ((c.tc : Thread Cert.KQkIdeal.nD Cert.KQkIdeal.τ).loc Cert.KQkIdeal.main_arg1)) (m ((c.tc : Thread Cert.KQkIdeal.nD Cert.KQkIdeal.τ).loc Cert.KQkIdeal.main_arg2))).1 = (fun _ => 1#1)
    ∧ (Cert.Pre_weights_finite.fn (F := Ideal) (m ((c.tc : Thread Cert.KQkIdeal.nD Cert.KQkIdeal.τ).loc Cert.KQkIdeal.main_arg0)) (m ((c.tc : Thread Cert.KQkIdeal.nD Cert.KQkIdeal.τ).loc Cert.KQkIdeal.main_arg1)) (m ((c.tc : Thread Cert.KQkIdeal.nD Cert.KQkIdeal.τ).loc Cert.KQkIdeal.main_arg2))).2 = (fun _ => 1#1)

def Pre_RQkIdeal (m : (ℓ : Loc Cert.RQkIdeal.nD Cert.RQkIdeal.τ Cert.RQkIdeal.sig) → Buf (Elt Ideal) ℓ) : Prop :=
  True

def Pre_RQkIdeal_weights_finite [hPre_weights_finite : Cert.Pre_weights_finite.Facts] (m : (ℓ : Loc Cert.RQkIdeal.nD Cert.RQkIdeal.τ Cert.RQkIdeal.sig) → Buf (Elt Ideal) ℓ) : Prop :=
  ∀ c : Dev Cert.RQkIdeal.nD,
    (Cert.Pre_weights_finite.fn (F := Ideal) (m ((c.tc : Thread Cert.RQkIdeal.nD Cert.RQkIdeal.τ).loc Cert.RQkIdeal.main_arg0)) (m ((c.tc : Thread Cert.RQkIdeal.nD Cert.RQkIdeal.τ).loc Cert.RQkIdeal.main_arg1)) (m ((c.tc : Thread Cert.RQkIdeal.nD Cert.RQkIdeal.τ).loc Cert.RQkIdeal.main_arg2))).1 = (fun _ => 1#1)
    ∧ (Cert.Pre_weights_finite.fn (F := Ideal) (m ((c.tc : Thread Cert.RQkIdeal.nD Cert.RQkIdeal.τ).loc Cert.RQkIdeal.main_arg0)) (m ((c.tc : Thread Cert.RQkIdeal.nD Cert.RQkIdeal.τ).loc Cert.RQkIdeal.main_arg1)) (m ((c.tc : Thread Cert.RQkIdeal.nD Cert.RQkIdeal.τ).loc Cert.RQkIdeal.main_arg2))).2 = (fun _ => 1#1)

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KMix (m : (ℓ : Loc Cert.KMix.nD Cert.KMix.τ Cert.KMix.sig) → Buf (Elt Bits) ℓ) : Prop :=
  True

def Pre_KMixIdeal (m : (ℓ : Loc Cert.KMixIdeal.nD Cert.KMixIdeal.τ Cert.KMixIdeal.sig) → Buf (Elt Ideal) ℓ) : Prop :=
  True

def Pre_RMixIdeal (m : (ℓ : Loc Cert.RMixIdeal.nD Cert.RMixIdeal.τ Cert.RMixIdeal.sig) → Buf (Elt Ideal) ℓ) : Prop :=
  True

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_KUpIdeal_up_finite [hPre_up_finite : Cert.Pre_up_finite.Facts] (m : (ℓ : Loc Cert.KUpIdeal.nD Cert.KUpIdeal.τ Cert.KUpIdeal.sig) → Buf (Elt Ideal) ℓ) : Prop :=
  ∀ c : Dev Cert.KUpIdeal.nD,
    (Cert.Pre_up_finite.fn (F := Ideal) (m ((c.tc : Thread Cert.KUpIdeal.nD Cert.KUpIdeal.τ).loc Cert.KUpIdeal.main_arg0)) (m ((c.tc : Thread Cert.KUpIdeal.nD Cert.KUpIdeal.τ).loc Cert.KUpIdeal.main_arg1)) (m ((c.tc : Thread Cert.KUpIdeal.nD Cert.KUpIdeal.τ).loc Cert.KUpIdeal.main_arg2)) (m ((c.tc : Thread Cert.KUpIdeal.nD Cert.KUpIdeal.τ).loc Cert.KUpIdeal.main_arg3))).1 = (fun _ => 1#1)
    ∧ (Cert.Pre_up_finite.fn (F := Ideal) (m ((c.tc : Thread Cert.KUpIdeal.nD Cert.KUpIdeal.τ).loc Cert.KUpIdeal.main_arg0)) (m ((c.tc : Thread Cert.KUpIdeal.nD Cert.KUpIdeal.τ).loc Cert.KUpIdeal.main_arg1)) (m ((c.tc : Thread Cert.KUpIdeal.nD Cert.KUpIdeal.τ).loc Cert.KUpIdeal.main_arg2)) (m ((c.tc : Thread Cert.KUpIdeal.nD Cert.KUpIdeal.τ).loc Cert.KUpIdeal.main_arg3))).2.1 = (fun _ => 1#1)
    ∧ (Cert.Pre_up_finite.fn (F := Ideal) (m ((c.tc : Thread Cert.KUpIdeal.nD Cert.KUpIdeal.τ).loc Cert.KUpIdeal.main_arg0)) (m ((c.tc : Thread Cert.KUpIdeal.nD Cert.KUpIdeal.τ).loc Cert.KUpIdeal.main_arg1)) (m ((c.tc : Thread Cert.KUpIdeal.nD Cert.KUpIdeal.τ).loc Cert.KUpIdeal.main_arg2)) (m ((c.tc : Thread Cert.KUpIdeal.nD Cert.KUpIdeal.τ).loc Cert.KUpIdeal.main_arg3))).2.2.1 = (fun _ => 1#1)
    ∧ (Cert.Pre_up_finite.fn (F := Ideal) (m ((c.tc : Thread Cert.KUpIdeal.nD Cert.KUpIdeal.τ).loc Cert.KUpIdeal.main_arg0)) (m ((c.tc : Thread Cert.KUpIdeal.nD Cert.KUpIdeal.τ).loc Cert.KUpIdeal.main_arg1)) (m ((c.tc : Thread Cert.KUpIdeal.nD Cert.KUpIdeal.τ).loc Cert.KUpIdeal.main_arg2)) (m ((c.tc : Thread Cert.KUpIdeal.nD Cert.KUpIdeal.τ).loc Cert.KUpIdeal.main_arg3))).2.2.2 = (fun _ => 1#1)

def Pre_RUpIdeal (m : (ℓ : Loc Cert.RUpIdeal.nD Cert.RUpIdeal.τ Cert.RUpIdeal.sig) → Buf (Elt Ideal) ℓ) : Prop :=
  True

def Pre_RUpIdeal_up_finite [hPre_up_finite : Cert.Pre_up_finite.Facts] (m : (ℓ : Loc Cert.RUpIdeal.nD Cert.RUpIdeal.τ Cert.RUpIdeal.sig) → Buf (Elt Ideal) ℓ) : Prop :=
  ∀ c : Dev Cert.RUpIdeal.nD,
    (Cert.Pre_up_finite.fn (F := Ideal) (m ((c.tc : Thread Cert.RUpIdeal.nD Cert.RUpIdeal.τ).loc Cert.RUpIdeal.main_arg0)) (m ((c.tc : Thread Cert.RUpIdeal.nD Cert.RUpIdeal.τ).loc Cert.RUpIdeal.main_arg1)) (m ((c.tc : Thread Cert.RUpIdeal.nD Cert.RUpIdeal.τ).loc Cert.RUpIdeal.main_arg2)) (m ((c.tc : Thread Cert.RUpIdeal.nD Cert.RUpIdeal.τ).loc Cert.RUpIdeal.main_arg3))).1 = (fun _ => 1#1)
    ∧ (Cert.Pre_up_finite.fn (F := Ideal) (m ((c.tc : Thread Cert.RUpIdeal.nD Cert.RUpIdeal.τ).loc Cert.RUpIdeal.main_arg0)) (m ((c.tc : Thread Cert.RUpIdeal.nD Cert.RUpIdeal.τ).loc Cert.RUpIdeal.main_arg1)) (m ((c.tc : Thread Cert.RUpIdeal.nD Cert.RUpIdeal.τ).loc Cert.RUpIdeal.main_arg2)) (m ((c.tc : Thread Cert.RUpIdeal.nD Cert.RUpIdeal.τ).loc Cert.RUpIdeal.main_arg3))).2.1 = (fun _ => 1#1)
    ∧ (Cert.Pre_up_finite.fn (F := Ideal) (m ((c.tc : Thread Cert.RUpIdeal.nD Cert.RUpIdeal.τ).loc Cert.RUpIdeal.main_arg0)) (m ((c.tc : Thread Cert.RUpIdeal.nD Cert.RUpIdeal.τ).loc Cert.RUpIdeal.main_arg1)) (m ((c.tc : Thread Cert.RUpIdeal.nD Cert.RUpIdeal.τ).loc Cert.RUpIdeal.main_arg2)) (m ((c.tc : Thread Cert.RUpIdeal.nD Cert.RUpIdeal.τ).loc Cert.RUpIdeal.main_arg3))).2.2.1 = (fun _ => 1#1)
    ∧ (Cert.Pre_up_finite.fn (F := Ideal) (m ((c.tc : Thread Cert.RUpIdeal.nD Cert.RUpIdeal.τ).loc Cert.RUpIdeal.main_arg0)) (m ((c.tc : Thread Cert.RUpIdeal.nD Cert.RUpIdeal.τ).loc Cert.RUpIdeal.main_arg1)) (m ((c.tc : Thread Cert.RUpIdeal.nD Cert.RUpIdeal.τ).loc Cert.RUpIdeal.main_arg2)) (m ((c.tc : Thread Cert.RUpIdeal.nD Cert.RUpIdeal.τ).loc Cert.RUpIdeal.main_arg3))).2.2.2 = (fun _ => 1#1)

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KSsd (m : (ℓ : Loc Cert.KSsd.nD Cert.KSsd.τ Cert.KSsd.sig) → Buf (Elt Bits) ℓ) : Prop :=
  True

def Pre_KSsdIdeal (m : (ℓ : Loc Cert.KSsdIdeal.nD Cert.KSsdIdeal.τ Cert.KSsdIdeal.sig) → Buf (Elt Ideal) ℓ) : Prop :=
  True

def Pre_KMoba (m : (ℓ : Loc Cert.KMoba.nD Cert.KMoba.τ Cert.KMoba.sig) → Buf (Elt Bits) ℓ) : Prop :=
  True

def Pre_KMobaIdeal (m : (ℓ : Loc Cert.KMobaIdeal.nD Cert.KMobaIdeal.τ Cert.KMobaIdeal.sig) → Buf (Elt Ideal) ℓ) : Prop :=
  True

def quiescent_KNorm [hKNorm : Cert.KNorm.Facts] : Prop :=
  ∀ (m : (ℓ : Loc Cert.KNorm.nD Cert.KNorm.τ Cert.KNorm.sig) → Buf (Elt Bits) ℓ) (g : Dev Cert.KNorm.nD → PrngReg), Pre_KNorm m →
    θ_run (Cert.KNorm.defs (F := Bits)) (onTc (τ := Cert.KNorm.τ) (Cert.KNorm.main (F := Bits))) ⟨m, fun _ => 0, g⟩ (fun r => (∀ c : Dev Cert.KNorm.nD,
      r.2.mem ((c.tc : Thread Cert.KNorm.nD Cert.KNorm.τ).loc Cert.KNorm.main_arg0) = m ((c.tc : Thread Cert.KNorm.nD Cert.KNorm.τ).loc Cert.KNorm.main_arg0)
      ∧ r.2.mem ((c.tc : Thread Cert.KNorm.nD Cert.KNorm.τ).loc Cert.KNorm.main_arg1) = m ((c.tc : Thread Cert.KNorm.nD Cert.KNorm.τ).loc Cert.KNorm.main_arg1)
      ∧ r.2.mem ((c.tc : Thread Cert.KNorm.nD Cert.KNorm.τ).loc Cert.KNorm.main_arg2) = m ((c.tc : Thread Cert.KNorm.nD Cert.KNorm.τ).loc Cert.KNorm.main_arg2))
      ∧ r.2.sem = fun _ => 0)

def quiescent_KNormIdeal [hKNormIdeal : Cert.KNormIdeal.Facts] : Prop :=
  ∀ (m : (ℓ : Loc Cert.KNormIdeal.nD Cert.KNormIdeal.τ Cert.KNormIdeal.sig) → Buf (Elt Ideal) ℓ) (g : Dev Cert.KNormIdeal.nD → PrngReg), Pre_KNormIdeal m →
    θ_run (Cert.KNormIdeal.defs (F := Ideal)) (onTc (τ := Cert.KNormIdeal.τ) (Cert.KNormIdeal.main (F := Ideal))) ⟨m, fun _ => 0, g⟩ (fun r => (∀ c : Dev Cert.KNormIdeal.nD,
      r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
      ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1)
      ∧ r.2.mem ((c.tc : Thread Cert.KNormIdeal.nD Cert.KNormIdeal.τ).loc Cert.KNormIdeal.main_arg2) = m ((c.tc : Thread Cert.KNormIdeal.nD Cert.KNormIdeal.τ).loc Cert.KNormIdeal.main_arg2))
      ∧ r.2.sem = fun _ => 0)

def quiescent_KNormIdeal_pre_norm_finite [hKNormIdeal : Cert.KNormIdeal.Facts] [hPre_norm_finite : Cert.Pre_norm_finite.Facts] : Prop :=
  ∀ (m : (ℓ : Loc Cert.KNormIdeal.nD Cert.KNormIdeal.τ Cert.KNormIdeal.sig) → Buf (Elt Ideal) ℓ) (g : Dev Cert.KNormIdeal.nD → PrngReg), Pre_KNormIdeal_norm_finite m →
    θ_run (Cert.KNormIdeal.defs (F := Ideal)) (onTc (τ := Cert.KNormIdeal.τ) (Cert.KNormIdeal.main (F := Ideal))) ⟨m, fun _ => 0, g⟩ (fun r => (∀ c : Dev Cert.KNormIdeal.nD,
      r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
      ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1)
      ∧ r.2.mem ((c.tc : Thread Cert.KNormIdeal.nD Cert.KNormIdeal.τ).loc Cert.KNormIdeal.main_arg2) = m ((c.tc : Thread Cert.KNormIdeal.nD Cert.KNormIdeal.τ).loc Cert.KNormIdeal.main_arg2))
      ∧ r.2.sem = fun _ => 0)

def quiescent_RNormIdeal [hRNormIdeal : Cert.RNormIdeal.Facts] : Prop :=
  ∀ (m : (ℓ : Loc Cert.RNormIdeal.nD Cert.RNormIdeal.τ Cert.RNormIdeal.sig) → Buf (Elt Ideal) ℓ) (g : Dev Cert.RNormIdeal.nD → PrngReg), Pre_RNormIdeal m →
    θ_run (Cert.RNormIdeal.defs (F := Ideal)) (onTc (τ := Cert.RNormIdeal.τ) (Cert.RNormIdeal.main (F := Ideal))) ⟨m, fun _ => 0, g⟩ (fun r => (∀ c : Dev Cert.RNormIdeal.nD,
      r.2.mem ((c.tc : Thread Cert.RNormIdeal.nD Cert.RNormIdeal.τ).loc Cert.RNormIdeal.main_arg0) = m ((c.tc : Thread Cert.RNormIdeal.nD Cert.RNormIdeal.τ).loc Cert.RNormIdeal.main_arg0)
      ∧ r.2.mem ((c.tc : Thread Cert.RNormIdeal.nD Cert.RNormIdeal.τ).loc Cert.RNormIdeal.main_arg1) = m ((c.tc : Thread Cert.RNormIdeal.nD Cert.RNormIdeal.τ).loc Cert.RNormIdeal.main_arg1)
      ∧ r.2.mem ((c.tc : Thread Cert.RNormIdeal.nD Cert.RNormIdeal.τ).loc Cert.RNormIdeal.main_arg2) = m ((c.tc : Thread Cert.RNormIdeal.nD Cert.RNormIdeal.τ).loc Cert.RNormIdeal.main_arg2))
      ∧ r.2.sem = fun _ => 0)

def quiescent_RNormIdeal_pre_norm_finite [hRNormIdeal : Cert.RNormIdeal.Facts] [hPre_norm_finite : Cert.Pre_norm_finite.Facts] : Prop :=
  ∀ (m : (ℓ : Loc Cert.RNormIdeal.nD Cert.RNormIdeal.τ Cert.RNormIdeal.sig) → Buf (Elt Ideal) ℓ) (g : Dev Cert.RNormIdeal.nD → PrngReg), Pre_RNormIdeal_norm_finite m →
    θ_run (Cert.RNormIdeal.defs (F := Ideal)) (onTc (τ := Cert.RNormIdeal.τ) (Cert.RNormIdeal.main (F := Ideal))) ⟨m, fun _ => 0, g⟩ (fun r => (∀ c : Dev Cert.RNormIdeal.nD,
      r.2.mem ((c.tc : Thread Cert.RNormIdeal.nD Cert.RNormIdeal.τ).loc Cert.RNormIdeal.main_arg0) = m ((c.tc : Thread Cert.RNormIdeal.nD Cert.RNormIdeal.τ).loc Cert.RNormIdeal.main_arg0)
      ∧ r.2.mem ((c.tc : Thread Cert.RNormIdeal.nD Cert.RNormIdeal.τ).loc Cert.RNormIdeal.main_arg1) = m ((c.tc : Thread Cert.RNormIdeal.nD Cert.RNormIdeal.τ).loc Cert.RNormIdeal.main_arg1)
      ∧ r.2.mem ((c.tc : Thread Cert.RNormIdeal.nD Cert.RNormIdeal.τ).loc Cert.RNormIdeal.main_arg2) = m ((c.tc : Thread Cert.RNormIdeal.nD Cert.RNormIdeal.τ).loc Cert.RNormIdeal.main_arg2))
      ∧ r.2.sem = fun _ => 0)

def quiescent_KQk [hKQk : Cert.KQk.Facts] : Prop :=
  ∀ (m : (ℓ : Loc Cert.KQk.nD Cert.KQk.τ Cert.KQk.sig) → Buf (Elt Bits) ℓ) (g : Dev Cert.KQk.nD → PrngReg), Pre_KQk m →
    θ_run (Cert.KQk.defs (F := Bits)) (onTc (τ := Cert.KQk.τ) (Cert.KQk.main (F := Bits))) ⟨m, fun _ => 0, g⟩ (fun r => (∀ c : Dev Cert.KQk.nD,
      r.2.mem ((c.tc : Thread Cert.KQk.nD Cert.KQk.τ).loc Cert.KQk.main_arg0) = m ((c.tc : Thread Cert.KQk.nD Cert.KQk.τ).loc Cert.KQk.main_arg0)
      ∧ r.2.mem ((c.tc : Thread Cert.KQk.nD Cert.KQk.τ).loc Cert.KQk.main_arg1) = m ((c.tc : Thread Cert.KQk.nD Cert.KQk.τ).loc Cert.KQk.main_arg1)
      ∧ r.2.mem ((c.tc : Thread Cert.KQk.nD Cert.KQk.τ).loc Cert.KQk.main_arg2) = m ((c.tc : Thread Cert.KQk.nD Cert.KQk.τ).loc Cert.KQk.main_arg2))
      ∧ r.2.sem = fun _ => 0)

def quiescent_KQkIdeal [hKQkIdeal : Cert.KQkIdeal.Facts] : Prop :=
  ∀ (m : (ℓ : Loc Cert.KQkIdeal.nD Cert.KQkIdeal.τ Cert.KQkIdeal.sig) → Buf (Elt Ideal) ℓ) (g : Dev Cert.KQkIdeal.nD → PrngReg), Pre_KQkIdeal m →
    θ_run (Cert.KQkIdeal.defs (F := Ideal)) (onTc (τ := Cert.KQkIdeal.τ) (Cert.KQkIdeal.main (F := Ideal))) ⟨m, fun _ => 0, g⟩ (fun r => (∀ c : Dev Cert.KQkIdeal.nD,
      r.2.mem ((c.tc : Thread Cert.KQkIdeal.nD Cert.KQkIdeal.τ).loc Cert.KQkIdeal.main_arg0) = m ((c.tc : Thread Cert.KQkIdeal.nD Cert.KQkIdeal.τ).loc Cert.KQkIdeal.main_arg0)
      ∧ r.2.mem ((c.tc : Thread Cert.KQkIdeal.nD Cert.KQkIdeal.τ).loc Cert.KQkIdeal.main_arg1) = m ((c.tc : Thread Cert.KQkIdeal.nD Cert.KQkIdeal.τ).loc Cert.KQkIdeal.main_arg1)
      ∧ r.2.mem ((c.tc : Thread Cert.KQkIdeal.nD Cert.KQkIdeal.τ).loc Cert.KQkIdeal.main_arg2) = m ((c.tc : Thread Cert.KQkIdeal.nD Cert.KQkIdeal.τ).loc Cert.KQkIdeal.main_arg2))
      ∧ r.2.sem = fun _ => 0)

def quiescent_KQkIdeal_pre_weights_finite [hKQkIdeal : Cert.KQkIdeal.Facts] [hPre_weights_finite : Cert.Pre_weights_finite.Facts] : Prop :=
  ∀ (m : (ℓ : Loc Cert.KQkIdeal.nD Cert.KQkIdeal.τ Cert.KQkIdeal.sig) → Buf (Elt Ideal) ℓ) (g : Dev Cert.KQkIdeal.nD → PrngReg), Pre_KQkIdeal_weights_finite m →
    θ_run (Cert.KQkIdeal.defs (F := Ideal)) (onTc (τ := Cert.KQkIdeal.τ) (Cert.KQkIdeal.main (F := Ideal))) ⟨m, fun _ => 0, g⟩ (fun r => (∀ c : Dev Cert.KQkIdeal.nD,
      r.2.mem ((c.tc : Thread Cert.KQkIdeal.nD Cert.KQkIdeal.τ).loc Cert.KQkIdeal.main_arg0) = m ((c.tc : Thread Cert.KQkIdeal.nD Cert.KQkIdeal.τ).loc Cert.KQkIdeal.main_arg0)
      ∧ r.2.mem ((c.tc : Thread Cert.KQkIdeal.nD Cert.KQkIdeal.τ).loc Cert.KQkIdeal.main_arg1) = m ((c.tc : Thread Cert.KQkIdeal.nD Cert.KQkIdeal.τ).loc Cert.KQkIdeal.main_arg1)
      ∧ r.2.mem ((c.tc : Thread Cert.KQkIdeal.nD Cert.KQkIdeal.τ).loc Cert.KQkIdeal.main_arg2) = m ((c.tc : Thread Cert.KQkIdeal.nD Cert.KQkIdeal.τ).loc Cert.KQkIdeal.main_arg2))
      ∧ r.2.sem = fun _ => 0)

def quiescent_RQkIdeal [hRQkIdeal : Cert.RQkIdeal.Facts] : Prop :=
  ∀ (m : (ℓ : Loc Cert.RQkIdeal.nD Cert.RQkIdeal.τ Cert.RQkIdeal.sig) → Buf (Elt Ideal) ℓ) (g : Dev Cert.RQkIdeal.nD → PrngReg), Pre_RQkIdeal m →
    θ_run (Cert.RQkIdeal.defs (F := Ideal)) (onTc (τ := Cert.RQkIdeal.τ) (Cert.RQkIdeal.main (F := Ideal))) ⟨m, fun _ => 0, g⟩ (fun r => (∀ c : Dev Cert.RQkIdeal.nD,
      r.2.mem ((c.tc : Thread Cert.RQkIdeal.nD Cert.RQkIdeal.τ).loc Cert.RQkIdeal.main_arg0) = m ((c.tc : Thread Cert.RQkIdeal.nD Cert.RQkIdeal.τ).loc Cert.RQkIdeal.main_arg0)
      ∧ r.2.mem ((c.tc : Thread Cert.RQkIdeal.nD Cert.RQkIdeal.τ).loc Cert.RQkIdeal.main_arg1) = m ((c.tc : Thread Cert.RQkIdeal.nD Cert.RQkIdeal.τ).loc Cert.RQkIdeal.main_arg1)
      ∧ r.2.mem ((c.tc : Thread Cert.RQkIdeal.nD Cert.RQkIdeal.τ).loc Cert.RQkIdeal.main_arg2) = m ((c.tc : Thread Cert.RQkIdeal.nD Cert.RQkIdeal.τ).loc Cert.RQkIdeal.main_arg2))
      ∧ r.2.sem = fun _ => 0)

def quiescent_RQkIdeal_pre_weights_finite [hRQkIdeal : Cert.RQkIdeal.Facts] [hPre_weights_finite : Cert.Pre_weights_finite.Facts] : Prop :=
  ∀ (m : (ℓ : Loc Cert.RQkIdeal.nD Cert.RQkIdeal.τ Cert.RQkIdeal.sig) → Buf (Elt Ideal) ℓ) (g : Dev Cert.RQkIdeal.nD → PrngReg), Pre_RQkIdeal_weights_finite m →
    θ_run (Cert.RQkIdeal.defs (F := Ideal)) (onTc (τ := Cert.RQkIdeal.τ) (Cert.RQkIdeal.main (F := Ideal))) ⟨m, fun _ => 0, g⟩ (fun r => (∀ c : Dev Cert.RQkIdeal.nD,
      r.2.mem ((c.tc : Thread Cert.RQkIdeal.nD Cert.RQkIdeal.τ).loc Cert.RQkIdeal.main_arg0) = m ((c.tc : Thread Cert.RQkIdeal.nD Cert.RQkIdeal.τ).loc Cert.RQkIdeal.main_arg0)
      ∧ r.2.mem ((c.tc : Thread Cert.RQkIdeal.nD Cert.RQkIdeal.τ).loc Cert.RQkIdeal.main_arg1) = m ((c.tc : Thread Cert.RQkIdeal.nD Cert.RQkIdeal.τ).loc Cert.RQkIdeal.main_arg1)
      ∧ r.2.mem ((c.tc : Thread Cert.RQkIdeal.nD Cert.RQkIdeal.τ).loc Cert.RQkIdeal.main_arg2) = m ((c.tc : Thread Cert.RQkIdeal.nD Cert.RQkIdeal.τ).loc Cert.RQkIdeal.main_arg2))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3))
      ∧ r.2.sem = fun _ => 0)

def quiescent_KMix [hKMix : Cert.KMix.Facts] : Prop :=
  ∀ (m : (ℓ : Loc Cert.KMix.nD Cert.KMix.τ Cert.KMix.sig) → Buf (Elt Bits) ℓ) (g : Dev Cert.KMix.nD → PrngReg), Pre_KMix m →
    θ_run (Cert.KMix.defs (F := Bits)) (onTc (τ := Cert.KMix.τ) (Cert.KMix.main (F := Bits))) ⟨m, fun _ => 0, g⟩ (fun r => (∀ c : Dev Cert.KMix.nD,
      r.2.mem ((c.tc : Thread Cert.KMix.nD Cert.KMix.τ).loc Cert.KMix.main_arg0) = m ((c.tc : Thread Cert.KMix.nD Cert.KMix.τ).loc Cert.KMix.main_arg0)
      ∧ r.2.mem ((c.tc : Thread Cert.KMix.nD Cert.KMix.τ).loc Cert.KMix.main_arg1) = m ((c.tc : Thread Cert.KMix.nD Cert.KMix.τ).loc Cert.KMix.main_arg1)
      ∧ r.2.mem ((c.tc : Thread Cert.KMix.nD Cert.KMix.τ).loc Cert.KMix.main_arg2) = m ((c.tc : Thread Cert.KMix.nD Cert.KMix.τ).loc Cert.KMix.main_arg2)
      ∧ r.2.mem ((c.tc : Thread Cert.KMix.nD Cert.KMix.τ).loc Cert.KMix.main_arg3) = m ((c.tc : Thread Cert.KMix.nD Cert.KMix.τ).loc Cert.KMix.main_arg3)
      ∧ r.2.mem ((c.tc : Thread Cert.KMix.nD Cert.KMix.τ).loc Cert.KMix.main_arg4) = m ((c.tc : Thread Cert.KMix.nD Cert.KMix.τ).loc Cert.KMix.main_arg4)
      ∧ r.2.mem ((c.tc : Thread Cert.KMix.nD Cert.KMix.τ).loc Cert.KMix.main_arg5) = m ((c.tc : Thread Cert.KMix.nD Cert.KMix.τ).loc Cert.KMix.main_arg5))
      ∧ r.2.sem = fun _ => 0)

def quiescent_KMixIdeal [hKMixIdeal : Cert.KMixIdeal.Facts] : Prop :=
  ∀ (m : (ℓ : Loc Cert.KMixIdeal.nD Cert.KMixIdeal.τ Cert.KMixIdeal.sig) → Buf (Elt Ideal) ℓ) (g : Dev Cert.KMixIdeal.nD → PrngReg), Pre_KMixIdeal m →
    θ_run (Cert.KMixIdeal.defs (F := Ideal)) (onTc (τ := Cert.KMixIdeal.τ) (Cert.KMixIdeal.main (F := Ideal))) ⟨m, fun _ => 0, g⟩ (fun r => (∀ c : Dev Cert.KMixIdeal.nD,
      r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
      ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
      ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
      ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
      ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
      ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5))
      ∧ r.2.sem = fun _ => 0)

def quiescent_RMixIdeal [hRMixIdeal : Cert.RMixIdeal.Facts] : Prop :=
  ∀ (m : (ℓ : Loc Cert.RMixIdeal.nD Cert.RMixIdeal.τ Cert.RMixIdeal.sig) → Buf (Elt Ideal) ℓ) (g : Dev Cert.RMixIdeal.nD → PrngReg), Pre_RMixIdeal m →
    θ_run (Cert.RMixIdeal.defs (F := Ideal)) (onTc (τ := Cert.RMixIdeal.τ) (Cert.RMixIdeal.main (F := Ideal))) ⟨m, fun _ => 0, g⟩ (fun r => (∀ c : Dev Cert.RMixIdeal.nD,
      r.2.mem ((c.tc : Thread Cert.RMixIdeal.nD Cert.RMixIdeal.τ).loc Cert.RMixIdeal.main_arg0) = m ((c.tc : Thread Cert.RMixIdeal.nD Cert.RMixIdeal.τ).loc Cert.RMixIdeal.main_arg0)
      ∧ r.2.mem ((c.tc : Thread Cert.RMixIdeal.nD Cert.RMixIdeal.τ).loc Cert.RMixIdeal.main_arg1) = m ((c.tc : Thread Cert.RMixIdeal.nD Cert.RMixIdeal.τ).loc Cert.RMixIdeal.main_arg1)
      ∧ r.2.mem ((c.tc : Thread Cert.RMixIdeal.nD Cert.RMixIdeal.τ).loc Cert.RMixIdeal.main_arg2) = m ((c.tc : Thread Cert.RMixIdeal.nD Cert.RMixIdeal.τ).loc Cert.RMixIdeal.main_arg2)
      ∧ r.2.mem ((c.tc : Thread Cert.RMixIdeal.nD Cert.RMixIdeal.τ).loc Cert.RMixIdeal.main_arg3) = m ((c.tc : Thread Cert.RMixIdeal.nD Cert.RMixIdeal.τ).loc Cert.RMixIdeal.main_arg3)
      ∧ r.2.mem ((c.tc : Thread Cert.RMixIdeal.nD Cert.RMixIdeal.τ).loc Cert.RMixIdeal.main_arg4) = m ((c.tc : Thread Cert.RMixIdeal.nD Cert.RMixIdeal.τ).loc Cert.RMixIdeal.main_arg4)
      ∧ r.2.mem ((c.tc : Thread Cert.RMixIdeal.nD Cert.RMixIdeal.τ).loc Cert.RMixIdeal.main_arg5) = m ((c.tc : Thread Cert.RMixIdeal.nD Cert.RMixIdeal.τ).loc Cert.RMixIdeal.main_arg5))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1)
      ∧ r.2.mem ((c.tc : Thread Cert.KUp.nD Cert.KUp.τ).loc Cert.KUp.main_arg2) = m ((c.tc : Thread Cert.KUp.nD Cert.KUp.τ).loc Cert.KUp.main_arg2)
      ∧ r.2.mem ((c.tc : Thread Cert.KUp.nD Cert.KUp.τ).loc Cert.KUp.main_arg3) = m ((c.tc : Thread Cert.KUp.nD Cert.KUp.τ).loc Cert.KUp.main_arg3))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ r.2.sem = fun _ => 0)

def quiescent_KUpIdeal_pre_up_finite [hKUpIdeal : Cert.KUpIdeal.Facts] [hPre_up_finite : Cert.Pre_up_finite.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal_up_finite m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3))
      ∧ r.2.sem = fun _ => 0)

def quiescent_RUpIdeal_pre_up_finite [hRUpIdeal : Cert.RUpIdeal.Facts] [hPre_up_finite : Cert.Pre_up_finite.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal_up_finite m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1))
      ∧ r.2.sem = fun _ => 0)

def quiescent_KSsd [hKSsd : Cert.KSsd.Facts] : Prop :=
  ∀ (m : (ℓ : Loc Cert.KSsd.nD Cert.KSsd.τ Cert.KSsd.sig) → Buf (Elt Bits) ℓ) (g : Dev Cert.KSsd.nD → PrngReg), Pre_KSsd m →
    θ_run (Cert.KSsd.defs (F := Bits)) (onTc (τ := Cert.KSsd.τ) (Cert.KSsd.main (F := Bits))) ⟨m, fun _ => 0, g⟩ (fun r => (∀ c : Dev Cert.KSsd.nD,
      r.2.mem ((c.tc : Thread Cert.KSsd.nD Cert.KSsd.τ).loc Cert.KSsd.main_arg0) = m ((c.tc : Thread Cert.KSsd.nD Cert.KSsd.τ).loc Cert.KSsd.main_arg0)
      ∧ r.2.mem ((c.tc : Thread Cert.KSsd.nD Cert.KSsd.τ).loc Cert.KSsd.main_arg1) = m ((c.tc : Thread Cert.KSsd.nD Cert.KSsd.τ).loc Cert.KSsd.main_arg1)
      ∧ r.2.mem ((c.tc : Thread Cert.KSsd.nD Cert.KSsd.τ).loc Cert.KSsd.main_arg2) = m ((c.tc : Thread Cert.KSsd.nD Cert.KSsd.τ).loc Cert.KSsd.main_arg2)
      ∧ r.2.mem ((c.tc : Thread Cert.KSsd.nD Cert.KSsd.τ).loc Cert.KSsd.main_arg3) = m ((c.tc : Thread Cert.KSsd.nD Cert.KSsd.τ).loc Cert.KSsd.main_arg3)
      ∧ r.2.mem ((c.tc : Thread Cert.KSsd.nD Cert.KSsd.τ).loc Cert.KSsd.main_arg4) = m ((c.tc : Thread Cert.KSsd.nD Cert.KSsd.τ).loc Cert.KSsd.main_arg4)
      ∧ r.2.mem ((c.tc : Thread Cert.KSsd.nD Cert.KSsd.τ).loc Cert.KSsd.main_arg5) = m ((c.tc : Thread Cert.KSsd.nD Cert.KSsd.τ).loc Cert.KSsd.main_arg5)
      ∧ r.2.mem ((c.tc : Thread Cert.KSsd.nD Cert.KSsd.τ).loc Cert.KSsd.main_arg6) = m ((c.tc : Thread Cert.KSsd.nD Cert.KSsd.τ).loc Cert.KSsd.main_arg6)
      ∧ r.2.mem ((c.tc : Thread Cert.KSsd.nD Cert.KSsd.τ).loc Cert.KSsd.main_arg7) = m ((c.tc : Thread Cert.KSsd.nD Cert.KSsd.τ).loc Cert.KSsd.main_arg7))
      ∧ r.2.sem = fun _ => 0)

def quiescent_KSsdIdeal [hKSsdIdeal : Cert.KSsdIdeal.Facts] : Prop :=
  ∀ (m : (ℓ : Loc Cert.KSsdIdeal.nD Cert.KSsdIdeal.τ Cert.KSsdIdeal.sig) → Buf (Elt Ideal) ℓ) (g : Dev Cert.KSsdIdeal.nD → PrngReg), Pre_KSsdIdeal m →
    θ_run (Cert.KSsdIdeal.defs (F := Ideal)) (onTc (τ := Cert.KSsdIdeal.τ) (Cert.KSsdIdeal.main (F := Ideal))) ⟨m, fun _ => 0, g⟩ (fun r => (∀ c : Dev Cert.KSsdIdeal.nD,
      r.2.mem ((c.tc : Thread Cert.KSsdIdeal.nD Cert.KSsdIdeal.τ).loc Cert.KSsdIdeal.main_arg0) = m ((c.tc : Thread Cert.KSsdIdeal.nD Cert.KSsdIdeal.τ).loc Cert.KSsdIdeal.main_arg0)
      ∧ r.2.mem ((c.tc : Thread Cert.KSsdIdeal.nD Cert.KSsdIdeal.τ).loc Cert.KSsdIdeal.main_arg1) = m ((c.tc : Thread Cert.KSsdIdeal.nD Cert.KSsdIdeal.τ).loc Cert.KSsdIdeal.main_arg1)
      ∧ r.2.mem ((c.tc : Thread Cert.KSsdIdeal.nD Cert.KSsdIdeal.τ).loc Cert.KSsdIdeal.main_arg2) = m ((c.tc : Thread Cert.KSsdIdeal.nD Cert.KSsdIdeal.τ).loc Cert.KSsdIdeal.main_arg2)
      ∧ r.2.mem ((c.tc : Thread Cert.KSsdIdeal.nD Cert.KSsdIdeal.τ).loc Cert.KSsdIdeal.main_arg3) = m ((c.tc : Thread Cert.KSsdIdeal.nD Cert.KSsdIdeal.τ).loc Cert.KSsdIdeal.main_arg3)
      ∧ r.2.mem ((c.tc : Thread Cert.KSsdIdeal.nD Cert.KSsdIdeal.τ).loc Cert.KSsdIdeal.main_arg4) = m ((c.tc : Thread Cert.KSsdIdeal.nD Cert.KSsdIdeal.τ).loc Cert.KSsdIdeal.main_arg4)
      ∧ r.2.mem ((c.tc : Thread Cert.KSsdIdeal.nD Cert.KSsdIdeal.τ).loc Cert.KSsdIdeal.main_arg5) = m ((c.tc : Thread Cert.KSsdIdeal.nD Cert.KSsdIdeal.τ).loc Cert.KSsdIdeal.main_arg5)
      ∧ r.2.mem ((c.tc : Thread Cert.KSsdIdeal.nD Cert.KSsdIdeal.τ).loc Cert.KSsdIdeal.main_arg6) = m ((c.tc : Thread Cert.KSsdIdeal.nD Cert.KSsdIdeal.τ).loc Cert.KSsdIdeal.main_arg6)
      ∧ r.2.mem ((c.tc : Thread Cert.KSsdIdeal.nD Cert.KSsdIdeal.τ).loc Cert.KSsdIdeal.main_arg7) = m ((c.tc : Thread Cert.KSsdIdeal.nD Cert.KSsdIdeal.τ).loc Cert.KSsdIdeal.main_arg7))
      ∧ r.2.sem = fun _ => 0)

def quiescent_KMoba [hKMoba : Cert.KMoba.Facts] : Prop :=
  ∀ (m : (ℓ : Loc Cert.KMoba.nD Cert.KMoba.τ Cert.KMoba.sig) → Buf (Elt Bits) ℓ) (g : Dev Cert.KMoba.nD → PrngReg), Pre_KMoba m →
    θ_run (Cert.KMoba.defs (F := Bits)) (onTc (τ := Cert.KMoba.τ) (Cert.KMoba.main (F := Bits))) ⟨m, fun _ => 0, g⟩ (fun r => (∀ c : Dev Cert.KMoba.nD,
      r.2.mem ((c.tc : Thread Cert.KMoba.nD Cert.KMoba.τ).loc Cert.KMoba.main_arg0) = m ((c.tc : Thread Cert.KMoba.nD Cert.KMoba.τ).loc Cert.KMoba.main_arg0)
      ∧ r.2.mem ((c.tc : Thread Cert.KMoba.nD Cert.KMoba.τ).loc Cert.KMoba.main_arg1) = m ((c.tc : Thread Cert.KMoba.nD Cert.KMoba.τ).loc Cert.KMoba.main_arg1)
      ∧ r.2.mem ((c.tc : Thread Cert.KMoba.nD Cert.KMoba.τ).loc Cert.KMoba.main_arg2) = m ((c.tc : Thread Cert.KMoba.nD Cert.KMoba.τ).loc Cert.KMoba.main_arg2)
      ∧ r.2.mem ((c.tc : Thread Cert.KMoba.nD Cert.KMoba.τ).loc Cert.KMoba.main_arg3) = m ((c.tc : Thread Cert.KMoba.nD Cert.KMoba.τ).loc Cert.KMoba.main_arg3)
      ∧ r.2.mem ((c.tc : Thread Cert.KMoba.nD Cert.KMoba.τ).loc Cert.KMoba.main_arg4) = m ((c.tc : Thread Cert.KMoba.nD Cert.KMoba.τ).loc Cert.KMoba.main_arg4))
      ∧ r.2.sem = fun _ => 0)

def quiescent_KMobaIdeal [hKMobaIdeal : Cert.KMobaIdeal.Facts] : Prop :=
  ∀ (m : (ℓ : Loc Cert.KMobaIdeal.nD Cert.KMobaIdeal.τ Cert.KMobaIdeal.sig) → Buf (Elt Ideal) ℓ) (g : Dev Cert.KMobaIdeal.nD → PrngReg), Pre_KMobaIdeal m →
    θ_run (Cert.KMobaIdeal.defs (F := Ideal)) (onTc (τ := Cert.KMobaIdeal.τ) (Cert.KMobaIdeal.main (F := Ideal))) ⟨m, fun _ => 0, g⟩ (fun r => (∀ c : Dev Cert.KMobaIdeal.nD,
      r.2.mem ((c.tc : Thread Cert.KMobaIdeal.nD Cert.KMobaIdeal.τ).loc Cert.KMobaIdeal.main_arg0) = m ((c.tc : Thread Cert.KMobaIdeal.nD Cert.KMobaIdeal.τ).loc Cert.KMobaIdeal.main_arg0)
      ∧ r.2.mem ((c.tc : Thread Cert.KMobaIdeal.nD Cert.KMobaIdeal.τ).loc Cert.KMobaIdeal.main_arg1) = m ((c.tc : Thread Cert.KMobaIdeal.nD Cert.KMobaIdeal.τ).loc Cert.KMobaIdeal.main_arg1)
      ∧ r.2.mem ((c.tc : Thread Cert.KMobaIdeal.nD Cert.KMobaIdeal.τ).loc Cert.KMobaIdeal.main_arg2) = m ((c.tc : Thread Cert.KMobaIdeal.nD Cert.KMobaIdeal.τ).loc Cert.KMobaIdeal.main_arg2)
      ∧ r.2.mem ((c.tc : Thread Cert.KMobaIdeal.nD Cert.KMobaIdeal.τ).loc Cert.KMobaIdeal.main_arg3) = m ((c.tc : Thread Cert.KMobaIdeal.nD Cert.KMobaIdeal.τ).loc Cert.KMobaIdeal.main_arg3)
      ∧ r.2.mem ((c.tc : Thread Cert.KMobaIdeal.nD Cert.KMobaIdeal.τ).loc Cert.KMobaIdeal.main_arg4) = m ((c.tc : Thread Cert.KMobaIdeal.nD Cert.KMobaIdeal.τ).loc Cert.KMobaIdeal.main_arg4))
      ∧ r.2.sem = fun _ => 0)

def preserves_KNorm_KNormIdeal : Prop :=
  True

def algebraic_KNormIdeal_RNormIdeal_pre_norm_finite [hKNormIdeal : Cert.KNormIdeal.Facts] [hRNormIdeal : Cert.RNormIdeal.Facts] [hPre_norm_finite : Cert.Pre_norm_finite.Facts] : Prop :=
  ∀ (m : (ℓ : Loc Cert.KNormIdeal.nD Cert.KNormIdeal.τ Cert.KNormIdeal.sig) → Buf (Elt Ideal) ℓ) (g : Dev Cert.KNormIdeal.nD → PrngReg)
    (m' : (ℓ : Loc Cert.RNormIdeal.nD Cert.RNormIdeal.τ Cert.RNormIdeal.sig) → Buf (Elt Ideal) ℓ) (g' : Dev Cert.RNormIdeal.nD → PrngReg), Pre_KNormIdeal_norm_finite m →
    (∀ c : Dev Cert.KNormIdeal.nD,
      m' ((c.tc : Thread Cert.RNormIdeal.nD Cert.RNormIdeal.τ).loc Cert.RNormIdeal.main_arg0) = m ((c.tc : Thread Cert.KNormIdeal.nD Cert.KNormIdeal.τ).loc Cert.KNormIdeal.main_arg0)
      ∧ m' ((c.tc : Thread Cert.RNormIdeal.nD Cert.RNormIdeal.τ).loc Cert.RNormIdeal.main_arg1) = m ((c.tc : Thread Cert.KNormIdeal.nD Cert.KNormIdeal.τ).loc Cert.KNormIdeal.main_arg1)
      ∧ m' ((c.tc : Thread Cert.RNormIdeal.nD Cert.RNormIdeal.τ).loc Cert.RNormIdeal.main_arg2) = m ((c.tc : Thread Cert.KNormIdeal.nD Cert.KNormIdeal.τ).loc Cert.KNormIdeal.main_arg2)) →
    ∃ (v0 : (c : Dev Cert.KNormIdeal.nD) → Buf (Elt Ideal) ((c.tc : Thread Cert.KNormIdeal.nD Cert.KNormIdeal.τ).loc Cert.KNormIdeal.main_v4_0)) (v1 : (c : Dev Cert.KNormIdeal.nD) → Buf (Elt Ideal) ((c.tc : Thread Cert.KNormIdeal.nD Cert.KNormIdeal.τ).loc Cert.KNormIdeal.main_v4_1)),
      θ_run (Cert.KNormIdeal.defs (F := Ideal)) (onTc (τ := Cert.KNormIdeal.τ) (Cert.KNormIdeal.main (F := Ideal))) ⟨m, fun _ => 0, g⟩ (fun r => ∀ c : Dev Cert.KNormIdeal.nD,
          r.2.mem ((c.tc : Thread Cert.KNormIdeal.nD Cert.KNormIdeal.τ).loc Cert.KNormIdeal.main_v4_0) = v0 c
          ∧ r.2.mem ((c.tc : Thread Cert.KNormIdeal.nD Cert.KNormIdeal.τ).loc Cert.KNormIdeal.main_v4_1) = v1 c
          ∧ r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
          ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1)
          ∧ r.2.mem ((c.tc : Thread Cert.KNormIdeal.nD Cert.KNormIdeal.τ).loc Cert.KNormIdeal.main_arg2) = m ((c.tc : Thread Cert.KNormIdeal.nD Cert.KNormIdeal.τ).loc Cert.KNormIdeal.main_arg2))
      ∧ θ_run (Cert.RNormIdeal.defs (F := Ideal)) (onTc (τ := Cert.RNormIdeal.τ) (Cert.RNormIdeal.main (F := Ideal))) ⟨m', fun _ => 0, g'⟩ (fun r => ∀ c : Dev Cert.RNormIdeal.nD,
          r.2.mem ((c.tc : Thread Cert.RNormIdeal.nD Cert.RNormIdeal.τ).loc Cert.RNormIdeal.main_v15) = v0 c
          ∧ r.2.mem ((c.tc : Thread Cert.RNormIdeal.nD Cert.RNormIdeal.τ).loc Cert.RNormIdeal.main_v16) = v1 c
          ∧ r.2.mem ((c.tc : Thread Cert.RNormIdeal.nD Cert.RNormIdeal.τ).loc Cert.RNormIdeal.main_arg0) = m' ((c.tc : Thread Cert.RNormIdeal.nD Cert.RNormIdeal.τ).loc Cert.RNormIdeal.main_arg0)
          ∧ r.2.mem ((c.tc : Thread Cert.RNormIdeal.nD Cert.RNormIdeal.τ).loc Cert.RNormIdeal.main_arg1) = m' ((c.tc : Thread Cert.RNormIdeal.nD Cert.RNormIdeal.τ).loc Cert.RNormIdeal.main_arg1)
          ∧ r.2.mem ((c.tc : Thread Cert.RNormIdeal.nD Cert.RNormIdeal.τ).loc Cert.RNormIdeal.main_arg2) = m' ((c.tc : Thread Cert.RNormIdeal.nD Cert.RNormIdeal.τ).loc Cert.RNormIdeal.main_arg2))

def preserves_KQk_KQkIdeal : Prop :=
  True

def algebraic_KQkIdeal_RQkIdeal_pre_weights_finite [hKQkIdeal : Cert.KQkIdeal.Facts] [hRQkIdeal : Cert.RQkIdeal.Facts] [hPre_weights_finite : Cert.Pre_weights_finite.Facts] : Prop :=
  ∀ (m : (ℓ : Loc Cert.KQkIdeal.nD Cert.KQkIdeal.τ Cert.KQkIdeal.sig) → Buf (Elt Ideal) ℓ) (g : Dev Cert.KQkIdeal.nD → PrngReg)
    (m' : (ℓ : Loc Cert.RQkIdeal.nD Cert.RQkIdeal.τ Cert.RQkIdeal.sig) → Buf (Elt Ideal) ℓ) (g' : Dev Cert.RQkIdeal.nD → PrngReg), Pre_KQkIdeal_weights_finite m →
    (∀ c : Dev Cert.KQkIdeal.nD,
      m' ((c.tc : Thread Cert.RQkIdeal.nD Cert.RQkIdeal.τ).loc Cert.RQkIdeal.main_arg0) = m ((c.tc : Thread Cert.KQkIdeal.nD Cert.KQkIdeal.τ).loc Cert.KQkIdeal.main_arg0)
      ∧ m' ((c.tc : Thread Cert.RQkIdeal.nD Cert.RQkIdeal.τ).loc Cert.RQkIdeal.main_arg1) = m ((c.tc : Thread Cert.KQkIdeal.nD Cert.KQkIdeal.τ).loc Cert.KQkIdeal.main_arg1)
      ∧ m' ((c.tc : Thread Cert.RQkIdeal.nD Cert.RQkIdeal.τ).loc Cert.RQkIdeal.main_arg2) = m ((c.tc : Thread Cert.KQkIdeal.nD Cert.KQkIdeal.τ).loc Cert.KQkIdeal.main_arg2)) →
    ∃ (v0 : (c : Dev Cert.KQkIdeal.nD) → Buf (Elt Ideal) ((c.tc : Thread Cert.KQkIdeal.nD Cert.KQkIdeal.τ).loc Cert.KQkIdeal.main_v2_0)) (v1 : (c : Dev Cert.KQkIdeal.nD) → Buf (Elt Ideal) ((c.tc : Thread Cert.KQkIdeal.nD Cert.KQkIdeal.τ).loc Cert.KQkIdeal.main_v2_1)) (v2 : (c : Dev Cert.KQkIdeal.nD) → Buf (Elt Ideal) ((c.tc : Thread Cert.KQkIdeal.nD Cert.KQkIdeal.τ).loc Cert.KQkIdeal.main_v2_2)) (v3 : (c : Dev Cert.KQkIdeal.nD) → Buf (Elt Ideal) ((c.tc : Thread Cert.KQkIdeal.nD Cert.KQkIdeal.τ).loc Cert.KQkIdeal.main_v2_3)),
      θ_run (Cert.KQkIdeal.defs (F := Ideal)) (onTc (τ := Cert.KQkIdeal.τ) (Cert.KQkIdeal.main (F := Ideal))) ⟨m, fun _ => 0, g⟩ (fun r => ∀ c : Dev Cert.KQkIdeal.nD,
          r.2.mem ((c.tc : Thread Cert.KQkIdeal.nD Cert.KQkIdeal.τ).loc Cert.KQkIdeal.main_v2_0) = v0 c
          ∧ r.2.mem ((c.tc : Thread Cert.KQkIdeal.nD Cert.KQkIdeal.τ).loc Cert.KQkIdeal.main_v2_1) = v1 c
          ∧ r.2.mem ((c.tc : Thread Cert.KQkIdeal.nD Cert.KQkIdeal.τ).loc Cert.KQkIdeal.main_v2_2) = v2 c
          ∧ r.2.mem ((c.tc : Thread Cert.KQkIdeal.nD Cert.KQkIdeal.τ).loc Cert.KQkIdeal.main_v2_3) = v3 c
          ∧ r.2.mem ((c.tc : Thread Cert.KQkIdeal.nD Cert.KQkIdeal.τ).loc Cert.KQkIdeal.main_arg0) = m ((c.tc : Thread Cert.KQkIdeal.nD Cert.KQkIdeal.τ).loc Cert.KQkIdeal.main_arg0)
          ∧ r.2.mem ((c.tc : Thread Cert.KQkIdeal.nD Cert.KQkIdeal.τ).loc Cert.KQkIdeal.main_arg1) = m ((c.tc : Thread Cert.KQkIdeal.nD Cert.KQkIdeal.τ).loc Cert.KQkIdeal.main_arg1)
          ∧ r.2.mem ((c.tc : Thread Cert.KQkIdeal.nD Cert.KQkIdeal.τ).loc Cert.KQkIdeal.main_arg2) = m ((c.tc : Thread Cert.KQkIdeal.nD Cert.KQkIdeal.τ).loc Cert.KQkIdeal.main_arg2))
      ∧ θ_run (Cert.RQkIdeal.defs (F := Ideal)) (onTc (τ := Cert.RQkIdeal.τ) (Cert.RQkIdeal.main (F := Ideal))) ⟨m', fun _ => 0, g'⟩ (fun r => ∀ c : Dev Cert.RQkIdeal.nD,
          r.2.mem ((c.tc : Thread Cert.RQkIdeal.nD Cert.RQkIdeal.τ).loc Cert.RQkIdeal.main_v66) = v0 c
          ∧ r.2.mem ((c.tc : Thread Cert.RQkIdeal.nD Cert.RQkIdeal.τ).loc Cert.RQkIdeal.main_v68) = v1 c
          ∧ r.2.mem ((c.tc : Thread Cert.RQkIdeal.nD Cert.RQkIdeal.τ).loc Cert.RQkIdeal.main_v72) = v2 c
          ∧ r.2.mem ((c.tc : Thread Cert.RQkIdeal.nD Cert.RQkIdeal.τ).loc Cert.RQkIdeal.main_v74) = v3 c
          ∧ r.2.mem ((c.tc : Thread Cert.RQkIdeal.nD Cert.RQkIdeal.τ).loc Cert.RQkIdeal.main_arg0) = m' ((c.tc : Thread Cert.RQkIdeal.nD Cert.RQkIdeal.τ).loc Cert.RQkIdeal.main_arg0)
          ∧ r.2.mem ((c.tc : Thread Cert.RQkIdeal.nD Cert.RQkIdeal.τ).loc Cert.RQkIdeal.main_arg1) = m' ((c.tc : Thread Cert.RQkIdeal.nD Cert.RQkIdeal.τ).loc Cert.RQkIdeal.main_arg1)
          ∧ r.2.mem ((c.tc : Thread Cert.RQkIdeal.nD Cert.RQkIdeal.τ).loc Cert.RQkIdeal.main_arg2) = m' ((c.tc : Thread Cert.RQkIdeal.nD Cert.RQkIdeal.τ).loc Cert.RQkIdeal.main_arg2))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)) →
    ∃ (v0 : (c : Dev Cert.KDownIdeal.nD) → Buf (Elt Ideal) ((c.tc : Thread Cert.KDownIdeal.nD Cert.KDownIdeal.τ).loc Cert.KDownIdeal.main_v1)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v1) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v2) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)) →
    ∃ (v0 : (c : Dev Cert.KOutIdeal.nD) → Buf (Elt Ideal) ((c.tc : Thread Cert.KOutIdeal.nD Cert.KOutIdeal.τ).loc Cert.KOutIdeal.main_v2_0)) (v1 : (c : Dev Cert.KOutIdeal.nD) → Buf (Elt Ideal) ((c.tc : Thread Cert.KOutIdeal.nD Cert.KOutIdeal.τ).loc Cert.KOutIdeal.main_v2_1)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v2_0) = v0 c
          ∧ r.2.mem ((c.tc : Thread Cert.KOutIdeal.nD Cert.KOutIdeal.τ).loc Cert.KOutIdeal.main_v2_1) = v1 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v2) = v0 c
          ∧ r.2.mem ((c.tc : Thread Cert.ROutIdeal.nD Cert.ROutIdeal.τ).loc Cert.ROutIdeal.main_v16) = v1 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3))

def preserves_KMix_KMixIdeal : Prop :=
  True

def algebraic_KMixIdeal_RMixIdeal [hKMixIdeal : Cert.KMixIdeal.Facts] [hRMixIdeal : Cert.RMixIdeal.Facts] : Prop :=
  ∀ (m : (ℓ : Loc Cert.KMixIdeal.nD Cert.KMixIdeal.τ Cert.KMixIdeal.sig) → Buf (Elt Ideal) ℓ) (g : Dev Cert.KMixIdeal.nD → PrngReg)
    (m' : (ℓ : Loc Cert.RMixIdeal.nD Cert.RMixIdeal.τ Cert.RMixIdeal.sig) → Buf (Elt Ideal) ℓ) (g' : Dev Cert.RMixIdeal.nD → PrngReg), Pre_KMixIdeal m →
    (∀ c : Dev Cert.KMixIdeal.nD,
      m' ((c.tc : Thread Cert.RMixIdeal.nD Cert.RMixIdeal.τ).loc Cert.RMixIdeal.main_arg0) = m ((c.tc : Thread Cert.KMixIdeal.nD Cert.KMixIdeal.τ).loc Cert.KMixIdeal.main_arg0)
      ∧ m' ((c.tc : Thread Cert.RMixIdeal.nD Cert.RMixIdeal.τ).loc Cert.RMixIdeal.main_arg1) = m ((c.tc : Thread Cert.KMixIdeal.nD Cert.KMixIdeal.τ).loc Cert.KMixIdeal.main_arg1)
      ∧ m' ((c.tc : Thread Cert.RMixIdeal.nD Cert.RMixIdeal.τ).loc Cert.RMixIdeal.main_arg2) = m ((c.tc : Thread Cert.KMixIdeal.nD Cert.KMixIdeal.τ).loc Cert.KMixIdeal.main_arg2)
      ∧ m' ((c.tc : Thread Cert.RMixIdeal.nD Cert.RMixIdeal.τ).loc Cert.RMixIdeal.main_arg3) = m ((c.tc : Thread Cert.KMixIdeal.nD Cert.KMixIdeal.τ).loc Cert.KMixIdeal.main_arg3)
      ∧ m' ((c.tc : Thread Cert.RMixIdeal.nD Cert.RMixIdeal.τ).loc Cert.RMixIdeal.main_arg4) = m ((c.tc : Thread Cert.KMixIdeal.nD Cert.KMixIdeal.τ).loc Cert.KMixIdeal.main_arg4)
      ∧ m' ((c.tc : Thread Cert.RMixIdeal.nD Cert.RMixIdeal.τ).loc Cert.RMixIdeal.main_arg5) = m ((c.tc : Thread Cert.KMixIdeal.nD Cert.KMixIdeal.τ).loc Cert.KMixIdeal.main_arg5)) →
    ∃ (v0 : (c : Dev Cert.KMixIdeal.nD) → Buf (Elt Ideal) ((c.tc : Thread Cert.KMixIdeal.nD Cert.KMixIdeal.τ).loc Cert.KMixIdeal.main_v3)),
      θ_run (Cert.KMixIdeal.defs (F := Ideal)) (onTc (τ := Cert.KMixIdeal.τ) (Cert.KMixIdeal.main (F := Ideal))) ⟨m, fun _ => 0, g⟩ (fun r => ∀ c : Dev Cert.KMixIdeal.nD,
          r.2.mem ((c.tc : Thread Cert.KMixIdeal.nD Cert.KMixIdeal.τ).loc Cert.KMixIdeal.main_v3) = v0 c
          ∧ r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
          ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
          ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
          ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
          ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
          ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5))
      ∧ θ_run (Cert.RMixIdeal.defs (F := Ideal)) (onTc (τ := Cert.RMixIdeal.τ) (Cert.RMixIdeal.main (F := Ideal))) ⟨m', fun _ => 0, g'⟩ (fun r => ∀ c : Dev Cert.RMixIdeal.nD,
          r.2.mem ((c.tc : Thread Cert.RMixIdeal.nD Cert.RMixIdeal.τ).loc Cert.RMixIdeal.main_v20) = v0 c
          ∧ r.2.mem ((c.tc : Thread Cert.RMixIdeal.nD Cert.RMixIdeal.τ).loc Cert.RMixIdeal.main_arg0) = m' ((c.tc : Thread Cert.RMixIdeal.nD Cert.RMixIdeal.τ).loc Cert.RMixIdeal.main_arg0)
          ∧ r.2.mem ((c.tc : Thread Cert.RMixIdeal.nD Cert.RMixIdeal.τ).loc Cert.RMixIdeal.main_arg1) = m' ((c.tc : Thread Cert.RMixIdeal.nD Cert.RMixIdeal.τ).loc Cert.RMixIdeal.main_arg1)
          ∧ r.2.mem ((c.tc : Thread Cert.RMixIdeal.nD Cert.RMixIdeal.τ).loc Cert.RMixIdeal.main_arg2) = m' ((c.tc : Thread Cert.RMixIdeal.nD Cert.RMixIdeal.τ).loc Cert.RMixIdeal.main_arg2)
          ∧ r.2.mem ((c.tc : Thread Cert.RMixIdeal.nD Cert.RMixIdeal.τ).loc Cert.RMixIdeal.main_arg3) = m' ((c.tc : Thread Cert.RMixIdeal.nD Cert.RMixIdeal.τ).loc Cert.RMixIdeal.main_arg3)
          ∧ r.2.mem ((c.tc : Thread Cert.RMixIdeal.nD Cert.RMixIdeal.τ).loc Cert.RMixIdeal.main_arg4) = m' ((c.tc : Thread Cert.RMixIdeal.nD Cert.RMixIdeal.τ).loc Cert.RMixIdeal.main_arg4)
          ∧ r.2.mem ((c.tc : Thread Cert.RMixIdeal.nD Cert.RMixIdeal.τ).loc Cert.RMixIdeal.main_arg5) = m' ((c.tc : Thread Cert.RMixIdeal.nD Cert.RMixIdeal.τ).loc Cert.RMixIdeal.main_arg5))

def preserves_KUp_KUpIdeal : Prop :=
  True

def algebraic_KUpIdeal_RUpIdeal_pre_up_finite [hKUpIdeal : Cert.KUpIdeal.Facts] [hRUpIdeal : Cert.RUpIdeal.Facts] [hPre_up_finite : Cert.Pre_up_finite.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal_up_finite m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)
      ∧ m' ((c.tc : Thread Cert.RUpIdeal.nD Cert.RUpIdeal.τ).loc Cert.RUpIdeal.main_arg2) = m ((c.tc : Thread Cert.KUpIdeal.nD Cert.KUpIdeal.τ).loc Cert.KUpIdeal.main_arg2)
      ∧ m' ((c.tc : Thread Cert.RUpIdeal.nD Cert.RUpIdeal.τ).loc Cert.RUpIdeal.main_arg3) = m ((c.tc : Thread Cert.KUpIdeal.nD Cert.KUpIdeal.τ).loc Cert.KUpIdeal.main_arg3)) →
    ∃ (v0 : (c : Dev Cert.KUpIdeal.nD) → Buf (Elt Ideal) ((c.tc : Thread Cert.KUpIdeal.nD Cert.KUpIdeal.τ).loc Cert.KUpIdeal.main_v1)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v1) = v0 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
          ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
          ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v30) = v0 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1)
          ∧ r.2.mem ((c.tc : Thread Cert.RUpIdeal.nD Cert.RUpIdeal.τ).loc Cert.RUpIdeal.main_arg2) = m' ((c.tc : Thread Cert.RUpIdeal.nD Cert.RUpIdeal.τ).loc Cert.RUpIdeal.main_arg2)
          ∧ r.2.mem ((c.tc : Thread Cert.RUpIdeal.nD Cert.RUpIdeal.τ).loc Cert.RUpIdeal.main_arg3) = m' ((c.tc : Thread Cert.RUpIdeal.nD Cert.RUpIdeal.τ).loc Cert.RUpIdeal.main_arg3))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)) →
    ∃ (v0 : (c : Dev Cert.KInIdeal.nD) → Buf (Elt Ideal) ((c.tc : Thread Cert.KInIdeal.nD Cert.KInIdeal.τ).loc Cert.KInIdeal.main_v1)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v1) = v0 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v5) = v0 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1))

def preserves_KSsd_KSsdIdeal : Prop :=
  True

def preserves_KMoba_KMobaIdeal : Prop :=
  True

def Claim : Prop :=
  ∃ (hKNorm : Cert.KNorm.Facts) (hKNormIdeal : Cert.KNormIdeal.Facts) (hRNormIdeal : Cert.RNormIdeal.Facts) (hKQk : Cert.KQk.Facts) (hKQkIdeal : Cert.KQkIdeal.Facts) (hRQkIdeal : Cert.RQkIdeal.Facts) (hKDown : Cert.KDown.Facts) (hKDownIdeal : Cert.KDownIdeal.Facts) (hRDownIdeal : Cert.RDownIdeal.Facts) (hKOut : Cert.KOut.Facts) (hKOutIdeal : Cert.KOutIdeal.Facts) (hROutIdeal : Cert.ROutIdeal.Facts) (hKMix : Cert.KMix.Facts) (hKMixIdeal : Cert.KMixIdeal.Facts) (hRMixIdeal : Cert.RMixIdeal.Facts) (hKUp : Cert.KUp.Facts) (hKUpIdeal : Cert.KUpIdeal.Facts) (hRUpIdeal : Cert.RUpIdeal.Facts) (hKIn : Cert.KIn.Facts) (hKInIdeal : Cert.KInIdeal.Facts) (hRInIdeal : Cert.RInIdeal.Facts) (hKSsd : Cert.KSsd.Facts) (hKSsdIdeal : Cert.KSsdIdeal.Facts) (hKMoba : Cert.KMoba.Facts) (hKMobaIdeal : Cert.KMobaIdeal.Facts) (hPre_norm_finite : Cert.Pre_norm_finite.Facts) (hPre_weights_finite : Cert.Pre_weights_finite.Facts) (hPre_up_finite : Cert.Pre_up_finite.Facts),
    quiescent_KNorm (hKNorm := hKNorm)
    ∧ quiescent_KNormIdeal (hKNormIdeal := hKNormIdeal)
    ∧ quiescent_KNormIdeal_pre_norm_finite (hKNormIdeal := hKNormIdeal) (hPre_norm_finite := hPre_norm_finite)
    ∧ quiescent_RNormIdeal (hRNormIdeal := hRNormIdeal)
    ∧ quiescent_RNormIdeal_pre_norm_finite (hRNormIdeal := hRNormIdeal) (hPre_norm_finite := hPre_norm_finite)
    ∧ quiescent_KQk (hKQk := hKQk)
    ∧ quiescent_KQkIdeal (hKQkIdeal := hKQkIdeal)
    ∧ quiescent_KQkIdeal_pre_weights_finite (hKQkIdeal := hKQkIdeal) (hPre_weights_finite := hPre_weights_finite)
    ∧ quiescent_RQkIdeal (hRQkIdeal := hRQkIdeal)
    ∧ quiescent_RQkIdeal_pre_weights_finite (hRQkIdeal := hRQkIdeal) (hPre_weights_finite := hPre_weights_finite)
    ∧ quiescent_KDown (hKDown := hKDown)
    ∧ quiescent_KDownIdeal (hKDownIdeal := hKDownIdeal)
    ∧ quiescent_RDownIdeal (hRDownIdeal := hRDownIdeal)
    ∧ quiescent_KOut (hKOut := hKOut)
    ∧ quiescent_KOutIdeal (hKOutIdeal := hKOutIdeal)
    ∧ quiescent_ROutIdeal (hROutIdeal := hROutIdeal)
    ∧ quiescent_KMix (hKMix := hKMix)
    ∧ quiescent_KMixIdeal (hKMixIdeal := hKMixIdeal)
    ∧ quiescent_RMixIdeal (hRMixIdeal := hRMixIdeal)
    ∧ quiescent_KUp (hKUp := hKUp)
    ∧ quiescent_KUpIdeal (hKUpIdeal := hKUpIdeal)
    ∧ quiescent_KUpIdeal_pre_up_finite (hKUpIdeal := hKUpIdeal) (hPre_up_finite := hPre_up_finite)
    ∧ quiescent_RUpIdeal (hRUpIdeal := hRUpIdeal)
    ∧ quiescent_RUpIdeal_pre_up_finite (hRUpIdeal := hRUpIdeal) (hPre_up_finite := hPre_up_finite)
    ∧ quiescent_KIn (hKIn := hKIn)
    ∧ quiescent_KInIdeal (hKInIdeal := hKInIdeal)
    ∧ quiescent_RInIdeal (hRInIdeal := hRInIdeal)
    ∧ quiescent_KSsd (hKSsd := hKSsd)
    ∧ quiescent_KSsdIdeal (hKSsdIdeal := hKSsdIdeal)
    ∧ quiescent_KMoba (hKMoba := hKMoba)
    ∧ quiescent_KMobaIdeal (hKMobaIdeal := hKMobaIdeal)
    ∧ preserves_KNorm_KNormIdeal
    ∧ algebraic_KNormIdeal_RNormIdeal_pre_norm_finite (hKNormIdeal := hKNormIdeal) (hRNormIdeal := hRNormIdeal) (hPre_norm_finite := hPre_norm_finite)
    ∧ preserves_KQk_KQkIdeal
    ∧ algebraic_KQkIdeal_RQkIdeal_pre_weights_finite (hKQkIdeal := hKQkIdeal) (hRQkIdeal := hRQkIdeal) (hPre_weights_finite := hPre_weights_finite)
    ∧ preserves_KDown_KDownIdeal
    ∧ algebraic_KDownIdeal_RDownIdeal (hKDownIdeal := hKDownIdeal) (hRDownIdeal := hRDownIdeal)
    ∧ preserves_KOut_KOutIdeal
    ∧ algebraic_KOutIdeal_ROutIdeal (hKOutIdeal := hKOutIdeal) (hROutIdeal := hROutIdeal)
    ∧ preserves_KMix_KMixIdeal
    ∧ algebraic_KMixIdeal_RMixIdeal (hKMixIdeal := hKMixIdeal) (hRMixIdeal := hRMixIdeal)
    ∧ preserves_KUp_KUpIdeal
    ∧ algebraic_KUpIdeal_RUpIdeal_pre_up_finite (hKUpIdeal := hKUpIdeal) (hRUpIdeal := hRUpIdeal) (hPre_up_finite := hPre_up_finite)
    ∧ preserves_KIn_KInIdeal
    ∧ algebraic_KInIdeal_RInIdeal (hKInIdeal := hKInIdeal) (hRInIdeal := hRInIdeal)
    ∧ preserves_KSsd_KSsdIdeal
    ∧ preserves_KMoba_KMobaIdeal
-- ==== Pre_norm_finite.lean ====
abbrev S8192x2048 : Shape := ⟨2, ![8192, 2048]⟩
abbrev S2048 : Shape := ⟨1, ![2048]⟩
abbrev S2048x20544 : Shape := ⟨2, ![2048, 20544]⟩
abbrev S_ : Shape := ⟨0, ![]⟩
abbrev S2048x64 : Shape := ⟨2, ![2048, 64]⟩

class Facts : Prop where
  bcast_S_S2048 : S_.BroadcastsInDim S2048 (![] : Fin 0 → Fin S2048.rank)
  slices_S2048x20544_S2048x64_0_10240 : S2048x20544.Slices ![0, 10240] S2048x64
  bcast_S_S2048x64 : S_.BroadcastsInDim S2048x64 (![] : Fin 0 → Fin S2048x64.rank)

variable [Facts]

def fn {F : FTy → Type} [FloatOps F] (main_arg0 : FVec F S8192x2048 .f32) (main_arg1 : FVec F S2048 .f32) (main_arg2 : FVec F S2048x20544 .f32) : IVec S2048 1 × IVec S2048x64 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S2048x64 .f32 := (extractStridedSlice S2048x64 ![0, 10240] · slices_S2048x20544_S2048x64_0_10240) main_arg2
  let main_v4 : FVec F S2048x64 .f32 := Host.absf main_v3
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  (main_v2, main_v6)
-- ==== Pre_up_finite.lean ====
abbrev S8192x2048 : Shape := ⟨2, ![8192, 2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x11264 : S_.BroadcastsInDim S2048x11264 (![] : Fin 0 → Fin S2048x11264.rank)
  bcast_S_S3x11264 : S_.BroadcastsInDim S3x11264 (![] : Fin 0 → Fin S3x11264.rank)
  bcast_S_S11264 : S_.BroadcastsInDim S11264 (![] : Fin 0 → Fin S11264.rank)

variable [Facts]

def fn {F : FTy → Type} [FloatOps F] (main_arg0 : FVec F S8192x2048 .bf16) (main_arg1 : FVec F S2048x11264 .f32) (main_arg2 : FVec F S3x11264 .f32) (main_arg3 : FVec F S11264 .f32) : IVec S8192x2048 1 × IVec S2048x11264 1 × IVec S3x11264 1 × IVec S11264 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_v7 : FVec F S3x11264 .f32 := Host.absf main_arg2
  let main_cst_1 : FVec F S_ .f32 := constant S_ .f32 0x7F800000#32
  let main_v8 : FVec F S3x11264 .f32 := broadcastInDim S3x11264 ![] bcast_S_S3x11264 main_cst_1
  let main_v9 : IVec S3x11264 1 := cmpf .olt main_v7 main_v8
  let main_v10 : FVec F S11264 .f32 := Host.absf main_arg3
  let main_cst_2 : FVec F S_ .f32 := constant S_ .f32 0x7F800000#32
  let main_v11 : FVec F S11264 .f32 := broadcastInDim S11264 ![] bcast_S_S11264 main_cst_2
  let main_v12 : IVec S11264 1 := cmpf .olt main_v10 main_v11
  (main_v3, main_v6, main_v9, main_v12)
-- ==== Pre_weights_finite.lean ====
abbrev S8192x20480 : Shape := ⟨2, ![8192, 20480]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S8192x20480 .bf16) (main_arg1 : FVec F S128 .f32) (main_arg2 : FVec F S128 .f32) : IVec S128 1 × IVec S128 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  (main_v2, main_v5)
-- ==== KNorm.lean ====
abbrev S8192x2048 : Shape := ⟨2, ![8192, 2048]⟩
abbrev S2048 : Shape := ⟨1, ![2048]⟩
abbrev S2048x20544 : Shape := ⟨2, ![2048, 20544]⟩
abbrev S20544x2048 : Shape := ⟨2, ![20544, 2048]⟩
abbrev S64x2048 : Shape := ⟨2, ![64, 2048]⟩
abbrev S_ : Shape := ⟨0, ![]⟩
abbrev S128x2048 : Shape := ⟨2, ![128, 2048]⟩
abbrev S1x2048 : Shape := ⟨2, ![1, 2048]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x20544, .f32⟩
  | .hbm, ⟨3, _⟩ => ⟨S20544x2048, .f32⟩
  | .hbm, ⟨4, _⟩ => ⟨S64x2048, .f32⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S1x2048, .f32⟩
  | .hbm, ⟨9, _⟩ => ⟨S8192x2048, .bf16⟩
  | .hbm, ⟨10, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S128x2048, .f32⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RNormIdeal.lean ====
abbrev S8192x2048 : Shape := ⟨2, ![8192, 2048]⟩
abbrev S2048 : Shape := ⟨1, ![2048]⟩
abbrev S2048x20544 : Shape := ⟨2, ![2048, 20544]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x64 : Shape := ⟨2, ![2048, 64]⟩
abbrev S8192x64 : Shape := ⟨2, ![8192, 64]⟩
abbrev S8192x128 : Shape := ⟨2, ![8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x20544, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x64, .f32⟩
  | .hbm, ⟨20, _⟩ => ⟨S8192x64, .f32⟩
  | .hbm, ⟨21, _⟩ => ⟨S8192x2048, .bf16⟩
  | .hbm, ⟨22, _⟩ => ⟨S_, .i32⟩
  | .hbm, ⟨23, _⟩ => ⟨S_, .f32⟩
  | .hbm, ⟨24, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== KQk.lean ====
abbrev S8192x20480 : Shape := ⟨2, ![8192, 20480]⟩
abbrev S128 : Shape := ⟨1, ![128]⟩
abbrev S1x128 : Shape := ⟨2, ![1, 128]⟩
abbrev S16x32x128x256 : Shape := ⟨4, ![16, 32, 128, 256]⟩
abbrev S16x8192x128 : Shape := ⟨3, ![16, 8192, 128]⟩
abbrev S16x32x144x256 : Shape := ⟨4, ![16, 32, 144, 256]⟩
abbrev S16x32x32x256 : Shape := ⟨4, ![16, 32, 32, 256]⟩
abbrev S8192x128 : Shape := ⟨2, ![8192, 128]⟩
abbrev S1x32x128x256 : Shape := ⟨4, ![1, 32, 128, 256]⟩
abbrev S1x8192x128 : Shape := ⟨3, ![1, 8192, 128]⟩
abbrev S1x32x144x256 : Shape := ⟨4, ![1, 32, 144, 256]⟩
abbrev S1x32x32x256 : Shape := ⟨4, ![1, 32, 32, 256]⟩
abbrev S32x128 : Shape := ⟨2, ![32, 128]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩
abbrev S32x256 : Shape := ⟨2, ![32, 256]⟩
abbrev S1x256 : Shape := ⟨2, ![1, 256]⟩
abbrev S1x1x32x256 : Shape := ⟨4, ![1, 1, 32, 256]⟩

abbrev nBuf : Space → Nat
  | .hbm => 9
  | .vmem => 17
  | .smem => 0
  | _ => 0

abbrev bufTy : (tb : Table) → Fin (tcTables nBuf tb) → BufTy
  | .hbm, ⟨0, _⟩ => ⟨S8192x20480, .bf16⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S16x32x128x256, .bf16⟩
  | .hbm, ⟨6, _⟩ => ⟨S16x8192x128, .bf16⟩
  | .hbm, ⟨7, _⟩ => ⟨S16x32x144x256, .bf16⟩
  | .hbm, ⟨8, _⟩ => ⟨S16x32x32x256, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x128, .f32⟩
  | .local _ .vmem, ⟨7, _⟩ => ⟨S1x128, .f32⟩
  | .local _ .vmem, ⟨8, _⟩ => ⟨S1x32x128x256, .bf16⟩
  | .local _ .vmem, ⟨9, _⟩ => ⟨S1x32x128x256, .bf16⟩
  | .local _ .vmem, ⟨10, _⟩ => ⟨S1x8192x128, .bf16⟩
  | .local _ .vmem, ⟨11, _⟩ => ⟨S1x8192x128, .bf16⟩
  | .local _ .vmem, ⟨12, _⟩ => ⟨S1x32x144x256, .bf16⟩
  | .local _ .vmem, ⟨13, _⟩ => ⟨S1x32x144x256, .bf16⟩
  | .local _ .vmem, ⟨14, _⟩ => ⟨S1x32x32x256, .f32⟩
  | .local _ .vmem, ⟨15, _⟩ => ⟨S1x32x32x256, .f32⟩
  | .local _ .vmem, ⟨16, _⟩ => ⟨S32x128, .f32⟩
  | _, _ => ⟨S8192x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v10 : BitVec 32 := Scalar.addi c0_i32 c32_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v17 : BitVec 32 := Scalar.muli arg11 c256_i32
  v17
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v17 : BitVec 32 := Scalar.muli arg11 c256_i32
  let v18 : BitVec 32 := v17
  let v19 : Index := Scalar.indexCast v18
  let c0_8 : Index := 0#32
  ![v19.toNat, 0]
def k0_off2 (k0_t1 : Fin k0_t1_loop.trips) : Fin 3 → Nat :=
  let c0_14 : Index := 0#32
  let c0_i32 : BitVec 32 := 0#32
  let c1_i32 : BitVec 32 := 1#32
  let arg11 : BitVec 32 := Scf.iv c0_i32 c1_i32 k0_t1
  let c256_i32 : BitVec 32 := 256#32
  let v17 : BitVec 32 := Scalar.muli arg11 c256_i32
  let v18 : BitVec 32 := v17
  let v37 : Index := Scalar.indexCast v18
  let c0_15 : Index := 0#32
  ![0, v37.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let v45 : Index := Scalar.indexCast arg11
  let c0_18 : Index := 0#32
  ![v45.toNat, 0]
def k0_off4 (k0_t1 : Fin k0_t1_loop.trips) : Fin 4 → Nat :=
  let c0_21 : Index := 0#32
  let c0_i32 : BitVec 32 := 0#32
  let c1_i32 : BitVec 32 := 1#32
  let arg11 : BitVec 32 := Scf.iv c0_i32 c1_i32 k0_t1
  let v53 : Index := Scalar.indexCast arg11
  let c0_22 : Index := 0#32
  let c0_23 : Index := 0#32
  ![0, v53.toNat, 0, 0]
def k0_off5 (k0_t1 : Fin k0_t1_loop.trips) : Fin 4 → Nat :=
  let c0_25 : Index := 0#32
  let c0_i32 : BitVec 32 := 0#32
  let c1_i32 : BitVec 32 := 1#32
  let arg11 : BitVec 32 := Scf.iv c0_i32 c1_i32 k0_t1
  let v58 : Index := Scalar.indexCast arg11
  let c128 : Index := 128#32
  let c0_26 : Index := 0#32
  ![0, v58.toNat, 128, 0]
@[reducible] def k0_t2_loop : Scf.Loop 32 :=
  let c0_i32_4 : BitVec 32 := 0#32
  let c32_i32_5 : BitVec 32 := 32#32
  let v16 : BitVec 32 := Scalar.addi c0_i32_4 c32_i32_5
  let c1_i32_6 : BitVec 32 := 1#32
  ⟨c0_i32_4, v16, c1_i32_6⟩
def k0_mult2 (k0_t2 : Fin k0_t2_loop.trips) : BitVec 32 :=
  let c0_i32_4 : BitVec 32 := 0#32
  let c1_i32_6 : BitVec 32 := 1#32
  let arg11 : BitVec 32 := Scf.iv c0_i32_4 c1_i32_6 k0_t2
  let c256_i32 : BitVec 32 := 256#32
  let v17 : BitVec 32 := Scalar.muli arg11 c256_i32
  v17
def k0_off6 (k0_t2 : Fin k0_t2_loop.trips) : Fin 2 → Nat :=
  let c0_i32_4 : BitVec 32 := 0#32
  let c1_i32_6 : BitVec 32 := 1#32
  let arg11 : BitVec 32 := Scf.iv c0_i32_4 c1_i32_6 k0_t2
  let c256_i32 : BitVec 32 := 256#32
  let v17 : BitVec 32 := Scalar.muli arg11 c256_i32
  let v18 : BitVec 32 := v17
  let v19 : Index := Scalar.indexCast v18
  let c0_8 : Index := 0#32
  ![v19.toNat, 0]
def k0_off7 (k0_t2 : Fin k0_t2_loop.trips) : Fin 4 → Nat :=
  let c0_16 : Index := 0#32
  let c0_i32_4 : BitVec 32 := 0#32
  let c1_i32_6 : BitVec 32 := 1#32
  let arg11 : BitVec 32 := Scf.iv c0_i32_4 c1_i32_6 k0_t2
  let v42 : Index := Scalar.indexCast arg11
  let c0_17 : Index := 0#32
  let c0_18 : Index := 0#32
  ![0, v42.toNat, 0, 0]
def k0_off8 (k0_t2 : Fin k0_t2_loop.trips) : Fin 4 → Nat :=
  let c0_41 : Index := 0#32
  let c0_i32_4 : BitVec 32 := 0#32
  let c1_i32_6 : BitVec 32 := 1#32
  let arg11 : BitVec 32 := Scf.iv c0_i32_4 c1_i32_6 k0_t2
  let v114 : Index := Scalar.indexCast arg11
  let c0_42 : Index := 0#32
  let c0_43 : Index := 0#32
  ![0, v114.toNat, 0, 0]
def cc0_transform_0 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c112_i32 : BitVec 32 := 112#32
  let v0 : BitVec 32 := Scalar.addi c112_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x144x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RQkIdeal.lean ====
abbrev S8192x20480 : Shape := ⟨2, ![8192, 20480]⟩
abbrev S128 : Shape := ⟨1, ![128]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S32x256x16x128 : Shape := ⟨4, ![32, 256, 16, 128]⟩
abbrev S16x32x256x128 : Shape := ⟨4, ![16, 32, 256, 128]⟩
abbrev S16x32x128 : Shape := ⟨3, ![16, 32, 128]⟩
abbrev S16x8192x128 : Shape := ⟨3, ![16, 8192, 128]⟩
abbrev S16x8192x32 : Shape := ⟨3, ![16, 8192, 32]⟩
abbrev S8192x32 : Shape := ⟨2, ![8192, 32]⟩
abbrev S1x8192x32 : Shape := ⟨3, ![1, 8192, 32]⟩
abbrev S16x8192x3 : Shape := ⟨3, ![16, 8192, 3]⟩
abbrev S8192x3 : Shape := ⟨2, ![8192, 3]⟩
abbrev S16x8192x3x32 : Shape := ⟨4, ![16, 8192, 3, 32]⟩
abbrev S16x8192x3x1 : Shape := ⟨4, ![16, 8192, 3, 1]⟩
abbrev S1x8192x3x1 : Shape := ⟨4, ![1, 8192, 3, 1]⟩
abbrev S16x32x128x256 : Shape := ⟨4, ![16, 32, 128, 256]⟩
abbrev S16x32x16x256 : Shape := ⟨4, ![16, 32, 16, 256]⟩
abbrev S16x32x144x256 : Shape := ⟨4, ![16, 32, 144, 256]⟩
abbrev S16x32x256x32 : Shape := ⟨4, ![16, 32, 256, 32]⟩
abbrev S16x32x32x256 : Shape := ⟨4, ![16, 32, 32, 256]⟩

abbrev nBuf : Space → Nat
  | .hbm => 134
  | .vmem => 0
  | .smem => 0
  | _ => 0

abbrev hbmTy0_0 (i : Nat) : BufTy := match i % 128 with
  | 0 => ⟨S8192x20480, .bf16⟩
  | 1 => ⟨S128, .f32⟩
  | 2 => ⟨S128, .f32⟩
  | 3 => ⟨S8192x2048, .bf16⟩
  | 4 => ⟨S8192x2048, .f32⟩
  | 5 => ⟨S8192x16x128, .f32⟩
  | 6 => ⟨S8192x2048, .bf16⟩
  | 7 => ⟨S8192x2048, .f32⟩
  | 8 => ⟨S8192x16x128, .f32⟩
  | 9 => ⟨S8192x2048, .bf16⟩
  | 10 => ⟨S8192x16x128, .bf16⟩
  | 11 => ⟨S8192x16x128, .f32⟩
  | 12 => ⟨S_, .f32⟩
  | 13 => ⟨S8192x16, .f32⟩
  | 14 => ⟨S8192x16x1, .f32⟩
  | 15 => ⟨S_, .f32⟩
  | 16 => ⟨S8192x16x1, .f32⟩
  | 17 => ⟨S8192x16x1, .f32⟩
  | 18 => ⟨S_, .f32⟩
  | 19 => ⟨S8192x16x1, .f32⟩
  | 20 => ⟨S8192x16x1, .f32⟩
  | 21 => ⟨S8192x16x1, .f32⟩
  | 22 => ⟨S8192x16x128, .f32⟩
  | 23 => ⟨S8192x16x128, .f32⟩
  | 24 => ⟨S1x1x128, .f32⟩
  | 25 => ⟨S8192x16x128, .f32⟩
  | 26 => ⟨S8192x16x128, .f32⟩
  | 27 => ⟨S_, .f32⟩
  | 28 => ⟨S8192x16x128, .f32⟩
  | 29 => ⟨S8192x16x128, .f32⟩
  | 30 => ⟨S8192x16x128, .f32⟩
  | 31 => ⟨S_, .f32⟩
  | 32 => ⟨S8192x16, .f32⟩
  | 33 => ⟨S8192x16x1, .f32⟩
  | 34 => ⟨S_, .f32⟩
  | 35 => ⟨S8192x16x1, .f32⟩
  | 36 => ⟨S8192x16x1, .f32⟩
  | 37 => ⟨S_, .f32⟩
  | 38 => ⟨S8192x16x1, .f32⟩
  | 39 => ⟨S8192x16x1, .f32⟩
  | 40 => ⟨S8192x16x1, .f32⟩
  | 41 => ⟨S8192x16x128, .f32⟩
  | 42 => ⟨S8192x16x128, .f32⟩
  | 43 => ⟨S1x1x128, .f32⟩
  | 44 => ⟨S8192x16x128, .f32⟩
  | 45 => ⟨S8192x16x128, .f32⟩
  | 46 => ⟨S32x256x16x128, .f32⟩
  | 47 => ⟨S16x32x256x128, .f32⟩
  | 48 => ⟨S_, .f32⟩
  | 49 => ⟨S16x32x128, .f32⟩
  | 50 => ⟨S_, .f32⟩
  | 51 => ⟨S16x32x128, .f32⟩
  | 52 => ⟨S16x32x128, .f32⟩
  | 53 => ⟨S16x8192x128, .f32⟩
  | 54 => ⟨S16x8192x32, .f32⟩
  | 55 => ⟨S8192x32, .i32⟩
  | 56 => ⟨S_, .i32⟩
  | 57 => ⟨S_, .i32⟩
  | 58 => ⟨S8192x32, .i32⟩
  | 59 => ⟨S8192x32, .i32⟩
  | 60 => ⟨S8192x32, .i32⟩
  | 61 => ⟨S_, .i32⟩
  | 62 => ⟨S8192x32, .i32⟩
  | 63 => ⟨S8192x32, .i1⟩
  | 64 => ⟨S8192x32, .i32⟩
  | 65 => ⟨S8192x32, .i32⟩
  | 66 => ⟨S_, .i32⟩
  | 67 => ⟨S8192x32, .i32⟩
  | 68 => ⟨S8192x32, .i1⟩
  | 69 => ⟨S8192x32, .i1⟩
  | 70 => ⟨S_, .i32⟩
  | 71 => ⟨S8192x32, .i32⟩
  | 72 => ⟨S8192x32, .i32⟩
  | 73 => ⟨S8192x32, .i32⟩
  | 74 => ⟨S8192x32, .i32⟩
  | 75 => ⟨S8192x32, .i1⟩
  | 76 => ⟨S1x8192x32, .i1⟩
  | 77 => ⟨S_, .f32⟩
  | 78 => ⟨S_, .f32⟩
  | 79 => ⟨S16x8192x32, .i1⟩
  | 80 => ⟨S16x8192x32, .f32⟩
  | 81 => ⟨S16x8192x32, .f32⟩
  | 82 => ⟨S16x8192x3, .f32⟩
  | 83 => ⟨S16x8192x3, .i32⟩
  | 84 => ⟨S8192x3, .i32⟩
  | 85 => ⟨S8192x3, .i32⟩
  | 86 => ⟨S_, .i32⟩
  | 87 => ⟨S_, .i32⟩
  | 88 => ⟨S8192x3, .i32⟩
  | 89 => ⟨S8192x3, .i32⟩
  | 90 => ⟨S8192x3, .i32⟩
  | 91 => ⟨S_, .i32⟩
  | 92 => ⟨S8192x3, .i32⟩
  | 93 => ⟨S8192x3, .i1⟩
  | 94 => ⟨S8192x3, .i32⟩
  | 95 => ⟨S8192x3, .i32⟩
  | 96 => ⟨S_, .i32⟩
  | 97 => ⟨S8192x3, .i32⟩
  | 98 => ⟨S8192x3, .i1⟩
  | 99 => ⟨S8192x3, .i1⟩
  | 100 => ⟨S_, .i32⟩
  | 101 => ⟨S8192x3, .i32⟩
  | 102 => ⟨S8192x3, .i32⟩
  | 103 => ⟨S8192x3, .i32⟩
  | 104 => ⟨S8192x3, .i1⟩
  | 105 => ⟨S16x8192x3x32, .i32⟩
  | 106 => ⟨S16x8192x3x1, .i32⟩
  | 107 => ⟨S16x8192x3x32, .i32⟩
  | 108 => ⟨S16x8192x3x32, .i1⟩
  | 109 => ⟨S1x8192x3x1, .i1⟩
  | 110 => ⟨S16x8192x3x32, .i1⟩
  | 111 => ⟨S16x8192x3x32, .i1⟩
  | 112 => ⟨S_, .i1⟩
  | 113 => ⟨S16x8192x32, .i1⟩
  | 114 => ⟨S_, .f32⟩
  | 115 => ⟨S_, .f32⟩
  | 116 => ⟨S16x8192x32, .f32⟩
  | 117 => ⟨S16x8192x32, .f32⟩
  | 118 => ⟨S16x8192x32, .f32⟩
  | 119 => ⟨S_, .f32⟩
  | 120 => ⟨S16x8192x128, .f32⟩
  | 121 => ⟨S16x8192x128, .f32⟩
  | 122 => ⟨S16x32x256x128, .f32⟩
  | 123 => ⟨S16x32x128x256, .f32⟩
  | 124 => ⟨S16x32x128x256, .bf16⟩
  | 125 => ⟨S16x8192x128, .f32⟩
  | 126 => ⟨S16x8192x128, .bf16⟩
  | 127 => ⟨S32x256x16x128, .bf16⟩
  | _ => ⟨S8192x20480, .bf16⟩

abbrev hbmTy0_1 (i : Nat) : BufTy := match i % 128 with
  | 0 => ⟨S16x32x128x256, .bf16⟩
  | 1 => ⟨S_, .bf16⟩
  | 2 => ⟨S16x32x16x256, .bf16⟩
  | 3 => ⟨S16x32x144x256, .bf16⟩
  | 4 => ⟨S16x32x256x32, .f32⟩
  | 5 => ⟨S16x32x32x256, .f32⟩
  | _ => ⟨S8192x20480, .bf16⟩

abbrev hbmTy (i : Nat) : BufTy := match i / 128 with
  | 0 => hbmTy0_0 i
  | 1 => hbmTy0_1 i
  | _ => ⟨S8192x20480, .bf16⟩

abbrev bufTy : (tb : Table) → Fin (tcTables nBuf tb) → BufTy
  | .hbm, ⟨i, _⟩ => hbmTy i
  | _, _ => ⟨S8192x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v48 : Ref sig .tc := ⟨.hbm, 81, rfl⟩
abbrev main_values : Ref sig .tc := ⟨.hbm, 82, rfl⟩
abbrev main_indices : Ref sig .tc := ⟨.hbm, 83, rfl⟩
abbrev main_v49 : Ref sig .tc := ⟨.hbm, 84, rfl⟩
abbrev main_v50 : Ref sig .tc := ⟨.hbm, 85, rfl⟩
abbrev main_c_9 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_c_10 : Ref sig .tc := ⟨.hbm, 112, rfl⟩
abbrev main_v60 : Ref sig .tc := ⟨.hbm, 113, rfl⟩
abbrev main_cst_11 : Ref sig .tc := ⟨.hbm, 114, rfl⟩
abbrev main_cst_12 : Ref sig .tc := ⟨.hbm, 115, rfl⟩
abbrev main_call3_v0 : Ref sig .tc := ⟨.hbm, 116, rfl⟩
abbrev main_call3_v1 : Ref sig .tc := ⟨.hbm, 117, rfl⟩
abbrev main_v61 : Ref sig .tc := ⟨.hbm, 118, rfl⟩
abbrev main_cst_13 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_14 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩

abbrev nD : Nat := 1
abbrev τ : Topo := Topo.v7x

variable {F : FTy → Type} [FloatOps F]
-- ==== KDown.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RDownIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KOut.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ROutIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KMix.lean ====
abbrev S8192x4096 : Shape := ⟨2, ![8192, 4096]⟩
abbrev S8192x2048 : Shape := ⟨2, ![8192, 2048]⟩
abbrev S4096x2048 : Shape := ⟨2, ![4096, 2048]⟩
abbrev S2048x2048 : Shape := ⟨2, ![2048, 2048]⟩
abbrev S8192x20480 : Shape := ⟨2, ![8192, 20480]⟩
abbrev S4096 : Shape := ⟨1, ![4096]⟩
abbrev S1x4096 : Shape := ⟨2, ![1, 4096]⟩
abbrev S1024x4096 : Shape := ⟨2, ![1024, 4096]⟩
abbrev S1024x2048 : Shape := ⟨2, ![1024, 2048]⟩
abbrev S4096x512 : Shape := ⟨2, ![4096, 512]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 10
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .f32⟩
  | .hbm, ⟨3, _⟩ => ⟨S2048x2048, .f32⟩
  | .hbm, ⟨4, _⟩ => ⟨S8192x20480, .bf16⟩
  | .hbm, ⟨5, _⟩ => ⟨S4096, .f32⟩
  | .hbm, ⟨6, _⟩ => ⟨S4096x2048, .bf16⟩
  | .hbm, ⟨7, _⟩ => ⟨S2048x2048, .bf16⟩
  | .hbm, ⟨8, _⟩ => ⟨S1x4096, .f32⟩
  | .hbm, ⟨9, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .bf16⟩
  | .local _ .vmem, ⟨5, _⟩ => ⟨S4096x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RMixIdeal.lean ====
abbrev S8192x4096 : Shape := ⟨2, ![8192, 4096]⟩
abbrev S8192x2048 : Shape := ⟨2, ![8192, 2048]⟩
abbrev S4096x2048 : Shape := ⟨2, ![4096, 2048]⟩
abbrev S2048x2048 : Shape := ⟨2, ![2048, 2048]⟩
abbrev S8192x20480 : Shape := ⟨2, ![8192, 20480]⟩
abbrev S4096 : Shape := ⟨1, ![4096]⟩
abbrev S1x4096 : Shape := ⟨2, ![1, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .f32⟩
  | .hbm, ⟨3, _⟩ => ⟨S2048x2048, .f32⟩
  | .hbm, ⟨4, _⟩ => ⟨S8192x20480, .bf16⟩
  | .hbm, ⟨5, _⟩ => ⟨S4096, .f32⟩
  | .hbm, ⟨6, _⟩ => ⟨S8192x4096, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x4096, .bf16⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KUp.lean ====
abbrev S8192x2048 : Shape := ⟨2, ![8192, 2048]⟩
abbrev S2048x11264 : Shape := ⟨2, ![2048, 11264]⟩
abbrev S3x11264 : Shape := ⟨2, ![3, 11264]⟩
abbrev S11264 : Shape := ⟨1, ![11264]⟩
abbrev S1x11264 : Shape := ⟨2, ![1, 11264]⟩
abbrev S8192x5632 : Shape := ⟨2, ![8192, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S8x512 : Shape := ⟨2, ![8, 512]⟩
abbrev S1032x512 : Shape := ⟨2, ![1032, 512]⟩

abbrev nBuf : Space → Nat
  | .hbm => 6
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S1x11264, .f32⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S8x512, .f32⟩
  | .local _ .vmem, ⟨17, _⟩ => ⟨S8x512, .f32⟩
  | .local _ .vmem, ⟨18, _⟩ => ⟨S1032x512, .f32⟩
  | .local _ .vmem, ⟨19, _⟩ => ⟨S1032x512, .f32⟩
  | .local _ .vmem, ⟨20, _⟩ => ⟨S2048x512, .bf16⟩
  | .local _ .vmem, ⟨21, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RUpIdeal.lean ====
abbrev S8192x2048 : Shape := ⟨2, ![8192, 2048]⟩
abbrev S2048x11264 : Shape := ⟨2, ![2048, 11264]⟩
abbrev S3x11264 : Shape := ⟨2, ![3, 11264]⟩
abbrev S11264 : Shape := ⟨1, ![11264]⟩
abbrev S8192x11264 : Shape := ⟨2, ![8192, 11264]⟩
abbrev S_ : Shape := ⟨0, ![]⟩
abbrev S8194x11264 : Shape := ⟨2, ![8194, 11264]⟩
abbrev S1x11264 : Shape := ⟨2, ![1, 11264]⟩
abbrev S8192x5632 : Shape := ⟨2, ![8192, 5632]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S8192x2048, .f32⟩
  | .hbm, ⟨5, _⟩ => ⟨S8192x11264, .f32⟩
  | .hbm, ⟨6, _⟩ => ⟨S_, .i32⟩
  | .hbm, ⟨7, _⟩ => ⟨S_, .f32⟩
  | .hbm, ⟨8, _⟩ => ⟨S8194x11264, .f32⟩
  | .hbm, ⟨9, _⟩ => ⟨S8192x11264, .f32⟩
  | .hbm, ⟨10, _⟩ => ⟨S1x11264, .f32⟩
  | .hbm, ⟨11, _⟩ => ⟨S11264, .f32⟩
  | .hbm, ⟨12, _⟩ => ⟨S1x11264, .f32⟩
  | .hbm, ⟨13, _⟩ => ⟨S8192x11264, .f32⟩
  | .hbm, ⟨14, _⟩ => ⟨S8192x11264, .f32⟩
  | .hbm, ⟨15, _⟩ => ⟨S1x11264, .f32⟩
  | .hbm, ⟨16, _⟩ => ⟨S8192x11264, .f32⟩
  | .hbm, ⟨17, _⟩ => ⟨S8192x11264, .f32⟩
  | .hbm, ⟨18, _⟩ => ⟨S8192x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S8192x11264, .f32⟩
  | .hbm, ⟨23, _⟩ => ⟨S8192x11264, .f32⟩
  | .hbm, ⟨24, _⟩ => ⟨S8192x11264, .f32⟩
  | .hbm, ⟨25, _⟩ => ⟨S8192x11264, .f32⟩
  | .hbm, ⟨26, _⟩ => ⟨S1x11264, .f32⟩
  | .hbm, ⟨27, _⟩ => ⟨S11264, .f32⟩
  | .hbm, ⟨28, _⟩ => ⟨S1x11264, .f32⟩
  | .hbm, ⟨29, _⟩ => ⟨S8192x11264, .f32⟩
  | .hbm, ⟨30, _⟩ => ⟨S8192x11264, .f32⟩
  | .hbm, ⟨31, _⟩ => ⟨S8192x11264, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== KIn.lean ====
abbrev S8192x2048 : Shape := ⟨2, ![8192, 2048]⟩
abbrev S2048x20544 : Shape := ⟨2, ![2048, 20544]⟩
abbrev S20544x2048 : Shape := ⟨2, ![20544, 2048]⟩
abbrev S8192x20480 : Shape := ⟨2, ![8192, 20480]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x20544, .f32⟩
  | .hbm, ⟨2, _⟩ => ⟨S20544x2048, .f32⟩
  | .hbm, ⟨3, _⟩ => ⟨S8192x20480, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 4], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  let c10_i32 : BitVec 32 := 10#32
  let v1 : BitVec 1 := Scalar.cmpi .sge arg0 c10_i32
  let c64_i32 : BitVec 32 := 64#32
  let c0_i32 : BitVec 32 := 0#32
  let v2 : BitVec 32 := Scalar.select v1 c64_i32 c0_i32
  let v3 : BitVec 32 := Scalar.addi v0 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c10_i32 : BitVec 32 := 10#32
  let v1 : BitVec 1 := Scalar.cmpi .sge arg0 c10_i32
  let c64_i32 : BitVec 32 := 64#32
  let c0_i32 : BitVec 32 := 0#32
  let v2 : BitVec 32 := Scalar.select v1 c64_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RInIdeal.lean ====
abbrev S8192x2048 : Shape := ⟨2, ![8192, 2048]⟩
abbrev S2048x20544 : Shape := ⟨2, ![2048, 20544]⟩
abbrev S8192x20544 : Shape := ⟨2, ![8192, 20544]⟩
abbrev S8192x10240 : Shape := ⟨2, ![8192, 10240]⟩
abbrev S8192x20480 : Shape := ⟨2, ![8192, 20480]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x20544, .f32⟩
  | .hbm, ⟨2, _⟩ => ⟨S8192x2048, .f32⟩
  | .hbm, ⟨3, _⟩ => ⟨S8192x20544, .f32⟩
  | .hbm, ⟨4, _⟩ => ⟨S8192x10240, .f32⟩
  | .hbm, ⟨5, _⟩ => ⟨S8192x10240, .f32⟩
  | .hbm, ⟨6, _⟩ => ⟨S8192x20480, .f32⟩
  | .hbm, ⟨7, _⟩ => ⟨S8192x20480, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KSsd.lean ====
abbrev S8192x20480 : Shape := ⟨2, ![8192, 20480]⟩
abbrev S8192x128 : Shape := ⟨2, ![8192, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S1x6144 : Shape := ⟨2, ![1, 6144]⟩
abbrev S1x64 : Shape := ⟨2, ![1, 64]⟩
abbrev S_ : Shape := ⟨0, ![]⟩
abbrev S1x128 : Shape := ⟨2, ![1, 128]⟩
abbrev S64x64 : Shape := ⟨2, ![64, 64]⟩
abbrev S1x4096 : Shape := ⟨2, ![1, 4096]⟩
abbrev S8192x4096 : Shape := ⟨2, ![8192, 4096]⟩
abbrev S256x4096 : Shape := ⟨2, ![256, 4096]⟩
abbrev S256x1024 : Shape := ⟨2, ![256, 1024]⟩
abbrev S256x128 : Shape := ⟨2, ![256, 128]⟩
abbrev S4x4096 : Shape := ⟨2, ![4, 4096]⟩
abbrev S4x1024 : Shape := ⟨2, ![4, 1024]⟩
abbrev S1x1024 : Shape := ⟨2, ![1, 1024]⟩
abbrev S8x8x512 : Shape := ⟨3, ![8, 8, 512]⟩
abbrev S8x8x128 : Shape := ⟨3, ![8, 8, 128]⟩
abbrev S8x264x512 : Shape := ⟨3, ![8, 264, 512]⟩
abbrev S8x264x128 : Shape := ⟨3, ![8, 264, 128]⟩
abbrev S128x256 : Shape := ⟨2, ![128, 256]⟩
abbrev S8x128x512 : Shape := ⟨3, ![8, 128, 512]⟩
abbrev S8x2x1536x256 : Shape := ⟨4, ![8, 2, 1536, 256]⟩
abbrev S8x512 : Shape := ⟨2, ![8, 512]⟩
abbrev S1x8x512 : Shape := ⟨3, ![1, 8, 512]⟩
abbrev S8x128 : Shape := ⟨2, ![8, 128]⟩
abbrev S1x8x128 : Shape := ⟨3, ![1, 8, 128]⟩
abbrev S128x512 : Shape := ⟨2, ![128, 512]⟩
abbrev S1x128x512 : Shape := ⟨3, ![1, 128, 512]⟩
abbrev S2x1536x256 : Shape := ⟨3, ![2, 1536, 256]⟩
abbrev S1x2x1536x256 : Shape := ⟨4, ![1, 2, 1536, 256]⟩
abbrev S256x256 : Shape := ⟨2, ![256, 256]⟩
abbrev S1x264x512 : Shape := ⟨3, ![1, 264, 512]⟩
abbrev S264x512 : Shape := ⟨2, ![264, 512]⟩
abbrev S256x512 : Shape := ⟨2, ![256, 512]⟩
abbrev S1x512 : Shape := ⟨2, ![1, 512]⟩
abbrev S4x512 : Shape := ⟨2, ![4, 512]⟩
abbrev S1x264x128 : Shape := ⟨3, ![1, 264, 128]⟩
abbrev S264x128 : Shape := ⟨2, ![264, 128]⟩
abbrev S4x128 : Shape := ⟨2, ![4, 128]⟩
abbrev S1x256 : Shape := ⟨2, ![1, 256]⟩
abbrev S1x128x256 : Shape := ⟨3, ![1, 128, 256]⟩
abbrev S256x64 : Shape := ⟨2, ![256, 64]⟩
abbrev S1x1x1536x256 : Shape := ⟨4, ![1, 1, 1536, 256]⟩
abbrev S1536x256 : Shape := ⟨2, ![1536, 256]⟩
abbrev S1x1x256x64 : Shape := ⟨4, ![1, 1, 256, 64]⟩
abbrev S128x64 : Shape := ⟨2, ![128, 64]⟩
abbrev S1x1x128x64 : Shape := ⟨4, ![1, 1, 128, 64]⟩
abbrev S256 : Shape := ⟨1, ![256]⟩
abbrev S256x1 : Shape := ⟨2, ![256, 1]⟩
abbrev S1x1 : Shape := ⟨2, ![1, 1]⟩
abbrev S256x1536 : Shape := ⟨2, ![256, 1536]⟩
abbrev S128x1024 : Shape := ⟨2, ![128, 1024]⟩
abbrev S1024x256 : Shape := ⟨2, ![1024, 256]⟩

abbrev nBuf : Space → Nat
  | .hbm => 22
  | .vmem => 33
  | .smem => 0
  | _ => 0

abbrev bufTy : (tb : Table) → Fin (tcTables nBuf tb) → BufTy
  | .hbm, ⟨0, _⟩ => ⟨S8192x20480, .bf16⟩
  | .hbm, ⟨1, _⟩ => ⟨S8192x128, .f32⟩
  | .hbm, ⟨2, _⟩ => ⟨S4x6144, .f32⟩
  | .hbm, ⟨3, _⟩ => ⟨S6144, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S4096, .f32⟩
  | .hbm, ⟨8, _⟩ => ⟨S1x6144, .f32⟩
  | .hbm, ⟨9, _⟩ => ⟨S1x64, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S1x64, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S64x64, .f32⟩
  | .hbm, ⟨18, _⟩ => ⟨S4096, .f32⟩
  | .hbm, ⟨19, _⟩ => ⟨S1x4096, .f32⟩
  | .hbm, ⟨20, _⟩ => ⟨S1x4096, .f32⟩
  | .hbm, ⟨21, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x4096, .bf16⟩
  | .local _ .vmem, ⟨7, _⟩ => ⟨S256x4096, .bf16⟩
  | .local _ .vmem, ⟨8, _⟩ => ⟨S256x128, .f32⟩
  | .local _ .vmem, ⟨9, _⟩ => ⟨S256x128, .f32⟩
  | .local _ .vmem, ⟨10, _⟩ => ⟨S4x4096, .f32⟩
  | .local _ .vmem, ⟨11, _⟩ => ⟨S4x1024, .f32⟩
  | .local _ .vmem, ⟨12, _⟩ => ⟨S4x1024, .f32⟩
  | .local _ .vmem, ⟨13, _⟩ => ⟨S1x4096, .f32⟩
  | .local _ .vmem, ⟨14, _⟩ => ⟨S1x1024, .f32⟩
  | .local _ .vmem, ⟨15, _⟩ => ⟨S1x1024, .f32⟩
  | .local _ .vmem, ⟨16, _⟩ => ⟨S1x128, .f32⟩
  | .local _ .vmem, ⟨17, _⟩ => ⟨S1x128, .f32⟩
  | .local _ .vmem, ⟨18, _⟩ => ⟨S1x4096, .f32⟩
  | .local _ .vmem, ⟨19, _⟩ => ⟨S1x4096, .f32⟩
  | .local _ .vmem, ⟨20, _⟩ => ⟨S256x4096, .bf16⟩
  | .local _ .vmem, ⟨21, _⟩ => ⟨S256x4096, .bf16⟩
  | .local _ .vmem, ⟨22, _⟩ => ⟨S8x8x512, .f32⟩
  | .local _ .vmem, ⟨23, _⟩ => ⟨S8x8x128, .f32⟩
  | .local _ .vmem, ⟨24, _⟩ => ⟨S8x8x128, .f32⟩
  | .local _ .vmem, ⟨25, _⟩ => ⟨S8x264x512, .f32⟩
  | .local _ .vmem, ⟨26, _⟩ => ⟨S8x264x128, .f32⟩
  | .local _ .vmem, ⟨27, _⟩ => ⟨S8x264x128, .f32⟩
  | .local _ .vmem, ⟨28, _⟩ => ⟨S256x128, .f32⟩
  | .local _ .vmem, ⟨29, _⟩ => ⟨S128x256, .f32⟩
  | .local _ .vmem, ⟨30, _⟩ => ⟨S128x256, .f32⟩
  | .local _ .vmem, ⟨31, _⟩ => ⟨S8x128x512, .f32⟩
  | .local _ .vmem, ⟨32, _⟩ => ⟨S8x2x1536x256, .bf16⟩
  | _, _ => ⟨S8192x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_3369 : BitVec 32) : Fin 3 → Nat :=
  let arg1 : BitVec 32 := BitVec.ofNat 32 (i 1).val
  let c8_i32_3368 : BitVec 32 := 8#32
  let v5814 : BitVec 32 := Scalar.muli arg1 c8_i32_3368
  let v5815 : BitVec 32 := Scalar.addi v5814 c0_i32_3369
  let v5817 : Index := Scalar.indexCast v5815
  let c0_3371 : Index := 0#32
  let c0_3372 : Index := 0#32
  ![v5817.toNat, 0, 0]
def k0_off2 (i : grid0.Coords) (c0_i32_3369 : BitVec 32) : Fin 3 → Nat :=
  let arg1 : BitVec 32 := BitVec.ofNat 32 (i 1).val
  let c8_i32_3368 : BitVec 32 := 8#32
  let v5814 : BitVec 32 := Scalar.muli arg1 c8_i32_3368
  let v5815 : BitVec 32 := Scalar.addi v5814 c0_i32_3369
  let v5822 : Index := Scalar.indexCast v5815
  let c0_3374 : Index := 0#32
  let c0_3375 : Index := 0#32
  ![v5822.toNat, 0, 0]
def k0_off3 (i : grid0.Coords) (c0_i32_3369 : BitVec 32) : Fin 3 → Nat :=
  let arg1 : BitVec 32 := BitVec.ofNat 32 (i 1).val
  let c8_i32_3368 : BitVec 32 := 8#32
  let v5814 : BitVec 32 := Scalar.muli arg1 c8_i32_3368
  let v5815 : BitVec 32 := Scalar.addi v5814 c0_i32_3369
  let v5832 : Index := Scalar.indexCast v5815
  let c0_3380 : Index := 0#32
  let c0_3381 : Index := 0#32
  ![v5832.toNat, 0, 0]
def k0_off4 (i : grid0.Coords) (c0_i32_3 : BitVec 32) : Fin 3 → Nat :=
  let arg1 : BitVec 32 := BitVec.ofNat 32 (i 1).val
  let c8_i32 : BitVec 32 := 8#32
  let v6 : BitVec 32 := Scalar.muli arg1 c8_i32
  let v7 : BitVec 32 := Scalar.addi v6 c0_i32_3
  let v8 : Index := Scalar.indexCast v7
  let c0 : Index := 0#32
  let c0_4 : Index := 0#32
  ![v8.toNat, 0, 0]
def k0_off5 (i : grid0.Coords) (c0_i32_3 : BitVec 32) : Fin 3 → Nat :=
  let arg1 : BitVec 32 := BitVec.ofNat 32 (i 1).val
  let c8_i32 : BitVec 32 := 8#32
  let v6 : BitVec 32 := Scalar.muli arg1 c8_i32
  let v7 : BitVec 32 := Scalar.addi v6 c0_i32_3
  let v70 : Index := Scalar.indexCast v7
  let c0_54 : Index := 0#32
  let c0_55 : Index := 0#32
  ![v70.toNat, 0, 0]
def k0_off6 (i : grid0.Coords) (c0_i32_3 : BitVec 32) : Fin 3 → Nat :=
  let arg1 : BitVec 32 := BitVec.ofNat 32 (i 1).val
  let c8_i32 : BitVec 32 := 8#32
  let v6 : BitVec 32 := Scalar.muli arg1 c8_i32
  let v7 : BitVec 32 := Scalar.addi v6 c0_i32_3
  let v206 : Index := Scalar.indexCast v7
  let c0_177 : Index := 0#32
  let c0_178 : Index := 0#32
  ![v206.toNat, 0, 0]
def k0_off7 (i : grid0.Coords) (c0_i32_3 : BitVec 32) (c0_i32_181 : BitVec 32) (c0_i32_182 : BitVec 32) : Fin 2 → Nat :=
  let arg1 : BitVec 32 := BitVec.ofNat 32 (i 1).val
  let c8_i32 : BitVec 32 := 8#32
  let v6 : BitVec 32 := Scalar.muli arg1 c8_i32
  let v7 : BitVec 32 := Scalar.addi v6 c0_i32_3
  let c8_i32_180 : BitVec 32 := 8#32
  let v211 : BitVec 32 := Scalar.muli v7 c8_i32_180
  let v212 : BitVec 32 := Scalar.addi v211 c0_i32_181
  let v213 : BitVec 32 := Scalar.addi v212 c0_i32_182
  let v226 : Index := Scalar.indexCast v213
  let c0_194 : Index := 0#32
  ![v226.toNat, 0]
def k0_off8 (i : grid0.Coords) (c0_i32_3 : BitVec 32) : Fin 3 → Nat :=
  let arg1 : BitVec 32 := BitVec.ofNat 32 (i 1).val
  let c8_i32 : BitVec 32 := 8#32
  let v6 : BitVec 32 := Scalar.muli arg1 c8_i32
  let v7 : BitVec 32 := Scalar.addi v6 c0_i32_3
  let v447 : Index := Scalar.indexCast v7
  let c0_270 : Index := 0#32
  let c256_271 : Index := 256#32
  ![v447.toNat, 0, 256]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KMoba.lean ====
abbrev S16x32x128x256 : Shape := ⟨4, ![16, 32, 128, 256]⟩
abbrev S16x8192x128 : Shape := ⟨3, ![16, 8192, 128]⟩
abbrev S16x32x144x256 : Shape := ⟨4, ![16, 32, 144, 256]⟩
abbrev S16x32x32x256 : Shape := ⟨4, ![16, 32, 32, 256]⟩
abbrev S32x16 : Shape := ⟨2, ![32, 16]⟩
abbrev S16x32 : Shape := ⟨2, ![16, 32]⟩
abbrev S8192x2048 : Shape := ⟨2, ![8192, 2048]⟩
abbrev S4x1x128x256 : Shape := ⟨4, ![4, 1, 128, 256]⟩
abbrev S4x8192x128 : Shape := ⟨3, ![4, 8192, 128]⟩
abbrev S4x32x144x256 : Shape := ⟨4, ![4, 32, 144, 256]⟩
abbrev S4x1x32x256 : Shape := ⟨4, ![4, 1, 32, 256]⟩
abbrev S256x512 : Shape := ⟨2, ![256, 512]⟩
abbrev S4x256x256 : Shape := ⟨3, ![4, 256, 256]⟩
abbrev S4x1x256 : Shape := ⟨3, ![4, 1, 256]⟩
abbrev S4x144x256 : Shape := ⟨3, ![4, 144, 256]⟩
abbrev S256x256 : Shape := ⟨2, ![256, 256]⟩
abbrev S1x1 : Shape := ⟨2, ![1, 1]⟩
abbrev S1x256x256 : Shape := ⟨3, ![1, 256, 256]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S256 : Shape := ⟨1, ![256]⟩
abbrev S1x256 : Shape := ⟨2, ![1, 256]⟩
abbrev S1x1x256 : Shape := ⟨3, ![1, 1, 256]⟩
abbrev S1x1x144x256 : Shape := ⟨4, ![1, 1, 144, 256]⟩
abbrev S144x256 : Shape := ⟨2, ![144, 256]⟩
abbrev S1x144x256 : Shape := ⟨3, ![1, 144, 256]⟩
abbrev S1x1x1x256 : Shape := ⟨4, ![1, 1, 1, 256]⟩
abbrev S1x1792x128 : Shape := ⟨3, ![1, 1792, 128]⟩
abbrev S1792x128 : Shape := ⟨2, ![1792, 128]⟩
abbrev S1792x256 : Shape := ⟨2, ![1792, 256]⟩
abbrev S1x768x128 : Shape := ⟨3, ![1, 768, 128]⟩
abbrev S768x128 : Shape := ⟨2, ![768, 128]⟩
abbrev S768x256 : Shape := ⟨2, ![768, 256]⟩

abbrev nBuf : Space → Nat
  | .hbm => 7
  | .vmem => 38
  | .smem => 1
  | _ => 0

abbrev bufTy : (tb : Table) → Fin (tcTables nBuf tb) → BufTy
  | .hbm, ⟨0, _⟩ => ⟨S16x32x128x256, .bf16⟩
  | .hbm, ⟨1, _⟩ => ⟨S16x8192x128, .bf16⟩
  | .hbm, ⟨2, _⟩ => ⟨S16x32x144x256, .bf16⟩
  | .hbm, ⟨3, _⟩ => ⟨S16x32x32x256, .f32⟩
  | .hbm, ⟨4, _⟩ => ⟨S32x16, .f32⟩
  | .hbm, ⟨5, _⟩ => ⟨S16x32, .f32⟩
  | .hbm, ⟨6, _⟩ => ⟨S8192x2048, .bf16⟩
  | .local _ .vmem, ⟨0, _⟩ => ⟨S4x1x128x256, .bf16⟩
  | .local _ .vmem, ⟨1, _⟩ => ⟨S4x1x128x256, .bf16⟩
  | .local _ .vmem, ⟨2, _⟩ => ⟨S4x8192x128, .bf16⟩
  | .local _ .vmem, ⟨3, _⟩ => ⟨S4x8192x128, .bf16⟩
  | .local _ .vmem, ⟨4, _⟩ => ⟨S4x32x144x256, .bf16⟩
  | .local _ .vmem, ⟨5, _⟩ => ⟨S4x32x144x256, .bf16⟩
  | .local _ .vmem, ⟨6, _⟩ => ⟨S4x1x32x256, .f32⟩
  | .local _ .vmem, ⟨7, _⟩ => ⟨S4x1x32x256, .f32⟩
  | .local _ .vmem, ⟨8, _⟩ => ⟨S256x512, .bf16⟩
  | .local _ .vmem, ⟨9, _⟩ => ⟨S256x512, .bf16⟩
  | .local _ .vmem, ⟨10, _⟩ => ⟨S4x256x256, .f32⟩
  | .local _ .vmem, ⟨11, _⟩ => ⟨S4x256x256, .f32⟩
  | .local _ .vmem, ⟨12, _⟩ => ⟨S4x1x256, .f32⟩
  | .local _ .vmem, ⟨13, _⟩ => ⟨S4x144x256, .f32⟩
  | .local _ .vmem, ⟨14, _⟩ => ⟨S4x256x256, .f32⟩
  | .local _ .vmem, ⟨15, _⟩ => ⟨S4x256x256, .f32⟩
  | .local _ .vmem, ⟨16, _⟩ => ⟨S4x256x256, .f32⟩
  | .local _ .vmem, ⟨17, _⟩ => ⟨S4x256x256, .f32⟩
  | .local _ .vmem, ⟨18, _⟩ => ⟨S4x256x256, .f32⟩
  | .local _ .vmem, ⟨19, _⟩ => ⟨S4x256x256, .f32⟩
  | .local _ .vmem, ⟨20, _⟩ => ⟨S4x256x256, .f32⟩
  | .local _ .vmem, ⟨21, _⟩ => ⟨S4x256x256, .f32⟩
  | .local _ .vmem, ⟨22, _⟩ => ⟨S4x256x256, .bf16⟩
  | .local _ .vmem, ⟨23, _⟩ => ⟨S4x256x256, .bf16⟩
  | .local _ .vmem, ⟨24, _⟩ => ⟨S4x256x256, .bf16⟩
  | .local _ .vmem, ⟨25, _⟩ => ⟨S4x256x256, .bf16⟩
  | .local _ .vmem, ⟨26, _⟩ => ⟨S4x256x256, .bf16⟩
  | .local _ .vmem, ⟨27, _⟩ => ⟨S4x256x256, .bf16⟩
  | .local _ .vmem, ⟨28, _⟩ => ⟨S4x256x256, .bf16⟩
  | .local _ .vmem, ⟨29, _⟩ => ⟨S4x256x256, .bf16⟩
  | .local _ .vmem, ⟨30, _⟩ => ⟨S4x1x256, .f32⟩
  | .local _ .vmem, ⟨31, _⟩ => ⟨S4x1x256, .f32⟩
  | .local _ .vmem, ⟨32, _⟩ => ⟨S4x1x256, .f32⟩
  | .local _ .vmem, ⟨33, _⟩ => ⟨S4x1x256, .f32⟩
  | .local _ .vmem, ⟨34, _⟩ => ⟨S4x1x256, .f32⟩
  | .local _ .vmem, ⟨35, _⟩ => ⟨S4x1x256, .f32⟩
  | .local _ .vmem, ⟨36, _⟩ => ⟨S4x1x256, .f32⟩
  | .local _ .vmem, ⟨37, _⟩ => ⟨S4x1x256, .f32⟩
  | .local _ .smem, ⟨0, _⟩ => ⟨S16x32, .f32⟩
  | _, _ => ⟨S16x32x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_scratch14 : Ref sig .tc := ⟨.vmem, 24, rfl⟩
abbrev cc0_scratch15 : Ref sig .tc := ⟨.vmem, 25, rfl⟩
abbrev cc0_scratch16 : Ref sig .tc := ⟨.vmem, 26, rfl⟩
abbrev cc0_scratch17 : Ref sig .tc := ⟨.vmem, 27, rfl⟩
abbrev cc0_scratch18 : Ref sig .tc := ⟨.vmem, 28, rfl⟩
abbrev cc0_scratch19 : Ref sig .tc := ⟨.vmem, 29, rfl⟩
abbrev cc0_scratch20 : Ref sig .tc := ⟨.vmem, 30, rfl⟩
abbrev cc0_scratch21 : Ref sig .tc := ⟨.vmem, 31, rfl⟩
abbrev cc0_scratch22 : Ref sig .tc := ⟨.vmem, 32, rfl⟩
abbrev cc0_scratch23 : Ref sig .tc := ⟨.vmem, 33, rfl⟩
abbrev cc0_scratch24 : Ref sig .tc := ⟨.vmem, 34, rfl⟩
abbrev cc0_scratch25 : Ref sig .tc := ⟨.vmem, 35, rfl⟩
abbrev cc0_scratch26 : Ref sig .tc := ⟨.vmem, 36, rfl⟩
abbrev cc0_scratch27 : Ref sig .tc := ⟨.vmem, 37, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v653 : Index := Scalar.indexCast v652
  let c31 : Index := 31#32
  ![v653.toNat, 31]
def k0_off2 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v660 : Index := Scalar.indexCast v652
  let c0_517 : Index := 0#32
  ![v660.toNat, 0]
def k0_off3 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v666 : Index := Scalar.indexCast v652
  let c1_519 : Index := 1#32
  ![v666.toNat, 1]
def k0_off4 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v672 : Index := Scalar.indexCast v652
  let c2_521 : Index := 2#32
  ![v672.toNat, 2]
def k0_off5 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v678 : Index := Scalar.indexCast v652
  let c3_522 : Index := 3#32
  ![v678.toNat, 3]
def k0_off6 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v684 : Index := Scalar.indexCast v652
  let c4 : Index := 4#32
  ![v684.toNat, 4]
def k0_off7 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v690 : Index := Scalar.indexCast v652
  let c5 : Index := 5#32
  ![v690.toNat, 5]
def k0_off8 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v696 : Index := Scalar.indexCast v652
  let c6 : Index := 6#32
  ![v696.toNat, 6]
def k0_off9 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v702 : Index := Scalar.indexCast v652
  let c7 : Index := 7#32
  ![v702.toNat, 7]
def k0_off10 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v708 : Index := Scalar.indexCast v652
  let c8 : Index := 8#32
  ![v708.toNat, 8]
def k0_off11 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v714 : Index := Scalar.indexCast v652
  let c9 : Index := 9#32
  ![v714.toNat, 9]
def k0_off12 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v720 : Index := Scalar.indexCast v652
  let c10 : Index := 10#32
  ![v720.toNat, 10]
def k0_off13 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v726 : Index := Scalar.indexCast v652
  let c11 : Index := 11#32
  ![v726.toNat, 11]
def k0_off14 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v732 : Index := Scalar.indexCast v652
  let c12 : Index := 12#32
  ![v732.toNat, 12]
def k0_off15 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v738 : Index := Scalar.indexCast v652
  let c13 : Index := 13#32
  ![v738.toNat, 13]
def k0_off16 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v744 : Index := Scalar.indexCast v652
  let c14 : Index := 14#32
  ![v744.toNat, 14]
def k0_off17 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v750 : Index := Scalar.indexCast v652
  let c15 : Index := 15#32
  ![v750.toNat, 15]
def k0_off18 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v756 : Index := Scalar.indexCast v652
  let c16 : Index := 16#32
  ![v756.toNat, 16]
def k0_off19 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v762 : Index := Scalar.indexCast v652
  let c17 : Index := 17#32
  ![v762.toNat, 17]
def k0_off20 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v768 : Index := Scalar.indexCast v652
  let c18 : Index := 18#32
  ![v768.toNat, 18]
def k0_off21 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v774 : Index := Scalar.indexCast v652
  let c19 : Index := 19#32
  ![v774.toNat, 19]
def k0_off22 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v780 : Index := Scalar.indexCast v652
  let c20 : Index := 20#32
  ![v780.toNat, 20]
def k0_off23 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v786 : Index := Scalar.indexCast v652
  let c21 : Index := 21#32
  ![v786.toNat, 21]
def k0_off24 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v792 : Index := Scalar.indexCast v652
  let c22 : Index := 22#32
  ![v792.toNat, 22]
def k0_off25 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v798 : Index := Scalar.indexCast v652
  let c23 : Index := 23#32
  ![v798.toNat, 23]
def k0_off26 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v804 : Index := Scalar.indexCast v652
  let c24 : Index := 24#32
  ![v804.toNat, 24]
def k0_off27 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v810 : Index := Scalar.indexCast v652
  let c25 : Index := 25#32
  ![v810.toNat, 25]
def k0_off28 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v816 : Index := Scalar.indexCast v652
  let c26 : Index := 26#32
  ![v816.toNat, 26]
def k0_off29 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v822 : Index := Scalar.indexCast v652
  let c27 : Index := 27#32
  ![v822.toNat, 27]
def k0_off30 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v828 : Index := Scalar.indexCast v652
  let c28 : Index := 28#32
  ![v828.toNat, 28]
def k0_off31 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v834 : Index := Scalar.indexCast v652
  let c29 : Index := 29#32
  ![v834.toNat, 29]
def k0_off32 (i : grid0.Coords) (c0_i32_513 : BitVec 32) : Fin 2 → Nat :=
  let arg0 : BitVec 32 := BitVec.ofNat 32 (i 0).val
  let c4_i32_512 : BitVec 32 := 4#32
  let v651 : BitVec 32 := Scalar.muli arg0 c4_i32_512
  let v652 : BitVec 32 := Scalar.addi v651 c0_i32_513
  let v840 : Index := Scalar.indexCast v652
  let c30 : Index := 30#32
  ![v840.toNat, 30]
def k0_mult1 (i : grid0.Coords) : BitVec 32 :=
  let c31_i32 : BitVec 32 := 31#32
  let c0_i32_6 : BitVec 32 := 0#32
  let arg1 : BitVec 32 := BitVec.ofNat 32 (i 1).val
  let v9 : BitVec 32 := Scalar.maxsi c0_i32_6 arg1
  let v10 : BitVec 32 := Scalar.minsi c31_i32 v9
  let c256_i32 : BitVec 32 := 256#32
  let v11 : BitVec 32 := Scalar.muli v10 c256_i32
  v11
def k0_off33 (i : grid0.Coords) : Fin 3 → Nat :=
  let c0 : Index := 0#32
  let c31_i32 : BitVec 32 := 31#32
  let c0_i32_6 : BitVec 32 := 0#32
  let arg1 : BitVec 32 := BitVec.ofNat 32 (i 1).val
  let v9 : BitVec 32 := Scalar.maxsi c0_i32_6 arg1
  let v10 : BitVec 32 := Scalar.minsi c31_i32 v9
  let c256_i32 : BitVec 32 := 256#32
  let v11 : BitVec 32 := Scalar.muli v10 c256_i32
  let v12 : BitVec 32 := v11
  let v13 : Index := Scalar.indexCast v12
  let c0_7 : Index := 0#32
  ![0, v13.toNat, 0]
def k0_mult2 (i : grid0.Coords) : BitVec 32 :=
  let c31_i32_17 : BitVec 32 := 31#32
  let c0_i32_16 : BitVec 32 := 0#32
  let arg1 : BitVec 32 := BitVec.ofNat 32 (i 1).val
  let v22 : BitVec 32 := Scalar.maxsi c0_i32_16 arg1
  let v23 : BitVec 32 := Scalar.minsi c31_i32_17 v22
  let c256_i32_18 : BitVec 32 := 256#32
  let v24 : BitVec 32 := Scalar.muli v23 c256_i32_18
  v24
def k0_off34 (i : grid0.Coords) : Fin 3 → Nat :=
  let c1 : Index := 1#32
  let c31_i32_17 : BitVec 32 := 31#32
  let c0_i32_16 : BitVec 32 := 0#32
  let arg1 : BitVec 32 := BitVec.ofNat 32 (i 1).val
  let v22 : BitVec 32 := Scalar.maxsi c0_i32_16 arg1
  let v23 : BitVec 32 := Scalar.minsi c31_i32_17 v22
  let c256_i32_18 : BitVec 32 := 256#32
  let v24 : BitVec 32 := Scalar.muli v23 c256_i32_18
  let v25 : BitVec 32 := v24
  let v26 : Index := Scalar.indexCast v25
  let c0_19 : Index := 0#32
  ![1, v26.toNat, 0]
def k0_mult3 (i : grid0.Coords) : BitVec 32 :=
  let c31_i32_29 : BitVec 32 := 31#32
  let c0_i32_28 : BitVec 32 := 0#32
  let arg1 : BitVec 32 := BitVec.ofNat 32 (i 1).val
  let v35 : BitVec 32 := Scalar.maxsi c0_i32_28 arg1
  let v36 : BitVec 32 := Scalar.minsi c31_i32_29 v35
  let c256_i32_30 : BitVec 32 := 256#32
  let v37 : BitVec 32 := Scalar.muli v36 c256_i32_30
  v37
def k0_off35 (i : grid0.Coords) : Fin 3 → Nat :=
  let c2 : Index := 2#32
  let c31_i32_29 : BitVec 32 := 31#32
  let c0_i32_28 : BitVec 32 := 0#32
  let arg1 : BitVec 32 := BitVec.ofNat 32 (i 1).val
  let v35 : BitVec 32 := Scalar.maxsi c0_i32_28 arg1
  let v36 : BitVec 32 := Scalar.minsi c31_i32_29 v35
  let c256_i32_30 : BitVec 32 := 256#32
  let v37 : BitVec 32 := Scalar.muli v36 c256_i32_30
  let v38 : BitVec 32 := v37
  let v39 : Index := Scalar.indexCast v38
  let c0_31 : Index := 0#32
  ![2, v39.toNat, 0]
def k0_mult4 (i : grid0.Coords) : BitVec 32 :=
  let c31_i32_41 : BitVec 32 := 31#32
  let c0_i32_40 : BitVec 32 := 0#32
  let arg1 : BitVec 32 := BitVec.ofNat 32 (i 1).val
  let v48 : BitVec 32 := Scalar.maxsi c0_i32_40 arg1
  let v49 : BitVec 32 := Scalar.minsi c31_i32_41 v48
  let c256_i32_42 : BitVec 32 := 256#32
  let v50 : BitVec 32 := Scalar.muli v49 c256_i32_42
  v50
def k0_off36 (i : grid0.Coords) : Fin 3 → Nat :=
  let c3 : Index := 3#32
  let c31_i32_41 : BitVec 32 := 31#32
  let c0_i32_40 : BitVec 32 := 0#32
  let arg1 : BitVec 32 := BitVec.ofNat 32 (i 1).val
  let v48 : BitVec 32 := Scalar.maxsi c0_i32_40 arg1
  let v49 : BitVec 32 := Scalar.minsi c31_i32_41 v48
  let c256_i32_42 : BitVec 32 := 256#32
  let v50 : BitVec 32 := Scalar.muli v49 c256_i32_42
  let v51 : BitVec 32 := v50
  let v52 : Index := Scalar.indexCast v51
  let c0_43 : Index := 0#32
  ![3, v52.toNat, 0]
def k0_mult5 (i : grid0.Coords) : BitVec 32 :=
  let c31_i32_53 : BitVec 32 := 31#32
  let c0_i32_52 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v61 : BitVec 32 := Scalar.maxsi c0_i32_52 v4
  let v62 : BitVec 32 := Scalar.minsi c31_i32_53 v61
  let c256_i32_54 : BitVec 32 := 256#32
  let v63 : BitVec 32 := Scalar.muli v62 c256_i32_54
  v63
def k0_off37 (i : grid0.Coords) : Fin 3 → Nat :=
  let c0_55 : Index := 0#32
  let c31_i32_53 : BitVec 32 := 31#32
  let c0_i32_52 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v61 : BitVec 32 := Scalar.maxsi c0_i32_52 v4
  let v62 : BitVec 32 := Scalar.minsi c31_i32_53 v61
  let c256_i32_54 : BitVec 32 := 256#32
  let v63 : BitVec 32 := Scalar.muli v62 c256_i32_54
  let v64 : BitVec 32 := v63
  let v65 : Index := Scalar.indexCast v64
  let c0_56 : Index := 0#32
  ![0, v65.toNat, 0]
def k0_mult6 (i : grid0.Coords) : BitVec 32 :=
  let c31_i32_66 : BitVec 32 := 31#32
  let c0_i32_65 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v74 : BitVec 32 := Scalar.maxsi c0_i32_65 v4
  let v75 : BitVec 32 := Scalar.minsi c31_i32_66 v74
  let c256_i32_67 : BitVec 32 := 256#32
  let v76 : BitVec 32 := Scalar.muli v75 c256_i32_67
  v76
def k0_off38 (i : grid0.Coords) : Fin 3 → Nat :=
  let c1_68 : Index := 1#32
  let c31_i32_66 : BitVec 32 := 31#32
  let c0_i32_65 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v74 : BitVec 32 := Scalar.maxsi c0_i32_65 v4
  let v75 : BitVec 32 := Scalar.minsi c31_i32_66 v74
  let c256_i32_67 : BitVec 32 := 256#32
  let v76 : BitVec 32 := Scalar.muli v75 c256_i32_67
  let v77 : BitVec 32 := v76
  let v78 : Index := Scalar.indexCast v77
  let c0_69 : Index := 0#32
  ![1, v78.toNat, 0]
def k0_mult7 (i : grid0.Coords) : BitVec 32 :=
  let c31_i32_79 : BitVec 32 := 31#32
  let c0_i32_78 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v87 : BitVec 32 := Scalar.maxsi c0_i32_78 v4
  let v88 : BitVec 32 := Scalar.minsi c31_i32_79 v87
  let c256_i32_80 : BitVec 32 := 256#32
  let v89 : BitVec 32 := Scalar.muli v88 c256_i32_80
  v89
def k0_off39 (i : grid0.Coords) : Fin 3 → Nat :=
  let c2_81 : Index := 2#32
  let c31_i32_79 : BitVec 32 := 31#32
  let c0_i32_78 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v87 : BitVec 32 := Scalar.maxsi c0_i32_78 v4
  let v88 : BitVec 32 := Scalar.minsi c31_i32_79 v87
  let c256_i32_80 : BitVec 32 := 256#32
  let v89 : BitVec 32 := Scalar.muli v88 c256_i32_80
  let v90 : BitVec 32 := v89
  let v91 : Index := Scalar.indexCast v90
  let c0_82 : Index := 0#32
  ![2, v91.toNat, 0]
def k0_mult8 (i : grid0.Coords) : BitVec 32 :=
  let c31_i32_92 : BitVec 32 := 31#32
  let c0_i32_91 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v100 : BitVec 32 := Scalar.maxsi c0_i32_91 v4
  let v101 : BitVec 32 := Scalar.minsi c31_i32_92 v100
  let c256_i32_93 : BitVec 32 := 256#32
  let v102 : BitVec 32 := Scalar.muli v101 c256_i32_93
  v102
def k0_off40 (i : grid0.Coords) : Fin 3 → Nat :=
  let c3_94 : Index := 3#32
  let c31_i32_92 : BitVec 32 := 31#32
  let c0_i32_91 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v100 : BitVec 32 := Scalar.maxsi c0_i32_91 v4
  let v101 : BitVec 32 := Scalar.minsi c31_i32_92 v100
  let c256_i32_93 : BitVec 32 := 256#32
  let v102 : BitVec 32 := Scalar.muli v101 c256_i32_93
  let v103 : BitVec 32 := v102
  let v104 : Index := Scalar.indexCast v103
  let c0_95 : Index := 0#32
  ![3, v104.toNat, 0]
def k0_mult9 : BitVec 32 :=
  let c31_i32_106 : BitVec 32 := 31#32
  let c0_i32_105 : BitVec 32 := 0#32
  let c0_i32_104 : BitVec 32 := 0#32
  let v113 : BitVec 32 := Scalar.maxsi c0_i32_105 c0_i32_104
  let v114 : BitVec 32 := Scalar.minsi c31_i32_106 v113
  let c256_i32_107 : BitVec 32 := 256#32
  let v115 : BitVec 32 := Scalar.muli v114 c256_i32_107
  v115
def k0_off41 : Fin 3 → Nat :=
  let c0_108 : Index := 0#32
  let c31_i32_106 : BitVec 32 := 31#32
  let c0_i32_105 : BitVec 32 := 0#32
  let c0_i32_104 : BitVec 32 := 0#32
  let v113 : BitVec 32 := Scalar.maxsi c0_i32_105 c0_i32_104
  let v114 : BitVec 32 := Scalar.minsi c31_i32_106 v113
  let c256_i32_107 : BitVec 32 := 256#32
  let v115 : BitVec 32 := Scalar.muli v114 c256_i32_107
  let v116 : BitVec 32 := v115
  let v117 : Index := Scalar.indexCast v116
  let c0_109 : Index := 0#32
  ![0, v117.toNat, 0]
def k0_mult10 : BitVec 32 :=
  let c31_i32_120 : BitVec 32 := 31#32
  let c0_i32_119 : BitVec 32 := 0#32
  let c0_i32_118 : BitVec 32 := 0#32
  let v126 : BitVec 32 := Scalar.maxsi c0_i32_119 c0_i32_118
  let v127 : BitVec 32 := Scalar.minsi c31_i32_120 v126
  let c256_i32_121 : BitVec 32 := 256#32
  let v128 : BitVec 32 := Scalar.muli v127 c256_i32_121
  v128
def k0_off42 : Fin 3 → Nat :=
  let c1_122 : Index := 1#32
  let c31_i32_120 : BitVec 32 := 31#32
  let c0_i32_119 : BitVec 32 := 0#32
  let c0_i32_118 : BitVec 32 := 0#32
  let v126 : BitVec 32 := Scalar.maxsi c0_i32_119 c0_i32_118
  let v127 : BitVec 32 := Scalar.minsi c31_i32_120 v126
  let c256_i32_121 : BitVec 32 := 256#32
  let v128 : BitVec 32 := Scalar.muli v127 c256_i32_121
  let v129 : BitVec 32 := v128
  let v130 : Index := Scalar.indexCast v129
  let c0_123 : Index := 0#32
  ![1, v130.toNat, 0]
def k0_mult11 : BitVec 32 :=
  let c31_i32_134 : BitVec 32 := 31#32
  let c0_i32_133 : BitVec 32 := 0#32
  let c0_i32_132 : BitVec 32 := 0#32
  let v139 : BitVec 32 := Scalar.maxsi c0_i32_133 c0_i32_132
  let v140 : BitVec 32 := Scalar.minsi c31_i32_134 v139
  let c256_i32_135 : BitVec 32 := 256#32
  let v141 : BitVec 32 := Scalar.muli v140 c256_i32_135
  v141
def k0_off43 : Fin 3 → Nat :=
  let c2_136 : Index := 2#32
  let c31_i32_134 : BitVec 32 := 31#32
  let c0_i32_133 : BitVec 32 := 0#32
  let c0_i32_132 : BitVec 32 := 0#32
  let v139 : BitVec 32 := Scalar.maxsi c0_i32_133 c0_i32_132
  let v140 : BitVec 32 := Scalar.minsi c31_i32_134 v139
  let c256_i32_135 : BitVec 32 := 256#32
  let v141 : BitVec 32 := Scalar.muli v140 c256_i32_135
  let v142 : BitVec 32 := v141
  let v143 : Index := Scalar.indexCast v142
  let c0_137 : Index := 0#32
  ![2, v143.toNat, 0]
def k0_mult12 : BitVec 32 :=
  let c31_i32_148 : BitVec 32 := 31#32
  let c0_i32_147 : BitVec 32 := 0#32
  let c0_i32_146 : BitVec 32 := 0#32
  let v152 : BitVec 32 := Scalar.maxsi c0_i32_147 c0_i32_146
  let v153 : BitVec 32 := Scalar.minsi c31_i32_148 v152
  let c256_i32_149 : BitVec 32 := 256#32
  let v154 : BitVec 32 := Scalar.muli v153 c256_i32_149
  v154
def k0_off44 : Fin 3 → Nat :=
  let c3_150 : Index := 3#32
  let c31_i32_148 : BitVec 32 := 31#32
  let c0_i32_147 : BitVec 32 := 0#32
  let c0_i32_146 : BitVec 32 := 0#32
  let v152 : BitVec 32 := Scalar.maxsi c0_i32_147 c0_i32_146
  let v153 : BitVec 32 := Scalar.minsi c31_i32_148 v152
  let c256_i32_149 : BitVec 32 := 256#32
  let v154 : BitVec 32 := Scalar.muli v153 c256_i32_149
  let v155 : BitVec 32 := v154
  let v156 : Index := Scalar.indexCast v155
  let c0_151 : Index := 0#32
  ![3, v156.toNat, 0]
def k0_off45 (i : grid0.Coords) : Fin 4 → Nat :=
  let c0_212 : Index := 0#32
  let arg1 : BitVec 32 := BitVec.ofNat 32 (i 1).val
  let v233 : Index := Scalar.indexCast arg1
  let c0_213 : Index := 0#32
  let c0_214 : Index := 0#32
  ![0, v233.toNat, 0, 0]
def k0_off46 (i : grid0.Coords) : Fin 4 → Nat :=
  let c1_222 : Index := 1#32
  let arg1 : BitVec 32 := BitVec.ofNat 32 (i 1).val
  let v242 : Index := Scalar.indexCast arg1
  let c0_223 : Index := 0#32
  let c0_224 : Index := 0#32
  ![1, v242.toNat, 0, 0]
def k0_off47 (i : grid0.Coords) : Fin 4 → Nat :=
  let c2_232 : Index := 2#32
  let arg1 : BitVec 32 := BitVec.ofNat 32 (i 1).val
  let v251 : Index := Scalar.indexCast arg1
  let c0_233 : Index := 0#32
  let c0_234 : Index := 0#32
  ![2, v251.toNat, 0, 0]
def k0_off48 (i : grid0.Coords) : Fin 4 → Nat :=
  let c3_242 : Index := 3#32
  let arg1 : BitVec 32 := BitVec.ofNat 32 (i 1).val
  let v260 : Index := Scalar.indexCast arg1
  let c0_243 : Index := 0#32
  let c0_244 : Index := 0#32
  ![3, v260.toNat, 0, 0]
def k0_off49 (i : grid0.Coords) : Fin 4 → Nat :=
  let c0_254 : Index := 0#32
  let c0_255 : Index := 0#32
  let c31_i32_253 : BitVec 32 := 31#32
  let c0_i32_252 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v269 : BitVec 32 := Scalar.maxsi c0_i32_252 v4
  let v270 : BitVec 32 := Scalar.minsi c31_i32_253 v269
  let v271 : Index := Scalar.indexCast v270
  let c0_256 : Index := 0#32
  ![0, 0, v271.toNat, 0]
def k0_off50 (i : grid0.Coords) : Fin 4 → Nat :=
  let c1_284 : Index := 1#32
  let c0_285 : Index := 0#32
  let c31_i32_283 : BitVec 32 := 31#32
  let c0_i32_282 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v308 : BitVec 32 := Scalar.maxsi c0_i32_282 v4
  let v309 : BitVec 32 := Scalar.minsi c31_i32_283 v308
  let v310 : Index := Scalar.indexCast v309
  let c0_286 : Index := 0#32
  ![1, 0, v310.toNat, 0]
def k0_off51 (i : grid0.Coords) : Fin 4 → Nat :=
  let c2_314 : Index := 2#32
  let c0_315 : Index := 0#32
  let c31_i32_313 : BitVec 32 := 31#32
  let c0_i32_312 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v347 : BitVec 32 := Scalar.maxsi c0_i32_312 v4
  let v348 : BitVec 32 := Scalar.minsi c31_i32_313 v347
  let v349 : Index := Scalar.indexCast v348
  let c0_316 : Index := 0#32
  ![2, 0, v349.toNat, 0]
def k0_off52 (i : grid0.Coords) : Fin 4 → Nat :=
  let c3_344 : Index := 3#32
  let c0_345 : Index := 0#32
  let c31_i32_343 : BitVec 32 := 31#32
  let c0_i32_342 : BitVec 32 := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v386 : BitVec 32 := Scalar.maxsi c0_i32_342 v4
  let v387 : BitVec 32 := Scalar.minsi c31_i32_343 v386
  let v388 : Index := Scalar.indexCast v387
  let c0_346 : Index := 0#32
  ![3, 0, v388.toNat, 0]
@[reducible] def k0_t1_loop (i : grid0.Coords) : Scf.Loop 32 :=
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_381 : BitVec 32 := 1#32
  ⟨c0_i32_379, v446, c1_i32_381⟩
def k0_mult13 (i : grid0.Coords) (k0_t1 : Fin (k0_t1_loop i).trips) : BitVec 32 :=
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c1_i32_498 : BitVec 32 := 1#32
  let v608 : BitVec 32 := Scalar.addi v607 c1_i32_498
  let c256_i32_499 : BitVec 32 := 256#32
  let v609 : BitVec 32 := Scalar.muli v608 c256_i32_499
  v609
def k0_off53 (i : grid0.Coords) (k0_t1 : Fin (k0_t1_loop i).trips) : Fin 3 → Nat :=
  let c0_500 : Index := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c1_i32_498 : BitVec 32 := 1#32
  let v608 : BitVec 32 := Scalar.addi v607 c1_i32_498
  let c256_i32_499 : BitVec 32 := 256#32
  let v609 : BitVec 32 := Scalar.muli v608 c256_i32_499
  let v610 : BitVec 32 := v609
  let v611 : Index := Scalar.indexCast v610
  let c0_501 : Index := 0#32
  ![0, v611.toNat, 0]
def k0_mult14 (i : grid0.Coords) (k0_t1 : Fin (k0_t1_loop i).trips) : BitVec 32 :=
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c1_i32_528 : BitVec 32 := 1#32
  let v645 : BitVec 32 := Scalar.addi v607 c1_i32_528
  let c256_i32_529 : BitVec 32 := 256#32
  let v646 : BitVec 32 := Scalar.muli v645 c256_i32_529
  v646
def k0_off54 (i : grid0.Coords) (k0_t1 : Fin (k0_t1_loop i).trips) : Fin 3 → Nat :=
  let c1_530 : Index := 1#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c1_i32_528 : BitVec 32 := 1#32
  let v645 : BitVec 32 := Scalar.addi v607 c1_i32_528
  let c256_i32_529 : BitVec 32 := 256#32
  let v646 : BitVec 32 := Scalar.muli v645 c256_i32_529
  let v647 : BitVec 32 := v646
  let v648 : Index := Scalar.indexCast v647
  let c0_531 : Index := 0#32
  ![1, v648.toNat, 0]
def k0_mult15 (i : grid0.Coords) (k0_t1 : Fin (k0_t1_loop i).trips) : BitVec 32 :=
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c1_i32_558 : BitVec 32 := 1#32
  let v682 : BitVec 32 := Scalar.addi v607 c1_i32_558
  let c256_i32_559 : BitVec 32 := 256#32
  let v683 : BitVec 32 := Scalar.muli v682 c256_i32_559
  v683
def k0_off55 (i : grid0.Coords) (k0_t1 : Fin (k0_t1_loop i).trips) : Fin 3 → Nat :=
  let c2_560 : Index := 2#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c1_i32_558 : BitVec 32 := 1#32
  let v682 : BitVec 32 := Scalar.addi v607 c1_i32_558
  let c256_i32_559 : BitVec 32 := 256#32
  let v683 : BitVec 32 := Scalar.muli v682 c256_i32_559
  let v684 : BitVec 32 := v683
  let v685 : Index := Scalar.indexCast v684
  let c0_561 : Index := 0#32
  ![2, v685.toNat, 0]
def k0_mult16 (i : grid0.Coords) (k0_t1 : Fin (k0_t1_loop i).trips) : BitVec 32 :=
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c1_i32_588 : BitVec 32 := 1#32
  let v719 : BitVec 32 := Scalar.addi v607 c1_i32_588
  let c256_i32_589 : BitVec 32 := 256#32
  let v720 : BitVec 32 := Scalar.muli v719 c256_i32_589
  v720
def k0_off56 (i : grid0.Coords) (k0_t1 : Fin (k0_t1_loop i).trips) : Fin 3 → Nat :=
  let c3_590 : Index := 3#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c1_i32_588 : BitVec 32 := 1#32
  let v719 : BitVec 32 := Scalar.addi v607 c1_i32_588
  let c256_i32_589 : BitVec 32 := 256#32
  let v720 : BitVec 32 := Scalar.muli v719 c256_i32_589
  let v721 : BitVec 32 := v720
  let v722 : Index := Scalar.indexCast v721
  let c0_591 : Index := 0#32
  ![3, v722.toNat, 0]
def k0_off57 (i : grid0.Coords) (k0_t1 : Fin (k0_t1_loop i).trips) : Fin 4 → Nat :=
  let c0_629 : Index := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c0_i32_618 : BitVec 32 := 0#32
  let v756 : BitVec 32 := Scalar.addi v607 c0_i32_618
  let c1_i32_619 : BitVec 32 := 1#32
  let v757 : BitVec 32 := Scalar.subi v756 c1_i32_619
  let c0_i32_622 : BitVec 32 := 0#32
  let v760 : BitVec 1 := Scalar.cmpi .slt v757 c0_i32_622
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let c31_i32_621 : BitVec 32 := 31#32
  let c0_i32_620 : BitVec 32 := 0#32
  let v758 : BitVec 32 := Scalar.maxsi c0_i32_620 v757
  let v759 : BitVec 32 := Scalar.minsi c31_i32_621 v758
  let v761 : BitVec 32 := Scalar.select v760 v4 v759
  let v768 : Index := Scalar.indexCast v761
  let c0_630 : Index := 0#32
  let c0_631 : Index := 0#32
  ![0, v768.toNat, 0, 0]
def k0_off58 (i : grid0.Coords) (k0_t1 : Fin (k0_t1_loop i).trips) : Fin 4 → Nat :=
  let c1_645 : Index := 1#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c0_i32_618 : BitVec 32 := 0#32
  let v756 : BitVec 32 := Scalar.addi v607 c0_i32_618
  let c1_i32_619 : BitVec 32 := 1#32
  let v757 : BitVec 32 := Scalar.subi v756 c1_i32_619
  let c0_i32_622 : BitVec 32 := 0#32
  let v760 : BitVec 1 := Scalar.cmpi .slt v757 c0_i32_622
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let c31_i32_621 : BitVec 32 := 31#32
  let c0_i32_620 : BitVec 32 := 0#32
  let v758 : BitVec 32 := Scalar.maxsi c0_i32_620 v757
  let v759 : BitVec 32 := Scalar.minsi c31_i32_621 v758
  let v761 : BitVec 32 := Scalar.select v760 v4 v759
  let v784 : Index := Scalar.indexCast v761
  let c0_646 : Index := 0#32
  let c0_647 : Index := 0#32
  ![1, v784.toNat, 0, 0]
def k0_off59 (i : grid0.Coords) (k0_t1 : Fin (k0_t1_loop i).trips) : Fin 4 → Nat :=
  let c2_661 : Index := 2#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c0_i32_618 : BitVec 32 := 0#32
  let v756 : BitVec 32 := Scalar.addi v607 c0_i32_618
  let c1_i32_619 : BitVec 32 := 1#32
  let v757 : BitVec 32 := Scalar.subi v756 c1_i32_619
  let c0_i32_622 : BitVec 32 := 0#32
  let v760 : BitVec 1 := Scalar.cmpi .slt v757 c0_i32_622
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let c31_i32_621 : BitVec 32 := 31#32
  let c0_i32_620 : BitVec 32 := 0#32
  let v758 : BitVec 32 := Scalar.maxsi c0_i32_620 v757
  let v759 : BitVec 32 := Scalar.minsi c31_i32_621 v758
  let v761 : BitVec 32 := Scalar.select v760 v4 v759
  let v800 : Index := Scalar.indexCast v761
  let c0_662 : Index := 0#32
  let c0_663 : Index := 0#32
  ![2, v800.toNat, 0, 0]
def k0_off60 (i : grid0.Coords) (k0_t1 : Fin (k0_t1_loop i).trips) : Fin 4 → Nat :=
  let c3_677 : Index := 3#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c0_i32_618 : BitVec 32 := 0#32
  let v756 : BitVec 32 := Scalar.addi v607 c0_i32_618
  let c1_i32_619 : BitVec 32 := 1#32
  let v757 : BitVec 32 := Scalar.subi v756 c1_i32_619
  let c0_i32_622 : BitVec 32 := 0#32
  let v760 : BitVec 1 := Scalar.cmpi .slt v757 c0_i32_622
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let c31_i32_621 : BitVec 32 := 31#32
  let c0_i32_620 : BitVec 32 := 0#32
  let v758 : BitVec 32 := Scalar.maxsi c0_i32_620 v757
  let v759 : BitVec 32 := Scalar.minsi c31_i32_621 v758
  let v761 : BitVec 32 := Scalar.select v760 v4 v759
  let v816 : Index := Scalar.indexCast v761
  let c0_678 : Index := 0#32
  let c0_679 : Index := 0#32
  ![3, v816.toNat, 0, 0]
def k0_off61 (i : grid0.Coords) (k0_t1 : Fin (k0_t1_loop i).trips) (c0_i32_687 : BitVec 32) : Fin 4 → Nat :=
  let c0_690 : Index := 0#32
  let c0_691 : Index := 0#32
  let c31_i32_689 : BitVec 32 := 31#32
  let c0_i32_688 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let v826 : BitVec 32 := Scalar.addi v607 c0_i32_687
  let v827 : BitVec 32 := Scalar.maxsi c0_i32_688 v826
  let v828 : BitVec 32 := Scalar.minsi c31_i32_689 v827
  let v829 : Index := Scalar.indexCast v828
  let c0_692 : Index := 0#32
  ![0, 0, v829.toNat, 0]
def k0_off62 (i : grid0.Coords) (k0_t1 : Fin (k0_t1_loop i).trips) (c0_i32_687 : BitVec 32) : Fin 4 → Nat :=
  let c1_714 : Index := 1#32
  let c0_715 : Index := 0#32
  let c31_i32_713 : BitVec 32 := 31#32
  let c0_i32_712 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let v826 : BitVec 32 := Scalar.addi v607 c0_i32_687
  let v858 : BitVec 32 := Scalar.maxsi c0_i32_712 v826
  let v859 : BitVec 32 := Scalar.minsi c31_i32_713 v858
  let v860 : Index := Scalar.indexCast v859
  let c0_716 : Index := 0#32
  ![1, 0, v860.toNat, 0]
def k0_off63 (i : grid0.Coords) (k0_t1 : Fin (k0_t1_loop i).trips) (c0_i32_687 : BitVec 32) : Fin 4 → Nat :=
  let c2_738 : Index := 2#32
  let c0_739 : Index := 0#32
  let c31_i32_737 : BitVec 32 := 31#32
  let c0_i32_736 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let v826 : BitVec 32 := Scalar.addi v607 c0_i32_687
  let v889 : BitVec 32 := Scalar.maxsi c0_i32_736 v826
  let v890 : BitVec 32 := Scalar.minsi c31_i32_737 v889
  let v891 : Index := Scalar.indexCast v890
  let c0_740 : Index := 0#32
  ![2, 0, v891.toNat, 0]
def k0_off64 (i : grid0.Coords) (k0_t1 : Fin (k0_t1_loop i).trips) (c0_i32_687 : BitVec 32) : Fin 4 → Nat :=
  let c3_762 : Index := 3#32
  let c0_763 : Index := 0#32
  let c31_i32_761 : BitVec 32 := 31#32
  let c0_i32_760 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let v826 : BitVec 32 := Scalar.addi v607 c0_i32_687
  let v920 : BitVec 32 := Scalar.maxsi c0_i32_760 v826
  let v921 : BitVec 32 := Scalar.minsi c31_i32_761 v920
  let v922 : Index := Scalar.indexCast v921
  let c0_764 : Index := 0#32
  ![3, 0, v922.toNat, 0]
def k0_mult17 (i : grid0.Coords) (k0_t1 : Fin (k0_t1_loop i).trips) : BitVec 32 :=
  let c31_i32_786 : BitVec 32 := 31#32
  let c0_i32_785 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v952 : BitVec 32 := Scalar.maxsi c0_i32_785 v951
  let v953 : BitVec 32 := Scalar.minsi c31_i32_786 v952
  let c256_i32_787 : BitVec 32 := 256#32
  let v954 : BitVec 32 := Scalar.muli v953 c256_i32_787
  v954
def k0_off65 (i : grid0.Coords) (k0_t1 : Fin (k0_t1_loop i).trips) : Fin 3 → Nat :=
  let c0_788 : Index := 0#32
  let c31_i32_786 : BitVec 32 := 31#32
  let c0_i32_785 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v952 : BitVec 32 := Scalar.maxsi c0_i32_785 v951
  let v953 : BitVec 32 := Scalar.minsi c31_i32_786 v952
  let c256_i32_787 : BitVec 32 := 256#32
  let v954 : BitVec 32 := Scalar.muli v953 c256_i32_787
  let v955 : BitVec 32 := v954
  let v956 : Index := Scalar.indexCast v955
  let c0_789 : Index := 0#32
  ![0, v956.toNat, 0]
def k0_mult18 (i : grid0.Coords) (k0_t1 : Fin (k0_t1_loop i).trips) : BitVec 32 :=
  let c31_i32_799 : BitVec 32 := 31#32
  let c0_i32_798 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v965 : BitVec 32 := Scalar.maxsi c0_i32_798 v951
  let v966 : BitVec 32 := Scalar.minsi c31_i32_799 v965
  let c256_i32_800 : BitVec 32 := 256#32
  let v967 : BitVec 32 := Scalar.muli v966 c256_i32_800
  v967
def k0_off66 (i : grid0.Coords) (k0_t1 : Fin (k0_t1_loop i).trips) : Fin 3 → Nat :=
  let c1_801 : Index := 1#32
  let c31_i32_799 : BitVec 32 := 31#32
  let c0_i32_798 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v965 : BitVec 32 := Scalar.maxsi c0_i32_798 v951
  let v966 : BitVec 32 := Scalar.minsi c31_i32_799 v965
  let c256_i32_800 : BitVec 32 := 256#32
  let v967 : BitVec 32 := Scalar.muli v966 c256_i32_800
  let v968 : BitVec 32 := v967
  let v969 : Index := Scalar.indexCast v968
  let c0_802 : Index := 0#32
  ![1, v969.toNat, 0]
def k0_mult19 (i : grid0.Coords) (k0_t1 : Fin (k0_t1_loop i).trips) : BitVec 32 :=
  let c31_i32_812 : BitVec 32 := 31#32
  let c0_i32_811 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v978 : BitVec 32 := Scalar.maxsi c0_i32_811 v951
  let v979 : BitVec 32 := Scalar.minsi c31_i32_812 v978
  let c256_i32_813 : BitVec 32 := 256#32
  let v980 : BitVec 32 := Scalar.muli v979 c256_i32_813
  v980
def k0_off67 (i : grid0.Coords) (k0_t1 : Fin (k0_t1_loop i).trips) : Fin 3 → Nat :=
  let c2_814 : Index := 2#32
  let c31_i32_812 : BitVec 32 := 31#32
  let c0_i32_811 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v978 : BitVec 32 := Scalar.maxsi c0_i32_811 v951
  let v979 : BitVec 32 := Scalar.minsi c31_i32_812 v978
  let c256_i32_813 : BitVec 32 := 256#32
  let v980 : BitVec 32 := Scalar.muli v979 c256_i32_813
  let v981 : BitVec 32 := v980
  let v982 : Index := Scalar.indexCast v981
  let c0_815 : Index := 0#32
  ![2, v982.toNat, 0]
def k0_mult20 (i : grid0.Coords) (k0_t1 : Fin (k0_t1_loop i).trips) : BitVec 32 :=
  let c31_i32_825 : BitVec 32 := 31#32
  let c0_i32_824 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v991 : BitVec 32 := Scalar.maxsi c0_i32_824 v951
  let v992 : BitVec 32 := Scalar.minsi c31_i32_825 v991
  let c256_i32_826 : BitVec 32 := 256#32
  let v993 : BitVec 32 := Scalar.muli v992 c256_i32_826
  v993
def k0_off68 (i : grid0.Coords) (k0_t1 : Fin (k0_t1_loop i).trips) : Fin 3 → Nat :=
  let c3_827 : Index := 3#32
  let c31_i32_825 : BitVec 32 := 31#32
  let c0_i32_824 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v991 : BitVec 32 := Scalar.maxsi c0_i32_824 v951
  let v992 : BitVec 32 := Scalar.minsi c31_i32_825 v991
  let c256_i32_826 : BitVec 32 := 256#32
  let v993 : BitVec 32 := Scalar.muli v992 c256_i32_826
  let v994 : BitVec 32 := v993
  let v995 : Index := Scalar.indexCast v994
  let c0_828 : Index := 0#32
  ![3, v995.toNat, 0]
def k0_off69 (i : grid0.Coords) (k0_t1 : Fin (k0_t1_loop i).trips) (c1_i32_837 : BitVec 32) : Fin 4 → Nat :=
  let c0_847 : Index := 0#32
  let c31_i32_840 : BitVec 32 := 31#32
  let c0_i32_839 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let v1004 : BitVec 32 := Scalar.addi v607 c1_i32_837
  let c1_i32_838 : BitVec 32 := 1#32
  let v1005 : BitVec 32 := Scalar.subi v1004 c1_i32_838
  let v1006 : BitVec 32 := Scalar.maxsi c0_i32_839 v1005
  let v1007 : BitVec 32 := Scalar.minsi c31_i32_840 v1006
  let v1014 : Index := Scalar.indexCast v1007
  let c0_848 : Index := 0#32
  let c0_849 : Index := 0#32
  ![0, v1014.toNat, 0, 0]
def k0_off70 (i : grid0.Coords) (k0_t1 : Fin (k0_t1_loop i).trips) (c1_i32_837 : BitVec 32) : Fin 4 → Nat :=
  let c1_863 : Index := 1#32
  let c31_i32_840 : BitVec 32 := 31#32
  let c0_i32_839 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let v1004 : BitVec 32 := Scalar.addi v607 c1_i32_837
  let c1_i32_838 : BitVec 32 := 1#32
  let v1005 : BitVec 32 := Scalar.subi v1004 c1_i32_838
  let v1006 : BitVec 32 := Scalar.maxsi c0_i32_839 v1005
  let v1007 : BitVec 32 := Scalar.minsi c31_i32_840 v1006
  let v1030 : Index := Scalar.indexCast v1007
  let c0_864 : Index := 0#32
  let c0_865 : Index := 0#32
  ![1, v1030.toNat, 0, 0]
def k0_off71 (i : grid0.Coords) (k0_t1 : Fin (k0_t1_loop i).trips) (c1_i32_837 : BitVec 32) : Fin 4 → Nat :=
  let c2_879 : Index := 2#32
  let c31_i32_840 : BitVec 32 := 31#32
  let c0_i32_839 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let v1004 : BitVec 32 := Scalar.addi v607 c1_i32_837
  let c1_i32_838 : BitVec 32 := 1#32
  let v1005 : BitVec 32 := Scalar.subi v1004 c1_i32_838
  let v1006 : BitVec 32 := Scalar.maxsi c0_i32_839 v1005
  let v1007 : BitVec 32 := Scalar.minsi c31_i32_840 v1006
  let v1046 : Index := Scalar.indexCast v1007
  let c0_880 : Index := 0#32
  let c0_881 : Index := 0#32
  ![2, v1046.toNat, 0, 0]
def k0_off72 (i : grid0.Coords) (k0_t1 : Fin (k0_t1_loop i).trips) (c1_i32_837 : BitVec 32) : Fin 4 → Nat :=
  let c3_895 : Index := 3#32
  let c31_i32_840 : BitVec 32 := 31#32
  let c0_i32_839 : BitVec 32 := 0#32
  let c0_i32_497 : BitVec 32 := 0#32
  let c8_i32_496 : BitVec 32 := 8#32
  let c0_i32_379 : BitVec 32 := 0#32
  let c1_i32_381 : BitVec 32 := 1#32
  let arg36 : BitVec 32 := Scf.iv c0_i32_379 c1_i32_381 k0_t1
  let v606 : BitVec 32 := Scalar.muli c8_i32_496 arg36
  let v607 : BitVec 32 := Scalar.addi c0_i32_497 v606
  let v1004 : BitVec 32 := Scalar.addi v607 c1_i32_837
  let c1_i32_838 : BitVec 32 := 1#32
  let v1005 : BitVec 32 := Scalar.subi v1004 c1_i32_838
  let v1006 : BitVec 32 := Scalar.maxsi c0_i32_839 v1005
  let v1007 : BitVec 32 := Scalar.minsi c31_i32_840 v1006
  let v1062 : Index := Scalar.indexCast v1007
  let c0_896 : Index := 0#32
  let c0_897 : Index := 0#32
  ![3, v1062.toNat, 0, 0]
@[reducible] def k0_t2_loop (i : grid0.Coords) : Scf.Loop 32 :=
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let v443 : BitVec 32 := Scalar.addi c0_i32_379 v442
  let c1_i32_382 : BitVec 32 := 1#32
  ⟨v446, v443, c1_i32_382⟩
def k0_mult21 (i : grid0.Coords) (k0_t2 : Fin (k0_t2_loop i).trips) : BitVec 32 :=
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c1_i32_498 : BitVec 32 := 1#32
  let v608 : BitVec 32 := Scalar.addi v607 c1_i32_498
  let c256_i32_499 : BitVec 32 := 256#32
  let v609 : BitVec 32 := Scalar.muli v608 c256_i32_499
  v609
def k0_off73 (i : grid0.Coords) (k0_t2 : Fin (k0_t2_loop i).trips) : Fin 3 → Nat :=
  let c0_500 : Index := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c1_i32_498 : BitVec 32 := 1#32
  let v608 : BitVec 32 := Scalar.addi v607 c1_i32_498
  let c256_i32_499 : BitVec 32 := 256#32
  let v609 : BitVec 32 := Scalar.muli v608 c256_i32_499
  let v610 : BitVec 32 := v609
  let v611 : Index := Scalar.indexCast v610
  let c0_501 : Index := 0#32
  ![0, v611.toNat, 0]
def k0_mult22 (i : grid0.Coords) (k0_t2 : Fin (k0_t2_loop i).trips) : BitVec 32 :=
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c1_i32_528 : BitVec 32 := 1#32
  let v645 : BitVec 32 := Scalar.addi v607 c1_i32_528
  let c256_i32_529 : BitVec 32 := 256#32
  let v646 : BitVec 32 := Scalar.muli v645 c256_i32_529
  v646
def k0_off74 (i : grid0.Coords) (k0_t2 : Fin (k0_t2_loop i).trips) : Fin 3 → Nat :=
  let c1_530 : Index := 1#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c1_i32_528 : BitVec 32 := 1#32
  let v645 : BitVec 32 := Scalar.addi v607 c1_i32_528
  let c256_i32_529 : BitVec 32 := 256#32
  let v646 : BitVec 32 := Scalar.muli v645 c256_i32_529
  let v647 : BitVec 32 := v646
  let v648 : Index := Scalar.indexCast v647
  let c0_531 : Index := 0#32
  ![1, v648.toNat, 0]
def k0_mult23 (i : grid0.Coords) (k0_t2 : Fin (k0_t2_loop i).trips) : BitVec 32 :=
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c1_i32_558 : BitVec 32 := 1#32
  let v682 : BitVec 32 := Scalar.addi v607 c1_i32_558
  let c256_i32_559 : BitVec 32 := 256#32
  let v683 : BitVec 32 := Scalar.muli v682 c256_i32_559
  v683
def k0_off75 (i : grid0.Coords) (k0_t2 : Fin (k0_t2_loop i).trips) : Fin 3 → Nat :=
  let c2_560 : Index := 2#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c1_i32_558 : BitVec 32 := 1#32
  let v682 : BitVec 32 := Scalar.addi v607 c1_i32_558
  let c256_i32_559 : BitVec 32 := 256#32
  let v683 : BitVec 32 := Scalar.muli v682 c256_i32_559
  let v684 : BitVec 32 := v683
  let v685 : Index := Scalar.indexCast v684
  let c0_561 : Index := 0#32
  ![2, v685.toNat, 0]
def k0_mult24 (i : grid0.Coords) (k0_t2 : Fin (k0_t2_loop i).trips) : BitVec 32 :=
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c1_i32_588 : BitVec 32 := 1#32
  let v719 : BitVec 32 := Scalar.addi v607 c1_i32_588
  let c256_i32_589 : BitVec 32 := 256#32
  let v720 : BitVec 32 := Scalar.muli v719 c256_i32_589
  v720
def k0_off76 (i : grid0.Coords) (k0_t2 : Fin (k0_t2_loop i).trips) : Fin 3 → Nat :=
  let c3_590 : Index := 3#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c1_i32_588 : BitVec 32 := 1#32
  let v719 : BitVec 32 := Scalar.addi v607 c1_i32_588
  let c256_i32_589 : BitVec 32 := 256#32
  let v720 : BitVec 32 := Scalar.muli v719 c256_i32_589
  let v721 : BitVec 32 := v720
  let v722 : Index := Scalar.indexCast v721
  let c0_591 : Index := 0#32
  ![3, v722.toNat, 0]
def k0_off77 (i : grid0.Coords) (k0_t2 : Fin (k0_t2_loop i).trips) : Fin 4 → Nat :=
  let c0_629 : Index := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c0_i32_618 : BitVec 32 := 0#32
  let v756 : BitVec 32 := Scalar.addi v607 c0_i32_618
  let c1_i32_619 : BitVec 32 := 1#32
  let v757 : BitVec 32 := Scalar.subi v756 c1_i32_619
  let c0_i32_622 : BitVec 32 := 0#32
  let v760 : BitVec 1 := Scalar.cmpi .slt v757 c0_i32_622
  let c1_i32 : BitVec 32 := 1#32
  let v3 : BitVec 32 := Scalar.subi arg1 c1_i32
  let c0_i32_1 : BitVec 32 := 0#32
  let v4 : BitVec 32 := Scalar.maxsi v3 c0_i32_1
  let c31_i32_621 : BitVec 32 := 31#32
  let c0_i32_620 : BitVec 32 := 0#32
  let v758 : BitVec 32 := Scalar.maxsi c0_i32_620 v757
  let v759 : BitVec 32 := Scalar.minsi c31_i32_621 v758
  let v761 : BitVec 32 := Scalar.select v760 v4 v759
  let v768 : Index := Scalar.indexCast v761
  let c0_630 : Index := 0#32
  let c0_631 : Index := 0#32
  ![0, v768.toNat, 0, 0]
def k0_off78 (i : grid0.Coords) (k0_t2 : Fin (k0_t2_loop i).trips) : Fin 4 → Nat :=
  let c1_645 : Index := 1#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c0_i32_618 : BitVec 32 := 0#32
  let v756 : BitVec 32 := Scalar.addi v607 c0_i32_618
  let c1_i32_619 : BitVec 32 := 1#32
  let v757 : BitVec 32 := Scalar.subi v756 c1_i32_619
  let c0_i32_622 : BitVec 32 := 0#32
  let v760 : BitVec 1 := Scalar.cmpi .slt v757 c0_i32_622
  let c1_i32 : BitVec 32 := 1#32
  let v3 : BitVec 32 := Scalar.subi arg1 c1_i32
  let c0_i32_1 : BitVec 32 := 0#32
  let v4 : BitVec 32 := Scalar.maxsi v3 c0_i32_1
  let c31_i32_621 : BitVec 32 := 31#32
  let c0_i32_620 : BitVec 32 := 0#32
  let v758 : BitVec 32 := Scalar.maxsi c0_i32_620 v757
  let v759 : BitVec 32 := Scalar.minsi c31_i32_621 v758
  let v761 : BitVec 32 := Scalar.select v760 v4 v759
  let v784 : Index := Scalar.indexCast v761
  let c0_646 : Index := 0#32
  let c0_647 : Index := 0#32
  ![1, v784.toNat, 0, 0]
def k0_off79 (i : grid0.Coords) (k0_t2 : Fin (k0_t2_loop i).trips) : Fin 4 → Nat :=
  let c2_661 : Index := 2#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c0_i32_618 : BitVec 32 := 0#32
  let v756 : BitVec 32 := Scalar.addi v607 c0_i32_618
  let c1_i32_619 : BitVec 32 := 1#32
  let v757 : BitVec 32 := Scalar.subi v756 c1_i32_619
  let c0_i32_622 : BitVec 32 := 0#32
  let v760 : BitVec 1 := Scalar.cmpi .slt v757 c0_i32_622
  let c1_i32 : BitVec 32 := 1#32
  let v3 : BitVec 32 := Scalar.subi arg1 c1_i32
  let c0_i32_1 : BitVec 32 := 0#32
  let v4 : BitVec 32 := Scalar.maxsi v3 c0_i32_1
  let c31_i32_621 : BitVec 32 := 31#32
  let c0_i32_620 : BitVec 32 := 0#32
  let v758 : BitVec 32 := Scalar.maxsi c0_i32_620 v757
  let v759 : BitVec 32 := Scalar.minsi c31_i32_621 v758
  let v761 : BitVec 32 := Scalar.select v760 v4 v759
  let v800 : Index := Scalar.indexCast v761
  let c0_662 : Index := 0#32
  let c0_663 : Index := 0#32
  ![2, v800.toNat, 0, 0]
def k0_off80 (i : grid0.Coords) (k0_t2 : Fin (k0_t2_loop i).trips) : Fin 4 → Nat :=
  let c3_677 : Index := 3#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c0_i32_618 : BitVec 32 := 0#32
  let v756 : BitVec 32 := Scalar.addi v607 c0_i32_618
  let c1_i32_619 : BitVec 32 := 1#32
  let v757 : BitVec 32 := Scalar.subi v756 c1_i32_619
  let c0_i32_622 : BitVec 32 := 0#32
  let v760 : BitVec 1 := Scalar.cmpi .slt v757 c0_i32_622
  let c1_i32 : BitVec 32 := 1#32
  let v3 : BitVec 32 := Scalar.subi arg1 c1_i32
  let c0_i32_1 : BitVec 32 := 0#32
  let v4 : BitVec 32 := Scalar.maxsi v3 c0_i32_1
  let c31_i32_621 : BitVec 32 := 31#32
  let c0_i32_620 : BitVec 32 := 0#32
  let v758 : BitVec 32 := Scalar.maxsi c0_i32_620 v757
  let v759 : BitVec 32 := Scalar.minsi c31_i32_621 v758
  let v761 : BitVec 32 := Scalar.select v760 v4 v759
  let v816 : Index := Scalar.indexCast v761
  let c0_678 : Index := 0#32
  let c0_679 : Index := 0#32
  ![3, v816.toNat, 0, 0]
def k0_off81 (i : grid0.Coords) (k0_t2 : Fin (k0_t2_loop i).trips) (c0_i32_687 : BitVec 32) : Fin 4 → Nat :=
  let c0_690 : Index := 0#32
  let c0_691 : Index := 0#32
  let c31_i32_689 : BitVec 32 := 31#32
  let c0_i32_688 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let v826 : BitVec 32 := Scalar.addi v607 c0_i32_687
  let v827 : BitVec 32 := Scalar.maxsi c0_i32_688 v826
  let v828 : BitVec 32 := Scalar.minsi c31_i32_689 v827
  let v829 : Index := Scalar.indexCast v828
  let c0_692 : Index := 0#32
  ![0, 0, v829.toNat, 0]
def k0_off82 (i : grid0.Coords) (k0_t2 : Fin (k0_t2_loop i).trips) (c0_i32_687 : BitVec 32) : Fin 4 → Nat :=
  let c1_714 : Index := 1#32
  let c0_715 : Index := 0#32
  let c31_i32_713 : BitVec 32 := 31#32
  let c0_i32_712 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let v826 : BitVec 32 := Scalar.addi v607 c0_i32_687
  let v858 : BitVec 32 := Scalar.maxsi c0_i32_712 v826
  let v859 : BitVec 32 := Scalar.minsi c31_i32_713 v858
  let v860 : Index := Scalar.indexCast v859
  let c0_716 : Index := 0#32
  ![1, 0, v860.toNat, 0]
def k0_off83 (i : grid0.Coords) (k0_t2 : Fin (k0_t2_loop i).trips) (c0_i32_687 : BitVec 32) : Fin 4 → Nat :=
  let c2_738 : Index := 2#32
  let c0_739 : Index := 0#32
  let c31_i32_737 : BitVec 32 := 31#32
  let c0_i32_736 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let v826 : BitVec 32 := Scalar.addi v607 c0_i32_687
  let v889 : BitVec 32 := Scalar.maxsi c0_i32_736 v826
  let v890 : BitVec 32 := Scalar.minsi c31_i32_737 v889
  let v891 : Index := Scalar.indexCast v890
  let c0_740 : Index := 0#32
  ![2, 0, v891.toNat, 0]
def k0_off84 (i : grid0.Coords) (k0_t2 : Fin (k0_t2_loop i).trips) (c0_i32_687 : BitVec 32) : Fin 4 → Nat :=
  let c3_762 : Index := 3#32
  let c0_763 : Index := 0#32
  let c31_i32_761 : BitVec 32 := 31#32
  let c0_i32_760 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let v826 : BitVec 32 := Scalar.addi v607 c0_i32_687
  let v920 : BitVec 32 := Scalar.maxsi c0_i32_760 v826
  let v921 : BitVec 32 := Scalar.minsi c31_i32_761 v920
  let v922 : Index := Scalar.indexCast v921
  let c0_764 : Index := 0#32
  ![3, 0, v922.toNat, 0]
def k0_mult25 (i : grid0.Coords) (k0_t2 : Fin (k0_t2_loop i).trips) : BitVec 32 :=
  let c31_i32_786 : BitVec 32 := 31#32
  let c0_i32_785 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v952 : BitVec 32 := Scalar.maxsi c0_i32_785 v951
  let v953 : BitVec 32 := Scalar.minsi c31_i32_786 v952
  let c256_i32_787 : BitVec 32 := 256#32
  let v954 : BitVec 32 := Scalar.muli v953 c256_i32_787
  v954
def k0_off85 (i : grid0.Coords) (k0_t2 : Fin (k0_t2_loop i).trips) : Fin 3 → Nat :=
  let c0_788 : Index := 0#32
  let c31_i32_786 : BitVec 32 := 31#32
  let c0_i32_785 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v952 : BitVec 32 := Scalar.maxsi c0_i32_785 v951
  let v953 : BitVec 32 := Scalar.minsi c31_i32_786 v952
  let c256_i32_787 : BitVec 32 := 256#32
  let v954 : BitVec 32 := Scalar.muli v953 c256_i32_787
  let v955 : BitVec 32 := v954
  let v956 : Index := Scalar.indexCast v955
  let c0_789 : Index := 0#32
  ![0, v956.toNat, 0]
def k0_mult26 (i : grid0.Coords) (k0_t2 : Fin (k0_t2_loop i).trips) : BitVec 32 :=
  let c31_i32_799 : BitVec 32 := 31#32
  let c0_i32_798 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v965 : BitVec 32 := Scalar.maxsi c0_i32_798 v951
  let v966 : BitVec 32 := Scalar.minsi c31_i32_799 v965
  let c256_i32_800 : BitVec 32 := 256#32
  let v967 : BitVec 32 := Scalar.muli v966 c256_i32_800
  v967
def k0_off86 (i : grid0.Coords) (k0_t2 : Fin (k0_t2_loop i).trips) : Fin 3 → Nat :=
  let c1_801 : Index := 1#32
  let c31_i32_799 : BitVec 32 := 31#32
  let c0_i32_798 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v965 : BitVec 32 := Scalar.maxsi c0_i32_798 v951
  let v966 : BitVec 32 := Scalar.minsi c31_i32_799 v965
  let c256_i32_800 : BitVec 32 := 256#32
  let v967 : BitVec 32 := Scalar.muli v966 c256_i32_800
  let v968 : BitVec 32 := v967
  let v969 : Index := Scalar.indexCast v968
  let c0_802 : Index := 0#32
  ![1, v969.toNat, 0]
def k0_mult27 (i : grid0.Coords) (k0_t2 : Fin (k0_t2_loop i).trips) : BitVec 32 :=
  let c31_i32_812 : BitVec 32 := 31#32
  let c0_i32_811 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v978 : BitVec 32 := Scalar.maxsi c0_i32_811 v951
  let v979 : BitVec 32 := Scalar.minsi c31_i32_812 v978
  let c256_i32_813 : BitVec 32 := 256#32
  let v980 : BitVec 32 := Scalar.muli v979 c256_i32_813
  v980
def k0_off87 (i : grid0.Coords) (k0_t2 : Fin (k0_t2_loop i).trips) : Fin 3 → Nat :=
  let c2_814 : Index := 2#32
  let c31_i32_812 : BitVec 32 := 31#32
  let c0_i32_811 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v978 : BitVec 32 := Scalar.maxsi c0_i32_811 v951
  let v979 : BitVec 32 := Scalar.minsi c31_i32_812 v978
  let c256_i32_813 : BitVec 32 := 256#32
  let v980 : BitVec 32 := Scalar.muli v979 c256_i32_813
  let v981 : BitVec 32 := v980
  let v982 : Index := Scalar.indexCast v981
  let c0_815 : Index := 0#32
  ![2, v982.toNat, 0]
def k0_mult28 (i : grid0.Coords) (k0_t2 : Fin (k0_t2_loop i).trips) : BitVec 32 :=
  let c31_i32_825 : BitVec 32 := 31#32
  let c0_i32_824 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v991 : BitVec 32 := Scalar.maxsi c0_i32_824 v951
  let v992 : BitVec 32 := Scalar.minsi c31_i32_825 v991
  let c256_i32_826 : BitVec 32 := 256#32
  let v993 : BitVec 32 := Scalar.muli v992 c256_i32_826
  v993
def k0_off88 (i : grid0.Coords) (k0_t2 : Fin (k0_t2_loop i).trips) : Fin 3 → Nat :=
  let c3_827 : Index := 3#32
  let c31_i32_825 : BitVec 32 := 31#32
  let c0_i32_824 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let c8_i32_784 : BitVec 32 := 8#32
  let v951 : BitVec 32 := Scalar.addi v607 c8_i32_784
  let v991 : BitVec 32 := Scalar.maxsi c0_i32_824 v951
  let v992 : BitVec 32 := Scalar.minsi c31_i32_825 v991
  let c256_i32_826 : BitVec 32 := 256#32
  let v993 : BitVec 32 := Scalar.muli v992 c256_i32_826
  let v994 : BitVec 32 := v993
  let v995 : Index := Scalar.indexCast v994
  let c0_828 : Index := 0#32
  ![3, v995.toNat, 0]
def k0_off89 (i : grid0.Coords) (k0_t2 : Fin (k0_t2_loop i).trips) (c1_i32_837 : BitVec 32) : Fin 4 → Nat :=
  let c0_847 : Index := 0#32
  let c31_i32_840 : BitVec 32 := 31#32
  let c0_i32_839 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let v1004 : BitVec 32 := Scalar.addi v607 c1_i32_837
  let c1_i32_838 : BitVec 32 := 1#32
  let v1005 : BitVec 32 := Scalar.subi v1004 c1_i32_838
  let v1006 : BitVec 32 := Scalar.maxsi c0_i32_839 v1005
  let v1007 : BitVec 32 := Scalar.minsi c31_i32_840 v1006
  let v1014 : Index := Scalar.indexCast v1007
  let c0_848 : Index := 0#32
  let c0_849 : Index := 0#32
  ![0, v1014.toNat, 0, 0]
def k0_off90 (i : grid0.Coords) (k0_t2 : Fin (k0_t2_loop i).trips) (c1_i32_837 : BitVec 32) : Fin 4 → Nat :=
  let c1_863 : Index := 1#32
  let c31_i32_840 : BitVec 32 := 31#32
  let c0_i32_839 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let v1004 : BitVec 32 := Scalar.addi v607 c1_i32_837
  let c1_i32_838 : BitVec 32 := 1#32
  let v1005 : BitVec 32 := Scalar.subi v1004 c1_i32_838
  let v1006 : BitVec 32 := Scalar.maxsi c0_i32_839 v1005
  let v1007 : BitVec 32 := Scalar.minsi c31_i32_840 v1006
  let v1030 : Index := Scalar.indexCast v1007
  let c0_864 : Index := 0#32
  let c0_865 : Index := 0#32
  ![1, v1030.toNat, 0, 0]
def k0_off91 (i : grid0.Coords) (k0_t2 : Fin (k0_t2_loop i).trips) (c1_i32_837 : BitVec 32) : Fin 4 → Nat :=
  let c2_879 : Index := 2#32
  let c31_i32_840 : BitVec 32 := 31#32
  let c0_i32_839 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let v1004 : BitVec 32 := Scalar.addi v607 c1_i32_837
  let c1_i32_838 : BitVec 32 := 1#32
  let v1005 : BitVec 32 := Scalar.subi v1004 c1_i32_838
  let v1006 : BitVec 32 := Scalar.maxsi c0_i32_839 v1005
  let v1007 : BitVec 32 := Scalar.minsi c31_i32_840 v1006
  let v1046 : Index := Scalar.indexCast v1007
  let c0_880 : Index := 0#32
  let c0_881 : Index := 0#32
  ![2, v1046.toNat, 0, 0]
def k0_off92 (i : grid0.Coords) (k0_t2 : Fin (k0_t2_loop i).trips) (c1_i32_837 : BitVec 32) : Fin 4 → Nat :=
  let c3_895 : Index := 3#32
  let c31_i32_840 : BitVec 32 := 31#32
  let c0_i32_839 : BitVec 32 := 0#32
  let c0_i32_497 : BitVec 32 := 0#32
  let c8_i32_496 : BitVec 32 := 8#32
  let c0_i32_379 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v442 : BitVec 32 := Scalar.subi v441 c0_i32_379
  let c1_i32_380 : BitVec 32 := 1#32
  let v444 : BitVec 32 := Scalar.divsi v442 c1_i32_380
  let v445 : BitVec 32 := Scalar.muli v444 c1_i32_380
  let v446 : BitVec 32 := Scalar.addi c0_i32_379 v445
  let c1_i32_382 : BitVec 32 := 1#32
  let arg36 : BitVec 32 := Scf.iv v446 c1_i32_382 k0_t2
  let v606 : BitVec 32 := Scalar.muli c8_i32_496 arg36
  let v607 : BitVec 32 := Scalar.addi c0_i32_497 v606
  let v1004 : BitVec 32 := Scalar.addi v607 c1_i32_837
  let c1_i32_838 : BitVec 32 := 1#32
  let v1005 : BitVec 32 := Scalar.subi v1004 c1_i32_838
  let v1006 : BitVec 32 := Scalar.maxsi c0_i32_839 v1005
  let v1007 : BitVec 32 := Scalar.minsi c31_i32_840 v1006
  let v1062 : Index := Scalar.indexCast v1007
  let c0_896 : Index := 0#32
  let c0_897 : Index := 0#32
  ![3, v1062.toNat, 0, 0]
@[reducible] def k0_t3_loop (i : grid0.Coords) : Scf.Loop 32 :=
  let c0_i32_392 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c8_i32_383 : BitVec 32 := 8#32
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_394 : BitVec 32 := 1#32
  ⟨c0_i32_392, v471, c1_i32_394⟩
def k0_mult29 (i : grid0.Coords) (k0_t3 : Fin (k0_t3_loop i).trips) : BitVec 32 :=
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c1_i32_497 : BitVec 32 := 1#32
  let v608 : BitVec 32 := Scalar.addi v607 c1_i32_497
  let c256_i32_498 : BitVec 32 := 256#32
  let v609 : BitVec 32 := Scalar.muli v608 c256_i32_498
  v609
def k0_off93 (i : grid0.Coords) (k0_t3 : Fin (k0_t3_loop i).trips) : Fin 3 → Nat :=
  let c0_499 : Index := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c1_i32_497 : BitVec 32 := 1#32
  let v608 : BitVec 32 := Scalar.addi v607 c1_i32_497
  let c256_i32_498 : BitVec 32 := 256#32
  let v609 : BitVec 32 := Scalar.muli v608 c256_i32_498
  let v610 : BitVec 32 := v609
  let v611 : Index := Scalar.indexCast v610
  let c0_500 : Index := 0#32
  ![0, v611.toNat, 0]
def k0_mult30 (i : grid0.Coords) (k0_t3 : Fin (k0_t3_loop i).trips) : BitVec 32 :=
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c1_i32_515 : BitVec 32 := 1#32
  let v629 : BitVec 32 := Scalar.addi v607 c1_i32_515
  let c256_i32_516 : BitVec 32 := 256#32
  let v630 : BitVec 32 := Scalar.muli v629 c256_i32_516
  v630
def k0_off94 (i : grid0.Coords) (k0_t3 : Fin (k0_t3_loop i).trips) : Fin 3 → Nat :=
  let c1_517 : Index := 1#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c1_i32_515 : BitVec 32 := 1#32
  let v629 : BitVec 32 := Scalar.addi v607 c1_i32_515
  let c256_i32_516 : BitVec 32 := 256#32
  let v630 : BitVec 32 := Scalar.muli v629 c256_i32_516
  let v631 : BitVec 32 := v630
  let v632 : Index := Scalar.indexCast v631
  let c0_518 : Index := 0#32
  ![1, v632.toNat, 0]
def k0_mult31 (i : grid0.Coords) (k0_t3 : Fin (k0_t3_loop i).trips) : BitVec 32 :=
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c1_i32_533 : BitVec 32 := 1#32
  let v650 : BitVec 32 := Scalar.addi v607 c1_i32_533
  let c256_i32_534 : BitVec 32 := 256#32
  let v651 : BitVec 32 := Scalar.muli v650 c256_i32_534
  v651
def k0_off95 (i : grid0.Coords) (k0_t3 : Fin (k0_t3_loop i).trips) : Fin 3 → Nat :=
  let c2_535 : Index := 2#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c1_i32_533 : BitVec 32 := 1#32
  let v650 : BitVec 32 := Scalar.addi v607 c1_i32_533
  let c256_i32_534 : BitVec 32 := 256#32
  let v651 : BitVec 32 := Scalar.muli v650 c256_i32_534
  let v652 : BitVec 32 := v651
  let v653 : Index := Scalar.indexCast v652
  let c0_536 : Index := 0#32
  ![2, v653.toNat, 0]
def k0_mult32 (i : grid0.Coords) (k0_t3 : Fin (k0_t3_loop i).trips) : BitVec 32 :=
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c1_i32_551 : BitVec 32 := 1#32
  let v671 : BitVec 32 := Scalar.addi v607 c1_i32_551
  let c256_i32_552 : BitVec 32 := 256#32
  let v672 : BitVec 32 := Scalar.muli v671 c256_i32_552
  v672
def k0_off96 (i : grid0.Coords) (k0_t3 : Fin (k0_t3_loop i).trips) : Fin 3 → Nat :=
  let c3_553 : Index := 3#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c1_i32_551 : BitVec 32 := 1#32
  let v671 : BitVec 32 := Scalar.addi v607 c1_i32_551
  let c256_i32_552 : BitVec 32 := 256#32
  let v672 : BitVec 32 := Scalar.muli v671 c256_i32_552
  let v673 : BitVec 32 := v672
  let v674 : Index := Scalar.indexCast v673
  let c0_554 : Index := 0#32
  ![3, v674.toNat, 0]
def k0_off97 (i : grid0.Coords) (k0_t3 : Fin (k0_t3_loop i).trips) : Fin 4 → Nat :=
  let c0_580 : Index := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c0_i32_569 : BitVec 32 := 0#32
  let v692 : BitVec 32 := Scalar.addi v607 c0_i32_569
  let c1_i32_570 : BitVec 32 := 1#32
  let v693 : BitVec 32 := Scalar.subi v692 c1_i32_570
  let c0_i32_573 : BitVec 32 := 0#32
  let v696 : BitVec 1 := Scalar.cmpi .slt v693 c0_i32_573
  let c1_i32 : BitVec 32 := 1#32
  let v3 : BitVec 32 := Scalar.subi arg1 c1_i32
  let c0_i32_1 : BitVec 32 := 0#32
  let v4 : BitVec 32 := Scalar.maxsi v3 c0_i32_1
  let c31_i32_572 : BitVec 32 := 31#32
  let c0_i32_571 : BitVec 32 := 0#32
  let v694 : BitVec 32 := Scalar.maxsi c0_i32_571 v693
  let v695 : BitVec 32 := Scalar.minsi c31_i32_572 v694
  let v697 : BitVec 32 := Scalar.select v696 v4 v695
  let v704 : Index := Scalar.indexCast v697
  let c0_581 : Index := 0#32
  let c0_582 : Index := 0#32
  ![0, v704.toNat, 0, 0]
def k0_off98 (i : grid0.Coords) (k0_t3 : Fin (k0_t3_loop i).trips) : Fin 4 → Nat :=
  let c1_596 : Index := 1#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c0_i32_569 : BitVec 32 := 0#32
  let v692 : BitVec 32 := Scalar.addi v607 c0_i32_569
  let c1_i32_570 : BitVec 32 := 1#32
  let v693 : BitVec 32 := Scalar.subi v692 c1_i32_570
  let c0_i32_573 : BitVec 32 := 0#32
  let v696 : BitVec 1 := Scalar.cmpi .slt v693 c0_i32_573
  let c1_i32 : BitVec 32 := 1#32
  let v3 : BitVec 32 := Scalar.subi arg1 c1_i32
  let c0_i32_1 : BitVec 32 := 0#32
  let v4 : BitVec 32 := Scalar.maxsi v3 c0_i32_1
  let c31_i32_572 : BitVec 32 := 31#32
  let c0_i32_571 : BitVec 32 := 0#32
  let v694 : BitVec 32 := Scalar.maxsi c0_i32_571 v693
  let v695 : BitVec 32 := Scalar.minsi c31_i32_572 v694
  let v697 : BitVec 32 := Scalar.select v696 v4 v695
  let v720 : Index := Scalar.indexCast v697
  let c0_597 : Index := 0#32
  let c0_598 : Index := 0#32
  ![1, v720.toNat, 0, 0]
def k0_off99 (i : grid0.Coords) (k0_t3 : Fin (k0_t3_loop i).trips) : Fin 4 → Nat :=
  let c2_612 : Index := 2#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c0_i32_569 : BitVec 32 := 0#32
  let v692 : BitVec 32 := Scalar.addi v607 c0_i32_569
  let c1_i32_570 : BitVec 32 := 1#32
  let v693 : BitVec 32 := Scalar.subi v692 c1_i32_570
  let c0_i32_573 : BitVec 32 := 0#32
  let v696 : BitVec 1 := Scalar.cmpi .slt v693 c0_i32_573
  let c1_i32 : BitVec 32 := 1#32
  let v3 : BitVec 32 := Scalar.subi arg1 c1_i32
  let c0_i32_1 : BitVec 32 := 0#32
  let v4 : BitVec 32 := Scalar.maxsi v3 c0_i32_1
  let c31_i32_572 : BitVec 32 := 31#32
  let c0_i32_571 : BitVec 32 := 0#32
  let v694 : BitVec 32 := Scalar.maxsi c0_i32_571 v693
  let v695 : BitVec 32 := Scalar.minsi c31_i32_572 v694
  let v697 : BitVec 32 := Scalar.select v696 v4 v695
  let v736 : Index := Scalar.indexCast v697
  let c0_613 : Index := 0#32
  let c0_614 : Index := 0#32
  ![2, v736.toNat, 0, 0]
def k0_off100 (i : grid0.Coords) (k0_t3 : Fin (k0_t3_loop i).trips) : Fin 4 → Nat :=
  let c3_628 : Index := 3#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c0_i32_569 : BitVec 32 := 0#32
  let v692 : BitVec 32 := Scalar.addi v607 c0_i32_569
  let c1_i32_570 : BitVec 32 := 1#32
  let v693 : BitVec 32 := Scalar.subi v692 c1_i32_570
  let c0_i32_573 : BitVec 32 := 0#32
  let v696 : BitVec 1 := Scalar.cmpi .slt v693 c0_i32_573
  let c1_i32 : BitVec 32 := 1#32
  let v3 : BitVec 32 := Scalar.subi arg1 c1_i32
  let c0_i32_1 : BitVec 32 := 0#32
  let v4 : BitVec 32 := Scalar.maxsi v3 c0_i32_1
  let c31_i32_572 : BitVec 32 := 31#32
  let c0_i32_571 : BitVec 32 := 0#32
  let v694 : BitVec 32 := Scalar.maxsi c0_i32_571 v693
  let v695 : BitVec 32 := Scalar.minsi c31_i32_572 v694
  let v697 : BitVec 32 := Scalar.select v696 v4 v695
  let v752 : Index := Scalar.indexCast v697
  let c0_629 : Index := 0#32
  let c0_630 : Index := 0#32
  ![3, v752.toNat, 0, 0]
def k0_off101 (i : grid0.Coords) (k0_t3 : Fin (k0_t3_loop i).trips) (c0_i32_638 : BitVec 32) : Fin 4 → Nat :=
  let c0_641 : Index := 0#32
  let c0_642 : Index := 0#32
  let c31_i32_640 : BitVec 32 := 31#32
  let c0_i32_639 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let v762 : BitVec 32 := Scalar.addi v607 c0_i32_638
  let v763 : BitVec 32 := Scalar.maxsi c0_i32_639 v762
  let v764 : BitVec 32 := Scalar.minsi c31_i32_640 v763
  let v765 : Index := Scalar.indexCast v764
  let c0_643 : Index := 0#32
  ![0, 0, v765.toNat, 0]
def k0_off102 (i : grid0.Coords) (k0_t3 : Fin (k0_t3_loop i).trips) (c0_i32_638 : BitVec 32) : Fin 4 → Nat :=
  let c1_665 : Index := 1#32
  let c0_666 : Index := 0#32
  let c31_i32_664 : BitVec 32 := 31#32
  let c0_i32_663 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let v762 : BitVec 32 := Scalar.addi v607 c0_i32_638
  let v794 : BitVec 32 := Scalar.maxsi c0_i32_663 v762
  let v795 : BitVec 32 := Scalar.minsi c31_i32_664 v794
  let v796 : Index := Scalar.indexCast v795
  let c0_667 : Index := 0#32
  ![1, 0, v796.toNat, 0]
def k0_off103 (i : grid0.Coords) (k0_t3 : Fin (k0_t3_loop i).trips) (c0_i32_638 : BitVec 32) : Fin 4 → Nat :=
  let c2_689 : Index := 2#32
  let c0_690 : Index := 0#32
  let c31_i32_688 : BitVec 32 := 31#32
  let c0_i32_687 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let v762 : BitVec 32 := Scalar.addi v607 c0_i32_638
  let v825 : BitVec 32 := Scalar.maxsi c0_i32_687 v762
  let v826 : BitVec 32 := Scalar.minsi c31_i32_688 v825
  let v827 : Index := Scalar.indexCast v826
  let c0_691 : Index := 0#32
  ![2, 0, v827.toNat, 0]
def k0_off104 (i : grid0.Coords) (k0_t3 : Fin (k0_t3_loop i).trips) (c0_i32_638 : BitVec 32) : Fin 4 → Nat :=
  let c3_713 : Index := 3#32
  let c0_714 : Index := 0#32
  let c31_i32_712 : BitVec 32 := 31#32
  let c0_i32_711 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let v762 : BitVec 32 := Scalar.addi v607 c0_i32_638
  let v856 : BitVec 32 := Scalar.maxsi c0_i32_711 v762
  let v857 : BitVec 32 := Scalar.minsi c31_i32_712 v856
  let v858 : Index := Scalar.indexCast v857
  let c0_715 : Index := 0#32
  ![3, 0, v858.toNat, 0]
def k0_mult33 (i : grid0.Coords) (k0_t3 : Fin (k0_t3_loop i).trips) : BitVec 32 :=
  let c31_i32_737 : BitVec 32 := 31#32
  let c0_i32_736 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c4_i32_735 : BitVec 32 := 4#32
  let v887 : BitVec 32 := Scalar.addi v607 c4_i32_735
  let v888 : BitVec 32 := Scalar.maxsi c0_i32_736 v887
  let v889 : BitVec 32 := Scalar.minsi c31_i32_737 v888
  let c256_i32_738 : BitVec 32 := 256#32
  let v890 : BitVec 32 := Scalar.muli v889 c256_i32_738
  v890
def k0_off105 (i : grid0.Coords) (k0_t3 : Fin (k0_t3_loop i).trips) : Fin 3 → Nat :=
  let c0_739 : Index := 0#32
  let c31_i32_737 : BitVec 32 := 31#32
  let c0_i32_736 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c4_i32_735 : BitVec 32 := 4#32
  let v887 : BitVec 32 := Scalar.addi v607 c4_i32_735
  let v888 : BitVec 32 := Scalar.maxsi c0_i32_736 v887
  let v889 : BitVec 32 := Scalar.minsi c31_i32_737 v888
  let c256_i32_738 : BitVec 32 := 256#32
  let v890 : BitVec 32 := Scalar.muli v889 c256_i32_738
  let v891 : BitVec 32 := v890
  let v892 : Index := Scalar.indexCast v891
  let c0_740 : Index := 0#32
  ![0, v892.toNat, 0]
def k0_mult34 (i : grid0.Coords) (k0_t3 : Fin (k0_t3_loop i).trips) : BitVec 32 :=
  let c31_i32_750 : BitVec 32 := 31#32
  let c0_i32_749 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c4_i32_735 : BitVec 32 := 4#32
  let v887 : BitVec 32 := Scalar.addi v607 c4_i32_735
  let v901 : BitVec 32 := Scalar.maxsi c0_i32_749 v887
  let v902 : BitVec 32 := Scalar.minsi c31_i32_750 v901
  let c256_i32_751 : BitVec 32 := 256#32
  let v903 : BitVec 32 := Scalar.muli v902 c256_i32_751
  v903
def k0_off106 (i : grid0.Coords) (k0_t3 : Fin (k0_t3_loop i).trips) : Fin 3 → Nat :=
  let c1_752 : Index := 1#32
  let c31_i32_750 : BitVec 32 := 31#32
  let c0_i32_749 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c4_i32_735 : BitVec 32 := 4#32
  let v887 : BitVec 32 := Scalar.addi v607 c4_i32_735
  let v901 : BitVec 32 := Scalar.maxsi c0_i32_749 v887
  let v902 : BitVec 32 := Scalar.minsi c31_i32_750 v901
  let c256_i32_751 : BitVec 32 := 256#32
  let v903 : BitVec 32 := Scalar.muli v902 c256_i32_751
  let v904 : BitVec 32 := v903
  let v905 : Index := Scalar.indexCast v904
  let c0_753 : Index := 0#32
  ![1, v905.toNat, 0]
def k0_mult35 (i : grid0.Coords) (k0_t3 : Fin (k0_t3_loop i).trips) : BitVec 32 :=
  let c31_i32_763 : BitVec 32 := 31#32
  let c0_i32_762 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c4_i32_735 : BitVec 32 := 4#32
  let v887 : BitVec 32 := Scalar.addi v607 c4_i32_735
  let v914 : BitVec 32 := Scalar.maxsi c0_i32_762 v887
  let v915 : BitVec 32 := Scalar.minsi c31_i32_763 v914
  let c256_i32_764 : BitVec 32 := 256#32
  let v916 : BitVec 32 := Scalar.muli v915 c256_i32_764
  v916
def k0_off107 (i : grid0.Coords) (k0_t3 : Fin (k0_t3_loop i).trips) : Fin 3 → Nat :=
  let c2_765 : Index := 2#32
  let c31_i32_763 : BitVec 32 := 31#32
  let c0_i32_762 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c4_i32_735 : BitVec 32 := 4#32
  let v887 : BitVec 32 := Scalar.addi v607 c4_i32_735
  let v914 : BitVec 32 := Scalar.maxsi c0_i32_762 v887
  let v915 : BitVec 32 := Scalar.minsi c31_i32_763 v914
  let c256_i32_764 : BitVec 32 := 256#32
  let v916 : BitVec 32 := Scalar.muli v915 c256_i32_764
  let v917 : BitVec 32 := v916
  let v918 : Index := Scalar.indexCast v917
  let c0_766 : Index := 0#32
  ![2, v918.toNat, 0]
def k0_mult36 (i : grid0.Coords) (k0_t3 : Fin (k0_t3_loop i).trips) : BitVec 32 :=
  let c31_i32_776 : BitVec 32 := 31#32
  let c0_i32_775 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c4_i32_735 : BitVec 32 := 4#32
  let v887 : BitVec 32 := Scalar.addi v607 c4_i32_735
  let v927 : BitVec 32 := Scalar.maxsi c0_i32_775 v887
  let v928 : BitVec 32 := Scalar.minsi c31_i32_776 v927
  let c256_i32_777 : BitVec 32 := 256#32
  let v929 : BitVec 32 := Scalar.muli v928 c256_i32_777
  v929
def k0_off108 (i : grid0.Coords) (k0_t3 : Fin (k0_t3_loop i).trips) : Fin 3 → Nat :=
  let c3_778 : Index := 3#32
  let c31_i32_776 : BitVec 32 := 31#32
  let c0_i32_775 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let c4_i32_735 : BitVec 32 := 4#32
  let v887 : BitVec 32 := Scalar.addi v607 c4_i32_735
  let v927 : BitVec 32 := Scalar.maxsi c0_i32_775 v887
  let v928 : BitVec 32 := Scalar.minsi c31_i32_776 v927
  let c256_i32_777 : BitVec 32 := 256#32
  let v929 : BitVec 32 := Scalar.muli v928 c256_i32_777
  let v930 : BitVec 32 := v929
  let v931 : Index := Scalar.indexCast v930
  let c0_779 : Index := 0#32
  ![3, v931.toNat, 0]
def k0_off109 (i : grid0.Coords) (k0_t3 : Fin (k0_t3_loop i).trips) (c1_i32_788 : BitVec 32) : Fin 4 → Nat :=
  let c0_798 : Index := 0#32
  let c31_i32_791 : BitVec 32 := 31#32
  let c0_i32_790 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let v940 : BitVec 32 := Scalar.addi v607 c1_i32_788
  let c1_i32_789 : BitVec 32 := 1#32
  let v941 : BitVec 32 := Scalar.subi v940 c1_i32_789
  let v942 : BitVec 32 := Scalar.maxsi c0_i32_790 v941
  let v943 : BitVec 32 := Scalar.minsi c31_i32_791 v942
  let v950 : Index := Scalar.indexCast v943
  let c0_799 : Index := 0#32
  let c0_800 : Index := 0#32
  ![0, v950.toNat, 0, 0]
def k0_off110 (i : grid0.Coords) (k0_t3 : Fin (k0_t3_loop i).trips) (c1_i32_788 : BitVec 32) : Fin 4 → Nat :=
  let c1_814 : Index := 1#32
  let c31_i32_791 : BitVec 32 := 31#32
  let c0_i32_790 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let v940 : BitVec 32 := Scalar.addi v607 c1_i32_788
  let c1_i32_789 : BitVec 32 := 1#32
  let v941 : BitVec 32 := Scalar.subi v940 c1_i32_789
  let v942 : BitVec 32 := Scalar.maxsi c0_i32_790 v941
  let v943 : BitVec 32 := Scalar.minsi c31_i32_791 v942
  let v966 : Index := Scalar.indexCast v943
  let c0_815 : Index := 0#32
  let c0_816 : Index := 0#32
  ![1, v966.toNat, 0, 0]
def k0_off111 (i : grid0.Coords) (k0_t3 : Fin (k0_t3_loop i).trips) (c1_i32_788 : BitVec 32) : Fin 4 → Nat :=
  let c2_830 : Index := 2#32
  let c31_i32_791 : BitVec 32 := 31#32
  let c0_i32_790 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let v940 : BitVec 32 := Scalar.addi v607 c1_i32_788
  let c1_i32_789 : BitVec 32 := 1#32
  let v941 : BitVec 32 := Scalar.subi v940 c1_i32_789
  let v942 : BitVec 32 := Scalar.maxsi c0_i32_790 v941
  let v943 : BitVec 32 := Scalar.minsi c31_i32_791 v942
  let v982 : Index := Scalar.indexCast v943
  let c0_831 : Index := 0#32
  let c0_832 : Index := 0#32
  ![2, v982.toNat, 0, 0]
def k0_off112 (i : grid0.Coords) (k0_t3 : Fin (k0_t3_loop i).trips) (c1_i32_788 : BitVec 32) : Fin 4 → Nat :=
  let c3_846 : Index := 3#32
  let c31_i32_791 : BitVec 32 := 31#32
  let c0_i32_790 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c1_i32_394 : BitVec 32 := 1#32
  let arg36 : BitVec 32 := Scf.iv c0_i32_392 c1_i32_394 k0_t3
  let v606 : BitVec 32 := Scalar.muli c4_i32_496 arg36
  let v607 : BitVec 32 := Scalar.addi v466 v606
  let v940 : BitVec 32 := Scalar.addi v607 c1_i32_788
  let c1_i32_789 : BitVec 32 := 1#32
  let v941 : BitVec 32 := Scalar.subi v940 c1_i32_789
  let v942 : BitVec 32 := Scalar.maxsi c0_i32_790 v941
  let v943 : BitVec 32 := Scalar.minsi c31_i32_791 v942
  let v998 : Index := Scalar.indexCast v943
  let c0_847 : Index := 0#32
  let c0_848 : Index := 0#32
  ![3, v998.toNat, 0, 0]
@[reducible] def k0_t4_loop (i : grid0.Coords) : Scf.Loop 32 :=
  let c0_i32_392 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c8_i32_383 : BitVec 32 := 8#32
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let v468 : BitVec 32 := Scalar.addi c0_i32_392 v467
  let c1_i32_395 : BitVec 32 := 1#32
  ⟨v471, v468, c1_i32_395⟩
def k0_mult37 (i : grid0.Coords) (k0_t4 : Fin (k0_t4_loop i).trips) : BitVec 32 :=
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c1_i32_497 : BitVec 32 := 1#32
  let v608 : BitVec 32 := Scalar.addi v607 c1_i32_497
  let c256_i32_498 : BitVec 32 := 256#32
  let v609 : BitVec 32 := Scalar.muli v608 c256_i32_498
  v609
def k0_off113 (i : grid0.Coords) (k0_t4 : Fin (k0_t4_loop i).trips) : Fin 3 → Nat :=
  let c0_499 : Index := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c1_i32_497 : BitVec 32 := 1#32
  let v608 : BitVec 32 := Scalar.addi v607 c1_i32_497
  let c256_i32_498 : BitVec 32 := 256#32
  let v609 : BitVec 32 := Scalar.muli v608 c256_i32_498
  let v610 : BitVec 32 := v609
  let v611 : Index := Scalar.indexCast v610
  let c0_500 : Index := 0#32
  ![0, v611.toNat, 0]
def k0_mult38 (i : grid0.Coords) (k0_t4 : Fin (k0_t4_loop i).trips) : BitVec 32 :=
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c1_i32_515 : BitVec 32 := 1#32
  let v629 : BitVec 32 := Scalar.addi v607 c1_i32_515
  let c256_i32_516 : BitVec 32 := 256#32
  let v630 : BitVec 32 := Scalar.muli v629 c256_i32_516
  v630
def k0_off114 (i : grid0.Coords) (k0_t4 : Fin (k0_t4_loop i).trips) : Fin 3 → Nat :=
  let c1_517 : Index := 1#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c1_i32_515 : BitVec 32 := 1#32
  let v629 : BitVec 32 := Scalar.addi v607 c1_i32_515
  let c256_i32_516 : BitVec 32 := 256#32
  let v630 : BitVec 32 := Scalar.muli v629 c256_i32_516
  let v631 : BitVec 32 := v630
  let v632 : Index := Scalar.indexCast v631
  let c0_518 : Index := 0#32
  ![1, v632.toNat, 0]
def k0_mult39 (i : grid0.Coords) (k0_t4 : Fin (k0_t4_loop i).trips) : BitVec 32 :=
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c1_i32_533 : BitVec 32 := 1#32
  let v650 : BitVec 32 := Scalar.addi v607 c1_i32_533
  let c256_i32_534 : BitVec 32 := 256#32
  let v651 : BitVec 32 := Scalar.muli v650 c256_i32_534
  v651
def k0_off115 (i : grid0.Coords) (k0_t4 : Fin (k0_t4_loop i).trips) : Fin 3 → Nat :=
  let c2_535 : Index := 2#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c1_i32_533 : BitVec 32 := 1#32
  let v650 : BitVec 32 := Scalar.addi v607 c1_i32_533
  let c256_i32_534 : BitVec 32 := 256#32
  let v651 : BitVec 32 := Scalar.muli v650 c256_i32_534
  let v652 : BitVec 32 := v651
  let v653 : Index := Scalar.indexCast v652
  let c0_536 : Index := 0#32
  ![2, v653.toNat, 0]
def k0_mult40 (i : grid0.Coords) (k0_t4 : Fin (k0_t4_loop i).trips) : BitVec 32 :=
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c1_i32_551 : BitVec 32 := 1#32
  let v671 : BitVec 32 := Scalar.addi v607 c1_i32_551
  let c256_i32_552 : BitVec 32 := 256#32
  let v672 : BitVec 32 := Scalar.muli v671 c256_i32_552
  v672
def k0_off116 (i : grid0.Coords) (k0_t4 : Fin (k0_t4_loop i).trips) : Fin 3 → Nat :=
  let c3_553 : Index := 3#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c1_i32_551 : BitVec 32 := 1#32
  let v671 : BitVec 32 := Scalar.addi v607 c1_i32_551
  let c256_i32_552 : BitVec 32 := 256#32
  let v672 : BitVec 32 := Scalar.muli v671 c256_i32_552
  let v673 : BitVec 32 := v672
  let v674 : Index := Scalar.indexCast v673
  let c0_554 : Index := 0#32
  ![3, v674.toNat, 0]
def k0_off117 (i : grid0.Coords) (k0_t4 : Fin (k0_t4_loop i).trips) : Fin 4 → Nat :=
  let c0_580 : Index := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c0_i32_569 : BitVec 32 := 0#32
  let v692 : BitVec 32 := Scalar.addi v607 c0_i32_569
  let c1_i32_570 : BitVec 32 := 1#32
  let v693 : BitVec 32 := Scalar.subi v692 c1_i32_570
  let c0_i32_573 : BitVec 32 := 0#32
  let v696 : BitVec 1 := Scalar.cmpi .slt v693 c0_i32_573
  let c1_i32 : BitVec 32 := 1#32
  let v3 : BitVec 32 := Scalar.subi arg1 c1_i32
  let c0_i32_1 : BitVec 32 := 0#32
  let v4 : BitVec 32 := Scalar.maxsi v3 c0_i32_1
  let c31_i32_572 : BitVec 32 := 31#32
  let c0_i32_571 : BitVec 32 := 0#32
  let v694 : BitVec 32 := Scalar.maxsi c0_i32_571 v693
  let v695 : BitVec 32 := Scalar.minsi c31_i32_572 v694
  let v697 : BitVec 32 := Scalar.select v696 v4 v695
  let v704 : Index := Scalar.indexCast v697
  let c0_581 : Index := 0#32
  let c0_582 : Index := 0#32
  ![0, v704.toNat, 0, 0]
def k0_off118 (i : grid0.Coords) (k0_t4 : Fin (k0_t4_loop i).trips) : Fin 4 → Nat :=
  let c1_596 : Index := 1#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c0_i32_569 : BitVec 32 := 0#32
  let v692 : BitVec 32 := Scalar.addi v607 c0_i32_569
  let c1_i32_570 : BitVec 32 := 1#32
  let v693 : BitVec 32 := Scalar.subi v692 c1_i32_570
  let c0_i32_573 : BitVec 32 := 0#32
  let v696 : BitVec 1 := Scalar.cmpi .slt v693 c0_i32_573
  let c1_i32 : BitVec 32 := 1#32
  let v3 : BitVec 32 := Scalar.subi arg1 c1_i32
  let c0_i32_1 : BitVec 32 := 0#32
  let v4 : BitVec 32 := Scalar.maxsi v3 c0_i32_1
  let c31_i32_572 : BitVec 32 := 31#32
  let c0_i32_571 : BitVec 32 := 0#32
  let v694 : BitVec 32 := Scalar.maxsi c0_i32_571 v693
  let v695 : BitVec 32 := Scalar.minsi c31_i32_572 v694
  let v697 : BitVec 32 := Scalar.select v696 v4 v695
  let v720 : Index := Scalar.indexCast v697
  let c0_597 : Index := 0#32
  let c0_598 : Index := 0#32
  ![1, v720.toNat, 0, 0]
def k0_off119 (i : grid0.Coords) (k0_t4 : Fin (k0_t4_loop i).trips) : Fin 4 → Nat :=
  let c2_612 : Index := 2#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c0_i32_569 : BitVec 32 := 0#32
  let v692 : BitVec 32 := Scalar.addi v607 c0_i32_569
  let c1_i32_570 : BitVec 32 := 1#32
  let v693 : BitVec 32 := Scalar.subi v692 c1_i32_570
  let c0_i32_573 : BitVec 32 := 0#32
  let v696 : BitVec 1 := Scalar.cmpi .slt v693 c0_i32_573
  let c1_i32 : BitVec 32 := 1#32
  let v3 : BitVec 32 := Scalar.subi arg1 c1_i32
  let c0_i32_1 : BitVec 32 := 0#32
  let v4 : BitVec 32 := Scalar.maxsi v3 c0_i32_1
  let c31_i32_572 : BitVec 32 := 31#32
  let c0_i32_571 : BitVec 32 := 0#32
  let v694 : BitVec 32 := Scalar.maxsi c0_i32_571 v693
  let v695 : BitVec 32 := Scalar.minsi c31_i32_572 v694
  let v697 : BitVec 32 := Scalar.select v696 v4 v695
  let v736 : Index := Scalar.indexCast v697
  let c0_613 : Index := 0#32
  let c0_614 : Index := 0#32
  ![2, v736.toNat, 0, 0]
def k0_off120 (i : grid0.Coords) (k0_t4 : Fin (k0_t4_loop i).trips) : Fin 4 → Nat :=
  let c3_628 : Index := 3#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c0_i32_569 : BitVec 32 := 0#32
  let v692 : BitVec 32 := Scalar.addi v607 c0_i32_569
  let c1_i32_570 : BitVec 32 := 1#32
  let v693 : BitVec 32 := Scalar.subi v692 c1_i32_570
  let c0_i32_573 : BitVec 32 := 0#32
  let v696 : BitVec 1 := Scalar.cmpi .slt v693 c0_i32_573
  let c1_i32 : BitVec 32 := 1#32
  let v3 : BitVec 32 := Scalar.subi arg1 c1_i32
  let c0_i32_1 : BitVec 32 := 0#32
  let v4 : BitVec 32 := Scalar.maxsi v3 c0_i32_1
  let c31_i32_572 : BitVec 32 := 31#32
  let c0_i32_571 : BitVec 32 := 0#32
  let v694 : BitVec 32 := Scalar.maxsi c0_i32_571 v693
  let v695 : BitVec 32 := Scalar.minsi c31_i32_572 v694
  let v697 : BitVec 32 := Scalar.select v696 v4 v695
  let v752 : Index := Scalar.indexCast v697
  let c0_629 : Index := 0#32
  let c0_630 : Index := 0#32
  ![3, v752.toNat, 0, 0]
def k0_off121 (i : grid0.Coords) (k0_t4 : Fin (k0_t4_loop i).trips) (c0_i32_638 : BitVec 32) : Fin 4 → Nat :=
  let c0_641 : Index := 0#32
  let c0_642 : Index := 0#32
  let c31_i32_640 : BitVec 32 := 31#32
  let c0_i32_639 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let v762 : BitVec 32 := Scalar.addi v607 c0_i32_638
  let v763 : BitVec 32 := Scalar.maxsi c0_i32_639 v762
  let v764 : BitVec 32 := Scalar.minsi c31_i32_640 v763
  let v765 : Index := Scalar.indexCast v764
  let c0_643 : Index := 0#32
  ![0, 0, v765.toNat, 0]
def k0_off122 (i : grid0.Coords) (k0_t4 : Fin (k0_t4_loop i).trips) (c0_i32_638 : BitVec 32) : Fin 4 → Nat :=
  let c1_665 : Index := 1#32
  let c0_666 : Index := 0#32
  let c31_i32_664 : BitVec 32 := 31#32
  let c0_i32_663 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let v762 : BitVec 32 := Scalar.addi v607 c0_i32_638
  let v794 : BitVec 32 := Scalar.maxsi c0_i32_663 v762
  let v795 : BitVec 32 := Scalar.minsi c31_i32_664 v794
  let v796 : Index := Scalar.indexCast v795
  let c0_667 : Index := 0#32
  ![1, 0, v796.toNat, 0]
def k0_off123 (i : grid0.Coords) (k0_t4 : Fin (k0_t4_loop i).trips) (c0_i32_638 : BitVec 32) : Fin 4 → Nat :=
  let c2_689 : Index := 2#32
  let c0_690 : Index := 0#32
  let c31_i32_688 : BitVec 32 := 31#32
  let c0_i32_687 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let v762 : BitVec 32 := Scalar.addi v607 c0_i32_638
  let v825 : BitVec 32 := Scalar.maxsi c0_i32_687 v762
  let v826 : BitVec 32 := Scalar.minsi c31_i32_688 v825
  let v827 : Index := Scalar.indexCast v826
  let c0_691 : Index := 0#32
  ![2, 0, v827.toNat, 0]
def k0_off124 (i : grid0.Coords) (k0_t4 : Fin (k0_t4_loop i).trips) (c0_i32_638 : BitVec 32) : Fin 4 → Nat :=
  let c3_713 : Index := 3#32
  let c0_714 : Index := 0#32
  let c31_i32_712 : BitVec 32 := 31#32
  let c0_i32_711 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let v762 : BitVec 32 := Scalar.addi v607 c0_i32_638
  let v856 : BitVec 32 := Scalar.maxsi c0_i32_711 v762
  let v857 : BitVec 32 := Scalar.minsi c31_i32_712 v856
  let v858 : Index := Scalar.indexCast v857
  let c0_715 : Index := 0#32
  ![3, 0, v858.toNat, 0]
def k0_mult41 (i : grid0.Coords) (k0_t4 : Fin (k0_t4_loop i).trips) : BitVec 32 :=
  let c31_i32_737 : BitVec 32 := 31#32
  let c0_i32_736 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c4_i32_735 : BitVec 32 := 4#32
  let v887 : BitVec 32 := Scalar.addi v607 c4_i32_735
  let v888 : BitVec 32 := Scalar.maxsi c0_i32_736 v887
  let v889 : BitVec 32 := Scalar.minsi c31_i32_737 v888
  let c256_i32_738 : BitVec 32 := 256#32
  let v890 : BitVec 32 := Scalar.muli v889 c256_i32_738
  v890
def k0_off125 (i : grid0.Coords) (k0_t4 : Fin (k0_t4_loop i).trips) : Fin 3 → Nat :=
  let c0_739 : Index := 0#32
  let c31_i32_737 : BitVec 32 := 31#32
  let c0_i32_736 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c4_i32_735 : BitVec 32 := 4#32
  let v887 : BitVec 32 := Scalar.addi v607 c4_i32_735
  let v888 : BitVec 32 := Scalar.maxsi c0_i32_736 v887
  let v889 : BitVec 32 := Scalar.minsi c31_i32_737 v888
  let c256_i32_738 : BitVec 32 := 256#32
  let v890 : BitVec 32 := Scalar.muli v889 c256_i32_738
  let v891 : BitVec 32 := v890
  let v892 : Index := Scalar.indexCast v891
  let c0_740 : Index := 0#32
  ![0, v892.toNat, 0]
def k0_mult42 (i : grid0.Coords) (k0_t4 : Fin (k0_t4_loop i).trips) : BitVec 32 :=
  let c31_i32_750 : BitVec 32 := 31#32
  let c0_i32_749 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c4_i32_735 : BitVec 32 := 4#32
  let v887 : BitVec 32 := Scalar.addi v607 c4_i32_735
  let v901 : BitVec 32 := Scalar.maxsi c0_i32_749 v887
  let v902 : BitVec 32 := Scalar.minsi c31_i32_750 v901
  let c256_i32_751 : BitVec 32 := 256#32
  let v903 : BitVec 32 := Scalar.muli v902 c256_i32_751
  v903
def k0_off126 (i : grid0.Coords) (k0_t4 : Fin (k0_t4_loop i).trips) : Fin 3 → Nat :=
  let c1_752 : Index := 1#32
  let c31_i32_750 : BitVec 32 := 31#32
  let c0_i32_749 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c4_i32_735 : BitVec 32 := 4#32
  let v887 : BitVec 32 := Scalar.addi v607 c4_i32_735
  let v901 : BitVec 32 := Scalar.maxsi c0_i32_749 v887
  let v902 : BitVec 32 := Scalar.minsi c31_i32_750 v901
  let c256_i32_751 : BitVec 32 := 256#32
  let v903 : BitVec 32 := Scalar.muli v902 c256_i32_751
  let v904 : BitVec 32 := v903
  let v905 : Index := Scalar.indexCast v904
  let c0_753 : Index := 0#32
  ![1, v905.toNat, 0]
def k0_mult43 (i : grid0.Coords) (k0_t4 : Fin (k0_t4_loop i).trips) : BitVec 32 :=
  let c31_i32_763 : BitVec 32 := 31#32
  let c0_i32_762 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c4_i32_735 : BitVec 32 := 4#32
  let v887 : BitVec 32 := Scalar.addi v607 c4_i32_735
  let v914 : BitVec 32 := Scalar.maxsi c0_i32_762 v887
  let v915 : BitVec 32 := Scalar.minsi c31_i32_763 v914
  let c256_i32_764 : BitVec 32 := 256#32
  let v916 : BitVec 32 := Scalar.muli v915 c256_i32_764
  v916
def k0_off127 (i : grid0.Coords) (k0_t4 : Fin (k0_t4_loop i).trips) : Fin 3 → Nat :=
  let c2_765 : Index := 2#32
  let c31_i32_763 : BitVec 32 := 31#32
  let c0_i32_762 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c4_i32_735 : BitVec 32 := 4#32
  let v887 : BitVec 32 := Scalar.addi v607 c4_i32_735
  let v914 : BitVec 32 := Scalar.maxsi c0_i32_762 v887
  let v915 : BitVec 32 := Scalar.minsi c31_i32_763 v914
  let c256_i32_764 : BitVec 32 := 256#32
  let v916 : BitVec 32 := Scalar.muli v915 c256_i32_764
  let v917 : BitVec 32 := v916
  let v918 : Index := Scalar.indexCast v917
  let c0_766 : Index := 0#32
  ![2, v918.toNat, 0]
def k0_mult44 (i : grid0.Coords) (k0_t4 : Fin (k0_t4_loop i).trips) : BitVec 32 :=
  let c31_i32_776 : BitVec 32 := 31#32
  let c0_i32_775 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c4_i32_735 : BitVec 32 := 4#32
  let v887 : BitVec 32 := Scalar.addi v607 c4_i32_735
  let v927 : BitVec 32 := Scalar.maxsi c0_i32_775 v887
  let v928 : BitVec 32 := Scalar.minsi c31_i32_776 v927
  let c256_i32_777 : BitVec 32 := 256#32
  let v929 : BitVec 32 := Scalar.muli v928 c256_i32_777
  v929
def k0_off128 (i : grid0.Coords) (k0_t4 : Fin (k0_t4_loop i).trips) : Fin 3 → Nat :=
  let c3_778 : Index := 3#32
  let c31_i32_776 : BitVec 32 := 31#32
  let c0_i32_775 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let c4_i32_735 : BitVec 32 := 4#32
  let v887 : BitVec 32 := Scalar.addi v607 c4_i32_735
  let v927 : BitVec 32 := Scalar.maxsi c0_i32_775 v887
  let v928 : BitVec 32 := Scalar.minsi c31_i32_776 v927
  let c256_i32_777 : BitVec 32 := 256#32
  let v929 : BitVec 32 := Scalar.muli v928 c256_i32_777
  let v930 : BitVec 32 := v929
  let v931 : Index := Scalar.indexCast v930
  let c0_779 : Index := 0#32
  ![3, v931.toNat, 0]
def k0_off129 (i : grid0.Coords) (k0_t4 : Fin (k0_t4_loop i).trips) (c1_i32_788 : BitVec 32) : Fin 4 → Nat :=
  let c0_798 : Index := 0#32
  let c31_i32_791 : BitVec 32 := 31#32
  let c0_i32_790 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let v940 : BitVec 32 := Scalar.addi v607 c1_i32_788
  let c1_i32_789 : BitVec 32 := 1#32
  let v941 : BitVec 32 := Scalar.subi v940 c1_i32_789
  let v942 : BitVec 32 := Scalar.maxsi c0_i32_790 v941
  let v943 : BitVec 32 := Scalar.minsi c31_i32_791 v942
  let v950 : Index := Scalar.indexCast v943
  let c0_799 : Index := 0#32
  let c0_800 : Index := 0#32
  ![0, v950.toNat, 0, 0]
def k0_off130 (i : grid0.Coords) (k0_t4 : Fin (k0_t4_loop i).trips) (c1_i32_788 : BitVec 32) : Fin 4 → Nat :=
  let c1_814 : Index := 1#32
  let c31_i32_791 : BitVec 32 := 31#32
  let c0_i32_790 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let v940 : BitVec 32 := Scalar.addi v607 c1_i32_788
  let c1_i32_789 : BitVec 32 := 1#32
  let v941 : BitVec 32 := Scalar.subi v940 c1_i32_789
  let v942 : BitVec 32 := Scalar.maxsi c0_i32_790 v941
  let v943 : BitVec 32 := Scalar.minsi c31_i32_791 v942
  let v966 : Index := Scalar.indexCast v943
  let c0_815 : Index := 0#32
  let c0_816 : Index := 0#32
  ![1, v966.toNat, 0, 0]
def k0_off131 (i : grid0.Coords) (k0_t4 : Fin (k0_t4_loop i).trips) (c1_i32_788 : BitVec 32) : Fin 4 → Nat :=
  let c2_830 : Index := 2#32
  let c31_i32_791 : BitVec 32 := 31#32
  let c0_i32_790 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let v940 : BitVec 32 := Scalar.addi v607 c1_i32_788
  let c1_i32_789 : BitVec 32 := 1#32
  let v941 : BitVec 32 := Scalar.subi v940 c1_i32_789
  let v942 : BitVec 32 := Scalar.maxsi c0_i32_790 v941
  let v943 : BitVec 32 := Scalar.minsi c31_i32_791 v942
  let v982 : Index := Scalar.indexCast v943
  let c0_831 : Index := 0#32
  let c0_832 : Index := 0#32
  ![2, v982.toNat, 0, 0]
def k0_off132 (i : grid0.Coords) (k0_t4 : Fin (k0_t4_loop i).trips) (c1_i32_788 : BitVec 32) : Fin 4 → Nat :=
  let c3_846 : Index := 3#32
  let c31_i32_791 : BitVec 32 := 31#32
  let c0_i32_790 : BitVec 32 := 0#32
  let c8_i32_390 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v466 : BitVec 32 := Scalar.muli c8_i32_390 v441
  let c4_i32_496 : BitVec 32 := 4#32
  let c0_i32_392 : BitVec 32 := 0#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v467 : BitVec 32 := Scalar.subi v465 c0_i32_392
  let c1_i32_393 : BitVec 32 := 1#32
  let v469 : BitVec 32 := Scalar.divsi v467 c1_i32_393
  let v470 : BitVec 32 := Scalar.muli v469 c1_i32_393
  let v471 : BitVec 32 := Scalar.addi c0_i32_392 v470
  let c1_i32_395 : BitVec 32 := 1#32
  let arg36 : BitVec 32 := Scf.iv v471 c1_i32_395 k0_t4
  let v606 : BitVec 32 := Scalar.muli c4_i32_496 arg36
  let v607 : BitVec 32 := Scalar.addi v466 v606
  let v940 : BitVec 32 := Scalar.addi v607 c1_i32_788
  let c1_i32_789 : BitVec 32 := 1#32
  let v941 : BitVec 32 := Scalar.subi v940 c1_i32_789
  let v942 : BitVec 32 := Scalar.maxsi c0_i32_790 v941
  let v943 : BitVec 32 := Scalar.minsi c31_i32_791 v942
  let v998 : Index := Scalar.indexCast v943
  let c0_847 : Index := 0#32
  let c0_848 : Index := 0#32
  ![3, v998.toNat, 0, 0]
@[reducible] def k0_t5_loop (i : grid0.Coords) : Scf.Loop 32 :=
  let c0_i32_406 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c8_i32_396 : BitVec 32 := 8#32
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_408 : BitVec 32 := 1#32
  ⟨c0_i32_406, v498, c1_i32_408⟩
def k0_mult45 (i : grid0.Coords) (k0_t5 : Fin (k0_t5_loop i).trips) : BitVec 32 :=
  let c31_i32_499 : BitVec 32 := 31#32
  let c0_i32_498 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_497 : BitVec 32 := 1#32
  let v608 : BitVec 32 := Scalar.addi v607 c1_i32_497
  let v609 : BitVec 32 := Scalar.maxsi c0_i32_498 v608
  let v610 : BitVec 32 := Scalar.minsi c31_i32_499 v609
  let c256_i32_500 : BitVec 32 := 256#32
  let v611 : BitVec 32 := Scalar.muli v610 c256_i32_500
  v611
def k0_off133 (i : grid0.Coords) (k0_t5 : Fin (k0_t5_loop i).trips) (c1_i32_497 : BitVec 32) : Fin 3 → Nat :=
  let c0_501 : Index := 0#32
  let c31_i32_499 : BitVec 32 := 31#32
  let c0_i32_498 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v608 : BitVec 32 := Scalar.addi v607 c1_i32_497
  let v609 : BitVec 32 := Scalar.maxsi c0_i32_498 v608
  let v610 : BitVec 32 := Scalar.minsi c31_i32_499 v609
  let c256_i32_500 : BitVec 32 := 256#32
  let v611 : BitVec 32 := Scalar.muli v610 c256_i32_500
  let v612 : BitVec 32 := v611
  let v613 : Index := Scalar.indexCast v612
  let c0_502 : Index := 0#32
  ![0, v613.toNat, 0]
def k0_mult46 (i : grid0.Coords) (k0_t5 : Fin (k0_t5_loop i).trips) : BitVec 32 :=
  let c31_i32_512 : BitVec 32 := 31#32
  let c0_i32_511 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_497 : BitVec 32 := 1#32
  let v608 : BitVec 32 := Scalar.addi v607 c1_i32_497
  let v622 : BitVec 32 := Scalar.maxsi c0_i32_511 v608
  let v623 : BitVec 32 := Scalar.minsi c31_i32_512 v622
  let c256_i32_513 : BitVec 32 := 256#32
  let v624 : BitVec 32 := Scalar.muli v623 c256_i32_513
  v624
def k0_off134 (i : grid0.Coords) (k0_t5 : Fin (k0_t5_loop i).trips) (c1_i32_497 : BitVec 32) : Fin 3 → Nat :=
  let c1_514 : Index := 1#32
  let c31_i32_512 : BitVec 32 := 31#32
  let c0_i32_511 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v608 : BitVec 32 := Scalar.addi v607 c1_i32_497
  let v622 : BitVec 32 := Scalar.maxsi c0_i32_511 v608
  let v623 : BitVec 32 := Scalar.minsi c31_i32_512 v622
  let c256_i32_513 : BitVec 32 := 256#32
  let v624 : BitVec 32 := Scalar.muli v623 c256_i32_513
  let v625 : BitVec 32 := v624
  let v626 : Index := Scalar.indexCast v625
  let c0_515 : Index := 0#32
  ![1, v626.toNat, 0]
def k0_mult47 (i : grid0.Coords) (k0_t5 : Fin (k0_t5_loop i).trips) : BitVec 32 :=
  let c31_i32_525 : BitVec 32 := 31#32
  let c0_i32_524 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_497 : BitVec 32 := 1#32
  let v608 : BitVec 32 := Scalar.addi v607 c1_i32_497
  let v635 : BitVec 32 := Scalar.maxsi c0_i32_524 v608
  let v636 : BitVec 32 := Scalar.minsi c31_i32_525 v635
  let c256_i32_526 : BitVec 32 := 256#32
  let v637 : BitVec 32 := Scalar.muli v636 c256_i32_526
  v637
def k0_off135 (i : grid0.Coords) (k0_t5 : Fin (k0_t5_loop i).trips) (c1_i32_497 : BitVec 32) : Fin 3 → Nat :=
  let c2_527 : Index := 2#32
  let c31_i32_525 : BitVec 32 := 31#32
  let c0_i32_524 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v608 : BitVec 32 := Scalar.addi v607 c1_i32_497
  let v635 : BitVec 32 := Scalar.maxsi c0_i32_524 v608
  let v636 : BitVec 32 := Scalar.minsi c31_i32_525 v635
  let c256_i32_526 : BitVec 32 := 256#32
  let v637 : BitVec 32 := Scalar.muli v636 c256_i32_526
  let v638 : BitVec 32 := v637
  let v639 : Index := Scalar.indexCast v638
  let c0_528 : Index := 0#32
  ![2, v639.toNat, 0]
def k0_mult48 (i : grid0.Coords) (k0_t5 : Fin (k0_t5_loop i).trips) : BitVec 32 :=
  let c31_i32_538 : BitVec 32 := 31#32
  let c0_i32_537 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_497 : BitVec 32 := 1#32
  let v608 : BitVec 32 := Scalar.addi v607 c1_i32_497
  let v648 : BitVec 32 := Scalar.maxsi c0_i32_537 v608
  let v649 : BitVec 32 := Scalar.minsi c31_i32_538 v648
  let c256_i32_539 : BitVec 32 := 256#32
  let v650 : BitVec 32 := Scalar.muli v649 c256_i32_539
  v650
def k0_off136 (i : grid0.Coords) (k0_t5 : Fin (k0_t5_loop i).trips) (c1_i32_497 : BitVec 32) : Fin 3 → Nat :=
  let c3_540 : Index := 3#32
  let c31_i32_538 : BitVec 32 := 31#32
  let c0_i32_537 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v608 : BitVec 32 := Scalar.addi v607 c1_i32_497
  let v648 : BitVec 32 := Scalar.maxsi c0_i32_537 v608
  let v649 : BitVec 32 := Scalar.minsi c31_i32_538 v648
  let c256_i32_539 : BitVec 32 := 256#32
  let v650 : BitVec 32 := Scalar.muli v649 c256_i32_539
  let v651 : BitVec 32 := v650
  let v652 : Index := Scalar.indexCast v651
  let c0_541 : Index := 0#32
  ![3, v652.toNat, 0]
def k0_off137 (i : grid0.Coords) (k0_t5 : Fin (k0_t5_loop i).trips) : Fin 4 → Nat :=
  let c0_560 : Index := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_550 : BitVec 32 := 1#32
  let v661 : BitVec 32 := Scalar.subi v607 c1_i32_550
  let c0_i32_553 : BitVec 32 := 0#32
  let v664 : BitVec 1 := Scalar.cmpi .slt v661 c0_i32_553
  let c1_i32 : BitVec 32 := 1#32
  let v3 : BitVec 32 := Scalar.subi arg1 c1_i32
  let c0_i32_1 : BitVec 32 := 0#32
  let v4 : BitVec 32 := Scalar.maxsi v3 c0_i32_1
  let c31_i32_552 : BitVec 32 := 31#32
  let c0_i32_551 : BitVec 32 := 0#32
  let v662 : BitVec 32 := Scalar.maxsi c0_i32_551 v661
  let v663 : BitVec 32 := Scalar.minsi c31_i32_552 v662
  let v665 : BitVec 32 := Scalar.select v664 v4 v663
  let v672 : Index := Scalar.indexCast v665
  let c0_561 : Index := 0#32
  let c0_562 : Index := 0#32
  ![0, v672.toNat, 0, 0]
def k0_off138 (i : grid0.Coords) (k0_t5 : Fin (k0_t5_loop i).trips) : Fin 4 → Nat :=
  let c1_576 : Index := 1#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_550 : BitVec 32 := 1#32
  let v661 : BitVec 32 := Scalar.subi v607 c1_i32_550
  let c0_i32_553 : BitVec 32 := 0#32
  let v664 : BitVec 1 := Scalar.cmpi .slt v661 c0_i32_553
  let c1_i32 : BitVec 32 := 1#32
  let v3 : BitVec 32 := Scalar.subi arg1 c1_i32
  let c0_i32_1 : BitVec 32 := 0#32
  let v4 : BitVec 32 := Scalar.maxsi v3 c0_i32_1
  let c31_i32_552 : BitVec 32 := 31#32
  let c0_i32_551 : BitVec 32 := 0#32
  let v662 : BitVec 32 := Scalar.maxsi c0_i32_551 v661
  let v663 : BitVec 32 := Scalar.minsi c31_i32_552 v662
  let v665 : BitVec 32 := Scalar.select v664 v4 v663
  let v688 : Index := Scalar.indexCast v665
  let c0_577 : Index := 0#32
  let c0_578 : Index := 0#32
  ![1, v688.toNat, 0, 0]
def k0_off139 (i : grid0.Coords) (k0_t5 : Fin (k0_t5_loop i).trips) : Fin 4 → Nat :=
  let c2_592 : Index := 2#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_550 : BitVec 32 := 1#32
  let v661 : BitVec 32 := Scalar.subi v607 c1_i32_550
  let c0_i32_553 : BitVec 32 := 0#32
  let v664 : BitVec 1 := Scalar.cmpi .slt v661 c0_i32_553
  let c1_i32 : BitVec 32 := 1#32
  let v3 : BitVec 32 := Scalar.subi arg1 c1_i32
  let c0_i32_1 : BitVec 32 := 0#32
  let v4 : BitVec 32 := Scalar.maxsi v3 c0_i32_1
  let c31_i32_552 : BitVec 32 := 31#32
  let c0_i32_551 : BitVec 32 := 0#32
  let v662 : BitVec 32 := Scalar.maxsi c0_i32_551 v661
  let v663 : BitVec 32 := Scalar.minsi c31_i32_552 v662
  let v665 : BitVec 32 := Scalar.select v664 v4 v663
  let v704 : Index := Scalar.indexCast v665
  let c0_593 : Index := 0#32
  let c0_594 : Index := 0#32
  ![2, v704.toNat, 0, 0]
def k0_off140 (i : grid0.Coords) (k0_t5 : Fin (k0_t5_loop i).trips) : Fin 4 → Nat :=
  let c3_608 : Index := 3#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_550 : BitVec 32 := 1#32
  let v661 : BitVec 32 := Scalar.subi v607 c1_i32_550
  let c0_i32_553 : BitVec 32 := 0#32
  let v664 : BitVec 1 := Scalar.cmpi .slt v661 c0_i32_553
  let c1_i32 : BitVec 32 := 1#32
  let v3 : BitVec 32 := Scalar.subi arg1 c1_i32
  let c0_i32_1 : BitVec 32 := 0#32
  let v4 : BitVec 32 := Scalar.maxsi v3 c0_i32_1
  let c31_i32_552 : BitVec 32 := 31#32
  let c0_i32_551 : BitVec 32 := 0#32
  let v662 : BitVec 32 := Scalar.maxsi c0_i32_551 v661
  let v663 : BitVec 32 := Scalar.minsi c31_i32_552 v662
  let v665 : BitVec 32 := Scalar.select v664 v4 v663
  let v720 : Index := Scalar.indexCast v665
  let c0_609 : Index := 0#32
  let c0_610 : Index := 0#32
  ![3, v720.toNat, 0, 0]
def k0_off141 (i : grid0.Coords) (k0_t5 : Fin (k0_t5_loop i).trips) : Fin 4 → Nat :=
  let c0_620 : Index := 0#32
  let c0_621 : Index := 0#32
  let c31_i32_619 : BitVec 32 := 31#32
  let c0_i32_618 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v730 : BitVec 32 := Scalar.maxsi c0_i32_618 v607
  let v731 : BitVec 32 := Scalar.minsi c31_i32_619 v730
  let v732 : Index := Scalar.indexCast v731
  let c0_622 : Index := 0#32
  ![0, 0, v732.toNat, 0]
def k0_off142 (i : grid0.Coords) (k0_t5 : Fin (k0_t5_loop i).trips) : Fin 4 → Nat :=
  let c1_644 : Index := 1#32
  let c0_645 : Index := 0#32
  let c31_i32_643 : BitVec 32 := 31#32
  let c0_i32_642 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v761 : BitVec 32 := Scalar.maxsi c0_i32_642 v607
  let v762 : BitVec 32 := Scalar.minsi c31_i32_643 v761
  let v763 : Index := Scalar.indexCast v762
  let c0_646 : Index := 0#32
  ![1, 0, v763.toNat, 0]
def k0_off143 (i : grid0.Coords) (k0_t5 : Fin (k0_t5_loop i).trips) : Fin 4 → Nat :=
  let c2_668 : Index := 2#32
  let c0_669 : Index := 0#32
  let c31_i32_667 : BitVec 32 := 31#32
  let c0_i32_666 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v792 : BitVec 32 := Scalar.maxsi c0_i32_666 v607
  let v793 : BitVec 32 := Scalar.minsi c31_i32_667 v792
  let v794 : Index := Scalar.indexCast v793
  let c0_670 : Index := 0#32
  ![2, 0, v794.toNat, 0]
def k0_off144 (i : grid0.Coords) (k0_t5 : Fin (k0_t5_loop i).trips) : Fin 4 → Nat :=
  let c3_692 : Index := 3#32
  let c0_693 : Index := 0#32
  let c31_i32_691 : BitVec 32 := 31#32
  let c0_i32_690 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v823 : BitVec 32 := Scalar.maxsi c0_i32_690 v607
  let v824 : BitVec 32 := Scalar.minsi c31_i32_691 v823
  let v825 : Index := Scalar.indexCast v824
  let c0_694 : Index := 0#32
  ![3, 0, v825.toNat, 0]
def k0_mult49 (i : grid0.Coords) (k0_t5 : Fin (k0_t5_loop i).trips) : BitVec 32 :=
  let c31_i32_716 : BitVec 32 := 31#32
  let c0_i32_715 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c2_i32_714 : BitVec 32 := 2#32
  let v854 : BitVec 32 := Scalar.addi v607 c2_i32_714
  let v855 : BitVec 32 := Scalar.maxsi c0_i32_715 v854
  let v856 : BitVec 32 := Scalar.minsi c31_i32_716 v855
  let c256_i32_717 : BitVec 32 := 256#32
  let v857 : BitVec 32 := Scalar.muli v856 c256_i32_717
  v857
def k0_mult50 (i : grid0.Coords) (k0_t5 : Fin (k0_t5_loop i).trips) : BitVec 32 :=
  let c31_i32_729 : BitVec 32 := 31#32
  let c0_i32_728 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c2_i32_714 : BitVec 32 := 2#32
  let v854 : BitVec 32 := Scalar.addi v607 c2_i32_714
  let v868 : BitVec 32 := Scalar.maxsi c0_i32_728 v854
  let v869 : BitVec 32 := Scalar.minsi c31_i32_729 v868
  let c256_i32_730 : BitVec 32 := 256#32
  let v870 : BitVec 32 := Scalar.muli v869 c256_i32_730
  v870
def k0_mult51 (i : grid0.Coords) (k0_t5 : Fin (k0_t5_loop i).trips) : BitVec 32 :=
  let c31_i32_742 : BitVec 32 := 31#32
  let c0_i32_741 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c2_i32_714 : BitVec 32 := 2#32
  let v854 : BitVec 32 := Scalar.addi v607 c2_i32_714
  let v881 : BitVec 32 := Scalar.maxsi c0_i32_741 v854
  let v882 : BitVec 32 := Scalar.minsi c31_i32_742 v881
  let c256_i32_743 : BitVec 32 := 256#32
  let v883 : BitVec 32 := Scalar.muli v882 c256_i32_743
  v883
def k0_mult52 (i : grid0.Coords) (k0_t5 : Fin (k0_t5_loop i).trips) : BitVec 32 :=
  let c31_i32_755 : BitVec 32 := 31#32
  let c0_i32_754 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c2_i32_714 : BitVec 32 := 2#32
  let v854 : BitVec 32 := Scalar.addi v607 c2_i32_714
  let v894 : BitVec 32 := Scalar.maxsi c0_i32_754 v854
  let v895 : BitVec 32 := Scalar.minsi c31_i32_755 v894
  let c256_i32_756 : BitVec 32 := 256#32
  let v896 : BitVec 32 := Scalar.muli v895 c256_i32_756
  v896
def k0_off145 (i : grid0.Coords) (k0_t5 : Fin (k0_t5_loop i).trips) : Fin 4 → Nat :=
  let c0_775 : Index := 0#32
  let c31_i32_768 : BitVec 32 := 31#32
  let c0_i32_767 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v907 : BitVec 32 := Scalar.maxsi c0_i32_767 v607
  let v908 : BitVec 32 := Scalar.minsi c31_i32_768 v907
  let v915 : Index := Scalar.indexCast v908
  let c0_776 : Index := 0#32
  let c0_777 : Index := 0#32
  ![0, v915.toNat, 0, 0]
def k0_off146 (i : grid0.Coords) (k0_t5 : Fin (k0_t5_loop i).trips) : Fin 4 → Nat :=
  let c1_791 : Index := 1#32
  let c31_i32_768 : BitVec 32 := 31#32
  let c0_i32_767 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v907 : BitVec 32 := Scalar.maxsi c0_i32_767 v607
  let v908 : BitVec 32 := Scalar.minsi c31_i32_768 v907
  let v931 : Index := Scalar.indexCast v908
  let c0_792 : Index := 0#32
  let c0_793 : Index := 0#32
  ![1, v931.toNat, 0, 0]
def k0_off147 (i : grid0.Coords) (k0_t5 : Fin (k0_t5_loop i).trips) : Fin 4 → Nat :=
  let c2_807 : Index := 2#32
  let c31_i32_768 : BitVec 32 := 31#32
  let c0_i32_767 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v907 : BitVec 32 := Scalar.maxsi c0_i32_767 v607
  let v908 : BitVec 32 := Scalar.minsi c31_i32_768 v907
  let v947 : Index := Scalar.indexCast v908
  let c0_808 : Index := 0#32
  let c0_809 : Index := 0#32
  ![2, v947.toNat, 0, 0]
def k0_off148 (i : grid0.Coords) (k0_t5 : Fin (k0_t5_loop i).trips) : Fin 4 → Nat :=
  let c3_823 : Index := 3#32
  let c31_i32_768 : BitVec 32 := 31#32
  let c0_i32_767 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let v907 : BitVec 32 := Scalar.maxsi c0_i32_767 v607
  let v908 : BitVec 32 := Scalar.minsi c31_i32_768 v907
  let v963 : Index := Scalar.indexCast v908
  let c0_824 : Index := 0#32
  let c0_825 : Index := 0#32
  ![3, v963.toNat, 0, 0]
def k0_off149 (i : grid0.Coords) (k0_t5 : Fin (k0_t5_loop i).trips) : Fin 4 → Nat :=
  let c0_836 : Index := 0#32
  let c0_837 : Index := 0#32
  let c31_i32_835 : BitVec 32 := 31#32
  let c0_i32_834 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_833 : BitVec 32 := 1#32
  let v973 : BitVec 32 := Scalar.addi v607 c1_i32_833
  let v974 : BitVec 32 := Scalar.maxsi c0_i32_834 v973
  let v975 : BitVec 32 := Scalar.minsi c31_i32_835 v974
  let v976 : Index := Scalar.indexCast v975
  let c0_838 : Index := 0#32
  ![0, 0, v976.toNat, 0]
def k0_off150 (i : grid0.Coords) (k0_t5 : Fin (k0_t5_loop i).trips) : Fin 4 → Nat :=
  let c1_862 : Index := 1#32
  let c0_863 : Index := 0#32
  let c31_i32_861 : BitVec 32 := 31#32
  let c0_i32_860 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_833 : BitVec 32 := 1#32
  let v973 : BitVec 32 := Scalar.addi v607 c1_i32_833
  let v1009 : BitVec 32 := Scalar.maxsi c0_i32_860 v973
  let v1010 : BitVec 32 := Scalar.minsi c31_i32_861 v1009
  let v1011 : Index := Scalar.indexCast v1010
  let c0_864 : Index := 0#32
  ![1, 0, v1011.toNat, 0]
def k0_off151 (i : grid0.Coords) (k0_t5 : Fin (k0_t5_loop i).trips) : Fin 4 → Nat :=
  let c2_888 : Index := 2#32
  let c0_889 : Index := 0#32
  let c31_i32_887 : BitVec 32 := 31#32
  let c0_i32_886 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_833 : BitVec 32 := 1#32
  let v973 : BitVec 32 := Scalar.addi v607 c1_i32_833
  let v1044 : BitVec 32 := Scalar.maxsi c0_i32_886 v973
  let v1045 : BitVec 32 := Scalar.minsi c31_i32_887 v1044
  let v1046 : Index := Scalar.indexCast v1045
  let c0_890 : Index := 0#32
  ![2, 0, v1046.toNat, 0]
def k0_off152 (i : grid0.Coords) (k0_t5 : Fin (k0_t5_loop i).trips) : Fin 4 → Nat :=
  let c3_914 : Index := 3#32
  let c0_915 : Index := 0#32
  let c31_i32_913 : BitVec 32 := 31#32
  let c0_i32_912 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let c1_i32_408 : BitVec 32 := 1#32
  let arg36 : BitVec 32 := Scf.iv c0_i32_406 c1_i32_408 k0_t5
  let v606 : BitVec 32 := Scalar.muli c2_i32_496 arg36
  let v607 : BitVec 32 := Scalar.addi v474 v606
  let c1_i32_833 : BitVec 32 := 1#32
  let v973 : BitVec 32 := Scalar.addi v607 c1_i32_833
  let v1079 : BitVec 32 := Scalar.maxsi c0_i32_912 v973
  let v1080 : BitVec 32 := Scalar.minsi c31_i32_913 v1079
  let v1081 : Index := Scalar.indexCast v1080
  let c0_916 : Index := 0#32
  ![3, 0, v1081.toNat, 0]
@[reducible] def k0_t6_loop (i : grid0.Coords) : Scf.Loop 32 :=
  let c0_i32_406 : BitVec 32 := 0#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c8_i32_396 : BitVec 32 := 8#32
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let v495 : BitVec 32 := Scalar.addi c0_i32_406 v494
  let c1_i32_409 : BitVec 32 := 1#32
  ⟨v498, v495, c1_i32_409⟩
def k0_mult53 (i : grid0.Coords) (k0_t6 : Fin (k0_t6_loop i).trips) : BitVec 32 :=
  let c31_i32_499 : BitVec 32 := 31#32
  let c0_i32_498 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_497 : BitVec 32 := 1#32
  let v608 : BitVec 32 := Scalar.addi v607 c1_i32_497
  let v609 : BitVec 32 := Scalar.maxsi c0_i32_498 v608
  let v610 : BitVec 32 := Scalar.minsi c31_i32_499 v609
  let c256_i32_500 : BitVec 32 := 256#32
  let v611 : BitVec 32 := Scalar.muli v610 c256_i32_500
  v611
def k0_off153 (i : grid0.Coords) (k0_t6 : Fin (k0_t6_loop i).trips) (c1_i32_497 : BitVec 32) : Fin 3 → Nat :=
  let c0_501 : Index := 0#32
  let c31_i32_499 : BitVec 32 := 31#32
  let c0_i32_498 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v608 : BitVec 32 := Scalar.addi v607 c1_i32_497
  let v609 : BitVec 32 := Scalar.maxsi c0_i32_498 v608
  let v610 : BitVec 32 := Scalar.minsi c31_i32_499 v609
  let c256_i32_500 : BitVec 32 := 256#32
  let v611 : BitVec 32 := Scalar.muli v610 c256_i32_500
  let v612 : BitVec 32 := v611
  let v613 : Index := Scalar.indexCast v612
  let c0_502 : Index := 0#32
  ![0, v613.toNat, 0]
def k0_mult54 (i : grid0.Coords) (k0_t6 : Fin (k0_t6_loop i).trips) : BitVec 32 :=
  let c31_i32_512 : BitVec 32 := 31#32
  let c0_i32_511 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_497 : BitVec 32 := 1#32
  let v608 : BitVec 32 := Scalar.addi v607 c1_i32_497
  let v622 : BitVec 32 := Scalar.maxsi c0_i32_511 v608
  let v623 : BitVec 32 := Scalar.minsi c31_i32_512 v622
  let c256_i32_513 : BitVec 32 := 256#32
  let v624 : BitVec 32 := Scalar.muli v623 c256_i32_513
  v624
def k0_off154 (i : grid0.Coords) (k0_t6 : Fin (k0_t6_loop i).trips) (c1_i32_497 : BitVec 32) : Fin 3 → Nat :=
  let c1_514 : Index := 1#32
  let c31_i32_512 : BitVec 32 := 31#32
  let c0_i32_511 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v608 : BitVec 32 := Scalar.addi v607 c1_i32_497
  let v622 : BitVec 32 := Scalar.maxsi c0_i32_511 v608
  let v623 : BitVec 32 := Scalar.minsi c31_i32_512 v622
  let c256_i32_513 : BitVec 32 := 256#32
  let v624 : BitVec 32 := Scalar.muli v623 c256_i32_513
  let v625 : BitVec 32 := v624
  let v626 : Index := Scalar.indexCast v625
  let c0_515 : Index := 0#32
  ![1, v626.toNat, 0]
def k0_mult55 (i : grid0.Coords) (k0_t6 : Fin (k0_t6_loop i).trips) : BitVec 32 :=
  let c31_i32_525 : BitVec 32 := 31#32
  let c0_i32_524 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_497 : BitVec 32 := 1#32
  let v608 : BitVec 32 := Scalar.addi v607 c1_i32_497
  let v635 : BitVec 32 := Scalar.maxsi c0_i32_524 v608
  let v636 : BitVec 32 := Scalar.minsi c31_i32_525 v635
  let c256_i32_526 : BitVec 32 := 256#32
  let v637 : BitVec 32 := Scalar.muli v636 c256_i32_526
  v637
def k0_off155 (i : grid0.Coords) (k0_t6 : Fin (k0_t6_loop i).trips) (c1_i32_497 : BitVec 32) : Fin 3 → Nat :=
  let c2_527 : Index := 2#32
  let c31_i32_525 : BitVec 32 := 31#32
  let c0_i32_524 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v608 : BitVec 32 := Scalar.addi v607 c1_i32_497
  let v635 : BitVec 32 := Scalar.maxsi c0_i32_524 v608
  let v636 : BitVec 32 := Scalar.minsi c31_i32_525 v635
  let c256_i32_526 : BitVec 32 := 256#32
  let v637 : BitVec 32 := Scalar.muli v636 c256_i32_526
  let v638 : BitVec 32 := v637
  let v639 : Index := Scalar.indexCast v638
  let c0_528 : Index := 0#32
  ![2, v639.toNat, 0]
def k0_mult56 (i : grid0.Coords) (k0_t6 : Fin (k0_t6_loop i).trips) : BitVec 32 :=
  let c31_i32_538 : BitVec 32 := 31#32
  let c0_i32_537 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_497 : BitVec 32 := 1#32
  let v608 : BitVec 32 := Scalar.addi v607 c1_i32_497
  let v648 : BitVec 32 := Scalar.maxsi c0_i32_537 v608
  let v649 : BitVec 32 := Scalar.minsi c31_i32_538 v648
  let c256_i32_539 : BitVec 32 := 256#32
  let v650 : BitVec 32 := Scalar.muli v649 c256_i32_539
  v650
def k0_off156 (i : grid0.Coords) (k0_t6 : Fin (k0_t6_loop i).trips) (c1_i32_497 : BitVec 32) : Fin 3 → Nat :=
  let c3_540 : Index := 3#32
  let c31_i32_538 : BitVec 32 := 31#32
  let c0_i32_537 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v608 : BitVec 32 := Scalar.addi v607 c1_i32_497
  let v648 : BitVec 32 := Scalar.maxsi c0_i32_537 v608
  let v649 : BitVec 32 := Scalar.minsi c31_i32_538 v648
  let c256_i32_539 : BitVec 32 := 256#32
  let v650 : BitVec 32 := Scalar.muli v649 c256_i32_539
  let v651 : BitVec 32 := v650
  let v652 : Index := Scalar.indexCast v651
  let c0_541 : Index := 0#32
  ![3, v652.toNat, 0]
def k0_off157 (i : grid0.Coords) (k0_t6 : Fin (k0_t6_loop i).trips) : Fin 4 → Nat :=
  let c0_560 : Index := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_550 : BitVec 32 := 1#32
  let v661 : BitVec 32 := Scalar.subi v607 c1_i32_550
  let c0_i32_553 : BitVec 32 := 0#32
  let v664 : BitVec 1 := Scalar.cmpi .slt v661 c0_i32_553
  let c1_i32 : BitVec 32 := 1#32
  let v3 : BitVec 32 := Scalar.subi arg1 c1_i32
  let c0_i32_1 : BitVec 32 := 0#32
  let v4 : BitVec 32 := Scalar.maxsi v3 c0_i32_1
  let c31_i32_552 : BitVec 32 := 31#32
  let c0_i32_551 : BitVec 32 := 0#32
  let v662 : BitVec 32 := Scalar.maxsi c0_i32_551 v661
  let v663 : BitVec 32 := Scalar.minsi c31_i32_552 v662
  let v665 : BitVec 32 := Scalar.select v664 v4 v663
  let v672 : Index := Scalar.indexCast v665
  let c0_561 : Index := 0#32
  let c0_562 : Index := 0#32
  ![0, v672.toNat, 0, 0]
def k0_off158 (i : grid0.Coords) (k0_t6 : Fin (k0_t6_loop i).trips) : Fin 4 → Nat :=
  let c1_576 : Index := 1#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_550 : BitVec 32 := 1#32
  let v661 : BitVec 32 := Scalar.subi v607 c1_i32_550
  let c0_i32_553 : BitVec 32 := 0#32
  let v664 : BitVec 1 := Scalar.cmpi .slt v661 c0_i32_553
  let c1_i32 : BitVec 32 := 1#32
  let v3 : BitVec 32 := Scalar.subi arg1 c1_i32
  let c0_i32_1 : BitVec 32 := 0#32
  let v4 : BitVec 32 := Scalar.maxsi v3 c0_i32_1
  let c31_i32_552 : BitVec 32 := 31#32
  let c0_i32_551 : BitVec 32 := 0#32
  let v662 : BitVec 32 := Scalar.maxsi c0_i32_551 v661
  let v663 : BitVec 32 := Scalar.minsi c31_i32_552 v662
  let v665 : BitVec 32 := Scalar.select v664 v4 v663
  let v688 : Index := Scalar.indexCast v665
  let c0_577 : Index := 0#32
  let c0_578 : Index := 0#32
  ![1, v688.toNat, 0, 0]
def k0_off159 (i : grid0.Coords) (k0_t6 : Fin (k0_t6_loop i).trips) : Fin 4 → Nat :=
  let c2_592 : Index := 2#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_550 : BitVec 32 := 1#32
  let v661 : BitVec 32 := Scalar.subi v607 c1_i32_550
  let c0_i32_553 : BitVec 32 := 0#32
  let v664 : BitVec 1 := Scalar.cmpi .slt v661 c0_i32_553
  let c1_i32 : BitVec 32 := 1#32
  let v3 : BitVec 32 := Scalar.subi arg1 c1_i32
  let c0_i32_1 : BitVec 32 := 0#32
  let v4 : BitVec 32 := Scalar.maxsi v3 c0_i32_1
  let c31_i32_552 : BitVec 32 := 31#32
  let c0_i32_551 : BitVec 32 := 0#32
  let v662 : BitVec 32 := Scalar.maxsi c0_i32_551 v661
  let v663 : BitVec 32 := Scalar.minsi c31_i32_552 v662
  let v665 : BitVec 32 := Scalar.select v664 v4 v663
  let v704 : Index := Scalar.indexCast v665
  let c0_593 : Index := 0#32
  let c0_594 : Index := 0#32
  ![2, v704.toNat, 0, 0]
def k0_off160 (i : grid0.Coords) (k0_t6 : Fin (k0_t6_loop i).trips) : Fin 4 → Nat :=
  let c3_608 : Index := 3#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_550 : BitVec 32 := 1#32
  let v661 : BitVec 32 := Scalar.subi v607 c1_i32_550
  let c0_i32_553 : BitVec 32 := 0#32
  let v664 : BitVec 1 := Scalar.cmpi .slt v661 c0_i32_553
  let c1_i32 : BitVec 32 := 1#32
  let v3 : BitVec 32 := Scalar.subi arg1 c1_i32
  let c0_i32_1 : BitVec 32 := 0#32
  let v4 : BitVec 32 := Scalar.maxsi v3 c0_i32_1
  let c31_i32_552 : BitVec 32 := 31#32
  let c0_i32_551 : BitVec 32 := 0#32
  let v662 : BitVec 32 := Scalar.maxsi c0_i32_551 v661
  let v663 : BitVec 32 := Scalar.minsi c31_i32_552 v662
  let v665 : BitVec 32 := Scalar.select v664 v4 v663
  let v720 : Index := Scalar.indexCast v665
  let c0_609 : Index := 0#32
  let c0_610 : Index := 0#32
  ![3, v720.toNat, 0, 0]
def k0_off161 (i : grid0.Coords) (k0_t6 : Fin (k0_t6_loop i).trips) : Fin 4 → Nat :=
  let c0_620 : Index := 0#32
  let c0_621 : Index := 0#32
  let c31_i32_619 : BitVec 32 := 31#32
  let c0_i32_618 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v730 : BitVec 32 := Scalar.maxsi c0_i32_618 v607
  let v731 : BitVec 32 := Scalar.minsi c31_i32_619 v730
  let v732 : Index := Scalar.indexCast v731
  let c0_622 : Index := 0#32
  ![0, 0, v732.toNat, 0]
def k0_off162 (i : grid0.Coords) (k0_t6 : Fin (k0_t6_loop i).trips) : Fin 4 → Nat :=
  let c1_644 : Index := 1#32
  let c0_645 : Index := 0#32
  let c31_i32_643 : BitVec 32 := 31#32
  let c0_i32_642 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v761 : BitVec 32 := Scalar.maxsi c0_i32_642 v607
  let v762 : BitVec 32 := Scalar.minsi c31_i32_643 v761
  let v763 : Index := Scalar.indexCast v762
  let c0_646 : Index := 0#32
  ![1, 0, v763.toNat, 0]
def k0_off163 (i : grid0.Coords) (k0_t6 : Fin (k0_t6_loop i).trips) : Fin 4 → Nat :=
  let c2_668 : Index := 2#32
  let c0_669 : Index := 0#32
  let c31_i32_667 : BitVec 32 := 31#32
  let c0_i32_666 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v792 : BitVec 32 := Scalar.maxsi c0_i32_666 v607
  let v793 : BitVec 32 := Scalar.minsi c31_i32_667 v792
  let v794 : Index := Scalar.indexCast v793
  let c0_670 : Index := 0#32
  ![2, 0, v794.toNat, 0]
def k0_off164 (i : grid0.Coords) (k0_t6 : Fin (k0_t6_loop i).trips) : Fin 4 → Nat :=
  let c3_692 : Index := 3#32
  let c0_693 : Index := 0#32
  let c31_i32_691 : BitVec 32 := 31#32
  let c0_i32_690 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v823 : BitVec 32 := Scalar.maxsi c0_i32_690 v607
  let v824 : BitVec 32 := Scalar.minsi c31_i32_691 v823
  let v825 : Index := Scalar.indexCast v824
  let c0_694 : Index := 0#32
  ![3, 0, v825.toNat, 0]
def k0_mult57 (i : grid0.Coords) (k0_t6 : Fin (k0_t6_loop i).trips) : BitVec 32 :=
  let c31_i32_716 : BitVec 32 := 31#32
  let c0_i32_715 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c2_i32_714 : BitVec 32 := 2#32
  let v854 : BitVec 32 := Scalar.addi v607 c2_i32_714
  let v855 : BitVec 32 := Scalar.maxsi c0_i32_715 v854
  let v856 : BitVec 32 := Scalar.minsi c31_i32_716 v855
  let c256_i32_717 : BitVec 32 := 256#32
  let v857 : BitVec 32 := Scalar.muli v856 c256_i32_717
  v857
def k0_mult58 (i : grid0.Coords) (k0_t6 : Fin (k0_t6_loop i).trips) : BitVec 32 :=
  let c31_i32_729 : BitVec 32 := 31#32
  let c0_i32_728 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c2_i32_714 : BitVec 32 := 2#32
  let v854 : BitVec 32 := Scalar.addi v607 c2_i32_714
  let v868 : BitVec 32 := Scalar.maxsi c0_i32_728 v854
  let v869 : BitVec 32 := Scalar.minsi c31_i32_729 v868
  let c256_i32_730 : BitVec 32 := 256#32
  let v870 : BitVec 32 := Scalar.muli v869 c256_i32_730
  v870
def k0_mult59 (i : grid0.Coords) (k0_t6 : Fin (k0_t6_loop i).trips) : BitVec 32 :=
  let c31_i32_742 : BitVec 32 := 31#32
  let c0_i32_741 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c2_i32_714 : BitVec 32 := 2#32
  let v854 : BitVec 32 := Scalar.addi v607 c2_i32_714
  let v881 : BitVec 32 := Scalar.maxsi c0_i32_741 v854
  let v882 : BitVec 32 := Scalar.minsi c31_i32_742 v881
  let c256_i32_743 : BitVec 32 := 256#32
  let v883 : BitVec 32 := Scalar.muli v882 c256_i32_743
  v883
def k0_mult60 (i : grid0.Coords) (k0_t6 : Fin (k0_t6_loop i).trips) : BitVec 32 :=
  let c31_i32_755 : BitVec 32 := 31#32
  let c0_i32_754 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c2_i32_714 : BitVec 32 := 2#32
  let v854 : BitVec 32 := Scalar.addi v607 c2_i32_714
  let v894 : BitVec 32 := Scalar.maxsi c0_i32_754 v854
  let v895 : BitVec 32 := Scalar.minsi c31_i32_755 v894
  let c256_i32_756 : BitVec 32 := 256#32
  let v896 : BitVec 32 := Scalar.muli v895 c256_i32_756
  v896
def k0_off165 (i : grid0.Coords) (k0_t6 : Fin (k0_t6_loop i).trips) : Fin 4 → Nat :=
  let c0_775 : Index := 0#32
  let c31_i32_768 : BitVec 32 := 31#32
  let c0_i32_767 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v907 : BitVec 32 := Scalar.maxsi c0_i32_767 v607
  let v908 : BitVec 32 := Scalar.minsi c31_i32_768 v907
  let v915 : Index := Scalar.indexCast v908
  let c0_776 : Index := 0#32
  let c0_777 : Index := 0#32
  ![0, v915.toNat, 0, 0]
def k0_off166 (i : grid0.Coords) (k0_t6 : Fin (k0_t6_loop i).trips) : Fin 4 → Nat :=
  let c1_791 : Index := 1#32
  let c31_i32_768 : BitVec 32 := 31#32
  let c0_i32_767 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v907 : BitVec 32 := Scalar.maxsi c0_i32_767 v607
  let v908 : BitVec 32 := Scalar.minsi c31_i32_768 v907
  let v931 : Index := Scalar.indexCast v908
  let c0_792 : Index := 0#32
  let c0_793 : Index := 0#32
  ![1, v931.toNat, 0, 0]
def k0_off167 (i : grid0.Coords) (k0_t6 : Fin (k0_t6_loop i).trips) : Fin 4 → Nat :=
  let c2_807 : Index := 2#32
  let c31_i32_768 : BitVec 32 := 31#32
  let c0_i32_767 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v907 : BitVec 32 := Scalar.maxsi c0_i32_767 v607
  let v908 : BitVec 32 := Scalar.minsi c31_i32_768 v907
  let v947 : Index := Scalar.indexCast v908
  let c0_808 : Index := 0#32
  let c0_809 : Index := 0#32
  ![2, v947.toNat, 0, 0]
def k0_off168 (i : grid0.Coords) (k0_t6 : Fin (k0_t6_loop i).trips) : Fin 4 → Nat :=
  let c3_823 : Index := 3#32
  let c31_i32_768 : BitVec 32 := 31#32
  let c0_i32_767 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let v907 : BitVec 32 := Scalar.maxsi c0_i32_767 v607
  let v908 : BitVec 32 := Scalar.minsi c31_i32_768 v907
  let v963 : Index := Scalar.indexCast v908
  let c0_824 : Index := 0#32
  let c0_825 : Index := 0#32
  ![3, v963.toNat, 0, 0]
def k0_off169 (i : grid0.Coords) (k0_t6 : Fin (k0_t6_loop i).trips) : Fin 4 → Nat :=
  let c0_836 : Index := 0#32
  let c0_837 : Index := 0#32
  let c31_i32_835 : BitVec 32 := 31#32
  let c0_i32_834 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_833 : BitVec 32 := 1#32
  let v973 : BitVec 32 := Scalar.addi v607 c1_i32_833
  let v974 : BitVec 32 := Scalar.maxsi c0_i32_834 v973
  let v975 : BitVec 32 := Scalar.minsi c31_i32_835 v974
  let v976 : Index := Scalar.indexCast v975
  let c0_838 : Index := 0#32
  ![0, 0, v976.toNat, 0]
def k0_off170 (i : grid0.Coords) (k0_t6 : Fin (k0_t6_loop i).trips) : Fin 4 → Nat :=
  let c1_862 : Index := 1#32
  let c0_863 : Index := 0#32
  let c31_i32_861 : BitVec 32 := 31#32
  let c0_i32_860 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_833 : BitVec 32 := 1#32
  let v973 : BitVec 32 := Scalar.addi v607 c1_i32_833
  let v1009 : BitVec 32 := Scalar.maxsi c0_i32_860 v973
  let v1010 : BitVec 32 := Scalar.minsi c31_i32_861 v1009
  let v1011 : Index := Scalar.indexCast v1010
  let c0_864 : Index := 0#32
  ![1, 0, v1011.toNat, 0]
def k0_off171 (i : grid0.Coords) (k0_t6 : Fin (k0_t6_loop i).trips) : Fin 4 → Nat :=
  let c2_888 : Index := 2#32
  let c0_889 : Index := 0#32
  let c31_i32_887 : BitVec 32 := 31#32
  let c0_i32_886 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_833 : BitVec 32 := 1#32
  let v973 : BitVec 32 := Scalar.addi v607 c1_i32_833
  let v1044 : BitVec 32 := Scalar.maxsi c0_i32_886 v973
  let v1045 : BitVec 32 := Scalar.minsi c31_i32_887 v1044
  let v1046 : Index := Scalar.indexCast v1045
  let c0_890 : Index := 0#32
  ![2, 0, v1046.toNat, 0]
def k0_off172 (i : grid0.Coords) (k0_t6 : Fin (k0_t6_loop i).trips) : Fin 4 → Nat :=
  let c3_914 : Index := 3#32
  let c0_915 : Index := 0#32
  let c31_i32_913 : BitVec 32 := 31#32
  let c0_i32_912 : BitVec 32 := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_496 : BitVec 32 := 2#32
  let c0_i32_406 : BitVec 32 := 0#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v494 : BitVec 32 := Scalar.subi v493 c0_i32_406
  let c1_i32_407 : BitVec 32 := 1#32
  let v496 : BitVec 32 := Scalar.divsi v494 c1_i32_407
  let v497 : BitVec 32 := Scalar.muli v496 c1_i32_407
  let v498 : BitVec 32 := Scalar.addi c0_i32_406 v497
  let c1_i32_409 : BitVec 32 := 1#32
  let arg36 : BitVec 32 := Scf.iv v498 c1_i32_409 k0_t6
  let v606 : BitVec 32 := Scalar.muli c2_i32_496 arg36
  let v607 : BitVec 32 := Scalar.addi v474 v606
  let c1_i32_833 : BitVec 32 := 1#32
  let v973 : BitVec 32 := Scalar.addi v607 c1_i32_833
  let v1079 : BitVec 32 := Scalar.maxsi c0_i32_912 v973
  let v1080 : BitVec 32 := Scalar.minsi c31_i32_913 v1079
  let v1081 : Index := Scalar.indexCast v1080
  let c0_916 : Index := 0#32
  ![3, 0, v1081.toNat, 0]
def k0_off173 (i : grid0.Coords) : Fin 4 → Nat :=
  let c0_421 : Index := 0#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_410 : BitVec 32 := 2#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v499 : BitVec 32 := Scalar.muli c2_i32_410 v493
  let v500 : BitVec 32 := Scalar.addi v474 v499
  let c1_i32_411 : BitVec 32 := 1#32
  let v501 : BitVec 32 := Scalar.subi v500 c1_i32_411
  let c0_i32_414 : BitVec 32 := 0#32
  let v504 : BitVec 1 := Scalar.cmpi .slt v501 c0_i32_414
  let c1_i32 : BitVec 32 := 1#32
  let v3 : BitVec 32 := Scalar.subi arg1 c1_i32
  let c0_i32_1 : BitVec 32 := 0#32
  let v4 : BitVec 32 := Scalar.maxsi v3 c0_i32_1
  let c31_i32_413 : BitVec 32 := 31#32
  let c0_i32_412 : BitVec 32 := 0#32
  let v502 : BitVec 32 := Scalar.maxsi c0_i32_412 v501
  let v503 : BitVec 32 := Scalar.minsi c31_i32_413 v502
  let v505 : BitVec 32 := Scalar.select v504 v4 v503
  let v512 : Index := Scalar.indexCast v505
  let c0_422 : Index := 0#32
  let c0_423 : Index := 0#32
  ![0, v512.toNat, 0, 0]
def k0_off174 (i : grid0.Coords) : Fin 4 → Nat :=
  let c1_437 : Index := 1#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_410 : BitVec 32 := 2#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v499 : BitVec 32 := Scalar.muli c2_i32_410 v493
  let v500 : BitVec 32 := Scalar.addi v474 v499
  let c1_i32_411 : BitVec 32 := 1#32
  let v501 : BitVec 32 := Scalar.subi v500 c1_i32_411
  let c0_i32_414 : BitVec 32 := 0#32
  let v504 : BitVec 1 := Scalar.cmpi .slt v501 c0_i32_414
  let c1_i32 : BitVec 32 := 1#32
  let v3 : BitVec 32 := Scalar.subi arg1 c1_i32
  let c0_i32_1 : BitVec 32 := 0#32
  let v4 : BitVec 32 := Scalar.maxsi v3 c0_i32_1
  let c31_i32_413 : BitVec 32 := 31#32
  let c0_i32_412 : BitVec 32 := 0#32
  let v502 : BitVec 32 := Scalar.maxsi c0_i32_412 v501
  let v503 : BitVec 32 := Scalar.minsi c31_i32_413 v502
  let v505 : BitVec 32 := Scalar.select v504 v4 v503
  let v528 : Index := Scalar.indexCast v505
  let c0_438 : Index := 0#32
  let c0_439 : Index := 0#32
  ![1, v528.toNat, 0, 0]
def k0_off175 (i : grid0.Coords) : Fin 4 → Nat :=
  let c2_453 : Index := 2#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_410 : BitVec 32 := 2#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v499 : BitVec 32 := Scalar.muli c2_i32_410 v493
  let v500 : BitVec 32 := Scalar.addi v474 v499
  let c1_i32_411 : BitVec 32 := 1#32
  let v501 : BitVec 32 := Scalar.subi v500 c1_i32_411
  let c0_i32_414 : BitVec 32 := 0#32
  let v504 : BitVec 1 := Scalar.cmpi .slt v501 c0_i32_414
  let c1_i32 : BitVec 32 := 1#32
  let v3 : BitVec 32 := Scalar.subi arg1 c1_i32
  let c0_i32_1 : BitVec 32 := 0#32
  let v4 : BitVec 32 := Scalar.maxsi v3 c0_i32_1
  let c31_i32_413 : BitVec 32 := 31#32
  let c0_i32_412 : BitVec 32 := 0#32
  let v502 : BitVec 32 := Scalar.maxsi c0_i32_412 v501
  let v503 : BitVec 32 := Scalar.minsi c31_i32_413 v502
  let v505 : BitVec 32 := Scalar.select v504 v4 v503
  let v544 : Index := Scalar.indexCast v505
  let c0_454 : Index := 0#32
  let c0_455 : Index := 0#32
  ![2, v544.toNat, 0, 0]
def k0_off176 (i : grid0.Coords) : Fin 4 → Nat :=
  let c3_469 : Index := 3#32
  let c8_i32_396 : BitVec 32 := 8#32
  let arg1 : BitVec 32 := BitVec.ofNat 32 (i 1).val
  let c1_i32_4 : BitVec 32 := 1#32
  let v7 : BitVec 32 := Scalar.subi arg1 c1_i32_4
  let c0_i32_5 : BitVec 32 := 0#32
  let v8 : BitVec 32 := Scalar.maxsi v7 c0_i32_5
  let c0_i32_372 : BitVec 32 := 0#32
  let v426 : BitVec 1 := Scalar.cmpi .sgt v8 c0_i32_372
  let v427 : BitVec 32 := Scalar.extui v426
  let c0_i32_373 : BitVec 32 := 0#32
  let v428 : BitVec 1 := Scalar.cmpi .slt v8 c0_i32_373
  let v429 : BitVec 32 := Scalar.extui v428
  let v430 : BitVec 32 := Scalar.subi v427 v429
  let c8_i32 : BitVec 32 := 8#32
  let c0_i32_374 : BitVec 32 := 0#32
  let v431 : BitVec 1 := Scalar.cmpi .sgt c8_i32 c0_i32_374
  let v432 : BitVec 32 := Scalar.extui v431
  let c0_i32_375 : BitVec 32 := 0#32
  let v433 : BitVec 1 := Scalar.cmpi .slt c8_i32 c0_i32_375
  let v434 : BitVec 32 := Scalar.extui v433
  let v435 : BitVec 32 := Scalar.subi v432 v434
  let v436 : BitVec 1 := Scalar.cmpi .ne v430 v435
  let v437 : BitVec 32 := Scalar.remsi v8 c8_i32
  let c0_i32_376 : BitVec 32 := 0#32
  let v438 : BitVec 1 := Scalar.cmpi .ne v437 c0_i32_376
  let v439 : BitVec 1 := Scalar.andi v436 v438
  let v425 : BitVec 32 := Scalar.divsi v8 c8_i32
  let c1_i32_377 : BitVec 32 := 1#32
  let v440 : BitVec 32 := Scalar.subi v425 c1_i32_377
  let v441 : BitVec 32 := Scalar.select v439 v440 v425
  let v472 : BitVec 32 := Scalar.muli c8_i32_396 v441
  let c4_i32_397 : BitVec 32 := 4#32
  let c8_i32_383 : BitVec 32 := 8#32
  let v447 : BitVec 32 := Scalar.muli c8_i32_383 v441
  let v448 : BitVec 32 := Scalar.subi v8 v447
  let c0_i32_384 : BitVec 32 := 0#32
  let v450 : BitVec 1 := Scalar.cmpi .sgt v448 c0_i32_384
  let v451 : BitVec 32 := Scalar.extui v450
  let c0_i32_385 : BitVec 32 := 0#32
  let v452 : BitVec 1 := Scalar.cmpi .slt v448 c0_i32_385
  let v453 : BitVec 32 := Scalar.extui v452
  let v454 : BitVec 32 := Scalar.subi v451 v453
  let c4_i32 : BitVec 32 := 4#32
  let c0_i32_386 : BitVec 32 := 0#32
  let v455 : BitVec 1 := Scalar.cmpi .sgt c4_i32 c0_i32_386
  let v456 : BitVec 32 := Scalar.extui v455
  let c0_i32_387 : BitVec 32 := 0#32
  let v457 : BitVec 1 := Scalar.cmpi .slt c4_i32 c0_i32_387
  let v458 : BitVec 32 := Scalar.extui v457
  let v459 : BitVec 32 := Scalar.subi v456 v458
  let v460 : BitVec 1 := Scalar.cmpi .ne v454 v459
  let v461 : BitVec 32 := Scalar.remsi v448 c4_i32
  let c0_i32_388 : BitVec 32 := 0#32
  let v462 : BitVec 1 := Scalar.cmpi .ne v461 c0_i32_388
  let v463 : BitVec 1 := Scalar.andi v460 v462
  let v449 : BitVec 32 := Scalar.divsi v448 c4_i32
  let c1_i32_389 : BitVec 32 := 1#32
  let v464 : BitVec 32 := Scalar.subi v449 c1_i32_389
  let v465 : BitVec 32 := Scalar.select v463 v464 v449
  let v473 : BitVec 32 := Scalar.muli c4_i32_397 v465
  let v474 : BitVec 32 := Scalar.addi v472 v473
  let c2_i32_410 : BitVec 32 := 2#32
  let v475 : BitVec 32 := Scalar.subi v8 v474
  let c1_i32_398 : BitVec 32 := 1#32
  let v476 : BitVec 32 := Scalar.addi v475 c1_i32_398
  let c0_i32_399 : BitVec 32 := 0#32
  let v478 : BitVec 1 := Scalar.cmpi .sgt v476 c0_i32_399
  let v479 : BitVec 32 := Scalar.extui v478
  let c0_i32_400 : BitVec 32 := 0#32
  let v480 : BitVec 1 := Scalar.cmpi .slt v476 c0_i32_400
  let v481 : BitVec 32 := Scalar.extui v480
  let v482 : BitVec 32 := Scalar.subi v479 v481
  let c2_i32 : BitVec 32 := 2#32
  let c0_i32_401 : BitVec 32 := 0#32
  let v483 : BitVec 1 := Scalar.cmpi .sgt c2_i32 c0_i32_401
  let v484 : BitVec 32 := Scalar.extui v483
  let c0_i32_402 : BitVec 32 := 0#32
  let v485 : BitVec 1 := Scalar.cmpi .slt c2_i32 c0_i32_402
  let v486 : BitVec 32 := Scalar.extui v485
  let v487 : BitVec 32 := Scalar.subi v484 v486
  let v488 : BitVec 1 := Scalar.cmpi .ne v482 v487
  let v489 : BitVec 32 := Scalar.remsi v476 c2_i32
  let c0_i32_403 : BitVec 32 := 0#32
  let v490 : BitVec 1 := Scalar.cmpi .ne v489 c0_i32_403
  let v491 : BitVec 1 := Scalar.andi v488 v490
  let v477 : BitVec 32 := Scalar.divsi v476 c2_i32
  let c1_i32_404 : BitVec 32 := 1#32
  let v492 : BitVec 32 := Scalar.subi v477 c1_i32_404
  let v493 : BitVec 32 := Scalar.select v491 v492 v477
  let v499 : BitVec 32 := Scalar.muli c2_i32_410 v493
  let v500 : BitVec 32 := Scalar.addi v474 v499
  let c1_i32_411 : BitVec 32 := 1#32
  let v501 : BitVec 32 := Scalar.subi v500 c1_i32_411
  let c0_i32_414 : BitVec 32 := 0#32
  let v504 : BitVec 1 := Scalar.cmpi .slt v501 c0_i32_414
  let c1_i32 : BitVec 32 := 1#32
  let v3 : BitVec 32 := Scalar.subi arg1 c1_i32
  let c0_i32_1 : BitVec 32 := 0#32
  let v4 : BitVec 32 := Scalar.maxsi v3 c0_i32_1
  let c31_i32_413 : BitVec 32 := 31#32
  let c0_i32_412 : BitVec 32 := 0#32
  let v502 : BitVec 32 := Scalar.maxsi c0_i32_412 v501
  let v503 : BitVec 32 := Scalar.minsi c31_i32_413 v502
  let v505 : BitVec 32 := Scalar.select v504 v4 v503
  let v560 : Index := Scalar.indexCast v505
  let c0_470 : Index := 0#32
  let c0_471 : Index := 0#32
  ![3, v560.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x32x144x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Reals.lean ====
/-
  Extended reals that are reals: sums and products of them, what a comparison with infinity says, and that an entry of a
  row's RMS norm is a real whatever the row is.
-/
module

public import Idealize.ShloMosaic.Lib.Pipeline.ValueKit
public import Mathlib.Analysis.SpecialFunctions.Trigonometric.DerivHyp

@[expose] public section

noncomputable section

namespace Cert.Proof

open Idealize.ShloMosaic

/-- An extended real that is a real. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.zero : IsReal 0 := ⟨0, rfl⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- An entry below infinity in absolute value is a real. -/
theorem IsReal.of_abs {x : EReal} (h : max x (-x) < ⊤) : IsReal x := by
  induction x with
  | bot => simp at h
  | top => simp at h
  | coe r => exact ⟨r, rfl⟩

/-- An entry whose comparison with infinity is a one is real. -/
theorem real_of_cmp {x : EReal} (h : Ideal.cmp .olt (max x (-x)) (Ideal.ofBits .f32 0x7F800000#32) = 1#1) : IsReal x := by
  refine IsReal.of_abs ?_
  unfold Ideal.cmp at h
  have e : Ideal.ofBits .f32 0x7F800000#32 = ⊤ := by simp [Ideal.ofBits, Ideal.ieee]
  rw [e] at h
  by_contra hc
  simp [hc] at h

/-- A real less itself is zero. -/
theorem IsReal.sub_self {x : EReal} (hx : IsReal x) : x - x = 0 := by
  obtain ⟨a, rfl⟩ := hx
  exact EReal.sub_self (EReal.coe_ne_top a) (EReal.coe_ne_bot a)

/-- A square is not negative. -/
theorem sq_nonneg (x : EReal) : 0 ≤ x * x := by
  induction x with
  | bot => simp
  | top => simp
  | coe r => rw [← EReal.coe_mul]; exact_mod_cast mul_self_nonneg r

/-- An infinite entry's square is infinite, and so is the sum of squares it is in. -/
theorem sum_sq_top {n : ℕ} (f : Fin n → EReal) (j : Fin n) (h : ¬ IsReal (f j)) : ∑ k, f k * f k = ⊤ := by
  have hj : f j * f j = ⊤ := by
    generalize f j = x at h
    induction x with
    | bot => simp
    | top => simp
    | coe r => exact absurd ⟨r, rfl⟩ h
  have h1 : f j * f j ≤ ∑ k, f k * f k :=
    Finset.single_le_sum (f := fun k => f k * f k) (fun k _ => sq_nonneg _) (Finset.mem_univ j)
  rw [hj] at h1
  exact top_le_iff.mp h1

/-- An entry of a row's RMS norm is a real, whatever the row: at an infinite entry the factor is zero. -/
theorem IsReal.norm {n : ℕ} (f : Fin n → EReal) (j : Fin n) (N e : ℝ) (hN : 0 < N) (he : 0 < e) :
    IsReal (f j * Ideal.rsqrt (Ideal.div (∑ k, f k * f k) (N : EReal) + (e : EReal))) := by
  rw [Ideal.div_coe hN.ne']
  by_cases hr : ∀ k, IsReal (f k)
  · obtain ⟨s, hs⟩ := IsReal.sum Finset.univ (fun k => f k * f k) fun k _ => (hr k).mul (hr k)
    obtain ⟨x, hx⟩ := hr j
    have h0' : (0 : EReal) ≤ ∑ k, f k * f k := Finset.sum_nonneg fun k _ => sq_nonneg _
    rw [hs] at h0'
    have h0 : 0 ≤ s := by exact_mod_cast h0'
    have hp : 0 < s * (1 / N) + e := by positivity
    rw [hs, hx, ← EReal.coe_mul, ← EReal.coe_add, Ideal.rsqrt_coe, if_neg (not_lt.mpr hp.le), if_neg hp.ne', ← EReal.coe_mul]
    exact ⟨_, rfl⟩
  · obtain ⟨k, hk⟩ := not_forall.mp hr
    rw [sum_sq_top f k hk, EReal.top_mul_coe_of_pos (by positivity), EReal.top_add_coe, Ideal.rsqrt_top, mul_zero]
    exact IsReal.zero

end Cert.Proof

end
-- ==== Proof.Norm.lean ====
/-
  The value of the first norm with the time steps' projection: every grid point writes its rows' RMS norm and the normed
  rows times the weights of the time steps. The kernel takes that product in three, each factor as a part and the rest it
  leaves; over finite weights the rests are zero.
-/
module

public import proofs.«01_k».proof.Defs
public import proofs.«01_k».proof.Proof.Reals
public import proofs.«01_k».proof.Proof.Gen.Pre_norm_finite
public import proofs.«01_k».proof.Proof.Gen.KNormIdeal.Value
public import proofs.«01_k».proof.Proof.Gen.RNormIdeal.Run
public import Idealize.ShloMosaic.Lib.Pipeline.ValueKit

@[expose] public section

noncomputable section

namespace Cert.Proof.Norm

open Idealize.ShloMosaic Idealize.ShloMosaic.TcCoe Idealize.SL.Sem
open Cert.KNormIdeal Cert.KNormIdeal.Gen

variable (m : (ℓ : Loc nD τ sig) → Buf (Elt Ideal) ℓ) (ρ : Dev nD → PrngReg)

/-- An element's RMS norm, given its row. -/
def nrm (row : Fin 2048 → EReal) (j : Fin 2048) (g : EReal) : EReal :=
  row j * Ideal.rsqrt (Ideal.div (∑ k : Fin 2048, row k * row k) (Ideal.ofBits .f32 0x45000000#32) + Ideal.ofBits .f32 0x358637BD#32) * g

/-- The normed row, index by index. -/
def H (x : S8192x2048.Idx → EReal) (g : S2048.Idx → EReal) (i : S8192x2048.Idx) : EReal :=
  nrm (fun k => x (ix2 (i 0) k)) (i 1) (g (ix1 (i 1)))

/-- The weights of the time steps, a row of the product's columns each, with rows of zeros behind. -/
def W (w : S2048x20544.Idx → EReal) (j : Fin 128) (k : Fin 2048) : EReal :=
  if e : j.val < 64 then w (ix2 k ⟨10240 + j.val, by omega⟩) else 0

/-- The time steps' projection, index by index. -/
def D (x : S8192x2048.Idx → EReal) (g : S2048.Idx → EReal) (w : S2048x20544.Idx → EReal) (i : S8192x128.Idx) : EReal :=
  ∑ k : Fin 2048, H x g (ix2 (i 0) k) * W w (i 1) k

/-- The kernel's product in three. -/
def D3 {n : ℕ} (h w : Fin n → EReal) : EReal :=
  ((∑ k, h k * w k) + (∑ k, h k * (w k - w k))) + ∑ k, (h k - h k) * w k

theorem D3_eq {n : ℕ} (h w : Fin n → EReal) (hh : ∀ k, IsReal (h k)) (hw : ∀ k, IsReal (w k)) : D3 h w = ∑ k, h k * w k := by
  unfold D3
  simp only [fun k => (hh k).sub_self, fun k => (hw k).sub_self, mul_zero, zero_mul, Finset.sum_const_zero, add_zero]

theorem nrm_real (row : Fin 2048 → EReal) (j : Fin 2048) (g : EReal) (hg : IsReal g) : IsReal (nrm row j g) := by
  unfold nrm
  have e1 : Ideal.ofBits .f32 0x45000000#32 = ((2048 : ℝ) : EReal) := by
    simp [Ideal.ofBits, Ideal.ieee, -EReal.coe_mul]; norm_num
  have e2 : ∃ e : ℝ, 0 < e ∧ Ideal.ofBits .f32 0x358637BD#32 = (e : EReal) := by
    refine ⟨_, ?_, by simp [Ideal.ofBits, Ideal.ieee, -EReal.coe_mul]; rfl⟩
    positivity
  obtain ⟨e, he, e2⟩ := e2
  rw [e1, e2]
  exact (IsReal.norm row j 2048 e (by norm_num) he).mul hg

/-- Where the windows stand at a point. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, win0_0.index t = ![t.val, 0] ∧ win0_1.index t = ![0, 0]
    ∧ win0_2.index t = ![0, 0] ∧ win0_3.index t = ![t.val, 0] ∧ win0_4.index t = ![t.val, 0])

theorem pay1_apply (v0 : Vec Ideal S512x2048 .f32) (v1 : Vec Ideal S1x2048 .f32) (y : S512x2048.Idx) :
    k0_pay1 v0 v1 y = nrm (fun k => v0 (ix2 (y 0) k)) (y 1) (v1 (ix2 0 (y 1))) := by
  unfold k0_pay1 nrm
  pointwise

theorem pay2_apply (v0 : Vec Ideal S512x2048 .f32) (v1 : Vec Ideal S1x2048 .f32) (y : S512x2048.Idx) :
    k0_pay2 v0 v1 y = nrm (fun k => v0 (ix2 (y 0) k)) (y 1) (v1 (ix2 0 (y 1))) := by
  unfold k0_pay2
  exact pay1_apply v0 v1 y

theorem pay3_apply (v0 : Vec Ideal S512x2048 .f32) (v1 : Vec Ideal S1x2048 .f32) (w : Vec Ideal S128x2048 .f32) (y : S512x128.Idx) :
    k0_pay3 v0 v1 w y = D3 (fun k => k0_pay1 v0 v1 (ix2 (y 0) k)) (fun k => w (ix2 (y 1) k)) := by
  unfold k0_pay3 D3
  generalize k0_pay1 v0 v1 = z
  pointwise

/-- The norm's weights as the kernel takes them: one row. -/
theorem g_row (c : Dev nD) (q : Fin 2048) :
    V m c main_v3 (ix2 0 q) = m ((c : Thread nD τ).loc main_arg1) (ix1 q) := by
  have hV : V m c main_v3 = broadcastInDim S1x2048 ![1] bcast_S2048_S1x2048_1 (m ((c : Thread nD τ).loc main_arg1)) := by
    unfold_abbrev_sides
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
  rw [hV]
  pointwise

/-- The padding's word read as a float. -/
theorem zero_word : (FloatOps.sitofp .f32 (0#32) : Ideal .f32) = (0 : EReal) := by
  show (((0#32 : BitVec 32).toInt : ℝ) : EReal) = 0
  simp

/-- The time steps' weights as the kernel takes them: transposed, and rows of zeros behind. -/
theorem w_row (c : Dev nD) (j : Fin 128) (k : Fin 2048) :
    V m c main_v2 (ix2 j k) = W (m ((c : Thread nD τ).loc main_arg2)) j k := by
  have hV : V m c main_v2 = pad S128x2048 ![0, 0] ![64, 0] ![0, 0]
      (extractStridedSlice S64x2048 ![10240, 0] (transpose S20544x2048 [1, 0] (m ((c : Thread nD τ).loc main_arg2)) transposes_S2048x20544_S20544x2048_1_0) slices_S20544x2048_S64x2048_10240_0)
      (sitofp .f32 (constantI S_ 32 0#32) : FVec Ideal S_ .f32) pads_S64x2048_S128x2048_0640_000 h_S_ := by
    unfold_abbrev_sides
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
  rw [hV]
  unfold W
  pointwise
  rw [zero_word]

/-- The norm's weights' block at a point. -/
theorem gblk (c : Dev nD) (t : Fin cfg0.N) (k : Fin 2048) :
    (iblk m c 1 t : Vec Ideal S1x2048 .f32) (ix2 0 k) = m ((c : Thread nD τ).loc main_arg1) (ix1 k) := by
  obtain ⟨e0, e1, e2, e3, e4⟩ := idx t
  refine Eq.trans (congrArg (V m c main_v3) (funext fun a => Fin.ext ?_)) (g_row m c k)
  match a with
  | ⟨0, _⟩ =>
    show win0_1.index t (0 : Fin 2) * 1 + 1 * 0 = 0
    rw [e1]; simp
  | ⟨1, _⟩ =>
    show win0_1.index t (1 : Fin 2) * 2048 + 1 * k.val = k.val
    rw [e1]; simp

/-- The time steps' weights' block at a point. -/
theorem wblk (c : Dev nD) (t : Fin cfg0.N) (j : Fin 128) (k : Fin 2048) :
    (iblk m c 2 t : Vec Ideal S128x2048 .f32) (ix2 j k) = W (m ((c : Thread nD τ).loc main_arg2)) j k := by
  obtain ⟨e0, e1, e2, e3, e4⟩ := idx t
  refine Eq.trans (congrArg (V m c main_v2) (funext fun a => Fin.ext ?_)) (w_row m c j k)
  match a with
  | ⟨0, _⟩ =>
    show win0_2.index t (0 : Fin 2) * 128 + 1 * j.val = j.val
    rw [e2]; simp
  | ⟨1, _⟩ =>
    show win0_2.index t (1 : Fin 2) * 2048 + 1 * k.val = k.val
    rw [e2]; simp

/-- The rows' block at a point. -/
theorem xblk (c : Dev nD) (t : Fin cfg0.N) (r : Fin 512) (k : Fin 2048) (q : Fin 8192) (h : q.val = t.val * 512 + r.val) :
    (iblk m c 0 t : Vec Ideal S512x2048 .f32) (ix2 r k) = m ((c : Thread nD τ).loc main_arg0) (ix2 q k) := by
  obtain ⟨e0, e1, e2, e3, e4⟩ := idx t
  refine (congrFun (V_main_arg0 m c) _).trans (congrArg _ (funext fun a => Fin.ext ?_))
  match a with
  | ⟨0, _⟩ =>
    show win0_0.index t (0 : Fin 2) * 512 + 1 * r.val = q.val
    rw [e0, h]; simp
  | ⟨1, _⟩ =>
    show win0_0.index t (1 : Fin 2) * 2048 + 1 * k.val = k.val
    rw [e0]; simp

/-- A normed row of a point's block. -/
theorem hblk (c : Dev nD) (t : Fin cfg0.N) (r : Fin 512) (k : Fin 2048) (q : Fin 8192) (h : q.val = t.val * 512 + r.val) :
    k0_pay1 (iblk m c 0 t) (iblk m c 1 t) (ix2 r k) = H (m ((c : Thread nD τ).loc main_arg0)) (m ((c : Thread nD τ).loc main_arg1)) (ix2 q k) := by
  refine (pay1_apply _ _ _).trans (congr (congr (congrArg nrm (funext fun j => ?_)) rfl) ?_)
  · exact xblk m c t r j q h
  · exact gblk m c t k

/-- The first result after the run. -/
theorem final3 (c : Dev nD) : (dats m 0 c).arrAt 3 cfg0.N
    = H (m ((c : Thread nD τ).loc main_arg0)) (m ((c : Thread nD τ).loc main_arg1)) := by
  refine (dats m 0 c).arrAt_eq_of_covers 3 _ (by decide +kernel) fun t hf y => ?_
  obtain ⟨e0, e1, e2, e3, e4⟩ := idx t
  blk_simp
  rw [after0_3]
  frame_out
  have hy : (((cfg0.win 3).blk t).view.emb y) = ix2 ⟨t.val * 512 + (y 0).val, by
      have h0 : (y 0).val < 512 := (y 0).isLt
      have ht : t.val < 16 := lt_of_lt_of_eq t.isLt N_0
      omega⟩ (y 1) := by
    funext a
    apply Fin.ext
    match a with
    | ⟨0, _⟩ => blk_simp [e3]; rfl
    | ⟨1, _⟩ => blk_simp [e3]; rfl
  refine Eq.trans ?_ (congrArg (H (m ((c : Thread nD τ).loc main_arg0)) (m ((c : Thread nD τ).loc main_arg1))) hy.symm)
  refine Eq.trans ?_ (hblk m c t (y 0) (y 1) _ rfl)
  rw [pay2_apply, pay1_apply]
  rfl

/-- The second result after the run, over finite weights. -/
theorem final4 (c : Dev nD) (hg : ∀ k, IsReal (m ((c : Thread nD τ).loc main_arg1) (ix1 k)))
    (hw : ∀ j k, IsReal (W (m ((c : Thread nD τ).loc main_arg2)) j k)) : (dats m 0 c).arrAt 4 cfg0.N
    = D (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4⟩ := idx t
  blk_simp
  rw [after0_4]
  frame_out
  have hy : (((cfg0.win 4).blk t).view.emb y) = ix2 ⟨t.val * 512 + (y 0).val, by
      have h0 : (y 0).val < 512 := (y 0).isLt
      have ht : t.val < 16 := lt_of_lt_of_eq t.isLt N_0
      omega⟩ (y 1) := by
    funext a
    apply Fin.ext
    match a with
    | ⟨0, _⟩ => blk_simp [e4]; rfl
    | ⟨1, _⟩ => blk_simp [e4]; rfl
  refine Eq.trans ?_ (congrArg (D (m ((c : Thread nD τ).loc main_arg0)) (m ((c : Thread nD τ).loc main_arg1)) (m ((c : Thread nD τ).loc main_arg2))) hy.symm)
  rw [pay3_apply]
  have hq : t.val * 512 + (y 0).val < 8192 := by
    have h0 : (y 0).val < 512 := (y 0).isLt
    have ht : t.val < 16 := lt_of_lt_of_eq t.isLt N_0
    omega
  refine Eq.trans (congrArg₂ D3 (funext fun k => hblk m c t (y 0) k ⟨t.val * 512 + (y 0).val, hq⟩ rfl) (funext fun k => wblk m c t (y 1) k)) ?_
  exact D3_eq _ _ (fun k => nrm_real _ _ _ (hg _)) (fun k => hw _ _)

/-- The kernel and the reference leave the same arrays. -/
theorem algebraic : Cert.algebraic_KNormIdeal_RNormIdeal_pre_norm_finite (hKNormIdeal := Cert.KNormIdeal.Gen.facts) (hRNormIdeal := Cert.RNormIdeal.Gen.facts)
    (hPre_norm_finite := Cert.Pre_norm_finite.Gen.facts) := by
  intro m g m' g' hpre hag
  have hg : ∀ (c : Dev nD) k, IsReal (m ((c : Thread nD τ).loc main_arg1) (ix1 k)) := by
    intro c k
    obtain ⟨p0, p1⟩ := hpre c
    exact real_of_cmp (congrFun p0 (ix1 k))
  have hw : ∀ (c : Dev nD) j k, IsReal (W (m ((c : Thread nD τ).loc main_arg2)) j k) := by
    intro c j k
    obtain ⟨p0, p1⟩ := hpre c
    unfold W
    split
    · rename_i e
      have hx : extractStridedSlice Cert.Pre_norm_finite.S2048x64 ![0, 10240] (m ((c : Thread nD τ).loc main_arg2)) Cert.Pre_norm_finite.Gen.slices_S2048x20544_S2048x64_0_10240
          (ix2 k ⟨j.val, e⟩) = m ((c : Thread nD τ).loc main_arg2) (ix2 k ⟨10240 + j.val, by omega⟩) := by
        pointwise
      rw [← hx]
      exact real_of_cmp (congrFun p1 (ix2 k ⟨j.val, e⟩))
    · exact IsReal.zero
  refine ⟨fun c => H (m ((c : Thread nD τ).loc main_arg0)) (m ((c : Thread nD τ).loc main_arg1)),
    fun c => D (m ((c : Thread nD τ).loc main_arg0)) (m ((c : Thread nD τ).loc main_arg1)) (m ((c : Thread nD τ).loc main_arg2)), ?_, ?_⟩
  · exact (θ_run defs _ _).mono (fun r h c => ⟨(h c).1.trans (final3 m c), (h c).2.1.trans (final4 m c (hg c) (hw c)), (h c).2.2⟩) (Cert.KNormIdeal.Value.run_blocks m g)
  · refine (θ_run Cert.RNormIdeal.defs _ _).mono (fun r h c => ?_) (Cert.RNormIdeal.Value.run m' g')
    obtain ⟨h0, h1, h2⟩ := hag c
    refine ⟨(h c).1.trans ?_, (h c).2.1.trans ?_, (h c).2.2⟩
    · rw [h0, h1]
      clear hpre hg hw
      funext i
      unfold H nrm
      pointwise
    · rw [h0, h1, h2]
      clear hpre hg hw
      funext i
      unfold D H nrm W
      pointwise
      split
      · rfl
      · rw [zero_word]
        simp only [mul_zero, Finset.sum_const_zero]

end Cert.Proof.Norm

end
-- ==== Proof.QkTop.lean ====
/-
  Three rounds of choosing the greatest gate, each striking out the block it chose, choose what the first three positions
  of a stable sort, greatest first, hold.
-/
module

public import proofs.«01_k».proof.Defs
public import Idealize.ShloMosaic.Lib.Pipeline.ValueKit
public import Idealize.ShloMosaic.Lib.SortPrefix

@[expose] public section

open Idealize.ShloMosaic

namespace Cert.Proof.Qk

/-! ## Choosing the greatest entries one after another is a stable sort's prefix

The kernel finds the greatest gate of a column, marks the first block that attains it, strikes that block out and repeats;
the reference sorts the gates stably, greatest first, and takes the first positions. -/

/-- The greatest entry, by a fold of `max`. -/
noncomputable def top (g : Fin 32 → EReal) : EReal := Finset.univ.fold max ⊥ g

open Classical in
/-- A block's own number where it attains a greatest entry above minus infinity, else a number that is no block's. -/
noncomputable def cand (g : Fin 32 → EReal) (k : Fin 32) : EReal :=
  if g k = top g ∧ ⊥ < top g then ((k.val : ℝ) : EReal) else ((32 : ℝ) : EReal)

/-- Block `n` is the first candidate. -/
def Hit (g : Fin 32 → EReal) (n : Fin 32) : Prop := ((n.val : ℝ) : EReal) = Finset.univ.fold min ⊤ (cand g)

open Classical in
/-- The gates with the block just chosen struck out. -/
noncomputable def strike (g : Fin 32 → EReal) (n : Fin 32) : EReal := if Hit g n then ⊥ else g n

theorem le_top' (g : Fin 32 → EReal) (k : Fin 32) : g k ≤ top g := Finset.le_sup (f := g) (Finset.mem_univ k)

theorem lt32 (n : Fin 32) : ((n.val : ℝ) : EReal) < ((32 : ℝ) : EReal) := by
  rw [EReal.coe_lt_coe_iff]; exact_mod_cast n.isLt

theorem hit_iff (g : Fin 32 → EReal) (n : Fin 32) :
    Hit g n ↔ ⊥ < g n ∧ (∀ k, g k ≤ g n) ∧ ∀ k, k < n → g k < g n := by
  have hinf : ∀ k, Finset.univ.fold min ⊤ (cand g) ≤ cand g k := fun k => Finset.inf_le (f := cand g) (Finset.mem_univ k)
  constructor
  · intro h
    obtain ⟨k, -, hk⟩ := Finset.exists_mem_eq_inf Finset.univ ⟨(0 : Fin 32), Finset.mem_univ _⟩ (cand g)
    have e : ((n.val : ℝ) : EReal) = cand g k := h.trans hk
    unfold cand at e
    split at e
    · rename_i hc
      have hkn : n = k := by
        apply Fin.ext
        have := EReal.coe_eq_coe_iff.mp e
        exact_mod_cast this
      subst hkn
      obtain ⟨h1, h2⟩ := hc
      refine ⟨h1 ▸ h2, fun k => h1 ▸ le_top' g k, fun k hk => ?_⟩
      rcases lt_or_eq_of_le (le_top' g k) with hlt | heq
      · rw [h1]; exact hlt
      · exfalso
        have h3 := hinf k
        rw [← h] at h3
        unfold cand at h3
        rw [if_pos ⟨heq, h2⟩, EReal.coe_le_coe_iff] at h3
        have : n.val ≤ k.val := by exact_mod_cast h3
        exact absurd hk (not_lt.mpr this)
    · exact absurd e (ne_of_lt (lt32 n))
  · rintro ⟨h0, h1, h2⟩
    have ht : top g = g n := le_antisymm (Finset.sup_le fun k _ => h1 k) (le_top' g n)
    refine le_antisymm (Finset.le_inf fun k _ => ?_) ?_
    · unfold cand
      split
      · rename_i hc
        rw [EReal.coe_le_coe_iff]
        have : ¬ k < n := fun hk => absurd (hc.1.trans ht) (ne_of_lt (h2 k hk))
        exact_mod_cast (not_lt.mp this)
      · exact le_of_lt (lt32 n)
    · refine (hinf n).trans ?_
      unfold cand
      rw [if_pos ⟨ht.symm, ht ▸ h0⟩]

/-- Greater first. -/
noncomputable def gtb (g : Fin 32 → EReal) (k k' : Fin 32) : Bool := decide (g k' < g k)

/-- Greater first, equal ones in index order. -/
noncomputable def gtp (g : Fin 32 → EReal) (k k' : Fin 32) : Bool :=
  decide (g k' < g k) || (decide (g k = g k') && decide (k < k'))

theorem gtp_total (g : Fin 32 → EReal) : StrictTotalBefore (gtp g) :=
  StrictTotalBefore.of_key_then_position (fun a b : EReal => decide (b < a)) g (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

theorem stableSort_gtb (g : Fin 32 → EReal) (l : List (Fin 32)) (hl : l.Pairwise (· < ·)) :
    stableSort (gtb g) l = stableSort (gtp g) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (le_of_lt (hl.1 b hb'))
    simp [gtb, gtp, this]

/-- The position of the `i`-th greatest entry. -/
noncomputable abbrev src (g : Fin 32 → EReal) : Fin 32 → Fin 32 := sortedFrom (gtb g)

theorem sortedFrom_of_eq {n : ℕ} (R R' : Fin n → Fin n → Bool) (h : sortPositions n R = sortPositions n R') : sortedFrom R = sortedFrom R' := by
  funext k
  unfold sortedFrom
  rw [List.get_of_eq h]
  rfl

theorem src_eq (g : Fin 32 → EReal) : src g = sortedFrom (gtp g) :=
  sortedFrom_of_eq _ _ (stableSort_gtb g _ (List.pairwise_lt_finRange 32))

theorem src_inj (g : Fin 32 → EReal) : Function.Injective (src g) := sortedFrom_injective _

theorem src_surj (g : Fin 32 → EReal) : Function.Surjective (src g) := sortedFrom_surjective _

theorem src_before (g : Fin 32 → EReal) (i j : Fin 32) (h : i < j) :
    g (src g j) < g (src g i) ∨ (g (src g i) = g (src g j) ∧ src g i < src g j) := by
  have hB := gtp_total g
  have hn := sortedFrom_noInversion (gtp g) (gtp g) hB.asymm (fun _ _ h => h) hB.negTrans i j h
  rw [← src_eq] at hn
  have hne : src g i ≠ src g j := fun e => absurd (src_inj g e) (ne_of_lt h)
  rcases hB.total _ _ hne with h1 | h1
  · simpa [gtp] using h1
  · rw [h1] at hn; exact absurd hn (by decide)

open Classical in
/-- The gates with the first `r` sorted positions struck out. -/
noncomputable def after (g : Fin 32 → EReal) (r : Fin 32) (n : Fin 32) : EReal := if ∃ j, j < r ∧ src g j = n then ⊥ else g n

theorem hit_after (g : Fin 32 → EReal) (r n : Fin 32) : Hit (after g r) n ↔ src g r = n ∧ ⊥ < g n := by
  have hout : ∀ j, r ≤ j → after g r (src g j) = g (src g j) := fun j hj => by
    unfold after
    rw [if_neg]
    rintro ⟨i, hi, e⟩
    exact absurd (src_inj g e) (ne_of_lt (lt_of_lt_of_le hi hj))
  rw [hit_iff]
  constructor
  · rintro ⟨h0, h1, h2⟩
    obtain ⟨j, rfl⟩ := src_surj g n
    by_cases hj : j < r
    · have : after g r (src g j) = ⊥ := by unfold after; rw [if_pos ⟨j, hj, rfl⟩]
      rw [this] at h0
      exact absurd h0 (lt_irrefl _)
    · have hj' := not_lt.mp hj
      rw [hout j hj'] at h0 h1 h2
      rcases lt_or_eq_of_le hj' with hlt | rfl
      · exfalso
        have a1 := h1 (src g r)
        have a2 := h2 (src g r)
        rw [hout r (le_refl _)] at a1 a2
        rcases src_before g r j hlt with b | ⟨b, b'⟩
        · exact absurd a1 (not_le.mpr b)
        · exact absurd (a2 b') (by rw [b]; exact lt_irrefl _)
      · exact ⟨rfl, h0⟩
  · rintro ⟨rfl, h⟩
    rw [hout r (le_refl _)]
    have key : ∀ k, after g r k = ⊥ ∨ (∃ j, r ≤ j ∧ src g j = k ∧ after g r k = g k) := fun k => by
      obtain ⟨j, rfl⟩ := src_surj g k
      by_cases hj : j < r
      · left; unfold after; rw [if_pos ⟨j, hj, rfl⟩]
      · exact Or.inr ⟨j, not_lt.mp hj, rfl, hout j (not_lt.mp hj)⟩
    refine ⟨h, fun k => ?_, fun k hk => ?_⟩
    · rcases key k with e | ⟨j, hj, rfl, e⟩
      · rw [e]; exact bot_le
      · rw [e]
        rcases lt_or_eq_of_le hj with hlt | rfl
        · rcases src_before g r j hlt with b | ⟨b, -⟩
          · exact le_of_lt b
          · exact le_of_eq b.symm
        · exact le_refl _
    · rcases key k with e | ⟨j, hj, rfl, e⟩
      · rw [e]; exact h
      · rw [e]
        rcases lt_or_eq_of_le hj with hlt | rfl
        · rcases src_before g r j hlt with b | ⟨-, b⟩
          · exact b
          · exact absurd hk (not_lt.mpr (le_of_lt b))
        · exact absurd hk (lt_irrefl _)

theorem strike_after (g : Fin 32 → EReal) (r r' : Fin 32) (hr : r'.val = r.val + 1) : strike (after g r) = after g r' := by
  funext n
  unfold strike
  by_cases h : Hit (after g r) n
  · rw [if_pos h]
    obtain ⟨e, -⟩ := (hit_after g r n).mp h
    unfold after
    rw [if_pos ⟨r, Fin.lt_def.mpr (by omega), e⟩]
  · rw [if_neg h]
    by_cases e : src g r = n
    · have hb : g n = ⊥ := by
        by_contra hb
        exact h ((hit_after g r n).mpr ⟨e, bot_lt_iff_ne_bot.mpr hb⟩)
      unfold after
      split <;> split <;> simp [hb]
    · unfold after
      refine if_congr ⟨fun ⟨j, hj, ej⟩ => ⟨j, Fin.lt_def.mpr (by have := Fin.lt_def.mp hj; omega), ej⟩, fun ⟨j, hj, ej⟩ => ?_⟩ rfl rfl
      refine ⟨j, ?_, ej⟩
      have hne : j ≠ r := fun h => e (h ▸ ej)
      have h1 := Fin.lt_def.mp hj
      have h2 : j.val ≠ r.val := fun h => hne (Fin.ext h)
      exact Fin.lt_def.mpr (by omega)

theorem after_zero (g : Fin 32 → EReal) : after g 0 = g := by
  funext n
  unfold after
  rw [if_neg]
  rintro ⟨j, hj, -⟩
  exact absurd hj (not_lt.mpr (Fin.zero_le j))

/-- When exactly the first `b` entries are above minus infinity, so are exactly the first `b` of the sorted. -/
theorem bot_lt_src (g : Fin 32 → EReal) (b : Fin 32) (hg : ∀ k, ⊥ < g k ↔ k < b) (r : Fin 32) : ⊥ < g (src g r) ↔ r < b := by
  classical
  have hmono : ∀ i j : Fin 32, i ≤ j → ⊥ < g (src g j) → ⊥ < g (src g i) := fun i j hij h => by
    rcases lt_or_eq_of_le hij with hlt | rfl
    · rcases src_before g i j hlt with c | ⟨c, -⟩
      · exact lt_trans h c
      · rw [c]; exact h
    · exact h
  have hcard : (Finset.univ.filter fun i => ⊥ < g (src g i)).card = b.val := by
    rw [← Fin.card_Iio b]
    refine Finset.card_bij (fun i _ => src g i) (fun i hi => ?_) (fun i _ j _ e => src_inj g e) (fun k hk => ?_)
    · exact Finset.mem_Iio.mpr ((hg _).mp (Finset.mem_filter.mp hi).2)
    · obtain ⟨i, rfl⟩ := src_surj g k
      exact ⟨i, Finset.mem_filter.mpr ⟨Finset.mem_univ _, (hg _).mpr (Finset.mem_Iio.mp hk)⟩, rfl⟩
  constructor
  · intro h
    have hs : Finset.Iic r ⊆ Finset.univ.filter fun i => ⊥ < g (src g i) := fun i hi =>
      Finset.mem_filter.mpr ⟨Finset.mem_univ _, hmono i r (Finset.mem_Iic.mp hi) h⟩
    have := Finset.card_le_card hs
    rw [hcard, Fin.card_Iic] at this
    exact Fin.lt_def.mpr (by omega)
  · intro h
    by_contra hn
    have hs : (Finset.univ.filter fun i => ⊥ < g (src g i)) ⊆ Finset.Iio r := fun i hi => by
      refine Finset.mem_Iio.mpr ?_
      by_contra hi'
      exact hn (hmono r i (not_lt.mp hi') (Finset.mem_filter.mp hi).2)
    have := Finset.card_le_card hs
    rw [hcard, Fin.card_Iio] at this
    have := Fin.lt_def.mp h
    omega

/-- Round `0`, `1` and `2` mark what the sort puts first, second and third, as far as there are blocks to mark. -/
theorem rounds (g : Fin 32 → EReal) (b : Fin 32) (hg : ∀ k, ⊥ < g k ↔ k < b) (n : Fin 32) :
    (Hit g n ↔ src g 0 = n ∧ 0 < b) ∧ (Hit (strike g) n ↔ src g 1 = n ∧ 1 < b)
      ∧ (Hit (strike (strike g)) n ↔ src g 2 = n ∧ 2 < b) := by
  have e1 : strike g = after g 1 := by
    conv_lhs => rw [← after_zero g]
    exact strike_after g 0 1 rfl
  have e2 : strike (strike g) = after g 2 := by rw [e1]; exact strike_after g 1 2 rfl
  have key : ∀ r, (src g r = n ∧ ⊥ < g n) ↔ (src g r = n ∧ r < b) := fun r => by
    constructor
    · rintro ⟨rfl, h⟩; exact ⟨rfl, (bot_lt_src g b hg r).mp h⟩
    · rintro ⟨rfl, h⟩; exact ⟨rfl, (bot_lt_src g b hg r).mpr h⟩
  refine ⟨?_, ?_, ?_⟩
  · rw [← key 0, ← hit_after, after_zero]
  · rw [← key 1, ← hit_after, e1]
  · rw [← key 2, ← hit_after, e2]

end Cert.Proof.Qk

end
-- ==== Proof.QkLoops.lean ====
/-
  The routing kernel's two loops over blocks of tokens: where each trip loads and stores, and that after all the trips a
  result holds, at every index, what the one trip that writes there put there. The second loop reads the block means that
  the first leaves in a scratch.
-/
module

public import proofs.«01_k».proof.Defs
public import proofs.«01_k».proof.Proof.Gen.KQkIdeal.Value
public import Idealize.ShloMosaic.Lib.Pipeline.ValueKit
public import Idealize.ShloMosaic.Lib.Pipeline.CanonAppend

@[expose] public section

noncomputable section

open Idealize.ShloMosaic Idealize.ShloMosaic.TcCoe Idealize.SL.Sem
open Idealize.ShloMosaic.ValueIdx

namespace Cert.Proof.Qk

open Cert.KQkIdeal Cert.KQkIdeal.Gen

/-! ## Where each trip loads and stores -/

theorem off1_eq : ∀ k : Fin k0_t1_loop.trips, k0_off1 k = ![k.val * 256, 0] := by decide +kernel
theorem off2_eq : ∀ k : Fin k0_t1_loop.trips, k0_off2 k = ![0, k.val * 256, 0] := by decide +kernel
theorem off3_eq : ∀ k : Fin k0_t1_loop.trips, k0_off3 k = ![k.val, 0] := by decide +kernel
theorem off4_eq : ∀ k : Fin k0_t1_loop.trips, k0_off4 k = ![0, k.val, 0, 0] := by decide +kernel
theorem off5_eq : ∀ k : Fin k0_t1_loop.trips, k0_off5 k = ![0, k.val, 128, 0] := by decide +kernel
theorem off6_eq : ∀ k : Fin k0_t2_loop.trips, k0_off6 k = ![k.val * 256, 0] := by decide +kernel
theorem off7_eq : ∀ k : Fin k0_t2_loop.trips, k0_off7 k = ![0, k.val, 0, 0] := by decide +kernel
theorem off8_eq : ∀ k : Fin k0_t2_loop.trips, k0_off8 k = ![0, k.val, 0, 0] := by decide +kernel

/-! ## What one trip of each loop stores -/

/-- The values one trip of the second loop stores as the penalties, from the means `v11` and the trip's rows. -/
def penOf (v11 : Vec Ideal S32x128 .f32) (v20 : Vec Ideal S256x128 .bf16) (v32 : Vec Ideal S1x128 .f32) (k : Fin k0_t2_loop.trips) :
    FVec Ideal S1x1x32x256 .f32 :=
  k0_pay6 (k0_pay14 (F := Ideal))
    (k0_pay20 (k0_pay13 (k0_pay4 v11) (k0_pay5 v11) v20 v32) (k0_pay14 (F := Ideal)) (k0_pay15 0#32 1#32 k) (Scalar.ofBits .f32 0xFF800000#32))
    (k0_pay23 (k0_pay13 (k0_pay4 v11) (k0_pay5 v11) v20 v32) (k0_pay14 (F := Ideal)) (k0_pay15 0#32 1#32 k) (Scalar.ofBits .f32 0xFF800000#32))
    (k0_pay24 (k0_pay13 (k0_pay4 v11) (k0_pay5 v11) v20 v32) (k0_pay14 (F := Ideal)) (k0_pay15 0#32 1#32 k) (Scalar.ofBits .f32 0xFF800000#32))

section Trips

variable (𝒱 : Variants) (c : Dev nD) (bd : Option 𝒱.V) (i : grid0.Coords) (arg1 : Memref sig .tc .vmem S8192x128 .bf16) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x32x128x256 .bf16) (harg6 : arg6.IsWhole) (arg7 : Memref sig .tc .vmem S1x8192x128 .bf16) (harg7 : arg7.IsWhole) (arg8 : Memref sig .tc .vmem S1x32x144x256 .bf16) (harg8 : arg8.IsWhole) (arg9 : Memref sig .tc .vmem S1x32x32x256 .f32) (harg9 : arg9.IsWhole) (arg10 : Memref sig .tc .vmem S32x128 .f32) (harg10 : arg10.IsWhole) (X_arg2 : BufTy.Contents (Elt Ideal) arg2.view.ty) (X_arg3 : BufTy.Contents (Elt Ideal) arg3.view.ty) (X_arg5 : BufTy.Contents (Elt Ideal) arg5.view.ty) (v11 : Vec Ideal S32x128 .f32) (X_arg1 : BufTy.Contents (Elt Ideal) arg1.view.ty) (X_arg4 : BufTy.Contents (Elt Ideal) arg4.view.ty)

theorem trip1_7 (k : Fin k0_t1_loop.trips) : (trip_k0_t1 (F := Ideal) 𝒱 c bd i arg1 harg1 arg2 harg2 arg3 harg3 arg4 harg4 arg5 harg5 arg6 harg6 arg7 harg7 arg8 harg8 arg9 harg9 arg10 harg10 X_arg2 X_arg3 X_arg5 k).1
    = [⟨Rect.unit (s := S1x8192x128) (k0_off2 k) S1x256x128.size (k0_off2_inb k), k0_pay8 (View.readAt (Elt Ideal) arg2.view (Rect.unit (s := S8192x128) (k0_off1 k) S256x128.size (k0_off1_inb k)).toLoadRect X_arg2) (View.readAt (Elt Ideal) arg5.view (Rect.unit (s := S1x128) ![0, 0] S1x128.size inb_S1x128_S1x128_0_0).toLoadRect X_arg5)⟩] := by
  unfold trip_k0_t1; rfl

theorem trip1_8 (k : Fin k0_t1_loop.trips) : (trip_k0_t1 (F := Ideal) 𝒱 c bd i arg1 harg1 arg2 harg2 arg3 harg3 arg4 harg4 arg5 harg5 arg6 harg6 arg7 harg7 arg8 harg8 arg9 harg9 arg10 harg10 X_arg2 X_arg3 X_arg5 k).2.1
    = [⟨Rect.unit (s := S1x32x144x256) (k0_off5 k) S1x1x16x256.size (k0_off5_inb k), k0_pay3 (F := Ideal)⟩,
       ⟨Rect.unit (s := S1x32x144x256) (k0_off4 k) S1x1x128x256.size (k0_off4_inb k), k0_pay10 (k0_pay2 (F := Ideal)) (View.readAt (Elt Ideal) arg3.view (Rect.unit (s := S8192x128) (k0_off1 k) S256x128.size (k0_off1_inb k)).toLoadRect X_arg3)⟩] := by
  unfold trip_k0_t1; rfl

theorem trip1_10 (k : Fin k0_t1_loop.trips) : (trip_k0_t1 (F := Ideal) 𝒱 c bd i arg1 harg1 arg2 harg2 arg3 harg3 arg4 harg4 arg5 harg5 arg6 harg6 arg7 harg7 arg8 harg8 arg9 harg9 arg10 harg10 X_arg2 X_arg3 X_arg5 k).2.2.1
    = [⟨Rect.unit (s := S32x128) (k0_off3 k) S1x128.size (k0_off3_inb k), k0_pay9 (View.readAt (Elt Ideal) arg2.view (Rect.unit (s := S8192x128) (k0_off1 k) S256x128.size (k0_off1_inb k)).toLoadRect X_arg2) (View.readAt (Elt Ideal) arg5.view (Rect.unit (s := S1x128) ![0, 0] S1x128.size inb_S1x128_S1x128_0_0).toLoadRect X_arg5)⟩] := by
  unfold trip_k0_t1; rfl

theorem trip2_6 (k : Fin k0_t2_loop.trips) : (trip_k0_t2 (F := Ideal) 𝒱 c bd i arg1 harg1 arg2 harg2 arg3 harg3 arg4 harg4 arg5 harg5 arg6 harg6 arg7 harg7 arg8 harg8 arg9 harg9 arg10 harg10 v11 X_arg1 X_arg4 k).1
    = [⟨Rect.unit (s := S1x32x128x256) (k0_off7 k) S1x1x128x256.size (k0_off7_inb k), k0_pay12 (View.readAt (Elt Ideal) arg1.view (Rect.unit (s := S8192x128) (k0_off6 k) S256x128.size (k0_off6_inb k)).toLoadRect X_arg1) (View.readAt (Elt Ideal) arg4.view (Rect.unit (s := S1x128) ![0, 0] S1x128.size inb_S1x128_S1x128_0_0).toLoadRect X_arg4)⟩] := by
  unfold trip_k0_t2; rfl

theorem trip2_9 (k : Fin k0_t2_loop.trips) : (trip_k0_t2 (F := Ideal) 𝒱 c bd i arg1 harg1 arg2 harg2 arg3 harg3 arg4 harg4 arg5 harg5 arg6 harg6 arg7 harg7 arg8 harg8 arg9 harg9 arg10 harg10 v11 X_arg1 X_arg4 k).2.1
    = [⟨Rect.unit (s := S1x32x32x256) (k0_off8 k) S1x1x32x256.size (k0_off8_inb k), penOf v11 (View.readAt (Elt Ideal) arg1.view (Rect.unit (s := S8192x128) (k0_off6 k) S256x128.size (k0_off6_inb k)).toLoadRect X_arg1) (View.readAt (Elt Ideal) arg4.view (Rect.unit (s := S1x128) ![0, 0] S1x128.size inb_S1x128_S1x128_0_0).toLoadRect X_arg4) k⟩] := by
  unfold trip_k0_t2; rfl

/-! ## The pieces of all trips: each is some trip's -/

theorem pb1_7 (n : ℕ) (hn : n ≤ k0_t1_loop.trips) (p) (hp : p ∈ (pb_k0_t1 (F := Ideal) 𝒱 c bd i arg1 harg1 arg2 harg2 arg3 harg3 arg4 harg4 arg5 harg5 arg6 harg6 arg7 harg7 arg8 harg8 arg9 harg9 arg10 harg10 X_arg2 X_arg3 X_arg5 n).1) : ∃ k : Fin k0_t1_loop.trips, p ∈ (trip_k0_t1 (F := Ideal) 𝒱 c bd i arg1 harg1 arg2 harg2 arg3 harg3 arg4 harg4 arg5 harg5 arg6 harg6 arg7 harg7 arg8 harg8 arg9 harg9 arg10 harg10 X_arg2 X_arg3 X_arg5 k).1 := by
  induction n with
  | zero => exact absurd hp List.not_mem_nil
  | succ n ih =>
    rw [pb_k0_t1_succ 𝒱 c bd i arg1 harg1 arg2 harg2 arg3 harg3 arg4 harg4 arg5 harg5 arg6 harg6 arg7 harg7 arg8 harg8 arg9 harg9 arg10 harg10 X_arg2 X_arg3 X_arg5 ⟨n, hn⟩] at hp
    rcases List.mem_append.mp hp with h | h
    · exact ⟨_, h⟩
    · exact ih (Nat.le_of_succ_le hn) h

theorem pb1_8 (n : ℕ) (hn : n ≤ k0_t1_loop.trips) (p) (hp : p ∈ (pb_k0_t1 (F := Ideal) 𝒱 c bd i arg1 harg1 arg2 harg2 arg3 harg3 arg4 harg4 arg5 harg5 arg6 harg6 arg7 harg7 arg8 harg8 arg9 harg9 arg10 harg10 X_arg2 X_arg3 X_arg5 n).2.1) : ∃ k : Fin k0_t1_loop.trips, p ∈ (trip_k0_t1 (F := Ideal) 𝒱 c bd i arg1 harg1 arg2 harg2 arg3 harg3 arg4 harg4 arg5 harg5 arg6 harg6 arg7 harg7 arg8 harg8 arg9 harg9 arg10 harg10 X_arg2 X_arg3 X_arg5 k).2.1 := by
  induction n with
  | zero => exact absurd hp List.not_mem_nil
  | succ n ih =>
    rw [pb_k0_t1_succ 𝒱 c bd i arg1 harg1 arg2 harg2 arg3 harg3 arg4 harg4 arg5 harg5 arg6 harg6 arg7 harg7 arg8 harg8 arg9 harg9 arg10 harg10 X_arg2 X_arg3 X_arg5 ⟨n, hn⟩] at hp
    rcases List.mem_append.mp hp with h | h
    · exact ⟨_, h⟩
    · exact ih (Nat.le_of_succ_le hn) h

theorem pb1_10 (n : ℕ) (hn : n ≤ k0_t1_loop.trips) (p) (hp : p ∈ (pb_k0_t1 (F := Ideal) 𝒱 c bd i arg1 harg1 arg2 harg2 arg3 harg3 arg4 harg4 arg5 harg5 arg6 harg6 arg7 harg7 arg8 harg8 arg9 harg9 arg10 harg10 X_arg2 X_arg3 X_arg5 n).2.2) : ∃ k : Fin k0_t1_loop.trips, p ∈ (trip_k0_t1 (F := Ideal) 𝒱 c bd i arg1 harg1 arg2 harg2 arg3 harg3 arg4 harg4 arg5 harg5 arg6 harg6 arg7 harg7 arg8 harg8 arg9 harg9 arg10 harg10 X_arg2 X_arg3 X_arg5 k).2.2.1 := by
  induction n with
  | zero => exact absurd hp List.not_mem_nil
  | succ n ih =>
    rw [pb_k0_t1_succ 𝒱 c bd i arg1 harg1 arg2 harg2 arg3 harg3 arg4 harg4 arg5 harg5 arg6 harg6 arg7 harg7 arg8 harg8 arg9 harg9 arg10 harg10 X_arg2 X_arg3 X_arg5 ⟨n, hn⟩] at hp
    rcases List.mem_append.mp hp with h | h
    · exact ⟨_, h⟩
    · exact ih (Nat.le_of_succ_le hn) h

theorem pb1_10_mem (k : Fin k0_t1_loop.trips) (n : ℕ) (hn : n ≤ k0_t1_loop.trips) (hk : k.val < n) (p) (hp : p ∈ (trip_k0_t1 (F := Ideal) 𝒱 c bd i arg1 harg1 arg2 harg2 arg3 harg3 arg4 harg4 arg5 harg5 arg6 harg6 arg7 harg7 arg8 harg8 arg9 harg9 arg10 harg10 X_arg2 X_arg3 X_arg5 k).2.2.1) : p ∈ (pb_k0_t1 (F := Ideal) 𝒱 c bd i arg1 harg1 arg2 harg2 arg3 harg3 arg4 harg4 arg5 harg5 arg6 harg6 arg7 harg7 arg8 harg8 arg9 harg9 arg10 harg10 X_arg2 X_arg3 X_arg5 n).2.2 := by
  induction n with
  | zero => omega
  | succ n ih =>
    rw [pb_k0_t1_succ 𝒱 c bd i arg1 harg1 arg2 harg2 arg3 harg3 arg4 harg4 arg5 harg5 arg6 harg6 arg7 harg7 arg8 harg8 arg9 harg9 arg10 harg10 X_arg2 X_arg3 X_arg5 ⟨n, hn⟩]
    refine List.mem_append.mpr ?_
    by_cases e : k.val = n
    · left
      have hk' : k = ⟨n, hn⟩ := Fin.ext e
      subst hk'
      exact hp
    · exact Or.inr (ih (Nat.le_of_succ_le hn) (by omega))

theorem pb1_10_cover (y : S32x128.Idx) (n : ℕ) (hn : n ≤ k0_t1_loop.trips) (hy : (y 0).val < n) : ∃ p ∈ (pb_k0_t1 (F := Ideal) 𝒱 c bd i arg1 harg1 arg2 harg2 arg3 harg3 arg4 harg4 arg5 harg5 arg6 harg6 arg7 harg7 arg8 harg8 arg9 harg9 arg10 harg10 X_arg2 X_arg3 X_arg5 n).2.2, y ∈ p.1.set := by
  have hj : (y 0).val < k0_t1_loop.trips := (y 0).isLt
  have hm := pb1_10_mem 𝒱 c bd i arg1 harg1 arg2 harg2 arg3 harg3 arg4 harg4 arg5 harg5 arg6 harg6 arg7 harg7 arg8 harg8 arg9 harg9 arg10 harg10 X_arg2 X_arg3 X_arg5 ⟨(y 0).val, hj⟩ n hn hy
  rw [trip1_10] at hm
  refine ⟨_, hm _ (List.mem_singleton.mpr rfl), ?_⟩
  · refine (Rect.mem_set_unit (inb := k0_off3_inb _)).mpr fun a => ?_
    rw [off3_eq]
    match a with
    | ⟨0, _⟩ => exact ⟨le_refl _, Nat.lt_succ_self _⟩
    | ⟨1, _⟩ => exact ⟨Nat.zero_le _, by simpa using (y 1).isLt⟩

theorem pb2_6 (n : ℕ) (hn : n ≤ k0_t2_loop.trips) (p) (hp : p ∈ (pb_k0_t2 (F := Ideal) 𝒱 c bd i arg1 harg1 arg2 harg2 arg3 harg3 arg4 harg4 arg5 harg5 arg6 harg6 arg7 harg7 arg8 harg8 arg9 harg9 arg10 harg10 v11 X_arg1 X_arg4 n).1) : ∃ k : Fin k0_t2_loop.trips, p ∈ (trip_k0_t2 (F := Ideal) 𝒱 c bd i arg1 harg1 arg2 harg2 arg3 harg3 arg4 harg4 arg5 harg5 arg6 harg6 arg7 harg7 arg8 harg8 arg9 harg9 arg10 harg10 v11 X_arg1 X_arg4 k).1 := by
  induction n with
  | zero => exact absurd hp List.not_mem_nil
  | succ n ih =>
    rw [pb_k0_t2_succ 𝒱 c bd i arg1 harg1 arg2 harg2 arg3 harg3 arg4 harg4 arg5 harg5 arg6 harg6 arg7 harg7 arg8 harg8 arg9 harg9 arg10 harg10 v11 X_arg1 X_arg4 ⟨n, hn⟩] at hp
    rcases List.mem_append.mp hp with h | h
    · exact ⟨_, h⟩
    · exact ih (Nat.le_of_succ_le hn) h

theorem pb2_9 (n : ℕ) (hn : n ≤ k0_t2_loop.trips) (p) (hp : p ∈ (pb_k0_t2 (F := Ideal) 𝒱 c bd i arg1 harg1 arg2 harg2 arg3 harg3 arg4 harg4 arg5 harg5 arg6 harg6 arg7 harg7 arg8 harg8 arg9 harg9 arg10 harg10 v11 X_arg1 X_arg4 n).2) : ∃ k : Fin k0_t2_loop.trips, p ∈ (trip_k0_t2 (F := Ideal) 𝒱 c bd i arg1 harg1 arg2 harg2 arg3 harg3 arg4 harg4 arg5 harg5 arg6 harg6 arg7 harg7 arg8 harg8 arg9 harg9 arg10 harg10 v11 X_arg1 X_arg4 k).2.1 := by
  induction n with
  | zero => exact absurd hp List.not_mem_nil
  | succ n ih =>
    rw [pb_k0_t2_succ 𝒱 c bd i arg1 harg1 arg2 harg2 arg3 harg3 arg4 harg4 arg5 harg5 arg6 harg6 arg7 harg7 arg8 harg8 arg9 harg9 arg10 harg10 v11 X_arg1 X_arg4 ⟨n, hn⟩] at hp
    rcases List.mem_append.mp hp with h | h
    · exact ⟨_, h⟩
    · exact ih (Nat.le_of_succ_le hn) h

end Trips

/-! ## What the outputs hold after a grid point -/

section Outs

variable (m : (ℓ : Loc nD τ sig) → Buf (Elt Ideal) ℓ) (c : Dev nD) (t : Fin cfg0.N)

/-- The rows of block `k` of a column of the projections. -/
abbrev rows1 (x : Vec Ideal S8192x128 .bf16) (k : Fin k0_t1_loop.trips) : Vec Ideal S256x128 .bf16 :=
  View.ld x (Rect.unit (s := S8192x128) (k0_off1 k) S256x128.size (k0_off1_inb k))

/-- The same for the second loop. -/
abbrev rows2 (x : Vec Ideal S8192x128 .bf16) (k : Fin k0_t2_loop.trips) : Vec Ideal S256x128 .bf16 :=
  View.ld x (Rect.unit (s := S8192x128) (k0_off6 k) S256x128.size (k0_off6_inb k))

/-- A row of weights loaded whole. -/
abbrev wrow (x : Vec Ideal S1x128 .f32) : Vec Ideal S1x128 .f32 :=
  View.ld x (Rect.unit (s := S1x128) ![0, 0] S1x128.size inb_S1x128_S1x128_0_0)

theorem out6 (G : S1x8192x128.Idx → Elt Ideal .bf16)
    (hG : ∀ k x, k0_pay8 (rows1 (iblk m c 1 t) k) (wrow (iblk m c 4 t)) x
      = G ((Rect.unit (s := S1x8192x128) (k0_off2 k) S1x256x128.size (k0_off2_inb k)).emb x)) :
    (outsAt0 m c t).2.1 = G := by
  funext y
  unfold outsAt0
  dsimp only
  unfold out0_A_6
  refine (congrFun (View.read_writes_eq_canon _ _ _ ?_) y).trans ?_
  · intro y
    apply cover0_A_6
  refine View.canon_apply_of_pieces G _ ?_ y (by apply cover0_A_6)
  intro p hp x
  unfold kernelRun0_A at hp
  dsimp only at hp
  obtain ⟨k, hk⟩ := pb1_7 _ _ _ _ _ _ _ _ _ _ _ _ _ _ _ _ _ _ _ _ _ _ _ _ _ _ _ _ (le_of_eq rfl) p hp
  rw [trip1_7] at hk
  obtain rfl := List.mem_singleton.mp hk
  simp only [View.readAt_eq_ld, Memref.IsWhole.read_unread] at x ⊢
  exact hG k x

theorem out7 (G : S1x32x144x256.Idx → Elt Ideal .bf16)
    (hG : ∀ k x, k0_pay10 (k0_pay2 (F := Ideal)) (rows1 (iblk m c 2 t) k) x
      = G ((Rect.unit (s := S1x32x144x256) (k0_off4 k) S1x1x128x256.size (k0_off4_inb k)).emb x))
    (hG' : ∀ k x, k0_pay3 (F := Ideal) x
      = G ((Rect.unit (s := S1x32x144x256) (k0_off5 k) S1x1x16x256.size (k0_off5_inb k)).emb x)) :
    (outsAt0 m c t).2.2.1 = G := by
  funext y
  unfold outsAt0
  dsimp only
  unfold out0_A_7
  refine (congrFun (View.read_writes_eq_canon _ _ _ ?_) y).trans ?_
  · intro y
    apply cover0_A_7
  refine View.canon_apply_of_pieces G _ ?_ y (by apply cover0_A_7)
  intro p hp x
  unfold kernelRun0_A at hp
  dsimp only at hp
  obtain ⟨k, hk⟩ := pb1_8 _ _ _ _ _ _ _ _ _ _ _ _ _ _ _ _ _ _ _ _ _ _ _ _ _ _ _ _ (le_of_eq rfl) p hp
  rw [trip1_8] at hk
  rcases List.mem_cons.mp hk with rfl | hk
  · exact hG' k x
  · obtain rfl := List.mem_singleton.mp hk
    simp only [View.readAt_eq_ld, Memref.IsWhole.read_unread] at x ⊢
    exact hG k x

theorem out5 (G : S1x32x128x256.Idx → Elt Ideal .bf16)
    (hG : ∀ k x, k0_pay12 (rows2 (iblk m c 0 t) k) (wrow (iblk m c 3 t)) x
      = G ((Rect.unit (s := S1x32x128x256) (k0_off7 k) S1x1x128x256.size (k0_off7_inb k)).emb x)) :
    (outsAt0 m c t).1 = G := by
  funext y
  unfold outsAt0
  dsimp only
  unfold out0_A_5
  refine (congrFun (View.read_writes_eq_canon _ _ _ ?_) y).trans ?_
  · intro y
    apply cover0_A_5
  refine View.canon_apply_of_pieces G _ ?_ y (by apply cover0_A_5)
  intro p hp x
  unfold kernelRun0_A at hp
  dsimp only at hp
  obtain ⟨k, hk⟩ := pb2_6 _ _ _ _ _ _ _ _ _ _ _ _ _ _ _ _ _ _ _ _ _ _ _ _ _ _ _ _ (le_of_eq rfl) p hp
  rw [trip2_6] at hk
  obtain rfl := List.mem_singleton.mp hk
  simp only [View.readAt_eq_ld, Memref.IsWhole.read_unread] at x ⊢
  exact hG k x

/-- The penalties are the second loop's, from the means the first loop leaves. -/
theorem out8 (M : S32x128.Idx → Elt Ideal .f32)
    (hM : ∀ k x, k0_pay9 (rows1 (iblk m c 1 t) k) (wrow (iblk m c 4 t)) x
      = M ((Rect.unit (s := S32x128) (k0_off3 k) S1x128.size (k0_off3_inb k)).emb x))
    (G : S1x32x32x256.Idx → Elt Ideal .f32)
    (hG : ∀ k x, penOf M (rows2 (iblk m c 0 t) k) (wrow (iblk m c 3 t)) k x
      = G ((Rect.unit (s := S1x32x32x256) (k0_off8 k) S1x1x32x256.size (k0_off8_inb k)).emb x)) :
    (outsAt0 m c t).2.2.2 = G := by
  funext y
  unfold outsAt0
  dsimp only
  unfold out0_A_8
  refine (congrFun (View.read_writes_eq_canon _ _ _ ?_) y).trans ?_
  · intro y
    apply cover0_A_8
  refine View.canon_apply_of_pieces G _ ?_ y (by apply cover0_A_8)
  intro p hp x
  unfold kernelRun0_A at hp
  dsimp only at hp
  obtain ⟨k, hk⟩ := pb2_9 _ _ _ _ _ _ _ _ _ _ _ _ _ _ _ _ _ _ _ _ _ _ _ _ _ _ _ _ (le_of_eq rfl) p hp
  rw [trip2_9] at hk
  obtain rfl := List.mem_singleton.mp hk
  simp only [View.readAt_eq_ld, Memref.IsWhole.read_unread] at x ⊢
  refine Eq.trans ?_ (hG k x)
  refine congrArg (fun M => penOf M (rows2 (iblk m c 0 t) k) (wrow (iblk m c 3 t)) k x) ?_
  unfold kernelRun0_A.sl.v11
  rw [View.readCov_eq_canon']
  funext j
  have e : (Rect.unit (s := S32x128) ![0, 0] S32x128.size inb_S32x128_S32x128_0_0).toLoadRect.idx j = j := by
    funext a
    apply Fin.ext
    match a with
    | ⟨0, _⟩ => simp [LoadRect.idx]
    | ⟨1, _⟩ => simp [LoadRect.idx]
  refine (congrArg _ e).trans ?_
  refine View.canon_append_of_pieces M _ _ ?_ _ ?_
  · intro p hp x
    obtain ⟨k, hk⟩ := pb1_10 _ _ _ _ _ _ _ _ _ _ _ _ _ _ _ _ _ _ _ _ _ _ _ _ _ _ _ _ (le_of_eq rfl) p hp
    rw [trip1_10] at hk
    obtain rfl := List.mem_singleton.mp hk
    simp only [View.readAt_eq_ld, Memref.IsWhole.read_unread] at x ⊢
    exact hM k x
  · apply pb1_10_cover (hn := le_of_eq rfl) (hy := (j 0).isLt)

end Outs

end Cert.Proof.Qk

end
-- ==== Proof.QkPay.lean ====
/-
  What one trip of the routing kernel's loops computes, entry by entry: a normed key or query, a block's mean, the gate,
  and the penalties of a column of gates.
-/
module

public import proofs.«01_k».proof.Defs
public import proofs.«01_k».proof.Proof.Reals
public import proofs.«01_k».proof.Proof.Gen.KQkIdeal.Value
public import proofs.«01_k».proof.Proof.QkTop
public import proofs.«01_k».proof.Proof.QkLoops
public import Idealize.ShloMosaic.Lib.Pipeline.ValueKit

@[expose] public section

noncomputable section

open Idealize.ShloMosaic Idealize.ShloMosaic.TcCoe Idealize.SL.Sem

namespace Cert.Proof.Qk

open Cert.KQkIdeal Cert.KQkIdeal.Gen

/-- An element's RMS norm, given its row. -/
def nq (a : Fin 128 → EReal) (d : Fin 128) (w : EReal) : EReal :=
  a d * Ideal.rsqrt (Ideal.div (∑ k : Fin 128, a k * a k) (Ideal.ofBits .f32 0x43000000#32) + Ideal.ofBits .f32 0x358637BD#32) * w

theorem pay7_apply (v20 : Vec Ideal S256x128 .bf16) (v32 : Vec Ideal S1x128 .f32) (r : Fin 256) (d : Fin 128) :
    k0_pay7 v20 v32 (ix2 r d) = nq (fun k => v20 (ix2 r k)) d (v32 (ix2 0 d)) := by
  unfold k0_pay7 nq
  pointwise

theorem pay8_apply (v20 : Vec Ideal S256x128 .bf16) (v32 : Vec Ideal S1x128 .f32) (r : Fin 256) (d : Fin 128) :
    k0_pay8 v20 v32 (ix3 0 r d) = nq (fun k => v20 (ix2 r k)) d (v32 (ix2 0 d)) := by
  rw [← pay7_apply]
  unfold k0_pay8
  generalize k0_pay7 v20 v32 = z
  pointwise

theorem pay9_apply (v20 : Vec Ideal S256x128 .bf16) (v32 : Vec Ideal S1x128 .f32) (d : Fin 128) :
    k0_pay9 v20 v32 (ix2 0 d) = Ideal.div (∑ r : Fin 256, nq (fun k => v20 (ix2 r k)) d (v32 (ix2 0 d))) (Ideal.ofBits .f32 0x43800000#32) := by
  simp only [← pay7_apply]
  unfold k0_pay9
  generalize k0_pay7 v20 v32 = z
  pointwise

/-- An equality of two places, as the word of a float. -/
theorem eye_word : ∀ i j : Fin 128, BitVec.setWidth 32 (IntOp.cmpi .eq (BitVec.ofNat 32 i.val) (BitVec.ofNat 32 j.val)) = if i = j then 1#32 else 0#32 := by
  decide +kernel

theorem pay2_apply (i j : Fin 128) : k0_pay2 (F := Ideal) (ix2 i j) = if i = j then (1 : EReal) else 0 := by
  unfold k0_pay2
  pointwise
  rw [eye_word]
  show (((if i = j then 1#32 else 0#32 : BitVec 32).toInt : ℝ) : EReal) = _
  split <;> simp

theorem pay3_apply (y : S1x1x16x256.Idx) : k0_pay3 (F := Ideal) y = Ideal.ofBits .bf16 0x3F80#16 := by
  unfold k0_pay3
  pointwise

theorem pay10_apply (v50 : Vec Ideal S256x128 .bf16) (d : Fin 128) (r : Fin 256) :
    k0_pay10 (k0_pay2 (F := Ideal)) v50 (ix4 0 0 d r) = v50 (ix2 r d) := by
  have h : k0_pay10 (k0_pay2 (F := Ideal)) v50 (ix4 0 0 d r) = ∑ k : Fin 128, k0_pay2 (F := Ideal) (ix2 d k) * v50 (ix2 r k) := by
    unfold k0_pay10
    generalize k0_pay2 (F := Ideal) = z
    pointwise
  rw [h]
  simp only [pay2_apply]
  rw [Finset.sum_eq_single d]
  · simp
  · intro k _ hk
    rw [if_neg (Ne.symm hk), zero_mul]
  · intro h
    exact absurd (Finset.mem_univ d) h

theorem pay11_apply (v20 : Vec Ideal S256x128 .bf16) (v32 : Vec Ideal S1x128 .f32) (d : Fin 128) (r : Fin 256) :
    k0_pay11 v20 v32 (ix2 d r) = nq (fun k => v20 (ix2 r k)) d (v32 (ix2 0 d)) * Ideal.ofBits .f32 0x3DB504F3#32 := by
  unfold k0_pay11 nq
  pointwise

theorem pay12_apply (v20 : Vec Ideal S256x128 .bf16) (v32 : Vec Ideal S1x128 .f32) (d : Fin 128) (r : Fin 256) :
    k0_pay12 v20 v32 (ix4 0 0 d r) = k0_pay11 v20 v32 (ix2 d r) * Ideal.ofBits .f32 0x3FB8AA3B#32 := by
  unfold k0_pay12
  generalize k0_pay11 v20 v32 = z
  pointwise

theorem pay13_apply (v11 : Vec Ideal S32x128 .f32) (v20 : Vec Ideal S256x128 .bf16) (v32 : Vec Ideal S1x128 .f32) (n : Fin 32) (r : Fin 256) :
    k0_pay13 (k0_pay4 v11) (k0_pay5 v11) v20 v32 (ix2 n r)
      = ((∑ d : Fin 128, v11 (ix2 n d) * k0_pay11 v20 v32 (ix2 d r)) + ∑ d : Fin 128, (v11 (ix2 n d) - v11 (ix2 n d)) * k0_pay11 v20 v32 (ix2 d r))
        + ∑ d : Fin 128, v11 (ix2 n d) * (k0_pay11 v20 v32 (ix2 d r) - k0_pay11 v20 v32 (ix2 d r)) := by
  unfold k0_pay13 k0_pay5 k0_pay4
  generalize k0_pay11 v20 v32 = z
  pointwise

/-- A block's number as a word. -/
theorem blk_word : ∀ n : Fin 32, (BitVec.ofNat 32 n.val).toInt = (n.val : ℤ) := by decide +kernel

theorem pay14_apply (n : Fin 32) (r : Fin 256) : k0_pay14 (F := Ideal) (ix2 n r) = ((n.val : ℝ) : EReal) := by
  unfold k0_pay14
  pointwise
  show (((BitVec.ofNat 32 n.val).toInt : ℝ) : EReal) = _
  rw [blk_word]
  norm_cast

/-- The comparison of a block's number with the trip's. -/
theorem lt_word : ∀ (n : Fin 32) (k : Fin k0_t2_loop.trips),
    IntOp.cmpi .slt (BitVec.ofNat 32 n.val) (Scf.iv 0#32 1#32 k.val) = if n.val < k.val then 1#1 else 0#1 := by decide +kernel

theorem pay15_apply (k : Fin k0_t2_loop.trips) (n : Fin 32) (r : Fin 256) :
    k0_pay15 0#32 1#32 k (ix2 n r) = if n.val < k.val then 1#1 else 0#1 := by
  unfold k0_pay15
  pointwise
  exact lt_word n k

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_32 : Ideal.ofBits .f32 0x42000000#32 = ((32 : ℝ) : EReal) := by
  simp [Ideal.ofBits, Ideal.ieee, -EReal.coe_mul]; norm_num

theorem ofBool_iff (p : Prop) [Decidable p] : BitVec.ofBool (decide p) = 1#1 ↔ p := by
  by_cases h : p <;> simp [h]

/-- The words of one round. -/
theorem hit_word (z ids : Fin 32 → EReal) (hi : ∀ k, ids k = ((k.val : ℝ) : EReal)) (n : Fin 32) :
    BitVec.ofBool (decide (ids n = Finset.fold min (Ideal.ofBits .f32 0x7F800000#32) (fun x => Scalar.select
      (IntOp.andi (BitVec.ofBool (decide (z x = Finset.fold max (Ideal.ofBits .f32 0xFF800000#32) (fun x => z x) Finset.univ)))
        (BitVec.ofBool (decide (Ideal.ofBits .f32 0xFF800000#32 < Finset.fold max (Ideal.ofBits .f32 0xFF800000#32) (fun x => z x) Finset.univ))))
      (ids x) (Ideal.ofBits .f32 0x42000000#32)) Finset.univ)) = 1#1 ↔ Hit z n := by
  rw [bits_bot, bits_top, bits_32]
  have hc : (fun x => Scalar.select
      (IntOp.andi (BitVec.ofBool (decide (z x = Finset.fold max ⊥ (fun x => z x) Finset.univ)))
        (BitVec.ofBool (decide (⊥ < Finset.fold max ⊥ (fun x => z x) Finset.univ))))
      (ids x) ((32 : ℝ) : EReal)) = cand z := by
    funext x
    unfold cand top
    rw [← hi x]
    by_cases h1 : z x = Finset.fold max ⊥ (fun x => z x) Finset.univ <;>
      by_cases h2 : ⊥ < Finset.fold max ⊥ (fun x => z x) Finset.univ <;>
      simp [h1, h2, Scalar.select, IntOp.andi]
  rw [hc, hi n]
  unfold Hit
  exact ofBool_iff _

theorem pay16_apply (v54 : FVec Ideal S32x256 .f32) (v58 : IVec S32x256 1) (n : Fin 32) (r : Fin 256) :
    k0_pay16 v54 v58 (Scalar.ofBits .f32 0xFF800000#32) (ix2 n r) = if v58 (ix2 n r) = 1#1 then v54 (ix2 n r) else ⊥ := by
  unfold k0_pay16
  pointwise
  rw [bits_bot]
  rfl

theorem pay17_apply (v54 : FVec Ideal S32x256 .f32) (v58 : IVec S32x256 1) (cst : Ideal .f32) (n : Fin 32) (r : Fin 256) :
    k0_pay17 v54 (k0_pay14 (F := Ideal)) v58 cst (ix2 n r) = 1#1 ↔ Hit (fun j => k0_pay16 v54 v58 cst (ix2 j r)) n := by
  unfold k0_pay17
  generalize k0_pay16 v54 v58 cst = z
  pointwise
  exact hit_word (fun x => z (ix2 x r)) (fun x => k0_pay14 (F := Ideal) (ix2 x r)) (fun k => pay14_apply k r) n

open Classical in
theorem pay18_apply (v54 : FVec Ideal S32x256 .f32) (v58 : IVec S32x256 1) (cst : Ideal .f32) (n : Fin 32) (r : Fin 256) :
    k0_pay18 v54 (k0_pay14 (F := Ideal)) v58 cst (ix2 n r) = strike (fun j => k0_pay16 v54 v58 cst (ix2 j r)) n := by
  have h17 := pay17_apply v54 v58 cst n r
  unfold k0_pay18 strike
  generalize k0_pay16 v54 v58 cst = z at *
  generalize k0_pay17 v54 (k0_pay14 (F := Ideal)) v58 cst = b at *
  pointwise
  rw [bits_bot]
  unfold Scalar.select
  exact if_congr h17 rfl rfl

theorem pay19_apply (v54 : FVec Ideal S32x256 .f32) (v58 : IVec S32x256 1) (cst : Ideal .f32) (n : Fin 32) (r : Fin 256) :
    k0_pay19 v54 (k0_pay14 (F := Ideal)) v58 cst (ix2 n r) = 1#1 ↔ Hit (strike fun j => k0_pay16 v54 v58 cst (ix2 j r)) n := by
  have h18 : (strike fun j => k0_pay16 v54 v58 cst (ix2 j r)) = fun j => k0_pay18 v54 (k0_pay14 (F := Ideal)) v58 cst (ix2 j r) :=
    funext fun j => (pay18_apply v54 v58 cst j r).symm
  rw [h18]
  unfold k0_pay19
  generalize k0_pay18 v54 (k0_pay14 (F := Ideal)) v58 cst = z
  pointwise
  exact hit_word (fun x => z (ix2 x r)) (fun x => k0_pay14 (F := Ideal) (ix2 x r)) (fun k => pay14_apply k r) n

open Classical in
theorem pay21_apply (v54 : FVec Ideal S32x256 .f32) (v58 : IVec S32x256 1) (cst : Ideal .f32) (n : Fin 32) (r : Fin 256) :
    k0_pay21 v54 (k0_pay14 (F := Ideal)) v58 cst (ix2 n r) = strike (strike fun j => k0_pay16 v54 v58 cst (ix2 j r)) n := by
  have h19 := pay19_apply v54 v58 cst n r
  have h18 := pay18_apply v54 v58 cst n r
  generalize (strike fun j => k0_pay16 v54 v58 cst (ix2 j r)) = g at *
  unfold k0_pay21 strike
  rw [← h18]
  generalize k0_pay18 v54 (k0_pay14 (F := Ideal)) v58 cst = z at *
  generalize k0_pay19 v54 (k0_pay14 (F := Ideal)) v58 cst = b at *
  pointwise
  rw [bits_bot]
  unfold Scalar.select
  exact if_congr h19 rfl rfl

open Classical in
theorem pay20_apply (v54 : FVec Ideal S32x256 .f32) (v58 : IVec S32x256 1) (cst : Ideal .f32) (n : Fin 32) (r : Fin 256) :
    k0_pay20 v54 (k0_pay14 (F := Ideal)) v58 cst (ix2 n r)
      = if Hit (strike fun j => k0_pay16 v54 v58 cst (ix2 j r)) n then 0 else if Hit (fun j => k0_pay16 v54 v58 cst (ix2 j r)) n then 0 else ⊥ := by
  have h17 := pay17_apply v54 v58 cst n r
  have h19 := pay19_apply v54 v58 cst n r
  unfold k0_pay20
  generalize k0_pay17 v54 (k0_pay14 (F := Ideal)) v58 cst = b at *
  generalize k0_pay19 v54 (k0_pay14 (F := Ideal)) v58 cst = b' at *
  pointwise
  rw [bits_bot]
  unfold Scalar.select
  exact if_congr h19 rfl (if_congr h17 rfl rfl)

open Classical in
theorem pay6_apply (v54 : FVec Ideal S32x256 .f32) (v58 : IVec S32x256 1) (cst : Ideal .f32) (v95 : FVec Ideal S32x256 .f32) (n : Fin 32) (r : Fin 256) :
    k0_pay6 (k0_pay14 (F := Ideal)) v95 (k0_pay23 v54 (k0_pay14 (F := Ideal)) v58 cst) (k0_pay24 v54 (k0_pay14 (F := Ideal)) v58 cst) (ix4 0 0 n r)
      = if Hit (strike (strike fun j => k0_pay16 v54 v58 cst (ix2 j r))) n then 0 else v95 (ix2 n r) := by
  have h21 : (strike (strike fun j => k0_pay16 v54 v58 cst (ix2 j r))) = fun j => k0_pay21 v54 (k0_pay14 (F := Ideal)) v58 cst (ix2 j r) :=
    funext fun j => (pay21_apply v54 v58 cst j r).symm
  rw [h21]
  unfold k0_pay6 k0_pay23 k0_pay24 k0_pay22
  generalize k0_pay21 v54 (k0_pay14 (F := Ideal)) v58 cst = z
  pointwise
  refine if_congr ?_ rfl rfl
  exact (ofBool_iff _).symm.trans <| hit_word (fun x => z (ix2 x r)) (fun x => k0_pay14 (F := Ideal) (ix2 x r)) (fun k => pay14_apply k r) n

/-- The masked gates of a column, given the trip. -/
def masked (k : ℕ) (v : Fin 32 → EReal) (n : Fin 32) : EReal := if n.val < k then v n else ⊥

open Classical in
/-- The penalties of a column, given its gates. -/
def pen3 (g : Fin 32 → EReal) (n : Fin 32) : EReal :=
  if Hit (strike (strike g)) n then 0 else if Hit (strike g) n then 0 else if Hit g n then 0 else ⊥

theorem penOf_apply (v11 : Vec Ideal S32x128 .f32) (v20 : Vec Ideal S256x128 .bf16) (v32 : Vec Ideal S1x128 .f32) (k : Fin k0_t2_loop.trips)
    (n : Fin 32) (r : Fin 256) :
    penOf v11 v20 v32 k (ix4 0 0 n r) = pen3 (masked k.val fun j => k0_pay13 (k0_pay4 v11) (k0_pay5 v11) v20 v32 (ix2 j r)) n := by
  unfold penOf
  generalize k0_pay13 (k0_pay4 v11) (k0_pay5 v11) v20 v32 = v54
  have hm : (fun j => k0_pay16 v54 (k0_pay15 0#32 1#32 k) (Scalar.ofBits .f32 0xFF800000#32) (ix2 j r)) = masked k.val fun j => v54 (ix2 j r) := by
    funext j
    rw [pay16_apply, pay15_apply]
    unfold masked
    by_cases h : j.val < k.val <;> simp [h]
  rw [pay6_apply, pay20_apply, hm]
  rfl

end Cert.Proof.Qk

end
-- ==== Proof.QkKernel.lean ====
/-
  The arrays the routing kernel leaves, as functions of its arguments: which columns and rows a grid point reads, what it
  writes at every index, and that the gate is a number over finite weights, so that what the kernel's split of the gate's
  factors adds to it is zero.
-/
module

public import proofs.«01_k».proof.Defs
public import proofs.«01_k».proof.Proof.Reals
public import proofs.«01_k».proof.Proof.Gen.KQkIdeal.Value
public import proofs.«01_k».proof.Proof.QkPay
public import Idealize.ShloMosaic.Lib.Pipeline.ValueKit

@[expose] public section

noncomputable section

open Idealize.ShloMosaic Idealize.ShloMosaic.TcCoe Idealize.SL.Sem

namespace Cert.Proof.Qk

open Cert.KQkIdeal Cert.KQkIdeal.Gen

variable (m : (ℓ : Loc nD τ sig) → Buf (Elt Ideal) ℓ) (ρ : Dev nD → PrngReg)

/-! ## The results, index by index -/

/-- A head's column of the queries, the keys and the values. -/
def cq (h : Fin 16) (d : Fin 128) : Fin 20480 := ⟨10240 + (h.val * 128 + d.val), by omega⟩
def ck (h : Fin 16) (d : Fin 128) : Fin 20480 := ⟨12288 + (h.val * 128 + d.val), by omega⟩
def cv (h : Fin 16) (d : Fin 128) : Fin 20480 := ⟨14336 + (h.val * 128 + d.val), by omega⟩

/-- Token `r` of block `n`. -/
def tok (n : Fin 32) (r : Fin 256) : Fin 8192 := ⟨n.val * 256 + r.val, by omega⟩

section Defs

variable (p : S8192x20480.Idx → EReal) (qw kw : S128.Idx → EReal)

/-- The normed, scaled queries. -/
def qn (h : Fin 16) (s : Fin 8192) (d : Fin 128) : EReal :=
  nq (fun k => p (ix2 s (cq h k))) d (qw (ix1 d)) * Ideal.ofBits .f32 0x3DB504F3#32

/-- The normed keys. -/
def kn (h : Fin 16) (s : Fin 8192) (d : Fin 128) : EReal := nq (fun k => p (ix2 s (ck h k))) d (kw (ix1 d))

/-- The mean of a block's keys. -/
def kbar (h : Fin 16) (n : Fin 32) (d : Fin 128) : EReal :=
  Ideal.div (∑ r : Fin 256, kn p kw h (tok n r) d) (Ideal.ofBits .f32 0x43800000#32)

/-- The gate of a block for a token. -/
def gate (h : Fin 16) (s : Fin 8192) (n : Fin 32) : EReal := ∑ d : Fin 128, kbar p kw h n d * qn p qw h s d

def G5 (i : S16x32x128x256.Idx) : EReal := qn p qw (i 0) (tok (i 1) (i 3)) (i 2) * Ideal.ofBits .f32 0x3FB8AA3B#32
def G6 (i : S16x8192x128.Idx) : EReal := kn p kw (i 0) (i 1) (i 2)
def G7 (i : S16x32x144x256.Idx) : EReal :=
  if e : (i 2).val < 128 then p (ix2 (tok (i 1) (i 3)) (cv (i 0) ⟨(i 2).val, e⟩)) else Ideal.ofBits .bf16 0x3F80#16
def G8 (i : S16x32x32x256.Idx) : EReal := pen3 (masked (i 1).val (gate p qw kw (i 0) (tok (i 1) (i 3)))) (i 2)

end Defs

/-! ## The blocks a point reads -/

/-- Where the windows stand at a point. -/
theorem idx : ∀ t : Fin cfg0.N, win0_0.index t = ![0, 80 + t.val] ∧ win0_1.index t = ![0, 96 + t.val]
    ∧ win0_2.index t = ![0, 112 + t.val] ∧ win0_3.index t = ![0, 0] ∧ win0_4.index t = ![0, 0]
    ∧ win0_5.index t = ![t.val, 0, 0, 0] ∧ win0_6.index t = ![t.val, 0, 0] ∧ win0_7.index t = ![t.val, 0, 0, 0] ∧ win0_8.index t = ![t.val, 0, 0, 0] :=
  (by decide +kernel : ∀ t : Fin grid0.N, win0_0.index t = ![0, 80 + t.val] ∧ win0_1.index t = ![0, 96 + t.val]
    ∧ win0_2.index t = ![0, 112 + t.val] ∧ win0_3.index t = ![0, 0] ∧ win0_4.index t = ![0, 0]
    ∧ win0_5.index t = ![t.val, 0, 0, 0] ∧ win0_6.index t = ![t.val, 0, 0] ∧ win0_7.index t = ![t.val, 0, 0, 0] ∧ win0_8.index t = ![t.val, 0, 0, 0])

/-- A point's head. -/
def hd (t : Fin cfg0.N) : Fin 16 := ⟨t.val, lt_of_lt_of_eq t.isLt N_0⟩

theorem qblk (c : Dev nD) (t : Fin cfg0.N) (s : Fin 8192) (d : Fin 128) :
    (iblk m c 0 t : Vec Ideal S8192x128 .bf16) (ix2 s d) = m ((c : Thread nD τ).loc main_arg0) (ix2 s (cq (hd t) d)) := by
  obtain ⟨e0, e1, e2, e3, e4, e5, e6, e7, e8⟩ := idx t
  refine (congrFun (V_main_arg0 m c) _).trans (congrArg _ (funext fun a => Fin.ext ?_))
  match a with
  | ⟨0, _⟩ =>
    show win0_0.index t (0 : Fin 2) * 8192 + 1 * s.val = s.val
    rw [e0]; simp
  | ⟨1, _⟩ =>
    show win0_0.index t (1 : Fin 2) * 128 + 1 * d.val = 10240 + (t.val * 128 + d.val)
    rw [e0]; simp; omega

theorem kblk (c : Dev nD) (t : Fin cfg0.N) (s : Fin 8192) (d : Fin 128) :
    (iblk m c 1 t : Vec Ideal S8192x128 .bf16) (ix2 s d) = m ((c : Thread nD τ).loc main_arg0) (ix2 s (ck (hd t) d)) := by
  obtain ⟨e0, e1, e2, e3, e4, e5, e6, e7, e8⟩ := idx t
  refine (congrFun (V_main_arg0 m c) _).trans (congrArg _ (funext fun a => Fin.ext ?_))
  match a with
  | ⟨0, _⟩ =>
    show win0_1.index t (0 : Fin 2) * 8192 + 1 * s.val = s.val
    rw [e1]; simp
  | ⟨1, _⟩ =>
    show win0_1.index t (1 : Fin 2) * 128 + 1 * d.val = 12288 + (t.val * 128 + d.val)
    rw [e1]; simp; omega

theorem vblk (c : Dev nD) (t : Fin cfg0.N) (s : Fin 8192) (d : Fin 128) :
    (iblk m c 2 t : Vec Ideal S8192x128 .bf16) (ix2 s d) = m ((c : Thread nD τ).loc main_arg0) (ix2 s (cv (hd t) d)) := by
  obtain ⟨e0, e1, e2, e3, e4, e5, e6, e7, e8⟩ := idx t
  refine (congrFun (V_main_arg0 m c) _).trans (congrArg _ (funext fun a => Fin.ext ?_))
  match a with
  | ⟨0, _⟩ =>
    show win0_2.index t (0 : Fin 2) * 8192 + 1 * s.val = s.val
    rw [e2]; simp
  | ⟨1, _⟩ =>
    show win0_2.index t (1 : Fin 2) * 128 + 1 * d.val = 14336 + (t.val * 128 + d.val)
    rw [e2]; simp; omega

theorem qwblk (c : Dev nD) (t : Fin cfg0.N) (d : Fin 128) :
    wrow (iblk m c 3 t) (ix2 0 d) = m ((c : Thread nD τ).loc main_arg1) (ix1 d) := by
  obtain ⟨e0, e1, e2, e3, e4, e5, e6, e7, e8⟩ := idx t
  have hv : wrow (iblk m c 3 t) (ix2 0 d) = V m c main_v0 (ix2 0 d) := by
    refine (congrArg (V m c main_v0) (funext fun a => Fin.ext ?_))
    match a with
    | ⟨0, _⟩ =>
      show win0_3.index t (0 : Fin 2) * 1 + 1 * (0 + 1 * 0) = 0
      rw [e3]; simp
    | ⟨1, _⟩ =>
      show win0_3.index t (1 : Fin 2) * 128 + 1 * (0 + 1 * d.val) = d.val
      rw [e3]; simp
  have hV : V m c main_v0 = broadcastInDim S1x128 ![1] bcast_S128_S1x128_1 (m ((c : Thread nD τ).loc main_arg1)) := by
    unfold_abbrev_sides
    after_results
  rw [hv, hV]
  pointwise

theorem kwblk (c : Dev nD) (t : Fin cfg0.N) (d : Fin 128) :
    wrow (iblk m c 4 t) (ix2 0 d) = m ((c : Thread nD τ).loc main_arg2) (ix1 d) := by
  obtain ⟨e0, e1, e2, e3, e4, e5, e6, e7, e8⟩ := idx t
  have hv : wrow (iblk m c 4 t) (ix2 0 d) = V m c main_v1 (ix2 0 d) := by
    refine (congrArg (V m c main_v1) (funext fun a => Fin.ext ?_))
    match a with
    | ⟨0, _⟩ =>
      show win0_4.index t (0 : Fin 2) * 1 + 1 * (0 + 1 * 0) = 0
      rw [e4]; simp
    | ⟨1, _⟩ =>
      show win0_4.index t (1 : Fin 2) * 128 + 1 * (0 + 1 * d.val) = d.val
      rw [e4]; simp
  have hV : V m c main_v1 = broadcastInDim S1x128 ![1] bcast_S128_S1x128_1 (m ((c : Thread nD τ).loc main_arg2)) := by
    unfold_abbrev_sides
    after_results
  rw [hv, hV]
  pointwise

/-- A trip's block of tokens, as a block number. -/
def b1 (k : Fin k0_t1_loop.trips) : Fin 32 := ⟨k.val, k.isLt⟩
def b2 (k : Fin k0_t2_loop.trips) : Fin 32 := ⟨k.val, k.isLt⟩

theorem rows1_apply (x : Vec Ideal S8192x128 .bf16) (k : Fin k0_t1_loop.trips) (r : Fin 256) (d : Fin 128) :
    rows1 x k (ix2 r d) = x (ix2 (tok (b1 k) r) d) := by
  refine congrArg x (funext fun a => Fin.ext ?_)
  match a with
  | ⟨0, _⟩ =>
    show k0_off1 k (0 : Fin 2) + 1 * r.val = k.val * 256 + r.val
    rw [off1_eq]; simp
  | ⟨1, _⟩ =>
    show k0_off1 k (1 : Fin 2) + 1 * d.val = d.val
    rw [off1_eq]; simp

theorem rows2_apply (x : Vec Ideal S8192x128 .bf16) (k : Fin k0_t2_loop.trips) (r : Fin 256) (d : Fin 128) :
    rows2 x k (ix2 r d) = x (ix2 (tok (b2 k) r) d) := by
  refine congrArg x (funext fun a => Fin.ext ?_)
  match a with
  | ⟨0, _⟩ =>
    show k0_off6 k (0 : Fin 2) + 1 * r.val = k.val * 256 + r.val
    rw [off6_eq]; simp
  | ⟨1, _⟩ =>
    show k0_off6 k (1 : Fin 2) + 1 * d.val = d.val
    rw [off6_eq]; simp

/-! ## The entries of the blocks -/

theorem kn_blk (c : Dev nD) (t : Fin cfg0.N) (k : Fin k0_t1_loop.trips) (r : Fin 256) (d : Fin 128) :
    nq (fun j => rows1 (iblk m c 1 t) k (ix2 r j)) d (wrow (iblk m c 4 t) (ix2 0 d))
      = kn (m ((c : Thread nD τ).loc main_arg0)) (m ((c : Thread nD τ).loc main_arg2)) (hd t) (tok (b1 k) r) d := by
  unfold kn
  refine congr (congr (congrArg nq (funext fun j => ?_)) rfl) (kwblk m c t d)
  exact (rows1_apply _ k r j).trans (kblk m c t _ _)

theorem qn_blk (c : Dev nD) (t : Fin cfg0.N) (k : Fin k0_t2_loop.trips) (r : Fin 256) (d : Fin 128) :
    k0_pay11 (rows2 (iblk m c 0 t) k) (wrow (iblk m c 3 t)) (ix2 d r)
      = qn (m ((c : Thread nD τ).loc main_arg0)) (m ((c : Thread nD τ).loc main_arg1)) (hd t) (tok (b2 k) r) d := by
  rw [pay11_apply]
  unfold qn
  refine congrArg (· * Ideal.ofBits .f32 0x3DB504F3#32) ?_
  refine congr (congr (congrArg nq (funext fun j => ?_)) rfl) (qwblk m c t d)
  exact (rows2_apply _ k r j).trans (qblk m c t _ _)

/-! ## Indices of a block -/

theorem eta2 {n : ℕ} (x : (⟨2, ![1, n]⟩ : Shape).Idx) : ∃ d : Fin n, x = ix2 0 d :=
  ⟨x 1, funext fun a => match a with | ⟨0, _⟩ => Subsingleton.elim (α := Fin 1) _ _ | ⟨1, _⟩ => rfl⟩
theorem eta3 {n k : ℕ} (x : (⟨3, ![1, n, k]⟩ : Shape).Idx) : ∃ (r : Fin n) (d : Fin k), x = ix3 0 r d :=
  ⟨x 1, x 2, funext fun a => match a with | ⟨0, _⟩ => Subsingleton.elim (α := Fin 1) _ _ | ⟨1, _⟩ => rfl | ⟨2, _⟩ => rfl⟩
theorem eta4 {n k : ℕ} (x : (⟨4, ![1, 1, n, k]⟩ : Shape).Idx) : ∃ (r : Fin n) (d : Fin k), x = ix4 0 0 r d :=
  ⟨x 2, x 3, funext fun a => match a with
    | ⟨0, _⟩ => Subsingleton.elim (α := Fin 1) _ _ | ⟨1, _⟩ => Subsingleton.elim (α := Fin 1) _ _ | ⟨2, _⟩ => rfl | ⟨3, _⟩ => rfl⟩

/-! ## The results after the run -/

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  obtain ⟨e0, e1, e2, e3, e4, e5, e6, e7, e8⟩ := idx t
  blk_simp
  rw [after0_6]
  rw [out6 m c t (fun i => kn (m ((c : Thread nD τ).loc main_arg0)) (m ((c : Thread nD τ).loc main_arg2)) (hd t) (i 1) (i 2))]
  · have hy : (((cfg0.win 6).blk t).view.emb y) = ix3 (hd t) (y 1) (y 2) := by
      funext a
      apply Fin.ext
      match a with
      | ⟨0, _⟩ =>
        have h0 : (y 0).val < 1 := (y 0).isLt
        blk_simp [e6]
        rfl
      | ⟨1, _⟩ => blk_simp [e6]; rfl
      | ⟨2, _⟩ => blk_simp [e6]; rfl
    refine Eq.trans ?_ (congrArg (G6 (m ((c : Thread nD τ).loc main_arg0)) (m ((c : Thread nD τ).loc main_arg2))) hy.symm)
    rfl
  · intro k x
    obtain ⟨r, d, rfl⟩ := eta3 (n := 256) (k := 128) x
    have hx : (Rect.unit (s := S1x8192x128) (k0_off2 k) S1x256x128.size (k0_off2_inb k)).emb (ix3 0 r d) = ix3 0 (tok (b1 k) r) d := by
      funext a
      apply Fin.ext
      match a with
      | ⟨0, _⟩ => show k0_off2 k (0 : Fin 3) + 1 * 0 = 0; rw [off2_eq]; simp
      | ⟨1, _⟩ => show k0_off2 k (1 : Fin 3) + 1 * r.val = k.val * 256 + r.val; rw [off2_eq]; simp
      | ⟨2, _⟩ => show k0_off2 k (2 : Fin 3) + 1 * d.val = d.val; rw [off2_eq]; simp
    refine Eq.trans ?_ (congrArg (fun i : S1x8192x128.Idx => kn (m ((c : Thread nD τ).loc main_arg0)) (m ((c : Thread nD τ).loc main_arg2)) (hd t) (i 1) (i 2)) hx.symm)
    exact (pay8_apply _ _ r d).trans (kn_blk m c t k r d)

theorem final5 (c : Dev nD) : (dats m 0 c).arrAt 5 cfg0.N
    = G5 (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7, e8⟩ := idx t
  blk_simp
  rw [after0_5]
  rw [out5 m c t (fun i => qn (m ((c : Thread nD τ).loc main_arg0)) (m ((c : Thread nD τ).loc main_arg1)) (hd t) (tok (i 1) (i 3)) (i 2)
    * Ideal.ofBits .f32 0x3FB8AA3B#32)]
  · have hy : (((cfg0.win 5).blk t).view.emb y) = ix4 (hd t) (y 1) (y 2) (y 3) := by
      funext a
      apply Fin.ext
      match a with
      | ⟨0, _⟩ =>
        have h0 : (y 0).val < 1 := (y 0).isLt
        blk_simp [e5]
        rfl
      | ⟨1, _⟩ => blk_simp [e5]; rfl
      | ⟨2, _⟩ => blk_simp [e5]; rfl
      | ⟨3, _⟩ => blk_simp [e5]; rfl
    refine Eq.trans ?_ (congrArg (G5 (m ((c : Thread nD τ).loc main_arg0)) (m ((c : Thread nD τ).loc main_arg1))) hy.symm)
    rfl
  · intro k x
    obtain ⟨d, r, rfl⟩ := eta4 (n := 128) (k := 256) x
    have hx : (Rect.unit (s := S1x32x128x256) (k0_off7 k) S1x1x128x256.size (k0_off7_inb k)).emb (ix4 0 0 d r) = ix4 0 (b2 k) d r := by
      funext a
      apply Fin.ext
      match a with
      | ⟨0, _⟩ => show k0_off7 k (0 : Fin 4) + 1 * 0 = 0; rw [off7_eq]; simp
      | ⟨1, _⟩ => show k0_off7 k (1 : Fin 4) + 1 * 0 = k.val; rw [off7_eq]; simp
      | ⟨2, _⟩ => show k0_off7 k (2 : Fin 4) + 1 * d.val = d.val; rw [off7_eq]; simp
      | ⟨3, _⟩ => show k0_off7 k (3 : Fin 4) + 1 * r.val = r.val; rw [off7_eq]; simp
    refine Eq.trans ?_ (congrArg (fun i : S1x32x128x256.Idx => qn (m ((c : Thread nD τ).loc main_arg0)) (m ((c : Thread nD τ).loc main_arg1)) (hd t) (tok (i 1) (i 3)) (i 2)
      * Ideal.ofBits .f32 0x3FB8AA3B#32) hx.symm)
    exact (pay12_apply _ _ d r).trans (congrArg (· * Ideal.ofBits .f32 0x3FB8AA3B#32) (qn_blk m c t k r d))

theorem final7 (c : Dev nD) : (dats m 0 c).arrAt 7 cfg0.N = G7 (m ((c : Thread nD τ).loc main_arg0)) := by
  refine (dats m 0 c).arrAt_eq_of_covers 7 _ (by decide +kernel) fun t hf y => ?_
  obtain ⟨e0, e1, e2, e3, e4, e5, e6, e7, e8⟩ := idx t
  blk_simp
  rw [after0_7]
  rw [out7 m c t (fun i => if e : (i 2).val < 128 then
    m ((c : Thread nD τ).loc main_arg0) (ix2 (tok (i 1) (i 3)) (cv (hd t) ⟨(i 2).val, e⟩)) else Ideal.ofBits .bf16 0x3F80#16)]
  · have hy : (((cfg0.win 7).blk t).view.emb y) = ix4 (hd t) (y 1) (y 2) (y 3) := by
      funext a
      apply Fin.ext
      match a with
      | ⟨0, _⟩ =>
        have h0 : (y 0).val < 1 := (y 0).isLt
        blk_simp [e7]
        rfl
      | ⟨1, _⟩ => blk_simp [e7]; rfl
      | ⟨2, _⟩ => blk_simp [e7]; rfl
      | ⟨3, _⟩ => blk_simp [e7]; rfl
    refine Eq.trans ?_ (congrArg (G7 (m ((c : Thread nD τ).loc main_arg0))) hy.symm)
    rfl
  · intro k x
    obtain ⟨d, r, rfl⟩ := eta4 (n := 128) (k := 256) x
    have hx : (Rect.unit (s := S1x32x144x256) (k0_off4 k) S1x1x128x256.size (k0_off4_inb k)).emb (ix4 0 0 d r)
        = ix4 0 (b1 k) (⟨d.val, by omega⟩ : Fin 144) r := by
      funext a
      apply Fin.ext
      match a with
      | ⟨0, _⟩ => show k0_off4 k (0 : Fin 4) + 1 * 0 = 0; rw [off4_eq]; simp
      | ⟨1, _⟩ => show k0_off4 k (1 : Fin 4) + 1 * 0 = k.val; rw [off4_eq]; simp
      | ⟨2, _⟩ => show k0_off4 k (2 : Fin 4) + 1 * d.val = d.val; rw [off4_eq]; simp
      | ⟨3, _⟩ => show k0_off4 k (3 : Fin 4) + 1 * r.val = r.val; rw [off4_eq]; simp
    rw [hx]
    refine ((pay10_apply _ d r).trans ((rows1_apply _ k r d).trans (vblk m c t _ _))).trans ?_
    dsimp only
    refine Eq.symm (Eq.trans (dif_pos (show (d.val : ℕ) < 128 from d.isLt)) ?_)
    rfl
  · intro k x
    obtain ⟨d, r, rfl⟩ := eta4 (n := 16) (k := 256) x
    have hx : (Rect.unit (s := S1x32x144x256) (k0_off5 k) S1x1x16x256.size (k0_off5_inb k)).emb (ix4 0 0 d r)
        = ix4 0 (b1 k) (⟨128 + d.val, by omega⟩ : Fin 144) r := by
      funext a
      apply Fin.ext
      match a with
      | ⟨0, _⟩ => show k0_off5 k (0 : Fin 4) + 1 * 0 = 0; rw [off5_eq]; simp
      | ⟨1, _⟩ => show k0_off5 k (1 : Fin 4) + 1 * 0 = k.val; rw [off5_eq]; simp
      | ⟨2, _⟩ => show k0_off5 k (2 : Fin 4) + 1 * d.val = 128 + d.val; rw [off5_eq]; simp
      | ⟨3, _⟩ => show k0_off5 k (3 : Fin 4) + 1 * r.val = r.val; rw [off5_eq]; simp
    rw [hx]
    refine (pay3_apply _).trans ?_
    dsimp only
    exact Eq.symm (dif_neg (show ¬ (128 + d.val < 128) by omega))

/-! ## The gate is a number -/

theorem nq_real (a : Fin 128 → EReal) (d : Fin 128) {w : EReal} (hw : IsReal w) : IsReal (nq a d w) := by
  unfold nq
  have h1 : Ideal.ofBits .f32 0x43000000#32 = ((128 : ℝ) : EReal) := by
    simp [Ideal.ofBits, Ideal.ieee, -EReal.coe_mul]
    norm_num
  have h2 : ∃ e : ℝ, 0 < e ∧ Ideal.ofBits .f32 0x358637BD#32 = (e : EReal) := by
    refine ⟨_, ?_, by simp [Ideal.ofBits, Ideal.ieee, -EReal.coe_mul]; rfl⟩
    positivity
  obtain ⟨e, he, h2⟩ := h2
  rw [h1, h2]
  exact (IsReal.norm a d 128 e (by norm_num) he).mul hw

theorem scale_real : IsReal (Ideal.ofBits .f32 0x3DB504F3#32) := by
  exact ⟨_, by simp [Ideal.ofBits, Ideal.ieee, -EReal.coe_mul]; rfl⟩

theorem qn_real (p : S8192x20480.Idx → EReal) (qw : S128.Idx → EReal) (hq : ∀ d, IsReal (qw (ix1 d)))
    (h : Fin 16) (s : Fin 8192) (d : Fin 128) : IsReal (qn p qw h s d) :=
  (nq_real _ d (hq d)).mul scale_real

theorem kbar_real (p : S8192x20480.Idx → EReal) (kw : S128.Idx → EReal) (hk : ∀ d, IsReal (kw (ix1 d)))
    (h : Fin 16) (n : Fin 32) (d : Fin 128) : IsReal (kbar p kw h n d) := by
  unfold kbar
  have h1 : Ideal.ofBits .f32 0x43800000#32 = ((256 : ℝ) : EReal) := by
    simp [Ideal.ofBits, Ideal.ieee, -EReal.coe_mul]
    norm_num
  rw [h1, Ideal.div_coe (by norm_num)]
  exact (IsReal.sum _ _ fun r _ => nq_real _ d (hk d)).mul ⟨_, rfl⟩

theorem gate_real (p : S8192x20480.Idx → EReal) (qw kw : S128.Idx → EReal) (hq : ∀ d, IsReal (qw (ix1 d))) (hk : ∀ d, IsReal (kw (ix1 d)))
    (h : Fin 16) (s : Fin 8192) (n : Fin 32) : IsReal (gate p qw kw h s n) :=
  IsReal.sum _ _ fun d _ => (kbar_real p kw hk h n d).mul (qn_real p qw hq h s d)

theorem final8 (c : Dev nD) (hq : ∀ d : Fin 128, IsReal (m ((c : Thread nD τ).loc main_arg1) (ix1 d)))
    (hk : ∀ d : Fin 128, IsReal (m ((c : Thread nD τ).loc main_arg2) (ix1 d))) : (dats m 0 c).arrAt 8 cfg0.N
    = G8 (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨e0, e1, e2, e3, e4, e5, e6, e7, e8⟩ := idx t
  blk_simp
  rw [after0_8]
  rw [out8 m c t (fun i => kbar (m ((c : Thread nD τ).loc main_arg0)) (m ((c : Thread nD τ).loc main_arg2)) (hd t) (i 0) (i 1)) ?_
    (fun i => pen3 (masked (i 1).val (gate (m ((c : Thread nD τ).loc main_arg0)) (m ((c : Thread nD τ).loc main_arg1)) (m ((c : Thread nD τ).loc main_arg2))
      (hd t) (tok (i 1) (i 3)))) (i 2))]
  · have hy : (((cfg0.win 8).blk t).view.emb y) = ix4 (hd t) (y 1) (y 2) (y 3) := by
      funext a
      apply Fin.ext
      match a with
      | ⟨0, _⟩ =>
        have h0 : (y 0).val < 1 := (y 0).isLt
        blk_simp [e8]
        rfl
      | ⟨1, _⟩ => blk_simp [e8]; rfl
      | ⟨2, _⟩ => blk_simp [e8]; rfl
      | ⟨3, _⟩ => blk_simp [e8]; rfl
    refine Eq.trans ?_ (congrArg (G8 (m ((c : Thread nD τ).loc main_arg0)) (m ((c : Thread nD τ).loc main_arg1)) (m ((c : Thread nD τ).loc main_arg2))) hy.symm)
    rfl
  · intro k x
    obtain ⟨n, r, rfl⟩ := eta4 (n := 32) (k := 256) x
    have hx : (Rect.unit (s := S1x32x32x256) (k0_off8 k) S1x1x32x256.size (k0_off8_inb k)).emb (ix4 0 0 n r) = ix4 0 (b2 k) n r := by
      funext a
      apply Fin.ext
      match a with
      | ⟨0, _⟩ => show k0_off8 k (0 : Fin 4) + 1 * 0 = 0; rw [off8_eq]; simp
      | ⟨1, _⟩ => show k0_off8 k (1 : Fin 4) + 1 * 0 = k.val; rw [off8_eq]; simp
      | ⟨2, _⟩ => show k0_off8 k (2 : Fin 4) + 1 * n.val = n.val; rw [off8_eq]; simp
      | ⟨3, _⟩ => show k0_off8 k (3 : Fin 4) + 1 * r.val = r.val; rw [off8_eq]; simp
    rw [hx, penOf_apply]
    refine congrArg (fun g => pen3 (masked k.val g) n) (funext fun j => ?_)
    rw [pay13_apply]
    simp only [qn_blk]
    have z1 : ∀ d : Fin 128, (kbar (m ((c : Thread nD τ).loc main_arg0)) (m ((c : Thread nD τ).loc main_arg2)) (hd t) j d
        - kbar (m ((c : Thread nD τ).loc main_arg0)) (m ((c : Thread nD τ).loc main_arg2)) (hd t) j d)
        * qn (m ((c : Thread nD τ).loc main_arg0)) (m ((c : Thread nD τ).loc main_arg1)) (hd t) (tok (b2 k) r) d = 0 := by
      intro d
      rw [(kbar_real _ _ hk _ _ _).sub_self, zero_mul]
    have z2 : ∀ d : Fin 128, kbar (m ((c : Thread nD τ).loc main_arg0)) (m ((c : Thread nD τ).loc main_arg2)) (hd t) j d
        * (qn (m ((c : Thread nD τ).loc main_arg0)) (m ((c : Thread nD τ).loc main_arg1)) (hd t) (tok (b2 k) r) d
        - qn (m ((c : Thread nD τ).loc main_arg0)) (m ((c : Thread nD τ).loc main_arg1)) (hd t) (tok (b2 k) r) d) = 0 := by
      intro d
      rw [(qn_real _ _ hq _ _ _).sub_self, mul_zero]
    refine (congr (congrArg _ (congr (congrArg _ rfl) (Finset.sum_eq_zero fun d _ => z1 d))) (Finset.sum_eq_zero fun d _ => z2 d)).trans ?_
    rw [add_zero, add_zero]
    rfl
  · intro k x
    obtain ⟨d, rfl⟩ := eta2 (n := 128) x
    have hx : (Rect.unit (s := S32x128) (k0_off3 k) S1x128.size (k0_off3_inb k)).emb (ix2 0 d) = ix2 (b1 k) d := by
      funext a
      apply Fin.ext
      match a with
      | ⟨0, _⟩ => show k0_off3 k (0 : Fin 2) + 1 * 0 = k.val; rw [off3_eq]; simp
      | ⟨1, _⟩ => show k0_off3 k (1 : Fin 2) + 1 * d.val = d.val; rw [off3_eq]; simp
    rw [hx, pay9_apply]
    exact congrArg (Ideal.div · (Ideal.ofBits .f32 0x43800000#32)) (Finset.sum_congr rfl fun r _ => kn_blk m c t k r d)

end Cert.Proof.Qk

end
-- ==== Proof.QkRef.lean ====
/-
  The routing's reference, part by part: the normed queries and keys, the gate, the blocks before a token's own, the stable
  choice of three, and the four results as functions of the arguments.
-/
module

public import proofs.«01_k».proof.Defs
public import proofs.«01_k».proof.Proof.Reals
public import proofs.«01_k».proof.Proof.Gen.RQkIdeal.Run
public import proofs.«01_k».proof.Proof.QkKernel
public import Idealize.ShloMosaic.Lib.Pipeline.ValueKit
public import Idealize.ShloMosaic.Lib.SortFacts

@[expose] public section

noncomputable section

open Idealize.ShloMosaic Idealize.ShloMosaic.TcCoe Idealize.SL.Sem

namespace Cert.Proof.Qk.Ref

open Cert.RQkIdeal Cert.RQkIdeal.Gen Idealize.ShloMosaic.StableHlo

/-! ## The reference's result, in parts -/

section Parts

variable (p : FVec Ideal S8192x20480 .bf16) (qw kw : FVec Ideal S128 .f32)

/-- The queries. -/
def Qr : FVec Ideal S8192x16x128 .f32 :=
  mulf
    (mulf
    (mulf (shapeCast _ (extf .f32 (extractStridedSlice S8192x2048 ![0, 10240] p slices_S8192x20480_S8192x2048_0_10240) bitsLt_bf16_f32) shapeCasts_S8192x2048_S8192x16x128)
    (broadcastInDim S8192x16x128 ![0, 1, 2] bcast_S8192x16x1_S8192x16x128_0_1_2
    (Host.rsqrt (addf
    (Host.divf
    (broadcastInDim S8192x16x1 ![0, 1] bcast_S8192x16_S8192x16x1_0_1
    (Host.reduceAdd
    (mulf (shapeCast _ (extf .f32 (extractStridedSlice S8192x2048 ![0, 10240] p slices_S8192x20480_S8192x2048_0_10240) bitsLt_bf16_f32) shapeCasts_S8192x2048_S8192x16x128) (shapeCast _ (extf .f32 (extractStridedSlice S8192x2048 ![0, 10240] p slices_S8192x20480_S8192x2048_0_10240) bitsLt_bf16_f32) shapeCasts_S8192x2048_S8192x16x128)) (constant S_ .f32 0x00000000#32) reducesTo_S8192x16x128_S8192x16_d2 h_S_))
    (broadcastInDim S8192x16x1 ![] bcast_S_S8192x16x1 (constant S_ .f32 0x43000000#32)))
    (broadcastInDim S8192x16x1 ![] bcast_S_S8192x16x1 (constant S_ .f32 0x358637BD#32))))))
    (broadcastInDim S8192x16x128 ![0, 1, 2] bcast_S1x1x128_S8192x16x128_0_1_2
    (broadcastInDim S1x1x128 ![2] bcast_S128_S1x1x128_2 qw)))
    (broadcastInDim S8192x16x128 ![] bcast_S_S8192x16x128 (constant S_ .f32 0x3DB504F3#32))

/-- The keys. -/
def Kr : FVec Ideal S8192x16x128 .f32 :=
  mulf
    (mulf (shapeCast _ (extf .f32 (extractStridedSlice S8192x2048 ![0, 12288] p slices_S8192x20480_S8192x2048_0_12288) bitsLt_bf16_f32) shapeCasts_S8192x2048_S8192x16x128)
    (broadcastInDim S8192x16x128 ![0, 1, 2] bcast_S8192x16x1_S8192x16x128_0_1_2
    (Host.rsqrt (addf
    (Host.divf
    (broadcastInDim S8192x16x1 ![0, 1] bcast_S8192x16_S8192x16x1_0_1
    (Host.reduceAdd
    (mulf (shapeCast _ (extf .f32 (extractStridedSlice S8192x2048 ![0, 12288] p slices_S8192x20480_S8192x2048_0_12288) bitsLt_bf16_f32) shapeCasts_S8192x2048_S8192x16x128) (shapeCast _ (extf .f32 (extractStridedSlice S8192x2048 ![0, 12288] p slices_S8192x20480_S8192x2048_0_12288) bitsLt_bf16_f32) shapeCasts_S8192x2048_S8192x16x128)) (constant S_ .f32 0x00000000#32) reducesTo_S8192x16x128_S8192x16_d2 h_S_))
    (broadcastInDim S8192x16x1 ![] bcast_S_S8192x16x1 (constant S_ .f32 0x43000000#32)))
    (broadcastInDim S8192x16x1 ![] bcast_S_S8192x16x1 (constant S_ .f32 0x358637BD#32))))))
    (broadcastInDim S8192x16x128 ![0, 1, 2] bcast_S1x1x128_S8192x16x128_0_1_2
    (broadcastInDim S1x1x128 ![2] bcast_S128_S1x1x128_2 kw))

/-- The gate. -/
def Gr : FVec Ideal S16x8192x32 .f32 :=
  Host.dotGeneral dot_S16x8192x128_S16x32x128_S16x8192x32_2_2_1_1_0_0 none (transpose S16x8192x128 [1, 0, 2] (Qr p qw) transposes_S8192x16x128_S16x8192x128_1_0_2)
    (Host.divf
    (Host.reduceAdd (transpose S16x32x256x128 [2, 0, 1, 3] (shapeCast _ (Kr p kw) shapeCasts_S8192x16x128_S32x256x16x128) transposes_S32x256x16x128_S16x32x256x128_2_0_1_3) (constant S_ .f32 0x00000000#32) reducesTo_S16x32x256x128_S16x32x128_d2 h_S_)
    (broadcastInDim S16x32x128 ![] bcast_S_S16x32x128 (constant S_ .f32 0x43800000#32)))

/-- Whether a block lies before a token's. -/
def Mk : Vec Ideal S8192x32 .i1 :=
  cmpi .slt (iotaInDim S8192x32 32 1) (select (andi (cmpi .ne (signi (iotaInDim S8192x32 32 0))
    (broadcastInDim S8192x32 ![] bcast_S_S8192x32 (signi (id (constantI S_ 32 256#32))))) (cmpi .ne
    (Host.remsi (iotaInDim S8192x32 32 0)
    (broadcastInDim S8192x32 ![] bcast_S_S8192x32 (id (constantI S_ 32 256#32))))
    (broadcastInDim S8192x32 ![] bcast_S_S8192x32 (constantI S_ 32 0#32)))) (subi
    (Host.divsi (iotaInDim S8192x32 32 0)
    (broadcastInDim S8192x32 ![] bcast_S_S8192x32 (id (constantI S_ 32 256#32))))
    (broadcastInDim S8192x32 ![] bcast_S_S8192x32 (constantI S_ 32 1#32)))
    (Host.divsi (iotaInDim S8192x32 32 0)
    (broadcastInDim S8192x32 ![] bcast_S_S8192x32 (id (constantI S_ 32 256#32)))))

/-- Whether a choice's number lies below that of a token's block. -/
def Va : Vec Ideal S8192x3 .i1 :=
  cmpi .slt (iotaInDim S8192x3 32 1) (select (andi (cmpi .ne (signi (iotaInDim S8192x3 32 0))
    (broadcastInDim S8192x3 ![] bcast_S_S8192x3 (signi (id (constantI S_ 32 256#32))))) (cmpi .ne
    (Host.remsi (iotaInDim S8192x3 32 0)
    (broadcastInDim S8192x3 ![] bcast_S_S8192x3 (id (constantI S_ 32 256#32))))
    (broadcastInDim S8192x3 ![] bcast_S_S8192x3 (constantI S_ 32 0#32)))) (subi
    (Host.divsi (iotaInDim S8192x3 32 0)
    (broadcastInDim S8192x3 ![] bcast_S_S8192x3 (id (constantI S_ 32 256#32))))
    (broadcastInDim S8192x3 ![] bcast_S_S8192x3 (constantI S_ 32 1#32)))
    (Host.divsi (iotaInDim S8192x3 32 0)
    (broadcastInDim S8192x3 ![] bcast_S_S8192x3 (id (constantI S_ 32 256#32)))))

/-- The gate, with the other blocks at minus infinity. -/
def Se : FVec Ideal S16x8192x32 .f32 :=
  select
    (broadcastInDim S16x8192x32 ![0, 1, 2] bcast_S1x8192x32_S16x8192x32_0_1_2
    (broadcastInDim S1x8192x32 ![1, 2] bcast_S8192x32_S1x8192x32_1_2 Mk)) (Gr p qw kw)
    (broadcastInDim S16x8192x32 ![] bcast_S_S16x8192x32 (id (constant S_ .f32 0xFF800000#32)))

/-- Whether a block is one of the chosen. -/
def Hi (x : FVec Ideal S16x8192x32 .f32) : Vec Ideal S16x8192x32 .i1 :=
  Host.reduce IntOp.ori (andi (cmpi .eq
    (broadcastInDim S16x8192x3x32 ![0, 1, 2, 3] bcast_S16x8192x3x1_S16x8192x3x32_0_1_2_3
    (broadcastInDim S16x8192x3x1 ![0, 1, 2] bcast_S16x8192x3_S16x8192x3x1_0_1_2 ((Host.topK S16x8192x3 2 (FloatOps.cmpfTotal .gt) x sliceFits_S16x8192x32_S16x8192x3).2))) (iotaInDim S16x8192x3x32 32 3))
    (broadcastInDim S16x8192x3x32 ![0, 1, 2, 3] bcast_S1x8192x3x1_S16x8192x3x32_0_1_2_3
    (broadcastInDim S1x8192x3x1 ![1, 2] bcast_S8192x3_S1x8192x3x1_1_2 Va))) (constantI S_ 1 0#1) reducesTo_S16x8192x3x32_S16x8192x32_d2 h_S_

end Parts

theorem v74_eq (m : (ℓ : Loc nD τ sig) → Buf (Elt Ideal) ℓ) (c : Dev nD) : Value.res_main_v74 m c =
  (transpose S16x32x32x256 [0, 1, 3, 2] (shapeCast _ (select (Hi (Se (m ((c.tc : Thread nD τ).loc main_arg0)) (m ((c.tc : Thread nD τ).loc main_arg1)) (m ((c.tc : Thread nD τ).loc main_arg2)))) (broadcastInDim S16x8192x32 ![] bcast_S_S16x8192x32 (constant S_ .f32 0x00000000#32)) (broadcastInDim S16x8192x32 ![] bcast_S_S16x8192x32 (constant S_ .f32 0xFF800000#32))) shapeCasts_S16x8192x32_S16x32x256x32) transposes_S16x32x256x32_S16x32x32x256_0_1_3_2 : FVec Ideal S16x32x32x256 .f32) := rfl

section Floor

/-- A token's block, as the division that rounds down gives it. -/
theorem floor_eq : ∀ s : Fin 8192, Scalar.select
        (IntOp.andi
          (IntOp.cmpi CmpIPredicate.ne
            (if BitVec.ofNat 32 s.val = 0 then (0 : BitVec 32) else if (BitVec.ofNat 32 s.val).msb = true then -1 else 1)
            (if (256#32 : BitVec 32) = 0 then (0 : BitVec 32) else if (256#32 : BitVec 32).msb = true then -1 else 1))
          (IntOp.cmpi CmpIPredicate.ne (IntOp.remsi ArithUnit.host (BitVec.ofNat 32 s.val) 256#32) 0#32))
        (IntOp.subi (IntOp.divsi ArithUnit.host (BitVec.ofNat 32 s.val) 256#32) 1#32)
        (IntOp.divsi ArithUnit.host (BitVec.ofNat 32 s.val) 256#32) = BitVec.ofNat 32 (s.val / 256) := by
  decide +kernel

theorem slt_eq : ∀ n b : Fin 32, IntOp.cmpi CmpIPredicate.slt (BitVec.ofNat 32 n.val) (BitVec.ofNat 32 b.val)
    = if n.val < b.val then 1#1 else 0#1 := by
  decide +kernel

theorem eq_eq : ∀ a n : Fin 32, IntOp.cmpi CmpIPredicate.eq (BitVec.ofNat 32 a.val) (BitVec.ofNat 32 n.val)
    = if a = n then 1#1 else 0#1 := by
  decide +kernel

theorem fold3 (f : Fin 3 → BitVec 1) : Finset.fold IntOp.ori 0#1 f Finset.univ
    = IntOp.ori (f 0) (IntOp.ori (f 1) (IntOp.ori (f 2) 0#1)) := rfl

end Floor

theorem Mk_apply (s : Fin 8192) (n : Fin 32) : Mk (ix2 s n) = if n.val < s.val / 256 then 1#1 else 0#1 := by
  unfold Mk
  pointwise
  exact (congrArg _ (floor_eq s)).trans (slt_eq n ⟨s.val / 256, by omega⟩)

theorem Va_apply (s : Fin 8192) (j : Fin 3) : Va (ix2 s j) = if j.val < s.val / 256 then 1#1 else 0#1 := by
  unfold Va
  pointwise
  exact (congrArg _ (floor_eq s)).trans (slt_eq ⟨j.val, by omega⟩ ⟨s.val / 256, by omega⟩)

theorem Qr_apply (p : FVec Ideal S8192x20480 .bf16) (qw : FVec Ideal S128 .f32) (s : Fin 8192) (h : Fin 16) (d : Fin 128) :
    Qr p qw (ix3 s h d) = qn p qw h s d := by
  unfold Qr qn nq
  pointwise
  rfl

theorem Kr_apply (p : FVec Ideal S8192x20480 .bf16) (kw : FVec Ideal S128 .f32) (s : Fin 8192) (h : Fin 16) (d : Fin 128) :
    Kr p kw (ix3 s h d) = kn p kw h s d := by
  unfold Kr kn nq
  pointwise
  rfl

theorem Gr_apply (p : FVec Ideal S8192x20480 .bf16) (qw kw : FVec Ideal S128 .f32) (h : Fin 16) (s : Fin 8192) (n : Fin 32) :
    Gr p qw kw (ix3 h s n) = gate p qw kw h s n := by
  unfold Gr gate kbar
  pointwise
  simp only [Qr_apply, Kr_apply]
  exact Finset.sum_congr rfl fun d _ => mul_comm _ _

theorem Se_apply (p : FVec Ideal S8192x20480 .bf16) (qw kw : FVec Ideal S128 .f32) (h : Fin 16) (s : Fin 8192) (n : Fin 32) :
    Se p qw kw (ix3 h s n) = masked (s.val / 256) (gate p qw kw h s) n := by
  unfold Se masked
  pointwise
  rw [Mk_apply, Gr_apply]
  by_cases e : n.val < s.val / 256
  · rw [if_pos e, if_pos e]; rfl
  · rw [if_neg e, if_neg e]; exact bits_bot

/-! ## The choice -/

/-- The sort of two arrays along an axis, at an index of the second. -/
theorem sort2_snd {α β : Type} (s : Shape) (d : ℕ) (hd : d < s.rank) (cmp : α × β → α × β → BitVec 1) (x : s.Idx → α) (y : s.Idx → β)
    (j : s.Idx) : (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem along_eq (h : Fin 16) (s : Fin 8192) (j : Fin 32) (hd : 2 < S16x8192x32.rank) (k : Fin (S16x8192x32.size ⟨2, hd⟩)) :
    Shape.Idx.along (s := S16x8192x32) (ix3 h s j) ⟨2, hd⟩ k = ix3 h s k := by
  funext a
  match a with
  | ⟨0, _⟩ => rfl
  | ⟨1, _⟩ => rfl
  | ⟨2, _⟩ => rfl

theorem gt_eq (a b : EReal) : (FloatOps.cmpfTotal (F := Ideal) (φ := .f32) .gt a b == 1#1) = decide (b < a) := by
  show (Ideal.cmp .ogt a b == 1#1) = decide (b < a)
  unfold Ideal.cmp
  by_cases e : b < a <;> simp [e]

/-- The choices are the first of the stable sort, greater first. -/
theorem topK_apply (x : FVec Ideal S16x8192x32 .f32) (h : Fin 16) (s : Fin 8192) (j : Fin 3) :
    (Host.topK S16x8192x3 2 (FloatOps.cmpfTotal .gt) x sliceFits_S16x8192x32_S16x8192x3).2 (ix3 h s j)
      = BitVec.ofNat 32 (src (fun n => x (ix3 h s n)) ⟨j.val, by omega⟩).val := by
  unfold Host.topK
  dsimp only
  pointwise
  rw [sort2_snd _ _ (by decide), along_eq]
  have hd : 2 < S16x8192x32.rank := by decide
  have hg : (fun k k' : Fin (S16x8192x32.size ⟨2, hd⟩) => FloatOps.cmpfTotal (F := Ideal) (φ := .f32) .gt
      (x (Shape.Idx.along (s := S16x8192x32) (ix3 h s ⟨j.val, by omega⟩) ⟨2, hd⟩ k))
      (x (Shape.Idx.along (s := S16x8192x32) (ix3 h s ⟨j.val, by omega⟩) ⟨2, hd⟩ k')) == 1#1) = gtb (fun n => x (ix3 h s n)) := by
    funext k k'
    rw [along_eq, along_eq]
    exact gt_eq _ _
  exact congrArg (fun R => BitVec.ofNat 32 (sortedFrom R ⟨j.val, by omega⟩ : Fin 32).val) hg

theorem sel3 (P0 P1 P2 Q0 Q1 Q2 : Prop) [Decidable P0] [Decidable P1] [Decidable P2] [Decidable Q0] [Decidable Q1] [Decidable Q2] :
    Scalar.select (IntOp.ori (IntOp.andi (if P0 then 1#1 else 0#1) (if Q0 then 1#1 else 0#1))
      (IntOp.ori (IntOp.andi (if P1 then 1#1 else 0#1) (if Q1 then 1#1 else 0#1))
      (IntOp.ori (IntOp.andi (if P2 then 1#1 else 0#1) (if Q2 then 1#1 else 0#1)) 0#1))) (0 : EReal) ⊥
    = if P2 ∧ Q2 then 0 else if P1 ∧ Q1 then 0 else if P0 ∧ Q0 then 0 else ⊥ := by
  by_cases p0 : P0 <;> by_cases p1 : P1 <;> by_cases p2 : P2 <;> by_cases q0 : Q0 <;> by_cases q1 : Q1 <;> by_cases q2 : Q2 <;>
    simp [p0, p1, p2, q0, q1, q2, Scalar.select, IntOp.ori, IntOp.andi]

theorem Hi_apply (x : FVec Ideal S16x8192x32 .f32) (h : Fin 16) (s : Fin 8192) (n : Fin 32)
    (hx : ∀ k, ⊥ < x (ix3 h s k) ↔ k.val < s.val / 256) :
    Scalar.select (Hi x (ix3 h s n)) (0 : EReal) ⊥ = pen3 (fun k => x (ix3 h s k)) n := by
  unfold Hi
  pointwise
  rw [fold3]
  simp only [topK_apply, Va_apply, eq_eq]
  obtain ⟨r0, r1, r2⟩ := rounds (fun k => x (ix3 h s k)) ⟨s.val / 256, by omega⟩ hx n
  unfold pen3
  simp only [r0, r1, r2]
  exact (sel3 _ _ _ _ _ _).trans (if_congr Iff.rfl rfl (if_congr Iff.rfl rfl (if_congr Iff.rfl rfl rfl)))

/-! ## The four results -/

theorem eta4' {a b n k : ℕ} (x : (⟨4, ![a, b, n, k]⟩ : Shape).Idx) : ∃ (u : Fin a) (v : Fin b) (r : Fin n) (d : Fin k), x = ix4 u v r d :=
  ⟨x 0, x 1, x 2, x 3, funext fun a => match a with | ⟨0, _⟩ => rfl | ⟨1, _⟩ => rfl | ⟨2, _⟩ => rfl | ⟨3, _⟩ => rfl⟩
theorem eta3' {a n k : ℕ} (x : (⟨3, ![a, n, k]⟩ : Shape).Idx) : ∃ (u : Fin a) (r : Fin n) (d : Fin k), x = ix3 u r d :=
  ⟨x 0, x 1, x 2, funext fun a => match a with | ⟨0, _⟩ => rfl | ⟨1, _⟩ => rfl | ⟨2, _⟩ => rfl⟩

theorem bits_zero : Ideal.ofBits .f32 0x00000000#32 = 0 := by simp [Ideal.ofBits, Ideal.ieee]

theorem res5 (p : FVec Ideal S8192x20480 .bf16) (qw : FVec Ideal S128 .f32) :
    (truncf .bf16 (transpose S16x32x128x256 [0, 1, 3, 2] (shapeCast _ (mulf (transpose S16x8192x128 [1, 0, 2] (Qr p qw) transposes_S8192x16x128_S16x8192x128_1_0_2)
      (broadcastInDim S16x8192x128 ![] bcast_S_S16x8192x128 (constant S_ .f32 0x3FB8AA3B#32))) shapeCasts_S16x8192x128_S16x32x256x128)
      transposes_S16x32x256x128_S16x32x128x256_0_1_3_2) bitsLt_bf16_f32 : FVec Ideal S16x32x128x256 .bf16) = G5 p qw := by
  funext i
  obtain ⟨h, B, d, r, rfl⟩ := eta4' (a := 16) (b := 32) (n := 128) (k := 256) i
  unfold G5
  pointwise
  rw [Qr_apply]
  rfl

theorem res6 (p : FVec Ideal S8192x20480 .bf16) (kw : FVec Ideal S128 .f32) :
    (truncf .bf16 (transpose S16x8192x128 [1, 0, 2] (Kr p kw) transposes_S8192x16x128_S16x8192x128_1_0_2) bitsLt_bf16_f32
      : FVec Ideal S16x8192x128 .bf16) = G6 p kw := by
  funext i
  obtain ⟨h, s, d, rfl⟩ := eta3' (a := 16) (n := 8192) (k := 128) i
  unfold G6
  pointwise
  rw [Kr_apply]

theorem res7 (p : FVec Ideal S8192x20480 .bf16) : (concatenate S16x32x144x256 2 [⟨S16x32x128x256, (transpose S16x32x128x256 [2, 0, 3, 1]
      (shapeCast _ (shapeCast _ (extractStridedSlice S8192x2048 ![0, 14336] p slices_S8192x20480_S8192x2048_0_14336) shapeCasts_S8192x2048_S8192x16x128)
        shapeCasts_S8192x16x128_S32x256x16x128) transposes_S32x256x16x128_S16x32x128x256_2_0_3_1)⟩,
      ⟨S16x32x16x256, (broadcastInDim S16x32x16x256 ![] bcast_S_S16x32x16x256 (constant S_ .bf16 0x3F80#16))⟩]
      concatenates_S16x32x128x256_S16x32x16x256_S16x32x144x256_d2 : FVec Ideal S16x32x144x256 .bf16) = G7 p := by
  funext i
  obtain ⟨h, B, d, r, rfl⟩ := eta4' (a := 16) (b := 32) (n := 144) (k := 256) i
  unfold G7
  pointwise
  rfl

theorem res8 (m : (ℓ : Loc nD τ sig) → Buf (Elt Ideal) ℓ) (c : Dev nD)
    (hq : ∀ d : Fin 128, IsReal (m ((c.tc : Thread nD τ).loc main_arg1) (ix1 d)))
    (hk : ∀ d : Fin 128, IsReal (m ((c.tc : Thread nD τ).loc main_arg2) (ix1 d))) : Value.res_main_v74 m c
    = G8 (m ((c.tc : Thread nD τ).loc main_arg0)) (m ((c.tc : Thread nD τ).loc main_arg1)) (m ((c.tc : Thread nD τ).loc main_arg2)) := by
  rw [v74_eq]
  funext i
  obtain ⟨h, B, n, r, rfl⟩ := eta4' (a := 16) (b := 32) (n := 32) (k := 256) i
  unfold G8
  pointwise
  rw [bits_bot]
  have hB : (tok B r).val / 256 = B.val := by
    show (B.val * 256 + r.val) / 256 = B.val
    omega
  have hS : (fun k => Se (m ((c.tc : Thread nD τ).loc main_arg0)) (m ((c.tc : Thread nD τ).loc main_arg1)) (m ((c.tc : Thread nD τ).loc main_arg2)) (ix3 h (tok B r) k))
      = masked B.val (gate (m ((c.tc : Thread nD τ).loc main_arg0)) (m ((c.tc : Thread nD τ).loc main_arg1)) (m ((c.tc : Thread nD τ).loc main_arg2)) h (tok B r)) := by
    funext k
    rw [Se_apply, hB]
  refine (Hi_apply _ h (tok B r) n fun k => ?_).trans (congrArg (fun g => pen3 g n) hS)
  rw [Se_apply]
  unfold masked
  obtain ⟨x, hx⟩ := gate_real (m ((c.tc : Thread nD τ).loc main_arg0)) (m ((c.tc : Thread nD τ).loc main_arg1)) (m ((c.tc : Thread nD τ).loc main_arg2)) hq hk h (tok B r) k
  split
  · rename_i e
    rw [hx]
    exact ⟨fun _ => e, fun _ => EReal.bot_lt_coe x⟩
  · rename_i e
    exact ⟨fun a => absurd a (lt_irrefl _), fun a => absurd a e⟩

end Cert.Proof.Qk.Ref

end
-- ==== Proof.Qk.lean ====
/-
  The value of the routing: the normed queries, keys and values of every head, and the penalties that leave to each token
  the three blocks before its own with the greatest gate. The kernel's arrays (`QkKernel`) and the reference's (`QkRef`)
  are the same functions of the arguments.
-/
module

public import proofs.«01_k».proof.Defs
public import proofs.«01_k».proof.Proof.QkRef
public import proofs.«01_k».proof.Proof.QkKernel
public import proofs.«01_k».proof.Proof.Gen.KQkIdeal.Value
public import proofs.«01_k».proof.Proof.Gen.RQkIdeal.Run
public import proofs.«01_k».proof.Proof.Gen.Pre_weights_finite

@[expose] public section

noncomputable section

open Idealize.ShloMosaic Idealize.ShloMosaic.TcCoe Idealize.SL.Sem

namespace Cert.Proof.Qk

open Cert.KQkIdeal Cert.KQkIdeal.Gen

/-- The kernel and the reference leave the same queries, keys, values and penalties, over finite weights. -/
theorem algebraic : Cert.algebraic_KQkIdeal_RQkIdeal_pre_weights_finite (hKQkIdeal := Cert.KQkIdeal.Gen.facts) (hRQkIdeal := Cert.RQkIdeal.Gen.facts)
    (hPre_weights_finite := Cert.Pre_weights_finite.Gen.facts) := by
  intro m g m' g' hpre hag
  have hq : ∀ (c : Dev nD) (k : Fin 128), IsReal (m ((c : Thread nD τ).loc main_arg1) (ix1 k)) := by
    intro c k
    obtain ⟨p0, p1⟩ := hpre c
    exact real_of_cmp (congrFun p0 (ix1 k))
  have hk : ∀ (c : Dev nD) (k : Fin 128), IsReal (m ((c : Thread nD τ).loc main_arg2) (ix1 k)) := by
    intro c k
    obtain ⟨p0, p1⟩ := hpre c
    exact real_of_cmp (congrFun p1 (ix1 k))
  refine ⟨fun c => G5 (m ((c : Thread nD τ).loc main_arg0)) (m ((c : Thread nD τ).loc main_arg1)),
    fun c => G6 (m ((c : Thread nD τ).loc main_arg0)) (m ((c : Thread nD τ).loc main_arg2)),
    fun c => G7 (m ((c : Thread nD τ).loc main_arg0)),
    fun c => G8 (m ((c : Thread nD τ).loc main_arg0)) (m ((c : Thread nD τ).loc main_arg1)) (m ((c : Thread nD τ).loc main_arg2)), ?_, ?_⟩
  · exact (θ_run defs _ _).mono (fun r h c => ⟨(h c).1.trans (final5 m c), (h c).2.1.trans (final6 m c), (h c).2.2.1.trans (final7 m c),
      (h c).2.2.2.1.trans (final8 m c (hq c) (hk c)), (h c).2.2.2.2⟩) (Cert.KQkIdeal.Value.run_blocks m g)
  · refine (θ_run Cert.RQkIdeal.defs _ _).mono (fun r h c => ?_) (Cert.RQkIdeal.Value.run m' g')
    obtain ⟨h0, h1, h2⟩ := hag c
    have hq' : ∀ k : Fin 128, IsReal (m' ((c.tc : Thread Cert.RQkIdeal.nD Cert.RQkIdeal.τ).loc Cert.RQkIdeal.main_arg1) (ix1 k)) := by
      intro k; rw [h1]; exact hq c k
    have hk' : ∀ k : Fin 128, IsReal (m' ((c.tc : Thread Cert.RQkIdeal.nD Cert.RQkIdeal.τ).loc Cert.RQkIdeal.main_arg2) (ix1 k)) := by
      intro k; rw [h2]; exact hk c k
    refine ⟨(h c).1.trans ?_, (h c).2.1.trans ?_, (h c).2.2.1.trans ?_, (h c).2.2.2.1.trans ?_, (h c).2.2.2.2⟩
    · refine (Ref.res5 _ _).trans ?_
      rw [h0, h1]
    · refine (Ref.res6 _ _).trans ?_
      rw [h0, h2]
    · refine (Ref.res7 _).trans ?_
      rw [h0]
    · refine (Ref.res8 m' c hq' hk').trans ?_
      rw [h0, h1, h2]

end Cert.Proof.Qk

end
-- ==== Proof.Down.lean ====
/-
  The value of the FFN down-projection: every grid point writes its block of `x1 + act · w_down`, and the blocks
  tile the result, so the array the kernel leaves is the reference's sum at every index.
-/
module

public import proofs.«01_k».proof.Defs
public import proofs.«01_k».proof.Proof.Gen.KDownIdeal.Value
public import proofs.«01_k».proof.Proof.Gen.RDownIdeal.Run
public import Idealize.ShloMosaic.Lib.Pipeline.ValueKit

@[expose] public section

noncomputable section

namespace Cert.Proof.Down

open Idealize.ShloMosaic Idealize.ShloMosaic.TcCoe Idealize.SL.Sem
open Cert.KDownIdeal Cert.KDownIdeal.Gen

variable (m : (ℓ : Loc nD τ sig) → Buf (Elt Ideal) ℓ) (ρ : Dev nD → PrngReg)

/-- The down-projection with its residual, index by index. -/
def G (a : S8192x5632.Idx → EReal) (w : S5632x2048.Idx → EReal) (x : S8192x2048.Idx → EReal) (i : S8192x2048.Idx) : EReal :=
  x i + ∑ k : Fin 5632, a (ix2 (i 0) k) * w (ix2 k (i 1))

/-- Where the windows stand at a point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, win0_0.index t = ![t.val / 4, 0] ∧ win0_1.index t = ![0, t.val % 4]
    ∧ win0_2.index t = ![t.val / 4, t.val % 4] ∧ win0_3.index t = ![t.val / 4, t.val % 4])

/-- The body's payload, index by index. -/
theorem pay_apply (v0 : Vec Ideal S1024x512 .f32) (v1 : Vec Ideal S1024x5632 .bf16) (v2 : Vec Ideal S5632x512 .bf16) (y : S1024x512.Idx) :
    k0_pay1 v0 v1 v2 y = v0 y + ∑ k : Fin 5632, v1 (ix2 (y 0) k) * v2 (ix2 k (y 1)) := by
  unfold_payloads
  pointwise

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  blk_simp
  rw [after0_3]
  frame_out
  rw [pay_apply]
  unfold G
  blk_point [iblk, V, e0, e1, e2, e3]

/-- The kernel and the reference leave the same array. -/
theorem algebraic : Cert.algebraic_KDownIdeal_RDownIdeal (hKDownIdeal := Cert.KDownIdeal.Gen.facts) (hRDownIdeal := Cert.RDownIdeal.Gen.facts) := by
  intro m g m' g' _ hag
  refine ⟨fun c => G (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Cert.KDownIdeal.Value.run_blocks m g)
  · refine (θ_run Cert.RDownIdeal.defs _ _).mono (fun r h c => ⟨(h c).1.trans ?_, (h c).2⟩) (Cert.RDownIdeal.Value.run m' g')
    obtain ⟨h0, h1, h2⟩ := hag c
    rw [h0, h1, h2]
    funext i
    unfold G
    pointwise

end Cert.Proof.Down

end
-- ==== Proof.Out.lean ====
/-
  The value of the output projection with its residual and the norm behind it: every grid point writes its rows of
  `x + mix · w_out` and of that sum's RMS norm, and the blocks tile both results.
-/
module

public import proofs.«01_k».proof.Defs
public import proofs.«01_k».proof.Proof.Gen.KOutIdeal.Value
public import proofs.«01_k».proof.Proof.Gen.ROutIdeal.Run
public import Idealize.ShloMosaic.Lib.Pipeline.ValueKit

@[expose] public section

noncomputable section

namespace Cert.Proof.Out

open Idealize.ShloMosaic Idealize.ShloMosaic.TcCoe Idealize.SL.Sem
open Cert.KOutIdeal Cert.KOutIdeal.Gen

variable (m : (ℓ : Loc nD τ sig) → Buf (Elt Ideal) ℓ) (ρ : Dev nD → PrngReg)

/-- The residual plus the projected row, index by index. -/
def X1 (x : S8192x2048.Idx → EReal) (a : S8192x2048.Idx → EReal) (w : S2048x2048.Idx → EReal) (i : S8192x2048.Idx) : EReal :=
  x i + ∑ k : Fin 2048, a (ix2 (i 0) k) * w (ix2 k (i 1))

/-- An element's RMS norm, given its row of `X1`. -/
def nrm (row : Fin 2048 → EReal) (j : Fin 2048) (g : EReal) : EReal :=
  row j * Ideal.rsqrt (Ideal.div (∑ k : Fin 2048, row k * row k) (Ideal.ofBits .f32 0x45000000#32) + Ideal.ofBits .f32 0x358637BD#32) * g

/-- The normed row, index by index. -/
def H (x : S8192x2048.Idx → EReal) (a : S8192x2048.Idx → EReal) (w : S2048x2048.Idx → EReal)
    (g : (⟨1, ![2048]⟩ : Shape).Idx → EReal) (i : S8192x2048.Idx) : EReal :=
  nrm (fun k => X1 x a w (ix2 (i 0) k)) (i 1) (g (ix1 (i 1)))

/-- Where the windows stand at a point. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0]
    ∧ win0_2.index t = ![0, 0] ∧ win0_3.index t = ![0, 0] ∧ win0_4.index t = ![t.val, 0] ∧ win0_5.index t = ![t.val, 0])

/-- The sum the body stores, index by index. -/
theorem pay1_apply (v0 : Vec Ideal S512x2048 .f32) (v1 : Vec Ideal S512x2048 .bf16) (v2 : Vec Ideal S2048x2048 .bf16) (y : S512x2048.Idx) :
    k0_pay1 v0 v1 v2 y = v0 y + ∑ k : Fin 2048, v1 (ix2 (y 0) k) * v2 (ix2 k (y 1)) := by
  unfold_payloads
  pointwise

/-- The norm the body stores, index by index. -/
theorem pay2_apply (v0 : Vec Ideal S512x2048 .f32) (v1 : Vec Ideal S512x2048 .bf16) (v2 : Vec Ideal S2048x2048 .bf16) (v17 : Vec Ideal S1x2048 .f32) (y : S512x2048.Idx) :
    k0_pay2 v0 v1 v2 v17 y = nrm (fun k => k0_pay1 v0 v1 v2 (ix2 (y 0) k)) (y 1) (v17 (ix2 0 (y 1))) := by
  unfold k0_pay2 nrm
  generalize k0_pay1 v0 v1 v2 = z
  pointwise

/-- The first result after the run. -/
theorem final4 (c : Dev nD) : (dats m 0 c).arrAt 4 cfg0.N
    = X1 (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4, e5⟩ := idx t
  blk_simp
  rw [after0_4]
  frame_out
  rw [pay1_apply]
  unfold X1
  blk_point [iblk, V, e0, e1, e2, e4]

/-- The second result after the run. -/
theorem final5 (c : Dev nD) : (dats m 0 c).arrAt 5 cfg0.N
    = H (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨e0, e1, e2, e3, e4, e5⟩ := idx t
  blk_simp
  rw [after0_5]
  frame_out
  rw [pay2_apply]
  have hrow : ∀ k : Fin 2048, k0_pay1 (iblk m c 0 t) (iblk m c 1 t) (iblk m c 2 t) (ix2 (y 0) k)
      = X1 (m ((c : Thread nD τ).loc main_arg0)) (m ((c : Thread nD τ).loc main_arg1)) (m ((c : Thread nD τ).loc main_arg2))
          (ix2 ((((cfg0.win 5).blk t).view.emb y) 0) k) := by
    intro k
    rw [pay1_apply]
    unfold X1
    blk_point [iblk, V, e0, e1, e2, e5]
  have hj : (y 1 : Fin 2048) = (((cfg0.win 5).blk t).view.emb y) 1 := by
    apply Fin.ext
    blk_simp [e5]
  unfold H
  refine congr (congr (congrArg nrm (funext hrow)) hj) ?_
  blk_point [iblk, V, e3, e5]

/-- The kernel and the reference leave the same arrays. -/
theorem algebraic : Cert.algebraic_KOutIdeal_ROutIdeal (hKOutIdeal := Cert.KOutIdeal.Gen.facts) (hROutIdeal := Cert.ROutIdeal.Gen.facts) := by
  intro m g m' g' _ hag
  refine ⟨fun c => X1 (m ((c : Thread nD τ).loc main_arg0)) (m ((c : Thread nD τ).loc main_arg1)) (m ((c : Thread nD τ).loc main_arg2)),
    fun c => H (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (final4 m c), (h c).2.1.trans (final5 m c), (h c).2.2⟩) (Cert.KOutIdeal.Value.run_blocks m g)
  · refine (θ_run Cert.ROutIdeal.defs _ _).mono (fun r h c => ?_) (Cert.ROutIdeal.Value.run m' g')
    obtain ⟨h0, h1, h2, h3⟩ := hag c
    refine ⟨(h c).1.trans ?_, (h c).2.1.trans ?_, (h c).2.2⟩
    · rw [h0, h1, h2]
      funext i
      unfold X1
      pointwise
    · rw [h0, h1, h2, h3]
      funext i
      unfold H nrm X1
      pointwise

end Cert.Proof.Out

end
-- ==== Proof.Sigmoid.lean ====
/-
  The logistic function as the kernels write it, through a hyperbolic tangent of half the argument, on the extended reals.
-/
module

public import Idealize.ShloMosaic.Lib.Pipeline.ValueKit
public import Idealize.ShloMosaic.Lib.IdealHost
public import Mathlib.Analysis.SpecialFunctions.Trigonometric.DerivHyp

@[expose] public section

noncomputable section

namespace Cert.Proof

open Idealize.ShloMosaic

/-- The bits of one half read as one half. -/
theorem half_bits : Ideal.ofBits .f32 0x3F000000#32 = (((1 : ℝ) / 2 : ℝ) : EReal) := by
  simp [Ideal.ofBits, Ideal.ieee, -EReal.coe_mul]; norm_num

/-- The kernels' logistic function. -/
def gate (x : EReal) : EReal :=
  Ideal.ofBits .f32 0x3F000000#32 + Ideal.ofBits .f32 0x3F000000#32 * Ideal.tanh (Ideal.ofBits .f32 0x3F000000#32 * x)

/-- The logistic function through a hyperbolic tangent, on the reals. -/
theorem tanh_half (r : ℝ) : 1 / 2 + 1 / 2 * Real.tanh (1 / 2 * r) = (1 + Real.exp (-r))⁻¹ := by
  have e : Real.exp (-r) = Real.exp (-(1 / 2 * r)) * Real.exp (-(1 / 2 * r)) := by rw [← Real.exp_add]; congr 1; ring
  have p := Real.exp_pos (1 / 2 * r)
  have q : Real.exp (-(1 / 2 * r)) = (Real.exp (1 / 2 * r))⁻¹ := Real.exp_neg _
  rw [Real.tanh_eq_sinh_div_cosh, Real.sinh_eq, Real.cosh_eq, e, q]
  generalize Real.exp (1 / 2 * r) = z at p
  field_simp
  ring

/-- The kernels' logistic function is the quotient the reference writes, at every extended real. -/
theorem gate_eq (x : EReal) : gate x = Ideal.div 1 (1 + Ideal.exp (-x)) := by
  unfold gate
  rw [half_bits]
  have hd : ∀ b : ℝ, b ≠ 0 → Ideal.div 1 (b : EReal) = ((b⁻¹ : ℝ) : EReal) := by
    intro b hb
    unfold Ideal.div
    rw [if_neg (by exact_mod_cast hb), one_mul, EReal.coe_inv]
  induction x with
  | bot =>
    rw [EReal.coe_mul_bot_of_pos (by norm_num), Ideal.tanh_bot, EReal.neg_bot, Ideal.exp_top]
    have h1 : ((1 : EReal) + ⊤) = ⊤ := EReal.coe_add_top 1
    rw [h1]
    unfold Ideal.div
    rw [if_neg (by simp), EReal.inv_top, mul_zero]
    have : (((1 : ℝ) / 2 : ℝ) : EReal) + (((1 : ℝ) / 2 : ℝ) : EReal) * (-1) = (((1 : ℝ) / 2 + (1 / 2) * (-1) : ℝ) : EReal) := by push_cast; rfl
    rw [this]; norm_num
  | top =>
    rw [EReal.coe_mul_top_of_pos (by norm_num), Ideal.tanh_top, EReal.neg_top, Ideal.exp_bot, add_zero]
    have : (((1 : ℝ) / 2 : ℝ) : EReal) + (((1 : ℝ) / 2 : ℝ) : EReal) * 1 = (((1 : ℝ) / 2 + (1 / 2) * 1 : ℝ) : EReal) := by push_cast; rfl
    rw [this]
    have h2 := hd 1 one_ne_zero
    rw [show ((1 : ℝ) : EReal) = 1 from rfl] at h2
    rw [h2]; norm_num
  | coe r =>
    rw [← EReal.coe_mul, Ideal.tanh_coe, ← EReal.coe_mul, ← EReal.coe_add, tanh_half, ← EReal.coe_neg, Ideal.exp_coe,
      show (1 : EReal) = ((1 : ℝ) : EReal) from rfl, ← EReal.coe_add]
    exact (hd _ (by positivity)).symm

end Cert.Proof

end
-- ==== Proof.Mix.lean ====
/-
  The value of the gated mixture of the two branches: every grid point writes its block of
  `σ(gate) · (y_ssd · w_ssm) + σ(gate) · (y_attn · w_attn)`, and the blocks tile the result.
-/
module

public import proofs.«01_k».proof.Defs
public import proofs.«01_k».proof.Proof.Gen.KMixIdeal.Value
public import proofs.«01_k».proof.Proof.Gen.RMixIdeal.Run
public import proofs.«01_k».proof.Proof.Sigmoid
public import Idealize.ShloMosaic.Lib.Pipeline.ValueKit

@[expose] public section

noncomputable section

namespace Cert.Proof.Mix

open Idealize.ShloMosaic Idealize.ShloMosaic.TcCoe Idealize.SL.Sem
open Cert.KMixIdeal Cert.KMixIdeal.Gen

variable (m : (ℓ : Loc nD τ sig) → Buf (Elt Ideal) ℓ) (ρ : Dev nD → PrngReg)

/-- A column of the first half of the gates. -/
def c1 (j : Fin 2048) : Fin 20480 := ⟨16384 + j.val, by omega⟩

/-- A column of the second half of the gates. -/
def c2 (j : Fin 2048) : Fin 20480 := ⟨16384 + (2048 + j.val), by omega⟩

/-- A bias of the first half. -/
def b1 (j : Fin 2048) : Fin 4096 := ⟨j.val, by omega⟩

/-- A bias of the second half. -/
def b2 (j : Fin 2048) : Fin 4096 := ⟨2048 + j.val, by omega⟩

/-- The mixture, index by index. -/
def G (ys : S8192x4096.Idx → EReal) (ya : S8192x2048.Idx → EReal) (ws : S4096x2048.Idx → EReal) (wa : S2048x2048.Idx → EReal)
    (p : S8192x20480.Idx → EReal) (b : S4096.Idx → EReal) (i : S8192x2048.Idx) : EReal :=
  gate (p (ix2 (i 0) (c1 (i 1))) + b (ix1 (b1 (i 1)))) * (∑ k : Fin 4096, ys (ix2 (i 0) k) * ws (ix2 k (i 1)))
    + gate (p (ix2 (i 0) (c2 (i 1))) + b (ix1 (b2 (i 1)))) * (∑ k : Fin 2048, ya (ix2 (i 0) k) * wa (ix2 k (i 1)))

/-- Where the windows stand at a point. -/
theorem idx : ∀ t : Fin cfg0.N, win0_0.index t = ![t.val / 4, 0] ∧ win0_1.index t = ![t.val / 4, 0]
    ∧ win0_2.index t = ![0, t.val % 4] ∧ win0_3.index t = ![0, t.val % 4]
    ∧ win0_4.index t = ![t.val / 4, 32 + t.val % 4] ∧ win0_5.index t = ![t.val / 4, 36 + t.val % 4]
    ∧ win0_6.index t = ![0, t.val % 4] ∧ win0_7.index t = ![0, 4 + t.val % 4] ∧ win0_8.index t = ![t.val / 4, t.val % 4] :=
  (by decide +kernel : ∀ t : Fin grid0.N, win0_0.index t = ![t.val / 4, 0] ∧ win0_1.index t = ![t.val / 4, 0]
    ∧ win0_2.index t = ![0, t.val % 4] ∧ win0_3.index t = ![0, t.val % 4]
    ∧ win0_4.index t = ![t.val / 4, 32 + t.val % 4] ∧ win0_5.index t = ![t.val / 4, 36 + t.val % 4]
    ∧ win0_6.index t = ![0, t.val % 4] ∧ win0_7.index t = ![0, 4 + t.val % 4] ∧ win0_8.index t = ![t.val / 4, t.val % 4])

/-- The second gate, index by index. -/
theorem pay2_apply (x5 : Vec Ideal S1024x512 .bf16) (x7 : Vec Ideal S1x512 .f32) (y : S1024x512.Idx) :
    k0_pay2 x5 x7 y = gate (x5 y + x7 (ix2 0 (y 1))) := by
  unfold gate k0_pay2
  pointwise

/-- The first gated product, index by index. -/
theorem pay3_apply (x4 : Vec Ideal S1024x512 .bf16) (x6 : Vec Ideal S1x512 .f32) (x0 : Vec Ideal S1024x4096 .bf16) (x2 : Vec Ideal S4096x512 .bf16)
    (y : S1024x512.Idx) :
    k0_pay3 x4 x6 x0 x2 y = gate (x4 y + x6 (ix2 0 (y 1))) * (∑ k : Fin 4096, x0 (ix2 (y 0) k) * x2 (ix2 k (y 1))) := by
  unfold gate k0_pay3
  pointwise

/-- The body's result, index by index. -/
theorem pay_apply (v25 v30 : FVec Ideal S1024x512 .f32) (x1 : Vec Ideal S1024x2048 .bf16) (x3 : Vec Ideal S2048x512 .bf16) (y : S1024x512.Idx) :
    k0_pay1 v25 v30 x1 (k0_pay4 x3) (constant S1024x512 .f32 0x00000000#32) y
      = v30 y + v25 y * (∑ k : Fin 2048, x1 (ix2 (y 0) k) * x3 (ix2 k (y 1))) := by
  unfold k0_pay1 k0_pay4
  pointwise

/-- A block of the gates' columns, index by index. -/
theorem pblk4 (c : Dev nD) (t : Fin cfg0.N) (y : S1024x512.Idx) (q0 : Fin 8192) (q1 : Fin 20480)
    (h0 : q0.val = t.val / 4 * 1024 + (y 0).val) (h1 : q1.val = (32 + t.val % 4) * 512 + (y 1).val) :
    (iblk m c 4 t : Vec Ideal S1024x512 .bf16) y = m ((c : Thread nD τ).loc main_arg4) (ix2 q0 q1) := by
  obtain ⟨e0, e1, e2, e3, e4, e5, e6, e7, e8⟩ := idx t
  refine (congrFun (V_main_arg4 m c) _).trans (congrArg _ (funext fun a => Fin.ext ?_))
  match a with
  | ⟨0, _⟩ =>
    show win0_4.index t (0 : Fin 2) * 1024 + 1 * (y 0).val = q0.val
    rw [e4, h0]; simp
  | ⟨1, _⟩ =>
    show win0_4.index t (1 : Fin 2) * 512 + 1 * (y 1).val = q1.val
    rw [e4, h1]; simp

/-- A block of the gates' columns, index by index. -/
theorem pblk5 (c : Dev nD) (t : Fin cfg0.N) (y : S1024x512.Idx) (q0 : Fin 8192) (q1 : Fin 20480)
    (h0 : q0.val = t.val / 4 * 1024 + (y 0).val) (h1 : q1.val = (36 + t.val % 4) * 512 + (y 1).val) :
    (iblk m c 5 t : Vec Ideal S1024x512 .bf16) y = m ((c : Thread nD τ).loc main_arg4) (ix2 q0 q1) := by
  obtain ⟨e0, e1, e2, e3, e4, e5, e6, e7, e8⟩ := idx t
  refine (congrFun (V_main_arg4 m c) _).trans (congrArg _ (funext fun a => Fin.ext ?_))
  match a with
  | ⟨0, _⟩ =>
    show win0_5.index t (0 : Fin 2) * 1024 + 1 * (y 0).val = q0.val
    rw [e5, h0]; simp
  | ⟨1, _⟩ =>
    show win0_5.index t (1 : Fin 2) * 512 + 1 * (y 1).val = q1.val
    rw [e5, h1]; simp

/-- A block of the biases, index by index. -/
theorem bblk6 (c : Dev nD) (t : Fin cfg0.N) (j : Fin 512) (q : Fin 4096) (h : q.val = (0 + t.val % 4) * 512 + j.val) :
    (iblk m c 6 t : Vec Ideal S1x512 .f32) (ix2 0 j) = m ((c : Thread nD τ).loc main_arg5) (ix1 q) := by
  obtain ⟨e0, e1, e2, e3, e4, e5, e6, e7, e8⟩ := idx t
  have hv : (iblk m c 6 t : Vec Ideal S1x512 .f32) (ix2 0 j) = V m c main_v2 (ix2 0 q) := by
    refine (congrArg (V m c main_v2) (funext fun a => Fin.ext ?_))
    match a with
    | ⟨0, _⟩ =>
      show win0_6.index t (0 : Fin 2) * 1 + 1 * 0 = 0
      rw [e6]; simp
    | ⟨1, _⟩ =>
      show win0_6.index t (1 : Fin 2) * 512 + 1 * j.val = q.val
      rw [e6, h]; simp
  have hV : V m c main_v2 = broadcastInDim S1x4096 ![1] bcast_S4096_S1x4096_1 (m ((c : Thread nD τ).loc main_arg5)) := by
    unfold_abbrev_sides
    after_results
  rw [hv, hV]
  pointwise

/-- A block of the biases, index by index. -/
theorem bblk7 (c : Dev nD) (t : Fin cfg0.N) (j : Fin 512) (q : Fin 4096) (h : q.val = (4 + t.val % 4) * 512 + j.val) :
    (iblk m c 7 t : Vec Ideal S1x512 .f32) (ix2 0 j) = m ((c : Thread nD τ).loc main_arg5) (ix1 q) := by
  obtain ⟨e0, e1, e2, e3, e4, e5, e6, e7, e8⟩ := idx t
  have hv : (iblk m c 7 t : Vec Ideal S1x512 .f32) (ix2 0 j) = V m c main_v2 (ix2 0 q) := by
    refine (congrArg (V m c main_v2) (funext fun a => Fin.ext ?_))
    match a with
    | ⟨0, _⟩ =>
      show win0_7.index t (0 : Fin 2) * 1 + 1 * 0 = 0
      rw [e7]; simp
    | ⟨1, _⟩ =>
      show win0_7.index t (1 : Fin 2) * 512 + 1 * j.val = q.val
      rw [e7, h]; simp
  have hV : V m c main_v2 = broadcastInDim S1x4096 ![1] bcast_S4096_S1x4096_1 (m ((c : Thread nD τ).loc main_arg5)) := by
    unfold_abbrev_sides
    after_results
  rw [hv, hV]
  pointwise

/-- The result array after the run is `G` of the arguments. -/
theorem final (c : Dev nD) : (dats m 0 c).arrAt 8 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨e0, e1, e2, e3, e4, e5, e6, e7, e8⟩ := idx t
  blk_simp
  rw [after0_8]
  frame_out
  rw [pay_apply, pay3_apply, pay2_apply]
  unfold G c1 c2 b1 b2
  refine congrArg₂ (fun a b : EReal => a + b)
    (congrArg₂ (fun a b : EReal => a * b) (congrArg gate (congrArg₂ (fun a b : EReal => a + b) ?_ ?_)) (Finset.sum_congr rfl fun k _ => ?_))
    (congrArg₂ (fun a b : EReal => a * b) (congrArg gate (congrArg₂ (fun a b : EReal => a + b) ?_ ?_)) (Finset.sum_congr rfl fun k _ => ?_))
  · exact pblk4 m c t y _ _ (by blk_simp [e8]) (by blk_simp [e8]; show 16384 + (t.val % 4 * 512 + (y 1).val) = (32 + t.val % 4) * 512 + (y 1).val; omega)
  · exact bblk6 m c t _ _ (by blk_simp [e8])
  · blk_point [iblk, V, e0, e2, e8]
  · exact pblk5 m c t y _ _ (by blk_simp [e8]) (by blk_simp [e8]; show 16384 + (2048 + (t.val % 4 * 512 + (y 1).val)) = (36 + t.val % 4) * 512 + (y 1).val; omega)
  · exact bblk7 m c t _ _ (by blk_simp [e8]; show 2048 + (t.val % 4 * 512 + (y 1).val) = (4 + t.val % 4) * 512 + (y 1).val; omega)
  · blk_point [iblk, V, e1, e3, e8]

/-- The kernel and the reference leave the same array. -/
theorem algebraic : Cert.algebraic_KMixIdeal_RMixIdeal (hKMixIdeal := Cert.KMixIdeal.Gen.facts) (hRMixIdeal := Cert.RMixIdeal.Gen.facts) := by
  intro m g m' g' _ hag
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)), ?_, ?_⟩
  · exact (θ_run defs _ _).mono (fun r h c => ⟨(h c).1.trans (final m c), (h c).2⟩) (Cert.KMixIdeal.Value.run_blocks m g)
  · refine (θ_run Cert.RMixIdeal.defs _ _).mono (fun r h c => ⟨(h c).1.trans ?_, (h c).2⟩) (Cert.RMixIdeal.Value.run m' g')
    obtain ⟨h0, h1, h2, h3, h4, h5⟩ := hag c
    rw [h0, h1, h2, h3, h4, h5]
    funext i
    unfold G c1 c2 b1 b2
    simp only [gate_eq]
    pointwise

end Cert.Proof.Mix

end
-- ==== Proof.Up.lean ====
/-
  The value of the up projection. Every grid point multiplies a block of rows by the gate's and the up's columns of the
  weights, sets the two last rows of the block before under each product, adds the three shifted rows times the
  convolution's taps to the bias, and writes the gated product. The blocks of rows come in order for each block of
  columns; the narrowed weights are held in two scratches over a run of eight points, and the products' last eight rows in two more.
-/
module

public import proofs.«01_k».proof.Defs
public import proofs.«01_k».proof.Proof.Sigmoid
public import proofs.«01_k».proof.Proof.Reals
public import proofs.«01_k».proof.Proof.Gen.Pre_up_finite
public import proofs.«01_k».proof.Proof.Gen.KUpIdeal.Value
public import proofs.«01_k».proof.Proof.Gen.RUpIdeal.Run
public import Idealize.ShloMosaic.Lib.Pipeline.ValueKit
public import Idealize.ShloMosaic.Lib.Pipeline.ValueKit.Held
public import Idealize.ShloMosaic.Lib.Pipeline.ReadBack

@[expose] public section

noncomputable section

namespace Cert.Proof.Up

open Idealize.ShloMosaic Idealize.ShloMosaic.TcCoe Idealize.SL.Sem
open Cert.KUpIdeal Cert.KUpIdeal.Gen

/-! ## The function -/

/-- The projection's product, index by index. -/
def Y (h : S8192x2048.Idx → EReal) (w : S2048x11264.Idx → EReal) (r : Fin 8192) (j : Fin 11264) : EReal :=
  ∑ k : Fin 2048, h (ix2 r k) * w (ix2 k j)

/-- The product with two rows of zeros before it. -/
def Yp (h : S8192x2048.Idx → EReal) (w : S2048x11264.Idx → EReal) (r : ℕ) (j : Fin 11264) : EReal :=
  if e : 2 ≤ r ∧ r < 8194 then Y h w ⟨r - 2, by omega⟩ j else 0

/-- The convolution's result, index by index. -/
def U (h : S8192x2048.Idx → EReal) (w : S2048x11264.Idx → EReal) (cw : S3x11264.Idx → EReal) (cb : S11264.Idx → EReal)
    (r : ℕ) (j : Fin 11264) : EReal :=
  ((cb (ix1 j) + cw (ix2 0 j) * Yp h w r j) + cw (ix2 1 j) * Yp h w (r + 1) j) + cw (ix2 2 j) * Yp h w (r + 2) j

/-- The kernel's gate of an entry. -/
def act (x : EReal) : EReal :=
  Ideal.ofBits .f32 0x3F000000#32 * x + Ideal.ofBits .f32 0x3F000000#32 * x * Ideal.tanh (Ideal.ofBits .f32 0x3F000000#32 * x)

/-- The column of the gate's half. -/
def jg (j : Fin 5632) : Fin 11264 := ⟨j.val, by omega⟩
/-- The column of the up's half. -/
def ju (j : Fin 5632) : Fin 11264 := ⟨5632 + j.val, by omega⟩

/-- The call's result, index by index. -/
def G (h : S8192x2048.Idx → EReal) (w : S2048x11264.Idx → EReal) (cw : S3x11264.Idx → EReal) (cb : S11264.Idx → EReal)
    (i : S8192x5632.Idx) : EReal :=
  act (U h w cw cb (i 0).val (jg (i 1))) * U h w cw cb (i 0).val (ju (i 1))

/-! ## Reals -/

/-- The kernel's gate is the reference's at a real. -/
theorem act_eq {x : EReal} (hx : IsReal x) : act x = x * Ideal.div 1 (1 + Ideal.exp (-x)) := by
  obtain ⟨r, rfl⟩ := hx
  rw [← gate_eq]
  unfold act gate
  rw [half_bits, ← EReal.coe_mul, Ideal.tanh_coe, ← EReal.coe_mul, ← EReal.coe_mul, ← EReal.coe_add, ← EReal.coe_add, ← EReal.coe_mul]
  congr 1
  ring

/-! ## The payloads -/

theorem pay2_apply (y : S8x512.Idx) : (k0_pay2 : FVec Ideal S8x512 .f32) y = 0 := by
  unfold_payloads
  pointwise
theorem pay3_apply (y : S8x512.Idx) : (k0_pay3 : FVec Ideal S8x512 .f32) y = 0 := by
  unfold_payloads
  pointwise
theorem pay4_apply (x : Vec Ideal S2048x512 .f32) (y : S2048x512.Idx) : k0_pay4 x y = x y := by
  unfold_payloads
  pointwise
theorem pay5_apply (x : Vec Ideal S2048x512 .f32) (y : S2048x512.Idx) : k0_pay5 x y = x y := by
  unfold_payloads
  pointwise
theorem pay6_apply (x : Vec Ideal S8x512 .f32) (y : S8x512.Idx) : k0_pay6 x y = x y := by
  unfold_payloads
  pointwise
theorem pay8_apply (x : Vec Ideal S8x512 .f32) (y : S8x512.Idx) : k0_pay8 x y = x y := by
  unfold_payloads
  pointwise
theorem pay11_apply (x : Vec Ideal S8x512 .f32) (y : S8x512.Idx) : k0_pay11 x y = x y := by
  unfold_payloads
  pointwise
theorem pay13_apply (x : Vec Ideal S8x512 .f32) (y : S8x512.Idx) : k0_pay13 x y = x y := by
  unfold_payloads
  pointwise
theorem pay7_apply (a : Vec Ideal S1024x2048 .bf16) (b : Vec Ideal S2048x512 .bf16) (y : S1024x512.Idx) :
    k0_pay7 a b y = ∑ k : Fin 2048, a (ix2 (y 0) k) * b (ix2 k (y 1)) := by
  unfold_payloads
  pointwise
theorem pay12_apply (a : Vec Ideal S1024x2048 .bf16) (b : Vec Ideal S2048x512 .bf16) (y : S1024x512.Idx) :
    k0_pay12 a b y = ∑ k : Fin 2048, a (ix2 (y 0) k) * b (ix2 k (y 1)) := by
  unfold_payloads
  pointwise
theorem pay1_apply (b c0 c1 c2 b' c0' c1' c2' : Vec Ideal S1x512 .f32) (p0 p1 p2 p0' p1' p2' : Vec Ideal S1024x512 .f32) (y : S1024x512.Idx) :
    k0_pay1 (k0_pay10 (k0_pay9 b c0 p0) c1 p1 c2 p2) (k0_pay14 b' c0' p0') c1' p1' c2' p2' y
      = act (((b (ix2 0 (y 1)) + c0 (ix2 0 (y 1)) * p0 y) + c1 (ix2 0 (y 1)) * p1 y) + c2 (ix2 0 (y 1)) * p2 y)
        * (((b' (ix2 0 (y 1)) + c0' (ix2 0 (y 1)) * p0' y) + c1' (ix2 0 (y 1)) * p1' y) + c2' (ix2 0 (y 1)) * p2' y) := by
  unfold act
  unfold_payloads
  pointwise

/-! ## A padded product read at an offset -/

/-- Row `r` of a buffer of rows: `a` rows of one array, then `b` rows of another. -/
def rows {a b w : ℕ} (T : (⟨2, ![a, w]⟩ : Shape).Idx → EReal) (D : (⟨2, ![b, w]⟩ : Shape).Idx → EReal) (r : ℕ) (j : Fin w) : EReal :=
  if e : r < a then T (ix2 ⟨r, e⟩ j) else if e' : r - a < b then D (ix2 ⟨r - a, e'⟩ j) else 0

/-- What a load of rows of a buffer reads after a store of its first rows and then of its others. -/
theorem read_rows {sig : RefSig} {κ : Kind} {sp : Space} {a b w H : ℕ} (v : View sig κ sp (⟨2, ![H, w]⟩ : Shape) .f32)
    (T : (⟨2, ![a, w]⟩ : Shape).Idx → EReal) (D : (⟨2, ![b, w]⟩ : Shape).Idx → EReal) (o n : ℕ) (hH : o + n ≤ a + b)
    (inb1 : ∀ x, (![a, 0] : Fin 2 → ℕ) x + (![b, w] : Fin 2 → ℕ) x ≤ (⟨2, ![H, w]⟩ : Shape).size x)
    (inb0 : ∀ x, (![0, 0] : Fin 2 → ℕ) x + (![a, w] : Fin 2 → ℕ) x ≤ (⟨2, ![H, w]⟩ : Shape).size x)
    (inb : ∀ x, (![o, 0] : Fin 2 → ℕ) x + (![n, w] : Fin 2 → ℕ) x ≤ (⟨2, ![H, w]⟩ : Shape).size x) (y0 : Fin n) (y1 : Fin w) :
    v.readCov (Val := Elt Ideal) [⟨Rect.unit (s := (⟨2, ![H, w]⟩ : Shape)) ![a, 0] ![b, w] inb1, D⟩, ⟨Rect.unit (s := (⟨2, ![H, w]⟩ : Shape)) ![0, 0] ![a, w] inb0, T⟩]
      (Rect.unit (s := (⟨2, ![H, w]⟩ : Shape)) ![o, 0] ![n, w] inb).toLoadRect (ix2 y0 y1) = rows T D (o + y0.val) y1 := by
  have hy0 := y0.isLt
  rw [View.readCov_eq_canon']
  dsimp only
  unfold rows
  split
  · rename_i h
    refine (View.canon_cons_of_not_mem _ _ ?_).trans ?_
    · intro hc
      obtain ⟨i, hi, he⟩ := (LoadRect.mem_set _).mp hc (0 : Fin 2)
      have he' : o + 1 * y0.val = a + 1 * i := he
      omega
    have e : (Rect.unit (s := (⟨2, ![H, w]⟩ : Shape)) ![o, 0] ![n, w] inb).toLoadRect.idx (ix2 y0 y1)
        = (Rect.unit (s := (⟨2, ![H, w]⟩ : Shape)) ![0, 0] ![a, w] inb0).emb (ix2 ⟨o + y0.val, h⟩ y1) := by
      funext x
      apply Fin.ext
      match x with
      | ⟨0, _⟩ => show o + 1 * y0.val = 0 + 1 * (o + y0.val); omega
      | ⟨1, _⟩ => rfl
    rw [e]
    exact View.canon_cons_emb _ _ _ _
  · rename_i h
    have hb : o + y0.val - a < b := by omega
    rw [dif_pos hb]
    have e : (Rect.unit (s := (⟨2, ![H, w]⟩ : Shape)) ![o, 0] ![n, w] inb).toLoadRect.idx (ix2 y0 y1)
        = (Rect.unit (s := (⟨2, ![H, w]⟩ : Shape)) ![a, 0] ![b, w] inb1).emb (ix2 ⟨o + y0.val - a, hb⟩ y1) := by
      funext x
      apply Fin.ext
      match x with
      | ⟨0, _⟩ => show o + 1 * y0.val = a + 1 * (o + y0.val - a); omega
      | ⟨1, _⟩ => rfl
    rw [e]
    exact View.canon_cons_emb _ _ _ _

variable (m : (ℓ : Loc nD τ sig) → Buf (Elt Ideal) ℓ) (ρ : Dev nD → PrngReg)

/-- Where the windows stand at a point. -/
theorem idx : ∀ t : Fin cfg0.N, win0_0.index t = ![t.val % 8, 0] ∧ win0_1.index t = ![0, t.val / 8] ∧ win0_2.index t = ![0, 11 + t.val / 8]
    ∧ win0_3.index t = ![0, t.val / 8] ∧ win0_4.index t = ![0, 11 + t.val / 8] ∧ win0_5.index t = ![0, t.val / 8] ∧ win0_6.index t = ![0, 11 + t.val / 8]
    ∧ win0_7.index t = ![t.val % 8, t.val / 8] :=
  (by decide +kernel : ∀ t : Fin grid0.N, win0_0.index t = ![t.val % 8, 0] ∧ win0_1.index t = ![0, t.val / 8] ∧ win0_2.index t = ![0, 11 + t.val / 8]
    ∧ win0_3.index t = ![0, t.val / 8] ∧ win0_4.index t = ![0, 11 + t.val / 8] ∧ win0_5.index t = ![0, t.val / 8] ∧ win0_6.index t = ![0, 11 + t.val / 8]
    ∧ win0_7.index t = ![t.val % 8, t.val / 8])

/-! ## The blocks -/

/-- The block of rows at a point. -/
def A (c : Dev nD) (t : Fin cfg0.N) : S1024x2048.Idx → EReal := iblk m c 0 t
/-- The block of the gate's weights at a point. -/
def Wg (c : Dev nD) (t : Fin cfg0.N) : S2048x512.Idx → EReal := iblk m c 1 t
/-- The block of the up's weights at a point. -/
def Wu (c : Dev nD) (t : Fin cfg0.N) : S2048x512.Idx → EReal := iblk m c 2 t

theorem ablk (c : Dev nD) (t : Fin cfg0.N) (r : Fin 1024) (k : Fin 2048) (q : Fin 8192) (h : q.val = t.val % 8 * 1024 + r.val) :
    A m c t (ix2 r k) = m ((c : Thread nD τ).loc main_arg0) (ix2 q k) := by
  obtain ⟨e0, e1, e2, e3, e4, e5, e6, e7⟩ := idx t
  refine (congrFun (V_main_arg0 m c) _).trans (congrArg _ (funext fun a => Fin.ext ?_))
  match a with
  | ⟨0, _⟩ =>
    show win0_0.index t (0 : Fin 2) * 1024 + 1 * r.val = q.val
    rw [e0, h]; simp
  | ⟨1, _⟩ =>
    show win0_0.index t (1 : Fin 2) * 2048 + 1 * k.val = k.val
    rw [e0]; simp

theorem wgblk (c : Dev nD) (t : Fin cfg0.N) (k : Fin 2048) (j : Fin 512) (q : Fin 11264) (h : q.val = t.val / 8 * 512 + j.val) :
    Wg m c t (ix2 k j) = m ((c : Thread nD τ).loc main_arg1) (ix2 k q) := by
  obtain ⟨e0, e1, e2, e3, e4, e5, e6, e7⟩ := idx t
  refine (congrFun (V_main_arg1 m c) _).trans (congrArg _ (funext fun a => Fin.ext ?_))
  match a with
  | ⟨0, _⟩ =>
    show win0_1.index t (0 : Fin 2) * 2048 + 1 * k.val = k.val
    rw [e1]; simp
  | ⟨1, _⟩ =>
    show win0_1.index t (1 : Fin 2) * 512 + 1 * j.val = q.val
    rw [e1, h]; simp

theorem wublk (c : Dev nD) (t : Fin cfg0.N) (k : Fin 2048) (j : Fin 512) (q : Fin 11264) (h : q.val = (11 + t.val / 8) * 512 + j.val) :
    Wu m c t (ix2 k j) = m ((c : Thread nD τ).loc main_arg1) (ix2 k q) := by
  obtain ⟨e0, e1, e2, e3, e4, e5, e6, e7⟩ := idx t
  refine (congrFun (V_main_arg1 m c) _).trans (congrArg _ (funext fun a => Fin.ext ?_))
  match a with
  | ⟨0, _⟩ =>
    show win0_2.index t (0 : Fin 2) * 2048 + 1 * k.val = k.val
    rw [e2]; simp
  | ⟨1, _⟩ =>
    show win0_2.index t (1 : Fin 2) * 512 + 1 * j.val = q.val
    rw [e2, h]; simp

theorem cgblk (c : Dev nD) (t : Fin cfg0.N) (k : Fin 3) (j : Fin 512) (q : Fin 11264) (h : q.val = t.val / 8 * 512 + j.val) :
    (iblk m c 3 t : Vec Ideal S3x512 .f32) (ix2 k j) = m ((c : Thread nD τ).loc main_arg2) (ix2 k q) := by
  obtain ⟨e0, e1, e2, e3, e4, e5, e6, e7⟩ := idx t
  refine (congrFun (V_main_arg2 m c) _).trans (congrArg _ (funext fun a => Fin.ext ?_))
  match a with
  | ⟨0, _⟩ =>
    show win0_3.index t (0 : Fin 2) * 3 + 1 * k.val = k.val
    rw [e3]; simp
  | ⟨1, _⟩ =>
    show win0_3.index t (1 : Fin 2) * 512 + 1 * j.val = q.val
    rw [e3, h]; simp

theorem cublk (c : Dev nD) (t : Fin cfg0.N) (k : Fin 3) (j : Fin 512) (q : Fin 11264) (h : q.val = (11 + t.val / 8) * 512 + j.val) :
    (iblk m c 4 t : Vec Ideal S3x512 .f32) (ix2 k j) = m ((c : Thread nD τ).loc main_arg2) (ix2 k q) := by
  obtain ⟨e0, e1, e2, e3, e4, e5, e6, e7⟩ := idx t
  refine (congrFun (V_main_arg2 m c) _).trans (congrArg _ (funext fun a => Fin.ext ?_))
  match a with
  | ⟨0, _⟩ =>
    show win0_4.index t (0 : Fin 2) * 3 + 1 * k.val = k.val
    rw [e4]; simp
  | ⟨1, _⟩ =>
    show win0_4.index t (1 : Fin 2) * 512 + 1 * j.val = q.val
    rw [e4, h]; simp

/-- The bias as the kernel takes it: one row. -/
theorem bias_row (c : Dev nD) (q : Fin 11264) :
    V m c main_v0 (ix2 0 q) = m ((c : Thread nD τ).loc main_arg3) (ix1 q) := by
  have hV : V m c main_v0 = broadcastInDim S1x11264 ![1] bcast_S11264_S1x11264_1 (m ((c : Thread nD τ).loc main_arg3)) := by
    unfold_abbrev_sides
    after_results
  rw [hV]
  pointwise

theorem bgblk (c : Dev nD) (t : Fin cfg0.N) (j : Fin 512) (q : Fin 11264) (h : q.val = t.val / 8 * 512 + j.val) :
    (iblk m c 5 t : Vec Ideal S1x512 .f32) (ix2 0 j) = m ((c : Thread nD τ).loc main_arg3) (ix1 q) := by
  obtain ⟨e0, e1, e2, e3, e4, e5, e6, e7⟩ := idx t
  refine Eq.trans (congrArg (V m c main_v0) (funext fun a => Fin.ext ?_)) (bias_row m c q)
  match a with
  | ⟨0, _⟩ =>
    show win0_5.index t (0 : Fin 2) * 1 + 1 * 0 = 0
    rw [e5]; simp
  | ⟨1, _⟩ =>
    show win0_5.index t (1 : Fin 2) * 512 + 1 * j.val = q.val
    rw [e5, h]; simp

theorem bublk (c : Dev nD) (t : Fin cfg0.N) (j : Fin 512) (q : Fin 11264) (h : q.val = (11 + t.val / 8) * 512 + j.val) :
    (iblk m c 6 t : Vec Ideal S1x512 .f32) (ix2 0 j) = m ((c : Thread nD τ).loc main_arg3) (ix1 q) := by
  obtain ⟨e0, e1, e2, e3, e4, e5, e6, e7⟩ := idx t
  refine Eq.trans (congrArg (V m c main_v0) (funext fun a => Fin.ext ?_)) (bias_row m c q)
  match a with
  | ⟨0, _⟩ =>
    show win0_6.index t (0 : Fin 2) * 1 + 1 * 0 = 0
    rw [e6]; simp
  | ⟨1, _⟩ =>
    show win0_6.index t (1 : Fin 2) * 512 + 1 * j.val = q.val
    rw [e6, h]; simp

/-! ## The scratches -/

/-- What the gate's weights' scratch holds after a point: the block at the first point of its run. -/
theorem held_g (c : Dev nD) (t : Fin cfg0.N) (y : S2048x512.Idx) :
    (outsAt0 m c t.val t.isLt).2.2.2.1 y = iblk m c 1 ⟨8 * (t.val / 8), Pipeline.run_start_lt t⟩ y := by
  refine Pipeline.eq_of_write_hold_apply (fun n h => (outsAt0 m c n h).2.2.2.1) 8 (fun t => iblk m c 1 t) ?_ ?_ t y
  · intro t h y
    rw [outsAt0_A m c t h]
    dsimp only
    frame_out
    exact pay4_apply _ _
  · intro t h y
    rw [outsAt0_B m c t h]
    rfl

/-- What the up's weights' scratch holds after a point: the block at the first point of its run. -/
theorem held_u (c : Dev nD) (t : Fin cfg0.N) (y : S2048x512.Idx) :
    (outsAt0 m c t.val t.isLt).2.2.2.2 y = iblk m c 2 ⟨8 * (t.val / 8), Pipeline.run_start_lt t⟩ y := by
  refine Pipeline.eq_of_write_hold_apply (fun n h => (outsAt0 m c n h).2.2.2.2) 8 (fun t => iblk m c 2 t) ?_ ?_ t y
  · intro t h y
    rw [outsAt0_A m c t h]
    dsimp only
    frame_out
    exact pay5_apply _ _
  · intro t h y
    rw [outsAt0_B m c t h]
    rfl

/-- The gate's product at a point. -/
def Dg (c : Dev nD) (t : Fin cfg0.N) : S1024x512.Idx → EReal := fun y =>
  ∑ k : Fin 2048, A m c t (ix2 (y 0) k) * Wg m c ⟨8 * (t.val / 8), Pipeline.run_start_lt t⟩ (ix2 k (y 1))
/-- The up's product at a point. -/
def Du (c : Dev nD) (t : Fin cfg0.N) : S1024x512.Idx → EReal := fun y =>
  ∑ k : Fin 2048, A m c t (ix2 (y 0) k) * Wu m c ⟨8 * (t.val / 8), Pipeline.run_start_lt t⟩ (ix2 k (y 1))

theorem first_eq (t : Fin cfg0.N) (h : t.val % 8 = 0) : (⟨8 * (t.val / 8), Pipeline.run_start_lt t⟩ : Fin cfg0.N) = t :=
  Fin.ext (by show 8 * (t.val / 8) = t.val; omega)
theorem prev_eq (t : Fin cfg0.N) (h : ¬ t.val % 8 = 0) (hl : t.val - 1 < cfg0.N) :
    (⟨8 * ((t.val - 1) / 8), Pipeline.run_start_lt (⟨t.val - 1, hl⟩ : Fin cfg0.N)⟩ : Fin cfg0.N) = ⟨8 * (t.val / 8), Pipeline.run_start_lt t⟩ :=
  Fin.ext (by show 8 * ((t.val - 1) / 8) = 8 * (t.val / 8); omega)

theorem dgA (c : Dev nD) (t : Fin cfg0.N) (h : t.val % 8 = 0) : k0_pay7 (iblk m c 0 t) (k0_pay4 (iblk m c 1 t)) = Dg m c t := by
  funext y
  rw [pay7_apply]
  unfold Dg
  rw [first_eq t h]
  refine Finset.sum_congr rfl fun k _ => ?_
  rw [pay4_apply]
  rfl
theorem duA (c : Dev nD) (t : Fin cfg0.N) (h : t.val % 8 = 0) : k0_pay12 (iblk m c 0 t) (k0_pay5 (iblk m c 2 t)) = Du m c t := by
  funext y
  rw [pay12_apply]
  unfold Du
  rw [first_eq t h]
  refine Finset.sum_congr rfl fun k _ => ?_
  rw [pay5_apply]
  rfl
theorem dgB (c : Dev nD) (t : Fin cfg0.N) (h : ¬ t.val % 8 = 0) (hl : t.val - 1 < cfg0.N) :
    k0_pay7 (iblk m c 0 t) (outsAt0 m c (t.val - 1) hl).2.2.2.1 = Dg m c t := by
  funext y
  rw [pay7_apply]
  unfold Dg
  refine Finset.sum_congr rfl fun k _ => ?_
  refine congrArg (fun z : EReal => A m c t (ix2 (y 0) k) * z) ?_
  refine (held_g m c ⟨t.val - 1, hl⟩ (ix2 k (y 1))).trans ?_
  rw [← prev_eq t h hl]
  rfl
theorem duB (c : Dev nD) (t : Fin cfg0.N) (h : ¬ t.val % 8 = 0) (hl : t.val - 1 < cfg0.N) :
    k0_pay12 (iblk m c 0 t) (outsAt0 m c (t.val - 1) hl).2.2.2.2 = Du m c t := by
  funext y
  rw [pay12_apply]
  unfold Du
  refine Finset.sum_congr rfl fun k _ => ?_
  refine congrArg (fun z : EReal => A m c t (ix2 (y 0) k) * z) ?_
  refine (held_u m c ⟨t.val - 1, hl⟩ (ix2 k (y 1))).trans ?_
  rw [← prev_eq t h hl]
  rfl

/-- The last rows of a buffer of rows are the second array's. -/
theorem rows_last {a b w : ℕ} (T : (⟨2, ![a, w]⟩ : Shape).Idx → EReal) (D : (⟨2, ![b, w]⟩ : Shape).Idx → EReal) (r : ℕ) (j : Fin w)
    (h : a ≤ r) (h' : r - a < b) : rows T D r j = D (ix2 ⟨r - a, h'⟩ j) := by
  unfold rows
  rw [dif_neg (by omega), dif_pos h']

/-- The first rows of a buffer of rows are the first array's. -/
theorem rows_first {a b w : ℕ} (T : (⟨2, ![a, w]⟩ : Shape).Idx → EReal) (D : (⟨2, ![b, w]⟩ : Shape).Idx → EReal) (r : ℕ) (j : Fin w)
    (h : r < a) : rows T D r j = T (ix2 ⟨r, h⟩ j) := by
  unfold rows
  rw [dif_pos h]

/-- The gate's tail after a point: the product's last eight rows. -/
theorem tail_g (c : Dev nD) (t : Fin cfg0.N) (r : Fin 8) (j : Fin 512) :
    (outsAt0 m c t.val t.isLt).2.1 (ix2 r j) = Dg m c t (ix2 ⟨1024 + r.val - 8, by omega⟩ j) := by
  by_cases h : t.val % 8 = 0
  · rw [outsAt0_A m c t h]
    dsimp only
    frame_out
    rw [dgA m c t h, pay8_apply]
    exact (read_rows _ _ _ 1024 8 (by omega) _ _ _ r j).trans (rows_last _ _ _ _ (by omega) _)
  · rw [outsAt0_B m c t h]
    dsimp only
    frame_out
    rw [read_unread_whole, dgB m c t h, pay8_apply]
    exact (read_rows _ _ _ 1024 8 (by omega) _ _ _ r j).trans (rows_last _ _ _ _ (by omega) _)

/-- The up's tail after a point: the product's last eight rows. -/
theorem tail_u (c : Dev nD) (t : Fin cfg0.N) (r : Fin 8) (j : Fin 512) :
    (outsAt0 m c t.val t.isLt).2.2.1 (ix2 r j) = Du m c t (ix2 ⟨1024 + r.val - 8, by omega⟩ j) := by
  by_cases h : t.val % 8 = 0
  · rw [outsAt0_A m c t h]
    dsimp only
    frame_out
    rw [duA m c t h, pay13_apply]
    exact (read_rows _ _ _ 1024 8 (by omega) _ _ _ r j).trans (rows_last _ _ _ _ (by omega) _)
  · rw [outsAt0_B m c t h]
    dsimp only
    frame_out
    rw [read_unread_whole, duB m c t h, pay13_apply]
    exact (read_rows _ _ _ 1024 8 (by omega) _ _ _ r j).trans (rows_last _ _ _ _ (by omega) _)

/-! ## A point's result -/

/-- A padded product of a block reads the whole padded product. -/
theorem pad_val (h : S8192x2048.Idx → EReal) (w : S2048x11264.Idx → EReal) (T : S8x512.Idx → EReal) (D : S1024x512.Idx → EReal)
    (base : ℕ) (q : Fin 11264) (j : Fin 512) (hb : base + 1024 ≤ 8192)
    (hT : ∀ r : Fin 8, 6 ≤ r.val → T (ix2 r j) = Yp h w (base + r.val - 6) q)
    (hD : ∀ r : Fin 1024, D (ix2 r j) = Y h w ⟨base + r.val, by omega⟩ q)
    (o : ℕ) (ho : 6 ≤ o) (ho' : o ≤ 8) (r : Fin 1024) (e : ℕ) (he : e = base + r.val + (o - 6)) :
    rows T D (o + r.val) j = Yp h w e q := by
  have hr := r.isLt
  by_cases c : o + r.val < 8
  · rw [rows_first _ _ _ _ c, hT _ (by show 6 ≤ o + r.val; omega)]
    congr 1
    show base + (o + r.val) - 6 = e
    omega
  · rw [rows_last _ _ _ _ (by omega) (by omega), hD]
    unfold Yp
    rw [dif_pos (by omega)]
    congr 1
    apply Fin.ext
    show base + (o + r.val - 8) = e - 2
    omega

/-- The gate's product at a point is the whole product's. -/
theorem dg_val (c : Dev nD) (t : Fin cfg0.N) (r : Fin 1024) (j : Fin 512) (p : Fin 8192) (q : Fin 11264) (hp : p.val = t.val % 8 * 1024 + r.val)
    (hq : q.val = t.val / 8 * 512 + j.val) :
    Dg m c t (ix2 r j) = Y (m ((c : Thread nD τ).loc main_arg0)) (m ((c : Thread nD τ).loc main_arg1)) p q := by
  refine Finset.sum_congr rfl fun k _ => ?_
  refine congrArg₂ (fun a b : EReal => a * b) (ablk m c t r k p hp) (wgblk m c _ k j q ?_)
  show q.val = 8 * (t.val / 8) / 8 * 512 + j.val
  omega

/-- The up's product at a point is the whole product's. -/
theorem du_val (c : Dev nD) (t : Fin cfg0.N) (r : Fin 1024) (j : Fin 512) (p : Fin 8192) (q : Fin 11264) (hp : p.val = t.val % 8 * 1024 + r.val)
    (hq : q.val = (11 + t.val / 8) * 512 + j.val) :
    Du m c t (ix2 r j) = Y (m ((c : Thread nD τ).loc main_arg0)) (m ((c : Thread nD τ).loc main_arg1)) p q := by
  refine Finset.sum_congr rfl fun k _ => ?_
  refine congrArg₂ (fun a b : EReal => a * b) (ablk m c t r k p hp) (wublk m c _ k j q ?_)
  show q.val = (11 + 8 * (t.val / 8) / 8) * 512 + j.val
  omega

/-- Before the first block of rows the padded product is zero. -/
theorem yp_zero (h : S8192x2048.Idx → EReal) (w : S2048x11264.Idx → EReal) (r : ℕ) (q : Fin 11264) (hr : r < 2) : Yp h w r q = 0 := by
  unfold Yp
  rw [dif_neg (by omega)]

/-- Where the padded product is not the padding. -/
theorem yp_pos (h : S8192x2048.Idx → EReal) (w : S2048x11264.Idx → EReal) (r : ℕ) (q : Fin 11264) (p : Fin 8192) (hr : r = p.val + 2) :
    Yp h w r q = Y h w p q := by
  unfold Yp
  rw [dif_pos (by omega)]
  congr 1
  apply Fin.ext
  show r - 2 = p.val
  omega

/-- A row of taps read through its load. -/
theorem tap (X : Vec Ideal S3x512 .f32) (k : Fin 3) (inb : ∀ a, (![k.val, 0] : Fin 2 → ℕ) a + (![1, 512] : Fin 2 → ℕ) a ≤ S3x512.size a) (j : Fin 512) :
    View.ld X (Rect.unit (s := S3x512) ![k.val, 0] ![1, 512] inb) (ix2 0 j) = X (ix2 k j) := by
  refine congrArg X (funext fun a => Fin.ext ?_)
  match a with
  | ⟨0, _⟩ => show k.val + 1 * 0 = k.val; omega
  | ⟨1, _⟩ => show 0 + 1 * j.val = j.val; omega

/-- What a point leaves in the result's block. -/
theorem after (c : Dev nD) (t : Fin cfg0.N) (r : Fin 1024) (j : Fin 512) (p q : Fin 11264)
    (hp : p.val = t.val / 8 * 512 + j.val) (hq : q.val = (11 + t.val / 8) * 512 + j.val) :
    (outsAt0 m c t.val t.isLt).1 (ix2 r j)
      = act (U (m ((c : Thread nD τ).loc main_arg0)) (m ((c : Thread nD τ).loc main_arg1)) (m ((c : Thread nD τ).loc main_arg2)) (m ((c : Thread nD τ).loc main_arg3)) (t.val % 8 * 1024 + r.val) p)
        * U (m ((c : Thread nD τ).loc main_arg0)) (m ((c : Thread nD τ).loc main_arg1)) (m ((c : Thread nD τ).loc main_arg2)) (m ((c : Thread nD τ).loc main_arg3)) (t.val % 8 * 1024 + r.val) q := by
  have ht : t.val % 8 < 8 := Nat.mod_lt _ (by omega)
  have hb : t.val % 8 * 1024 + 1024 ≤ 8192 := by omega
  have hDg : ∀ r : Fin 1024, Dg m c t (ix2 r j) = Y (m ((c : Thread nD τ).loc main_arg0)) (m ((c : Thread nD τ).loc main_arg1)) ⟨t.val % 8 * 1024 + r.val, by omega⟩ p :=
    fun r => dg_val m c t r j _ p rfl hp
  have hDu : ∀ r : Fin 1024, Du m c t (ix2 r j) = Y (m ((c : Thread nD τ).loc main_arg0)) (m ((c : Thread nD τ).loc main_arg1)) ⟨t.val % 8 * 1024 + r.val, by omega⟩ q :=
    fun r => du_val m c t r j _ q rfl hq
  unfold U
  by_cases h : t.val % 8 = 0
  · rw [outsAt0_A m c t h]
    dsimp only
    frame_out
    rw [dgA m c t h, duA m c t h, pay1_apply]
    have hTg : ∀ r : Fin 8, 6 ≤ r.val → k0_pay6 (F := Ideal) (k0_pay2 (F := Ideal)) (ix2 r j) = Yp (m ((c : Thread nD τ).loc main_arg0)) (m ((c : Thread nD τ).loc main_arg1)) (t.val % 8 * 1024 + r.val - 6) p := by
      intro r hr
      rw [pay6_apply, pay2_apply, yp_zero _ _ _ _ (by omega)]
    have hTu : ∀ r : Fin 8, 6 ≤ r.val → k0_pay11 (F := Ideal) (k0_pay3 (F := Ideal)) (ix2 r j) = Yp (m ((c : Thread nD τ).loc main_arg0)) (m ((c : Thread nD τ).loc main_arg1)) (t.val % 8 * 1024 + r.val - 6) q := by
      intro r hr
      rw [pay11_apply, pay3_apply, yp_zero _ _ _ _ (by omega)]
    have Pg := pad_val _ _ _ _ _ p j hb hTg hDg
    have Pu := pad_val _ _ _ _ _ q j hb hTu hDu
    refine congrArg₂ (fun a b : EReal => act a * b) (congrArg₂ (fun a b : EReal => a + b) (congrArg₂ (fun a b : EReal => a + b) (congrArg₂ (fun a b : EReal => a + b) ?_
      (congrArg₂ (fun a b : EReal => a * b) ?_ ?_)) (congrArg₂ (fun a b : EReal => a * b) ?_ ?_)) (congrArg₂ (fun a b : EReal => a * b) ?_ ?_))
      (congrArg₂ (fun a b : EReal => a + b) (congrArg₂ (fun a b : EReal => a + b) (congrArg₂ (fun a b : EReal => a + b) ?_
      (congrArg₂ (fun a b : EReal => a * b) ?_ ?_)) (congrArg₂ (fun a b : EReal => a * b) ?_ ?_)) (congrArg₂ (fun a b : EReal => a * b) ?_ ?_))
    · exact bgblk m c t j p hp
    · exact (tap _ 0 _ j).trans (cgblk m c t 0 j p hp)
    · exact (read_rows _ _ _ 6 1024 (by omega) _ _ _ r j).trans (Pg 6 (by omega) (by omega) r _ rfl)
    · exact (tap _ 1 _ j).trans (cgblk m c t 1 j p hp)
    · exact (read_rows _ _ _ 7 1024 (by omega) _ _ _ r j).trans (Pg 7 (by omega) (by omega) r _ rfl)
    · exact (tap _ 2 _ j).trans (cgblk m c t 2 j p hp)
    · exact (read_rows _ _ _ 8 1024 (by omega) _ _ _ r j).trans (Pg 8 (by omega) (by omega) r _ rfl)
    · exact bublk m c t j q hq
    · exact (tap _ 0 _ j).trans (cublk m c t 0 j q hq)
    · exact (read_rows _ _ _ 6 1024 (by omega) _ _ _ r j).trans (Pu 6 (by omega) (by omega) r _ rfl)
    · exact (tap _ 1 _ j).trans (cublk m c t 1 j q hq)
    · exact (read_rows _ _ _ 7 1024 (by omega) _ _ _ r j).trans (Pu 7 (by omega) (by omega) r _ rfl)
    · exact (tap _ 2 _ j).trans (cublk m c t 2 j q hq)
    · exact (read_rows _ _ _ 8 1024 (by omega) _ _ _ r j).trans (Pu 8 (by omega) (by omega) r _ rfl)
  · have hl : t.val - 1 < cfg0.N := lt_of_le_of_lt (Nat.sub_le _ _) t.isLt
    rw [outsAt0_B m c t h]
    dsimp only
    frame_out
    simp only [read_unread_whole]
    rw [dgB m c t h, duB m c t h, pay1_apply]
    have hTg : ∀ r : Fin 8, 6 ≤ r.val → k0_pay6 (F := Ideal) (outsAt0 m c (t.val - 1) hl).2.1 (ix2 r j) = Yp (m ((c : Thread nD τ).loc main_arg0)) (m ((c : Thread nD τ).loc main_arg1)) (t.val % 8 * 1024 + r.val - 6) p := by
      intro r hr
      rw [pay6_apply]
      refine (tail_g m c ⟨t.val - 1, hl⟩ r j).trans ((dg_val m c ⟨t.val - 1, hl⟩ _ j ⟨t.val % 8 * 1024 + r.val - 8, by omega⟩ p ?_ ?_).trans (yp_pos _ _ _ _ _ ?_).symm)
      · show t.val % 8 * 1024 + r.val - 8 = (t.val - 1) % 8 * 1024 + (1024 + r.val - 8); omega
      · show p.val = (t.val - 1) / 8 * 512 + j.val; omega
      · show t.val % 8 * 1024 + r.val - 6 = t.val % 8 * 1024 + r.val - 8 + 2; omega
    have hTu : ∀ r : Fin 8, 6 ≤ r.val → k0_pay11 (F := Ideal) (outsAt0 m c (t.val - 1) hl).2.2.1 (ix2 r j) = Yp (m ((c : Thread nD τ).loc main_arg0)) (m ((c : Thread nD τ).loc main_arg1)) (t.val % 8 * 1024 + r.val - 6) q := by
      intro r hr
      rw [pay11_apply]
      refine (tail_u m c ⟨t.val - 1, hl⟩ r j).trans ((du_val m c ⟨t.val - 1, hl⟩ _ j ⟨t.val % 8 * 1024 + r.val - 8, by omega⟩ q ?_ ?_).trans (yp_pos _ _ _ _ _ ?_).symm)
      · show t.val % 8 * 1024 + r.val - 8 = (t.val - 1) % 8 * 1024 + (1024 + r.val - 8); omega
      · show q.val = (11 + (t.val - 1) / 8) * 512 + j.val; omega
      · show t.val % 8 * 1024 + r.val - 6 = t.val % 8 * 1024 + r.val - 8 + 2; omega
    have Pg := pad_val _ _ _ _ _ p j hb hTg hDg
    have Pu := pad_val _ _ _ _ _ q j hb hTu hDu
    refine congrArg₂ (fun a b : EReal => act a * b) (congrArg₂ (fun a b : EReal => a + b) (congrArg₂ (fun a b : EReal => a + b) (congrArg₂ (fun a b : EReal => a + b) ?_
      (congrArg₂ (fun a b : EReal => a * b) ?_ ?_)) (congrArg₂ (fun a b : EReal => a * b) ?_ ?_)) (congrArg₂ (fun a b : EReal => a * b) ?_ ?_))
      (congrArg₂ (fun a b : EReal => a + b) (congrArg₂ (fun a b : EReal => a + b) (congrArg₂ (fun a b : EReal => a + b) ?_
      (congrArg₂ (fun a b : EReal => a * b) ?_ ?_)) (congrArg₂ (fun a b : EReal => a * b) ?_ ?_)) (congrArg₂ (fun a b : EReal => a * b) ?_ ?_))
    · exact bgblk m c t j p hp
    · exact (tap _ 0 _ j).trans (cgblk m c t 0 j p hp)
    · exact (read_rows _ _ _ 6 1024 (by omega) _ _ _ r j).trans (Pg 6 (by omega) (by omega) r _ rfl)
    · exact (tap _ 1 _ j).trans (cgblk m c t 1 j p hp)
    · exact (read_rows _ _ _ 7 1024 (by omega) _ _ _ r j).trans (Pg 7 (by omega) (by omega) r _ rfl)
    · exact (tap _ 2 _ j).trans (cgblk m c t 2 j p hp)
    · exact (read_rows _ _ _ 8 1024 (by omega) _ _ _ r j).trans (Pg 8 (by omega) (by omega) r _ rfl)
    · exact bublk m c t j q hq
    · exact (tap _ 0 _ j).trans (cublk m c t 0 j q hq)
    · exact (read_rows _ _ _ 6 1024 (by omega) _ _ _ r j).trans (Pu 6 (by omega) (by omega) r _ rfl)
    · exact (tap _ 1 _ j).trans (cublk m c t 1 j q hq)
    · exact (read_rows _ _ _ 7 1024 (by omega) _ _ _ r j).trans (Pu 7 (by omega) (by omega) r _ rfl)
    · exact (tap _ 2 _ j).trans (cublk m c t 2 j q hq)
    · exact (read_rows _ _ _ 8 1024 (by omega) _ _ _ r j).trans (Pu 8 (by omega) (by omega) r _ rfl)

/-- The result array after the run is `G` of the arguments. -/
theorem final (c : Dev nD) : (dats m 0 c).arrAt 7 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨e0, e1, e2, e3, e4, e5, e6, e7⟩ := idx t
  have hy : y = ix2 (y 0) (y 1) := by pointwise
  blk_simp
  rw [after0_7]
  have hy1 : (y 1).val < 512 := (y 1).isLt
  have ht : t.val < 88 := lt_of_lt_of_eq t.isLt N_0
  have h0 : ((((cfg0.win 7).blk t).view.emb y) 0).val = t.val % 8 * 1024 + (y 0).val := by blk_simp [e7]
  have h1 : ((((cfg0.win 7).blk t).view.emb y) 1).val = t.val / 8 * 512 + (y 1).val := by blk_simp [e7]
  refine (congrArg (outsAt0 m c t.val t.isLt).1 hy).trans ((after m c t (y 0) (y 1) (jg ((((cfg0.win 7).blk t).view.emb y) 1)) (ju ((((cfg0.win 7).blk t).view.emb y) 1)) h1 ?_).trans ?_)
  · show 5632 + ((((cfg0.win 7).blk t).view.emb y) 1).val = _
    rw [h1]; omega
  · unfold G
    rw [h0]

/-! ## The reference -/

/-- The convolution of real arrays is real. -/
theorem U_real (h : S8192x2048.Idx → EReal) (w : S2048x11264.Idx → EReal) (cw : S3x11264.Idx → EReal) (cb : S11264.Idx → EReal)
    (hh : ∀ i, IsReal (h i)) (hw : ∀ i, IsReal (w i)) (hc : ∀ i, IsReal (cw i)) (hb : ∀ i, IsReal (cb i)) (r : ℕ) (j : Fin 11264) :
    IsReal (U h w cw cb r j) := by
  have hY : ∀ r, IsReal (Yp h w r j) := by
    intro r
    unfold Yp
    split
    · exact IsReal.sum _ _ fun k _ => (hh _).mul (hw _)
    · exact IsReal.zero
  exact (((hb _).add ((hc _).mul (hY _))).add ((hc _).mul (hY _))).add ((hc _).mul (hY _))

/-- The call's result of real arrays with the gate as the reference writes it. -/
theorem G_eq (h : S8192x2048.Idx → EReal) (w : S2048x11264.Idx → EReal) (cw : S3x11264.Idx → EReal) (cb : S11264.Idx → EReal)
    (hh : ∀ i, IsReal (h i)) (hw : ∀ i, IsReal (w i)) (hc : ∀ i, IsReal (cw i)) (hb : ∀ i, IsReal (cb i)) (i : S8192x5632.Idx) :
    G h w cw cb i = U h w cw cb (i 0).val (jg (i 1)) * Ideal.div 1 (1 + Ideal.exp (-(U h w cw cb (i 0).val (jg (i 1)))))
      * U h w cw cb (i 0).val (ju (i 1)) := by
  unfold G
  exact congrArg (fun z : EReal => z * U h w cw cb (i 0).val (ju (i 1))) (act_eq (U_real h w cw cb hh hw hc hb _ _))

/-- The padding's word read as a float. -/
theorem zero_word : (FloatOps.sitofp .f32 (0#32) : Ideal .f32) = (0 : EReal) := by
  show (((0#32 : BitVec 32).toInt : ℝ) : EReal) = 0
  simp

/-- The kernel and the reference leave the same array. -/
theorem algebraic : Cert.algebraic_KUpIdeal_RUpIdeal_pre_up_finite (hKUpIdeal := Cert.KUpIdeal.Gen.facts) (hRUpIdeal := Cert.RUpIdeal.Gen.facts)
    (hPre_up_finite := Cert.Pre_up_finite.Gen.facts) := by
  intro m g m' g' hpre hag
  refine ⟨fun c => G (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (final m c), (h c).2⟩) (Cert.KUpIdeal.Value.run_blocks m g)
  · refine (θ_run Cert.RUpIdeal.defs _ _).mono (fun r h c => ⟨(h c).1.trans ?_, (h c).2⟩) (Cert.RUpIdeal.Value.run m' g')
    obtain ⟨h0, h1, h2, h3⟩ := hag c
    obtain ⟨p0, p1, p2, p3⟩ := hpre c
    have r0 : ∀ i, IsReal (m ((c : Thread nD τ).loc main_arg0) i) := fun i => real_of_cmp (congrFun p0 i)
    have r1 : ∀ i, IsReal (m ((c : Thread nD τ).loc main_arg1) i) := fun i => real_of_cmp (congrFun p1 i)
    have r2 : ∀ i, IsReal (m ((c : Thread nD τ).loc main_arg2) i) := fun i => real_of_cmp (congrFun p2 i)
    have r3 : ∀ i, IsReal (m ((c : Thread nD τ).loc main_arg3) i) := fun i => real_of_cmp (congrFun p3 i)
    clear h
    unfold Cert.RUpIdeal.Value.res_main_v30
    rw [h0, h1, h2, h3]
    funext i
    refine Eq.trans ?_ (G_eq _ _ _ _ r0 r1 r2 r3 i).symm
    clear r0 r1 r2 r3 p0 p1 p2 p3
    pointwise
    have hi0 : (i 0).val < 8192 := (i 0).isLt
    have hi1 : (i 1).val < 5632 := (i 1).isLt
    refine congrArg₂ (fun a b : EReal => a * Ideal.div 1 (1 + Ideal.exp (-a)) * b) ?_ ?_
    · unfold U
      refine congrArg₂ (fun a b : EReal => a + b) (congrArg₂ (fun a b : EReal => a + b) (congrArg₂ (fun a b : EReal => a + b) rfl
        ((mul_comm _ _).trans (congrArg₂ (fun a b : EReal => a * b) rfl ?_))) ((mul_comm _ _).trans (congrArg₂ (fun a b : EReal => a * b) rfl ?_)))
        ((mul_comm _ _).trans (congrArg₂ (fun a b : EReal => a * b) rfl ?_))
      · unfold Yp Y
        by_cases e : 2 ≤ (i 0).val
        · rw [dif_pos (by omega), dif_pos (by omega)]
          rfl
        · rw [dif_neg (by omega), dif_neg (by omega)]
          exact zero_word
      · unfold Yp Y
        by_cases e : 2 ≤ 1 + (i 0).val
        · rw [dif_pos (by omega), dif_pos (by omega)]
          simp only [Nat.add_comm 1]
          rfl
        · rw [dif_neg (by omega), dif_neg (by omega)]
          exact zero_word
      · unfold Yp Y
        rw [dif_pos (by omega), dif_pos (by omega)]
        rfl
    · unfold U
      refine congrArg₂ (fun a b : EReal => a + b) (congrArg₂ (fun a b : EReal => a + b) (congrArg₂ (fun a b : EReal => a + b) rfl
        ((mul_comm _ _).trans (congrArg₂ (fun a b : EReal => a * b) rfl ?_))) ((mul_comm _ _).trans (congrArg₂ (fun a b : EReal => a * b) rfl ?_)))
        ((mul_comm _ _).trans (congrArg₂ (fun a b : EReal => a * b) rfl ?_))
      · unfold Yp Y
        by_cases e : 2 ≤ (i 0).val
        · rw [dif_pos (by omega), dif_pos (by omega)]
          rfl
        · rw [dif_neg (by omega), dif_neg (by omega)]
          exact zero_word
      · unfold Yp Y
        by_cases e : 2 ≤ 1 + (i 0).val
        · rw [dif_pos (by omega), dif_pos (by omega)]
          simp only [Nat.add_comm 1]
          rfl
        · rw [dif_neg (by omega), dif_neg (by omega)]
          exact zero_word
      · unfold Yp Y
        rw [dif_pos (by omega), dif_pos (by omega)]
        rfl

end Cert.Proof.Up

end
-- ==== Proof.In.lean ====
/-
  The value of the input projection: every grid point writes its block of the normed rows times the weights' columns, the
  columns of the time steps left out, and the blocks tile the result. The block of the weights is narrowed into a
  scratch at the first point of each run of four and held there through the run.
-/
module

public import proofs.«01_k».proof.Defs
public import proofs.«01_k».proof.Proof.Gen.KInIdeal.Value
public import proofs.«01_k».proof.Proof.Gen.RInIdeal.Run
public import Idealize.ShloMosaic.Lib.Pipeline.ValueKit
public import Idealize.ShloMosaic.Lib.Pipeline.ValueKit.Held
public import Idealize.ShloMosaic.Lib.Pipeline.ReadBack

@[expose] public section

noncomputable section

namespace Cert.Proof.In

open Idealize.ShloMosaic Idealize.ShloMosaic.TcCoe Idealize.SL.Sem
open Cert.KInIdeal Cert.KInIdeal.Gen

variable (m : (ℓ : Loc nD τ sig) → Buf (Elt Ideal) ℓ) (ρ : Dev nD → PrngReg)

/-- The column of the weights that makes column `j` of the result. -/
def col (j : Fin 20480) : Fin 20544 := if j.val < 10240 then ⟨j.val, by omega⟩ else ⟨j.val + 64, by omega⟩

/-- The projection, index by index. -/
def G (h : S8192x2048.Idx → EReal) (w : S2048x20544.Idx → EReal) (i : S8192x20480.Idx) : EReal :=
  ∑ k : Fin 2048, h (ix2 (i 0) k) * w (ix2 k (col (i 1)))

/-- A sum whose terms are the projection's is the projection. -/
theorem G_of (h : S8192x2048.Idx → EReal) (w : S2048x20544.Idx → EReal) (i : S8192x20480.Idx) (f : Fin 2048 → EReal)
    (e : ∀ k, f k = h (ix2 (i 0) k) * w (ix2 k (col (i 1)))) : ∑ k : Fin 2048, f k = G h w i :=
  Finset.sum_congr rfl fun k _ => e k

/-- The first column of the weights' block at a point. -/
def off (n : ℕ) : ℕ := if n / 4 < 10 then n / 4 * 1024 else n / 4 * 1024 + 64

/-- Where the windows stand at a point. -/
theorem idx : ∀ t : Fin cfg0.N, win0_0.index t = ![t.val % 4, 0] ∧ win0_1.index t = ![off t.val, 0]
    ∧ win0_2.index t = ![t.val % 4, t.val / 4] :=
  (by decide +kernel : ∀ t : Fin grid0.N, win0_0.index t = ![t.val % 4, 0] ∧ win0_1.index t = ![off t.val, 0]
    ∧ win0_2.index t = ![t.val % 4, t.val / 4])

/-- The narrowed weights, index by index. -/
theorem pay1_apply (x : Vec Ideal S1024x2048 .f32) (y : S1024x2048.Idx) : k0_pay1 x y = x y := by
  unfold_payloads
  pointwise

/-- The block product, index by index. -/
theorem pay2_apply (x0 : Vec Ideal S2048x2048 .bf16) (w : Vec Ideal S1024x2048 .bf16) (y : S2048x1024.Idx) :
    k0_pay2 x0 w y = ∑ k : Fin 2048, x0 (ix2 (y 0) k) * w (ix2 (y 1) k) := by
  unfold_payloads
  pointwise

/-- The block of rows at a point. -/
def A (c : Dev nD) (t : Fin cfg0.N) : S2048x2048.Idx → EReal := iblk m c 0 t

/-- The block of the weights at a point. -/
def B (c : Dev nD) (t : Fin cfg0.N) : S1024x2048.Idx → EReal := iblk m c 1 t

/-- The block of the weights at a point, index by index. -/
theorem wblk (c : Dev nD) (t : Fin cfg0.N) (r : Fin 1024) (k : Fin 2048) (q : Fin 20544) (hq : q.val = off t.val + r.val) :
    B m c t (ix2 r k) = m ((c : Thread nD τ).loc main_arg1) (ix2 k q) := by
  obtain ⟨e0, e1, e2⟩ := idx t
  have hv : B m c t (ix2 r k) = V m c main_v0 (ix2 q k) := by
    show V m c main_v0 (((cfg0.win 1).blk t).view.emb (ix2 r k)) = _
    congr 1
    funext a
    apply Fin.ext
    match a with
    | ⟨0, _⟩ =>
      show win0_1.index t (0 : Fin 2) + 1 * r.val = q.val
      rw [e1, hq]; simp
    | ⟨1, _⟩ =>
      show win0_1.index t (1 : Fin 2) + 1 * k.val = k.val
      rw [e1]; simp
  have hV : V m c main_v0 = transpose S20544x2048 [1, 0] (m ((c : Thread nD τ).loc main_arg1)) transposes_S2048x20544_S20544x2048_1_0 := by
    unfold_abbrev_sides
    after_results
  rw [hv, hV]
  pointwise

/-- What the scratch holds after a point: the block of the weights at the first point of its run. -/
theorem held (c : Dev nD) (t : Fin cfg0.N) (y : S1024x2048.Idx) :
    (outsAt0 m c t.val t.isLt).2 y = iblk m c 1 ⟨4 * (t.val / 4), Pipeline.run_start_lt t⟩ y := by
  refine Pipeline.eq_of_write_hold_apply (fun n h => (outsAt0 m c n h).2) 4 (fun t => iblk m c 1 t) ?_ ?_ t y
  · intro t h y
    rw [outsAt0_A m c t h]
    dsimp only
    frame_out
    exact pay1_apply _ _
  · intro t h y
    rw [outsAt0_B m c t h]
    rfl

/-- What a point leaves in the result's block. -/
theorem after (c : Dev nD) (t : Fin cfg0.N) (y : S2048x1024.Idx) :
    (outsAt0 m c t.val t.isLt).1 y
      = ∑ k : Fin 2048, A m c t (ix2 (y 0) k) * B m c ⟨4 * (t.val / 4), Pipeline.run_start_lt t⟩ (ix2 (y 1) k) := by
  by_cases h : t.val % 4 = 0
  · rw [outsAt0_A m c t h]
    dsimp only
    frame_out
    rw [pay2_apply]
    have e : (⟨4 * (t.val / 4), Pipeline.run_start_lt t⟩ : Fin cfg0.N) = t := Fin.ext (by show 4 * (t.val / 4) = t.val; omega)
    rw [e]
    refine Finset.sum_congr rfl fun k _ => ?_
    rw [pay1_apply]
    rfl
  · rw [outsAt0_B m c t h]
    dsimp only
    frame_out
    rw [read_unread_whole, pay2_apply]
    have hp := held m c ⟨t.val - 1, by omega⟩
    have e : (⟨4 * ((t.val - 1) / 4), Pipeline.run_start_lt (⟨t.val - 1, by omega⟩ : Fin cfg0.N)⟩ : Fin cfg0.N) = ⟨4 * (t.val / 4), Pipeline.run_start_lt t⟩ :=
      Fin.ext (by show 4 * ((t.val - 1) / 4) = 4 * (t.val / 4); omega)
    refine Finset.sum_congr rfl fun k _ => ?_
    refine congrArg (fun z : EReal => A m c t (ix2 (y 0) k) * z) ?_
    refine (hp (ix2 (y 1) k)).trans ?_
    rw [← e]
    rfl

/-- The result array after the run is `G` of the arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2, after]
  refine G_of _ _ _ _ fun k => ?_
  refine congrArg₂ (fun a b : EReal => a * b) ?_ (wblk m c _ (y 1) k (col ((((cfg0.win 2).blk t).view.emb y) 1)) (by
    have hy : (y 1).val < 1024 := (y 1).isLt
    have ht : t.val < 80 := lt_of_lt_of_eq t.isLt N_0
    have e : ((((cfg0.win 2).blk t).view.emb y) 1).val = t.val / 4 * 1024 + (y 1).val := by
      blk_simp [e2]
    unfold col off
    dsimp only
    split <;> rename_i h1 <;> split <;> rename_i h2 <;> simp only [e] at * <;> omega))
  blk_point [A, iblk, V, e0, e2]

/-- The kernel and the reference leave the same array. -/
theorem algebraic : Cert.algebraic_KInIdeal_RInIdeal (hKInIdeal := Cert.KInIdeal.Gen.facts) (hRInIdeal := Cert.RInIdeal.Gen.facts) := by
  intro m g m' g' _ hag
  refine ⟨fun c => G (m ((c : Thread nD τ).loc main_arg0)) (m ((c : Thread nD τ).loc main_arg1)), ?_, ?_⟩
  · exact (θ_run defs _ _).mono (fun r h c => ⟨(h c).1.trans (final m c), (h c).2⟩) (Cert.KInIdeal.Value.run_blocks m g)
  · refine (θ_run Cert.RInIdeal.defs _ _).mono (fun r h c => ⟨(h c).1.trans ?_, (h c).2⟩) (Cert.RInIdeal.Value.run m' g')
    obtain ⟨h0, h1⟩ := hag c
    clear h
    rw [h0, h1]
    funext i
    unfold G col
    pointwise
    split
    · rfl
    · have e : 10304 + ((i 1).val - 10240) = (i 1).val + 64 := by omega
      simp only [e]

end Cert.Proof.In

end
-- ==== Proof.Safe.lean ====
/-
  Safety of a kernel body without its values. `Safe H p` says the program `p` runs from `H` and ends in `H`,
  whatever it computes; a load needs a buffer `H` keeps, a store a buffer `H` owns at some contents, a loop a
  safe region. The rules follow the program's shape, so a body is safe by walking its statements.
-/
module

public import Idealize.ShloMosaic.Lib.Pipeline.FrameBody
public import Idealize.ShloMosaic.Lib.Tactic
public import Idealize.ShloMosaic.Lib.Scf

@[expose] public section

noncomputable section

namespace Cert.Proof.Safe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

section
variable (defs : Defs nD τ sig Val Λ) (𝒱 : Variants) (c : Thread nD τ) (E : Set ℕ)

/-- `H` keeps a share of a set of elements with the memref's among them: they can be read, and given back as they were. -/
def Keeps (H : sProp 𝕄) {sp : Space} {s : Shape} {e : EltTy} (m : Memref sig c.2.kind sp s e) : Prop :=
  ∃ S : Finset m.view.ty.Idx, m.view.set ⊆ S ∧
    (H ⊢ iprop(∃ q : PosShare TreeShare, ∃ g, (m.view.loc c ↦[S]{q} g) ∗ ((m.view.loc c ↦[S]{q} g) -∗ H)))

/-- `H` owns a set of elements with the memref's among them at some contents: they can be written, and given back at any. -/
def Owns (H : sProp 𝕄) {sp : Space} {s : Shape} {e : EltTy} (m : Memref sig c.2.kind sp s e) : Prop :=
  ∃ S : Finset m.view.ty.Idx, m.view.set ⊆ S ∧
    (H ⊢ iprop(∃ g, (m.view.loc c ↦[S]{fullShare} g) ∗ (∀ g', (m.view.loc c ↦[S]{fullShare} g') -∗ H)))

theorem Owns.keeps {H : sProp 𝕄} {sp : Space} {s : Shape} {e : EltTy} {m : Memref sig c.2.kind sp s e} (h : Owns c H m) : Keeps c H m := by
  obtain ⟨S, hS, h⟩ := h
  refine ⟨S, hS, h.trans ?_⟩
  iintro ⟨%g, Hg, Hk⟩
  iexists fullShare, g
  isplitl [Hg]; · iexact Hg
  iintro Hg; iapply Hk; iexact Hg

theorem Owns.left {H K : sProp 𝕄} {sp : Space} {s : Shape} {e : EltTy} {m : Memref sig c.2.kind sp s e} (h : Owns c H m) :
    Owns c iprop(H ∗ K) m := by
  obtain ⟨S, hS, h⟩ := h
  refine ⟨S, hS, (sep_mono_left h).trans ?_⟩
  iintro ⟨⟨%g, Hg, Hk⟩, HK⟩
  iexists g
  isplitl [Hg]; · iexact Hg
  iintro %g' Hg
  isplitl [Hk Hg]
  · iapply Hk; iexact Hg
  iexact HK

theorem Owns.right {H K : sProp 𝕄} {sp : Space} {s : Shape} {e : EltTy} {m : Memref sig c.2.kind sp s e} (h : Owns c K m) :
    Owns c iprop(H ∗ K) m := by
  obtain ⟨S, hS, h⟩ := h
  refine ⟨S, hS, (sep_mono_right h).trans ?_⟩
  iintro ⟨HH, %g, Hg, Hk⟩
  iexists g
  isplitl [Hg]; · iexact Hg
  iintro %g' Hg
  isplitl [HH]; · iexact HH
  iapply Hk; iexact Hg

theorem Keeps.left {H K : sProp 𝕄} {sp : Space} {s : Shape} {e : EltTy} {m : Memref sig c.2.kind sp s e} (h : Keeps c H m) :
    Keeps c iprop(H ∗ K) m := by
  obtain ⟨S, hS, h⟩ := h
  refine ⟨S, hS, (sep_mono_left h).trans ?_⟩
  iintro ⟨⟨%q, %g, Hg, Hk⟩, HK⟩
  iexists q, g
  isplitl [Hg]; · iexact Hg
  iintro Hg
  isplitl [Hk Hg]
  · iapply Hk; iexact Hg
  iexact HK

theorem Keeps.right {H K : sProp 𝕄} {sp : Space} {s : Shape} {e : EltTy} {m : Memref sig c.2.kind sp s e} (h : Keeps c K m) :
    Keeps c iprop(H ∗ K) m := by
  obtain ⟨S, hS, h⟩ := h
  refine ⟨S, hS, (sep_mono_right h).trans ?_⟩
  iintro ⟨HH, %q, %g, Hg, Hk⟩
  iexists q, g
  isplitl [Hg]; · iexact Hg
  iintro Hg
  isplitl [HH]; · iexact HH
  iapply Hk; iexact Hg

/-- A memref owned at some contents. -/
theorem owns_some {sp : Space} {s : Shape} {e : EltTy} (m : Memref sig c.2.kind sp s e) :
    Owns c (iprop(∃ d, owns c m fullShare d) : sProp 𝕄) m := by
  unfold owns
  refine ⟨m.view.set, subset_rfl, ?_⟩
  iintro ⟨%d, %g, %hg, Hg⟩
  iexists g
  isplitl [Hg]; · iexact Hg
  iintro %g' Hg
  iexists _, g'
  isplitr; · ipureintro; rfl
  iexact Hg

/-- A whole buffer owned at some contents. -/
theorem owns_buf (b : Ref sig c.2.kind) :
    Owns c (iprop(∃ f : Buf Val (c.loc b), (c.loc b) ↦{fullShare} f) : sProp 𝕄) (Memref.whole b) := by
  have h := owns_some (Val := Val) c (Memref.whole b)
  simp only [owns_whole] at h
  exact h

/-- A memref held at a given contents. -/
theorem keeps_at {sp : Space} {s : Shape} {e : EltTy} (m : Memref sig c.2.kind sp s e) (q : PosShare TreeShare) (d : s.Idx → Val e) :
    Keeps c (owns c m q d : sProp 𝕄) m := by
  unfold owns
  refine ⟨m.view.set, subset_rfl, ?_⟩
  iintro ⟨%g, %hg, Hg⟩
  iexists q, g
  isplitl [Hg]; · iexact Hg
  iintro Hg
  iexists g
  isplitr; · ipureintro; exact hg
  iexact Hg

/-- A slice and a squeezed memref are kept, and owned, with the memref they are cut from. -/
theorem Keeps.a {H : sProp 𝕄} {sp : Space} {s : Shape} {e : EltTy} {m : Memref sig c.2.kind sp s e} (h : Keeps c H m) {r : Rect s}
    {hr : ∀ a, r.stride a = 1} : Keeps c H (m.slice r hr) :=
  let ⟨S, hS, h⟩ := h; ⟨S, (View.set_slice_subset _ _).trans hS, h⟩

theorem Keeps.q {H : sProp 𝕄} {sp : Space} {s s' : Shape} {e : EltTy} {m : Memref sig c.2.kind sp s e} (h : Keeps c H m)
    {hq : s.Squeezes s'} : Keeps c H (m.squeeze s' hq) :=
  let ⟨S, hS, h⟩ := h; ⟨S, (View.set_reshape_subset _ _ hS), h⟩

theorem Owns.a {H : sProp 𝕄} {sp : Space} {s : Shape} {e : EltTy} {m : Memref sig c.2.kind sp s e} (h : Owns c H m) {r : Rect s}
    {hr : ∀ a, r.stride a = 1} : Owns c H (m.slice r hr) :=
  let ⟨S, hS, h⟩ := h; ⟨S, (View.set_slice_subset _ _).trans hS, h⟩

theorem Owns.q {H : sProp 𝕄} {sp : Space} {s s' : Shape} {e : EltTy} {m : Memref sig c.2.kind sp s e} (h : Owns c H m)
    {hq : s.Squeezes s'} : Owns c H (m.squeeze s' hq) :=
  let ⟨S, hS, h⟩ := h; ⟨S, (View.set_reshape_subset _ _ hS), h⟩

/-- The program runs from `H` to `H`. -/
def Safe (H : sProp 𝕄) {α : Type} (p : Prog (TpuEff nD τ sig Val Λ c.2) α) : Prop :=
  H ⊢ wp frame (wpE defs 𝒱 c none) E p (fun _ => H)

end

namespace Safe

section
variable {nD : Nat} {τ : Topo} {sig : RefSig} {Val : EltTy → Type} {Λ : Labels} {defs : Defs nD τ sig Val Λ} {𝒱 : Variants}
  {c : Thread nD τ} {E : Set ℕ} {H : sProp (MT nD τ sig Unit Val ℕ (UR sig nD τ) ℕ)} {α β : Type}

theorem ret (a : α) : Safe defs 𝒱 c E H (.ret a) := le_wp_ret _ _ _ a (fun _ => H)

theorem pure (a : α) : Safe defs 𝒱 c E H (Pure.pure a) := ret a

theorem bind {p : Prog (TpuEff nD τ sig Val Λ c.2) α} {f : α → Prog (TpuEff nD τ sig Val Λ c.2) β}
    (hp : Safe defs 𝒱 c E H p) (hf : ∀ a, Safe defs 𝒱 c E H (f a)) : Safe defs 𝒱 c E H (p >>= f) := by
  unfold Safe
  rw [wp_bind]
  exact hp.trans (wp_mono _ _ _ fun a => hf a)

theorem load {cs : CoreSpace} {s : Shape} {e : EltTy} {m : Memref sig c.2.kind cs s e} {r : LoadRect s} {hl : m.view.LoadsAt r}
    (hm : Keeps c H m) {k : (r.shape.Idx → Val e) → Prog (TpuEff nD τ sig Val Λ c.2) α} (hk : ∀ v, Safe defs 𝒱 c E H (k v)) :
    Safe defs 𝒱 c E H (.op (.load m r hl) k) := by
  unfold Safe at *
  obtain ⟨S, hS, hm⟩ := hm
  refine hm.trans ?_
  iintro ⟨%q, %g, Hg, Hk⟩
  iapply (wp_load (defs := defs) 𝒱 c none E (m := m) (r := r) (hl := hl) (S := S) (q := q) (f := g) ((View.setOn_subset_set _ _).trans hS)) $$ Hg
  iintro Hg
  iapply (hk _)
  iapply Hk; iexact Hg

theorem store {cs : CoreSpace} {s : Shape} {e : EltTy} {m : Memref sig c.2.kind cs s e} {r : Rect s} {w : r.shape.Idx → Val e}
    {Mk : Finset r.shape.Idx} {hx : (m.access r).Stores Mk} {hs : Mk = Finset.univ ∨ ∀ a, r.stride a = 1}
    (hm : Owns c H m) {k : PUnit → Prog (TpuEff nD τ sig Val Λ c.2) α} (hk : Safe defs 𝒱 c E H (k ⟨⟩)) :
    Safe defs 𝒱 c E H (.op (.store m r w Mk hx hs) k) := by
  unfold Safe at *
  obtain ⟨S, hS, hm⟩ := hm
  refine hm.trans ?_
  iintro ⟨%g, Hg, Hk⟩
  iapply (wp_store (defs := defs) 𝒱 c none E (m := m) (r := r) (w := w) (Mk := Mk) (hx := hx) (hm := hs) (S := S) (f := g)
    (((View.setOn_subset_set _ _).trans (View.set_slice_subset _ _)).trans hS)) $$ Hg
  iintro Hg
  iapply hk
  iapply Hk; iexact Hg

/-- A load, a store and a scalar load as single statements. -/
theorem lload {cs : CoreSpace} {s : Shape} {e : EltTy} {m : Memref sig c.2.kind cs s e} {r : LoadRect s} {hl : m.view.LoadsAt r}
    (hm : Keeps c H m) : Safe defs 𝒱 c E H (Prog.lift (.load m r hl)) := load hm fun v => ret v

theorem lstore {cs : CoreSpace} {s : Shape} {e : EltTy} {m : Memref sig c.2.kind cs s e} {r : Rect s} {w : r.shape.Idx → Val e}
    {Mk : Finset r.shape.Idx} {hx : (m.access r).Stores Mk} {hs : Mk = Finset.univ ∨ ∀ a, r.stride a = 1}
    (hm : Owns c H m) : Safe defs 𝒱 c E H (Prog.lift (.store m r w Mk hx hs)) := store hm (ret PUnit.unit)

theorem word {s : Shape} {e : EltTy} {m : Memref sig c.2.kind .smem s e} {r : Rect s} {h1 : r.shape.numel = 1} {hp : e.packing = 1}
    (hm : Keeps c H m) : Safe defs 𝒱 c E H (smemLoad m r h1 hp) := load hm fun v => ret _

/-- A load, a store and a scalar load before the rest of a body. -/
theorem l {cs : CoreSpace} {s : Shape} {e : EltTy} {m : Memref sig c.2.kind cs s e} {r : LoadRect s} {hl : m.view.LoadsAt r}
    (hm : Keeps c H m) {f : (r.shape.Idx → Val e) → Prog (TpuEff nD τ sig Val Λ c.2) β} (hf : ∀ a, Safe defs 𝒱 c E H (f a)) :
    Safe defs 𝒱 c E H (Prog.lift (.load m r hl) >>= f) := bind (lload hm) hf

theorem s {cs : CoreSpace} {s : Shape} {e : EltTy} {m : Memref sig c.2.kind cs s e} {r : Rect s} {w : r.shape.Idx → Val e}
    {Mk : Finset r.shape.Idx} {hx : (m.access r).Stores Mk} {hs : Mk = Finset.univ ∨ ∀ a, r.stride a = 1}
    (hm : Owns c H m) {f : PUnit → Prog (TpuEff nD τ sig Val Λ c.2) β} (hf : Safe defs 𝒱 c E H (f PUnit.unit)) :
    Safe defs 𝒱 c E H (Prog.lift (.store m r w Mk hx hs) >>= f) := bind (lstore hm) fun _ => hf

theorem w {s : Shape} {e : EltTy} {m : Memref sig c.2.kind .smem s e} {r : Rect s} {h1 : r.shape.numel = 1} {hp : e.packing = 1}
    (hm : Keeps c H m) {f : Val e → Prog (TpuEff nD τ sig Val Λ c.2) β} (hf : ∀ a, Safe defs 𝒱 c E H (f a)) :
    Safe defs 𝒱 c E H (smemLoad m r h1 hp >>= f) := bind (word hm) hf

theorem loop {σ : Type} {w : Nat} {l : Scf.Loop w} {hok : l.OK} {init : σ} {body : Fin l.trips → σ → Prog (TpuEff nD τ sig Val Λ c.2) σ}
    (hb : ∀ k acc, Safe defs 𝒱 c E H (body k acc)) : Safe defs 𝒱 c E H (Scf.Loop.for l hok init body) := by
  refine BIBase.Entails.trans ?_ (Scf.wp_for frame (wpE defs 𝒱 c none) E l.lb l.ub l.st hok init body (fun _ _ => H) hb)
  iintro HH
  isplitl [HH]; · iexact HH
  iintro %acc HH; iexact HH

theorem cond {p : Prop} [Decidable p] {t : p → Prog (TpuEff nD τ sig Val Λ c.2) α} {f : ¬p → Prog (TpuEff nD τ sig Val Λ c.2) α}
    (ht : ∀ h, Safe defs 𝒱 c E H (t h)) (hf : ∀ h, Safe defs 𝒱 c E H (f h)) : Safe defs 𝒱 c E H (dite p t f) := by
  by_cases h : p
  · rw [dif_pos h]; exact ht h
  · rw [dif_neg h]; exact hf h

end

end Safe

end Cert.Proof.Safe
end
-- ==== Proof.KMobaIdealBufs.lean ====
/-
  The buffers the attention body runs on, taken together, and what a proposition must hold of them for the body
  to be safe.
-/
module

public import proofs.«01_k».proof.KMobaIdeal
public import proofs.«01_k».proof.Proof.Safe

@[expose] public section

set_option synthInstance.maxSize 4096

noncomputable section

namespace Cert.Proof.KMobaIdeal

open Idealize.ShloMosaic Idealize.ShloMosaic.TcCoe Idealize.SL.Sem Idealize.SL.BI
open Cert.KMobaIdeal Cert.Proof.Safe

/-- The body's memrefs. -/
structure Bufs where
  arg2 : Memref sig .tc .smem S16x32 .f32
  harg2 : arg2.IsWhole
  arg3 : Memref sig .tc .vmem S4x1x128x256 .bf16
  harg3 : arg3.IsWhole
  arg4 : Memref sig .tc .vmem S4x8192x128 .bf16
  harg4 : arg4.IsWhole
  arg5 : Memref sig .tc .vmem S4x32x144x256 .bf16
  harg5 : arg5.IsWhole
  arg6 : Memref sig .tc .vmem S4x1x32x256 .f32
  harg6 : arg6.IsWhole
  arg7 : Memref sig .tc .vmem S256x512 .bf16
  harg7 : arg7.IsWhole
  arg8 : Memref sig .tc .vmem S4x256x256 .f32
  harg8 : arg8.IsWhole
  arg9 : Memref sig .tc .vmem S4x256x256 .f32
  harg9 : arg9.IsWhole
  arg10 : Memref sig .tc .vmem S4x1x256 .f32
  harg10 : arg10.IsWhole
  arg11 : Memref sig .tc .vmem S4x144x256 .f32
  harg11 : arg11.IsWhole
  arg12 : Memref sig .tc .vmem S4x256x256 .f32
  harg12 : arg12.IsWhole
  arg13 : Memref sig .tc .vmem S4x256x256 .f32
  harg13 : arg13.IsWhole
  arg14 : Memref sig .tc .vmem S4x256x256 .f32
  harg14 : arg14.IsWhole
  arg15 : Memref sig .tc .vmem S4x256x256 .f32
  harg15 : arg15.IsWhole
  arg16 : Memref sig .tc .vmem S4x256x256 .f32
  harg16 : arg16.IsWhole
  arg17 : Memref sig .tc .vmem S4x256x256 .f32
  harg17 : arg17.IsWhole
  arg18 : Memref sig .tc .vmem S4x256x256 .f32
  harg18 : arg18.IsWhole
  arg19 : Memref sig .tc .vmem S4x256x256 .f32
  harg19 : arg19.IsWhole
  arg20 : Memref sig .tc .vmem S4x256x256 .bf16
  harg20 : arg20.IsWhole
  arg21 : Memref sig .tc .vmem S4x256x256 .bf16
  harg21 : arg21.IsWhole
  arg22 : Memref sig .tc .vmem S4x256x256 .bf16
  harg22 : arg22.IsWhole
  arg23 : Memref sig .tc .vmem S4x256x256 .bf16
  harg23 : arg23.IsWhole
  arg24 : Memref sig .tc .vmem S4x256x256 .bf16
  harg24 : arg24.IsWhole
  arg25 : Memref sig .tc .vmem S4x256x256 .bf16
  harg25 : arg25.IsWhole
  arg26 : Memref sig .tc .vmem S4x256x256 .bf16
  harg26 : arg26.IsWhole
  arg27 : Memref sig .tc .vmem S4x256x256 .bf16
  harg27 : arg27.IsWhole
  arg28 : Memref sig .tc .vmem S4x1x256 .f32
  harg28 : arg28.IsWhole
  arg29 : Memref sig .tc .vmem S4x1x256 .f32
  harg29 : arg29.IsWhole
  arg30 : Memref sig .tc .vmem S4x1x256 .f32
  harg30 : arg30.IsWhole
  arg31 : Memref sig .tc .vmem S4x1x256 .f32
  harg31 : arg31.IsWhole
  arg32 : Memref sig .tc .vmem S4x1x256 .f32
  harg32 : arg32.IsWhole
  arg33 : Memref sig .tc .vmem S4x1x256 .f32
  harg33 : arg33.IsWhole
  arg34 : Memref sig .tc .vmem S4x1x256 .f32
  harg34 : arg34.IsWhole
  arg35 : Memref sig .tc .vmem S4x1x256 .f32
  harg35 : arg35.IsWhole

/-- A function of the memrefs, at these. -/
abbrev Bufs.on (b : Bufs) {γ : Type 1} (f : (arg2 : Memref sig .tc .smem S16x32 .f32) → arg2.IsWhole → (arg3 : Memref sig .tc .vmem S4x1x128x256 .bf16) → arg3.IsWhole → (arg4 : Memref sig .tc .vmem S4x8192x128 .bf16) → arg4.IsWhole → (arg5 : Memref sig .tc .vmem S4x32x144x256 .bf16) → arg5.IsWhole → (arg6 : Memref sig .tc .vmem S4x1x32x256 .f32) → arg6.IsWhole → (arg7 : Memref sig .tc .vmem S256x512 .bf16) → arg7.IsWhole → (arg8 : Memref sig .tc .vmem S4x256x256 .f32) → arg8.IsWhole → (arg9 : Memref sig .tc .vmem S4x256x256 .f32) → arg9.IsWhole → (arg10 : Memref sig .tc .vmem S4x1x256 .f32) → arg10.IsWhole → (arg11 : Memref sig .tc .vmem S4x144x256 .f32) → arg11.IsWhole → (arg12 : Memref sig .tc .vmem S4x256x256 .f32) → arg12.IsWhole → (arg13 : Memref sig .tc .vmem S4x256x256 .f32) → arg13.IsWhole → (arg14 : Memref sig .tc .vmem S4x256x256 .f32) → arg14.IsWhole → (arg15 : Memref sig .tc .vmem S4x256x256 .f32) → arg15.IsWhole → (arg16 : Memref sig .tc .vmem S4x256x256 .f32) → arg16.IsWhole → (arg17 : Memref sig .tc .vmem S4x256x256 .f32) → arg17.IsWhole → (arg18 : Memref sig .tc .vmem S4x256x256 .f32) → arg18.IsWhole → (arg19 : Memref sig .tc .vmem S4x256x256 .f32) → arg19.IsWhole → (arg20 : Memref sig .tc .vmem S4x256x256 .bf16) → arg20.IsWhole → (arg21 : Memref sig .tc .vmem S4x256x256 .bf16) → arg21.IsWhole → (arg22 : Memref sig .tc .vmem S4x256x256 .bf16) → arg22.IsWhole → (arg23 : Memref sig .tc .vmem S4x256x256 .bf16) → arg23.IsWhole → (arg24 : Memref sig .tc .vmem S4x256x256 .bf16) → arg24.IsWhole → (arg25 : Memref sig .tc .vmem S4x256x256 .bf16) → arg25.IsWhole → (arg26 : Memref sig .tc .vmem S4x256x256 .bf16) → arg26.IsWhole → (arg27 : Memref sig .tc .vmem S4x256x256 .bf16) → arg27.IsWhole → (arg28 : Memref sig .tc .vmem S4x1x256 .f32) → arg28.IsWhole → (arg29 : Memref sig .tc .vmem S4x1x256 .f32) → arg29.IsWhole → (arg30 : Memref sig .tc .vmem S4x1x256 .f32) → arg30.IsWhole → (arg31 : Memref sig .tc .vmem S4x1x256 .f32) → arg31.IsWhole → (arg32 : Memref sig .tc .vmem S4x1x256 .f32) → arg32.IsWhole → (arg33 : Memref sig .tc .vmem S4x1x256 .f32) → arg33.IsWhole → (arg34 : Memref sig .tc .vmem S4x1x256 .f32) → arg34.IsWhole → (arg35 : Memref sig .tc .vmem S4x1x256 .f32) → arg35.IsWhole → γ) : γ :=
  f b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 b.arg29 b.harg29 b.arg30 b.harg30 b.arg31 b.harg31 b.arg32 b.harg32 b.arg33 b.harg33 b.arg34 b.harg34 b.arg35 b.harg35

variable {F : FTy → Type} [FloatOps F]

/-- The inputs are kept and the output and the scratches owned. -/
structure Bufs.Held (b : Bufs) (c : Dev nD) (H : sProp (MT nD τ sig Unit (Elt F) ℕ (UR sig nD τ) ℕ)) : Prop where
  r2 : Keeps (c : Thread nD τ) H b.arg2
  r3 : Keeps (c : Thread nD τ) H b.arg3
  r4 : Keeps (c : Thread nD τ) H b.arg4
  r5 : Keeps (c : Thread nD τ) H b.arg5
  r6 : Keeps (c : Thread nD τ) H b.arg6
  w7 : Owns (c : Thread nD τ) H b.arg7
  w8 : Owns (c : Thread nD τ) H b.arg8
  w9 : Owns (c : Thread nD τ) H b.arg9
  w10 : Owns (c : Thread nD τ) H b.arg10
  w11 : Owns (c : Thread nD τ) H b.arg11
  w12 : Owns (c : Thread nD τ) H b.arg12
  w13 : Owns (c : Thread nD τ) H b.arg13
  w14 : Owns (c : Thread nD τ) H b.arg14
  w15 : Owns (c : Thread nD τ) H b.arg15
  w16 : Owns (c : Thread nD τ) H b.arg16
  w17 : Owns (c : Thread nD τ) H b.arg17
  w18 : Owns (c : Thread nD τ) H b.arg18
  w19 : Owns (c : Thread nD τ) H b.arg19
  w20 : Owns (c : Thread nD τ) H b.arg20
  w21 : Owns (c : Thread nD τ) H b.arg21
  w22 : Owns (c : Thread nD τ) H b.arg22
  w23 : Owns (c : Thread nD τ) H b.arg23
  w24 : Owns (c : Thread nD τ) H b.arg24
  w25 : Owns (c : Thread nD τ) H b.arg25
  w26 : Owns (c : Thread nD τ) H b.arg26
  w27 : Owns (c : Thread nD τ) H b.arg27
  w28 : Owns (c : Thread nD τ) H b.arg28
  w29 : Owns (c : Thread nD τ) H b.arg29
  w30 : Owns (c : Thread nD τ) H b.arg30
  w31 : Owns (c : Thread nD τ) H b.arg31
  w32 : Owns (c : Thread nD τ) H b.arg32
  w33 : Owns (c : Thread nD τ) H b.arg33
  w34 : Owns (c : Thread nD τ) H b.arg34
  w35 : Owns (c : Thread nD τ) H b.arg35

variable {b : Bufs} {c : Dev nD} {H : sProp (MT nD τ sig Unit (Elt F) ℕ (UR sig nD τ) ℕ)} (h : b.Held c H)
include h

theorem Bufs.Held.k2 : Keeps (c : Thread nD τ) H b.arg2 := h.r2
theorem Bufs.Held.k3 : Keeps (c : Thread nD τ) H b.arg3 := h.r3
theorem Bufs.Held.k4 : Keeps (c : Thread nD τ) H b.arg4 := h.r4
theorem Bufs.Held.k5 : Keeps (c : Thread nD τ) H b.arg5 := h.r5
theorem Bufs.Held.k6 : Keeps (c : Thread nD τ) H b.arg6 := h.r6
theorem Bufs.Held.k7 : Keeps (c : Thread nD τ) H b.arg7 := h.w7.keeps
theorem Bufs.Held.k8 : Keeps (c : Thread nD τ) H b.arg8 := h.w8.keeps
theorem Bufs.Held.k9 : Keeps (c : Thread nD τ) H b.arg9 := h.w9.keeps
theorem Bufs.Held.k10 : Keeps (c : Thread nD τ) H b.arg10 := h.w10.keeps
theorem Bufs.Held.k11 : Keeps (c : Thread nD τ) H b.arg11 := h.w11.keeps
theorem Bufs.Held.k12 : Keeps (c : Thread nD τ) H b.arg12 := h.w12.keeps
theorem Bufs.Held.k13 : Keeps (c : Thread nD τ) H b.arg13 := h.w13.keeps
theorem Bufs.Held.k14 : Keeps (c : Thread nD τ) H b.arg14 := h.w14.keeps
theorem Bufs.Held.k15 : Keeps (c : Thread nD τ) H b.arg15 := h.w15.keeps
theorem Bufs.Held.k16 : Keeps (c : Thread nD τ) H b.arg16 := h.w16.keeps
theorem Bufs.Held.k17 : Keeps (c : Thread nD τ) H b.arg17 := h.w17.keeps
theorem Bufs.Held.k18 : Keeps (c : Thread nD τ) H b.arg18 := h.w18.keeps
theorem Bufs.Held.k19 : Keeps (c : Thread nD τ) H b.arg19 := h.w19.keeps
theorem Bufs.Held.k20 : Keeps (c : Thread nD τ) H b.arg20 := h.w20.keeps
theorem Bufs.Held.k21 : Keeps (c : Thread nD τ) H b.arg21 := h.w21.keeps
theorem Bufs.Held.k22 : Keeps (c : Thread nD τ) H b.arg22 := h.w22.keeps
theorem Bufs.Held.k23 : Keeps (c : Thread nD τ) H b.arg23 := h.w23.keeps
theorem Bufs.Held.k24 : Keeps (c : Thread nD τ) H b.arg24 := h.w24.keeps
theorem Bufs.Held.k25 : Keeps (c : Thread nD τ) H b.arg25 := h.w25.keeps
theorem Bufs.Held.k26 : Keeps (c : Thread nD τ) H b.arg26 := h.w26.keeps
theorem Bufs.Held.k27 : Keeps (c : Thread nD τ) H b.arg27 := h.w27.keeps
theorem Bufs.Held.k28 : Keeps (c : Thread nD τ) H b.arg28 := h.w28.keeps
theorem Bufs.Held.k29 : Keeps (c : Thread nD τ) H b.arg29 := h.w29.keeps
theorem Bufs.Held.k30 : Keeps (c : Thread nD τ) H b.arg30 := h.w30.keeps
theorem Bufs.Held.k31 : Keeps (c : Thread nD τ) H b.arg31 := h.w31.keeps
theorem Bufs.Held.k32 : Keeps (c : Thread nD τ) H b.arg32 := h.w32.keeps
theorem Bufs.Held.k33 : Keeps (c : Thread nD τ) H b.arg33 := h.w33.keeps
theorem Bufs.Held.k34 : Keeps (c : Thread nD τ) H b.arg34 := h.w34.keeps
theorem Bufs.Held.k35 : Keeps (c : Thread nD τ) H b.arg35 := h.w35.keeps

end Cert.Proof.KMobaIdeal
end
-- ==== Proof.KMobaIdealSafe1.lean ====
/-
  The statements of the attention body, a stretch of the printed text at a time: each is safe.
-/
module

public import proofs.«01_k».proof.Proof.KMobaIdealBufs

@[expose] public section

set_option synthInstance.maxSize 4096

noncomputable section

namespace Cert.Proof.KMobaIdeal

open Idealize.ShloMosaic Idealize.ShloMosaic.TcCoe Idealize.SL.Sem Idealize.SL.BI
open Cert.KMobaIdeal Cert.Proof.Safe

variable {F : FTy → Type} [FloatOps F] [Facts] {defs : Defs nD τ sig (Elt F) Λ₀} {𝒱 : Variants} {c : Dev nD} {E : Set ℕ}
  {H : sProp (MT nD τ sig Unit (Elt F) ℕ (UR sig nD τ) ℕ)} {b : Bufs} (h : b.Held c H) {i : grid0.Coords}
include h

theorem s1 : Safe defs 𝒱 (c : Thread nD τ) E H (b.on (k0_part1 i)) := by
  unfold k0_part1
  exact .pure _

theorem s2 {x y z u v w p} : Safe defs 𝒱 (c : Thread nD τ) E H (b.on (k0_part2 i) x y z u v w p) := by
  unfold k0_part2
  refine .w h.k2 fun _ => .w h.k2 fun _ => .w h.k2 fun _ => .w h.k2 fun _ => .w h.k2 fun _ => .w h.k2 fun _ => .w h.k2
    fun _ => .pure _

theorem s3 {x y z u v w} : Safe defs 𝒱 (c : Thread nD τ) E H (b.on (k0_part3 i) x y z u v w) := by
  unfold k0_part3
  refine .w h.k2 fun _ => .w h.k2 fun _ => .w h.k2 fun _ => .w h.k2 fun _ => .w h.k2 fun _ => .w h.k2 fun _ => .w h.k2
    fun _ => .pure _

theorem s4 {x y z u v} : Safe defs 𝒱 (c : Thread nD τ) E H (b.on (k0_part4 i) x y z u v) := by
  unfold k0_part4
  refine .w h.k2 fun _ => .w h.k2 fun _ => .w h.k2 fun _ => .w h.k2 fun _ => .w h.k2 fun _ => .w h.k2 fun _ => .w h.k2
    fun _ => .w h.k2 fun _ => .pure _

theorem s5 {x y z u v w} : Safe defs 𝒱 (c : Thread nD τ) E H (b.on (k0_part5 i) x y z u v w) := by
  unfold k0_part5
  refine .w h.k2 fun _ => .w h.k2 fun _ => .w h.k2 fun _ => .w h.k2 fun _ => .w h.k2 fun _ => .w h.k2 fun _ => .w h.k2
    fun _ => .pure _

theorem s6 {x y z u v w p q} : Safe defs 𝒱 (c : Thread nD τ) E H (b.on (k0_part6 i) x y z u v w p q) := by
  unfold k0_part6
  refine .w h.k2 fun _ => .w h.k2 fun _ => .w h.k2 fun _ => .w h.k2 fun _ => .l h.k8 fun _ => .s h.w8 <| .w h.k2 fun _
    => .pure _

theorem s7 {x y z u v} : Safe defs 𝒱 (c : Thread nD τ) E H (b.on (k0_part7 i) x y z u v) := by
  unfold k0_part7
  refine .w h.k2 fun _ => .w h.k2 fun _ => .w h.k2 fun _ => .w h.k2 fun _ => .w h.k2 fun _ => .w h.k2 fun _ => .w h.k2
    fun _ => .w h.k2 fun _ => .pure _

theorem s8 {x y z u v} : Safe defs 𝒱 (c : Thread nD τ) E H (b.on (k0_part8 i) x y z u v) := by
  unfold k0_part8
  refine .w h.k2 fun _ => .w h.k2 fun _ => .w h.k2 fun _ => .w h.k2 fun _ => .w h.k2 fun _ => .w h.k2 fun _ => .w h.k2
    fun _ => .pure _

theorem s9 {x y z u v} : Safe defs 𝒱 (c : Thread nD τ) E H (b.on (k0_part9 i) x y z u v) := by
  unfold k0_part9
  refine .w h.k2 fun _ => .w h.k2 fun _ => .w h.k2 fun _ => .w h.k2 fun _ => .w h.k2 fun _ => .w h.k2 fun _ => .w h.k2
    fun _ => .w h.k2 fun _ => .pure _

theorem s10 {x y z u v} : Safe defs 𝒱 (c : Thread nD τ) E H (b.on (k0_part10 i) x y z u v) := by
  unfold k0_part10
  refine .w h.k2 fun _ => .w h.k2 fun _ => .w h.k2 fun _ => .w h.k2 fun _ => .w h.k2 fun _ => .w h.k2 fun _ => .w h.k2
    fun _ => .pure _

theorem s11 {x y z u v w p} : Safe defs 𝒱 (c : Thread nD τ) E H (b.on (k0_part11 i) x y z u v w p) := by
  unfold k0_part11
  refine .w h.k2 fun _ => .l h.k9 fun _ => .s h.w9 <| .w h.k2 fun _ => .w h.k2 fun _ => .w h.k2 fun _ => .w h.k2 fun _
    => .w h.k2 fun _ => .pure _

theorem s12 {x y z u v} : Safe defs 𝒱 (c : Thread nD τ) E H (b.on (k0_part12 i) x y z u v) := by
  unfold k0_part12
  refine .w h.k2 fun _ => .w h.k2 fun _ => .w h.k2 fun _ => .w h.k2 fun _ => .w h.k2 fun _ => .w h.k2 fun _ => .w h.k2
    fun _ => .pure _

theorem s13 {x y z u v} : Safe defs 𝒱 (c : Thread nD τ) E H (b.on (k0_part13 i) x y z u v) := by
  unfold k0_part13
  refine .w h.k2 fun _ => .w h.k2 fun _ => .w h.k2 fun _ => .w h.k2 fun _ => .w h.k2 fun _ => .w h.k2 fun _ => .w h.k2
    fun _ => .w h.k2 fun _ => .pure _

theorem s14 {x y z u v} : Safe defs 𝒱 (c : Thread nD τ) E H (b.on (k0_part14 i) x y z u v) := by
  unfold k0_part14
  refine .w h.k2 fun _ => .w h.k2 fun _ => .w h.k2 fun _ => .w h.k2 fun _ => .w h.k2 fun _ => .w h.k2 fun _ => .w h.k2
    fun _ => .pure _

theorem s15 {x y z u v w p} : Safe defs 𝒱 (c : Thread nD τ) E H (b.on (k0_part15 i) x y z u v w p) := by
  unfold k0_part15
  refine .w h.k2 fun _ => .w h.k2 fun _ => .w h.k2 fun _ => .w h.k2 fun _ => .w h.k2 fun _ => .w h.k2 fun _ => .l h.k8
    fun _ => .s h.w8 <| .pure _

theorem s16 {x y z u} : Safe defs 𝒱 (c : Thread nD τ) E H (b.on (k0_part16 i) x y z u) := by
  unfold k0_part16
  refine .w h.k2 fun _ => .w h.k2 fun _ => .w h.k2 fun _ => .w h.k2 fun _ => .w h.k2 fun _ => .w h.k2 fun _ => .w h.k2
    fun _ => .pure _

theorem s17 {x y z u v} : Safe defs 𝒱 (c : Thread nD τ) E H (b.on (k0_part17 i) x y z u v) := by
  unfold k0_part17
  refine .w h.k2 fun _ => .w h.k2 fun _ => .w h.k2 fun _ => .w h.k2 fun _ => .w h.k2 fun _ => .w h.k2 fun _ => .w h.k2
    fun _ => .w h.k2 fun _ => .pure _

theorem s18 {x y z u} : Safe defs 𝒱 (c : Thread nD τ) E H (b.on (k0_part18 i) x y z u) := by
  unfold k0_part18
  refine .w h.k2 fun _ => .w h.k2 fun _ => .w h.k2 fun _ => .w h.k2 fun _ => .w h.k2 fun _ => .w h.k2 fun _ => .w h.k2
    fun _ => .pure _

theorem s19 {x y z u v} : Safe defs 𝒱 (c : Thread nD τ) E H (b.on (k0_part19 i) x y z u v) := by
  unfold k0_part19
  refine .w h.k2 fun _ => .w h.k2 fun _ => .w h.k2 fun _ => .w h.k2 fun _ => .w h.k2 fun _ => .w h.k2 fun _ => .w h.k2
    fun _ => .w h.k2 fun _ => .pure _

theorem s20 {x y z u v w p q} : Safe defs 𝒱 (c : Thread nD τ) E H (b.on (k0_part20 i) x y z u v w p q) := by
  unfold k0_part20
  refine .w h.k2 fun _ => .w h.k2 fun _ => .l h.k9 fun _ => .s h.w9 <| .w h.k2 fun _ => .w h.k2 fun _ => .w h.k2 fun _
    => .pure _

theorem s21 {x y z u v} : Safe defs 𝒱 (c : Thread nD τ) E H (b.on (k0_part21 i) x y z u v) := by
  unfold k0_part21
  refine .w h.k2 fun _ => .w h.k2 fun _ => .w h.k2 fun _ => .w h.k2 fun _ => .w h.k2 fun _ => .w h.k2 fun _ => .w h.k2
    fun _ => .w h.k2 fun _ => .pure _

theorem s22 {x y z u} : Safe defs 𝒱 (c : Thread nD τ) E H (b.on (k0_part22 i) x y z u) := by
  unfold k0_part22
  refine .w h.k2 fun _ => .w h.k2 fun _ => .w h.k2 fun _ => .w h.k2 fun _ => .w h.k2 fun _ => .w h.k2 fun _ => .w h.k2
    fun _ => .pure _

theorem s23 {x y z u v} : Safe defs 𝒱 (c : Thread nD τ) E H (b.on (k0_part23 i) x y z u v) := by
  unfold k0_part23
  refine .w h.k2 fun _ => .w h.k2 fun _ => .w h.k2 fun _ => .w h.k2 fun _ => .w h.k2 fun _ => .w h.k2 fun _ => .w h.k2
    fun _ => .w h.k2 fun _ => .pure _

theorem s24 {x y z u v} : Safe defs 𝒱 (c : Thread nD τ) E H (b.on (k0_part24 i) x y z u v) := by
  unfold k0_part24
  refine .w h.k2 fun _ => .w h.k2 fun _ => .w h.k2 fun _ => .w h.k2 fun _ => .w h.k2 fun _ => .w h.k2 fun _ => .w h.k2
    fun _ => .pure _

theorem s25 {x y z u v w} : Safe defs 𝒱 (c : Thread nD τ) E H (b.on (k0_part25 i) x y z u v w) := by
  unfold k0_part25
  refine .l h.k8 fun _ => .s h.w8 <| .w h.k2 fun _ => .w h.k2 fun _ => .w h.k2 fun _ => .w h.k2 fun _ => .w h.k2 fun _
    => .w h.k2 fun _ => .pure _

theorem s26 {x y z u v w} : Safe defs 𝒱 (c : Thread nD τ) E H (b.on (k0_part26 i) x y z u v w) := by
  unfold k0_part26
  refine .w h.k2 fun _ => .w h.k2 fun _ => .w h.k2 fun _ => .w h.k2 fun _ => .w h.k2 fun _ => .w h.k2 fun _ => .w h.k2
    fun _ => .pure _

theorem s27 {x y z u v} : Safe defs 𝒱 (c : Thread nD τ) E H (b.on (k0_part27 i) x y z u v) := by
  unfold k0_part27
  refine .w h.k2 fun _ => .w h.k2 fun _ => .w h.k2 fun _ => .w h.k2 fun _ => .w h.k2 fun _ => .w h.k2 fun _ => .w h.k2
    fun _ => .w h.k2 fun _ => .pure _

theorem s28 {x y z u v w} : Safe defs 𝒱 (c : Thread nD τ) E H (b.on (k0_part28 i) x y z u v w) := by
  unfold k0_part28
  refine .w h.k2 fun _ => .w h.k2 fun _ => .w h.k2 fun _ => .w h.k2 fun _ => .w h.k2 fun _ => .w h.k2 fun _ => .w h.k2
    fun _ => .pure _

theorem s29 {x y z u v w p q a} : Safe defs 𝒱 (c : Thread nD τ) E H (b.on (k0_part29 i) x y z u v w p q a) := by
  unfold k0_part29
  refine .w h.k2 fun _ => .w h.k2 fun _ => .w h.k2 fun _ => .w h.k2 fun _ => .l h.k9 fun _ => .s h.w9 <| .w h.k2 fun _
    => .w h.k2 fun _ => .pure _

theorem s30 {x y z u v w} : Safe defs 𝒱 (c : Thread nD τ) E H (b.on (k0_part30 i) x y z u v w) := by
  unfold k0_part30
  refine .w h.k2 fun _ => .w h.k2 fun _ => .w h.k2 fun _ => .w h.k2 fun _ => .w h.k2 fun _ => .w h.k2 fun _ => .w h.k2
    fun _ => .pure _

theorem s31 {x y z u v} : Safe defs 𝒱 (c : Thread nD τ) E H (b.on (k0_part31 i) x y z u v) := by
  unfold k0_part31
  refine .w h.k2 fun _ => .w h.k2 fun _ => .w h.k2 fun _ => .w h.k2 fun _ => .w h.k2 fun _ => .w h.k2 fun _ => .w h.k2
    fun _ => .w h.k2 fun _ => .pure _

theorem s32 {x y z u v w} : Safe defs 𝒱 (c : Thread nD τ) E H (b.on (k0_part32 i) x y z u v w) := by
  unfold k0_part32
  refine .w h.k2 fun _ => .w h.k2 fun _ => .w h.k2 fun _ => .w h.k2 fun _ => .w h.k2 fun _ => .w h.k2 fun _ => .w h.k2
    fun _ => .pure _

theorem s33 {x y z u v} : Safe defs 𝒱 (c : Thread nD τ) E H (b.on (k0_part33 i) x y z u v) := by
  unfold k0_part33
  refine .w h.k2 fun _ => .w h.k2 fun _ => .w h.k2 fun _ => .w h.k2 fun _ => .w h.k2 fun _ => .w h.k2 fun _ => .w h.k2
    fun _ => .w h.k2 fun _ => .pure _

theorem s34 {x y z u v w p q a} : Safe defs 𝒱 (c : Thread nD τ) E H (b.on (k0_part34 i) x y z u v w p q a) := by
  unfold k0_part34
  refine .w h.k2 fun _ => .l h.k8 fun _ => .s h.w8 <| .w h.k2 fun _ => .w h.k2 fun _ => .w h.k2 fun _ => .w h.k2 fun _
    => .pure _

theorem s35 {x y z u v} : Safe defs 𝒱 (c : Thread nD τ) E H (b.on (k0_part35 i) x y z u v) := by
  unfold k0_part35
  refine .w h.k2 fun _ => .w h.k2 fun _ => .w h.k2 fun _ => .w h.k2 fun _ => .w h.k2 fun _ => .w h.k2 fun _ => .w h.k2
    fun _ => .w h.k2 fun _ => .pure _

theorem s36 {x y z u v w} : Safe defs 𝒱 (c : Thread nD τ) E H (b.on (k0_part36 i) x y z u v w) := by
  unfold k0_part36
  refine .w h.k2 fun _ => .w h.k2 fun _ => .w h.k2 fun _ => .w h.k2 fun _ => .w h.k2 fun _ => .w h.k2 fun _ => .w h.k2
    fun _ => .pure _

theorem s37 {x y z u v} : Safe defs 𝒱 (c : Thread nD τ) E H (b.on (k0_part37 i) x y z u v) := by
  unfold k0_part37
  refine .w h.k2 fun _ => .w h.k2 fun _ => .w h.k2 fun _ => .w h.k2 fun _ => .w h.k2 fun _ => .w h.k2 fun _ => .w h.k2
    fun _ => .w h.k2 fun _ => .pure _

theorem s39 {x y z} : Safe defs 𝒱 (c : Thread nD τ) E H (b.on (k0_part39 i) x y z) := by
  unfold k0_part39
  refine .l h.k4 fun _ => .l h.k3 fun _ => .l h.k13 fun _ => .s h.w13 <| .l h.k14 fun _ => .s h.w14 <| .l h.k15 fun _
    => .s h.w15 <| .l h.k16 fun _ => .s h.w16 <| .l h.k17 fun _ => .pure _

theorem s40 {x y z u v} : Safe defs 𝒱 (c : Thread nD τ) E H (b.on (k0_part40 i) x y z u v) := by
  unfold k0_part40
  refine .s h.w17 <| .l h.k18 fun _ => .s h.w18 <| .l h.k19 fun _ => .s h.w19 <| .l h.k4 fun _ => .l h.k3 fun _ => .l
    h.k13 fun _ => .s h.w13 <| .l h.k14 fun _ => .s h.w14 <| .l h.k15 fun _ => .pure _

theorem s41 {x y z u} : Safe defs 𝒱 (c : Thread nD τ) E H (b.on (k0_part41 i) x y z u) := by
  unfold k0_part41
  refine .s h.w15 <| .l h.k16 fun _ => .s h.w16 <| .l h.k17 fun _ => .s h.w17 <| .l h.k18 fun _ => .s h.w18 <| .l
    h.k19 fun _ => .s h.w19 <| .l h.k4 fun _ => .l h.k3 fun _ => .l h.k13 fun _ => .s h.w13 <| .pure _

theorem s42 {x y z u} : Safe defs 𝒱 (c : Thread nD τ) E H (b.on (k0_part42 i) x y z u) := by
  unfold k0_part42
  refine .l h.k14 fun _ => .s h.w14 <| .l h.k15 fun _ => .s h.w15 <| .l h.k16 fun _ => .s h.w16 <| .l h.k17 fun _ =>
    .s h.w17 <| .l h.k18 fun _ => .s h.w18 <| .l h.k19 fun _ => .s h.w19 <| .l h.k4 fun _ => .pure _

theorem s43 {x} : Safe defs 𝒱 (c : Thread nD τ) E H (b.on (k0_part43 i) x) := by
  unfold k0_part43
  refine .l h.k3 fun _ => .l h.k13 fun _ => .s h.w13 <| .l h.k14 fun _ => .s h.w14 <| .l h.k15 fun _ => .s h.w15 <| .l
    h.k16 fun _ => .s h.w16 <| .l h.k17 fun _ => .s h.w17 <| .l h.k18 fun _ => .s h.w18 <| .l h.k19 fun _ => .pure _

theorem s44 {x y z u} : Safe defs 𝒱 (c : Thread nD τ) E H (b.on (k0_part44 i) x y z u) := by
  unfold k0_part44
  refine .s h.w19 <| .l h.k31 fun _ => .l h.k11 fun _ => .l h.k5 fun _ => .l h.k23 fun _ => .l h.k11 fun _ => .s h.w11
    <| .l h.k31 fun _ => .l h.k11 fun _ => .pure _

theorem s45 {x y z} : Safe defs 𝒱 (c : Thread nD τ) E H (b.on (k0_part45 i) x y z) := by
  unfold k0_part45
  refine .l h.k5 fun _ => .l h.k23 fun _ => .l h.k11 fun _ => .s h.w11 <| .l h.k31 fun _ => .l h.k11 fun _ => .l h.k5
    fun _ => .l h.k23 fun _ => .l h.k11 fun _ => .s h.w11 <| .l h.k31 fun _ => .l h.k11 fun _ => .pure _

theorem s46 {x y z u v} : Safe defs 𝒱 (c : Thread nD τ) E H (b.on (k0_part46 i) x y z u v) := by
  unfold k0_part46
  refine .l h.k5 fun _ => .l h.k23 fun _ => .l h.k11 fun _ => .s h.w11 <| .l h.k6 fun _ => .l h.k10 fun _ => .l h.k12
    fun _ => .l h.k32 fun _ => .s h.w32 <| .pure _

theorem s47 {x y z u} : Safe defs 𝒱 (c : Thread nD τ) E H (b.on (k0_part47 i) x y z u) := by
  unfold k0_part47
  refine .l h.k10 fun _ => .s h.w10 <| .l h.k12 fun _ => .l h.k24 fun _ => .s h.w24 <| .l h.k6 fun _ => .l h.k10 fun _
    => .l h.k12 fun _ => .l h.k32 fun _ => .s h.w32 <| .pure _

theorem s48 {x y z u} : Safe defs 𝒱 (c : Thread nD τ) E H (b.on (k0_part48 i) x y z u) := by
  unfold k0_part48
  refine .l h.k10 fun _ => .s h.w10 <| .l h.k12 fun _ => .l h.k24 fun _ => .s h.w24 <| .l h.k6 fun _ => .l h.k10 fun _
    => .l h.k12 fun _ => .l h.k32 fun _ => .s h.w32 <| .l h.k10 fun _ => .pure _

theorem s49 {x y z u v} : Safe defs 𝒱 (c : Thread nD τ) E H (b.on (k0_part49 i) x y z u v) := by
  unfold k0_part49
  refine .s h.w10 <| .l h.k12 fun _ => .l h.k24 fun _ => .s h.w24 <| .l h.k6 fun _ => .l h.k10 fun _ => .l h.k12 fun _
    => .l h.k32 fun _ => .s h.w32 <| .l h.k10 fun _ => .pure _

theorem s50 {x y z u v} : Safe defs 𝒱 (c : Thread nD τ) E H (b.on (k0_part50 i) x y z u v) := by
  unfold k0_part50
  refine .s h.w10 <| .l h.k12 fun _ => .l h.k24 fun _ => .s h.w24 <| .l h.k4 fun _ => .l h.k3 fun _ => .l h.k12 fun _
    => .s h.w12 <| .l h.k4 fun _ => .pure _

theorem s51 {x y z} : Safe defs 𝒱 (c : Thread nD τ) E H (b.on (k0_part51 i) x y z) := by
  unfold k0_part51
  refine .l h.k3 fun _ => .l h.k12 fun _ => .s h.w12 <| .l h.k4 fun _ => .l h.k3 fun _ => .l h.k12 fun _ => .s h.w12
    <| .l h.k4 fun _ => .l h.k3 fun _ => .pure _

theorem s52 {x y z u v} : Safe defs 𝒱 (c : Thread nD τ) E H (b.on (k0_part52 i) x y z u v) := by
  unfold k0_part52
  refine .l h.k12 fun _ => .s h.w12 <| .l h.k32 fun _ => .l h.k11 fun _ => .l h.k5 fun _ => .l h.k24 fun _ => .l h.k11
    fun _ => .s h.w11 <| .l h.k32 fun _ => .l h.k11 fun _ => .pure _

theorem s53 {x y z u} : Safe defs 𝒱 (c : Thread nD τ) E H (b.on (k0_part53 i) x y z u) := by
  unfold k0_part53
  refine .l h.k5 fun _ => .l h.k24 fun _ => .l h.k11 fun _ => .s h.w11 <| .l h.k32 fun _ => .l h.k11 fun _ => .l h.k5
    fun _ => .l h.k24 fun _ => .l h.k11 fun _ => .s h.w11 <| .l h.k32 fun _ => .pure _

theorem s54 {x y z u} : Safe defs 𝒱 (c : Thread nD τ) E H (b.on (k0_part54 i) x y z u) := by
  unfold k0_part54
  refine .l h.k11 fun _ => .l h.k5 fun _ => .l h.k24 fun _ => .l h.k11 fun _ => .s h.w11 <| .l h.k6 fun _ => .l h.k10
    fun _ => .l h.k13 fun _ => .pure _

theorem s55 {x y z u v} : Safe defs 𝒱 (c : Thread nD τ) E H (b.on (k0_part55 i) x y z u v) := by
  unfold k0_part55
  refine .l h.k33 fun _ => .s h.w33 <| .l h.k10 fun _ => .s h.w10 <| .l h.k13 fun _ => .l h.k25 fun _ => .s h.w25 <|
    .l h.k6 fun _ => .l h.k10 fun _ => .l h.k13 fun _ => .l h.k33 fun _ => .pure _

theorem s56 {x y z u v} : Safe defs 𝒱 (c : Thread nD τ) E H (b.on (k0_part56 i) x y z u v) := by
  unfold k0_part56
  refine .s h.w33 <| .l h.k10 fun _ => .s h.w10 <| .l h.k13 fun _ => .l h.k25 fun _ => .s h.w25 <| .l h.k6 fun _ => .l
    h.k10 fun _ => .l h.k13 fun _ => .l h.k33 fun _ => .s h.w33 <| .pure _

theorem s57 {x y z u} : Safe defs 𝒱 (c : Thread nD τ) E H (b.on (k0_part57 i) x y z u) := by
  unfold k0_part57
  refine .l h.k10 fun _ => .s h.w10 <| .l h.k13 fun _ => .l h.k25 fun _ => .s h.w25 <| .l h.k6 fun _ => .l h.k10 fun _
    => .l h.k13 fun _ => .l h.k33 fun _ => .s h.w33 <| .pure _

theorem s58 {x y z u} : Safe defs 𝒱 (c : Thread nD τ) E H (b.on (k0_part58 i) x y z u) := by
  unfold k0_part58
  refine .l h.k10 fun _ => .s h.w10 <| .l h.k13 fun _ => .l h.k25 fun _ => .s h.w25 <| .l h.k33 fun _ => .l h.k11 fun
    _ => .l h.k5 fun _ => .l h.k25 fun _ => .l h.k11 fun _ => .pure _

theorem s59 {x y z u} : Safe defs 𝒱 (c : Thread nD τ) E H (b.on (k0_part59 i) x y z u) := by
  unfold k0_part59
  refine .s h.w11 <| .l h.k33 fun _ => .l h.k11 fun _ => .l h.k5 fun _ => .l h.k25 fun _ => .l h.k11 fun _ => .s h.w11
    <| .l h.k33 fun _ => .l h.k11 fun _ => .l h.k5 fun _ => .l h.k25 fun _ => .pure _

theorem s60 {x y z u v w p} : Safe defs 𝒱 (c : Thread nD τ) E H (b.on (k0_part60 i) x y z u v w p) := by
  unfold k0_part60
  refine .l h.k11 fun _ => .s h.w11 <| .l h.k33 fun _ => .l h.k11 fun _ => .l h.k5 fun _ => .l h.k25 fun _ => .l h.k11
    fun _ => .s h.w11 <| .l h.k6 fun _ => .l h.k10 fun _ => .pure _

theorem s61 {x y z u} : Safe defs 𝒱 (c : Thread nD τ) E H (b.on (k0_part61 i) x y z u) := by
  unfold k0_part61
  refine .l h.k14 fun _ => .l h.k34 fun _ => .s h.w34 <| .l h.k10 fun _ => .s h.w10 <| .l h.k14 fun _ => .l h.k26 fun
    _ => .s h.w26 <| .l h.k6 fun _ => .l h.k10 fun _ => .pure _

theorem s62 {x y z u} : Safe defs 𝒱 (c : Thread nD τ) E H (b.on (k0_part62 i) x y z u) := by
  unfold k0_part62
  refine .l h.k14 fun _ => .l h.k34 fun _ => .s h.w34 <| .l h.k10 fun _ => .s h.w10 <| .l h.k14 fun _ => .l h.k26 fun
    _ => .s h.w26 <| .l h.k6 fun _ => .l h.k10 fun _ => .l h.k14 fun _ => .pure _

theorem s63 {x y z u v} : Safe defs 𝒱 (c : Thread nD τ) E H (b.on (k0_part63 i) x y z u v) := by
  unfold k0_part63
  refine .l h.k34 fun _ => .s h.w34 <| .l h.k10 fun _ => .s h.w10 <| .l h.k14 fun _ => .l h.k26 fun _ => .s h.w26 <|
    .l h.k6 fun _ => .l h.k10 fun _ => .l h.k14 fun _ => .pure _

theorem s64 {x y z u} : Safe defs 𝒱 (c : Thread nD τ) E H (b.on (k0_part64 i) x y z u) := by
  unfold k0_part64
  refine .l h.k34 fun _ => .s h.w34 <| .l h.k10 fun _ => .s h.w10 <| .l h.k14 fun _ => .l h.k26 fun _ => .s h.w26 <|
    .l h.k34 fun _ => .l h.k11 fun _ => .pure _

theorem s65 {x y z} : Safe defs 𝒱 (c : Thread nD τ) E H (b.on (k0_part65 i) x y z) := by
  unfold k0_part65
  refine .l h.k5 fun _ => .l h.k26 fun _ => .l h.k11 fun _ => .s h.w11 <| .l h.k34 fun _ => .l h.k11 fun _ => .l h.k5
    fun _ => .l h.k26 fun _ => .l h.k11 fun _ => .s h.w11 <| .l h.k34 fun _ => .l h.k11 fun _ => .pure _

theorem s66 {x y z u v} : Safe defs 𝒱 (c : Thread nD τ) E H (b.on (k0_part66 i) x y z u v) := by
  unfold k0_part66
  refine .l h.k5 fun _ => .l h.k26 fun _ => .l h.k11 fun _ => .s h.w11 <| .l h.k34 fun _ => .l h.k11 fun _ => .l h.k5
    fun _ => .l h.k26 fun _ => .l h.k11 fun _ => .s h.w11 <| .pure _

theorem s67 {x y z u} : Safe defs 𝒱 (c : Thread nD τ) E H (b.on (k0_part67 i) x y z u) := by
  unfold k0_part67
  refine .l h.k6 fun _ => .l h.k10 fun _ => .l h.k15 fun _ => .l h.k35 fun _ => .s h.w35 <| .l h.k10 fun _ => .s h.w10
    <| .l h.k15 fun _ => .l h.k27 fun _ => .s h.w27 <| .pure _

theorem s68 {x y z} : Safe defs 𝒱 (c : Thread nD τ) E H (b.on (k0_part68 i) x y z) := by
  unfold k0_part68
  refine .l h.k6 fun _ => .l h.k10 fun _ => .l h.k15 fun _ => .l h.k35 fun _ => .s h.w35 <| .l h.k10 fun _ => .s h.w10
    <| .l h.k15 fun _ => .l h.k27 fun _ => .s h.w27 <| .pure _

theorem s69 {x y z} : Safe defs 𝒱 (c : Thread nD τ) E H (b.on (k0_part69 i) x y z) := by
  unfold k0_part69
  refine .l h.k6 fun _ => .l h.k10 fun _ => .l h.k15 fun _ => .l h.k35 fun _ => .s h.w35 <| .l h.k10 fun _ => .s h.w10
    <| .l h.k15 fun _ => .l h.k27 fun _ => .s h.w27 <| .pure _

theorem s70 {x y} : Safe defs 𝒱 (c : Thread nD τ) E H (b.on (k0_part70 i) x y) := by
  unfold k0_part70
  refine .l h.k6 fun _ => .l h.k10 fun _ => .l h.k15 fun _ => .l h.k35 fun _ => .s h.w35 <| .l h.k10 fun _ => .s h.w10
    <| .l h.k15 fun _ => .l h.k27 fun _ => .s h.w27 <| .pure _

theorem s71 {x y} : Safe defs 𝒱 (c : Thread nD τ) E H (b.on (k0_part71 i) x y) := by
  unfold k0_part71
  refine .l h.k35 fun _ => .l h.k11 fun _ => .l h.k5 fun _ => .l h.k27 fun _ => .l h.k11 fun _ => .s h.w11 <| .l h.k35
    fun _ => .l h.k11 fun _ => .l h.k5 fun _ => .l h.k27 fun _ => .pure _

theorem s72 {x y z} : Safe defs 𝒱 (c : Thread nD τ) E H (b.on (k0_part72 i) x y z) := by
  unfold k0_part72
  refine .l h.k11 fun _ => .s h.w11 <| .l h.k35 fun _ => .l h.k11 fun _ => .l h.k5 fun _ => .l h.k27 fun _ => .l h.k11
    fun _ => .s h.w11 <| .l h.k35 fun _ => .l h.k11 fun _ => .l h.k5 fun _ => .l h.k27 fun _ => .pure _

theorem s73 {x y z u v} : Safe defs 𝒱 (c : Thread nD τ) E H (b.on (k0_part73 i) x y z u v) := by
  unfold k0_part73
  refine .l h.k11 fun _ => .s h.w11 <| .l h.k6 fun _ => .l h.k10 fun _ => .l h.k16 fun _ => .l h.k28 fun _ => .s h.w28
    <| .l h.k10 fun _ => .s h.w10 <| .l h.k16 fun _ => .pure _

theorem s74 {x y z u} : Safe defs 𝒱 (c : Thread nD τ) E H (b.on (k0_part74 i) x y z u) := by
  unfold k0_part74
  refine .l h.k20 fun _ => .s h.w20 <| .l h.k6 fun _ => .l h.k10 fun _ => .l h.k16 fun _ => .l h.k28 fun _ => .s h.w28
    <| .l h.k10 fun _ => .s h.w10 <| .l h.k16 fun _ => .pure _

theorem s75 {x y z} : Safe defs 𝒱 (c : Thread nD τ) E H (b.on (k0_part75 i) x y z) := by
  unfold k0_part75
  refine .l h.k20 fun _ => .s h.w20 <| .l h.k6 fun _ => .l h.k10 fun _ => .l h.k16 fun _ => .l h.k28 fun _ => .s h.w28
    <| .l h.k10 fun _ => .s h.w10 <| .l h.k16 fun _ => .pure _

theorem s76 {x y z} : Safe defs 𝒱 (c : Thread nD τ) E H (b.on (k0_part76 i) x y z) := by
  unfold k0_part76
  refine .l h.k20 fun _ => .s h.w20 <| .l h.k6 fun _ => .l h.k10 fun _ => .l h.k16 fun _ => .l h.k28 fun _ => .s h.w28
    <| .l h.k10 fun _ => .s h.w10 <| .l h.k16 fun _ => .pure _

theorem s77 {x y z} : Safe defs 𝒱 (c : Thread nD τ) E H (b.on (k0_part77 i) x y z) := by
  unfold k0_part77
  refine .l h.k20 fun _ => .s h.w20 <| .l h.k28 fun _ => .l h.k11 fun _ => .l h.k5 fun _ => .l h.k20 fun _ => .l h.k11
    fun _ => .s h.w11 <| .l h.k28 fun _ => .l h.k11 fun _ => .pure _

theorem s78 {x y z} : Safe defs 𝒱 (c : Thread nD τ) E H (b.on (k0_part78 i) x y z) := by
  unfold k0_part78
  refine .l h.k5 fun _ => .l h.k20 fun _ => .l h.k11 fun _ => .s h.w11 <| .l h.k28 fun _ => .l h.k11 fun _ => .l h.k5
    fun _ => .l h.k20 fun _ => .l h.k11 fun _ => .s h.w11 <| .l h.k28 fun _ => .l h.k11 fun _ => .pure _

theorem s79 {x y z u v} : Safe defs 𝒱 (c : Thread nD τ) E H (b.on (k0_part79 i) x y z u v) := by
  unfold k0_part79
  refine .l h.k5 fun _ => .l h.k20 fun _ => .l h.k11 fun _ => .s h.w11 <| .l h.k6 fun _ => .l h.k10 fun _ => .l h.k17
    fun _ => .l h.k29 fun _ => .s h.w29 <| .pure _

theorem s80 {x y z u} : Safe defs 𝒱 (c : Thread nD τ) E H (b.on (k0_part80 i) x y z u) := by
  unfold k0_part80
  refine .l h.k10 fun _ => .s h.w10 <| .l h.k17 fun _ => .l h.k21 fun _ => .s h.w21 <| .l h.k6 fun _ => .l h.k10 fun _
    => .l h.k17 fun _ => .l h.k29 fun _ => .s h.w29 <| .pure _

theorem s81 {x y z u} : Safe defs 𝒱 (c : Thread nD τ) E H (b.on (k0_part81 i) x y z u) := by
  unfold k0_part81
  refine .l h.k10 fun _ => .s h.w10 <| .l h.k17 fun _ => .l h.k21 fun _ => .s h.w21 <| .l h.k6 fun _ => .l h.k10 fun _
    => .l h.k17 fun _ => .l h.k29 fun _ => .s h.w29 <| .l h.k10 fun _ => .pure _

theorem s82 {x y z u v} : Safe defs 𝒱 (c : Thread nD τ) E H (b.on (k0_part82 i) x y z u v) := by
  unfold k0_part82
  refine .s h.w10 <| .l h.k17 fun _ => .l h.k21 fun _ => .s h.w21 <| .l h.k6 fun _ => .l h.k10 fun _ => .l h.k17 fun _
    => .l h.k29 fun _ => .s h.w29 <| .l h.k10 fun _ => .pure _

theorem s83 {x y z u v} : Safe defs 𝒱 (c : Thread nD τ) E H (b.on (k0_part83 i) x y z u v) := by
  unfold k0_part83
  refine .s h.w10 <| .l h.k17 fun _ => .l h.k21 fun _ => .s h.w21 <| .l h.k29 fun _ => .l h.k11 fun _ => .l h.k5 fun _
    => .l h.k21 fun _ => .l h.k11 fun _ => .s h.w11 <| .pure _

theorem s84 {x y} : Safe defs 𝒱 (c : Thread nD τ) E H (b.on (k0_part84 i) x y) := by
  unfold k0_part84
  refine .l h.k29 fun _ => .l h.k11 fun _ => .l h.k5 fun _ => .l h.k21 fun _ => .l h.k11 fun _ => .s h.w11 <| .l h.k29
    fun _ => .l h.k11 fun _ => .l h.k5 fun _ => .l h.k21 fun _ => .pure _

theorem s85 {x y z u} : Safe defs 𝒱 (c : Thread nD τ) E H (b.on (k0_part85 i) x y z u) := by
  unfold k0_part85
  refine .l h.k11 fun _ => .s h.w11 <| .l h.k29 fun _ => .l h.k11 fun _ => .l h.k5 fun _ => .l h.k21 fun _ => .l h.k11
    fun _ => .s h.w11 <| .l h.k6 fun _ => .l h.k10 fun _ => .l h.k18 fun _ => .pure _

theorem s86 {x y z u v} : Safe defs 𝒱 (c : Thread nD τ) E H (b.on (k0_part86 i) x y z u v) := by
  unfold k0_part86
  refine .l h.k30 fun _ => .s h.w30 <| .l h.k10 fun _ => .s h.w10 <| .l h.k18 fun _ => .l h.k22 fun _ => .s h.w22 <|
    .l h.k6 fun _ => .l h.k10 fun _ => .l h.k18 fun _ => .pure _

end Cert.Proof.KMobaIdeal
end
-- ==== Proof.KMobaIdealSafe2.lean ====
/-
  The statements of the attention body, a stretch of the printed text at a time: each is safe.
-/
module

public import proofs.«01_k».proof.Proof.KMobaIdealBufs

@[expose] public section

set_option synthInstance.maxSize 4096

noncomputable section

namespace Cert.Proof.KMobaIdeal

open Idealize.ShloMosaic Idealize.ShloMosaic.TcCoe Idealize.SL.Sem Idealize.SL.BI
open Cert.KMobaIdeal Cert.Proof.Safe

variable {F : FTy → Type} [FloatOps F] [Facts] {defs : Defs nD τ sig (Elt F) Λ₀} {𝒱 : Variants} {c : Dev nD} {E : Set ℕ}
  {H : sProp (MT nD τ sig Unit (Elt F) ℕ (UR sig nD τ) ℕ)} {b : Bufs} (h : b.Held c H) {i : grid0.Coords}
include h

theorem s87 {x y z u v} : Safe defs 𝒱 (c : Thread nD τ) E H (b.on (k0_part87 i) x y z u v) := by
  unfold k0_part87
  refine .l h.k30 fun _ => .s h.w30 <| .l h.k10 fun _ => .s h.w10 <| .l h.k18 fun _ => .l h.k22 fun _ => .s h.w22 <|
    .l h.k6 fun _ => .l h.k10 fun _ => .l h.k18 fun _ => .pure _

theorem s88 {x y z u v} : Safe defs 𝒱 (c : Thread nD τ) E H (b.on (k0_part88 i) x y z u v) := by
  unfold k0_part88
  refine .l h.k30 fun _ => .s h.w30 <| .l h.k10 fun _ => .s h.w10 <| .l h.k18 fun _ => .l h.k22 fun _ => .s h.w22 <|
    .l h.k6 fun _ => .l h.k10 fun _ => .l h.k18 fun _ => .pure _

theorem s89 {x y z u v} : Safe defs 𝒱 (c : Thread nD τ) E H (b.on (k0_part89 i) x y z u v) := by
  unfold k0_part89
  refine .l h.k30 fun _ => .s h.w30 <| .l h.k10 fun _ => .s h.w10 <| .l h.k18 fun _ => .l h.k22 fun _ => .s h.w22 <|
    .l h.k30 fun _ => .l h.k11 fun _ => .l h.k5 fun _ => .pure _

theorem s90 {x y z u} : Safe defs 𝒱 (c : Thread nD τ) E H (b.on (k0_part90 i) x y z u) := by
  unfold k0_part90
  refine .l h.k22 fun _ => .l h.k11 fun _ => .s h.w11 <| .l h.k30 fun _ => .l h.k11 fun _ => .l h.k5 fun _ => .l h.k22
    fun _ => .l h.k11 fun _ => .s h.w11 <| .l h.k30 fun _ => .l h.k11 fun _ => .pure _

theorem s91 {x y z u} : Safe defs 𝒱 (c : Thread nD τ) E H (b.on (k0_part91 i) x y z u) := by
  unfold k0_part91
  refine .l h.k5 fun _ => .l h.k22 fun _ => .l h.k11 fun _ => .s h.w11 <| .l h.k30 fun _ => .l h.k11 fun _ => .l h.k5
    fun _ => .l h.k22 fun _ => .l h.k11 fun _ => .s h.w11 <| .pure _

theorem s92 {x y z} : Safe defs 𝒱 (c : Thread nD τ) E H (b.on (k0_part92 i) x y z) := by
  unfold k0_part92
  refine .l h.k6 fun _ => .l h.k10 fun _ => .l h.k19 fun _ => .l h.k31 fun _ => .s h.w31 <| .l h.k10 fun _ => .s h.w10
    <| .l h.k19 fun _ => .l h.k23 fun _ => .s h.w23 <| .pure _

theorem s93 {x y} : Safe defs 𝒱 (c : Thread nD τ) E H (b.on (k0_part93 i) x y) := by
  unfold k0_part93
  refine .l h.k6 fun _ => .l h.k10 fun _ => .l h.k19 fun _ => .l h.k31 fun _ => .s h.w31 <| .l h.k10 fun _ => .s h.w10
    <| .l h.k19 fun _ => .l h.k23 fun _ => .s h.w23 <| .l h.k6 fun _ => .pure _

theorem s94 {x y z} : Safe defs 𝒱 (c : Thread nD τ) E H (b.on (k0_part94 i) x y z) := by
  unfold k0_part94
  refine .l h.k10 fun _ => .l h.k19 fun _ => .l h.k31 fun _ => .s h.w31 <| .l h.k10 fun _ => .s h.w10 <| .l h.k19 fun
    _ => .l h.k23 fun _ => .s h.w23 <| .l h.k6 fun _ => .pure _

theorem s96 {x y z} : Safe defs 𝒱 (c : Thread nD τ) E H (b.on (k0_part96 i) x y z) := by
  unfold k0_part96
  refine .l h.k4 fun _ => .l h.k3 fun _ => .l h.k13 fun _ => .s h.w13 <| .l h.k14 fun _ => .s h.w14 <| .l h.k15 fun _
    => .s h.w15 <| .l h.k16 fun _ => .s h.w16 <| .l h.k17 fun _ => .pure _

theorem s97 {x y z u v} : Safe defs 𝒱 (c : Thread nD τ) E H (b.on (k0_part97 i) x y z u v) := by
  unfold k0_part97
  refine .s h.w17 <| .l h.k18 fun _ => .s h.w18 <| .l h.k19 fun _ => .s h.w19 <| .l h.k4 fun _ => .l h.k3 fun _ => .l
    h.k13 fun _ => .s h.w13 <| .l h.k14 fun _ => .s h.w14 <| .l h.k15 fun _ => .pure _

theorem s98 {x y z u} : Safe defs 𝒱 (c : Thread nD τ) E H (b.on (k0_part98 i) x y z u) := by
  unfold k0_part98
  refine .s h.w15 <| .l h.k16 fun _ => .s h.w16 <| .l h.k17 fun _ => .s h.w17 <| .l h.k18 fun _ => .s h.w18 <| .l
    h.k19 fun _ => .s h.w19 <| .l h.k4 fun _ => .l h.k3 fun _ => .l h.k13 fun _ => .s h.w13 <| .pure _

theorem s99 {x y z u} : Safe defs 𝒱 (c : Thread nD τ) E H (b.on (k0_part99 i) x y z u) := by
  unfold k0_part99
  refine .l h.k14 fun _ => .s h.w14 <| .l h.k15 fun _ => .s h.w15 <| .l h.k16 fun _ => .s h.w16 <| .l h.k17 fun _ =>
    .s h.w17 <| .l h.k18 fun _ => .s h.w18 <| .l h.k19 fun _ => .s h.w19 <| .l h.k4 fun _ => .pure _

theorem s100 {x} : Safe defs 𝒱 (c : Thread nD τ) E H (b.on (k0_part100 i) x) := by
  unfold k0_part100
  refine .l h.k3 fun _ => .l h.k13 fun _ => .s h.w13 <| .l h.k14 fun _ => .s h.w14 <| .l h.k15 fun _ => .s h.w15 <| .l
    h.k16 fun _ => .s h.w16 <| .l h.k17 fun _ => .s h.w17 <| .l h.k18 fun _ => .s h.w18 <| .l h.k19 fun _ => .pure _

theorem s101 {x y z u} : Safe defs 𝒱 (c : Thread nD τ) E H (b.on (k0_part101 i) x y z u) := by
  unfold k0_part101
  refine .s h.w19 <| .l h.k31 fun _ => .l h.k11 fun _ => .l h.k5 fun _ => .l h.k23 fun _ => .l h.k11 fun _ => .s h.w11
    <| .l h.k31 fun _ => .l h.k11 fun _ => .pure _

theorem s102 {x y z} : Safe defs 𝒱 (c : Thread nD τ) E H (b.on (k0_part102 i) x y z) := by
  unfold k0_part102
  refine .l h.k5 fun _ => .l h.k23 fun _ => .l h.k11 fun _ => .s h.w11 <| .l h.k31 fun _ => .l h.k11 fun _ => .l h.k5
    fun _ => .l h.k23 fun _ => .l h.k11 fun _ => .s h.w11 <| .l h.k31 fun _ => .l h.k11 fun _ => .pure _

theorem s103 {x y z u v} : Safe defs 𝒱 (c : Thread nD τ) E H (b.on (k0_part103 i) x y z u v) := by
  unfold k0_part103
  refine .l h.k5 fun _ => .l h.k23 fun _ => .l h.k11 fun _ => .s h.w11 <| .l h.k6 fun _ => .l h.k10 fun _ => .l h.k12
    fun _ => .l h.k32 fun _ => .s h.w32 <| .pure _

theorem s104 {x y z u} : Safe defs 𝒱 (c : Thread nD τ) E H (b.on (k0_part104 i) x y z u) := by
  unfold k0_part104
  refine .l h.k10 fun _ => .s h.w10 <| .l h.k12 fun _ => .l h.k24 fun _ => .s h.w24 <| .l h.k6 fun _ => .l h.k10 fun _
    => .l h.k12 fun _ => .l h.k32 fun _ => .s h.w32 <| .pure _

theorem s105 {x y z u} : Safe defs 𝒱 (c : Thread nD τ) E H (b.on (k0_part105 i) x y z u) := by
  unfold k0_part105
  refine .l h.k10 fun _ => .s h.w10 <| .l h.k12 fun _ => .l h.k24 fun _ => .s h.w24 <| .l h.k6 fun _ => .l h.k10 fun _
    => .l h.k12 fun _ => .l h.k32 fun _ => .s h.w32 <| .l h.k10 fun _ => .pure _

theorem s106 {x y z u v} : Safe defs 𝒱 (c : Thread nD τ) E H (b.on (k0_part106 i) x y z u v) := by
  unfold k0_part106
  refine .s h.w10 <| .l h.k12 fun _ => .l h.k24 fun _ => .s h.w24 <| .l h.k6 fun _ => .l h.k10 fun _ => .l h.k12 fun _
    => .l h.k32 fun _ => .s h.w32 <| .l h.k10 fun _ => .pure _

theorem s107 {x y z u v} : Safe defs 𝒱 (c : Thread nD τ) E H (b.on (k0_part107 i) x y z u v) := by
  unfold k0_part107
  refine .s h.w10 <| .l h.k12 fun _ => .l h.k24 fun _ => .s h.w24 <| .l h.k4 fun _ => .l h.k3 fun _ => .l h.k12 fun _
    => .s h.w12 <| .l h.k4 fun _ => .pure _

theorem s108 {x y z} : Safe defs 𝒱 (c : Thread nD τ) E H (b.on (k0_part108 i) x y z) := by
  unfold k0_part108
  refine .l h.k3 fun _ => .l h.k12 fun _ => .s h.w12 <| .l h.k4 fun _ => .l h.k3 fun _ => .l h.k12 fun _ => .s h.w12
    <| .l h.k4 fun _ => .l h.k3 fun _ => .pure _

theorem s109 {x y z u v} : Safe defs 𝒱 (c : Thread nD τ) E H (b.on (k0_part109 i) x y z u v) := by
  unfold k0_part109
  refine .l h.k12 fun _ => .s h.w12 <| .l h.k32 fun _ => .l h.k11 fun _ => .l h.k5 fun _ => .l h.k24 fun _ => .l h.k11
    fun _ => .s h.w11 <| .l h.k32 fun _ => .l h.k11 fun _ => .pure _

theorem s110 {x y z u} : Safe defs 𝒱 (c : Thread nD τ) E H (b.on (k0_part110 i) x y z u) := by
  unfold k0_part110
  refine .l h.k5 fun _ => .l h.k24 fun _ => .l h.k11 fun _ => .s h.w11 <| .l h.k32 fun _ => .l h.k11 fun _ => .l h.k5
    fun _ => .l h.k24 fun _ => .l h.k11 fun _ => .s h.w11 <| .l h.k32 fun _ => .pure _

theorem s111 {x y z u} : Safe defs 𝒱 (c : Thread nD τ) E H (b.on (k0_part111 i) x y z u) := by
  unfold k0_part111
  refine .l h.k11 fun _ => .l h.k5 fun _ => .l h.k24 fun _ => .l h.k11 fun _ => .s h.w11 <| .l h.k6 fun _ => .l h.k10
    fun _ => .l h.k13 fun _ => .pure _

theorem s112 {x y z u v} : Safe defs 𝒱 (c : Thread nD τ) E H (b.on (k0_part112 i) x y z u v) := by
  unfold k0_part112
  refine .l h.k33 fun _ => .s h.w33 <| .l h.k10 fun _ => .s h.w10 <| .l h.k13 fun _ => .l h.k25 fun _ => .s h.w25 <|
    .l h.k6 fun _ => .l h.k10 fun _ => .l h.k13 fun _ => .l h.k33 fun _ => .pure _

theorem s113 {x y z u v} : Safe defs 𝒱 (c : Thread nD τ) E H (b.on (k0_part113 i) x y z u v) := by
  unfold k0_part113
  refine .s h.w33 <| .l h.k10 fun _ => .s h.w10 <| .l h.k13 fun _ => .l h.k25 fun _ => .s h.w25 <| .l h.k6 fun _ => .l
    h.k10 fun _ => .l h.k13 fun _ => .l h.k33 fun _ => .s h.w33 <| .pure _

theorem s114 {x y z u} : Safe defs 𝒱 (c : Thread nD τ) E H (b.on (k0_part114 i) x y z u) := by
  unfold k0_part114
  refine .l h.k10 fun _ => .s h.w10 <| .l h.k13 fun _ => .l h.k25 fun _ => .s h.w25 <| .l h.k6 fun _ => .l h.k10 fun _
    => .l h.k13 fun _ => .l h.k33 fun _ => .s h.w33 <| .pure _

theorem s115 {x y z u} : Safe defs 𝒱 (c : Thread nD τ) E H (b.on (k0_part115 i) x y z u) := by
  unfold k0_part115
  refine .l h.k10 fun _ => .s h.w10 <| .l h.k13 fun _ => .l h.k25 fun _ => .s h.w25 <| .l h.k33 fun _ => .l h.k11 fun
    _ => .l h.k5 fun _ => .l h.k25 fun _ => .l h.k11 fun _ => .pure _

theorem s116 {x y z u} : Safe defs 𝒱 (c : Thread nD τ) E H (b.on (k0_part116 i) x y z u) := by
  unfold k0_part116
  refine .s h.w11 <| .l h.k33 fun _ => .l h.k11 fun _ => .l h.k5 fun _ => .l h.k25 fun _ => .l h.k11 fun _ => .s h.w11
    <| .l h.k33 fun _ => .l h.k11 fun _ => .l h.k5 fun _ => .l h.k25 fun _ => .pure _

theorem s117 {x y z u v w p} : Safe defs 𝒱 (c : Thread nD τ) E H (b.on (k0_part117 i) x y z u v w p) := by
  unfold k0_part117
  refine .l h.k11 fun _ => .s h.w11 <| .l h.k33 fun _ => .l h.k11 fun _ => .l h.k5 fun _ => .l h.k25 fun _ => .l h.k11
    fun _ => .s h.w11 <| .l h.k6 fun _ => .l h.k10 fun _ => .pure _

theorem s118 {x y z u} : Safe defs 𝒱 (c : Thread nD τ) E H (b.on (k0_part118 i) x y z u) := by
  unfold k0_part118
  refine .l h.k14 fun _ => .l h.k34 fun _ => .s h.w34 <| .l h.k10 fun _ => .s h.w10 <| .l h.k14 fun _ => .l h.k26 fun
    _ => .s h.w26 <| .l h.k6 fun _ => .l h.k10 fun _ => .pure _

theorem s119 {x y z u} : Safe defs 𝒱 (c : Thread nD τ) E H (b.on (k0_part119 i) x y z u) := by
  unfold k0_part119
  refine .l h.k14 fun _ => .l h.k34 fun _ => .s h.w34 <| .l h.k10 fun _ => .s h.w10 <| .l h.k14 fun _ => .l h.k26 fun
    _ => .s h.w26 <| .l h.k6 fun _ => .l h.k10 fun _ => .l h.k14 fun _ => .pure _

theorem s120 {x y z u v} : Safe defs 𝒱 (c : Thread nD τ) E H (b.on (k0_part120 i) x y z u v) := by
  unfold k0_part120
  refine .l h.k34 fun _ => .s h.w34 <| .l h.k10 fun _ => .s h.w10 <| .l h.k14 fun _ => .l h.k26 fun _ => .s h.w26 <|
    .l h.k6 fun _ => .l h.k10 fun _ => .l h.k14 fun _ => .pure _

theorem s121 {x y z u} : Safe defs 𝒱 (c : Thread nD τ) E H (b.on (k0_part121 i) x y z u) := by
  unfold k0_part121
  refine .l h.k34 fun _ => .s h.w34 <| .l h.k10 fun _ => .s h.w10 <| .l h.k14 fun _ => .l h.k26 fun _ => .s h.w26 <|
    .l h.k34 fun _ => .l h.k11 fun _ => .pure _

theorem s122 {x y z} : Safe defs 𝒱 (c : Thread nD τ) E H (b.on (k0_part122 i) x y z) := by
  unfold k0_part122
  refine .l h.k5 fun _ => .l h.k26 fun _ => .l h.k11 fun _ => .s h.w11 <| .l h.k34 fun _ => .l h.k11 fun _ => .l h.k5
    fun _ => .l h.k26 fun _ => .l h.k11 fun _ => .s h.w11 <| .l h.k34 fun _ => .l h.k11 fun _ => .pure _

theorem s123 {x y z u v} : Safe defs 𝒱 (c : Thread nD τ) E H (b.on (k0_part123 i) x y z u v) := by
  unfold k0_part123
  refine .l h.k5 fun _ => .l h.k26 fun _ => .l h.k11 fun _ => .s h.w11 <| .l h.k34 fun _ => .l h.k11 fun _ => .l h.k5
    fun _ => .l h.k26 fun _ => .l h.k11 fun _ => .s h.w11 <| .pure _

theorem s124 {x y z u} : Safe defs 𝒱 (c : Thread nD τ) E H (b.on (k0_part124 i) x y z u) := by
  unfold k0_part124
  refine .l h.k6 fun _ => .l h.k10 fun _ => .l h.k15 fun _ => .l h.k35 fun _ => .s h.w35 <| .l h.k10 fun _ => .s h.w10
    <| .l h.k15 fun _ => .l h.k27 fun _ => .s h.w27 <| .pure _

theorem s125 {x y z} : Safe defs 𝒱 (c : Thread nD τ) E H (b.on (k0_part125 i) x y z) := by
  unfold k0_part125
  refine .l h.k6 fun _ => .l h.k10 fun _ => .l h.k15 fun _ => .l h.k35 fun _ => .s h.w35 <| .l h.k10 fun _ => .s h.w10
    <| .l h.k15 fun _ => .l h.k27 fun _ => .s h.w27 <| .pure _

theorem s126 {x y z} : Safe defs 𝒱 (c : Thread nD τ) E H (b.on (k0_part126 i) x y z) := by
  unfold k0_part126
  refine .l h.k6 fun _ => .l h.k10 fun _ => .l h.k15 fun _ => .l h.k35 fun _ => .s h.w35 <| .l h.k10 fun _ => .s h.w10
    <| .l h.k15 fun _ => .l h.k27 fun _ => .s h.w27 <| .pure _

theorem s127 {x y} : Safe defs 𝒱 (c : Thread nD τ) E H (b.on (k0_part127 i) x y) := by
  unfold k0_part127
  refine .l h.k6 fun _ => .l h.k10 fun _ => .l h.k15 fun _ => .l h.k35 fun _ => .s h.w35 <| .l h.k10 fun _ => .s h.w10
    <| .l h.k15 fun _ => .l h.k27 fun _ => .s h.w27 <| .pure _

theorem s128 {x y} : Safe defs 𝒱 (c : Thread nD τ) E H (b.on (k0_part128 i) x y) := by
  unfold k0_part128
  refine .l h.k35 fun _ => .l h.k11 fun _ => .l h.k5 fun _ => .l h.k27 fun _ => .l h.k11 fun _ => .s h.w11 <| .l h.k35
    fun _ => .l h.k11 fun _ => .l h.k5 fun _ => .l h.k27 fun _ => .pure _

theorem s129 {x y z} : Safe defs 𝒱 (c : Thread nD τ) E H (b.on (k0_part129 i) x y z) := by
  unfold k0_part129
  refine .l h.k11 fun _ => .s h.w11 <| .l h.k35 fun _ => .l h.k11 fun _ => .l h.k5 fun _ => .l h.k27 fun _ => .l h.k11
    fun _ => .s h.w11 <| .l h.k35 fun _ => .l h.k11 fun _ => .l h.k5 fun _ => .l h.k27 fun _ => .pure _

theorem s130 {x y z u v} : Safe defs 𝒱 (c : Thread nD τ) E H (b.on (k0_part130 i) x y z u v) := by
  unfold k0_part130
  refine .l h.k11 fun _ => .s h.w11 <| .l h.k6 fun _ => .l h.k10 fun _ => .l h.k16 fun _ => .l h.k28 fun _ => .s h.w28
    <| .l h.k10 fun _ => .s h.w10 <| .l h.k16 fun _ => .pure _

theorem s131 {x y z u} : Safe defs 𝒱 (c : Thread nD τ) E H (b.on (k0_part131 i) x y z u) := by
  unfold k0_part131
  refine .l h.k20 fun _ => .s h.w20 <| .l h.k6 fun _ => .l h.k10 fun _ => .l h.k16 fun _ => .l h.k28 fun _ => .s h.w28
    <| .l h.k10 fun _ => .s h.w10 <| .l h.k16 fun _ => .pure _

theorem s132 {x y z} : Safe defs 𝒱 (c : Thread nD τ) E H (b.on (k0_part132 i) x y z) := by
  unfold k0_part132
  refine .l h.k20 fun _ => .s h.w20 <| .l h.k6 fun _ => .l h.k10 fun _ => .l h.k16 fun _ => .l h.k28 fun _ => .s h.w28
    <| .l h.k10 fun _ => .s h.w10 <| .l h.k16 fun _ => .pure _

theorem s133 {x y z} : Safe defs 𝒱 (c : Thread nD τ) E H (b.on (k0_part133 i) x y z) := by
  unfold k0_part133
  refine .l h.k20 fun _ => .s h.w20 <| .l h.k6 fun _ => .l h.k10 fun _ => .l h.k16 fun _ => .l h.k28 fun _ => .s h.w28
    <| .l h.k10 fun _ => .s h.w10 <| .l h.k16 fun _ => .pure _

theorem s134 {x y z} : Safe defs 𝒱 (c : Thread nD τ) E H (b.on (k0_part134 i) x y z) := by
  unfold k0_part134
  refine .l h.k20 fun _ => .s h.w20 <| .l h.k28 fun _ => .l h.k11 fun _ => .l h.k5 fun _ => .l h.k20 fun _ => .l h.k11
    fun _ => .s h.w11 <| .l h.k28 fun _ => .l h.k11 fun _ => .pure _

theorem s135 {x y z} : Safe defs 𝒱 (c : Thread nD τ) E H (b.on (k0_part135 i) x y z) := by
  unfold k0_part135
  refine .l h.k5 fun _ => .l h.k20 fun _ => .l h.k11 fun _ => .s h.w11 <| .l h.k28 fun _ => .l h.k11 fun _ => .l h.k5
    fun _ => .l h.k20 fun _ => .l h.k11 fun _ => .s h.w11 <| .l h.k28 fun _ => .l h.k11 fun _ => .pure _

theorem s136 {x y z u v} : Safe defs 𝒱 (c : Thread nD τ) E H (b.on (k0_part136 i) x y z u v) := by
  unfold k0_part136
  refine .l h.k5 fun _ => .l h.k20 fun _ => .l h.k11 fun _ => .s h.w11 <| .l h.k6 fun _ => .l h.k10 fun _ => .l h.k17
    fun _ => .l h.k29 fun _ => .s h.w29 <| .pure _

theorem s137 {x y z u} : Safe defs 𝒱 (c : Thread nD τ) E H (b.on (k0_part137 i) x y z u) := by
  unfold k0_part137
  refine .l h.k10 fun _ => .s h.w10 <| .l h.k17 fun _ => .l h.k21 fun _ => .s h.w21 <| .l h.k6 fun _ => .l h.k10 fun _
    => .l h.k17 fun _ => .l h.k29 fun _ => .s h.w29 <| .pure _

theorem s138 {x y z u} : Safe defs 𝒱 (c : Thread nD τ) E H (b.on (k0_part138 i) x y z u) := by
  unfold k0_part138
  refine .l h.k10 fun _ => .s h.w10 <| .l h.k17 fun _ => .l h.k21 fun _ => .s h.w21 <| .l h.k6 fun _ => .l h.k10 fun _
    => .l h.k17 fun _ => .l h.k29 fun _ => .s h.w29 <| .l h.k10 fun _ => .pure _

theorem s139 {x y z u v} : Safe defs 𝒱 (c : Thread nD τ) E H (b.on (k0_part139 i) x y z u v) := by
  unfold k0_part139
  refine .s h.w10 <| .l h.k17 fun _ => .l h.k21 fun _ => .s h.w21 <| .l h.k6 fun _ => .l h.k10 fun _ => .l h.k17 fun _
    => .l h.k29 fun _ => .s h.w29 <| .l h.k10 fun _ => .pure _

theorem s140 {x y z u v} : Safe defs 𝒱 (c : Thread nD τ) E H (b.on (k0_part140 i) x y z u v) := by
  unfold k0_part140
  refine .s h.w10 <| .l h.k17 fun _ => .l h.k21 fun _ => .s h.w21 <| .l h.k29 fun _ => .l h.k11 fun _ => .l h.k5 fun _
    => .l h.k21 fun _ => .l h.k11 fun _ => .s h.w11 <| .pure _

theorem s141 {x y} : Safe defs 𝒱 (c : Thread nD τ) E H (b.on (k0_part141 i) x y) := by
  unfold k0_part141
  refine .l h.k29 fun _ => .l h.k11 fun _ => .l h.k5 fun _ => .l h.k21 fun _ => .l h.k11 fun _ => .s h.w11 <| .l h.k29
    fun _ => .l h.k11 fun _ => .l h.k5 fun _ => .l h.k21 fun _ => .pure _

theorem s142 {x y z u} : Safe defs 𝒱 (c : Thread nD τ) E H (b.on (k0_part142 i) x y z u) := by
  unfold k0_part142
  refine .l h.k11 fun _ => .s h.w11 <| .l h.k29 fun _ => .l h.k11 fun _ => .l h.k5 fun _ => .l h.k21 fun _ => .l h.k11
    fun _ => .s h.w11 <| .l h.k6 fun _ => .l h.k10 fun _ => .l h.k18 fun _ => .pure _

theorem s143 {x y z u v} : Safe defs 𝒱 (c : Thread nD τ) E H (b.on (k0_part143 i) x y z u v) := by
  unfold k0_part143
  refine .l h.k30 fun _ => .s h.w30 <| .l h.k10 fun _ => .s h.w10 <| .l h.k18 fun _ => .l h.k22 fun _ => .s h.w22 <|
    .l h.k6 fun _ => .l h.k10 fun _ => .l h.k18 fun _ => .pure _

theorem s144 {x y z u v} : Safe defs 𝒱 (c : Thread nD τ) E H (b.on (k0_part144 i) x y z u v) := by
  unfold k0_part144
  refine .l h.k30 fun _ => .s h.w30 <| .l h.k10 fun _ => .s h.w10 <| .l h.k18 fun _ => .l h.k22 fun _ => .s h.w22 <|
    .l h.k6 fun _ => .l h.k10 fun _ => .l h.k18 fun _ => .pure _

theorem s145 {x y z u v} : Safe defs 𝒱 (c : Thread nD τ) E H (b.on (k0_part145 i) x y z u v) := by
  unfold k0_part145
  refine .l h.k30 fun _ => .s h.w30 <| .l h.k10 fun _ => .s h.w10 <| .l h.k18 fun _ => .l h.k22 fun _ => .s h.w22 <|
    .l h.k6 fun _ => .l h.k10 fun _ => .l h.k18 fun _ => .pure _

theorem s146 {x y z u v} : Safe defs 𝒱 (c : Thread nD τ) E H (b.on (k0_part146 i) x y z u v) := by
  unfold k0_part146
  refine .l h.k30 fun _ => .s h.w30 <| .l h.k10 fun _ => .s h.w10 <| .l h.k18 fun _ => .l h.k22 fun _ => .s h.w22 <|
    .l h.k30 fun _ => .l h.k11 fun _ => .l h.k5 fun _ => .pure _

theorem s147 {x y z u} : Safe defs 𝒱 (c : Thread nD τ) E H (b.on (k0_part147 i) x y z u) := by
  unfold k0_part147
  refine .l h.k22 fun _ => .l h.k11 fun _ => .s h.w11 <| .l h.k30 fun _ => .l h.k11 fun _ => .l h.k5 fun _ => .l h.k22
    fun _ => .l h.k11 fun _ => .s h.w11 <| .l h.k30 fun _ => .l h.k11 fun _ => .pure _

theorem s148 {x y z u} : Safe defs 𝒱 (c : Thread nD τ) E H (b.on (k0_part148 i) x y z u) := by
  unfold k0_part148
  refine .l h.k5 fun _ => .l h.k22 fun _ => .l h.k11 fun _ => .s h.w11 <| .l h.k30 fun _ => .l h.k11 fun _ => .l h.k5
    fun _ => .l h.k22 fun _ => .l h.k11 fun _ => .s h.w11 <| .pure _

theorem s149 {x y z} : Safe defs 𝒱 (c : Thread nD τ) E H (b.on (k0_part149 i) x y z) := by
  unfold k0_part149
  refine .l h.k6 fun _ => .l h.k10 fun _ => .l h.k19 fun _ => .l h.k31 fun _ => .s h.w31 <| .l h.k10 fun _ => .s h.w10
    <| .l h.k19 fun _ => .l h.k23 fun _ => .s h.w23 <| .pure _

theorem s150 {x y} : Safe defs 𝒱 (c : Thread nD τ) E H (b.on (k0_part150 i) x y) := by
  unfold k0_part150
  refine .l h.k6 fun _ => .l h.k10 fun _ => .l h.k19 fun _ => .l h.k31 fun _ => .s h.w31 <| .l h.k10 fun _ => .s h.w10
    <| .l h.k19 fun _ => .l h.k23 fun _ => .s h.w23 <| .l h.k6 fun _ => .pure _

theorem s151 {x y z} : Safe defs 𝒱 (c : Thread nD τ) E H (b.on (k0_part151 i) x y z) := by
  unfold k0_part151
  refine .l h.k10 fun _ => .l h.k19 fun _ => .l h.k31 fun _ => .s h.w31 <| .l h.k10 fun _ => .s h.w10 <| .l h.k19 fun
    _ => .l h.k23 fun _ => .s h.w23 <| .l h.k6 fun _ => .pure _

theorem s153 {x y z u} : Safe defs 𝒱 (c : Thread nD τ) E H (b.on (k0_part153 i) x y z u) := by
  unfold k0_part153
  refine .l h.k4 fun _ => .l h.k3 fun _ => .l h.k13 fun _ => .s h.w13 <| .l h.k14 fun _ => .s h.w14 <| .l h.k15 fun _
    => .s h.w15 <| .l h.k4 fun _ => .pure _

theorem s154 {x y z} : Safe defs 𝒱 (c : Thread nD τ) E H (b.on (k0_part154 i) x y z) := by
  unfold k0_part154
  refine .l h.k3 fun _ => .l h.k13 fun _ => .s h.w13 <| .l h.k14 fun _ => .s h.w14 <| .l h.k15 fun _ => .s h.w15 <| .l
    h.k4 fun _ => .l h.k3 fun _ => .l h.k13 fun _ => .s h.w13 <| .l h.k14 fun _ => .pure _

theorem s155 {x y z u} : Safe defs 𝒱 (c : Thread nD τ) E H (b.on (k0_part155 i) x y z u) := by
  unfold k0_part155
  refine .s h.w14 <| .l h.k15 fun _ => .s h.w15 <| .l h.k4 fun _ => .l h.k3 fun _ => .l h.k13 fun _ => .s h.w13 <| .l
    h.k14 fun _ => .s h.w14 <| .l h.k15 fun _ => .s h.w15 <| .pure _

theorem s156 {x y z u} : Safe defs 𝒱 (c : Thread nD τ) E H (b.on (k0_part156 i) x y z u) := by
  unfold k0_part156
  refine .l h.k31 fun _ => .l h.k11 fun _ => .l h.k5 fun _ => .l h.k23 fun _ => .l h.k11 fun _ => .s h.w11 <| .l h.k31
    fun _ => .l h.k11 fun _ => .l h.k5 fun _ => .l h.k23 fun _ => .pure _

theorem s157 {x y z u v w} : Safe defs 𝒱 (c : Thread nD τ) E H (b.on (k0_part157 i) x y z u v w) := by
  unfold k0_part157
  refine .l h.k11 fun _ => .s h.w11 <| .l h.k31 fun _ => .l h.k11 fun _ => .l h.k5 fun _ => .l h.k23 fun _ => .l h.k11
    fun _ => .s h.w11 <| .l h.k31 fun _ => .l h.k11 fun _ => .l h.k5 fun _ => .pure _

theorem s158 {x y z u} : Safe defs 𝒱 (c : Thread nD τ) E H (b.on (k0_part158 i) x y z u) := by
  unfold k0_part158
  refine .l h.k23 fun _ => .l h.k11 fun _ => .s h.w11 <| .l h.k6 fun _ => .l h.k10 fun _ => .l h.k12 fun _ => .l h.k28
    fun _ => .s h.w28 <| .l h.k10 fun _ => .s h.w10 <| .pure _

theorem s159 {x y z u} : Safe defs 𝒱 (c : Thread nD τ) E H (b.on (k0_part159 i) x y z u) := by
  unfold k0_part159
  refine .l h.k12 fun _ => .l h.k20 fun _ => .s h.w20 <| .l h.k6 fun _ => .l h.k10 fun _ => .l h.k12 fun _ => .l h.k28
    fun _ => .s h.w28 <| .l h.k10 fun _ => .s h.w10 <| .l h.k12 fun _ => .pure _

theorem s160 {x y z u v} : Safe defs 𝒱 (c : Thread nD τ) E H (b.on (k0_part160 i) x y z u v) := by
  unfold k0_part160
  refine .l h.k20 fun _ => .s h.w20 <| .l h.k6 fun _ => .l h.k10 fun _ => .l h.k12 fun _ => .l h.k28 fun _ => .s h.w28
    <| .l h.k10 fun _ => .s h.w10 <| .l h.k12 fun _ => .pure _

theorem s161 {x y z u} : Safe defs 𝒱 (c : Thread nD τ) E H (b.on (k0_part161 i) x y z u) := by
  unfold k0_part161
  refine .l h.k20 fun _ => .s h.w20 <| .l h.k6 fun _ => .l h.k10 fun _ => .l h.k12 fun _ => .l h.k28 fun _ => .s h.w28
    <| .l h.k10 fun _ => .s h.w10 <| .l h.k12 fun _ => .pure _

theorem s162 {x y z} : Safe defs 𝒱 (c : Thread nD τ) E H (b.on (k0_part162 i) x y z) := by
  unfold k0_part162
  refine .l h.k20 fun _ => .s h.w20 <| .l h.k4 fun _ => .l h.k3 fun _ => .l h.k12 fun _ => .s h.w12 <| .l h.k4 fun _
    => .l h.k3 fun _ => .pure _

theorem s163 {x y z} : Safe defs 𝒱 (c : Thread nD τ) E H (b.on (k0_part163 i) x y z) := by
  unfold k0_part163
  refine .l h.k12 fun _ => .s h.w12 <| .l h.k4 fun _ => .l h.k3 fun _ => .l h.k12 fun _ => .s h.w12 <| .l h.k4 fun _
    => .l h.k3 fun _ => .l h.k12 fun _ => .s h.w12 <| .pure _

theorem s164 {x y z} : Safe defs 𝒱 (c : Thread nD τ) E H (b.on (k0_part164 i) x y z) := by
  unfold k0_part164
  refine .l h.k28 fun _ => .l h.k11 fun _ => .l h.k5 fun _ => .l h.k20 fun _ => .l h.k11 fun _ => .s h.w11 <| .l h.k28
    fun _ => .l h.k11 fun _ => .l h.k5 fun _ => .pure _

theorem s165 {x y z u} : Safe defs 𝒱 (c : Thread nD τ) E H (b.on (k0_part165 i) x y z u) := by
  unfold k0_part165
  refine .l h.k20 fun _ => .l h.k11 fun _ => .s h.w11 <| .l h.k28 fun _ => .l h.k11 fun _ => .l h.k5 fun _ => .l h.k20
    fun _ => .l h.k11 fun _ => .s h.w11 <| .l h.k28 fun _ => .l h.k11 fun _ => .pure _

theorem s166 {x y z} : Safe defs 𝒱 (c : Thread nD τ) E H (b.on (k0_part166 i) x y z) := by
  unfold k0_part166
  refine .l h.k5 fun _ => .l h.k20 fun _ => .l h.k11 fun _ => .s h.w11 <| .l h.k6 fun _ => .l h.k10 fun _ => .l h.k13
    fun _ => .l h.k29 fun _ => .s h.w29 <| .l h.k10 fun _ => .pure _

theorem s167 {x y z u} : Safe defs 𝒱 (c : Thread nD τ) E H (b.on (k0_part167 i) x y z u) := by
  unfold k0_part167
  refine .s h.w10 <| .l h.k13 fun _ => .l h.k21 fun _ => .s h.w21 <| .l h.k6 fun _ => .l h.k10 fun _ => .l h.k13 fun _
    => .l h.k29 fun _ => .s h.w29 <| .l h.k10 fun _ => .s h.w10 <| .pure _

theorem s168 {x y z u} : Safe defs 𝒱 (c : Thread nD τ) E H (b.on (k0_part168 i) x y z u) := by
  unfold k0_part168
  refine .l h.k13 fun _ => .l h.k21 fun _ => .s h.w21 <| .l h.k6 fun _ => .l h.k10 fun _ => .l h.k13 fun _ => .l h.k29
    fun _ => .s h.w29 <| .l h.k10 fun _ => .s h.w10 <| .pure _

theorem s169 {x y z u} : Safe defs 𝒱 (c : Thread nD τ) E H (b.on (k0_part169 i) x y z u) := by
  unfold k0_part169
  refine .l h.k13 fun _ => .l h.k21 fun _ => .s h.w21 <| .l h.k6 fun _ => .l h.k10 fun _ => .l h.k13 fun _ => .l h.k29
    fun _ => .s h.w29 <| .l h.k10 fun _ => .s h.w10 <| .l h.k13 fun _ => .pure _

theorem s170 {x y z u v} : Safe defs 𝒱 (c : Thread nD τ) E H (b.on (k0_part170 i) x y z u v) := by
  unfold k0_part170
  refine .l h.k21 fun _ => .s h.w21 <| .l h.k29 fun _ => .l h.k11 fun _ => .l h.k5 fun _ => .l h.k21 fun _ => .l h.k11
    fun _ => .s h.w11 <| .l h.k29 fun _ => .pure _

theorem s171 {x y z} : Safe defs 𝒱 (c : Thread nD τ) E H (b.on (k0_part171 i) x y z) := by
  unfold k0_part171
  refine .l h.k11 fun _ => .l h.k5 fun _ => .l h.k21 fun _ => .l h.k11 fun _ => .s h.w11 <| .l h.k29 fun _ => .l h.k11
    fun _ => .l h.k5 fun _ => .l h.k21 fun _ => .l h.k11 fun _ => .s h.w11 <| .pure _

theorem s172 {x y z} : Safe defs 𝒱 (c : Thread nD τ) E H (b.on (k0_part172 i) x y z) := by
  unfold k0_part172
  refine .l h.k29 fun _ => .l h.k11 fun _ => .l h.k5 fun _ => .l h.k21 fun _ => .l h.k11 fun _ => .s h.w11 <| .l h.k6
    fun _ => .l h.k10 fun _ => .l h.k14 fun _ => .pure _

theorem s173 {x y z u v} : Safe defs 𝒱 (c : Thread nD τ) E H (b.on (k0_part173 i) x y z u v) := by
  unfold k0_part173
  refine .l h.k30 fun _ => .s h.w30 <| .l h.k10 fun _ => .s h.w10 <| .l h.k14 fun _ => .l h.k22 fun _ => .s h.w22 <|
    .l h.k6 fun _ => .l h.k10 fun _ => .l h.k14 fun _ => .pure _

end Cert.Proof.KMobaIdeal
end
-- ==== Proof.KMobaIdealSafe3.lean ====
/-
  The statements of the attention body, a stretch of the printed text at a time: each is safe.
-/
module

public import proofs.«01_k».proof.Proof.KMobaIdealBufs

@[expose] public section

set_option synthInstance.maxSize 4096

noncomputable section

namespace Cert.Proof.KMobaIdeal

open Idealize.ShloMosaic Idealize.ShloMosaic.TcCoe Idealize.SL.Sem Idealize.SL.BI
open Cert.KMobaIdeal Cert.Proof.Safe

variable {F : FTy → Type} [FloatOps F] [Facts] {defs : Defs nD τ sig (Elt F) Λ₀} {𝒱 : Variants} {c : Dev nD} {E : Set ℕ}
  {H : sProp (MT nD τ sig Unit (Elt F) ℕ (UR sig nD τ) ℕ)} {b : Bufs} (h : b.Held c H) {i : grid0.Coords}
include h

theorem s174 {x y z u v} : Safe defs 𝒱 (c : Thread nD τ) E H (b.on (k0_part174 i) x y z u v) := by
  unfold k0_part174
  refine .l h.k30 fun _ => .s h.w30 <| .l h.k10 fun _ => .s h.w10 <| .l h.k14 fun _ => .l h.k22 fun _ => .s h.w22 <|
    .l h.k6 fun _ => .l h.k10 fun _ => .l h.k14 fun _ => .pure _

theorem s175 {x y z u v} : Safe defs 𝒱 (c : Thread nD τ) E H (b.on (k0_part175 i) x y z u v) := by
  unfold k0_part175
  refine .l h.k30 fun _ => .s h.w30 <| .l h.k10 fun _ => .s h.w10 <| .l h.k14 fun _ => .l h.k22 fun _ => .s h.w22 <|
    .l h.k6 fun _ => .l h.k10 fun _ => .l h.k14 fun _ => .l h.k30 fun _ => .pure _

theorem s176 {x y z u v w} : Safe defs 𝒱 (c : Thread nD τ) E H (b.on (k0_part176 i) x y z u v w) := by
  unfold k0_part176
  refine .s h.w30 <| .l h.k10 fun _ => .s h.w10 <| .l h.k14 fun _ => .l h.k22 fun _ => .s h.w22 <| .l h.k30 fun _ =>
    .l h.k11 fun _ => .l h.k5 fun _ => .l h.k22 fun _ => .pure _

theorem s177 {x y z u} : Safe defs 𝒱 (c : Thread nD τ) E H (b.on (k0_part177 i) x y z u) := by
  unfold k0_part177
  refine .l h.k11 fun _ => .s h.w11 <| .l h.k30 fun _ => .l h.k11 fun _ => .l h.k5 fun _ => .l h.k22 fun _ => .l h.k11
    fun _ => .s h.w11 <| .l h.k30 fun _ => .l h.k11 fun _ => .l h.k5 fun _ => .pure _

theorem s178 {x y z u v} : Safe defs 𝒱 (c : Thread nD τ) E H (b.on (k0_part178 i) x y z u v) := by
  unfold k0_part178
  refine .l h.k22 fun _ => .l h.k11 fun _ => .s h.w11 <| .l h.k30 fun _ => .l h.k11 fun _ => .l h.k5 fun _ => .l h.k22
    fun _ => .l h.k11 fun _ => .s h.w11 <| .l h.k6 fun _ => .pure _

theorem s179 {x y z} : Safe defs 𝒱 (c : Thread nD τ) E H (b.on (k0_part179 i) x y z) := by
  unfold k0_part179
  refine .l h.k10 fun _ => .l h.k15 fun _ => .l h.k31 fun _ => .s h.w31 <| .l h.k10 fun _ => .s h.w10 <| .l h.k15 fun
    _ => .l h.k23 fun _ => .s h.w23 <| .l h.k6 fun _ => .pure _

theorem s180 {x y z} : Safe defs 𝒱 (c : Thread nD τ) E H (b.on (k0_part180 i) x y z) := by
  unfold k0_part180
  refine .l h.k10 fun _ => .l h.k15 fun _ => .l h.k31 fun _ => .s h.w31 <| .l h.k10 fun _ => .s h.w10 <| .l h.k15 fun
    _ => .l h.k23 fun _ => .s h.w23 <| .l h.k6 fun _ => .l h.k10 fun _ => .pure _

theorem s181 {x y z u} : Safe defs 𝒱 (c : Thread nD τ) E H (b.on (k0_part181 i) x y z u) := by
  unfold k0_part181
  refine .l h.k15 fun _ => .l h.k31 fun _ => .s h.w31 <| .l h.k10 fun _ => .s h.w10 <| .l h.k15 fun _ => .l h.k23 fun
    _ => .s h.w23 <| .l h.k6 fun _ => .l h.k10 fun _ => .pure _

theorem s183 {x y z u} : Safe defs 𝒱 (c : Thread nD τ) E H (b.on (k0_part183 i) x y z u) := by
  unfold k0_part183
  refine .l h.k4 fun _ => .l h.k3 fun _ => .l h.k13 fun _ => .s h.w13 <| .l h.k14 fun _ => .s h.w14 <| .l h.k15 fun _
    => .s h.w15 <| .l h.k4 fun _ => .pure _

theorem s184 {x y z} : Safe defs 𝒱 (c : Thread nD τ) E H (b.on (k0_part184 i) x y z) := by
  unfold k0_part184
  refine .l h.k3 fun _ => .l h.k13 fun _ => .s h.w13 <| .l h.k14 fun _ => .s h.w14 <| .l h.k15 fun _ => .s h.w15 <| .l
    h.k4 fun _ => .l h.k3 fun _ => .l h.k13 fun _ => .s h.w13 <| .l h.k14 fun _ => .pure _

theorem s185 {x y z u} : Safe defs 𝒱 (c : Thread nD τ) E H (b.on (k0_part185 i) x y z u) := by
  unfold k0_part185
  refine .s h.w14 <| .l h.k15 fun _ => .s h.w15 <| .l h.k4 fun _ => .l h.k3 fun _ => .l h.k13 fun _ => .s h.w13 <| .l
    h.k14 fun _ => .s h.w14 <| .l h.k15 fun _ => .s h.w15 <| .pure _

theorem s186 {x y z u} : Safe defs 𝒱 (c : Thread nD τ) E H (b.on (k0_part186 i) x y z u) := by
  unfold k0_part186
  refine .l h.k31 fun _ => .l h.k11 fun _ => .l h.k5 fun _ => .l h.k23 fun _ => .l h.k11 fun _ => .s h.w11 <| .l h.k31
    fun _ => .l h.k11 fun _ => .l h.k5 fun _ => .l h.k23 fun _ => .pure _

theorem s187 {x y z u v w} : Safe defs 𝒱 (c : Thread nD τ) E H (b.on (k0_part187 i) x y z u v w) := by
  unfold k0_part187
  refine .l h.k11 fun _ => .s h.w11 <| .l h.k31 fun _ => .l h.k11 fun _ => .l h.k5 fun _ => .l h.k23 fun _ => .l h.k11
    fun _ => .s h.w11 <| .l h.k31 fun _ => .l h.k11 fun _ => .l h.k5 fun _ => .pure _

theorem s188 {x y z u} : Safe defs 𝒱 (c : Thread nD τ) E H (b.on (k0_part188 i) x y z u) := by
  unfold k0_part188
  refine .l h.k23 fun _ => .l h.k11 fun _ => .s h.w11 <| .l h.k6 fun _ => .l h.k10 fun _ => .l h.k12 fun _ => .l h.k28
    fun _ => .s h.w28 <| .l h.k10 fun _ => .s h.w10 <| .pure _

theorem s189 {x y z u} : Safe defs 𝒱 (c : Thread nD τ) E H (b.on (k0_part189 i) x y z u) := by
  unfold k0_part189
  refine .l h.k12 fun _ => .l h.k20 fun _ => .s h.w20 <| .l h.k6 fun _ => .l h.k10 fun _ => .l h.k12 fun _ => .l h.k28
    fun _ => .s h.w28 <| .l h.k10 fun _ => .s h.w10 <| .l h.k12 fun _ => .pure _

theorem s190 {x y z u v} : Safe defs 𝒱 (c : Thread nD τ) E H (b.on (k0_part190 i) x y z u v) := by
  unfold k0_part190
  refine .l h.k20 fun _ => .s h.w20 <| .l h.k6 fun _ => .l h.k10 fun _ => .l h.k12 fun _ => .l h.k28 fun _ => .s h.w28
    <| .l h.k10 fun _ => .s h.w10 <| .l h.k12 fun _ => .pure _

theorem s191 {x y z u} : Safe defs 𝒱 (c : Thread nD τ) E H (b.on (k0_part191 i) x y z u) := by
  unfold k0_part191
  refine .l h.k20 fun _ => .s h.w20 <| .l h.k6 fun _ => .l h.k10 fun _ => .l h.k12 fun _ => .l h.k28 fun _ => .s h.w28
    <| .l h.k10 fun _ => .s h.w10 <| .l h.k12 fun _ => .pure _

theorem s192 {x y z} : Safe defs 𝒱 (c : Thread nD τ) E H (b.on (k0_part192 i) x y z) := by
  unfold k0_part192
  refine .l h.k20 fun _ => .s h.w20 <| .l h.k4 fun _ => .l h.k3 fun _ => .l h.k12 fun _ => .s h.w12 <| .l h.k4 fun _
    => .l h.k3 fun _ => .pure _

theorem s193 {x y z} : Safe defs 𝒱 (c : Thread nD τ) E H (b.on (k0_part193 i) x y z) := by
  unfold k0_part193
  refine .l h.k12 fun _ => .s h.w12 <| .l h.k4 fun _ => .l h.k3 fun _ => .l h.k12 fun _ => .s h.w12 <| .l h.k4 fun _
    => .l h.k3 fun _ => .l h.k12 fun _ => .s h.w12 <| .pure _

theorem s194 {x y z} : Safe defs 𝒱 (c : Thread nD τ) E H (b.on (k0_part194 i) x y z) := by
  unfold k0_part194
  refine .l h.k28 fun _ => .l h.k11 fun _ => .l h.k5 fun _ => .l h.k20 fun _ => .l h.k11 fun _ => .s h.w11 <| .l h.k28
    fun _ => .l h.k11 fun _ => .l h.k5 fun _ => .pure _

theorem s195 {x y z u} : Safe defs 𝒱 (c : Thread nD τ) E H (b.on (k0_part195 i) x y z u) := by
  unfold k0_part195
  refine .l h.k20 fun _ => .l h.k11 fun _ => .s h.w11 <| .l h.k28 fun _ => .l h.k11 fun _ => .l h.k5 fun _ => .l h.k20
    fun _ => .l h.k11 fun _ => .s h.w11 <| .l h.k28 fun _ => .l h.k11 fun _ => .pure _

theorem s196 {x y z} : Safe defs 𝒱 (c : Thread nD τ) E H (b.on (k0_part196 i) x y z) := by
  unfold k0_part196
  refine .l h.k5 fun _ => .l h.k20 fun _ => .l h.k11 fun _ => .s h.w11 <| .l h.k6 fun _ => .l h.k10 fun _ => .l h.k13
    fun _ => .l h.k29 fun _ => .s h.w29 <| .l h.k10 fun _ => .pure _

theorem s197 {x y z u} : Safe defs 𝒱 (c : Thread nD τ) E H (b.on (k0_part197 i) x y z u) := by
  unfold k0_part197
  refine .s h.w10 <| .l h.k13 fun _ => .l h.k21 fun _ => .s h.w21 <| .l h.k6 fun _ => .l h.k10 fun _ => .l h.k13 fun _
    => .l h.k29 fun _ => .s h.w29 <| .l h.k10 fun _ => .s h.w10 <| .pure _

theorem s198 {x y z u} : Safe defs 𝒱 (c : Thread nD τ) E H (b.on (k0_part198 i) x y z u) := by
  unfold k0_part198
  refine .l h.k13 fun _ => .l h.k21 fun _ => .s h.w21 <| .l h.k6 fun _ => .l h.k10 fun _ => .l h.k13 fun _ => .l h.k29
    fun _ => .s h.w29 <| .l h.k10 fun _ => .s h.w10 <| .pure _

theorem s199 {x y z u} : Safe defs 𝒱 (c : Thread nD τ) E H (b.on (k0_part199 i) x y z u) := by
  unfold k0_part199
  refine .l h.k13 fun _ => .l h.k21 fun _ => .s h.w21 <| .l h.k6 fun _ => .l h.k10 fun _ => .l h.k13 fun _ => .l h.k29
    fun _ => .s h.w29 <| .l h.k10 fun _ => .s h.w10 <| .l h.k13 fun _ => .pure _

theorem s200 {x y z u v} : Safe defs 𝒱 (c : Thread nD τ) E H (b.on (k0_part200 i) x y z u v) := by
  unfold k0_part200
  refine .l h.k21 fun _ => .s h.w21 <| .l h.k29 fun _ => .l h.k11 fun _ => .l h.k5 fun _ => .l h.k21 fun _ => .l h.k11
    fun _ => .s h.w11 <| .l h.k29 fun _ => .pure _

theorem s201 {x y z} : Safe defs 𝒱 (c : Thread nD τ) E H (b.on (k0_part201 i) x y z) := by
  unfold k0_part201
  refine .l h.k11 fun _ => .l h.k5 fun _ => .l h.k21 fun _ => .l h.k11 fun _ => .s h.w11 <| .l h.k29 fun _ => .l h.k11
    fun _ => .l h.k5 fun _ => .l h.k21 fun _ => .l h.k11 fun _ => .s h.w11 <| .pure _

theorem s202 {x y z} : Safe defs 𝒱 (c : Thread nD τ) E H (b.on (k0_part202 i) x y z) := by
  unfold k0_part202
  refine .l h.k29 fun _ => .l h.k11 fun _ => .l h.k5 fun _ => .l h.k21 fun _ => .l h.k11 fun _ => .s h.w11 <| .l h.k6
    fun _ => .l h.k10 fun _ => .l h.k14 fun _ => .pure _

theorem s203 {x y z u v} : Safe defs 𝒱 (c : Thread nD τ) E H (b.on (k0_part203 i) x y z u v) := by
  unfold k0_part203
  refine .l h.k30 fun _ => .s h.w30 <| .l h.k10 fun _ => .s h.w10 <| .l h.k14 fun _ => .l h.k22 fun _ => .s h.w22 <|
    .l h.k6 fun _ => .l h.k10 fun _ => .l h.k14 fun _ => .pure _

theorem s204 {x y z u v} : Safe defs 𝒱 (c : Thread nD τ) E H (b.on (k0_part204 i) x y z u v) := by
  unfold k0_part204
  refine .l h.k30 fun _ => .s h.w30 <| .l h.k10 fun _ => .s h.w10 <| .l h.k14 fun _ => .l h.k22 fun _ => .s h.w22 <|
    .l h.k6 fun _ => .l h.k10 fun _ => .l h.k14 fun _ => .pure _

theorem s205 {x y z u v} : Safe defs 𝒱 (c : Thread nD τ) E H (b.on (k0_part205 i) x y z u v) := by
  unfold k0_part205
  refine .l h.k30 fun _ => .s h.w30 <| .l h.k10 fun _ => .s h.w10 <| .l h.k14 fun _ => .l h.k22 fun _ => .s h.w22 <|
    .l h.k6 fun _ => .l h.k10 fun _ => .l h.k14 fun _ => .l h.k30 fun _ => .pure _

theorem s206 {x y z u v w} : Safe defs 𝒱 (c : Thread nD τ) E H (b.on (k0_part206 i) x y z u v w) := by
  unfold k0_part206
  refine .s h.w30 <| .l h.k10 fun _ => .s h.w10 <| .l h.k14 fun _ => .l h.k22 fun _ => .s h.w22 <| .l h.k30 fun _ =>
    .l h.k11 fun _ => .l h.k5 fun _ => .l h.k22 fun _ => .pure _

theorem s207 {x y z u} : Safe defs 𝒱 (c : Thread nD τ) E H (b.on (k0_part207 i) x y z u) := by
  unfold k0_part207
  refine .l h.k11 fun _ => .s h.w11 <| .l h.k30 fun _ => .l h.k11 fun _ => .l h.k5 fun _ => .l h.k22 fun _ => .l h.k11
    fun _ => .s h.w11 <| .l h.k30 fun _ => .l h.k11 fun _ => .l h.k5 fun _ => .pure _

theorem s208 {x y z u v} : Safe defs 𝒱 (c : Thread nD τ) E H (b.on (k0_part208 i) x y z u v) := by
  unfold k0_part208
  refine .l h.k22 fun _ => .l h.k11 fun _ => .s h.w11 <| .l h.k30 fun _ => .l h.k11 fun _ => .l h.k5 fun _ => .l h.k22
    fun _ => .l h.k11 fun _ => .s h.w11 <| .l h.k6 fun _ => .pure _

theorem s209 {x y z} : Safe defs 𝒱 (c : Thread nD τ) E H (b.on (k0_part209 i) x y z) := by
  unfold k0_part209
  refine .l h.k10 fun _ => .l h.k15 fun _ => .l h.k31 fun _ => .s h.w31 <| .l h.k10 fun _ => .s h.w10 <| .l h.k15 fun
    _ => .l h.k23 fun _ => .s h.w23 <| .l h.k6 fun _ => .pure _

theorem s210 {x y z} : Safe defs 𝒱 (c : Thread nD τ) E H (b.on (k0_part210 i) x y z) := by
  unfold k0_part210
  refine .l h.k10 fun _ => .l h.k15 fun _ => .l h.k31 fun _ => .s h.w31 <| .l h.k10 fun _ => .s h.w10 <| .l h.k15 fun
    _ => .l h.k23 fun _ => .s h.w23 <| .l h.k6 fun _ => .l h.k10 fun _ => .pure _

theorem s211 {x y z u} : Safe defs 𝒱 (c : Thread nD τ) E H (b.on (k0_part211 i) x y z u) := by
  unfold k0_part211
  refine .l h.k15 fun _ => .l h.k31 fun _ => .s h.w31 <| .l h.k10 fun _ => .s h.w10 <| .l h.k15 fun _ => .l h.k23 fun
    _ => .s h.w23 <| .l h.k6 fun _ => .l h.k10 fun _ => .pure _

theorem s213 {x y z u} : Safe defs 𝒱 (c : Thread nD τ) E H (b.on (k0_part213 i) x y z u) := by
  unfold k0_part213
  refine .l h.k4 fun _ => .l h.k3 fun _ => .l h.k13 fun _ => .s h.w13 <| .l h.k4 fun _ => .l h.k3 fun _ => .l h.k13
    fun _ => .s h.w13 <| .pure _

theorem s214 {x y z} : Safe defs 𝒱 (c : Thread nD τ) E H (b.on (k0_part214 i) x y z) := by
  unfold k0_part214
  refine .l h.k4 fun _ => .l h.k3 fun _ => .l h.k13 fun _ => .s h.w13 <| .l h.k4 fun _ => .l h.k3 fun _ => .l h.k13
    fun _ => .s h.w13 <| .pure _

theorem s215 {x y z u} : Safe defs 𝒱 (c : Thread nD τ) E H (b.on (k0_part215 i) x y z u) := by
  unfold k0_part215
  refine .l h.k31 fun _ => .l h.k11 fun _ => .l h.k5 fun _ => .l h.k23 fun _ => .l h.k11 fun _ => .s h.w11 <| .l h.k31
    fun _ => .l h.k11 fun _ => .l h.k5 fun _ => .l h.k23 fun _ => .pure _

theorem s216 {x y z u v w} : Safe defs 𝒱 (c : Thread nD τ) E H (b.on (k0_part216 i) x y z u v w) := by
  unfold k0_part216
  refine .l h.k11 fun _ => .s h.w11 <| .l h.k31 fun _ => .l h.k11 fun _ => .l h.k5 fun _ => .l h.k23 fun _ => .l h.k11
    fun _ => .s h.w11 <| .l h.k31 fun _ => .l h.k11 fun _ => .l h.k5 fun _ => .pure _

theorem s217 {x y z u} : Safe defs 𝒱 (c : Thread nD τ) E H (b.on (k0_part217 i) x y z u) := by
  unfold k0_part217
  refine .l h.k23 fun _ => .l h.k11 fun _ => .s h.w11 <| .l h.k6 fun _ => .l h.k10 fun _ => .l h.k12 fun _ => .l h.k30
    fun _ => .s h.w30 <| .l h.k10 fun _ => .s h.w10 <| .l h.k12 fun _ => .pure _

theorem s218 {x y z u v} : Safe defs 𝒱 (c : Thread nD τ) E H (b.on (k0_part218 i) x y z u v) := by
  unfold k0_part218
  refine .l h.k22 fun _ => .s h.w22 <| .l h.k6 fun _ => .l h.k10 fun _ => .l h.k12 fun _ => .l h.k30 fun _ => .s h.w30
    <| .l h.k10 fun _ => .s h.w10 <| .l h.k12 fun _ => .pure _

theorem s219 {x y z u} : Safe defs 𝒱 (c : Thread nD τ) E H (b.on (k0_part219 i) x y z u) := by
  unfold k0_part219
  refine .l h.k22 fun _ => .s h.w22 <| .l h.k6 fun _ => .l h.k10 fun _ => .l h.k12 fun _ => .l h.k30 fun _ => .s h.w30
    <| .l h.k10 fun _ => .s h.w10 <| .l h.k12 fun _ => .pure _

theorem s220 {x y z} : Safe defs 𝒱 (c : Thread nD τ) E H (b.on (k0_part220 i) x y z) := by
  unfold k0_part220
  refine .l h.k22 fun _ => .s h.w22 <| .l h.k6 fun _ => .l h.k10 fun _ => .l h.k12 fun _ => .l h.k30 fun _ => .s h.w30
    <| .l h.k10 fun _ => .s h.w10 <| .l h.k12 fun _ => .pure _

theorem s221 {x y z} : Safe defs 𝒱 (c : Thread nD τ) E H (b.on (k0_part221 i) x y z) := by
  unfold k0_part221
  refine .l h.k22 fun _ => .s h.w22 <| .l h.k4 fun _ => .l h.k3 fun _ => .l h.k12 fun _ => .s h.w12 <| .l h.k4 fun _
    => .l h.k3 fun _ => .l h.k12 fun _ => .pure _

theorem s222 {x y z u v} : Safe defs 𝒱 (c : Thread nD τ) E H (b.on (k0_part222 i) x y z u v) := by
  unfold k0_part222
  refine .s h.w12 <| .l h.k4 fun _ => .l h.k3 fun _ => .l h.k12 fun _ => .s h.w12 <| .l h.k4 fun _ => .l h.k3 fun _ =>
    .l h.k12 fun _ => .s h.w12 <| .pure _

theorem s223 {x y z} : Safe defs 𝒱 (c : Thread nD τ) E H (b.on (k0_part223 i) x y z) := by
  unfold k0_part223
  refine .l h.k30 fun _ => .l h.k11 fun _ => .l h.k5 fun _ => .l h.k22 fun _ => .l h.k11 fun _ => .s h.w11 <| .l h.k30
    fun _ => .l h.k11 fun _ => .l h.k5 fun _ => .l h.k22 fun _ => .pure _

theorem s224 {x y z} : Safe defs 𝒱 (c : Thread nD τ) E H (b.on (k0_part224 i) x y z) := by
  unfold k0_part224
  refine .l h.k11 fun _ => .s h.w11 <| .l h.k30 fun _ => .l h.k11 fun _ => .l h.k5 fun _ => .l h.k22 fun _ => .l h.k11
    fun _ => .s h.w11 <| .l h.k30 fun _ => .l h.k11 fun _ => .l h.k5 fun _ => .pure _

theorem s225 {x y z u v} : Safe defs 𝒱 (c : Thread nD τ) E H (b.on (k0_part225 i) x y z u v) := by
  unfold k0_part225
  refine .l h.k22 fun _ => .l h.k11 fun _ => .s h.w11 <| .l h.k6 fun _ => .l h.k10 fun _ => .l h.k13 fun _ => .l h.k31
    fun _ => .s h.w31 <| .l h.k10 fun _ => .pure _

theorem s226 {x y z u v} : Safe defs 𝒱 (c : Thread nD τ) E H (b.on (k0_part226 i) x y z u v) := by
  unfold k0_part226
  refine .s h.w10 <| .l h.k13 fun _ => .l h.k23 fun _ => .s h.w23 <| .l h.k6 fun _ => .l h.k10 fun _ => .l h.k13 fun _
    => .l h.k31 fun _ => .s h.w31 <| .pure _

theorem s227 {x y z u v} : Safe defs 𝒱 (c : Thread nD τ) E H (b.on (k0_part227 i) x y z u v) := by
  unfold k0_part227
  refine .l h.k10 fun _ => .s h.w10 <| .l h.k13 fun _ => .l h.k23 fun _ => .s h.w23 <| .l h.k6 fun _ => .l h.k10 fun _
    => .l h.k13 fun _ => .l h.k31 fun _ => .pure _

theorem s228 {x y z u v w p} : Safe defs 𝒱 (c : Thread nD τ) E H (b.on (k0_part228 i) x y z u v w p) := by
  unfold k0_part228
  refine .s h.w31 <| .l h.k10 fun _ => .s h.w10 <| .l h.k13 fun _ => .l h.k23 fun _ => .s h.w23 <| .l h.k6 fun _ => .l
    h.k10 fun _ => .l h.k13 fun _ => .pure _

theorem s229 {x y z u} : Safe defs 𝒱 (c : Thread nD τ) E H (b.on (k0_part229 i) x y z u) := by
  unfold k0_part229
  refine .l h.k4 fun _ => .l h.k3 fun _ => .l h.k13 fun _ => .s h.w13 <| .l h.k4 fun _ => .l h.k3 fun _ => .l h.k13
    fun _ => .s h.w13 <| .pure _

theorem s230 {x y z} : Safe defs 𝒱 (c : Thread nD τ) E H (b.on (k0_part230 i) x y z) := by
  unfold k0_part230
  refine .l h.k4 fun _ => .l h.k3 fun _ => .l h.k13 fun _ => .s h.w13 <| .l h.k4 fun _ => .l h.k3 fun _ => .l h.k13
    fun _ => .s h.w13 <| .pure _

theorem s231 {x y z u} : Safe defs 𝒱 (c : Thread nD τ) E H (b.on (k0_part231 i) x y z u) := by
  unfold k0_part231
  refine .l h.k31 fun _ => .l h.k11 fun _ => .l h.k5 fun _ => .l h.k23 fun _ => .l h.k11 fun _ => .s h.w11 <| .l h.k31
    fun _ => .l h.k11 fun _ => .l h.k5 fun _ => .l h.k23 fun _ => .pure _

theorem s232 {x y z u v w} : Safe defs 𝒱 (c : Thread nD τ) E H (b.on (k0_part232 i) x y z u v w) := by
  unfold k0_part232
  refine .l h.k11 fun _ => .s h.w11 <| .l h.k31 fun _ => .l h.k11 fun _ => .l h.k5 fun _ => .l h.k23 fun _ => .l h.k11
    fun _ => .s h.w11 <| .l h.k31 fun _ => .l h.k11 fun _ => .l h.k5 fun _ => .pure _

theorem s233 {x y z u} : Safe defs 𝒱 (c : Thread nD τ) E H (b.on (k0_part233 i) x y z u) := by
  unfold k0_part233
  refine .l h.k23 fun _ => .l h.k11 fun _ => .s h.w11 <| .l h.k6 fun _ => .l h.k10 fun _ => .l h.k12 fun _ => .l h.k30
    fun _ => .s h.w30 <| .l h.k10 fun _ => .s h.w10 <| .l h.k12 fun _ => .pure _

theorem s234 {x y z u v} : Safe defs 𝒱 (c : Thread nD τ) E H (b.on (k0_part234 i) x y z u v) := by
  unfold k0_part234
  refine .l h.k22 fun _ => .s h.w22 <| .l h.k6 fun _ => .l h.k10 fun _ => .l h.k12 fun _ => .l h.k30 fun _ => .s h.w30
    <| .l h.k10 fun _ => .s h.w10 <| .l h.k12 fun _ => .pure _

theorem s235 {x y z u} : Safe defs 𝒱 (c : Thread nD τ) E H (b.on (k0_part235 i) x y z u) := by
  unfold k0_part235
  refine .l h.k22 fun _ => .s h.w22 <| .l h.k6 fun _ => .l h.k10 fun _ => .l h.k12 fun _ => .l h.k30 fun _ => .s h.w30
    <| .l h.k10 fun _ => .s h.w10 <| .l h.k12 fun _ => .pure _

theorem s236 {x y z} : Safe defs 𝒱 (c : Thread nD τ) E H (b.on (k0_part236 i) x y z) := by
  unfold k0_part236
  refine .l h.k22 fun _ => .s h.w22 <| .l h.k6 fun _ => .l h.k10 fun _ => .l h.k12 fun _ => .l h.k30 fun _ => .s h.w30
    <| .l h.k10 fun _ => .s h.w10 <| .l h.k12 fun _ => .pure _

theorem s237 {x y z} : Safe defs 𝒱 (c : Thread nD τ) E H (b.on (k0_part237 i) x y z) := by
  unfold k0_part237
  refine .l h.k22 fun _ => .s h.w22 <| .l h.k4 fun _ => .l h.k3 fun _ => .l h.k12 fun _ => .s h.w12 <| .l h.k4 fun _
    => .l h.k3 fun _ => .l h.k12 fun _ => .pure _

theorem s238 {x y z u v} : Safe defs 𝒱 (c : Thread nD τ) E H (b.on (k0_part238 i) x y z u v) := by
  unfold k0_part238
  refine .s h.w12 <| .l h.k4 fun _ => .l h.k3 fun _ => .l h.k12 fun _ => .s h.w12 <| .l h.k4 fun _ => .l h.k3 fun _ =>
    .l h.k12 fun _ => .s h.w12 <| .pure _

theorem s239 {x y z} : Safe defs 𝒱 (c : Thread nD τ) E H (b.on (k0_part239 i) x y z) := by
  unfold k0_part239
  refine .l h.k30 fun _ => .l h.k11 fun _ => .l h.k5 fun _ => .l h.k22 fun _ => .l h.k11 fun _ => .s h.w11 <| .l h.k30
    fun _ => .l h.k11 fun _ => .l h.k5 fun _ => .l h.k22 fun _ => .pure _

theorem s240 {x y z} : Safe defs 𝒱 (c : Thread nD τ) E H (b.on (k0_part240 i) x y z) := by
  unfold k0_part240
  refine .l h.k11 fun _ => .s h.w11 <| .l h.k30 fun _ => .l h.k11 fun _ => .l h.k5 fun _ => .l h.k22 fun _ => .l h.k11
    fun _ => .s h.w11 <| .l h.k30 fun _ => .l h.k11 fun _ => .l h.k5 fun _ => .pure _

theorem s241 {x y z u v} : Safe defs 𝒱 (c : Thread nD τ) E H (b.on (k0_part241 i) x y z u v) := by
  unfold k0_part241
  refine .l h.k22 fun _ => .l h.k11 fun _ => .s h.w11 <| .l h.k6 fun _ => .l h.k10 fun _ => .l h.k13 fun _ => .l h.k31
    fun _ => .s h.w31 <| .l h.k10 fun _ => .pure _

theorem s242 {x y z u v} : Safe defs 𝒱 (c : Thread nD τ) E H (b.on (k0_part242 i) x y z u v) := by
  unfold k0_part242
  refine .s h.w10 <| .l h.k13 fun _ => .l h.k23 fun _ => .s h.w23 <| .l h.k6 fun _ => .l h.k10 fun _ => .l h.k13 fun _
    => .l h.k31 fun _ => .s h.w31 <| .pure _

theorem s243 {x y z u v} : Safe defs 𝒱 (c : Thread nD τ) E H (b.on (k0_part243 i) x y z u v) := by
  unfold k0_part243
  refine .l h.k10 fun _ => .s h.w10 <| .l h.k13 fun _ => .l h.k23 fun _ => .s h.w23 <| .l h.k6 fun _ => .l h.k10 fun _
    => .l h.k13 fun _ => .l h.k31 fun _ => .pure _

theorem s244 {x y z u v w p} : Safe defs 𝒱 (c : Thread nD τ) E H (b.on (k0_part244 i) x y z u v w p) := by
  unfold k0_part244
  refine .s h.w31 <| .l h.k10 fun _ => .s h.w10 <| .l h.k13 fun _ => .l h.k23 fun _ => .s h.w23 <| .l h.k6 fun _ => .l
    h.k10 fun _ => .l h.k13 fun _ => .pure _

theorem s246 {x y} : Safe defs 𝒱 (c : Thread nD τ) E H (b.on (k0_part246 i) x y) := by
  unfold k0_part246
  refine .l h.k3 fun _ => .l h.k14 fun _ => .s h.w14 <| .l h.k4 fun _ => .l h.k3 fun _ => .l h.k14 fun _ => .s h.w14
    <| .l h.k4 fun _ => .l h.k3 fun _ => .pure _

theorem s247 {x y z} : Safe defs 𝒱 (c : Thread nD τ) E H (b.on (k0_part247 i) x y z) := by
  unfold k0_part247
  refine .l h.k14 fun _ => .s h.w14 <| .l h.k4 fun _ => .l h.k3 fun _ => .l h.k15 fun _ => .s h.w15 <| .l h.k4 fun _
    => .l h.k3 fun _ => .l h.k15 fun _ => .pure _

theorem s248 {x y z} : Safe defs 𝒱 (c : Thread nD τ) E H (b.on (k0_part248 i) x y z) := by
  unfold k0_part248
  refine .s h.w15 <| .l h.k4 fun _ => .l h.k3 fun _ => .l h.k15 fun _ => .s h.w15 <| .l h.k4 fun _ => .l h.k3 fun _ =>
    .l h.k15 fun _ => .s h.w15 <| .pure _

theorem s249 {x y z} : Safe defs 𝒱 (c : Thread nD τ) E H (b.on (k0_part249 i) x y z) := by
  unfold k0_part249
  refine .l h.k4 fun _ => .l h.k3 fun _ => .l h.k12 fun _ => .s h.w12 <| .l h.k4 fun _ => .l h.k3 fun _ => .l h.k12
    fun _ => .s h.w12 <| .pure _

theorem s250 {x} : Safe defs 𝒱 (c : Thread nD τ) E H (b.on (k0_part250 i) x) := by
  unfold k0_part250
  refine .l h.k4 fun _ => .l h.k3 fun _ => .l h.k12 fun _ => .s h.w12 <| .l h.k4 fun _ => .l h.k3 fun _ => .l h.k12
    fun _ => .s h.w12 <| .l h.k14 fun _ => .l h.k8 fun _ => .pure _

theorem s251 {x} : Safe defs 𝒱 (c : Thread nD τ) E H (b.on (k0_part251 i) x) := by
  unfold k0_part251
  refine .l h.k10 fun _ => .s h.w10 <| .l h.k22 fun _ => .s h.w22 <| .l h.k14 fun _ => .l h.k8 fun _ => .l h.k10 fun _
    => .s h.w10 <| .l h.k22 fun _ => .s h.w22 <| .l h.k14 fun _ => .pure _

theorem s252 {x y} : Safe defs 𝒱 (c : Thread nD τ) E H (b.on (k0_part252 i) x y) := by
  unfold k0_part252
  refine .l h.k8 fun _ => .l h.k10 fun _ => .s h.w10 <| .l h.k22 fun _ => .s h.w22 <| .l h.k14 fun _ => .l h.k8 fun _
    => .l h.k10 fun _ => .s h.w10 <| .l h.k22 fun _ => .s h.w22 <| .pure _

theorem s253 {x} : Safe defs 𝒱 (c : Thread nD τ) E H (b.on (k0_part253 i) x) := by
  unfold k0_part253
  refine .l h.k5 fun _ => .l h.k22 fun _ => .l h.k11 fun _ => .s h.w11 <| .l h.k5 fun _ => .l h.k22 fun _ => .l h.k11
    fun _ => .s h.w11 <| .l h.k5 fun _ => .l h.k22 fun _ => .l h.k11 fun _ => .s h.w11 <| .pure _

theorem s254 {x y} : Safe defs 𝒱 (c : Thread nD τ) E H (b.on (k0_part254 i) x y) := by
  unfold k0_part254
  refine .l h.k5 fun _ => .l h.k22 fun _ => .l h.k11 fun _ => .s h.w11 <| .l h.k6 fun _ => .l h.k10 fun _ => .l h.k15
    fun _ => .l h.k9 fun _ => .l h.k31 fun _ => .s h.w31 <| .pure _

theorem s255 {x y z u} : Safe defs 𝒱 (c : Thread nD τ) E H (b.on (k0_part255 i) x y z u) := by
  unfold k0_part255
  refine .l h.k10 fun _ => .s h.w10 <| .l h.k15 fun _ => .l h.k9 fun _ => .l h.k23 fun _ => .s h.w23 <| .l h.k6 fun _
    => .l h.k10 fun _ => .l h.k15 fun _ => .l h.k9 fun _ => .pure _

theorem s256 {x y z u v} : Safe defs 𝒱 (c : Thread nD τ) E H (b.on (k0_part256 i) x y z u v) := by
  unfold k0_part256
  refine .l h.k31 fun _ => .s h.w31 <| .l h.k10 fun _ => .s h.w10 <| .l h.k15 fun _ => .l h.k9 fun _ => .l h.k23 fun _
    => .s h.w23 <| .l h.k6 fun _ => .l h.k10 fun _ => .pure _

theorem s257 {x y z} : Safe defs 𝒱 (c : Thread nD τ) E H (b.on (k0_part257 i) x y z) := by
  unfold k0_part257
  refine .l h.k15 fun _ => .l h.k9 fun _ => .l h.k31 fun _ => .s h.w31 <| .l h.k10 fun _ => .s h.w10 <| .l h.k15 fun _
    => .l h.k9 fun _ => .l h.k23 fun _ => .s h.w23 <| .pure _

theorem s258 {x} : Safe defs 𝒱 (c : Thread nD τ) E H (b.on (k0_part258 i) x) := by
  unfold k0_part258
  refine .l h.k6 fun _ => .l h.k10 fun _ => .l h.k15 fun _ => .l h.k9 fun _ => .l h.k31 fun _ => .s h.w31 <| .l h.k10
    fun _ => .s h.w10 <| .l h.k15 fun _ => .l h.k9 fun _ => .pure _

theorem s262 {x y z} : Safe defs 𝒱 (c : Thread nD τ) E H (b.on (k0_part262 i) x y z) := by
  unfold k0_part262
  refine .l h.k5 fun _ => .l h.k23 fun _ => .l h.k11 fun _ => .s h.w11 <| .l h.k31 fun _ => .l h.k11 fun _ => .l h.k5
    fun _ => .l h.k23 fun _ => .l h.k11 fun _ => .s h.w11 <| .pure _

theorem s263 {x} : Safe defs 𝒱 (c : Thread nD τ) E H (b.on (k0_part263 i) x) := by
  unfold k0_part263
  refine .l h.k31 fun _ => .l h.k11 fun _ => .l h.k5 fun _ => .l h.k23 fun _ => .l h.k11 fun _ => .s h.w11 <| .l h.k11
    fun _ => .l h.k7 fun _ => .s h.w7 <| .l h.k11 fun _ => .l h.k7 fun _ => .s h.w7 <| .pure _

end Cert.Proof.KMobaIdeal
end
-- ==== Proof.KMobaIdealSafe.lean ====
/-
  The statements of the attention body, a stretch of the printed text at a time: each is safe.
-/
module

public import proofs.«01_k».proof.Proof.KMobaIdealSafe1
public import proofs.«01_k».proof.Proof.KMobaIdealSafe2
public import proofs.«01_k».proof.Proof.KMobaIdealSafe3

@[expose] public section

set_option synthInstance.maxSize 4096

noncomputable section

namespace Cert.Proof.KMobaIdeal

open Idealize.ShloMosaic Idealize.ShloMosaic.TcCoe Idealize.SL.Sem Idealize.SL.BI
open Cert.KMobaIdeal Cert.Proof.Safe

variable {F : FTy → Type} [FloatOps F] [Facts] {defs : Defs nD τ sig (Elt F) Λ₀} {𝒱 : Variants} {c : Dev nD} {E : Set ℕ}
  {H : sProp (MT nD τ sig Unit (Elt F) ℕ (UR sig nD τ) ℕ)} {b : Bufs} (h : b.Held c H) {i : grid0.Coords}
include h

theorem s38 {x y} : Safe defs 𝒱 (c : Thread nD τ) E H (b.on (k0_part38 i) x y) := by
  unfold k0_part38
  refine .bind (s1 h) fun ⟨_, _, _, _, _⟩ => .bind (s2 h) fun ⟨_, _, _, _, _, _, _⟩ => .bind (s3 h) fun ⟨_, _⟩ =>
    .bind (s4 h) fun ⟨_, _, _⟩ => .bind (s5 h) fun ⟨_, _⟩ => .bind (s6 h) fun ⟨_, _⟩ => .bind (s7 h) fun ⟨_, _⟩ =>
    .bind (s8 h) fun ⟨_, _⟩ => .bind (s9 h) fun ⟨_, _⟩ => .bind (s10 h) fun ⟨_, _⟩ => ?_
  refine .bind (s11 h) fun ⟨_, _, _, _, _⟩ => .bind (s12 h) fun ⟨_, _⟩ => .bind (s13 h) fun ⟨_, _⟩ => .bind (s14 h)
    fun ⟨_, _⟩ => .bind (s15 h) fun _ => .bind (s16 h) fun ⟨_, _⟩ => .bind (s17 h) fun _ => .bind (s18 h) fun ⟨_, _⟩
    => .bind (s19 h) fun _ => .bind (s20 h) fun ⟨_, _, _, _, _⟩ => ?_
  refine .bind (s21 h) fun _ => .bind (s22 h) fun ⟨_, _⟩ => .bind (s23 h) fun _ => .bind (s24 h) fun ⟨_, _⟩ => .bind
    (s25 h) fun ⟨_, _, _⟩ => .bind (s26 h) fun ⟨_, _⟩ => .bind (s27 h) fun ⟨_, _, _⟩ => .bind (s28 h) fun ⟨_, _⟩ =>
    .bind (s29 h) fun ⟨_, _, _, _, _, _⟩ => .bind (s30 h) fun ⟨_, _⟩ => ?_
  refine .bind (s31 h) fun ⟨_, _, _⟩ => .bind (s32 h) fun ⟨_, _⟩ => .bind (s33 h) fun ⟨_, _, _⟩ => .bind (s34 h) fun
    ⟨_, _⟩ => .bind (s35 h) fun ⟨_, _, _⟩ => .bind (s36 h) fun ⟨_, _⟩ => .bind (s37 h) fun ⟨_, _, _⟩ => .w h.k2 fun _
    => .w h.k2 fun _ => .pure _

theorem s95 {x y z u} : Safe defs 𝒱 (c : Thread nD τ) E H (b.on (k0_part95 i) x y z u) := by
  unfold k0_part95
  refine .bind (s39 h) fun ⟨_, _, _, _⟩ => .bind (s40 h) fun ⟨_, _⟩ => .bind (s41 h) fun ⟨_, _⟩ => .bind (s42 h) fun _
    => .bind (s43 h) fun _ => .bind (s44 h) fun ⟨_, _⟩ => .bind (s45 h) fun ⟨_, _⟩ => .bind (s46 h) fun ⟨_, _, _⟩ =>
    .bind (s47 h) fun ⟨_, _⟩ => .bind (s48 h) fun ⟨_, _, _⟩ => ?_
  refine .bind (s49 h) fun ⟨_, _, _⟩ => .bind (s50 h) fun ⟨_, _⟩ => .bind (s51 h) fun ⟨_, _, _⟩ => .bind (s52 h) fun
    ⟨_, _, _⟩ => .bind (s53 h) fun _ => .bind (s54 h) fun ⟨_, _, _, _⟩ => .bind (s55 h) fun ⟨_, _, _⟩ => .bind (s56 h)
    fun ⟨_, _⟩ => .bind (s57 h) fun ⟨_, _⟩ => .bind (s58 h) fun ⟨_, _, _⟩ => ?_
  refine .bind (s59 h) fun ⟨_, _, _, _⟩ => .bind (s60 h) fun ⟨_, _, _⟩ => .bind (s61 h) fun ⟨_, _⟩ => .bind (s62 h)
    fun ⟨_, _, _⟩ => .bind (s63 h) fun ⟨_, _, _⟩ => .bind (s64 h) fun ⟨_, _⟩ => .bind (s65 h) fun ⟨_, _⟩ => .bind (s66
    h) fun ⟨_, _, _⟩ => .bind (s67 h) fun _ => .bind (s68 h) fun _ => ?_
  refine .bind (s69 h) fun _ => .bind (s70 h) fun _ => .bind (s71 h) fun _ => .bind (s72 h) fun ⟨_, _, _⟩ => .bind
    (s73 h) fun ⟨_, _, _⟩ => .bind (s74 h) fun _ => .bind (s75 h) fun _ => .bind (s76 h) fun _ => .bind (s77 h) fun
    ⟨_, _⟩ => .bind (s78 h) fun ⟨_, _⟩ => ?_
  refine .bind (s79 h) fun ⟨_, _, _⟩ => .bind (s80 h) fun ⟨_, _⟩ => .bind (s81 h) fun ⟨_, _, _⟩ => .bind (s82 h) fun
    ⟨_, _, _⟩ => .bind (s83 h) fun _ => .bind (s84 h) fun _ => .bind (s85 h) fun ⟨_, _, _, _⟩ => .bind (s86 h) fun ⟨_,
    _, _⟩ => .bind (s87 h) fun ⟨_, _, _⟩ => .bind (s88 h) fun ⟨_, _, _⟩ => ?_
  refine .bind (s89 h) fun ⟨_, _, _⟩ => .bind (s90 h) fun _ => .bind (s91 h) fun ⟨_, _⟩ => .bind (s92 h) fun _ =>
    .bind (s93 h) fun _ => .bind (s94 h) fun _ => .l h.k10 fun _ => .pure _

theorem s152 {x y z u} : Safe defs 𝒱 (c : Thread nD τ) E H (b.on (k0_part152 i) x y z u) := by
  unfold k0_part152
  refine .bind (s96 h) fun ⟨_, _, _, _⟩ => .bind (s97 h) fun ⟨_, _⟩ => .bind (s98 h) fun ⟨_, _⟩ => .bind (s99 h) fun _
    => .bind (s100 h) fun _ => .bind (s101 h) fun ⟨_, _⟩ => .bind (s102 h) fun ⟨_, _⟩ => .bind (s103 h) fun ⟨_, _, _⟩
    => .bind (s104 h) fun ⟨_, _⟩ => .bind (s105 h) fun ⟨_, _, _⟩ => ?_
  refine .bind (s106 h) fun ⟨_, _, _⟩ => .bind (s107 h) fun ⟨_, _⟩ => .bind (s108 h) fun ⟨_, _, _⟩ => .bind (s109 h)
    fun ⟨_, _, _⟩ => .bind (s110 h) fun _ => .bind (s111 h) fun ⟨_, _, _, _⟩ => .bind (s112 h) fun ⟨_, _, _⟩ => .bind
    (s113 h) fun ⟨_, _⟩ => .bind (s114 h) fun ⟨_, _⟩ => .bind (s115 h) fun ⟨_, _, _⟩ => ?_
  refine .bind (s116 h) fun ⟨_, _, _, _⟩ => .bind (s117 h) fun ⟨_, _, _⟩ => .bind (s118 h) fun ⟨_, _⟩ => .bind (s119
    h) fun ⟨_, _, _⟩ => .bind (s120 h) fun ⟨_, _, _⟩ => .bind (s121 h) fun ⟨_, _⟩ => .bind (s122 h) fun ⟨_, _⟩ =>
    .bind (s123 h) fun ⟨_, _, _⟩ => .bind (s124 h) fun _ => .bind (s125 h) fun _ => ?_
  refine .bind (s126 h) fun _ => .bind (s127 h) fun _ => .bind (s128 h) fun _ => .bind (s129 h) fun ⟨_, _, _⟩ => .bind
    (s130 h) fun ⟨_, _, _⟩ => .bind (s131 h) fun _ => .bind (s132 h) fun _ => .bind (s133 h) fun _ => .bind (s134 h)
    fun ⟨_, _⟩ => .bind (s135 h) fun ⟨_, _⟩ => ?_
  refine .bind (s136 h) fun ⟨_, _, _⟩ => .bind (s137 h) fun ⟨_, _⟩ => .bind (s138 h) fun ⟨_, _, _⟩ => .bind (s139 h)
    fun ⟨_, _, _⟩ => .bind (s140 h) fun _ => .bind (s141 h) fun _ => .bind (s142 h) fun ⟨_, _, _, _⟩ => .bind (s143 h)
    fun ⟨_, _, _⟩ => .bind (s144 h) fun ⟨_, _, _⟩ => .bind (s145 h) fun ⟨_, _, _⟩ => ?_
  refine .bind (s146 h) fun ⟨_, _, _⟩ => .bind (s147 h) fun _ => .bind (s148 h) fun ⟨_, _⟩ => .bind (s149 h) fun _ =>
    .bind (s150 h) fun _ => .bind (s151 h) fun _ => .l h.k10 fun _ => .pure _

theorem s182 {x y z u v} : Safe defs 𝒱 (c : Thread nD τ) E H (b.on (k0_part182 i) x y z u v) := by
  unfold k0_part182
  refine .bind (s153 h) fun ⟨_, _⟩ => .bind (s154 h) fun ⟨_, _⟩ => .bind (s155 h) fun ⟨_, _⟩ => .bind (s156 h) fun ⟨_,
    _, _, _, _⟩ => .bind (s157 h) fun ⟨_, _⟩ => .bind (s158 h) fun ⟨_, _, _⟩ => .bind (s159 h) fun ⟨_, _, _⟩ => .bind
    (s160 h) fun ⟨_, _⟩ => .bind (s161 h) fun _ => .bind (s162 h) fun ⟨_, _⟩ => ?_
  refine .bind (s163 h) fun _ => .bind (s164 h) fun ⟨_, _, _⟩ => .bind (s165 h) fun _ => .bind (s166 h) fun ⟨_, _, _⟩
    => .bind (s167 h) fun ⟨_, _⟩ => .bind (s168 h) fun ⟨_, _⟩ => .bind (s169 h) fun ⟨_, _, _⟩ => .bind (s170 h) fun
    ⟨_, _⟩ => .bind (s171 h) fun _ => .bind (s172 h) fun ⟨_, _, _, _⟩ => ?_
  refine .bind (s173 h) fun ⟨_, _, _⟩ => .bind (s174 h) fun ⟨_, _, _⟩ => .bind (s175 h) fun ⟨_, _, _, _⟩ => .bind
    (s176 h) fun ⟨_, _, _⟩ => .bind (s177 h) fun ⟨_, _⟩ => .bind (s178 h) fun ⟨_, _⟩ => .bind (s179 h) fun _ => .bind
    (s180 h) fun ⟨_, _⟩ => .bind (s181 h) fun ⟨_, _⟩ => .l h.k15 fun _ => .l h.k31 fun _ => .s h.w31 <| .l h.k10 fun _
    => .s h.w10 <| .l h.k15 fun _ => .pure _

theorem s212 {x y z u v} : Safe defs 𝒱 (c : Thread nD τ) E H (b.on (k0_part212 i) x y z u v) := by
  unfold k0_part212
  refine .bind (s183 h) fun ⟨_, _⟩ => .bind (s184 h) fun ⟨_, _⟩ => .bind (s185 h) fun ⟨_, _⟩ => .bind (s186 h) fun ⟨_,
    _, _, _, _⟩ => .bind (s187 h) fun ⟨_, _⟩ => .bind (s188 h) fun ⟨_, _, _⟩ => .bind (s189 h) fun ⟨_, _, _⟩ => .bind
    (s190 h) fun ⟨_, _⟩ => .bind (s191 h) fun _ => .bind (s192 h) fun ⟨_, _⟩ => ?_
  refine .bind (s193 h) fun _ => .bind (s194 h) fun ⟨_, _, _⟩ => .bind (s195 h) fun _ => .bind (s196 h) fun ⟨_, _, _⟩
    => .bind (s197 h) fun ⟨_, _⟩ => .bind (s198 h) fun ⟨_, _⟩ => .bind (s199 h) fun ⟨_, _, _⟩ => .bind (s200 h) fun
    ⟨_, _⟩ => .bind (s201 h) fun _ => .bind (s202 h) fun ⟨_, _, _, _⟩ => ?_
  refine .bind (s203 h) fun ⟨_, _, _⟩ => .bind (s204 h) fun ⟨_, _, _⟩ => .bind (s205 h) fun ⟨_, _, _, _⟩ => .bind
    (s206 h) fun ⟨_, _, _⟩ => .bind (s207 h) fun ⟨_, _⟩ => .bind (s208 h) fun ⟨_, _⟩ => .bind (s209 h) fun _ => .bind
    (s210 h) fun ⟨_, _⟩ => .bind (s211 h) fun ⟨_, _⟩ => .l h.k15 fun _ => .l h.k31 fun _ => .s h.w31 <| .l h.k10 fun _
    => .s h.w10 <| .l h.k15 fun _ => .pure _

theorem s245 : Safe defs 𝒱 (c : Thread nD τ) E H (b.on (k0_part245 i)) := by
  unfold k0_part245
  refine .cond (p := k0_cond1 i = 1#1) (fun _ => ?_) (fun _ => ?_)
  · refine .bind (s38 h) fun ⟨_, _, _, _, _⟩ => .w h.k2 fun _ => .w h.k2 fun _ => .w h.k2 fun _ => .l h.k9 fun _ => .s
      h.w9 <| .l h.k4 fun _ => .l h.k3 fun _ => .l h.k14 fun _ => .s h.w14 <| .l h.k4 fun _ => .pure _
  · refine .l h.k4 fun _ => .l h.k3 fun _ => .l h.k14 fun _ => .s h.w14 <| .l h.k4 fun _ => .pure _

theorem s259 {x y z} : Safe defs 𝒱 (c : Thread nD τ) E H (b.on (k0_part259 i) x y z) := by
  unfold k0_part259
  refine .l h.k23 fun _ => .s h.w23 <| ?_
  refine .bind (.loop fun _ _ => ?_) fun _ => ?_
  · refine .bind (s95 h) fun ⟨_, _⟩ => .l h.k19 fun _ => .l h.k31 fun _ => .s h.w31 <| .l h.k10 fun _ => .s h.w10 <|
      .l h.k19 fun _ => .l h.k23 fun _ => .s h.w23 <| .pure _
  refine .bind (.loop fun _ _ => ?_) fun _ => ?_
  · refine .bind (s152 h) fun ⟨_, _⟩ => .l h.k19 fun _ => .l h.k31 fun _ => .s h.w31 <| .l h.k10 fun _ => .s h.w10 <|
      .l h.k19 fun _ => .l h.k23 fun _ => .s h.w23 <| .pure _
  exact .pure _

theorem s260 {x y z u v w p q} : Safe defs 𝒱 (c : Thread nD τ) E H (b.on (k0_part260 i) x y z u v w p q) := by
  unfold k0_part260
  refine .bind (.loop fun _ _ => ?_) fun _ => ?_
  · refine .bind (s182 h) fun ⟨_, _⟩ => .l h.k23 fun _ => .s h.w23 <| .pure _
  refine .bind (.loop fun _ _ => ?_) fun _ => ?_
  · refine .bind (s212 h) fun ⟨_, _⟩ => .l h.k23 fun _ => .s h.w23 <| .pure _
  exact .pure _

theorem s261 {x y z u v w p} : Safe defs 𝒱 (c : Thread nD τ) E H (b.on (k0_part261 i) x y z u v w p) := by
  unfold k0_part261
  refine .bind (.loop fun _ _ => ?_) fun _ => ?_
  · refine .bind (s213 h) fun ⟨_, _⟩ => .bind (s214 h) fun ⟨_, _⟩ => .bind (s215 h) fun ⟨_, _, _, _, _⟩ => .bind (s216
      h) fun ⟨_, _⟩ => .bind (s217 h) fun ⟨_, _, _⟩ => .bind (s218 h) fun ⟨_, _⟩ => .bind (s219 h) fun _ => .bind
      (s220 h) fun _ => .bind (s221 h) fun ⟨_, _, _⟩ => .bind (s222 h) fun ⟨_, _⟩ => ?_
    refine .bind (s223 h) fun ⟨_, _⟩ => .bind (s224 h) fun ⟨_, _⟩ => .bind (s225 h) fun ⟨_, _, _⟩ => .bind (s226 h)
      fun ⟨_, _⟩ => .bind (s227 h) fun ⟨_, _, _, _⟩ => .bind (s228 h) fun ⟨_, _, _⟩ => .l h.k31 fun _ => .s h.w31 <|
      .l h.k10 fun _ => .s h.w10 <| .l h.k13 fun _ => .l h.k23 fun _ => .s h.w23 <| .pure _
  refine .bind (.loop fun _ _ => ?_) fun _ => ?_
  · refine .bind (s229 h) fun ⟨_, _⟩ => .bind (s230 h) fun ⟨_, _⟩ => .bind (s231 h) fun ⟨_, _, _, _, _⟩ => .bind (s232
      h) fun ⟨_, _⟩ => .bind (s233 h) fun ⟨_, _, _⟩ => .bind (s234 h) fun ⟨_, _⟩ => .bind (s235 h) fun _ => .bind
      (s236 h) fun _ => .bind (s237 h) fun ⟨_, _, _⟩ => .bind (s238 h) fun ⟨_, _⟩ => ?_
    refine .bind (s239 h) fun ⟨_, _⟩ => .bind (s240 h) fun ⟨_, _⟩ => .bind (s241 h) fun ⟨_, _, _⟩ => .bind (s242 h)
      fun ⟨_, _⟩ => .bind (s243 h) fun ⟨_, _, _, _⟩ => .bind (s244 h) fun ⟨_, _, _⟩ => .l h.k31 fun _ => .s h.w31 <|
      .l h.k10 fun _ => .s h.w10 <| .l h.k13 fun _ => .l h.k23 fun _ => .s h.w23 <| .pure _
  refine .l h.k31 fun _ => .l h.k11 fun _ => .l h.k5 fun _ => .l h.k23 fun _ => .l h.k11 fun _ => .s h.w11 <| .l h.k31
    fun _ => .l h.k11 fun _ => .pure _

theorem body : Safe defs 𝒱 (c : Thread nD τ) E H (b.on (cc0_moba i)) := by
  unfold cc0_moba
  refine .bind (s245 h) fun ⟨_, _, _, _, _⟩ => .bind (s246 h) fun ⟨_, _⟩ => .bind (s247 h) fun ⟨_, _⟩ => .bind (s248
    h) fun ⟨_, _, _⟩ => .bind (s249 h) fun _ => .bind (s250 h) fun _ => .bind (s251 h) fun _ => .bind (s252 h) fun _
    => .bind (s253 h) fun _ => .bind (s254 h) fun ⟨_, _⟩ => ?_
  refine .bind (s255 h) fun ⟨_, _, _⟩ => .bind (s256 h) fun ⟨_, _⟩ => .bind (s257 h) fun _ => .bind (s258 h) fun _ =>
    .bind (s259 h) fun ⟨_, _, _, _, _, _⟩ => .bind (s260 h) fun ⟨_, _, _, _, _⟩ => .bind (s261 h) fun ⟨_, _, _⟩ =>
    .bind (s262 h) fun _ => .bind (s263 h) fun _ => .l h.k11 fun _ => .l h.k7 fun _ => .s h.w7 <| .l h.k11 fun _ => .l
    h.k7 fun _ => .s h.w7 <| .pure _

end Cert.Proof.KMobaIdeal
end
-- ==== Proof.KMobaIdealFrame.lean ====
/-
  The frame of the block-sparse attention kernel: every run ends, with every semaphore at zero and the argument arrays as launched. The
  body is safe on its blocks and scratches (the module it imports); what it leaves in the output block and in the
  scratches is not stated.
-/
module

public import proofs.«01_k».proof.Proof.Gen.KMobaIdeal.Frame
public import proofs.«01_k».proof.Proof.KMobaIdealSafe

@[expose] public section

set_option maxRecDepth 16384

noncomputable section

namespace Cert.Proof.KMobaIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KMobaIdeal Cert.KMobaIdeal.Gen Cert.Proof.Safe

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is forgotten: nothing reads what the body leaves there. -/
def forgets : Fin 6 → Bool := fun w => w.val == 5

/-- The arrays as the region finds them; each input's block left in place; the scratches at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem Φ_eq (c : Dev nD) (t) : (dats m 0 c).Φ t = Pipeline.ΦA spec0 c := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)

/-- The body's memrefs at a point. -/
def bufs (t : Fin cfg0.N) : Bufs where
  arg2 := ms0 t
  harg2 := hstage0_0 ((cfg0.slots t 0).cast nbuf0_0)
  arg3 := ms1 t
  harg3 := hstage0_1 ((cfg0.slots t 1).cast nbuf0_1)
  arg4 := ms2 t
  harg4 := hstage0_2 ((cfg0.slots t 2).cast nbuf0_2)
  arg5 := ms3 t
  harg5 := hstage0_3 ((cfg0.slots t 3).cast nbuf0_3)
  arg6 := ms4 t
  harg6 := hstage0_4 ((cfg0.slots t 4).cast nbuf0_4)
  arg7 := ms5 t
  harg7 := hstage0_5 ((cfg0.slots t 5).cast nbuf0_5)
  arg8 := Memref.whole cc0_scratch0
  harg8 := Memref.isWhole_whole _
  arg9 := Memref.whole cc0_scratch1
  harg9 := Memref.isWhole_whole _
  arg10 := Memref.whole cc0_scratch2
  harg10 := Memref.isWhole_whole _
  arg11 := Memref.whole cc0_scratch3
  harg11 := Memref.isWhole_whole _
  arg12 := Memref.whole cc0_scratch4
  harg12 := Memref.isWhole_whole _
  arg13 := Memref.whole cc0_scratch5
  harg13 := Memref.isWhole_whole _
  arg14 := Memref.whole cc0_scratch6
  harg14 := Memref.isWhole_whole _
  arg15 := Memref.whole cc0_scratch7
  harg15 := Memref.isWhole_whole _
  arg16 := Memref.whole cc0_scratch8
  harg16 := Memref.isWhole_whole _
  arg17 := Memref.whole cc0_scratch9
  harg17 := Memref.isWhole_whole _
  arg18 := Memref.whole cc0_scratch10
  harg18 := Memref.isWhole_whole _
  arg19 := Memref.whole cc0_scratch11
  harg19 := Memref.isWhole_whole _
  arg20 := Memref.whole cc0_scratch12
  harg20 := Memref.isWhole_whole _
  arg21 := Memref.whole cc0_scratch13
  harg21 := Memref.isWhole_whole _
  arg22 := Memref.whole cc0_scratch14
  harg22 := Memref.isWhole_whole _
  arg23 := Memref.whole cc0_scratch15
  harg23 := Memref.isWhole_whole _
  arg24 := Memref.whole cc0_scratch16
  harg24 := Memref.isWhole_whole _
  arg25 := Memref.whole cc0_scratch17
  harg25 := Memref.isWhole_whole _
  arg26 := Memref.whole cc0_scratch18
  harg26 := Memref.isWhole_whole _
  arg27 := Memref.whole cc0_scratch19
  harg27 := Memref.isWhole_whole _
  arg28 := Memref.whole cc0_scratch20
  harg28 := Memref.isWhole_whole _
  arg29 := Memref.whole cc0_scratch21
  harg29 := Memref.isWhole_whole _
  arg30 := Memref.whole cc0_scratch22
  harg30 := Memref.isWhole_whole _
  arg31 := Memref.whole cc0_scratch23
  harg31 := Memref.isWhole_whole _
  arg32 := Memref.whole cc0_scratch24
  harg32 := Memref.isWhole_whole _
  arg33 := Memref.whole cc0_scratch25
  harg33 := Memref.isWhole_whole _
  arg34 := Memref.whole cc0_scratch26
  harg34 := Memref.isWhole_whole _
  arg35 := Memref.whole cc0_scratch27
  harg35 := Memref.isWhole_whole _

/-- What the body runs on at a point and leaves: the scratches, the debts, the inputs' blocks, the output's buffer. -/
def held (c : Dev nD) (t : Fin cfg0.N) : sProp 𝕄 :=
  iprop(Pipeline.ΦA spec0 c ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ d, owns (c : Thread nD τ) (ms5 t) fullShare d))

/-- A scratch is owned by the scoped buffers. -/
theorem scr0 (c : Dev nD) : Owns (c : Thread nD τ) (Pipeline.ΦA spec0 c : sProp 𝕄) (Memref.whole cc0_scratch0) := by
  unfold Pipeline.ΦA; rw [scopedRest0_eq]
  refine .left _ ?_
  refine .left _ ?_
  exact owns_buf (c : Thread nD τ) cc0_scratch0
theorem scr1 (c : Dev nD) : Owns (c : Thread nD τ) (Pipeline.ΦA spec0 c : sProp 𝕄) (Memref.whole cc0_scratch1) := by
  unfold Pipeline.ΦA; rw [scopedRest0_eq]
  refine .left _ ?_
  iterate 1 refine .right _ ?_
  refine .left _ ?_
  exact owns_buf (c : Thread nD τ) cc0_scratch1
theorem scr2 (c : Dev nD) : Owns (c : Thread nD τ) (Pipeline.ΦA spec0 c : sProp 𝕄) (Memref.whole cc0_scratch2) := by
  unfold Pipeline.ΦA; rw [scopedRest0_eq]
  refine .left _ ?_
  iterate 2 refine .right _ ?_
  refine .left _ ?_
  exact owns_buf (c : Thread nD τ) cc0_scratch2
theorem scr3 (c : Dev nD) : Owns (c : Thread nD τ) (Pipeline.ΦA spec0 c : sProp 𝕄) (Memref.whole cc0_scratch3) := by
  unfold Pipeline.ΦA; rw [scopedRest0_eq]
  refine .left _ ?_
  iterate 3 refine .right _ ?_
  refine .left _ ?_
  exact owns_buf (c : Thread nD τ) cc0_scratch3
theorem scr4 (c : Dev nD) : Owns (c : Thread nD τ) (Pipeline.ΦA spec0 c : sProp 𝕄) (Memref.whole cc0_scratch4) := by
  unfold Pipeline.ΦA; rw [scopedRest0_eq]
  refine .left _ ?_
  iterate 4 refine .right _ ?_
  refine .left _ ?_
  exact owns_buf (c : Thread nD τ) cc0_scratch4
theorem scr5 (c : Dev nD) : Owns (c : Thread nD τ) (Pipeline.ΦA spec0 c : sProp 𝕄) (Memref.whole cc0_scratch5) := by
  unfold Pipeline.ΦA; rw [scopedRest0_eq]
  refine .left _ ?_
  iterate 5 refine .right _ ?_
  refine .left _ ?_
  exact owns_buf (c : Thread nD τ) cc0_scratch5
theorem scr6 (c : Dev nD) : Owns (c : Thread nD τ) (Pipeline.ΦA spec0 c : sProp 𝕄) (Memref.whole cc0_scratch6) := by
  unfold Pipeline.ΦA; rw [scopedRest0_eq]
  refine .left _ ?_
  iterate 6 refine .right _ ?_
  refine .left _ ?_
  exact owns_buf (c : Thread nD τ) cc0_scratch6
theorem scr7 (c : Dev nD) : Owns (c : Thread nD τ) (Pipeline.ΦA spec0 c : sProp 𝕄) (Memref.whole cc0_scratch7) := by
  unfold Pipeline.ΦA; rw [scopedRest0_eq]
  refine .left _ ?_
  iterate 7 refine .right _ ?_
  refine .left _ ?_
  exact owns_buf (c : Thread nD τ) cc0_scratch7
theorem scr8 (c : Dev nD) : Owns (c : Thread nD τ) (Pipeline.ΦA spec0 c : sProp 𝕄) (Memref.whole cc0_scratch8) := by
  unfold Pipeline.ΦA; rw [scopedRest0_eq]
  refine .left _ ?_
  iterate 8 refine .right _ ?_
  refine .left _ ?_
  exact owns_buf (c : Thread nD τ) cc0_scratch8
theorem scr9 (c : Dev nD) : Owns (c : Thread nD τ) (Pipeline.ΦA spec0 c : sProp 𝕄) (Memref.whole cc0_scratch9) := by
  unfold Pipeline.ΦA; rw [scopedRest0_eq]
  refine .left _ ?_
  iterate 9 refine .right _ ?_
  refine .left _ ?_
  exact owns_buf (c : Thread nD τ) cc0_scratch9
theorem scr10 (c : Dev nD) : Owns (c : Thread nD τ) (Pipeline.ΦA spec0 c : sProp 𝕄) (Memref.whole cc0_scratch10) := by
  unfold Pipeline.ΦA; rw [scopedRest0_eq]
  refine .left _ ?_
  iterate 10 refine .right _ ?_
  refine .left _ ?_
  exact owns_buf (c : Thread nD τ) cc0_scratch10
theorem scr11 (c : Dev nD) : Owns (c : Thread nD τ) (Pipeline.ΦA spec0 c : sProp 𝕄) (Memref.whole cc0_scratch11) := by
  unfold Pipeline.ΦA; rw [scopedRest0_eq]
  refine .left _ ?_
  iterate 11 refine .right _ ?_
  refine .left _ ?_
  exact owns_buf (c : Thread nD τ) cc0_scratch11
theorem scr12 (c : Dev nD) : Owns (c : Thread nD τ) (Pipeline.ΦA spec0 c : sProp 𝕄) (Memref.whole cc0_scratch12) := by
  unfold Pipeline.ΦA; rw [scopedRest0_eq]
  refine .left _ ?_
  iterate 12 refine .right _ ?_
  refine .left _ ?_
  exact owns_buf (c : Thread nD τ) cc0_scratch12
theorem scr13 (c : Dev nD) : Owns (c : Thread nD τ) (Pipeline.ΦA spec0 c : sProp 𝕄) (Memref.whole cc0_scratch13) := by
  unfold Pipeline.ΦA; rw [scopedRest0_eq]
  refine .left _ ?_
  iterate 13 refine .right _ ?_
  refine .left _ ?_
  exact owns_buf (c : Thread nD τ) cc0_scratch13
theorem scr14 (c : Dev nD) : Owns (c : Thread nD τ) (Pipeline.ΦA spec0 c : sProp 𝕄) (Memref.whole cc0_scratch14) := by
  unfold Pipeline.ΦA; rw [scopedRest0_eq]
  refine .left _ ?_
  iterate 14 refine .right _ ?_
  refine .left _ ?_
  exact owns_buf (c : Thread nD τ) cc0_scratch14
theorem scr15 (c : Dev nD) : Owns (c : Thread nD τ) (Pipeline.ΦA spec0 c : sProp 𝕄) (Memref.whole cc0_scratch15) := by
  unfold Pipeline.ΦA; rw [scopedRest0_eq]
  refine .left _ ?_
  iterate 15 refine .right _ ?_
  refine .left _ ?_
  exact owns_buf (c : Thread nD τ) cc0_scratch15
theorem scr16 (c : Dev nD) : Owns (c : Thread nD τ) (Pipeline.ΦA spec0 c : sProp 𝕄) (Memref.whole cc0_scratch16) := by
  unfold Pipeline.ΦA; rw [scopedRest0_eq]
  refine .left _ ?_
  iterate 16 refine .right _ ?_
  refine .left _ ?_
  exact owns_buf (c : Thread nD τ) cc0_scratch16
theorem scr17 (c : Dev nD) : Owns (c : Thread nD τ) (Pipeline.ΦA spec0 c : sProp 𝕄) (Memref.whole cc0_scratch17) := by
  unfold Pipeline.ΦA; rw [scopedRest0_eq]
  refine .left _ ?_
  iterate 17 refine .right _ ?_
  refine .left _ ?_
  exact owns_buf (c : Thread nD τ) cc0_scratch17
theorem scr18 (c : Dev nD) : Owns (c : Thread nD τ) (Pipeline.ΦA spec0 c : sProp 𝕄) (Memref.whole cc0_scratch18) := by
  unfold Pipeline.ΦA; rw [scopedRest0_eq]
  refine .left _ ?_
  iterate 18 refine .right _ ?_
  refine .left _ ?_
  exact owns_buf (c : Thread nD τ) cc0_scratch18
theorem scr19 (c : Dev nD) : Owns (c : Thread nD τ) (Pipeline.ΦA spec0 c : sProp 𝕄) (Memref.whole cc0_scratch19) := by
  unfold Pipeline.ΦA; rw [scopedRest0_eq]
  refine .left _ ?_
  iterate 19 refine .right _ ?_
  refine .left _ ?_
  exact owns_buf (c : Thread nD τ) cc0_scratch19
theorem scr20 (c : Dev nD) : Owns (c : Thread nD τ) (Pipeline.ΦA spec0 c : sProp 𝕄) (Memref.whole cc0_scratch20) := by
  unfold Pipeline.ΦA; rw [scopedRest0_eq]
  refine .left _ ?_
  iterate 20 refine .right _ ?_
  refine .left _ ?_
  exact owns_buf (c : Thread nD τ) cc0_scratch20
theorem scr21 (c : Dev nD) : Owns (c : Thread nD τ) (Pipeline.ΦA spec0 c : sProp 𝕄) (Memref.whole cc0_scratch21) := by
  unfold Pipeline.ΦA; rw [scopedRest0_eq]
  refine .left _ ?_
  iterate 21 refine .right _ ?_
  refine .left _ ?_
  exact owns_buf (c : Thread nD τ) cc0_scratch21
theorem scr22 (c : Dev nD) : Owns (c : Thread nD τ) (Pipeline.ΦA spec0 c : sProp 𝕄) (Memref.whole cc0_scratch22) := by
  unfold Pipeline.ΦA; rw [scopedRest0_eq]
  refine .left _ ?_
  iterate 22 refine .right _ ?_
  refine .left _ ?_
  exact owns_buf (c : Thread nD τ) cc0_scratch22
theorem scr23 (c : Dev nD) : Owns (c : Thread nD τ) (Pipeline.ΦA spec0 c : sProp 𝕄) (Memref.whole cc0_scratch23) := by
  unfold Pipeline.ΦA; rw [scopedRest0_eq]
  refine .left _ ?_
  iterate 23 refine .right _ ?_
  refine .left _ ?_
  exact owns_buf (c : Thread nD τ) cc0_scratch23
theorem scr24 (c : Dev nD) : Owns (c : Thread nD τ) (Pipeline.ΦA spec0 c : sProp 𝕄) (Memref.whole cc0_scratch24) := by
  unfold Pipeline.ΦA; rw [scopedRest0_eq]
  refine .left _ ?_
  iterate 24 refine .right _ ?_
  refine .left _ ?_
  exact owns_buf (c : Thread nD τ) cc0_scratch24
theorem scr25 (c : Dev nD) : Owns (c : Thread nD τ) (Pipeline.ΦA spec0 c : sProp 𝕄) (Memref.whole cc0_scratch25) := by
  unfold Pipeline.ΦA; rw [scopedRest0_eq]
  refine .left _ ?_
  iterate 25 refine .right _ ?_
  refine .left _ ?_
  exact owns_buf (c : Thread nD τ) cc0_scratch25
theorem scr26 (c : Dev nD) : Owns (c : Thread nD τ) (Pipeline.ΦA spec0 c : sProp 𝕄) (Memref.whole cc0_scratch26) := by
  unfold Pipeline.ΦA; rw [scopedRest0_eq]
  refine .left _ ?_
  iterate 26 refine .right _ ?_
  refine .left _ ?_
  exact owns_buf (c : Thread nD τ) cc0_scratch26
theorem scr27 (c : Dev nD) : Owns (c : Thread nD τ) (Pipeline.ΦA spec0 c : sProp 𝕄) (Memref.whole cc0_scratch27) := by
  unfold Pipeline.ΦA; rw [scopedRest0_eq]
  refine .left _ ?_
  iterate 27 refine .right _ ?_
  exact owns_buf (c : Thread nD τ) cc0_scratch27

theorem held_bufs (c : Dev nD) (t : Fin cfg0.N) : (bufs t).Held c (held m c t) where
  r2 := by
    iterate 2 refine .right _ ?_
    refine .left _ ?_
    exact keeps_at (c : Thread nD τ) _ _ _
  r3 := by
    iterate 3 refine .right _ ?_
    refine .left _ ?_
    exact keeps_at (c : Thread nD τ) _ _ _
  r4 := by
    iterate 4 refine .right _ ?_
    refine .left _ ?_
    exact keeps_at (c : Thread nD τ) _ _ _
  r5 := by
    iterate 5 refine .right _ ?_
    refine .left _ ?_
    exact keeps_at (c : Thread nD τ) _ _ _
  r6 := by
    iterate 6 refine .right _ ?_
    refine .left _ ?_
    exact keeps_at (c : Thread nD τ) _ _ _
  w7 := by
    iterate 7 refine .right _ ?_
    exact owns_some (c : Thread nD τ) _
  w8 := .left _ (scr0 c)
  w9 := .left _ (scr1 c)
  w10 := .left _ (scr2 c)
  w11 := .left _ (scr3 c)
  w12 := .left _ (scr4 c)
  w13 := .left _ (scr5 c)
  w14 := .left _ (scr6 c)
  w15 := .left _ (scr7 c)
  w16 := .left _ (scr8 c)
  w17 := .left _ (scr9 c)
  w18 := .left _ (scr10 c)
  w19 := .left _ (scr11 c)
  w20 := .left _ (scr12 c)
  w21 := .left _ (scr13 c)
  w22 := .left _ (scr14 c)
  w23 := .left _ (scr15 c)
  w24 := .left _ (scr16 c)
  w25 := .left _ (scr17 c)
  w26 := .left _ (scr18 c)
  w27 := .left _ (scr19 c)
  w28 := .left _ (scr20 c)
  w29 := .left _ (scr21 c)
  w30 := .left _ (scr22 c)
  w31 := .left _ (scr23 c)
  w32 := .left _ (scr24 c)
  w33 := .left _ (scr25 c)
  w34 := .left _ (scr26 c)
  w35 := .left _ (scr27 c)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ d, owns (c : Thread nD τ) (ms5 t) fullShare d))

theorem sound_body (c : Dev nD) (t : Fin cfg0.N) :
    bodyPre m c t ⊢ wp frame (wpE (defs₀ (F := F)) Variants.none c none) Set.univ (bodyAt0 t) (fun _ => bodyPost m c t) := by
  have h : bodyPost m c t = held m c t := by
    unfold bodyPost held
    rw [after_0, after_1, after_2, after_3, after_4, Φ_eq]
    rfl
  have h' : bodyPre m c t ⊢ held m c t := by
    unfold bodyPre held
    simp only [before_0, before_1, before_2, before_3, before_4]
    rw [Φ_eq]
    iintro ⟨HΦ, Ho, ⟨%d0, H0⟩, ⟨%d1, H1⟩, ⟨%d2, H2⟩, ⟨%d3, H3⟩, ⟨%d4, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  rw [h]
  exact h'.trans (body (held_bufs m c t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The run of the launch: the inputs' arrays and the buffers no window stages as the region found them, every
    semaphore at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(Pipeline.RDat.FramePost.arr_in h.1 c 1 rfl).trans (V_main_arg0 m c),
      (Pipeline.RDat.FramePost.arr_in h.1 c 2 rfl).trans (V_main_arg1 m c),
      (Pipeline.RDat.FramePost.arr_in h.1 c 3 rfl).trans (V_main_arg2 m c),
      (Pipeline.RDat.FramePost.arr_in h.1 c 4 rfl).trans (V_main_arg3 m c),
      ((h.1 c).2 main_arg4 (Pipeline.mem_restRefs_of main_arg4 (by decide) (by decide))).trans (V_main_arg4 m c)⟩, h.2⟩) (run_main m ρ)

end Cert.Proof.KMobaIdeal
end
-- ==== Proof.KSsdIdealBufs.lean ====
/-
  The buffers the scan body runs on, taken together, and what a proposition must hold of them for the body
  to be safe.
-/
module

public import proofs.«01_k».proof.KSsdIdeal
public import proofs.«01_k».proof.Proof.Safe

@[expose] public section

set_option synthInstance.maxSize 4096

noncomputable section

namespace Cert.Proof.KSsdIdeal

open Idealize.ShloMosaic Idealize.ShloMosaic.TcCoe Idealize.SL.Sem Idealize.SL.BI
open Cert.KSsdIdeal Cert.Proof.Safe

/-- The body's memrefs. -/
structure Bufs where
  arg2 : Memref sig .tc .vmem S256x4096 .bf16
  harg2 : arg2.IsWhole
  arg3 : Memref sig .tc .vmem S256x1024 .bf16
  harg3 : arg3.IsWhole
  arg4 : Memref sig .tc .vmem S256x1024 .bf16
  harg4 : arg4.IsWhole
  arg5 : Memref sig .tc .vmem S256x4096 .bf16
  harg5 : arg5.IsWhole
  arg6 : Memref sig .tc .vmem S256x128 .f32
  harg6 : arg6.IsWhole
  arg7 : Memref sig .tc .vmem S4x4096 .f32
  harg7 : arg7.IsWhole
  arg8 : Memref sig .tc .vmem S4x1024 .f32
  harg8 : arg8.IsWhole
  arg9 : Memref sig .tc .vmem S4x1024 .f32
  harg9 : arg9.IsWhole
  arg10 : Memref sig .tc .vmem S1x4096 .f32
  harg10 : arg10.IsWhole
  arg11 : Memref sig .tc .vmem S1x1024 .f32
  harg11 : arg11.IsWhole
  arg12 : Memref sig .tc .vmem S1x1024 .f32
  harg12 : arg12.IsWhole
  arg13 : Memref sig .tc .vmem S1x128 .f32
  harg13 : arg13.IsWhole
  arg14 : Memref sig .tc .vmem S1x128 .f32
  harg14 : arg14.IsWhole
  arg15 : Memref sig .tc .vmem S1x4096 .f32
  harg15 : arg15.IsWhole
  arg16 : Memref sig .tc .vmem S1x4096 .f32
  harg16 : arg16.IsWhole
  arg17 : Memref sig .tc .vmem S256x4096 .bf16
  harg17 : arg17.IsWhole
  arg18 : Memref sig .tc .vmem S8x8x512 .f32
  harg18 : arg18.IsWhole
  arg19 : Memref sig .tc .vmem S8x8x128 .f32
  harg19 : arg19.IsWhole
  arg20 : Memref sig .tc .vmem S8x8x128 .f32
  harg20 : arg20.IsWhole
  arg21 : Memref sig .tc .vmem S8x264x512 .f32
  harg21 : arg21.IsWhole
  arg22 : Memref sig .tc .vmem S8x264x128 .f32
  harg22 : arg22.IsWhole
  arg23 : Memref sig .tc .vmem S8x264x128 .f32
  harg23 : arg23.IsWhole
  arg24 : Memref sig .tc .vmem S256x128 .f32
  harg24 : arg24.IsWhole
  arg25 : Memref sig .tc .vmem S128x256 .f32
  harg25 : arg25.IsWhole
  arg26 : Memref sig .tc .vmem S128x256 .f32
  harg26 : arg26.IsWhole
  arg27 : Memref sig .tc .vmem S8x128x512 .f32
  harg27 : arg27.IsWhole
  arg28 : Memref sig .tc .vmem S8x2x1536x256 .bf16
  harg28 : arg28.IsWhole

/-- A function of the memrefs, at these. -/
abbrev Bufs.on (b : Bufs) {γ : Type 1} (f : (arg2 : Memref sig .tc .vmem S256x4096 .bf16) → arg2.IsWhole → (arg3 : Memref sig .tc .vmem S256x1024 .bf16) → arg3.IsWhole → (arg4 : Memref sig .tc .vmem S256x1024 .bf16) → arg4.IsWhole → (arg5 : Memref sig .tc .vmem S256x4096 .bf16) → arg5.IsWhole → (arg6 : Memref sig .tc .vmem S256x128 .f32) → arg6.IsWhole → (arg7 : Memref sig .tc .vmem S4x4096 .f32) → arg7.IsWhole → (arg8 : Memref sig .tc .vmem S4x1024 .f32) → arg8.IsWhole → (arg9 : Memref sig .tc .vmem S4x1024 .f32) → arg9.IsWhole → (arg10 : Memref sig .tc .vmem S1x4096 .f32) → arg10.IsWhole → (arg11 : Memref sig .tc .vmem S1x1024 .f32) → arg11.IsWhole → (arg12 : Memref sig .tc .vmem S1x1024 .f32) → arg12.IsWhole → (arg13 : Memref sig .tc .vmem S1x128 .f32) → arg13.IsWhole → (arg14 : Memref sig .tc .vmem S1x128 .f32) → arg14.IsWhole → (arg15 : Memref sig .tc .vmem S1x4096 .f32) → arg15.IsWhole → (arg16 : Memref sig .tc .vmem S1x4096 .f32) → arg16.IsWhole → (arg17 : Memref sig .tc .vmem S256x4096 .bf16) → arg17.IsWhole → (arg18 : Memref sig .tc .vmem S8x8x512 .f32) → arg18.IsWhole → (arg19 : Memref sig .tc .vmem S8x8x128 .f32) → arg19.IsWhole → (arg20 : Memref sig .tc .vmem S8x8x128 .f32) → arg20.IsWhole → (arg21 : Memref sig .tc .vmem S8x264x512 .f32) → arg21.IsWhole → (arg22 : Memref sig .tc .vmem S8x264x128 .f32) → arg22.IsWhole → (arg23 : Memref sig .tc .vmem S8x264x128 .f32) → arg23.IsWhole → (arg24 : Memref sig .tc .vmem S256x128 .f32) → arg24.IsWhole → (arg25 : Memref sig .tc .vmem S128x256 .f32) → arg25.IsWhole → (arg26 : Memref sig .tc .vmem S128x256 .f32) → arg26.IsWhole → (arg27 : Memref sig .tc .vmem S8x128x512 .f32) → arg27.IsWhole → (arg28 : Memref sig .tc .vmem S8x2x1536x256 .bf16) → arg28.IsWhole → γ) : γ :=
  f b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28

variable {F : FTy → Type} [FloatOps F]

/-- The inputs are kept and the output and the scratches owned. -/
structure Bufs.Held (b : Bufs) (c : Dev nD) (H : sProp (MT nD τ sig Unit (Elt F) ℕ (UR sig nD τ) ℕ)) : Prop where
  r2 : Keeps (c : Thread nD τ) H b.arg2
  r3 : Keeps (c : Thread nD τ) H b.arg3
  r4 : Keeps (c : Thread nD τ) H b.arg4
  r5 : Keeps (c : Thread nD τ) H b.arg5
  r6 : Keeps (c : Thread nD τ) H b.arg6
  r7 : Keeps (c : Thread nD τ) H b.arg7
  r8 : Keeps (c : Thread nD τ) H b.arg8
  r9 : Keeps (c : Thread nD τ) H b.arg9
  r10 : Keeps (c : Thread nD τ) H b.arg10
  r11 : Keeps (c : Thread nD τ) H b.arg11
  r12 : Keeps (c : Thread nD τ) H b.arg12
  r13 : Keeps (c : Thread nD τ) H b.arg13
  r14 : Keeps (c : Thread nD τ) H b.arg14
  r15 : Keeps (c : Thread nD τ) H b.arg15
  r16 : Keeps (c : Thread nD τ) H b.arg16
  w17 : Owns (c : Thread nD τ) H b.arg17
  w18 : Owns (c : Thread nD τ) H b.arg18
  w19 : Owns (c : Thread nD τ) H b.arg19
  w20 : Owns (c : Thread nD τ) H b.arg20
  w21 : Owns (c : Thread nD τ) H b.arg21
  w22 : Owns (c : Thread nD τ) H b.arg22
  w23 : Owns (c : Thread nD τ) H b.arg23
  w24 : Owns (c : Thread nD τ) H b.arg24
  w25 : Owns (c : Thread nD τ) H b.arg25
  w26 : Owns (c : Thread nD τ) H b.arg26
  w27 : Owns (c : Thread nD τ) H b.arg27
  w28 : Owns (c : Thread nD τ) H b.arg28

variable {b : Bufs} {c : Dev nD} {H : sProp (MT nD τ sig Unit (Elt F) ℕ (UR sig nD τ) ℕ)} (h : b.Held c H)
include h

theorem Bufs.Held.k2 : Keeps (c : Thread nD τ) H b.arg2 := h.r2
theorem Bufs.Held.k3 : Keeps (c : Thread nD τ) H b.arg3 := h.r3
theorem Bufs.Held.k4 : Keeps (c : Thread nD τ) H b.arg4 := h.r4
theorem Bufs.Held.k5 : Keeps (c : Thread nD τ) H b.arg5 := h.r5
theorem Bufs.Held.k6 : Keeps (c : Thread nD τ) H b.arg6 := h.r6
theorem Bufs.Held.k7 : Keeps (c : Thread nD τ) H b.arg7 := h.r7
theorem Bufs.Held.k8 : Keeps (c : Thread nD τ) H b.arg8 := h.r8
theorem Bufs.Held.k9 : Keeps (c : Thread nD τ) H b.arg9 := h.r9
theorem Bufs.Held.k10 : Keeps (c : Thread nD τ) H b.arg10 := h.r10
theorem Bufs.Held.k11 : Keeps (c : Thread nD τ) H b.arg11 := h.r11
theorem Bufs.Held.k12 : Keeps (c : Thread nD τ) H b.arg12 := h.r12
theorem Bufs.Held.k13 : Keeps (c : Thread nD τ) H b.arg13 := h.r13
theorem Bufs.Held.k14 : Keeps (c : Thread nD τ) H b.arg14 := h.r14
theorem Bufs.Held.k15 : Keeps (c : Thread nD τ) H b.arg15 := h.r15
theorem Bufs.Held.k16 : Keeps (c : Thread nD τ) H b.arg16 := h.r16
theorem Bufs.Held.k17 : Keeps (c : Thread nD τ) H b.arg17 := h.w17.keeps
theorem Bufs.Held.k18 : Keeps (c : Thread nD τ) H b.arg18 := h.w18.keeps
theorem Bufs.Held.k19 : Keeps (c : Thread nD τ) H b.arg19 := h.w19.keeps
theorem Bufs.Held.k20 : Keeps (c : Thread nD τ) H b.arg20 := h.w20.keeps
theorem Bufs.Held.k21 : Keeps (c : Thread nD τ) H b.arg21 := h.w21.keeps
theorem Bufs.Held.k22 : Keeps (c : Thread nD τ) H b.arg22 := h.w22.keeps
theorem Bufs.Held.k23 : Keeps (c : Thread nD τ) H b.arg23 := h.w23.keeps
theorem Bufs.Held.k24 : Keeps (c : Thread nD τ) H b.arg24 := h.w24.keeps
theorem Bufs.Held.k25 : Keeps (c : Thread nD τ) H b.arg25 := h.w25.keeps
theorem Bufs.Held.k26 : Keeps (c : Thread nD τ) H b.arg26 := h.w26.keeps
theorem Bufs.Held.k27 : Keeps (c : Thread nD τ) H b.arg27 := h.w27.keeps
theorem Bufs.Held.k28 : Keeps (c : Thread nD τ) H b.arg28 := h.w28.keeps

end Cert.Proof.KSsdIdeal
end
-- ==== Proof.KSsdIdealSafe1.lean ====
/-
  The statements of the scan body, a stretch of the printed text at a time: each is safe.
-/
module

public import proofs.«01_k».proof.Proof.KSsdIdealBufs

@[expose] public section

set_option synthInstance.maxSize 4096

noncomputable section

namespace Cert.Proof.KSsdIdeal

open Idealize.ShloMosaic Idealize.ShloMosaic.TcCoe Idealize.SL.Sem Idealize.SL.BI
open Cert.KSsdIdeal Cert.Proof.Safe

variable {F : FTy → Type} [FloatOps F] [Facts] {defs : Defs nD τ sig (Elt F) Λ₀} {𝒱 : Variants} {c : Dev nD} {E : Set ℕ}
  {H : sProp (MT nD τ sig Unit (Elt F) ℕ (UR sig nD τ) ℕ)} {b : Bufs} (h : b.Held c H) {i : grid0.Coords}
include h

local notation "Ok" => Safe defs 𝒱 (c : Thread nD τ) E H

theorem s1 {x y} : Ok (b.on (k0_part1 i) x y) := by
  unfold k0_part1
  refine .l h.k18 fun _ => .s h.w18 <| .l h.k19 fun _ => .s h.w19 <| .l h.k20 fun _ => .s h.w20 <| .l h.k27 fun _ =>
    .s h.w27 <| .l h.k28 fun _ => .s h.w28 <| .l h.k18 fun _ => .pure _

theorem s2 {x y z u v} : Ok (b.on (k0_part2 i) x y z u v) := by
  unfold k0_part2
  refine .s h.w18 <| .l h.k19 fun _ => .s h.w19 <| .l h.k20 fun _ => .s h.w20 <| .l h.k27 fun _ => .s h.w27 <| .l
    h.k28 fun _ => .s h.w28 <| .l h.k18 fun _ => .s h.w18 <| .l h.k19 fun _ => .pure _

theorem s3 {x y z u} : Ok (b.on (k0_part3 i) x y z u) := by
  unfold k0_part3
  refine .s h.w19 <| .l h.k20 fun _ => .s h.w20 <| .l h.k27 fun _ => .s h.w27 <| .l h.k28 fun _ => .s h.w28 <| .l
    h.k18 fun _ => .s h.w18 <| .l h.k19 fun _ => .s h.w19 <| .l h.k20 fun _ => .pure _

theorem s4 {x y z u} : Ok (b.on (k0_part4 i) x y z u) := by
  unfold k0_part4
  refine .s h.w20 <| .l h.k27 fun _ => .s h.w27 <| .l h.k28 fun _ => .s h.w28 <| .l h.k18 fun _ => .s h.w18 <| .l
    h.k19 fun _ => .s h.w19 <| .l h.k20 fun _ => .s h.w20 <| .l h.k27 fun _ => .s h.w27 <| .pure _

theorem s5 {x y} : Ok (b.on (k0_part5 i) x y) := by
  unfold k0_part5
  refine .l h.k28 fun _ => .s h.w28 <| .l h.k18 fun _ => .s h.w18 <| .l h.k19 fun _ => .s h.w19 <| .l h.k20 fun _ =>
    .s h.w20 <| .l h.k27 fun _ => .s h.w27 <| .l h.k28 fun _ => .s h.w28 <| .pure _

theorem s6 {x y} : Ok (b.on (k0_part6 i) x y) := by
  unfold k0_part6
  refine .l h.k18 fun _ => .s h.w18 <| .l h.k19 fun _ => .s h.w19 <| .l h.k20 fun _ => .s h.w20 <| .l h.k27 fun _ =>
    .s h.w27 <| .l h.k28 fun _ => .s h.w28 <| .l h.k18 fun _ => .pure _

theorem s7 : Ok (b.on (k0_part7 i)) := by
  unfold k0_part7
  refine .l h.k6 fun _ => .l h.k13 fun _ => .l h.k14 fun _ => .pure _

theorem s9 {x} : Ok (b.on (k0_part9 i) x) := by
  unfold k0_part9
  refine .l h.k18 fun _ => .s h.w18 <| .l h.k10 fun _ => .l h.k7.a fun _ => .l h.k21.a.q fun _ => .l h.k7.a fun _ =>
    .l h.k21.a.q fun _ => .l h.k7.a fun _ => .l h.k21.a.q fun _ => .pure _

theorem s10 {x y} : Ok (b.on (k0_part10 i) x y) := by
  unfold k0_part10
  refine .l h.k7.a fun _ => .l h.k21.a.q fun _ => .l h.k19 fun _ => .l h.k22.a.q fun _ => .s h.w22.a.q <| .l h.k3 fun
    _ => .l h.k22.a.q fun _ => .s h.w22.a.q <| .pure _

theorem s11 {x} : Ok (b.on (k0_part11 i) x) := by
  unfold k0_part11
  refine .l h.k22.a.q fun _ => .l h.k19 fun _ => .s h.w19 <| .l h.k11 fun _ => .l h.k8.a fun _ => .l h.k22.a.q fun _
    => .l h.k8.a fun _ => .l h.k22.a.q fun _ => .l h.k8.a fun _ => .pure _

theorem s12 {x y z} : Ok (b.on (k0_part12 i) x y z) := by
  unfold k0_part12
  refine .l h.k22.a.q fun _ => .l h.k8.a fun _ => .l h.k22.a.q fun _ => .l h.k20 fun _ => .l h.k23.a.q fun _ => .s
    h.w23.a.q <| .l h.k4 fun _ => .l h.k23.a.q fun _ => .s h.w23.a.q <| .pure _

theorem s13 {x} : Ok (b.on (k0_part13 i) x) := by
  unfold k0_part13
  refine .l h.k23.a.q fun _ => .l h.k20 fun _ => .s h.w20 <| .l h.k12 fun _ => .l h.k9.a fun _ => .l h.k23.a.q fun _
    => .l h.k9.a fun _ => .l h.k23.a.q fun _ => .l h.k9.a fun _ => .pure _

theorem s14 {x y z u v} : Ok (b.on (k0_part14 i) x y z u v) := by
  unfold k0_part14
  refine .l h.k23.a.q fun _ => .l h.k9.a fun _ => .l h.k23.a.q fun _ => .l h.k24 fun _ => .l h.k27 fun _ => .pure _

theorem s15 {x y z u v w p q} : Ok (b.on (k0_part15 i) x y z u v w p q) := by
  unfold k0_part15
  refine .l h.k28.a.q fun _ => .s h.w28 <| .l h.k28.a.q fun _ => .s h.w28 <| .l h.k25 fun _ => .l h.k26 fun _ => .pure
    _

theorem s16 {x y z u v w p q a t} : Ok (b.on (k0_part16 i) x y z u v w p q a t) := by
  unfold k0_part16
  refine .l h.k28.a.q fun _ => .s h.w28 <| .l h.k28.a.q fun _ => .s h.w28 <| .l h.k25 fun _ => .l h.k26 fun _ => .pure
    _

theorem s17 {x y z u v w p q a t d e} : Ok (b.on (k0_part17 i) x y z u v w p q a t d e) := by
  unfold k0_part17
  refine .l h.k28.a.q fun _ => .s h.w28 <| .pure _

theorem s18 {x y z u v w p q a t d e} : Ok (b.on (k0_part18 i) x y z u v w p q a t d e) := by
  unfold k0_part18
  refine .l h.k28.a.q fun _ => .s h.w28 <| .l h.k25 fun _ => .l h.k26 fun _ => .pure _

theorem s19 {x y z u v w p q a} : Ok (b.on (k0_part19 i) x y z u v w p q a) := by
  unfold k0_part19
  refine .l h.k28.a.q fun _ => .s h.w28 <| .l h.k28.a.q fun _ => .s h.w28 <| .l h.k25 fun _ => .l h.k26 fun _ => .pure
    _

theorem s20 {x y z u v w p q a t d e f g j k l m n} : Ok (b.on (k0_part20 i) x y z u v w p q a t d e f g j k l m n) := by
  unfold k0_part20
  refine .l h.k28 fun _ => .l h.k28.a.q fun _ => .l h.k27 fun _ => .s h.w27 <| .l h.k15.a fun _ => .l h.k27 fun _ =>
    .pure _

theorem s21 {x y z u v w p} : Ok (b.on (k0_part21 i) x y z u v w p) := by
  unfold k0_part21
  refine .l h.k28.a.q fun _ => .s h.w28 <| .l h.k28.a.q fun _ => .s h.w28 <| .l h.k25 fun _ => .l h.k26 fun _ => .pure
    _

theorem s22 {x y z u v w p q a t} : Ok (b.on (k0_part22 i) x y z u v w p q a t) := by
  unfold k0_part22
  refine .l h.k28.a.q fun _ => .s h.w28 <| .l h.k28.a.q fun _ => .s h.w28 <| .l h.k25 fun _ => .pure _

theorem s23 {x y z u v w p q a t d e} : Ok (b.on (k0_part23 i) x y z u v w p q a t d e) := by
  unfold k0_part23
  refine .l h.k26 fun _ => .l h.k28.a.q fun _ => .pure _

theorem s24 {x y z u v w p q a t d} : Ok (b.on (k0_part24 i) x y z u v w p q a t d) := by
  unfold k0_part24
  refine .s h.w28 <| .l h.k28.a.q fun _ => .s h.w28 <| .l h.k25 fun _ => .l h.k26 fun _ => .pure _

theorem s25 {x y z u v w p q} : Ok (b.on (k0_part25 i) x y z u v w p q) := by
  unfold k0_part25
  refine .l h.k28.a.q fun _ => .s h.w28 <| .l h.k28.a.q fun _ => .s h.w28 <| .l h.k25 fun _ => .l h.k26 fun _ => .pure
    _

theorem s26 {x y z u v w p q a t d e f g j k l m n} : Ok (b.on (k0_part26 i) x y z u v w p q a t d e f g j k l m n) := by
  unfold k0_part26
  refine .l h.k28 fun _ => .l h.k28.a.q fun _ => .l h.k27 fun _ => .s h.w27 <| .l h.k15.a fun _ => .pure _

theorem s27 {x y z} : Ok (b.on (k0_part27 i) x y z) := by
  unfold k0_part27
  refine .l h.k5 fun _ => .l h.k16.a fun _ => .l h.k17.a fun _ => .s h.w17 <| .pure _

theorem s28 {x y} : Ok (b.on (k0_part28 i) x y) := by
  unfold k0_part28
  refine .l h.k16.a fun _ => .l h.k17.a fun _ => .s h.w17 <| .l h.k18 fun _ => .l h.k21.a.q fun _ => .s h.w21.a.q <|
    .l h.k2 fun _ => .l h.k21.a.q fun _ => .s h.w21.a.q <| .l h.k21.a.q fun _ => .pure _

theorem s29 {x} : Ok (b.on (k0_part29 i) x) := by
  unfold k0_part29
  refine .l h.k18 fun _ => .s h.w18 <| .l h.k10 fun _ => .l h.k7.a fun _ => .l h.k21.a.q fun _ => .l h.k7.a fun _ =>
    .l h.k21.a.q fun _ => .l h.k7.a fun _ => .l h.k21.a.q fun _ => .pure _

theorem s30 {x y} : Ok (b.on (k0_part30 i) x y) := by
  unfold k0_part30
  refine .l h.k7.a fun _ => .l h.k21.a.q fun _ => .l h.k19 fun _ => .l h.k22.a.q fun _ => .s h.w22.a.q <| .l h.k3 fun
    _ => .l h.k22.a.q fun _ => .s h.w22.a.q <| .pure _

theorem s31 {x} : Ok (b.on (k0_part31 i) x) := by
  unfold k0_part31
  refine .l h.k22.a.q fun _ => .l h.k19 fun _ => .s h.w19 <| .l h.k11 fun _ => .l h.k8.a fun _ => .l h.k22.a.q fun _
    => .l h.k8.a fun _ => .l h.k22.a.q fun _ => .l h.k8.a fun _ => .pure _

theorem s32 {x y z} : Ok (b.on (k0_part32 i) x y z) := by
  unfold k0_part32
  refine .l h.k22.a.q fun _ => .l h.k8.a fun _ => .l h.k22.a.q fun _ => .l h.k20 fun _ => .l h.k23.a.q fun _ => .s
    h.w23.a.q <| .l h.k4 fun _ => .l h.k23.a.q fun _ => .s h.w23.a.q <| .pure _

theorem s33 {x} : Ok (b.on (k0_part33 i) x) := by
  unfold k0_part33
  refine .l h.k23.a.q fun _ => .l h.k20 fun _ => .s h.w20 <| .l h.k12 fun _ => .l h.k9.a fun _ => .l h.k23.a.q fun _
    => .l h.k9.a fun _ => .l h.k23.a.q fun _ => .l h.k9.a fun _ => .pure _

theorem s34 {x y z u v} : Ok (b.on (k0_part34 i) x y z u v) := by
  unfold k0_part34
  refine .l h.k23.a.q fun _ => .l h.k9.a fun _ => .l h.k23.a.q fun _ => .l h.k24 fun _ => .l h.k27 fun _ => .pure _

theorem s35 {x y z u v w p q} : Ok (b.on (k0_part35 i) x y z u v w p q) := by
  unfold k0_part35
  refine .l h.k28.a.q fun _ => .s h.w28 <| .l h.k28.a.q fun _ => .s h.w28 <| .l h.k25 fun _ => .l h.k26 fun _ => .pure
    _

theorem s36 {x y z u v w p q a t} : Ok (b.on (k0_part36 i) x y z u v w p q a t) := by
  unfold k0_part36
  refine .l h.k28.a.q fun _ => .s h.w28 <| .l h.k28.a.q fun _ => .s h.w28 <| .l h.k25 fun _ => .l h.k26 fun _ => .pure
    _

theorem s37 {x y z u v w p q a t d e} : Ok (b.on (k0_part37 i) x y z u v w p q a t d e) := by
  unfold k0_part37
  refine .l h.k28.a.q fun _ => .s h.w28 <| .pure _

theorem s38 {x y z u v w p q a t d e} : Ok (b.on (k0_part38 i) x y z u v w p q a t d e) := by
  unfold k0_part38
  refine .l h.k28.a.q fun _ => .s h.w28 <| .l h.k25 fun _ => .l h.k26 fun _ => .pure _

theorem s39 {x y z u v w p q a} : Ok (b.on (k0_part39 i) x y z u v w p q a) := by
  unfold k0_part39
  refine .l h.k28.a.q fun _ => .s h.w28 <| .l h.k28.a.q fun _ => .s h.w28 <| .l h.k25 fun _ => .l h.k26 fun _ => .pure
    _

theorem s40 {x y z u v w p q a t d e f g j k l m n} : Ok (b.on (k0_part40 i) x y z u v w p q a t d e f g j k l m n) := by
  unfold k0_part40
  refine .l h.k28 fun _ => .l h.k28.a.q fun _ => .l h.k27 fun _ => .s h.w27 <| .l h.k15.a fun _ => .l h.k27 fun _ =>
    .pure _

theorem s41 {x y z u v w p} : Ok (b.on (k0_part41 i) x y z u v w p) := by
  unfold k0_part41
  refine .l h.k28.a.q fun _ => .s h.w28 <| .l h.k28.a.q fun _ => .s h.w28 <| .l h.k25 fun _ => .l h.k26 fun _ => .pure
    _

theorem s42 {x y z u v w p q a t} : Ok (b.on (k0_part42 i) x y z u v w p q a t) := by
  unfold k0_part42
  refine .l h.k28.a.q fun _ => .s h.w28 <| .l h.k28.a.q fun _ => .s h.w28 <| .l h.k25 fun _ => .pure _

theorem s43 {x y z u v w p q a t d e} : Ok (b.on (k0_part43 i) x y z u v w p q a t d e) := by
  unfold k0_part43
  refine .l h.k26 fun _ => .l h.k28.a.q fun _ => .pure _

theorem s44 {x y z u v w p q a t d} : Ok (b.on (k0_part44 i) x y z u v w p q a t d) := by
  unfold k0_part44
  refine .s h.w28 <| .l h.k28.a.q fun _ => .s h.w28 <| .l h.k25 fun _ => .l h.k26 fun _ => .pure _

theorem s45 {x y z u v w p q} : Ok (b.on (k0_part45 i) x y z u v w p q) := by
  unfold k0_part45
  refine .l h.k28.a.q fun _ => .s h.w28 <| .l h.k28.a.q fun _ => .s h.w28 <| .l h.k25 fun _ => .l h.k26 fun _ => .pure
    _

theorem s46 {x y z u v w p q a t d e f g j k l m n} : Ok (b.on (k0_part46 i) x y z u v w p q a t d e f g j k l m n) := by
  unfold k0_part46
  refine .l h.k28 fun _ => .l h.k28.a.q fun _ => .l h.k27 fun _ => .s h.w27 <| .l h.k15.a fun _ => .pure _

theorem s47 {x y z} : Ok (b.on (k0_part47 i) x y z) := by
  unfold k0_part47
  refine .l h.k5 fun _ => .l h.k16.a fun _ => .l h.k17.a fun _ => .s h.w17 <| .pure _

theorem s48 {x y} : Ok (b.on (k0_part48 i) x y) := by
  unfold k0_part48
  refine .l h.k16.a fun _ => .l h.k17.a fun _ => .s h.w17 <| .l h.k18 fun _ => .l h.k21.a.q fun _ => .s h.w21.a.q <|
    .l h.k2 fun _ => .l h.k21.a.q fun _ => .s h.w21.a.q <| .l h.k21.a.q fun _ => .pure _

theorem s49 {x} : Ok (b.on (k0_part49 i) x) := by
  unfold k0_part49
  refine .l h.k18 fun _ => .s h.w18 <| .l h.k10 fun _ => .l h.k7.a fun _ => .l h.k21.a.q fun _ => .l h.k7.a fun _ =>
    .l h.k21.a.q fun _ => .l h.k7.a fun _ => .l h.k21.a.q fun _ => .pure _

theorem s50 {x y} : Ok (b.on (k0_part50 i) x y) := by
  unfold k0_part50
  refine .l h.k7.a fun _ => .l h.k21.a.q fun _ => .l h.k19 fun _ => .l h.k22.a.q fun _ => .s h.w22.a.q <| .l h.k3 fun
    _ => .l h.k22.a.q fun _ => .s h.w22.a.q <| .pure _

theorem s51 {x} : Ok (b.on (k0_part51 i) x) := by
  unfold k0_part51
  refine .l h.k22.a.q fun _ => .l h.k19 fun _ => .s h.w19 <| .l h.k11 fun _ => .l h.k8.a fun _ => .l h.k22.a.q fun _
    => .l h.k8.a fun _ => .l h.k22.a.q fun _ => .l h.k8.a fun _ => .pure _

theorem s52 {x y z} : Ok (b.on (k0_part52 i) x y z) := by
  unfold k0_part52
  refine .l h.k22.a.q fun _ => .l h.k8.a fun _ => .l h.k22.a.q fun _ => .l h.k20 fun _ => .l h.k23.a.q fun _ => .s
    h.w23.a.q <| .l h.k4 fun _ => .l h.k23.a.q fun _ => .s h.w23.a.q <| .pure _

theorem s53 {x} : Ok (b.on (k0_part53 i) x) := by
  unfold k0_part53
  refine .l h.k23.a.q fun _ => .l h.k20 fun _ => .s h.w20 <| .l h.k12 fun _ => .l h.k9.a fun _ => .l h.k23.a.q fun _
    => .l h.k9.a fun _ => .l h.k23.a.q fun _ => .l h.k9.a fun _ => .pure _

theorem s54 {x y z u v} : Ok (b.on (k0_part54 i) x y z u v) := by
  unfold k0_part54
  refine .l h.k23.a.q fun _ => .l h.k9.a fun _ => .l h.k23.a.q fun _ => .l h.k24 fun _ => .l h.k27 fun _ => .pure _

theorem s55 {x y z u v w p q} : Ok (b.on (k0_part55 i) x y z u v w p q) := by
  unfold k0_part55
  refine .l h.k28.a.q fun _ => .s h.w28 <| .l h.k28.a.q fun _ => .s h.w28 <| .l h.k25 fun _ => .l h.k26 fun _ => .pure
    _

theorem s56 {x y z u v w p q a t} : Ok (b.on (k0_part56 i) x y z u v w p q a t) := by
  unfold k0_part56
  refine .l h.k28.a.q fun _ => .s h.w28 <| .l h.k28.a.q fun _ => .s h.w28 <| .l h.k25 fun _ => .l h.k26 fun _ => .pure
    _

theorem s57 {x y z u v w p q a t d e} : Ok (b.on (k0_part57 i) x y z u v w p q a t d e) := by
  unfold k0_part57
  refine .l h.k28.a.q fun _ => .s h.w28 <| .pure _

end Cert.Proof.KSsdIdeal
end
-- ==== Proof.KSsdIdealSafe2.lean ====
/-
  The statements of the scan body, a stretch of the printed text at a time: each is safe.
-/
module

public import proofs.«01_k».proof.Proof.KSsdIdealBufs

@[expose] public section

set_option synthInstance.maxSize 4096

noncomputable section

namespace Cert.Proof.KSsdIdeal

open Idealize.ShloMosaic Idealize.ShloMosaic.TcCoe Idealize.SL.Sem Idealize.SL.BI
open Cert.KSsdIdeal Cert.Proof.Safe

variable {F : FTy → Type} [FloatOps F] [Facts] {defs : Defs nD τ sig (Elt F) Λ₀} {𝒱 : Variants} {c : Dev nD} {E : Set ℕ}
  {H : sProp (MT nD τ sig Unit (Elt F) ℕ (UR sig nD τ) ℕ)} {b : Bufs} (h : b.Held c H) {i : grid0.Coords}
include h

local notation "Ok" => Safe defs 𝒱 (c : Thread nD τ) E H

theorem s58 {x y z u v w p q a t d e} : Ok (b.on (k0_part58 i) x y z u v w p q a t d e) := by
  unfold k0_part58
  refine .l h.k28.a.q fun _ => .s h.w28 <| .l h.k25 fun _ => .l h.k26 fun _ => .pure _

theorem s59 {x y z u v w p q a} : Ok (b.on (k0_part59 i) x y z u v w p q a) := by
  unfold k0_part59
  refine .l h.k28.a.q fun _ => .s h.w28 <| .l h.k28.a.q fun _ => .s h.w28 <| .l h.k25 fun _ => .l h.k26 fun _ => .pure
    _

theorem s60 {x y z u v w p q a t d e f g j k l m n} : Ok (b.on (k0_part60 i) x y z u v w p q a t d e f g j k l m n) := by
  unfold k0_part60
  refine .l h.k28 fun _ => .l h.k28.a.q fun _ => .l h.k27 fun _ => .s h.w27 <| .l h.k15.a fun _ => .l h.k27 fun _ =>
    .pure _

theorem s61 {x y z u v w p} : Ok (b.on (k0_part61 i) x y z u v w p) := by
  unfold k0_part61
  refine .l h.k28.a.q fun _ => .s h.w28 <| .l h.k28.a.q fun _ => .s h.w28 <| .l h.k25 fun _ => .l h.k26 fun _ => .pure
    _

theorem s62 {x y z u v w p q a t} : Ok (b.on (k0_part62 i) x y z u v w p q a t) := by
  unfold k0_part62
  refine .l h.k28.a.q fun _ => .s h.w28 <| .l h.k28.a.q fun _ => .s h.w28 <| .l h.k25 fun _ => .pure _

theorem s63 {x y z u v w p q a t d e} : Ok (b.on (k0_part63 i) x y z u v w p q a t d e) := by
  unfold k0_part63
  refine .l h.k26 fun _ => .l h.k28.a.q fun _ => .pure _

theorem s64 {x y z u v w p q a t d} : Ok (b.on (k0_part64 i) x y z u v w p q a t d) := by
  unfold k0_part64
  refine .s h.w28 <| .l h.k28.a.q fun _ => .s h.w28 <| .l h.k25 fun _ => .l h.k26 fun _ => .pure _

theorem s65 {x y z u v w p q} : Ok (b.on (k0_part65 i) x y z u v w p q) := by
  unfold k0_part65
  refine .l h.k28.a.q fun _ => .s h.w28 <| .l h.k28.a.q fun _ => .s h.w28 <| .l h.k25 fun _ => .l h.k26 fun _ => .pure
    _

theorem s66 {x y z u v w p q a t d e f g j k l m n} : Ok (b.on (k0_part66 i) x y z u v w p q a t d e f g j k l m n) := by
  unfold k0_part66
  refine .l h.k28 fun _ => .l h.k28.a.q fun _ => .l h.k27 fun _ => .s h.w27 <| .l h.k15.a fun _ => .pure _

theorem s67 {x y z} : Ok (b.on (k0_part67 i) x y z) := by
  unfold k0_part67
  refine .l h.k5 fun _ => .l h.k16.a fun _ => .l h.k17.a fun _ => .s h.w17 <| .pure _

theorem s68 {x y} : Ok (b.on (k0_part68 i) x y) := by
  unfold k0_part68
  refine .l h.k16.a fun _ => .l h.k17.a fun _ => .s h.w17 <| .l h.k18 fun _ => .l h.k21.a.q fun _ => .s h.w21.a.q <|
    .l h.k2 fun _ => .l h.k21.a.q fun _ => .s h.w21.a.q <| .l h.k21.a.q fun _ => .pure _

theorem s69 {x} : Ok (b.on (k0_part69 i) x) := by
  unfold k0_part69
  refine .l h.k18 fun _ => .s h.w18 <| .l h.k10 fun _ => .l h.k7.a fun _ => .l h.k21.a.q fun _ => .l h.k7.a fun _ =>
    .l h.k21.a.q fun _ => .l h.k7.a fun _ => .l h.k21.a.q fun _ => .pure _

theorem s70 {x y} : Ok (b.on (k0_part70 i) x y) := by
  unfold k0_part70
  refine .l h.k7.a fun _ => .l h.k21.a.q fun _ => .l h.k19 fun _ => .l h.k22.a.q fun _ => .s h.w22.a.q <| .l h.k3 fun
    _ => .l h.k22.a.q fun _ => .s h.w22.a.q <| .pure _

theorem s71 {x} : Ok (b.on (k0_part71 i) x) := by
  unfold k0_part71
  refine .l h.k22.a.q fun _ => .l h.k19 fun _ => .s h.w19 <| .l h.k11 fun _ => .l h.k8.a fun _ => .l h.k22.a.q fun _
    => .l h.k8.a fun _ => .l h.k22.a.q fun _ => .l h.k8.a fun _ => .pure _

theorem s72 {x y z} : Ok (b.on (k0_part72 i) x y z) := by
  unfold k0_part72
  refine .l h.k22.a.q fun _ => .l h.k8.a fun _ => .l h.k22.a.q fun _ => .l h.k20 fun _ => .l h.k23.a.q fun _ => .s
    h.w23.a.q <| .l h.k4 fun _ => .l h.k23.a.q fun _ => .s h.w23.a.q <| .pure _

theorem s73 {x} : Ok (b.on (k0_part73 i) x) := by
  unfold k0_part73
  refine .l h.k23.a.q fun _ => .l h.k20 fun _ => .s h.w20 <| .l h.k12 fun _ => .l h.k9.a fun _ => .l h.k23.a.q fun _
    => .l h.k9.a fun _ => .l h.k23.a.q fun _ => .l h.k9.a fun _ => .pure _

theorem s74 {x y z u v} : Ok (b.on (k0_part74 i) x y z u v) := by
  unfold k0_part74
  refine .l h.k23.a.q fun _ => .l h.k9.a fun _ => .l h.k23.a.q fun _ => .l h.k24 fun _ => .l h.k27 fun _ => .pure _

theorem s75 {x y z u v w p q} : Ok (b.on (k0_part75 i) x y z u v w p q) := by
  unfold k0_part75
  refine .l h.k28.a.q fun _ => .s h.w28 <| .l h.k28.a.q fun _ => .s h.w28 <| .l h.k25 fun _ => .l h.k26 fun _ => .pure
    _

theorem s76 {x y z u v w p q a t} : Ok (b.on (k0_part76 i) x y z u v w p q a t) := by
  unfold k0_part76
  refine .l h.k28.a.q fun _ => .s h.w28 <| .l h.k28.a.q fun _ => .s h.w28 <| .l h.k25 fun _ => .l h.k26 fun _ => .pure
    _

theorem s77 {x y z u v w p q a t d e} : Ok (b.on (k0_part77 i) x y z u v w p q a t d e) := by
  unfold k0_part77
  refine .l h.k28.a.q fun _ => .s h.w28 <| .pure _

theorem s78 {x y z u v w p q a t d e} : Ok (b.on (k0_part78 i) x y z u v w p q a t d e) := by
  unfold k0_part78
  refine .l h.k28.a.q fun _ => .s h.w28 <| .l h.k25 fun _ => .l h.k26 fun _ => .pure _

theorem s79 {x y z u v w p q a} : Ok (b.on (k0_part79 i) x y z u v w p q a) := by
  unfold k0_part79
  refine .l h.k28.a.q fun _ => .s h.w28 <| .l h.k28.a.q fun _ => .s h.w28 <| .l h.k25 fun _ => .l h.k26 fun _ => .pure
    _

theorem s80 {x y z u v w p q a t d e f g j k l m n} : Ok (b.on (k0_part80 i) x y z u v w p q a t d e f g j k l m n) := by
  unfold k0_part80
  refine .l h.k28 fun _ => .l h.k28.a.q fun _ => .l h.k27 fun _ => .s h.w27 <| .l h.k15.a fun _ => .l h.k27 fun _ =>
    .pure _

theorem s81 {x y z u v w p} : Ok (b.on (k0_part81 i) x y z u v w p) := by
  unfold k0_part81
  refine .l h.k28.a.q fun _ => .s h.w28 <| .l h.k28.a.q fun _ => .s h.w28 <| .l h.k25 fun _ => .l h.k26 fun _ => .pure
    _

theorem s82 {x y z u v w p q a t} : Ok (b.on (k0_part82 i) x y z u v w p q a t) := by
  unfold k0_part82
  refine .l h.k28.a.q fun _ => .s h.w28 <| .l h.k28.a.q fun _ => .s h.w28 <| .l h.k25 fun _ => .pure _

theorem s83 {x y z u v w p q a t d e} : Ok (b.on (k0_part83 i) x y z u v w p q a t d e) := by
  unfold k0_part83
  refine .l h.k26 fun _ => .l h.k28.a.q fun _ => .pure _

theorem s84 {x y z u v w p q a t d} : Ok (b.on (k0_part84 i) x y z u v w p q a t d) := by
  unfold k0_part84
  refine .s h.w28 <| .l h.k28.a.q fun _ => .s h.w28 <| .l h.k25 fun _ => .l h.k26 fun _ => .pure _

theorem s85 {x y z u v w p q} : Ok (b.on (k0_part85 i) x y z u v w p q) := by
  unfold k0_part85
  refine .l h.k28.a.q fun _ => .s h.w28 <| .l h.k28.a.q fun _ => .s h.w28 <| .l h.k25 fun _ => .l h.k26 fun _ => .pure
    _

theorem s86 {x y z u v w p q a t d e f g j k l m n} : Ok (b.on (k0_part86 i) x y z u v w p q a t d e f g j k l m n) := by
  unfold k0_part86
  refine .l h.k28 fun _ => .l h.k28.a.q fun _ => .l h.k27 fun _ => .s h.w27 <| .l h.k15.a fun _ => .pure _

theorem s87 {x y z} : Ok (b.on (k0_part87 i) x y z) := by
  unfold k0_part87
  refine .l h.k5 fun _ => .l h.k16.a fun _ => .l h.k17.a fun _ => .s h.w17 <| .pure _

theorem s88 {x y} : Ok (b.on (k0_part88 i) x y) := by
  unfold k0_part88
  refine .l h.k16.a fun _ => .l h.k17.a fun _ => .s h.w17 <| .l h.k18 fun _ => .l h.k21.a.q fun _ => .s h.w21.a.q <|
    .l h.k2 fun _ => .l h.k21.a.q fun _ => .s h.w21.a.q <| .l h.k21.a.q fun _ => .pure _

theorem s89 {x} : Ok (b.on (k0_part89 i) x) := by
  unfold k0_part89
  refine .l h.k18 fun _ => .s h.w18 <| .l h.k10 fun _ => .l h.k7.a fun _ => .l h.k21.a.q fun _ => .l h.k7.a fun _ =>
    .l h.k21.a.q fun _ => .l h.k7.a fun _ => .l h.k21.a.q fun _ => .pure _

theorem s90 {x y} : Ok (b.on (k0_part90 i) x y) := by
  unfold k0_part90
  refine .l h.k7.a fun _ => .l h.k21.a.q fun _ => .l h.k19 fun _ => .l h.k22.a.q fun _ => .s h.w22.a.q <| .l h.k3 fun
    _ => .l h.k22.a.q fun _ => .s h.w22.a.q <| .pure _

theorem s91 {x} : Ok (b.on (k0_part91 i) x) := by
  unfold k0_part91
  refine .l h.k22.a.q fun _ => .l h.k19 fun _ => .s h.w19 <| .l h.k11 fun _ => .l h.k8.a fun _ => .l h.k22.a.q fun _
    => .l h.k8.a fun _ => .l h.k22.a.q fun _ => .l h.k8.a fun _ => .pure _

theorem s92 {x y z} : Ok (b.on (k0_part92 i) x y z) := by
  unfold k0_part92
  refine .l h.k22.a.q fun _ => .l h.k8.a fun _ => .l h.k22.a.q fun _ => .l h.k20 fun _ => .l h.k23.a.q fun _ => .s
    h.w23.a.q <| .l h.k4 fun _ => .l h.k23.a.q fun _ => .s h.w23.a.q <| .pure _

theorem s93 {x} : Ok (b.on (k0_part93 i) x) := by
  unfold k0_part93
  refine .l h.k23.a.q fun _ => .l h.k20 fun _ => .s h.w20 <| .l h.k12 fun _ => .l h.k9.a fun _ => .l h.k23.a.q fun _
    => .l h.k9.a fun _ => .l h.k23.a.q fun _ => .l h.k9.a fun _ => .pure _

theorem s94 {x y z u v} : Ok (b.on (k0_part94 i) x y z u v) := by
  unfold k0_part94
  refine .l h.k23.a.q fun _ => .l h.k9.a fun _ => .l h.k23.a.q fun _ => .l h.k24 fun _ => .l h.k27 fun _ => .pure _

theorem s95 {x y z u v w p q} : Ok (b.on (k0_part95 i) x y z u v w p q) := by
  unfold k0_part95
  refine .l h.k28.a.q fun _ => .s h.w28 <| .l h.k28.a.q fun _ => .s h.w28 <| .l h.k25 fun _ => .l h.k26 fun _ => .pure
    _

theorem s96 {x y z u v w p q a t} : Ok (b.on (k0_part96 i) x y z u v w p q a t) := by
  unfold k0_part96
  refine .l h.k28.a.q fun _ => .s h.w28 <| .l h.k28.a.q fun _ => .s h.w28 <| .l h.k25 fun _ => .l h.k26 fun _ => .pure
    _

theorem s97 {x y z u v w p q a t d e} : Ok (b.on (k0_part97 i) x y z u v w p q a t d e) := by
  unfold k0_part97
  refine .l h.k28.a.q fun _ => .s h.w28 <| .pure _

theorem s98 {x y z u v w p q a t d e} : Ok (b.on (k0_part98 i) x y z u v w p q a t d e) := by
  unfold k0_part98
  refine .l h.k28.a.q fun _ => .s h.w28 <| .l h.k25 fun _ => .l h.k26 fun _ => .pure _

theorem s99 {x y z u v w p q a} : Ok (b.on (k0_part99 i) x y z u v w p q a) := by
  unfold k0_part99
  refine .l h.k28.a.q fun _ => .s h.w28 <| .l h.k28.a.q fun _ => .s h.w28 <| .l h.k25 fun _ => .l h.k26 fun _ => .pure
    _

theorem s100 {x y z u v w p q a t d e f g j k l m n} : Ok (b.on (k0_part100 i) x y z u v w p q a t d e f g j k l m n) := by
  unfold k0_part100
  refine .l h.k28 fun _ => .l h.k28.a.q fun _ => .l h.k27 fun _ => .s h.w27 <| .l h.k15.a fun _ => .l h.k27 fun _ =>
    .pure _

theorem s101 {x y z u v w p} : Ok (b.on (k0_part101 i) x y z u v w p) := by
  unfold k0_part101
  refine .l h.k28.a.q fun _ => .s h.w28 <| .l h.k28.a.q fun _ => .s h.w28 <| .l h.k25 fun _ => .l h.k26 fun _ => .pure
    _

theorem s102 {x y z u v w p q a t} : Ok (b.on (k0_part102 i) x y z u v w p q a t) := by
  unfold k0_part102
  refine .l h.k28.a.q fun _ => .s h.w28 <| .l h.k28.a.q fun _ => .s h.w28 <| .l h.k25 fun _ => .pure _

theorem s103 {x y z u v w p q a t d e} : Ok (b.on (k0_part103 i) x y z u v w p q a t d e) := by
  unfold k0_part103
  refine .l h.k26 fun _ => .l h.k28.a.q fun _ => .pure _

theorem s104 {x y z u v w p q a t d} : Ok (b.on (k0_part104 i) x y z u v w p q a t d) := by
  unfold k0_part104
  refine .s h.w28 <| .l h.k28.a.q fun _ => .s h.w28 <| .l h.k25 fun _ => .l h.k26 fun _ => .pure _

theorem s105 {x y z u v w p q} : Ok (b.on (k0_part105 i) x y z u v w p q) := by
  unfold k0_part105
  refine .l h.k28.a.q fun _ => .s h.w28 <| .l h.k28.a.q fun _ => .s h.w28 <| .l h.k25 fun _ => .l h.k26 fun _ => .pure
    _

theorem s106 {x y z u v w p q a t d e f g j k l m n} : Ok (b.on (k0_part106 i) x y z u v w p q a t d e f g j k l m n) := by
  unfold k0_part106
  refine .l h.k28 fun _ => .l h.k28.a.q fun _ => .l h.k27 fun _ => .s h.w27 <| .l h.k15.a fun _ => .pure _

theorem s107 {x y z} : Ok (b.on (k0_part107 i) x y z) := by
  unfold k0_part107
  refine .l h.k5 fun _ => .l h.k16.a fun _ => .l h.k17.a fun _ => .s h.w17 <| .pure _

theorem s108 {x y} : Ok (b.on (k0_part108 i) x y) := by
  unfold k0_part108
  refine .l h.k16.a fun _ => .l h.k17.a fun _ => .s h.w17 <| .l h.k18 fun _ => .l h.k21.a.q fun _ => .s h.w21.a.q <|
    .l h.k2 fun _ => .l h.k21.a.q fun _ => .s h.w21.a.q <| .l h.k21.a.q fun _ => .pure _

theorem s109 {x} : Ok (b.on (k0_part109 i) x) := by
  unfold k0_part109
  refine .l h.k18 fun _ => .s h.w18 <| .l h.k10 fun _ => .l h.k7.a fun _ => .l h.k21.a.q fun _ => .l h.k7.a fun _ =>
    .l h.k21.a.q fun _ => .l h.k7.a fun _ => .l h.k21.a.q fun _ => .pure _

theorem s110 {x y} : Ok (b.on (k0_part110 i) x y) := by
  unfold k0_part110
  refine .l h.k7.a fun _ => .l h.k21.a.q fun _ => .l h.k19 fun _ => .l h.k22.a.q fun _ => .s h.w22.a.q <| .l h.k3 fun
    _ => .l h.k22.a.q fun _ => .s h.w22.a.q <| .pure _

theorem s111 {x} : Ok (b.on (k0_part111 i) x) := by
  unfold k0_part111
  refine .l h.k22.a.q fun _ => .l h.k19 fun _ => .s h.w19 <| .l h.k11 fun _ => .l h.k8.a fun _ => .l h.k22.a.q fun _
    => .l h.k8.a fun _ => .l h.k22.a.q fun _ => .l h.k8.a fun _ => .pure _

theorem s112 {x y z} : Ok (b.on (k0_part112 i) x y z) := by
  unfold k0_part112
  refine .l h.k22.a.q fun _ => .l h.k8.a fun _ => .l h.k22.a.q fun _ => .l h.k20 fun _ => .l h.k23.a.q fun _ => .s
    h.w23.a.q <| .l h.k4 fun _ => .l h.k23.a.q fun _ => .s h.w23.a.q <| .pure _

theorem s113 {x} : Ok (b.on (k0_part113 i) x) := by
  unfold k0_part113
  refine .l h.k23.a.q fun _ => .l h.k20 fun _ => .s h.w20 <| .l h.k12 fun _ => .l h.k9.a fun _ => .l h.k23.a.q fun _
    => .l h.k9.a fun _ => .l h.k23.a.q fun _ => .l h.k9.a fun _ => .pure _

end Cert.Proof.KSsdIdeal
end
-- ==== Proof.KSsdIdealSafe3.lean ====
/-
  The statements of the scan body, a stretch of the printed text at a time: each is safe.
-/
module

public import proofs.«01_k».proof.Proof.KSsdIdealBufs

@[expose] public section

set_option synthInstance.maxSize 4096

noncomputable section

namespace Cert.Proof.KSsdIdeal

open Idealize.ShloMosaic Idealize.ShloMosaic.TcCoe Idealize.SL.Sem Idealize.SL.BI
open Cert.KSsdIdeal Cert.Proof.Safe

variable {F : FTy → Type} [FloatOps F] [Facts] {defs : Defs nD τ sig (Elt F) Λ₀} {𝒱 : Variants} {c : Dev nD} {E : Set ℕ}
  {H : sProp (MT nD τ sig Unit (Elt F) ℕ (UR sig nD τ) ℕ)} {b : Bufs} (h : b.Held c H) {i : grid0.Coords}
include h

local notation "Ok" => Safe defs 𝒱 (c : Thread nD τ) E H

theorem s114 {x y z u v} : Ok (b.on (k0_part114 i) x y z u v) := by
  unfold k0_part114
  refine .l h.k23.a.q fun _ => .l h.k9.a fun _ => .l h.k23.a.q fun _ => .l h.k24 fun _ => .l h.k27 fun _ => .pure _

theorem s115 {x y z u v w p q} : Ok (b.on (k0_part115 i) x y z u v w p q) := by
  unfold k0_part115
  refine .l h.k28.a.q fun _ => .s h.w28 <| .l h.k28.a.q fun _ => .s h.w28 <| .l h.k25 fun _ => .l h.k26 fun _ => .pure
    _

theorem s116 {x y z u v w p q a t} : Ok (b.on (k0_part116 i) x y z u v w p q a t) := by
  unfold k0_part116
  refine .l h.k28.a.q fun _ => .s h.w28 <| .l h.k28.a.q fun _ => .s h.w28 <| .l h.k25 fun _ => .l h.k26 fun _ => .pure
    _

theorem s117 {x y z u v w p q a t d e} : Ok (b.on (k0_part117 i) x y z u v w p q a t d e) := by
  unfold k0_part117
  refine .l h.k28.a.q fun _ => .s h.w28 <| .pure _

theorem s118 {x y z u v w p q a t d e} : Ok (b.on (k0_part118 i) x y z u v w p q a t d e) := by
  unfold k0_part118
  refine .l h.k28.a.q fun _ => .s h.w28 <| .l h.k25 fun _ => .l h.k26 fun _ => .pure _

theorem s119 {x y z u v w p q a} : Ok (b.on (k0_part119 i) x y z u v w p q a) := by
  unfold k0_part119
  refine .l h.k28.a.q fun _ => .s h.w28 <| .l h.k28.a.q fun _ => .s h.w28 <| .l h.k25 fun _ => .l h.k26 fun _ => .pure
    _

theorem s120 {x y z u v w p q a t d e f g j k l m n} : Ok (b.on (k0_part120 i) x y z u v w p q a t d e f g j k l m n) := by
  unfold k0_part120
  refine .l h.k28 fun _ => .l h.k28.a.q fun _ => .l h.k27 fun _ => .s h.w27 <| .l h.k15.a fun _ => .l h.k27 fun _ =>
    .pure _

theorem s121 {x y z u v w p} : Ok (b.on (k0_part121 i) x y z u v w p) := by
  unfold k0_part121
  refine .l h.k28.a.q fun _ => .s h.w28 <| .l h.k28.a.q fun _ => .s h.w28 <| .l h.k25 fun _ => .l h.k26 fun _ => .pure
    _

theorem s122 {x y z u v w p q a t} : Ok (b.on (k0_part122 i) x y z u v w p q a t) := by
  unfold k0_part122
  refine .l h.k28.a.q fun _ => .s h.w28 <| .l h.k28.a.q fun _ => .s h.w28 <| .l h.k25 fun _ => .pure _

theorem s123 {x y z u v w p q a t d e} : Ok (b.on (k0_part123 i) x y z u v w p q a t d e) := by
  unfold k0_part123
  refine .l h.k26 fun _ => .l h.k28.a.q fun _ => .pure _

theorem s124 {x y z u v w p q a t d} : Ok (b.on (k0_part124 i) x y z u v w p q a t d) := by
  unfold k0_part124
  refine .s h.w28 <| .l h.k28.a.q fun _ => .s h.w28 <| .l h.k25 fun _ => .l h.k26 fun _ => .pure _

theorem s125 {x y z u v w p q} : Ok (b.on (k0_part125 i) x y z u v w p q) := by
  unfold k0_part125
  refine .l h.k28.a.q fun _ => .s h.w28 <| .l h.k28.a.q fun _ => .s h.w28 <| .l h.k25 fun _ => .l h.k26 fun _ => .pure
    _

theorem s126 {x y z u v w p q a t d e f g j k l m n} : Ok (b.on (k0_part126 i) x y z u v w p q a t d e f g j k l m n) := by
  unfold k0_part126
  refine .l h.k28 fun _ => .l h.k28.a.q fun _ => .l h.k27 fun _ => .s h.w27 <| .l h.k15.a fun _ => .pure _

theorem s127 {x y z} : Ok (b.on (k0_part127 i) x y z) := by
  unfold k0_part127
  refine .l h.k5 fun _ => .l h.k16.a fun _ => .l h.k17.a fun _ => .s h.w17 <| .pure _

theorem s128 {x y} : Ok (b.on (k0_part128 i) x y) := by
  unfold k0_part128
  refine .l h.k16.a fun _ => .l h.k17.a fun _ => .s h.w17 <| .l h.k18 fun _ => .l h.k21.a.q fun _ => .s h.w21.a.q <|
    .l h.k2 fun _ => .l h.k21.a.q fun _ => .s h.w21.a.q <| .l h.k21.a.q fun _ => .pure _

theorem s129 {x} : Ok (b.on (k0_part129 i) x) := by
  unfold k0_part129
  refine .l h.k18 fun _ => .s h.w18 <| .l h.k10 fun _ => .l h.k7.a fun _ => .l h.k21.a.q fun _ => .l h.k7.a fun _ =>
    .l h.k21.a.q fun _ => .l h.k7.a fun _ => .l h.k21.a.q fun _ => .pure _

theorem s130 {x y} : Ok (b.on (k0_part130 i) x y) := by
  unfold k0_part130
  refine .l h.k7.a fun _ => .l h.k21.a.q fun _ => .l h.k19 fun _ => .l h.k22.a.q fun _ => .s h.w22.a.q <| .l h.k3 fun
    _ => .l h.k22.a.q fun _ => .s h.w22.a.q <| .pure _

theorem s131 {x} : Ok (b.on (k0_part131 i) x) := by
  unfold k0_part131
  refine .l h.k22.a.q fun _ => .l h.k19 fun _ => .s h.w19 <| .l h.k11 fun _ => .l h.k8.a fun _ => .l h.k22.a.q fun _
    => .l h.k8.a fun _ => .l h.k22.a.q fun _ => .l h.k8.a fun _ => .pure _

theorem s132 {x y z} : Ok (b.on (k0_part132 i) x y z) := by
  unfold k0_part132
  refine .l h.k22.a.q fun _ => .l h.k8.a fun _ => .l h.k22.a.q fun _ => .l h.k20 fun _ => .l h.k23.a.q fun _ => .s
    h.w23.a.q <| .l h.k4 fun _ => .l h.k23.a.q fun _ => .s h.w23.a.q <| .pure _

theorem s133 {x} : Ok (b.on (k0_part133 i) x) := by
  unfold k0_part133
  refine .l h.k23.a.q fun _ => .l h.k20 fun _ => .s h.w20 <| .l h.k12 fun _ => .l h.k9.a fun _ => .l h.k23.a.q fun _
    => .l h.k9.a fun _ => .l h.k23.a.q fun _ => .l h.k9.a fun _ => .pure _

theorem s134 {x y z u v} : Ok (b.on (k0_part134 i) x y z u v) := by
  unfold k0_part134
  refine .l h.k23.a.q fun _ => .l h.k9.a fun _ => .l h.k23.a.q fun _ => .l h.k24 fun _ => .l h.k27 fun _ => .pure _

theorem s135 {x y z u v w p q} : Ok (b.on (k0_part135 i) x y z u v w p q) := by
  unfold k0_part135
  refine .l h.k28.a.q fun _ => .s h.w28 <| .l h.k28.a.q fun _ => .s h.w28 <| .l h.k25 fun _ => .l h.k26 fun _ => .pure
    _

theorem s136 {x y z u v w p q a t} : Ok (b.on (k0_part136 i) x y z u v w p q a t) := by
  unfold k0_part136
  refine .l h.k28.a.q fun _ => .s h.w28 <| .l h.k28.a.q fun _ => .s h.w28 <| .l h.k25 fun _ => .l h.k26 fun _ => .pure
    _

theorem s137 {x y z u v w p q a t d e} : Ok (b.on (k0_part137 i) x y z u v w p q a t d e) := by
  unfold k0_part137
  refine .l h.k28.a.q fun _ => .s h.w28 <| .pure _

theorem s138 {x y z u v w p q a t d e} : Ok (b.on (k0_part138 i) x y z u v w p q a t d e) := by
  unfold k0_part138
  refine .l h.k28.a.q fun _ => .s h.w28 <| .l h.k25 fun _ => .l h.k26 fun _ => .pure _

theorem s139 {x y z u v w p q a} : Ok (b.on (k0_part139 i) x y z u v w p q a) := by
  unfold k0_part139
  refine .l h.k28.a.q fun _ => .s h.w28 <| .l h.k28.a.q fun _ => .s h.w28 <| .l h.k25 fun _ => .l h.k26 fun _ => .pure
    _

theorem s140 {x y z u v w p q a t d e f g j k l m n} : Ok (b.on (k0_part140 i) x y z u v w p q a t d e f g j k l m n) := by
  unfold k0_part140
  refine .l h.k28 fun _ => .l h.k28.a.q fun _ => .l h.k27 fun _ => .s h.w27 <| .l h.k15.a fun _ => .l h.k27 fun _ =>
    .pure _

theorem s141 {x y z u v w p} : Ok (b.on (k0_part141 i) x y z u v w p) := by
  unfold k0_part141
  refine .l h.k28.a.q fun _ => .s h.w28 <| .l h.k28.a.q fun _ => .s h.w28 <| .l h.k25 fun _ => .l h.k26 fun _ => .pure
    _

theorem s142 {x y z u v w p q a t} : Ok (b.on (k0_part142 i) x y z u v w p q a t) := by
  unfold k0_part142
  refine .l h.k28.a.q fun _ => .s h.w28 <| .l h.k28.a.q fun _ => .s h.w28 <| .l h.k25 fun _ => .pure _

theorem s143 {x y z u v w p q a t d e} : Ok (b.on (k0_part143 i) x y z u v w p q a t d e) := by
  unfold k0_part143
  refine .l h.k26 fun _ => .l h.k28.a.q fun _ => .pure _

theorem s144 {x y z u v w p q a t d} : Ok (b.on (k0_part144 i) x y z u v w p q a t d) := by
  unfold k0_part144
  refine .s h.w28 <| .l h.k28.a.q fun _ => .s h.w28 <| .l h.k25 fun _ => .l h.k26 fun _ => .pure _

theorem s145 {x y z u v w p q} : Ok (b.on (k0_part145 i) x y z u v w p q) := by
  unfold k0_part145
  refine .l h.k28.a.q fun _ => .s h.w28 <| .l h.k28.a.q fun _ => .s h.w28 <| .l h.k25 fun _ => .l h.k26 fun _ => .pure
    _

theorem s146 {x y z u v w p q a t d e f g j k l m n} : Ok (b.on (k0_part146 i) x y z u v w p q a t d e f g j k l m n) := by
  unfold k0_part146
  refine .l h.k28 fun _ => .l h.k28.a.q fun _ => .l h.k27 fun _ => .s h.w27 <| .l h.k15.a fun _ => .pure _

theorem s147 {x y z} : Ok (b.on (k0_part147 i) x y z) := by
  unfold k0_part147
  refine .l h.k5 fun _ => .l h.k16.a fun _ => .l h.k17.a fun _ => .s h.w17 <| .pure _

theorem s148 {x y} : Ok (b.on (k0_part148 i) x y) := by
  unfold k0_part148
  refine .l h.k16.a fun _ => .l h.k17.a fun _ => .s h.w17 <| .l h.k18 fun _ => .l h.k21.a.q fun _ => .s h.w21.a.q <|
    .l h.k2 fun _ => .l h.k21.a.q fun _ => .s h.w21.a.q <| .l h.k21.a.q fun _ => .pure _

theorem s149 {x} : Ok (b.on (k0_part149 i) x) := by
  unfold k0_part149
  refine .l h.k18 fun _ => .s h.w18 <| .l h.k10 fun _ => .l h.k7.a fun _ => .l h.k21.a.q fun _ => .l h.k7.a fun _ =>
    .l h.k21.a.q fun _ => .l h.k7.a fun _ => .l h.k21.a.q fun _ => .pure _

theorem s150 {x y} : Ok (b.on (k0_part150 i) x y) := by
  unfold k0_part150
  refine .l h.k7.a fun _ => .l h.k21.a.q fun _ => .l h.k19 fun _ => .l h.k22.a.q fun _ => .s h.w22.a.q <| .l h.k3 fun
    _ => .l h.k22.a.q fun _ => .s h.w22.a.q <| .pure _

theorem s151 {x} : Ok (b.on (k0_part151 i) x) := by
  unfold k0_part151
  refine .l h.k22.a.q fun _ => .l h.k19 fun _ => .s h.w19 <| .l h.k11 fun _ => .l h.k8.a fun _ => .l h.k22.a.q fun _
    => .l h.k8.a fun _ => .l h.k22.a.q fun _ => .l h.k8.a fun _ => .pure _

theorem s152 {x y z} : Ok (b.on (k0_part152 i) x y z) := by
  unfold k0_part152
  refine .l h.k22.a.q fun _ => .l h.k8.a fun _ => .l h.k22.a.q fun _ => .l h.k20 fun _ => .l h.k23.a.q fun _ => .s
    h.w23.a.q <| .l h.k4 fun _ => .l h.k23.a.q fun _ => .s h.w23.a.q <| .pure _

theorem s153 {x} : Ok (b.on (k0_part153 i) x) := by
  unfold k0_part153
  refine .l h.k23.a.q fun _ => .l h.k20 fun _ => .s h.w20 <| .l h.k12 fun _ => .l h.k9.a fun _ => .l h.k23.a.q fun _
    => .l h.k9.a fun _ => .l h.k23.a.q fun _ => .l h.k9.a fun _ => .pure _

theorem s154 {x y z u v} : Ok (b.on (k0_part154 i) x y z u v) := by
  unfold k0_part154
  refine .l h.k23.a.q fun _ => .l h.k9.a fun _ => .l h.k23.a.q fun _ => .l h.k24 fun _ => .l h.k27 fun _ => .pure _

theorem s155 {x y z u v w p q} : Ok (b.on (k0_part155 i) x y z u v w p q) := by
  unfold k0_part155
  refine .l h.k28.a.q fun _ => .s h.w28 <| .l h.k28.a.q fun _ => .s h.w28 <| .l h.k25 fun _ => .l h.k26 fun _ => .pure
    _

theorem s156 {x y z u v w p q a t} : Ok (b.on (k0_part156 i) x y z u v w p q a t) := by
  unfold k0_part156
  refine .l h.k28.a.q fun _ => .s h.w28 <| .l h.k28.a.q fun _ => .s h.w28 <| .l h.k25 fun _ => .l h.k26 fun _ => .pure
    _

theorem s157 {x y z u v w p q a t d e} : Ok (b.on (k0_part157 i) x y z u v w p q a t d e) := by
  unfold k0_part157
  refine .l h.k28.a.q fun _ => .s h.w28 <| .pure _

theorem s158 {x y z u v w p q a t d e} : Ok (b.on (k0_part158 i) x y z u v w p q a t d e) := by
  unfold k0_part158
  refine .l h.k28.a.q fun _ => .s h.w28 <| .l h.k25 fun _ => .l h.k26 fun _ => .pure _

theorem s159 {x y z u v w p q a} : Ok (b.on (k0_part159 i) x y z u v w p q a) := by
  unfold k0_part159
  refine .l h.k28.a.q fun _ => .s h.w28 <| .l h.k28.a.q fun _ => .s h.w28 <| .l h.k25 fun _ => .l h.k26 fun _ => .pure
    _

theorem s160 {x y z u v w p q a t d e f g j k l m n} : Ok (b.on (k0_part160 i) x y z u v w p q a t d e f g j k l m n) := by
  unfold k0_part160
  refine .l h.k28 fun _ => .l h.k28.a.q fun _ => .l h.k27 fun _ => .s h.w27 <| .l h.k15.a fun _ => .l h.k27 fun _ =>
    .pure _

theorem s161 {x y z u v w p} : Ok (b.on (k0_part161 i) x y z u v w p) := by
  unfold k0_part161
  refine .l h.k28.a.q fun _ => .s h.w28 <| .l h.k28.a.q fun _ => .s h.w28 <| .l h.k25 fun _ => .l h.k26 fun _ => .pure
    _

theorem s162 {x y z u v w p q a t} : Ok (b.on (k0_part162 i) x y z u v w p q a t) := by
  unfold k0_part162
  refine .l h.k28.a.q fun _ => .s h.w28 <| .l h.k28.a.q fun _ => .s h.w28 <| .l h.k25 fun _ => .pure _

theorem s163 {x y z u v w p q a t d e} : Ok (b.on (k0_part163 i) x y z u v w p q a t d e) := by
  unfold k0_part163
  refine .l h.k26 fun _ => .l h.k28.a.q fun _ => .pure _

theorem s164 {x y z u v w p q a t d} : Ok (b.on (k0_part164 i) x y z u v w p q a t d) := by
  unfold k0_part164
  refine .s h.w28 <| .l h.k28.a.q fun _ => .s h.w28 <| .l h.k25 fun _ => .l h.k26 fun _ => .pure _

theorem s165 {x y z u v w p q} : Ok (b.on (k0_part165 i) x y z u v w p q) := by
  unfold k0_part165
  refine .l h.k28.a.q fun _ => .s h.w28 <| .l h.k28.a.q fun _ => .s h.w28 <| .l h.k25 fun _ => .l h.k26 fun _ => .pure
    _

theorem s166 {x y z u v w p q a t d e f g j k l m n} : Ok (b.on (k0_part166 i) x y z u v w p q a t d e f g j k l m n) := by
  unfold k0_part166
  refine .l h.k28 fun _ => .l h.k28.a.q fun _ => .l h.k27 fun _ => .s h.w27 <| .l h.k15.a fun _ => .pure _

theorem s167 {x y z} : Ok (b.on (k0_part167 i) x y z) := by
  unfold k0_part167
  refine .l h.k5 fun _ => .l h.k16.a fun _ => .l h.k17.a fun _ => .s h.w17 <| .pure _

end Cert.Proof.KSsdIdeal
end
-- ==== Proof.KSsdIdealSafe.lean ====
/-
  The statements of the scan body, a stretch of the printed text at a time: each is safe.
-/
module

public import proofs.«01_k».proof.Proof.KSsdIdealSafe1
public import proofs.«01_k».proof.Proof.KSsdIdealSafe2
public import proofs.«01_k».proof.Proof.KSsdIdealSafe3

@[expose] public section

set_option synthInstance.maxSize 4096

noncomputable section

namespace Cert.Proof.KSsdIdeal

open Idealize.ShloMosaic Idealize.ShloMosaic.TcCoe Idealize.SL.Sem Idealize.SL.BI
open Cert.KSsdIdeal Cert.Proof.Safe

variable {F : FTy → Type} [FloatOps F] [Facts] {defs : Defs nD τ sig (Elt F) Λ₀} {𝒱 : Variants} {c : Dev nD} {E : Set ℕ}
  {H : sProp (MT nD τ sig Unit (Elt F) ℕ (UR sig nD τ) ℕ)} {b : Bufs} (h : b.Held c H) {i : grid0.Coords}
include h

local notation "Ok" => Safe defs 𝒱 (c : Thread nD τ) E H

theorem s8 : Ok (b.on (k0_part8 i)) := by
  unfold k0_part8
  refine .cond (p := k0_cond1 i = 1#1) (fun _ => ?_) (fun _ => ?_)
  · refine .bind (s1 h) fun ⟨_, _, _⟩ => .bind (s2 h) fun ⟨_, _⟩ => .bind (s3 h) fun ⟨_, _⟩ => .bind (s4 h) fun _ =>
      .bind (s5 h) fun _ => .bind (s6 h) fun ⟨_, _, _⟩ => .s h.w18 <| .l h.k19 fun _ => .s h.w19 <| .l h.k20 fun _ =>
      .s h.w20 <| .l h.k27 fun _ => .s h.w27 <| .l h.k28 fun _ => .s h.w28 <| ?_
    refine .cond (p := Scalar.cmpi .ne (Scalar.extui (Scalar.cmpi .eq (BitVec.ofNat 32 (i 1).val) 0#32)) 0#32 = 1#1) (fun _ => ?_) (fun _ => ?_)
    · refine .bind (s7 h) fun ⟨_, _, _⟩ => .l h.k24 fun _ => .s h.w24 <| .l h.k25 fun _ => .s h.w25 <| .l h.k26 fun _
        => .s h.w26 <| .l h.k18 fun _ => .l h.k21.a.q fun _ => .s h.w21.a.q <| .l h.k2 fun _ => .l h.k21.a.q fun _ =>
        .s h.w21.a.q <| .l h.k21.a.q fun _ => .pure _
    · refine .l h.k18 fun _ => .l h.k21.a.q fun _ => .s h.w21.a.q <| .l h.k2 fun _ => .l h.k21.a.q fun _ => .s
        h.w21.a.q <| .l h.k21.a.q fun _ => .pure _
  · refine .cond (p := Scalar.cmpi .ne (Scalar.extui (Scalar.cmpi .eq (BitVec.ofNat 32 (i 1).val) 0#32)) 0#32 = 1#1) (fun _ => ?_) (fun _ => ?_)
    · refine .bind (s7 h) fun ⟨_, _, _⟩ => .l h.k24 fun _ => .s h.w24 <| .l h.k25 fun _ => .s h.w25 <| .l h.k26 fun _
        => .s h.w26 <| .l h.k18 fun _ => .l h.k21.a.q fun _ => .s h.w21.a.q <| .l h.k2 fun _ => .l h.k21.a.q fun _ =>
        .s h.w21.a.q <| .l h.k21.a.q fun _ => .pure _
    · refine .l h.k18 fun _ => .l h.k21.a.q fun _ => .s h.w21.a.q <| .l h.k2 fun _ => .l h.k21.a.q fun _ => .s
        h.w21.a.q <| .l h.k21.a.q fun _ => .pure _

theorem s168 : Ok (b.on (k0_part168 i)) := by
  unfold k0_part168
  refine .bind (s8 h) fun ⟨_, _, _⟩ => .bind (s9 h) fun _ => .bind (s10 h) fun _ => .bind (s11 h) fun ⟨_, _⟩ => .bind
    (s12 h) fun _ => .bind (s13 h) fun ⟨_, _⟩ => .bind (s14 h) fun ⟨_, _, _, _, _, _, _, _, _, _, _, _, _⟩ => .bind
    (s15 h) fun ⟨_, _, _, _⟩ => .bind (s16 h) fun ⟨_, _, _, _, _⟩ => .bind (s17 h) fun ⟨_, _, _, _, _, _⟩ => ?_
  refine .bind (s18 h) fun ⟨_, _, _, _, _, _⟩ => .bind (s19 h) fun ⟨_, _, _, _⟩ => .bind (s20 h) fun ⟨_, _, _⟩ =>
    .bind (s21 h) fun ⟨_, _, _, _, _, _⟩ => .bind (s22 h) fun ⟨_, _, _, _, _⟩ => .bind (s23 h) fun ⟨_, _, _, _, _, _⟩
    => .bind (s24 h) fun ⟨_, _, _, _⟩ => .bind (s25 h) fun ⟨_, _, _, _⟩ => .bind (s26 h) fun ⟨_, _⟩ => .bind (s27 h)
    fun _ => ?_
  refine .bind (s28 h) fun ⟨_, _⟩ => .bind (s29 h) fun _ => .bind (s30 h) fun _ => .bind (s31 h) fun ⟨_, _⟩ => .bind
    (s32 h) fun _ => .bind (s33 h) fun ⟨_, _⟩ => .bind (s34 h) fun ⟨_, _, _, _, _, _, _, _, _, _, _, _, _⟩ => .bind
    (s35 h) fun ⟨_, _, _, _⟩ => .bind (s36 h) fun ⟨_, _, _, _, _⟩ => .bind (s37 h) fun ⟨_, _, _, _, _, _⟩ => ?_
  refine .bind (s38 h) fun ⟨_, _, _, _, _, _⟩ => .bind (s39 h) fun ⟨_, _, _, _⟩ => .bind (s40 h) fun ⟨_, _, _⟩ =>
    .bind (s41 h) fun ⟨_, _, _, _, _, _⟩ => .bind (s42 h) fun ⟨_, _, _, _, _⟩ => .bind (s43 h) fun ⟨_, _, _, _, _, _⟩
    => .bind (s44 h) fun ⟨_, _, _, _⟩ => .bind (s45 h) fun ⟨_, _, _, _⟩ => .bind (s46 h) fun ⟨_, _⟩ => .bind (s47 h)
    fun _ => ?_
  refine .bind (s48 h) fun ⟨_, _⟩ => .bind (s49 h) fun _ => .bind (s50 h) fun _ => .bind (s51 h) fun ⟨_, _⟩ => .bind
    (s52 h) fun _ => .bind (s53 h) fun ⟨_, _⟩ => .bind (s54 h) fun ⟨_, _, _, _, _, _, _, _, _, _, _, _, _⟩ => .bind
    (s55 h) fun ⟨_, _, _, _⟩ => .bind (s56 h) fun ⟨_, _, _, _, _⟩ => .bind (s57 h) fun ⟨_, _, _, _, _, _⟩ => ?_
  refine .bind (s58 h) fun ⟨_, _, _, _, _, _⟩ => .bind (s59 h) fun ⟨_, _, _, _⟩ => .bind (s60 h) fun ⟨_, _, _⟩ =>
    .bind (s61 h) fun ⟨_, _, _, _, _, _⟩ => .bind (s62 h) fun ⟨_, _, _, _, _⟩ => .bind (s63 h) fun ⟨_, _, _, _, _, _⟩
    => .bind (s64 h) fun ⟨_, _, _, _⟩ => .bind (s65 h) fun ⟨_, _, _, _⟩ => .bind (s66 h) fun ⟨_, _⟩ => .bind (s67 h)
    fun _ => ?_
  exact .pure _

theorem s169 {x y} : Ok (b.on (k0_part169 i) x y) := by
  unfold k0_part169
  refine .bind (s68 h) fun ⟨_, _⟩ => .bind (s69 h) fun _ => .bind (s70 h) fun _ => .bind (s71 h) fun ⟨_, _⟩ => .bind
    (s72 h) fun _ => .bind (s73 h) fun ⟨_, _⟩ => .bind (s74 h) fun ⟨_, _, _, _, _, _, _, _, _, _, _, _, _⟩ => .bind
    (s75 h) fun ⟨_, _, _, _⟩ => .bind (s76 h) fun ⟨_, _, _, _, _⟩ => .bind (s77 h) fun ⟨_, _, _, _, _, _⟩ => ?_
  refine .bind (s78 h) fun ⟨_, _, _, _, _, _⟩ => .bind (s79 h) fun ⟨_, _, _, _⟩ => .bind (s80 h) fun ⟨_, _, _⟩ =>
    .bind (s81 h) fun ⟨_, _, _, _, _, _⟩ => .bind (s82 h) fun ⟨_, _, _, _, _⟩ => .bind (s83 h) fun ⟨_, _, _, _, _, _⟩
    => .bind (s84 h) fun ⟨_, _, _, _⟩ => .bind (s85 h) fun ⟨_, _, _, _⟩ => .bind (s86 h) fun ⟨_, _⟩ => .bind (s87 h)
    fun _ => ?_
  refine .bind (s88 h) fun ⟨_, _⟩ => .bind (s89 h) fun _ => .bind (s90 h) fun _ => .bind (s91 h) fun ⟨_, _⟩ => .bind
    (s92 h) fun _ => .bind (s93 h) fun ⟨_, _⟩ => .bind (s94 h) fun ⟨_, _, _, _, _, _, _, _, _, _, _, _, _⟩ => .bind
    (s95 h) fun ⟨_, _, _, _⟩ => .bind (s96 h) fun ⟨_, _, _, _, _⟩ => .bind (s97 h) fun ⟨_, _, _, _, _, _⟩ => ?_
  refine .bind (s98 h) fun ⟨_, _, _, _, _, _⟩ => .bind (s99 h) fun ⟨_, _, _, _⟩ => .bind (s100 h) fun ⟨_, _, _⟩ =>
    .bind (s101 h) fun ⟨_, _, _, _, _, _⟩ => .bind (s102 h) fun ⟨_, _, _, _, _⟩ => .bind (s103 h) fun ⟨_, _, _, _, _,
    _⟩ => .bind (s104 h) fun ⟨_, _, _, _⟩ => .bind (s105 h) fun ⟨_, _, _, _⟩ => .bind (s106 h) fun ⟨_, _⟩ => .bind
    (s107 h) fun _ => ?_
  refine .bind (s108 h) fun ⟨_, _⟩ => .bind (s109 h) fun _ => .bind (s110 h) fun _ => .bind (s111 h) fun ⟨_, _⟩ =>
    .bind (s112 h) fun _ => .bind (s113 h) fun ⟨_, _⟩ => .bind (s114 h) fun ⟨_, _, _, _, _, _, _, _, _, _, _, _, _⟩ =>
    .bind (s115 h) fun ⟨_, _, _, _⟩ => .bind (s116 h) fun ⟨_, _, _, _, _⟩ => .bind (s117 h) fun ⟨_, _, _, _, _, _⟩ =>
    ?_
  refine .bind (s118 h) fun ⟨_, _, _, _, _, _⟩ => .bind (s119 h) fun ⟨_, _, _, _⟩ => .bind (s120 h) fun ⟨_, _, _⟩ =>
    .bind (s121 h) fun ⟨_, _, _, _, _, _⟩ => .bind (s122 h) fun ⟨_, _, _, _, _⟩ => .bind (s123 h) fun ⟨_, _, _, _, _,
    _⟩ => .bind (s124 h) fun ⟨_, _, _, _⟩ => .bind (s125 h) fun ⟨_, _, _, _⟩ => .bind (s126 h) fun ⟨_, _⟩ => s127 h

theorem body : Ok (b.on (cc0_ssd i)) := by
  unfold cc0_ssd
  refine .bind (s168 h) fun ⟨_, _⟩ => .bind (s169 h) fun _ => .bind (s128 h) fun ⟨_, _⟩ => .bind (s129 h) fun _ =>
    .bind (s130 h) fun _ => .bind (s131 h) fun ⟨_, _⟩ => .bind (s132 h) fun _ => .bind (s133 h) fun ⟨_, _⟩ => .bind
    (s134 h) fun ⟨_, _, _, _, _, _, _, _, _, _, _, _, _⟩ => .bind (s135 h) fun ⟨_, _, _, _⟩ => ?_
  refine .bind (s136 h) fun ⟨_, _, _, _, _⟩ => .bind (s137 h) fun ⟨_, _, _, _, _, _⟩ => .bind (s138 h) fun ⟨_, _, _,
    _, _, _⟩ => .bind (s139 h) fun ⟨_, _, _, _⟩ => .bind (s140 h) fun ⟨_, _, _⟩ => .bind (s141 h) fun ⟨_, _, _, _, _,
    _⟩ => .bind (s142 h) fun ⟨_, _, _, _, _⟩ => .bind (s143 h) fun ⟨_, _, _, _, _, _⟩ => .bind (s144 h) fun ⟨_, _, _,
    _⟩ => .bind (s145 h) fun ⟨_, _, _, _⟩ => ?_
  refine .bind (s146 h) fun ⟨_, _⟩ => .bind (s147 h) fun _ => .bind (s148 h) fun ⟨_, _⟩ => .bind (s149 h) fun _ =>
    .bind (s150 h) fun _ => .bind (s151 h) fun ⟨_, _⟩ => .bind (s152 h) fun _ => .bind (s153 h) fun ⟨_, _⟩ => .bind
    (s154 h) fun ⟨_, _, _, _, _, _, _, _, _, _, _, _, _⟩ => .bind (s155 h) fun ⟨_, _, _, _⟩ => ?_
  refine .bind (s156 h) fun ⟨_, _, _, _, _⟩ => .bind (s157 h) fun ⟨_, _, _, _, _, _⟩ => .bind (s158 h) fun ⟨_, _, _,
    _, _, _⟩ => .bind (s159 h) fun ⟨_, _, _, _⟩ => .bind (s160 h) fun ⟨_, _, _⟩ => .bind (s161 h) fun ⟨_, _, _, _, _,
    _⟩ => .bind (s162 h) fun ⟨_, _, _, _, _⟩ => .bind (s163 h) fun ⟨_, _, _, _, _, _⟩ => .bind (s164 h) fun ⟨_, _, _,
    _⟩ => .bind (s165 h) fun ⟨_, _, _, _⟩ => ?_
  refine .bind (s166 h) fun ⟨_, _⟩ => .bind (s167 h) fun _ => .l h.k16.a fun _ => .l h.k17.a fun _ => .s h.w17 <|
    .pure _

end Cert.Proof.KSsdIdeal
end
-- ==== Proof.KSsdIdealFrame.lean ====
/-
  The frame of the scan kernel over the reals: every run ends, with every semaphore at zero and the argument arrays as launched. The
  body is safe on its blocks and scratches (the module it imports); what it leaves in the output block and in the
  scratches is not stated.
-/
module

public import proofs.«01_k».proof.Proof.Gen.KSsdIdeal.Frame
public import proofs.«01_k».proof.Proof.KSsdIdealSafe

@[expose] public section

set_option maxRecDepth 16384

noncomputable section

namespace Cert.Proof.KSsdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KSsdIdeal Cert.KSsdIdeal.Gen Cert.Proof.Safe

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is forgotten: nothing reads what the body leaves there. -/
def forgets : Fin 16 → Bool := fun w => w.val == 15

/-- The arrays as the region finds them; each input's block left in place; the scratches at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => iblk m c 6 t
    | ⟨7, _⟩ => iblk m c 7 t
    | ⟨8, _⟩ => X0_8 m c t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨n + 15, h⟩ => Pipeline.Dat.unnamed (cfg := cfg0) ⟨n + 15, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem Φ_eq (c : Dev nD) (t) : (dats m 0 c).Φ t = Pipeline.ΦA spec0 c := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = X0_5 m c t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = X0_8 m c t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = X0_5 m c t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = X0_8 m c t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev ms12 (t : Fin cfg0.N) := win0_12.stage (cfg0.slots t 12)
abbrev ms13 (t : Fin cfg0.N) := win0_13.stage (cfg0.slots t 13)
abbrev ms14 (t : Fin cfg0.N) := win0_14.stage (cfg0.slots t 14)
abbrev ms15 (t : Fin cfg0.N) := win0_15.stage (cfg0.slots t 15)

/-- The body's memrefs at a point. -/
def bufs (t : Fin cfg0.N) : Bufs where
  arg2 := ms0 t
  harg2 := hstage0_0 ((cfg0.slots t 0).cast nbuf0_0)
  arg3 := ms1 t
  harg3 := hstage0_1 ((cfg0.slots t 1).cast nbuf0_1)
  arg4 := ms2 t
  harg4 := hstage0_2 ((cfg0.slots t 2).cast nbuf0_2)
  arg5 := ms3 t
  harg5 := hstage0_3 ((cfg0.slots t 3).cast nbuf0_3)
  arg6 := ms4 t
  harg6 := hstage0_4 ((cfg0.slots t 4).cast nbuf0_4)
  arg7 := ms5 t
  harg7 := hstage0_5 ((cfg0.slots t 5).cast nbuf0_5)
  arg8 := ms6 t
  harg8 := hstage0_6 ((cfg0.slots t 6).cast nbuf0_6)
  arg9 := ms7 t
  harg9 := hstage0_7 ((cfg0.slots t 7).cast nbuf0_7)
  arg10 := ms8 t
  harg10 := hstage0_8 ((cfg0.slots t 8).cast nbuf0_8)
  arg11 := ms9 t
  harg11 := hstage0_9 ((cfg0.slots t 9).cast nbuf0_9)
  arg12 := ms10 t
  harg12 := hstage0_10 ((cfg0.slots t 10).cast nbuf0_10)
  arg13 := ms11 t
  harg13 := hstage0_11 ((cfg0.slots t 11).cast nbuf0_11)
  arg14 := ms12 t
  harg14 := hstage0_12 ((cfg0.slots t 12).cast nbuf0_12)
  arg15 := ms13 t
  harg15 := hstage0_13 ((cfg0.slots t 13).cast nbuf0_13)
  arg16 := ms14 t
  harg16 := hstage0_14 ((cfg0.slots t 14).cast nbuf0_14)
  arg17 := ms15 t
  harg17 := hstage0_15 ((cfg0.slots t 15).cast nbuf0_15)
  arg18 := Memref.whole cc0_scratch0
  harg18 := Memref.isWhole_whole _
  arg19 := Memref.whole cc0_scratch1
  harg19 := Memref.isWhole_whole _
  arg20 := Memref.whole cc0_scratch2
  harg20 := Memref.isWhole_whole _
  arg21 := Memref.whole cc0_scratch3
  harg21 := Memref.isWhole_whole _
  arg22 := Memref.whole cc0_scratch4
  harg22 := Memref.isWhole_whole _
  arg23 := Memref.whole cc0_scratch5
  harg23 := Memref.isWhole_whole _
  arg24 := Memref.whole cc0_scratch6
  harg24 := Memref.isWhole_whole _
  arg25 := Memref.whole cc0_scratch7
  harg25 := Memref.isWhole_whole _
  arg26 := Memref.whole cc0_scratch8
  harg26 := Memref.isWhole_whole _
  arg27 := Memref.whole cc0_scratch9
  harg27 := Memref.isWhole_whole _
  arg28 := Memref.whole cc0_scratch10
  harg28 := Memref.isWhole_whole _

/-- What the body runs on at a point and leaves: the scratches, the debts, the inputs' blocks, the output's buffer. -/
def held (c : Dev nD) (t : Fin cfg0.N) : sProp 𝕄 :=
  iprop(Pipeline.ΦA spec0 c ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (X0_5 m c t)
    ∗ owns (c : Thread nD τ) (ms6 t) fullShare (iblk m c 6 t)
    ∗ owns (c : Thread nD τ) (ms7 t) fullShare (iblk m c 7 t)
    ∗ owns (c : Thread nD τ) (ms8 t) fullShare (X0_8 m c t)
    ∗ owns (c : Thread nD τ) (ms9 t) fullShare (iblk m c 9 t)
    ∗ owns (c : Thread nD τ) (ms10 t) fullShare (iblk m c 10 t)
    ∗ owns (c : Thread nD τ) (ms11 t) fullShare (iblk m c 11 t)
    ∗ owns (c : Thread nD τ) (ms12 t) fullShare (iblk m c 12 t)
    ∗ owns (c : Thread nD τ) (ms13 t) fullShare (iblk m c 13 t)
    ∗ owns (c : Thread nD τ) (ms14 t) fullShare (iblk m c 14 t)
    ∗ (∃ d, owns (c : Thread nD τ) (ms15 t) fullShare d))

/-- A scratch is owned by the scoped buffers. -/
theorem scr0 (c : Dev nD) : Owns (c : Thread nD τ) (Pipeline.ΦA spec0 c : sProp 𝕄) (Memref.whole cc0_scratch0) := by
  unfold Pipeline.ΦA; rw [scopedRest0_eq]
  refine .left _ ?_
  refine .left _ ?_
  exact owns_buf (c : Thread nD τ) cc0_scratch0
theorem scr1 (c : Dev nD) : Owns (c : Thread nD τ) (Pipeline.ΦA spec0 c : sProp 𝕄) (Memref.whole cc0_scratch1) := by
  unfold Pipeline.ΦA; rw [scopedRest0_eq]
  refine .left _ ?_
  iterate 1 refine .right _ ?_
  refine .left _ ?_
  exact owns_buf (c : Thread nD τ) cc0_scratch1
theorem scr2 (c : Dev nD) : Owns (c : Thread nD τ) (Pipeline.ΦA spec0 c : sProp 𝕄) (Memref.whole cc0_scratch2) := by
  unfold Pipeline.ΦA; rw [scopedRest0_eq]
  refine .left _ ?_
  iterate 2 refine .right _ ?_
  refine .left _ ?_
  exact owns_buf (c : Thread nD τ) cc0_scratch2
theorem scr3 (c : Dev nD) : Owns (c : Thread nD τ) (Pipeline.ΦA spec0 c : sProp 𝕄) (Memref.whole cc0_scratch3) := by
  unfold Pipeline.ΦA; rw [scopedRest0_eq]
  refine .left _ ?_
  iterate 3 refine .right _ ?_
  refine .left _ ?_
  exact owns_buf (c : Thread nD τ) cc0_scratch3
theorem scr4 (c : Dev nD) : Owns (c : Thread nD τ) (Pipeline.ΦA spec0 c : sProp 𝕄) (Memref.whole cc0_scratch4) := by
  unfold Pipeline.ΦA; rw [scopedRest0_eq]
  refine .left _ ?_
  iterate 4 refine .right _ ?_
  refine .left _ ?_
  exact owns_buf (c : Thread nD τ) cc0_scratch4
theorem scr5 (c : Dev nD) : Owns (c : Thread nD τ) (Pipeline.ΦA spec0 c : sProp 𝕄) (Memref.whole cc0_scratch5) := by
  unfold Pipeline.ΦA; rw [scopedRest0_eq]
  refine .left _ ?_
  iterate 5 refine .right _ ?_
  refine .left _ ?_
  exact owns_buf (c : Thread nD τ) cc0_scratch5
theorem scr6 (c : Dev nD) : Owns (c : Thread nD τ) (Pipeline.ΦA spec0 c : sProp 𝕄) (Memref.whole cc0_scratch6) := by
  unfold Pipeline.ΦA; rw [scopedRest0_eq]
  refine .left _ ?_
  iterate 6 refine .right _ ?_
  refine .left _ ?_
  exact owns_buf (c : Thread nD τ) cc0_scratch6
theorem scr7 (c : Dev nD) : Owns (c : Thread nD τ) (Pipeline.ΦA spec0 c : sProp 𝕄) (Memref.whole cc0_scratch7) := by
  unfold Pipeline.ΦA; rw [scopedRest0_eq]
  refine .left _ ?_
  iterate 7 refine .right _ ?_
  refine .left _ ?_
  exact owns_buf (c : Thread nD τ) cc0_scratch7
theorem scr8 (c : Dev nD) : Owns (c : Thread nD τ) (Pipeline.ΦA spec0 c : sProp 𝕄) (Memref.whole cc0_scratch8) := by
  unfold Pipeline.ΦA; rw [scopedRest0_eq]
  refine .left _ ?_
  iterate 8 refine .right _ ?_
  refine .left _ ?_
  exact owns_buf (c : Thread nD τ) cc0_scratch8
theorem scr9 (c : Dev nD) : Owns (c : Thread nD τ) (Pipeline.ΦA spec0 c : sProp 𝕄) (Memref.whole cc0_scratch9) := by
  unfold Pipeline.ΦA; rw [scopedRest0_eq]
  refine .left _ ?_
  iterate 9 refine .right _ ?_
  refine .left _ ?_
  exact owns_buf (c : Thread nD τ) cc0_scratch9
theorem scr10 (c : Dev nD) : Owns (c : Thread nD τ) (Pipeline.ΦA spec0 c : sProp 𝕄) (Memref.whole cc0_scratch10) := by
  unfold Pipeline.ΦA; rw [scopedRest0_eq]
  refine .left _ ?_
  iterate 10 refine .right _ ?_
  exact owns_buf (c : Thread nD τ) cc0_scratch10

theorem held_bufs (c : Dev nD) (t : Fin cfg0.N) : (bufs t).Held c (held m c t) where
  r2 := by
    iterate 2 refine .right _ ?_
    refine .left _ ?_
    exact keeps_at _ _ _ _
  r3 := by
    iterate 3 refine .right _ ?_
    refine .left _ ?_
    exact keeps_at _ _ _ _
  r4 := by
    iterate 4 refine .right _ ?_
    refine .left _ ?_
    exact keeps_at _ _ _ _
  r5 := by
    iterate 5 refine .right _ ?_
    refine .left _ ?_
    exact keeps_at _ _ _ _
  r6 := by
    iterate 6 refine .right _ ?_
    refine .left _ ?_
    exact keeps_at _ _ _ _
  r7 := by
    iterate 7 refine .right _ ?_
    refine .left _ ?_
    exact keeps_at _ _ _ _
  r8 := by
    iterate 8 refine .right _ ?_
    refine .left _ ?_
    exact keeps_at _ _ _ _
  r9 := by
    iterate 9 refine .right _ ?_
    refine .left _ ?_
    exact keeps_at _ _ _ _
  r10 := by
    iterate 10 refine .right _ ?_
    refine .left _ ?_
    exact keeps_at _ _ _ _
  r11 := by
    iterate 11 refine .right _ ?_
    refine .left _ ?_
    exact keeps_at _ _ _ _
  r12 := by
    iterate 12 refine .right _ ?_
    refine .left _ ?_
    exact keeps_at _ _ _ _
  r13 := by
    iterate 13 refine .right _ ?_
    refine .left _ ?_
    exact keeps_at _ _ _ _
  r14 := by
    iterate 14 refine .right _ ?_
    refine .left _ ?_
    exact keeps_at _ _ _ _
  r15 := by
    iterate 15 refine .right _ ?_
    refine .left _ ?_
    exact keeps_at _ _ _ _
  r16 := by
    iterate 16 refine .right _ ?_
    refine .left _ ?_
    exact keeps_at _ _ _ _
  w17 := by
    iterate 17 refine .right _ ?_
    exact owns_some (c : Thread nD τ) _
  w18 := .left _ (scr0 c)
  w19 := .left _ (scr1 c)
  w20 := .left _ (scr2 c)
  w21 := .left _ (scr3 c)
  w22 := .left _ (scr4 c)
  w23 := .left _ (scr5 c)
  w24 := .left _ (scr6 c)
  w25 := .left _ (scr7 c)
  w26 := .left _ (scr8 c)
  w27 := .left _ (scr9 c)
  w28 := .left _ (scr10 c)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ (∃ d, owns (c : Thread nD τ) (ms15 t) fullShare d))

theorem sound_body (c : Dev nD) (t : Fin cfg0.N) :
    bodyPre m c t ⊢ wp frame (wpE (defs₀ (F := F)) Variants.none c none) Set.univ (bodyAt0 t) (fun _ => bodyPost m c t) := by
  have h : bodyPost m c t = held m c t := by
    unfold bodyPost held
    rw [after_0, after_1, after_2, after_3, after_4, after_5, after_6, after_7, after_8, after_9, after_10, after_11, after_12, after_13, after_14, Φ_eq]
    rfl
  have h' : bodyPre m c t ⊢ held m c t := by
    unfold bodyPre held
    simp only [before_0, before_1, before_2, before_3, before_4, before_5, before_6, before_7, before_8, before_9, before_10, before_11, before_12, before_13, before_14]
    rw [Φ_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  rw [h]
  exact h'.trans (body (held_bufs m c t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The run of the launch: the inputs' arrays and the buffers no window stages as the region found them, every
    semaphore at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(Pipeline.RDat.FramePost.arr_in h.1 c 3 rfl).trans (V_main_arg0 m c),
      (Pipeline.RDat.FramePost.arr_in h.1 c 4 rfl).trans (V_main_arg1 m c),
      (Pipeline.RDat.FramePost.arr_in h.1 c 7 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.Proof.KSsdIdeal
end
-- ==== Proof.lean ====
module

public import proofs.«01_k».proof.Defs
public import proofs.«01_k».proof.Proof.Norm
public import proofs.«01_k».proof.Proof.Qk
public import proofs.«01_k».proof.Proof.Down
public import proofs.«01_k».proof.Proof.Out
public import proofs.«01_k».proof.Proof.Mix
public import proofs.«01_k».proof.Proof.Up
public import proofs.«01_k».proof.Proof.In
public import proofs.«01_k».proof.Proof.Gen.KNorm.Frame
public import proofs.«01_k».proof.Proof.Gen.KNormIdeal.Frame
public import proofs.«01_k».proof.Proof.Gen.RNormIdeal.Run
public import proofs.«01_k».proof.Proof.Gen.KQk.Frame
public import proofs.«01_k».proof.Proof.Gen.KQkIdeal.Frame
public import proofs.«01_k».proof.Proof.Gen.RQkIdeal.Run
public import proofs.«01_k».proof.Proof.Gen.KDown.Frame
public import proofs.«01_k».proof.Proof.Gen.KDownIdeal.Frame
public import proofs.«01_k».proof.Proof.Gen.RDownIdeal.Run
public import proofs.«01_k».proof.Proof.Gen.KOut.Frame
public import proofs.«01_k».proof.Proof.Gen.KOutIdeal.Frame
public import proofs.«01_k».proof.Proof.Gen.ROutIdeal.Run
public import proofs.«01_k».proof.Proof.Gen.KMix.Frame
public import proofs.«01_k».proof.Proof.Gen.KMixIdeal.Frame
public import proofs.«01_k».proof.Proof.Gen.RMixIdeal.Run
public import proofs.«01_k».proof.Proof.Gen.KUp.Frame
public import proofs.«01_k».proof.Proof.Gen.KUpIdeal.Frame
public import proofs.«01_k».proof.Proof.Gen.RUpIdeal.Run
public import proofs.«01_k».proof.Proof.Gen.KIn.Frame
public import proofs.«01_k».proof.Proof.Gen.KInIdeal.Frame
public import proofs.«01_k».proof.Proof.Gen.RInIdeal.Run
public import proofs.«01_k».proof.Proof.Gen.Pre_norm_finite
public import proofs.«01_k».proof.Proof.Gen.Pre_weights_finite
public import proofs.«01_k».proof.Proof.Gen.Pre_up_finite
public import proofs.«01_k».proof.Proof.KMobaFrame
public import proofs.«01_k».proof.Proof.KMobaIdealFrame
public import proofs.«01_k».proof.Proof.KSsdFrame
public import proofs.«01_k».proof.Proof.KSsdIdealFrame
public import Idealize.ShloMosaic.Adequacy
public import Idealize.ShloMosaic.Init

@[expose] public section

noncomputable section

namespace Cert.Proof

open Idealize.ShloMosaic Idealize.SL.Sem

/-- The reference of `Norm` is a list of host operations: it runs and leaves its arguments as they were, and it declares no semaphore. -/
theorem frame_Norm : Cert.quiescent_RNormIdeal (hRNormIdeal := Cert.RNormIdeal.Gen.facts) := fun m ρ _ =>
  (θ_run Cert.RNormIdeal.defs _ _).mono (fun r h => ⟨fun c => ⟨(h c).2.2.1, (h c).2.2.2.1, (h c).2.2.2.2⟩,
      Idealize.ShloMosaic.sem_eq_zero_of_no_sems (by decide) r.2⟩)
    (Cert.RNormIdeal.Value.run (F := Ideal) m ρ)

/-- The reference of `Qk` is a list of host operations: it runs and leaves its arguments as they were, and it declares no semaphore. -/
theorem frame_Qk : Cert.quiescent_RQkIdeal (hRQkIdeal := Cert.RQkIdeal.Gen.facts) := fun m ρ _ =>
  (θ_run Cert.RQkIdeal.defs _ _).mono (fun r h => ⟨fun c => ⟨(h c).2.2.2.2.1, (h c).2.2.2.2.2.1, (h c).2.2.2.2.2.2⟩,
      Idealize.ShloMosaic.sem_eq_zero_of_no_sems (by decide) r.2⟩)
    (Cert.RQkIdeal.Value.run (F := Ideal) m ρ)

/-- The reference of `Down` is a list of host operations: it runs and leaves its arguments as they were, and it declares no semaphore. -/
theorem frame_Down : Cert.quiescent_RDownIdeal (hRDownIdeal := Cert.RDownIdeal.Gen.facts) := fun m ρ _ =>
  (θ_run Cert.RDownIdeal.defs _ _).mono (fun r h => ⟨fun c => ⟨(h c).2.1, (h c).2.2.1, (h c).2.2.2⟩,
      Idealize.ShloMosaic.sem_eq_zero_of_no_sems (by decide) r.2⟩)
    (Cert.RDownIdeal.Value.run (F := Ideal) m ρ)

/-- The reference of `Out` is a list of host operations: it runs and leaves its arguments as they were, and it declares no semaphore. -/
theorem frame_Out : Cert.quiescent_ROutIdeal (hROutIdeal := Cert.ROutIdeal.Gen.facts) := fun m ρ _ =>
  (θ_run Cert.ROutIdeal.defs _ _).mono (fun r h => ⟨fun c => ⟨(h c).2.2.1, (h c).2.2.2.1, (h c).2.2.2.2.1, (h c).2.2.2.2.2⟩,
      Idealize.ShloMosaic.sem_eq_zero_of_no_sems (by decide) r.2⟩)
    (Cert.ROutIdeal.Value.run (F := Ideal) m ρ)

/-- The reference of `Mix` is a list of host operations: it runs and leaves its arguments as they were, and it declares no semaphore. -/
theorem frame_Mix : Cert.quiescent_RMixIdeal (hRMixIdeal := Cert.RMixIdeal.Gen.facts) := fun m ρ _ =>
  (θ_run Cert.RMixIdeal.defs _ _).mono (fun r h => ⟨fun c => ⟨(h c).2.1, (h c).2.2.1, (h c).2.2.2.1, (h c).2.2.2.2.1, (h c).2.2.2.2.2.1, (h c).2.2.2.2.2.2⟩,
      Idealize.ShloMosaic.sem_eq_zero_of_no_sems (by decide) r.2⟩)
    (Cert.RMixIdeal.Value.run (F := Ideal) m ρ)

/-- The reference of `Up` is a list of host operations: it runs and leaves its arguments as they were, and it declares no semaphore. -/
theorem frame_Up : Cert.quiescent_RUpIdeal (hRUpIdeal := Cert.RUpIdeal.Gen.facts) := fun m ρ _ =>
  (θ_run Cert.RUpIdeal.defs _ _).mono (fun r h => ⟨fun c => ⟨(h c).2.1, (h c).2.2.1, (h c).2.2.2.1, (h c).2.2.2.2⟩,
      Idealize.ShloMosaic.sem_eq_zero_of_no_sems (by decide) r.2⟩)
    (Cert.RUpIdeal.Value.run (F := Ideal) m ρ)

/-- The reference of `In` is a list of host operations: it runs and leaves its arguments as they were, and it declares no semaphore. -/
theorem frame_In : Cert.quiescent_RInIdeal (hRInIdeal := Cert.RInIdeal.Gen.facts) := fun m ρ _ =>
  (θ_run Cert.RInIdeal.defs _ _).mono (fun r h => ⟨fun c => ⟨(h c).2.1, (h c).2.2⟩,
      Idealize.ShloMosaic.sem_eq_zero_of_no_sems (by decide) r.2⟩)
    (Cert.RInIdeal.Value.run (F := Ideal) m ρ)

/-- Every claim of the certificate: the programs' frames, the empty ledgers and the value theorems of the modules beside this one. -/
theorem claim : Cert.Claim := ⟨Cert.KNorm.Gen.facts,
  Cert.KNormIdeal.Gen.facts,
  Cert.RNormIdeal.Gen.facts,
  Cert.KQk.Gen.facts,
  Cert.KQkIdeal.Gen.facts,
  Cert.RQkIdeal.Gen.facts,
  Cert.KDown.Gen.facts,
  Cert.KDownIdeal.Gen.facts,
  Cert.RDownIdeal.Gen.facts,
  Cert.KOut.Gen.facts,
  Cert.KOutIdeal.Gen.facts,
  Cert.ROutIdeal.Gen.facts,
  Cert.KMix.Gen.facts,
  Cert.KMixIdeal.Gen.facts,
  Cert.RMixIdeal.Gen.facts,
  Cert.KUp.Gen.facts,
  Cert.KUpIdeal.Gen.facts,
  Cert.RUpIdeal.Gen.facts,
  Cert.KIn.Gen.facts,
  Cert.KInIdeal.Gen.facts,
  Cert.RInIdeal.Gen.facts,
  Cert.KSsd.Gen.facts,
  Cert.KSsdIdeal.Gen.facts,
  Cert.KMoba.Gen.facts,
  Cert.KMobaIdeal.Gen.facts,
  Cert.Pre_norm_finite.Gen.facts,
  Cert.Pre_weights_finite.Gen.facts,
  Cert.Pre_up_finite.Gen.facts,
  fun m ρ _ => Cert.KNorm.Gen.frame m ρ,
  fun m ρ _ => Cert.KNormIdeal.Gen.frame m ρ,
  fun m ρ _ => Cert.KNormIdeal.Gen.frame m ρ,
  frame_Norm,
  fun m ρ _ => frame_Norm m ρ trivial,
  fun m ρ _ => Cert.KQk.Gen.frame m ρ,
  fun m ρ _ => Cert.KQkIdeal.Gen.frame m ρ,
  fun m ρ _ => Cert.KQkIdeal.Gen.frame m ρ,
  frame_Qk,
  fun m ρ _ => frame_Qk m ρ trivial,
  fun m ρ _ => Cert.KDown.Gen.frame m ρ,
  fun m ρ _ => Cert.KDownIdeal.Gen.frame m ρ,
  frame_Down,
  fun m ρ _ => Cert.KOut.Gen.frame m ρ,
  fun m ρ _ => Cert.KOutIdeal.Gen.frame m ρ,
  frame_Out,
  fun m ρ _ => Cert.KMix.Gen.frame m ρ,
  fun m ρ _ => Cert.KMixIdeal.Gen.frame m ρ,
  frame_Mix,
  fun m ρ _ => Cert.KUp.Gen.frame m ρ,
  fun m ρ _ => Cert.KUpIdeal.Gen.frame m ρ,
  fun m ρ _ => Cert.KUpIdeal.Gen.frame m ρ,
  frame_Up,
  fun m ρ _ => frame_Up m ρ trivial,
  fun m ρ _ => Cert.KIn.Gen.frame m ρ,
  fun m ρ _ => Cert.KInIdeal.Gen.frame m ρ,
  frame_In,
  fun m ρ _ => Cert.Proof.KSsd.frame m ρ,
  fun m ρ _ => Cert.Proof.KSsdIdeal.frame m ρ,
  fun m ρ _ => Cert.Proof.KMoba.frame m ρ,
  fun m ρ _ => Cert.Proof.KMobaIdeal.frame m ρ,
  trivial,
  Norm.algebraic,
  trivial,
  Qk.algebraic,
  trivial,
  Down.algebraic,
  trivial,
  Out.algebraic,
  trivial,
  Mix.algebraic,
  trivial,
  Up.algebraic,
  trivial,
  In.algebraic,
  trivial,
  trivial⟩

end Cert.Proof

end
